-- ==== Defs.lean ====
def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_QkvT (m : (ℓ : Loc Cert.QkvT.nD Cert.QkvT.τ Cert.QkvT.sig) → Buf (Elt Bits) ℓ) : Prop :=
  True

def Pre_QkvTIdeal (m : (ℓ : Loc Cert.QkvTIdeal.nD Cert.QkvTIdeal.τ Cert.QkvTIdeal.sig) → Buf (Elt Ideal) ℓ) : Prop :=
  True

def Pre_QkvTRefIdeal (m : (ℓ : Loc Cert.QkvTRefIdeal.nD Cert.QkvTRefIdeal.τ Cert.QkvTRefIdeal.sig) → Buf (Elt Ideal) ℓ) : Prop :=
  True

def Pre_QkvI (m : (ℓ : Loc Cert.QkvI.nD Cert.QkvI.τ Cert.QkvI.sig) → Buf (Elt Bits) ℓ) : Prop :=
  True

def Pre_QkvIIdeal (m : (ℓ : Loc Cert.QkvIIdeal.nD Cert.QkvIIdeal.τ Cert.QkvIIdeal.sig) → Buf (Elt Ideal) ℓ) : Prop :=
  True

def Pre_QkvIRefIdeal (m : (ℓ : Loc Cert.QkvIRefIdeal.nD Cert.QkvIRefIdeal.τ Cert.QkvIRefIdeal.sig) → Buf (Elt Ideal) ℓ) : Prop :=
  True

def Pre_ProjT (m : (ℓ : Loc Cert.ProjT.nD Cert.ProjT.τ Cert.ProjT.sig) → Buf (Elt Bits) ℓ) : Prop :=
  True

def Pre_ProjTIdeal (m : (ℓ : Loc Cert.ProjTIdeal.nD Cert.ProjTIdeal.τ Cert.ProjTIdeal.sig) → Buf (Elt Ideal) ℓ) : Prop :=
  True

def Pre_ProjTRefIdeal (m : (ℓ : Loc Cert.ProjTRefIdeal.nD Cert.ProjTRefIdeal.τ Cert.ProjTRefIdeal.sig) → Buf (Elt Ideal) ℓ) : Prop :=
  True

def Pre_ProjI (m : (ℓ : Loc Cert.ProjI.nD Cert.ProjI.τ Cert.ProjI.sig) → Buf (Elt Bits) ℓ) : Prop :=
  True

def Pre_ProjIIdeal (m : (ℓ : Loc Cert.ProjIIdeal.nD Cert.ProjIIdeal.τ Cert.ProjIIdeal.sig) → Buf (Elt Ideal) ℓ) : Prop :=
  True

def Pre_ProjIRefIdeal (m : (ℓ : Loc Cert.ProjIRefIdeal.nD Cert.ProjIRefIdeal.τ Cert.ProjIRefIdeal.sig) → Buf (Elt Ideal) ℓ) : Prop :=
  True

def Pre_MlpI (m : (ℓ : Loc Cert.MlpI.nD Cert.MlpI.τ Cert.MlpI.sig) → Buf (Elt Bits) ℓ) : Prop :=
  True

def Pre_MlpIIdeal (m : (ℓ : Loc Cert.MlpIIdeal.nD Cert.MlpIIdeal.τ Cert.MlpIIdeal.sig) → Buf (Elt Ideal) ℓ) : Prop :=
  True

def Pre_MlpIRefIdeal (m : (ℓ : Loc Cert.MlpIRefIdeal.nD Cert.MlpIRefIdeal.τ Cert.MlpIRefIdeal.sig) → Buf (Elt Ideal) ℓ) : Prop :=
  True

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_QkvT [hQkvT : Cert.QkvT.Facts] : Prop :=
  ∀ (m : (ℓ : Loc Cert.QkvT.nD Cert.QkvT.τ Cert.QkvT.sig) → Buf (Elt Bits) ℓ) (g : Dev Cert.QkvT.nD → PrngReg), Pre_QkvT m →
    θ_run (Cert.QkvT.defs (F := Bits)) (onTc (τ := Cert.QkvT.τ) (Cert.QkvT.main (F := Bits))) ⟨m, fun _ => 0, g⟩ (fun r => (∀ c : Dev Cert.QkvT.nD,
      r.2.mem ((c.tc : Thread Cert.QkvT.nD Cert.QkvT.τ).loc Cert.QkvT.main_arg0) = m ((c.tc : Thread Cert.QkvT.nD Cert.QkvT.τ).loc Cert.QkvT.main_arg0)
      ∧ r.2.mem ((c.tc : Thread Cert.QkvT.nD Cert.QkvT.τ).loc Cert.QkvT.main_arg1) = m ((c.tc : Thread Cert.QkvT.nD Cert.QkvT.τ).loc Cert.QkvT.main_arg1)
      ∧ r.2.mem ((c.tc : Thread Cert.QkvT.nD Cert.QkvT.τ).loc Cert.QkvT.main_arg2) = m ((c.tc : Thread Cert.QkvT.nD Cert.QkvT.τ).loc Cert.QkvT.main_arg2)
      ∧ r.2.mem ((c.tc : Thread Cert.QkvT.nD Cert.QkvT.τ).loc Cert.QkvT.main_arg3) = m ((c.tc : Thread Cert.QkvT.nD Cert.QkvT.τ).loc Cert.QkvT.main_arg3)
      ∧ r.2.mem ((c.tc : Thread Cert.QkvT.nD Cert.QkvT.τ).loc Cert.QkvT.main_arg4) = m ((c.tc : Thread Cert.QkvT.nD Cert.QkvT.τ).loc Cert.QkvT.main_arg4)
      ∧ r.2.mem ((c.tc : Thread Cert.QkvT.nD Cert.QkvT.τ).loc Cert.QkvT.main_arg5) = m ((c.tc : Thread Cert.QkvT.nD Cert.QkvT.τ).loc Cert.QkvT.main_arg5)
      ∧ r.2.mem ((c.tc : Thread Cert.QkvT.nD Cert.QkvT.τ).loc Cert.QkvT.main_arg6) = m ((c.tc : Thread Cert.QkvT.nD Cert.QkvT.τ).loc Cert.QkvT.main_arg6))
      ∧ r.2.sem = fun _ => 0)

def quiescent_QkvTIdeal [hQkvTIdeal : Cert.QkvTIdeal.Facts] : Prop :=
  ∀ (m : (ℓ : Loc Cert.QkvTIdeal.nD Cert.QkvTIdeal.τ Cert.QkvTIdeal.sig) → Buf (Elt Ideal) ℓ) (g : Dev Cert.QkvTIdeal.nD → PrngReg), Pre_QkvTIdeal m →
    θ_run (Cert.QkvTIdeal.defs (F := Ideal)) (onTc (τ := Cert.QkvTIdeal.τ) (Cert.QkvTIdeal.main (F := Ideal))) ⟨m, fun _ => 0, g⟩ (fun r => (∀ c : Dev Cert.QkvTIdeal.nD,
      r.2.mem ((c.tc : Thread Cert.QkvTIdeal.nD Cert.QkvTIdeal.τ).loc Cert.QkvTIdeal.main_arg0) = m ((c.tc : Thread Cert.QkvTIdeal.nD Cert.QkvTIdeal.τ).loc Cert.QkvTIdeal.main_arg0)
      ∧ r.2.mem ((c.tc : Thread Cert.QkvTIdeal.nD Cert.QkvTIdeal.τ).loc Cert.QkvTIdeal.main_arg1) = m ((c.tc : Thread Cert.QkvTIdeal.nD Cert.QkvTIdeal.τ).loc Cert.QkvTIdeal.main_arg1)
      ∧ r.2.mem ((c.tc : Thread Cert.QkvTIdeal.nD Cert.QkvTIdeal.τ).loc Cert.QkvTIdeal.main_arg2) = m ((c.tc : Thread Cert.QkvTIdeal.nD Cert.QkvTIdeal.τ).loc Cert.QkvTIdeal.main_arg2)
      ∧ r.2.mem ((c.tc : Thread Cert.QkvTIdeal.nD Cert.QkvTIdeal.τ).loc Cert.QkvTIdeal.main_arg3) = m ((c.tc : Thread Cert.QkvTIdeal.nD Cert.QkvTIdeal.τ).loc Cert.QkvTIdeal.main_arg3)
      ∧ r.2.mem ((c.tc : Thread Cert.QkvTIdeal.nD Cert.QkvTIdeal.τ).loc Cert.QkvTIdeal.main_arg4) = m ((c.tc : Thread Cert.QkvTIdeal.nD Cert.QkvTIdeal.τ).loc Cert.QkvTIdeal.main_arg4)
      ∧ r.2.mem ((c.tc : Thread Cert.QkvTIdeal.nD Cert.QkvTIdeal.τ).loc Cert.QkvTIdeal.main_arg5) = m ((c.tc : Thread Cert.QkvTIdeal.nD Cert.QkvTIdeal.τ).loc Cert.QkvTIdeal.main_arg5)
      ∧ r.2.mem ((c.tc : Thread Cert.QkvTIdeal.nD Cert.QkvTIdeal.τ).loc Cert.QkvTIdeal.main_arg6) = m ((c.tc : Thread Cert.QkvTIdeal.nD Cert.QkvTIdeal.τ).loc Cert.QkvTIdeal.main_arg6))
      ∧ r.2.sem = fun _ => 0)

def quiescent_QkvTRefIdeal [hQkvTRefIdeal : Cert.QkvTRefIdeal.Facts] : Prop :=
  ∀ (m : (ℓ : Loc Cert.QkvTRefIdeal.nD Cert.QkvTRefIdeal.τ Cert.QkvTRefIdeal.sig) → Buf (Elt Ideal) ℓ) (g : Dev Cert.QkvTRefIdeal.nD → PrngReg), Pre_QkvTRefIdeal m →
    θ_run (Cert.QkvTRefIdeal.defs (F := Ideal)) (onTc (τ := Cert.QkvTRefIdeal.τ) (Cert.QkvTRefIdeal.main (F := Ideal))) ⟨m, fun _ => 0, g⟩ (fun r => (∀ c : Dev Cert.QkvTRefIdeal.nD,
      r.2.mem ((c.tc : Thread Cert.QkvTRefIdeal.nD Cert.QkvTRefIdeal.τ).loc Cert.QkvTRefIdeal.main_arg0) = m ((c.tc : Thread Cert.QkvTRefIdeal.nD Cert.QkvTRefIdeal.τ).loc Cert.QkvTRefIdeal.main_arg0)
      ∧ r.2.mem ((c.tc : Thread Cert.QkvTRefIdeal.nD Cert.QkvTRefIdeal.τ).loc Cert.QkvTRefIdeal.main_arg1) = m ((c.tc : Thread Cert.QkvTRefIdeal.nD Cert.QkvTRefIdeal.τ).loc Cert.QkvTRefIdeal.main_arg1)
      ∧ r.2.mem ((c.tc : Thread Cert.QkvTRefIdeal.nD Cert.QkvTRefIdeal.τ).loc Cert.QkvTRefIdeal.main_arg2) = m ((c.tc : Thread Cert.QkvTRefIdeal.nD Cert.QkvTRefIdeal.τ).loc Cert.QkvTRefIdeal.main_arg2)
      ∧ r.2.mem ((c.tc : Thread Cert.QkvTRefIdeal.nD Cert.QkvTRefIdeal.τ).loc Cert.QkvTRefIdeal.main_arg3) = m ((c.tc : Thread Cert.QkvTRefIdeal.nD Cert.QkvTRefIdeal.τ).loc Cert.QkvTRefIdeal.main_arg3)
      ∧ r.2.mem ((c.tc : Thread Cert.QkvTRefIdeal.nD Cert.QkvTRefIdeal.τ).loc Cert.QkvTRefIdeal.main_arg4) = m ((c.tc : Thread Cert.QkvTRefIdeal.nD Cert.QkvTRefIdeal.τ).loc Cert.QkvTRefIdeal.main_arg4)
      ∧ r.2.mem ((c.tc : Thread Cert.QkvTRefIdeal.nD Cert.QkvTRefIdeal.τ).loc Cert.QkvTRefIdeal.main_arg5) = m ((c.tc : Thread Cert.QkvTRefIdeal.nD Cert.QkvTRefIdeal.τ).loc Cert.QkvTRefIdeal.main_arg5)
      ∧ r.2.mem ((c.tc : Thread Cert.QkvTRefIdeal.nD Cert.QkvTRefIdeal.τ).loc Cert.QkvTRefIdeal.main_arg6) = m ((c.tc : Thread Cert.QkvTRefIdeal.nD Cert.QkvTRefIdeal.τ).loc Cert.QkvTRefIdeal.main_arg6))
      ∧ r.2.sem = fun _ => 0)

def quiescent_QkvI [hQkvI : Cert.QkvI.Facts] : Prop :=
  ∀ (m : (ℓ : Loc Cert.QkvI.nD Cert.QkvI.τ Cert.QkvI.sig) → Buf (Elt Bits) ℓ) (g : Dev Cert.QkvI.nD → PrngReg), Pre_QkvI m →
    θ_run (Cert.QkvI.defs (F := Bits)) (onTc (τ := Cert.QkvI.τ) (Cert.QkvI.main (F := Bits))) ⟨m, fun _ => 0, g⟩ (fun r => (∀ c : Dev Cert.QkvI.nD,
      r.2.mem ((c.tc : Thread Cert.QkvI.nD Cert.QkvI.τ).loc Cert.QkvI.main_arg0) = m ((c.tc : Thread Cert.QkvI.nD Cert.QkvI.τ).loc Cert.QkvI.main_arg0)
      ∧ r.2.mem ((c.tc : Thread Cert.QkvI.nD Cert.QkvI.τ).loc Cert.QkvI.main_arg1) = m ((c.tc : Thread Cert.QkvI.nD Cert.QkvI.τ).loc Cert.QkvI.main_arg1)
      ∧ r.2.mem ((c.tc : Thread Cert.QkvI.nD Cert.QkvI.τ).loc Cert.QkvI.main_arg2) = m ((c.tc : Thread Cert.QkvI.nD Cert.QkvI.τ).loc Cert.QkvI.main_arg2)
      ∧ r.2.mem ((c.tc : Thread Cert.QkvI.nD Cert.QkvI.τ).loc Cert.QkvI.main_arg3) = m ((c.tc : Thread Cert.QkvI.nD Cert.QkvI.τ).loc Cert.QkvI.main_arg3)
      ∧ r.2.mem ((c.tc : Thread Cert.QkvI.nD Cert.QkvI.τ).loc Cert.QkvI.main_arg4) = m ((c.tc : Thread Cert.QkvI.nD Cert.QkvI.τ).loc Cert.QkvI.main_arg4)
      ∧ r.2.mem ((c.tc : Thread Cert.QkvI.nD Cert.QkvI.τ).loc Cert.QkvI.main_arg5) = m ((c.tc : Thread Cert.QkvI.nD Cert.QkvI.τ).loc Cert.QkvI.main_arg5)
      ∧ r.2.mem ((c.tc : Thread Cert.QkvI.nD Cert.QkvI.τ).loc Cert.QkvI.main_arg6) = m ((c.tc : Thread Cert.QkvI.nD Cert.QkvI.τ).loc Cert.QkvI.main_arg6))
      ∧ r.2.sem = fun _ => 0)

def quiescent_QkvIIdeal [hQkvIIdeal : Cert.QkvIIdeal.Facts] : Prop :=
  ∀ (m : (ℓ : Loc Cert.QkvIIdeal.nD Cert.QkvIIdeal.τ Cert.QkvIIdeal.sig) → Buf (Elt Ideal) ℓ) (g : Dev Cert.QkvIIdeal.nD → PrngReg), Pre_QkvIIdeal m →
    θ_run (Cert.QkvIIdeal.defs (F := Ideal)) (onTc (τ := Cert.QkvIIdeal.τ) (Cert.QkvIIdeal.main (F := Ideal))) ⟨m, fun _ => 0, g⟩ (fun r => (∀ c : Dev Cert.QkvIIdeal.nD,
      r.2.mem ((c.tc : Thread Cert.QkvIIdeal.nD Cert.QkvIIdeal.τ).loc Cert.QkvIIdeal.main_arg0) = m ((c.tc : Thread Cert.QkvIIdeal.nD Cert.QkvIIdeal.τ).loc Cert.QkvIIdeal.main_arg0)
      ∧ r.2.mem ((c.tc : Thread Cert.QkvIIdeal.nD Cert.QkvIIdeal.τ).loc Cert.QkvIIdeal.main_arg1) = m ((c.tc : Thread Cert.QkvIIdeal.nD Cert.QkvIIdeal.τ).loc Cert.QkvIIdeal.main_arg1)
      ∧ r.2.mem ((c.tc : Thread Cert.QkvIIdeal.nD Cert.QkvIIdeal.τ).loc Cert.QkvIIdeal.main_arg2) = m ((c.tc : Thread Cert.QkvIIdeal.nD Cert.QkvIIdeal.τ).loc Cert.QkvIIdeal.main_arg2)
      ∧ r.2.mem ((c.tc : Thread Cert.QkvIIdeal.nD Cert.QkvIIdeal.τ).loc Cert.QkvIIdeal.main_arg3) = m ((c.tc : Thread Cert.QkvIIdeal.nD Cert.QkvIIdeal.τ).loc Cert.QkvIIdeal.main_arg3)
      ∧ r.2.mem ((c.tc : Thread Cert.QkvIIdeal.nD Cert.QkvIIdeal.τ).loc Cert.QkvIIdeal.main_arg4) = m ((c.tc : Thread Cert.QkvIIdeal.nD Cert.QkvIIdeal.τ).loc Cert.QkvIIdeal.main_arg4)
      ∧ r.2.mem ((c.tc : Thread Cert.QkvIIdeal.nD Cert.QkvIIdeal.τ).loc Cert.QkvIIdeal.main_arg5) = m ((c.tc : Thread Cert.QkvIIdeal.nD Cert.QkvIIdeal.τ).loc Cert.QkvIIdeal.main_arg5)
      ∧ r.2.mem ((c.tc : Thread Cert.QkvIIdeal.nD Cert.QkvIIdeal.τ).loc Cert.QkvIIdeal.main_arg6) = m ((c.tc : Thread Cert.QkvIIdeal.nD Cert.QkvIIdeal.τ).loc Cert.QkvIIdeal.main_arg6))
      ∧ r.2.sem = fun _ => 0)

def quiescent_QkvIRefIdeal [hQkvIRefIdeal : Cert.QkvIRefIdeal.Facts] : Prop :=
  ∀ (m : (ℓ : Loc Cert.QkvIRefIdeal.nD Cert.QkvIRefIdeal.τ Cert.QkvIRefIdeal.sig) → Buf (Elt Ideal) ℓ) (g : Dev Cert.QkvIRefIdeal.nD → PrngReg), Pre_QkvIRefIdeal m →
    θ_run (Cert.QkvIRefIdeal.defs (F := Ideal)) (onTc (τ := Cert.QkvIRefIdeal.τ) (Cert.QkvIRefIdeal.main (F := Ideal))) ⟨m, fun _ => 0, g⟩ (fun r => (∀ c : Dev Cert.QkvIRefIdeal.nD,
      r.2.mem ((c.tc : Thread Cert.QkvIRefIdeal.nD Cert.QkvIRefIdeal.τ).loc Cert.QkvIRefIdeal.main_arg0) = m ((c.tc : Thread Cert.QkvIRefIdeal.nD Cert.QkvIRefIdeal.τ).loc Cert.QkvIRefIdeal.main_arg0)
      ∧ r.2.mem ((c.tc : Thread Cert.QkvIRefIdeal.nD Cert.QkvIRefIdeal.τ).loc Cert.QkvIRefIdeal.main_arg1) = m ((c.tc : Thread Cert.QkvIRefIdeal.nD Cert.QkvIRefIdeal.τ).loc Cert.QkvIRefIdeal.main_arg1)
      ∧ r.2.mem ((c.tc : Thread Cert.QkvIRefIdeal.nD Cert.QkvIRefIdeal.τ).loc Cert.QkvIRefIdeal.main_arg2) = m ((c.tc : Thread Cert.QkvIRefIdeal.nD Cert.QkvIRefIdeal.τ).loc Cert.QkvIRefIdeal.main_arg2)
      ∧ r.2.mem ((c.tc : Thread Cert.QkvIRefIdeal.nD Cert.QkvIRefIdeal.τ).loc Cert.QkvIRefIdeal.main_arg3) = m ((c.tc : Thread Cert.QkvIRefIdeal.nD Cert.QkvIRefIdeal.τ).loc Cert.QkvIRefIdeal.main_arg3)
      ∧ r.2.mem ((c.tc : Thread Cert.QkvIRefIdeal.nD Cert.QkvIRefIdeal.τ).loc Cert.QkvIRefIdeal.main_arg4) = m ((c.tc : Thread Cert.QkvIRefIdeal.nD Cert.QkvIRefIdeal.τ).loc Cert.QkvIRefIdeal.main_arg4)
      ∧ r.2.mem ((c.tc : Thread Cert.QkvIRefIdeal.nD Cert.QkvIRefIdeal.τ).loc Cert.QkvIRefIdeal.main_arg5) = m ((c.tc : Thread Cert.QkvIRefIdeal.nD Cert.QkvIRefIdeal.τ).loc Cert.QkvIRefIdeal.main_arg5)
      ∧ r.2.mem ((c.tc : Thread Cert.QkvIRefIdeal.nD Cert.QkvIRefIdeal.τ).loc Cert.QkvIRefIdeal.main_arg6) = m ((c.tc : Thread Cert.QkvIRefIdeal.nD Cert.QkvIRefIdeal.τ).loc Cert.QkvIRefIdeal.main_arg6))
      ∧ r.2.sem = fun _ => 0)

def quiescent_ProjT [hProjT : Cert.ProjT.Facts] : Prop :=
  ∀ (m : (ℓ : Loc Cert.ProjT.nD Cert.ProjT.τ Cert.ProjT.sig) → Buf (Elt Bits) ℓ) (g : Dev Cert.ProjT.nD → PrngReg), Pre_ProjT m →
    θ_run (Cert.ProjT.defs (F := Bits)) (onTc (τ := Cert.ProjT.τ) (Cert.ProjT.main (F := Bits))) ⟨m, fun _ => 0, g⟩ (fun r => (∀ c : Dev Cert.ProjT.nD,
      r.2.mem ((c.tc : Thread Cert.ProjT.nD Cert.ProjT.τ).loc Cert.ProjT.main_arg0) = m ((c.tc : Thread Cert.ProjT.nD Cert.ProjT.τ).loc Cert.ProjT.main_arg0)
      ∧ r.2.mem ((c.tc : Thread Cert.ProjT.nD Cert.ProjT.τ).loc Cert.ProjT.main_arg1) = m ((c.tc : Thread Cert.ProjT.nD Cert.ProjT.τ).loc Cert.ProjT.main_arg1)
      ∧ r.2.mem ((c.tc : Thread Cert.ProjT.nD Cert.ProjT.τ).loc Cert.ProjT.main_arg2) = m ((c.tc : Thread Cert.ProjT.nD Cert.ProjT.τ).loc Cert.ProjT.main_arg2)
      ∧ r.2.mem ((c.tc : Thread Cert.ProjT.nD Cert.ProjT.τ).loc Cert.ProjT.main_arg3) = m ((c.tc : Thread Cert.ProjT.nD Cert.ProjT.τ).loc Cert.ProjT.main_arg3)
      ∧ r.2.mem ((c.tc : Thread Cert.ProjT.nD Cert.ProjT.τ).loc Cert.ProjT.main_arg4) = m ((c.tc : Thread Cert.ProjT.nD Cert.ProjT.τ).loc Cert.ProjT.main_arg4)
      ∧ r.2.mem ((c.tc : Thread Cert.ProjT.nD Cert.ProjT.τ).loc Cert.ProjT.main_arg5) = m ((c.tc : Thread Cert.ProjT.nD Cert.ProjT.τ).loc Cert.ProjT.main_arg5)
      ∧ r.2.mem ((c.tc : Thread Cert.ProjT.nD Cert.ProjT.τ).loc Cert.ProjT.main_arg6) = m ((c.tc : Thread Cert.ProjT.nD Cert.ProjT.τ).loc Cert.ProjT.main_arg6))
      ∧ r.2.sem = fun _ => 0)

def quiescent_ProjTIdeal [hProjTIdeal : Cert.ProjTIdeal.Facts] : Prop :=
  ∀ (m : (ℓ : Loc Cert.ProjTIdeal.nD Cert.ProjTIdeal.τ Cert.ProjTIdeal.sig) → Buf (Elt Ideal) ℓ) (g : Dev Cert.ProjTIdeal.nD → PrngReg), Pre_ProjTIdeal m →
    θ_run (Cert.ProjTIdeal.defs (F := Ideal)) (onTc (τ := Cert.ProjTIdeal.τ) (Cert.ProjTIdeal.main (F := Ideal))) ⟨m, fun _ => 0, g⟩ (fun r => (∀ c : Dev Cert.ProjTIdeal.nD,
      r.2.mem ((c.tc : Thread Cert.ProjTIdeal.nD Cert.ProjTIdeal.τ).loc Cert.ProjTIdeal.main_arg0) = m ((c.tc : Thread Cert.ProjTIdeal.nD Cert.ProjTIdeal.τ).loc Cert.ProjTIdeal.main_arg0)
      ∧ r.2.mem ((c.tc : Thread Cert.ProjTIdeal.nD Cert.ProjTIdeal.τ).loc Cert.ProjTIdeal.main_arg1) = m ((c.tc : Thread Cert.ProjTIdeal.nD Cert.ProjTIdeal.τ).loc Cert.ProjTIdeal.main_arg1)
      ∧ r.2.mem ((c.tc : Thread Cert.ProjTIdeal.nD Cert.ProjTIdeal.τ).loc Cert.ProjTIdeal.main_arg2) = m ((c.tc : Thread Cert.ProjTIdeal.nD Cert.ProjTIdeal.τ).loc Cert.ProjTIdeal.main_arg2)
      ∧ r.2.mem ((c.tc : Thread Cert.ProjTIdeal.nD Cert.ProjTIdeal.τ).loc Cert.ProjTIdeal.main_arg3) = m ((c.tc : Thread Cert.ProjTIdeal.nD Cert.ProjTIdeal.τ).loc Cert.ProjTIdeal.main_arg3)
      ∧ r.2.mem ((c.tc : Thread Cert.ProjTIdeal.nD Cert.ProjTIdeal.τ).loc Cert.ProjTIdeal.main_arg4) = m ((c.tc : Thread Cert.ProjTIdeal.nD Cert.ProjTIdeal.τ).loc Cert.ProjTIdeal.main_arg4)
      ∧ r.2.mem ((c.tc : Thread Cert.ProjTIdeal.nD Cert.ProjTIdeal.τ).loc Cert.ProjTIdeal.main_arg5) = m ((c.tc : Thread Cert.ProjTIdeal.nD Cert.ProjTIdeal.τ).loc Cert.ProjTIdeal.main_arg5)
      ∧ r.2.mem ((c.tc : Thread Cert.ProjTIdeal.nD Cert.ProjTIdeal.τ).loc Cert.ProjTIdeal.main_arg6) = m ((c.tc : Thread Cert.ProjTIdeal.nD Cert.ProjTIdeal.τ).loc Cert.ProjTIdeal.main_arg6))
      ∧ r.2.sem = fun _ => 0)

def quiescent_ProjTRefIdeal [hProjTRefIdeal : Cert.ProjTRefIdeal.Facts] : Prop :=
  ∀ (m : (ℓ : Loc Cert.ProjTRefIdeal.nD Cert.ProjTRefIdeal.τ Cert.ProjTRefIdeal.sig) → Buf (Elt Ideal) ℓ) (g : Dev Cert.ProjTRefIdeal.nD → PrngReg), Pre_ProjTRefIdeal m →
    θ_run (Cert.ProjTRefIdeal.defs (F := Ideal)) (onTc (τ := Cert.ProjTRefIdeal.τ) (Cert.ProjTRefIdeal.main (F := Ideal))) ⟨m, fun _ => 0, g⟩ (fun r => (∀ c : Dev Cert.ProjTRefIdeal.nD,
      r.2.mem ((c.tc : Thread Cert.ProjTRefIdeal.nD Cert.ProjTRefIdeal.τ).loc Cert.ProjTRefIdeal.main_arg0) = m ((c.tc : Thread Cert.ProjTRefIdeal.nD Cert.ProjTRefIdeal.τ).loc Cert.ProjTRefIdeal.main_arg0)
      ∧ r.2.mem ((c.tc : Thread Cert.ProjTRefIdeal.nD Cert.ProjTRefIdeal.τ).loc Cert.ProjTRefIdeal.main_arg1) = m ((c.tc : Thread Cert.ProjTRefIdeal.nD Cert.ProjTRefIdeal.τ).loc Cert.ProjTRefIdeal.main_arg1)
      ∧ r.2.mem ((c.tc : Thread Cert.ProjTRefIdeal.nD Cert.ProjTRefIdeal.τ).loc Cert.ProjTRefIdeal.main_arg2) = m ((c.tc : Thread Cert.ProjTRefIdeal.nD Cert.ProjTRefIdeal.τ).loc Cert.ProjTRefIdeal.main_arg2)
      ∧ r.2.mem ((c.tc : Thread Cert.ProjTRefIdeal.nD Cert.ProjTRefIdeal.τ).loc Cert.ProjTRefIdeal.main_arg3) = m ((c.tc : Thread Cert.ProjTRefIdeal.nD Cert.ProjTRefIdeal.τ).loc Cert.ProjTRefIdeal.main_arg3)
      ∧ r.2.mem ((c.tc : Thread Cert.ProjTRefIdeal.nD Cert.ProjTRefIdeal.τ).loc Cert.ProjTRefIdeal.main_arg4) = m ((c.tc : Thread Cert.ProjTRefIdeal.nD Cert.ProjTRefIdeal.τ).loc Cert.ProjTRefIdeal.main_arg4)
      ∧ r.2.mem ((c.tc : Thread Cert.ProjTRefIdeal.nD Cert.ProjTRefIdeal.τ).loc Cert.ProjTRefIdeal.main_arg5) = m ((c.tc : Thread Cert.ProjTRefIdeal.nD Cert.ProjTRefIdeal.τ).loc Cert.ProjTRefIdeal.main_arg5)
      ∧ r.2.mem ((c.tc : Thread Cert.ProjTRefIdeal.nD Cert.ProjTRefIdeal.τ).loc Cert.ProjTRefIdeal.main_arg6) = m ((c.tc : Thread Cert.ProjTRefIdeal.nD Cert.ProjTRefIdeal.τ).loc Cert.ProjTRefIdeal.main_arg6))
      ∧ r.2.sem = fun _ => 0)

def quiescent_ProjI [hProjI : Cert.ProjI.Facts] : Prop :=
  ∀ (m : (ℓ : Loc Cert.ProjI.nD Cert.ProjI.τ Cert.ProjI.sig) → Buf (Elt Bits) ℓ) (g : Dev Cert.ProjI.nD → PrngReg), Pre_ProjI m →
    θ_run (Cert.ProjI.defs (F := Bits)) (onTc (τ := Cert.ProjI.τ) (Cert.ProjI.main (F := Bits))) ⟨m, fun _ => 0, g⟩ (fun r => (∀ c : Dev Cert.ProjI.nD,
      r.2.mem ((c.tc : Thread Cert.ProjI.nD Cert.ProjI.τ).loc Cert.ProjI.main_arg0) = m ((c.tc : Thread Cert.ProjI.nD Cert.ProjI.τ).loc Cert.ProjI.main_arg0)
      ∧ r.2.mem ((c.tc : Thread Cert.ProjI.nD Cert.ProjI.τ).loc Cert.ProjI.main_arg1) = m ((c.tc : Thread Cert.ProjI.nD Cert.ProjI.τ).loc Cert.ProjI.main_arg1)
      ∧ r.2.mem ((c.tc : Thread Cert.ProjI.nD Cert.ProjI.τ).loc Cert.ProjI.main_arg2) = m ((c.tc : Thread Cert.ProjI.nD Cert.ProjI.τ).loc Cert.ProjI.main_arg2)
      ∧ r.2.mem ((c.tc : Thread Cert.ProjI.nD Cert.ProjI.τ).loc Cert.ProjI.main_arg3) = m ((c.tc : Thread Cert.ProjI.nD Cert.ProjI.τ).loc Cert.ProjI.main_arg3)
      ∧ r.2.mem ((c.tc : Thread Cert.ProjI.nD Cert.ProjI.τ).loc Cert.ProjI.main_arg4) = m ((c.tc : Thread Cert.ProjI.nD Cert.ProjI.τ).loc Cert.ProjI.main_arg4)
      ∧ r.2.mem ((c.tc : Thread Cert.ProjI.nD Cert.ProjI.τ).loc Cert.ProjI.main_arg5) = m ((c.tc : Thread Cert.ProjI.nD Cert.ProjI.τ).loc Cert.ProjI.main_arg5)
      ∧ r.2.mem ((c.tc : Thread Cert.ProjI.nD Cert.ProjI.τ).loc Cert.ProjI.main_arg6) = m ((c.tc : Thread Cert.ProjI.nD Cert.ProjI.τ).loc Cert.ProjI.main_arg6))
      ∧ r.2.sem = fun _ => 0)

def quiescent_ProjIIdeal [hProjIIdeal : Cert.ProjIIdeal.Facts] : Prop :=
  ∀ (m : (ℓ : Loc Cert.ProjIIdeal.nD Cert.ProjIIdeal.τ Cert.ProjIIdeal.sig) → Buf (Elt Ideal) ℓ) (g : Dev Cert.ProjIIdeal.nD → PrngReg), Pre_ProjIIdeal m →
    θ_run (Cert.ProjIIdeal.defs (F := Ideal)) (onTc (τ := Cert.ProjIIdeal.τ) (Cert.ProjIIdeal.main (F := Ideal))) ⟨m, fun _ => 0, g⟩ (fun r => (∀ c : Dev Cert.ProjIIdeal.nD,
      r.2.mem ((c.tc : Thread Cert.ProjIIdeal.nD Cert.ProjIIdeal.τ).loc Cert.ProjIIdeal.main_arg0) = m ((c.tc : Thread Cert.ProjIIdeal.nD Cert.ProjIIdeal.τ).loc Cert.ProjIIdeal.main_arg0)
      ∧ r.2.mem ((c.tc : Thread Cert.ProjIIdeal.nD Cert.ProjIIdeal.τ).loc Cert.ProjIIdeal.main_arg1) = m ((c.tc : Thread Cert.ProjIIdeal.nD Cert.ProjIIdeal.τ).loc Cert.ProjIIdeal.main_arg1)
      ∧ r.2.mem ((c.tc : Thread Cert.ProjIIdeal.nD Cert.ProjIIdeal.τ).loc Cert.ProjIIdeal.main_arg2) = m ((c.tc : Thread Cert.ProjIIdeal.nD Cert.ProjIIdeal.τ).loc Cert.ProjIIdeal.main_arg2)
      ∧ r.2.mem ((c.tc : Thread Cert.ProjIIdeal.nD Cert.ProjIIdeal.τ).loc Cert.ProjIIdeal.main_arg3) = m ((c.tc : Thread Cert.ProjIIdeal.nD Cert.ProjIIdeal.τ).loc Cert.ProjIIdeal.main_arg3)
      ∧ r.2.mem ((c.tc : Thread Cert.ProjIIdeal.nD Cert.ProjIIdeal.τ).loc Cert.ProjIIdeal.main_arg4) = m ((c.tc : Thread Cert.ProjIIdeal.nD Cert.ProjIIdeal.τ).loc Cert.ProjIIdeal.main_arg4)
      ∧ r.2.mem ((c.tc : Thread Cert.ProjIIdeal.nD Cert.ProjIIdeal.τ).loc Cert.ProjIIdeal.main_arg5) = m ((c.tc : Thread Cert.ProjIIdeal.nD Cert.ProjIIdeal.τ).loc Cert.ProjIIdeal.main_arg5)
      ∧ r.2.mem ((c.tc : Thread Cert.ProjIIdeal.nD Cert.ProjIIdeal.τ).loc Cert.ProjIIdeal.main_arg6) = m ((c.tc : Thread Cert.ProjIIdeal.nD Cert.ProjIIdeal.τ).loc Cert.ProjIIdeal.main_arg6))
      ∧ r.2.sem = fun _ => 0)

def quiescent_ProjIRefIdeal [hProjIRefIdeal : Cert.ProjIRefIdeal.Facts] : Prop :=
  ∀ (m : (ℓ : Loc Cert.ProjIRefIdeal.nD Cert.ProjIRefIdeal.τ Cert.ProjIRefIdeal.sig) → Buf (Elt Ideal) ℓ) (g : Dev Cert.ProjIRefIdeal.nD → PrngReg), Pre_ProjIRefIdeal m →
    θ_run (Cert.ProjIRefIdeal.defs (F := Ideal)) (onTc (τ := Cert.ProjIRefIdeal.τ) (Cert.ProjIRefIdeal.main (F := Ideal))) ⟨m, fun _ => 0, g⟩ (fun r => (∀ c : Dev Cert.ProjIRefIdeal.nD,
      r.2.mem ((c.tc : Thread Cert.ProjIRefIdeal.nD Cert.ProjIRefIdeal.τ).loc Cert.ProjIRefIdeal.main_arg0) = m ((c.tc : Thread Cert.ProjIRefIdeal.nD Cert.ProjIRefIdeal.τ).loc Cert.ProjIRefIdeal.main_arg0)
      ∧ r.2.mem ((c.tc : Thread Cert.ProjIRefIdeal.nD Cert.ProjIRefIdeal.τ).loc Cert.ProjIRefIdeal.main_arg1) = m ((c.tc : Thread Cert.ProjIRefIdeal.nD Cert.ProjIRefIdeal.τ).loc Cert.ProjIRefIdeal.main_arg1)
      ∧ r.2.mem ((c.tc : Thread Cert.ProjIRefIdeal.nD Cert.ProjIRefIdeal.τ).loc Cert.ProjIRefIdeal.main_arg2) = m ((c.tc : Thread Cert.ProjIRefIdeal.nD Cert.ProjIRefIdeal.τ).loc Cert.ProjIRefIdeal.main_arg2)
      ∧ r.2.mem ((c.tc : Thread Cert.ProjIRefIdeal.nD Cert.ProjIRefIdeal.τ).loc Cert.ProjIRefIdeal.main_arg3) = m ((c.tc : Thread Cert.ProjIRefIdeal.nD Cert.ProjIRefIdeal.τ).loc Cert.ProjIRefIdeal.main_arg3)
      ∧ r.2.mem ((c.tc : Thread Cert.ProjIRefIdeal.nD Cert.ProjIRefIdeal.τ).loc Cert.ProjIRefIdeal.main_arg4) = m ((c.tc : Thread Cert.ProjIRefIdeal.nD Cert.ProjIRefIdeal.τ).loc Cert.ProjIRefIdeal.main_arg4)
      ∧ r.2.mem ((c.tc : Thread Cert.ProjIRefIdeal.nD Cert.ProjIRefIdeal.τ).loc Cert.ProjIRefIdeal.main_arg5) = m ((c.tc : Thread Cert.ProjIRefIdeal.nD Cert.ProjIRefIdeal.τ).loc Cert.ProjIRefIdeal.main_arg5)
      ∧ r.2.mem ((c.tc : Thread Cert.ProjIRefIdeal.nD Cert.ProjIRefIdeal.τ).loc Cert.ProjIRefIdeal.main_arg6) = m ((c.tc : Thread Cert.ProjIRefIdeal.nD Cert.ProjIRefIdeal.τ).loc Cert.ProjIRefIdeal.main_arg6))
      ∧ r.2.sem = fun _ => 0)

def quiescent_MlpI [hMlpI : Cert.MlpI.Facts] : Prop :=
  ∀ (m : (ℓ : Loc Cert.MlpI.nD Cert.MlpI.τ Cert.MlpI.sig) → Buf (Elt Bits) ℓ) (g : Dev Cert.MlpI.nD → PrngReg), Pre_MlpI m →
    θ_run (Cert.MlpI.defs (F := Bits)) (onTc (τ := Cert.MlpI.τ) (Cert.MlpI.main (F := Bits))) ⟨m, fun _ => 0, g⟩ (fun r => (∀ c : Dev Cert.MlpI.nD,
      r.2.mem ((c.tc : Thread Cert.MlpI.nD Cert.MlpI.τ).loc Cert.MlpI.main_arg0) = m ((c.tc : Thread Cert.MlpI.nD Cert.MlpI.τ).loc Cert.MlpI.main_arg0)
      ∧ r.2.mem ((c.tc : Thread Cert.MlpI.nD Cert.MlpI.τ).loc Cert.MlpI.main_arg1) = m ((c.tc : Thread Cert.MlpI.nD Cert.MlpI.τ).loc Cert.MlpI.main_arg1)
      ∧ r.2.mem ((c.tc : Thread Cert.MlpI.nD Cert.MlpI.τ).loc Cert.MlpI.main_arg2) = m ((c.tc : Thread Cert.MlpI.nD Cert.MlpI.τ).loc Cert.MlpI.main_arg2)
      ∧ r.2.mem ((c.tc : Thread Cert.MlpI.nD Cert.MlpI.τ).loc Cert.MlpI.main_arg3) = m ((c.tc : Thread Cert.MlpI.nD Cert.MlpI.τ).loc Cert.MlpI.main_arg3)
      ∧ r.2.mem ((c.tc : Thread Cert.MlpI.nD Cert.MlpI.τ).loc Cert.MlpI.main_arg4) = m ((c.tc : Thread Cert.MlpI.nD Cert.MlpI.τ).loc Cert.MlpI.main_arg4)
      ∧ r.2.mem ((c.tc : Thread Cert.MlpI.nD Cert.MlpI.τ).loc Cert.MlpI.main_arg5) = m ((c.tc : Thread Cert.MlpI.nD Cert.MlpI.τ).loc Cert.MlpI.main_arg5)
      ∧ r.2.mem ((c.tc : Thread Cert.MlpI.nD Cert.MlpI.τ).loc Cert.MlpI.main_arg6) = m ((c.tc : Thread Cert.MlpI.nD Cert.MlpI.τ).loc Cert.MlpI.main_arg6)
      ∧ r.2.mem ((c.tc : Thread Cert.MlpI.nD Cert.MlpI.τ).loc Cert.MlpI.main_arg7) = m ((c.tc : Thread Cert.MlpI.nD Cert.MlpI.τ).loc Cert.MlpI.main_arg7)
      ∧ r.2.mem ((c.tc : Thread Cert.MlpI.nD Cert.MlpI.τ).loc Cert.MlpI.main_arg8) = m ((c.tc : Thread Cert.MlpI.nD Cert.MlpI.τ).loc Cert.MlpI.main_arg8)
      ∧ r.2.mem ((c.tc : Thread Cert.MlpI.nD Cert.MlpI.τ).loc Cert.MlpI.main_arg9) = m ((c.tc : Thread Cert.MlpI.nD Cert.MlpI.τ).loc Cert.MlpI.main_arg9)
      ∧ r.2.mem ((c.tc : Thread Cert.MlpI.nD Cert.MlpI.τ).loc Cert.MlpI.main_arg10) = m ((c.tc : Thread Cert.MlpI.nD Cert.MlpI.τ).loc Cert.MlpI.main_arg10))
      ∧ r.2.sem = fun _ => 0)

def quiescent_MlpIIdeal [hMlpIIdeal : Cert.MlpIIdeal.Facts] : Prop :=
  ∀ (m : (ℓ : Loc Cert.MlpIIdeal.nD Cert.MlpIIdeal.τ Cert.MlpIIdeal.sig) → Buf (Elt Ideal) ℓ) (g : Dev Cert.MlpIIdeal.nD → PrngReg), Pre_MlpIIdeal m →
    θ_run (Cert.MlpIIdeal.defs (F := Ideal)) (onTc (τ := Cert.MlpIIdeal.τ) (Cert.MlpIIdeal.main (F := Ideal))) ⟨m, fun _ => 0, g⟩ (fun r => (∀ c : Dev Cert.MlpIIdeal.nD,
      r.2.mem ((c.tc : Thread Cert.MlpIIdeal.nD Cert.MlpIIdeal.τ).loc Cert.MlpIIdeal.main_arg0) = m ((c.tc : Thread Cert.MlpIIdeal.nD Cert.MlpIIdeal.τ).loc Cert.MlpIIdeal.main_arg0)
      ∧ r.2.mem ((c.tc : Thread Cert.MlpIIdeal.nD Cert.MlpIIdeal.τ).loc Cert.MlpIIdeal.main_arg1) = m ((c.tc : Thread Cert.MlpIIdeal.nD Cert.MlpIIdeal.τ).loc Cert.MlpIIdeal.main_arg1)
      ∧ r.2.mem ((c.tc : Thread Cert.MlpIIdeal.nD Cert.MlpIIdeal.τ).loc Cert.MlpIIdeal.main_arg2) = m ((c.tc : Thread Cert.MlpIIdeal.nD Cert.MlpIIdeal.τ).loc Cert.MlpIIdeal.main_arg2)
      ∧ r.2.mem ((c.tc : Thread Cert.MlpIIdeal.nD Cert.MlpIIdeal.τ).loc Cert.MlpIIdeal.main_arg3) = m ((c.tc : Thread Cert.MlpIIdeal.nD Cert.MlpIIdeal.τ).loc Cert.MlpIIdeal.main_arg3)
      ∧ r.2.mem ((c.tc : Thread Cert.MlpIIdeal.nD Cert.MlpIIdeal.τ).loc Cert.MlpIIdeal.main_arg4) = m ((c.tc : Thread Cert.MlpIIdeal.nD Cert.MlpIIdeal.τ).loc Cert.MlpIIdeal.main_arg4)
      ∧ r.2.mem ((c.tc : Thread Cert.MlpIIdeal.nD Cert.MlpIIdeal.τ).loc Cert.MlpIIdeal.main_arg5) = m ((c.tc : Thread Cert.MlpIIdeal.nD Cert.MlpIIdeal.τ).loc Cert.MlpIIdeal.main_arg5)
      ∧ r.2.mem ((c.tc : Thread Cert.MlpIIdeal.nD Cert.MlpIIdeal.τ).loc Cert.MlpIIdeal.main_arg6) = m ((c.tc : Thread Cert.MlpIIdeal.nD Cert.MlpIIdeal.τ).loc Cert.MlpIIdeal.main_arg6)
      ∧ r.2.mem ((c.tc : Thread Cert.MlpIIdeal.nD Cert.MlpIIdeal.τ).loc Cert.MlpIIdeal.main_arg7) = m ((c.tc : Thread Cert.MlpIIdeal.nD Cert.MlpIIdeal.τ).loc Cert.MlpIIdeal.main_arg7)
      ∧ r.2.mem ((c.tc : Thread Cert.MlpIIdeal.nD Cert.MlpIIdeal.τ).loc Cert.MlpIIdeal.main_arg8) = m ((c.tc : Thread Cert.MlpIIdeal.nD Cert.MlpIIdeal.τ).loc Cert.MlpIIdeal.main_arg8)
      ∧ r.2.mem ((c.tc : Thread Cert.MlpIIdeal.nD Cert.MlpIIdeal.τ).loc Cert.MlpIIdeal.main_arg9) = m ((c.tc : Thread Cert.MlpIIdeal.nD Cert.MlpIIdeal.τ).loc Cert.MlpIIdeal.main_arg9)
      ∧ r.2.mem ((c.tc : Thread Cert.MlpIIdeal.nD Cert.MlpIIdeal.τ).loc Cert.MlpIIdeal.main_arg10) = m ((c.tc : Thread Cert.MlpIIdeal.nD Cert.MlpIIdeal.τ).loc Cert.MlpIIdeal.main_arg10))
      ∧ r.2.sem = fun _ => 0)

def quiescent_MlpIRefIdeal [hMlpIRefIdeal : Cert.MlpIRefIdeal.Facts] : Prop :=
  ∀ (m : (ℓ : Loc Cert.MlpIRefIdeal.nD Cert.MlpIRefIdeal.τ Cert.MlpIRefIdeal.sig) → Buf (Elt Ideal) ℓ) (g : Dev Cert.MlpIRefIdeal.nD → PrngReg), Pre_MlpIRefIdeal m →
    θ_run (Cert.MlpIRefIdeal.defs (F := Ideal)) (onTc (τ := Cert.MlpIRefIdeal.τ) (Cert.MlpIRefIdeal.main (F := Ideal))) ⟨m, fun _ => 0, g⟩ (fun r => (∀ c : Dev Cert.MlpIRefIdeal.nD,
      r.2.mem ((c.tc : Thread Cert.MlpIRefIdeal.nD Cert.MlpIRefIdeal.τ).loc Cert.MlpIRefIdeal.main_arg0) = m ((c.tc : Thread Cert.MlpIRefIdeal.nD Cert.MlpIRefIdeal.τ).loc Cert.MlpIRefIdeal.main_arg0)
      ∧ r.2.mem ((c.tc : Thread Cert.MlpIRefIdeal.nD Cert.MlpIRefIdeal.τ).loc Cert.MlpIRefIdeal.main_arg1) = m ((c.tc : Thread Cert.MlpIRefIdeal.nD Cert.MlpIRefIdeal.τ).loc Cert.MlpIRefIdeal.main_arg1)
      ∧ r.2.mem ((c.tc : Thread Cert.MlpIRefIdeal.nD Cert.MlpIRefIdeal.τ).loc Cert.MlpIRefIdeal.main_arg2) = m ((c.tc : Thread Cert.MlpIRefIdeal.nD Cert.MlpIRefIdeal.τ).loc Cert.MlpIRefIdeal.main_arg2)
      ∧ r.2.mem ((c.tc : Thread Cert.MlpIRefIdeal.nD Cert.MlpIRefIdeal.τ).loc Cert.MlpIRefIdeal.main_arg3) = m ((c.tc : Thread Cert.MlpIRefIdeal.nD Cert.MlpIRefIdeal.τ).loc Cert.MlpIRefIdeal.main_arg3)
      ∧ r.2.mem ((c.tc : Thread Cert.MlpIRefIdeal.nD Cert.MlpIRefIdeal.τ).loc Cert.MlpIRefIdeal.main_arg4) = m ((c.tc : Thread Cert.MlpIRefIdeal.nD Cert.MlpIRefIdeal.τ).loc Cert.MlpIRefIdeal.main_arg4)
      ∧ r.2.mem ((c.tc : Thread Cert.MlpIRefIdeal.nD Cert.MlpIRefIdeal.τ).loc Cert.MlpIRefIdeal.main_arg5) = m ((c.tc : Thread Cert.MlpIRefIdeal.nD Cert.MlpIRefIdeal.τ).loc Cert.MlpIRefIdeal.main_arg5)
      ∧ r.2.mem ((c.tc : Thread Cert.MlpIRefIdeal.nD Cert.MlpIRefIdeal.τ).loc Cert.MlpIRefIdeal.main_arg6) = m ((c.tc : Thread Cert.MlpIRefIdeal.nD Cert.MlpIRefIdeal.τ).loc Cert.MlpIRefIdeal.main_arg6)
      ∧ r.2.mem ((c.tc : Thread Cert.MlpIRefIdeal.nD Cert.MlpIRefIdeal.τ).loc Cert.MlpIRefIdeal.main_arg7) = m ((c.tc : Thread Cert.MlpIRefIdeal.nD Cert.MlpIRefIdeal.τ).loc Cert.MlpIRefIdeal.main_arg7)
      ∧ r.2.mem ((c.tc : Thread Cert.MlpIRefIdeal.nD Cert.MlpIRefIdeal.τ).loc Cert.MlpIRefIdeal.main_arg8) = m ((c.tc : Thread Cert.MlpIRefIdeal.nD Cert.MlpIRefIdeal.τ).loc Cert.MlpIRefIdeal.main_arg8)
      ∧ r.2.mem ((c.tc : Thread Cert.MlpIRefIdeal.nD Cert.MlpIRefIdeal.τ).loc Cert.MlpIRefIdeal.main_arg9) = m ((c.tc : Thread Cert.MlpIRefIdeal.nD Cert.MlpIRefIdeal.τ).loc Cert.MlpIRefIdeal.main_arg9)
      ∧ r.2.mem ((c.tc : Thread Cert.MlpIRefIdeal.nD Cert.MlpIRefIdeal.τ).loc Cert.MlpIRefIdeal.main_arg10) = m ((c.tc : Thread Cert.MlpIRefIdeal.nD Cert.MlpIRefIdeal.τ).loc Cert.MlpIRefIdeal.main_arg10))
      ∧ r.2.sem = fun _ => 0)

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2_0)) (v1 : (c : Dev Cert.ModIdeal.nD) → Buf (Elt Ideal) ((c.tc : Thread Cert.ModIdeal.nD Cert.ModIdeal.τ).loc Cert.ModIdeal.main_v2_1)) (v2 : (c : Dev Cert.ModIdeal.nD) → Buf (Elt Ideal) ((c.tc : Thread Cert.ModIdeal.nD Cert.ModIdeal.τ).loc Cert.ModIdeal.main_v2_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2_0) = v0 c
          ∧ r.2.mem ((c.tc : Thread Cert.ModIdeal.nD Cert.ModIdeal.τ).loc Cert.ModIdeal.main_v2_1) = v1 c
          ∧ r.2.mem ((c.tc : Thread Cert.ModIdeal.nD Cert.ModIdeal.τ).loc Cert.ModIdeal.main_v2_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v0_0) = v0 c
          ∧ r.2.mem ((c.tc : Thread Cert.ModRefIdeal.nD Cert.ModRefIdeal.τ).loc Cert.ModRefIdeal.main_v0_1) = v1 c
          ∧ r.2.mem ((c.tc : Thread Cert.ModRefIdeal.nD Cert.ModRefIdeal.τ).loc Cert.ModRefIdeal.main_v0_2) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_QkvT_QkvTIdeal : Prop :=
  True

def algebraic_QkvTIdeal_QkvTRefIdeal [hQkvTIdeal : Cert.QkvTIdeal.Facts] [hQkvTRefIdeal : Cert.QkvTRefIdeal.Facts] : Prop :=
  ∀ (m : (ℓ : Loc Cert.QkvTIdeal.nD Cert.QkvTIdeal.τ Cert.QkvTIdeal.sig) → Buf (Elt Ideal) ℓ) (g : Dev Cert.QkvTIdeal.nD → PrngReg)
    (m' : (ℓ : Loc Cert.QkvTRefIdeal.nD Cert.QkvTRefIdeal.τ Cert.QkvTRefIdeal.sig) → Buf (Elt Ideal) ℓ) (g' : Dev Cert.QkvTRefIdeal.nD → PrngReg), Pre_QkvTIdeal m →
    (∀ c : Dev Cert.QkvTIdeal.nD,
      m' ((c.tc : Thread Cert.QkvTRefIdeal.nD Cert.QkvTRefIdeal.τ).loc Cert.QkvTRefIdeal.main_arg0) = m ((c.tc : Thread Cert.QkvTIdeal.nD Cert.QkvTIdeal.τ).loc Cert.QkvTIdeal.main_arg0)
      ∧ m' ((c.tc : Thread Cert.QkvTRefIdeal.nD Cert.QkvTRefIdeal.τ).loc Cert.QkvTRefIdeal.main_arg1) = m ((c.tc : Thread Cert.QkvTIdeal.nD Cert.QkvTIdeal.τ).loc Cert.QkvTIdeal.main_arg1)
      ∧ m' ((c.tc : Thread Cert.QkvTRefIdeal.nD Cert.QkvTRefIdeal.τ).loc Cert.QkvTRefIdeal.main_arg2) = m ((c.tc : Thread Cert.QkvTIdeal.nD Cert.QkvTIdeal.τ).loc Cert.QkvTIdeal.main_arg2)
      ∧ m' ((c.tc : Thread Cert.QkvTRefIdeal.nD Cert.QkvTRefIdeal.τ).loc Cert.QkvTRefIdeal.main_arg3) = m ((c.tc : Thread Cert.QkvTIdeal.nD Cert.QkvTIdeal.τ).loc Cert.QkvTIdeal.main_arg3)
      ∧ m' ((c.tc : Thread Cert.QkvTRefIdeal.nD Cert.QkvTRefIdeal.τ).loc Cert.QkvTRefIdeal.main_arg4) = m ((c.tc : Thread Cert.QkvTIdeal.nD Cert.QkvTIdeal.τ).loc Cert.QkvTIdeal.main_arg4)
      ∧ m' ((c.tc : Thread Cert.QkvTRefIdeal.nD Cert.QkvTRefIdeal.τ).loc Cert.QkvTRefIdeal.main_arg5) = m ((c.tc : Thread Cert.QkvTIdeal.nD Cert.QkvTIdeal.τ).loc Cert.QkvTIdeal.main_arg5)
      ∧ m' ((c.tc : Thread Cert.QkvTRefIdeal.nD Cert.QkvTRefIdeal.τ).loc Cert.QkvTRefIdeal.main_arg6) = m ((c.tc : Thread Cert.QkvTIdeal.nD Cert.QkvTIdeal.τ).loc Cert.QkvTIdeal.main_arg6)) →
    ∃ (v0 : (c : Dev Cert.QkvTIdeal.nD) → Buf (Elt Ideal) ((c.tc : Thread Cert.QkvTIdeal.nD Cert.QkvTIdeal.τ).loc Cert.QkvTIdeal.main_v5_0)) (v1 : (c : Dev Cert.QkvTIdeal.nD) → Buf (Elt Ideal) ((c.tc : Thread Cert.QkvTIdeal.nD Cert.QkvTIdeal.τ).loc Cert.QkvTIdeal.main_v5_1)) (v2 : (c : Dev Cert.QkvTIdeal.nD) → Buf (Elt Ideal) ((c.tc : Thread Cert.QkvTIdeal.nD Cert.QkvTIdeal.τ).loc Cert.QkvTIdeal.main_v5_2)),
      θ_run (Cert.QkvTIdeal.defs (F := Ideal)) (onTc (τ := Cert.QkvTIdeal.τ) (Cert.QkvTIdeal.main (F := Ideal))) ⟨m, fun _ => 0, g⟩ (fun r => ∀ c : Dev Cert.QkvTIdeal.nD,
          r.2.mem ((c.tc : Thread Cert.QkvTIdeal.nD Cert.QkvTIdeal.τ).loc Cert.QkvTIdeal.main_v5_0) = v0 c
          ∧ r.2.mem ((c.tc : Thread Cert.QkvTIdeal.nD Cert.QkvTIdeal.τ).loc Cert.QkvTIdeal.main_v5_1) = v1 c
          ∧ r.2.mem ((c.tc : Thread Cert.QkvTIdeal.nD Cert.QkvTIdeal.τ).loc Cert.QkvTIdeal.main_v5_2) = v2 c
          ∧ r.2.mem ((c.tc : Thread Cert.QkvTIdeal.nD Cert.QkvTIdeal.τ).loc Cert.QkvTIdeal.main_arg0) = m ((c.tc : Thread Cert.QkvTIdeal.nD Cert.QkvTIdeal.τ).loc Cert.QkvTIdeal.main_arg0)
          ∧ r.2.mem ((c.tc : Thread Cert.QkvTIdeal.nD Cert.QkvTIdeal.τ).loc Cert.QkvTIdeal.main_arg1) = m ((c.tc : Thread Cert.QkvTIdeal.nD Cert.QkvTIdeal.τ).loc Cert.QkvTIdeal.main_arg1)
          ∧ r.2.mem ((c.tc : Thread Cert.QkvTIdeal.nD Cert.QkvTIdeal.τ).loc Cert.QkvTIdeal.main_arg2) = m ((c.tc : Thread Cert.QkvTIdeal.nD Cert.QkvTIdeal.τ).loc Cert.QkvTIdeal.main_arg2)
          ∧ r.2.mem ((c.tc : Thread Cert.QkvTIdeal.nD Cert.QkvTIdeal.τ).loc Cert.QkvTIdeal.main_arg3) = m ((c.tc : Thread Cert.QkvTIdeal.nD Cert.QkvTIdeal.τ).loc Cert.QkvTIdeal.main_arg3)
          ∧ r.2.mem ((c.tc : Thread Cert.QkvTIdeal.nD Cert.QkvTIdeal.τ).loc Cert.QkvTIdeal.main_arg4) = m ((c.tc : Thread Cert.QkvTIdeal.nD Cert.QkvTIdeal.τ).loc Cert.QkvTIdeal.main_arg4)
          ∧ r.2.mem ((c.tc : Thread Cert.QkvTIdeal.nD Cert.QkvTIdeal.τ).loc Cert.QkvTIdeal.main_arg5) = m ((c.tc : Thread Cert.QkvTIdeal.nD Cert.QkvTIdeal.τ).loc Cert.QkvTIdeal.main_arg5)
          ∧ r.2.mem ((c.tc : Thread Cert.QkvTIdeal.nD Cert.QkvTIdeal.τ).loc Cert.QkvTIdeal.main_arg6) = m ((c.tc : Thread Cert.QkvTIdeal.nD Cert.QkvTIdeal.τ).loc Cert.QkvTIdeal.main_arg6))
      ∧ θ_run (Cert.QkvTRefIdeal.defs (F := Ideal)) (onTc (τ := Cert.QkvTRefIdeal.τ) (Cert.QkvTRefIdeal.main (F := Ideal))) ⟨m', fun _ => 0, g'⟩ (fun r => ∀ c : Dev Cert.QkvTRefIdeal.nD,
          r.2.mem ((c.tc : Thread Cert.QkvTRefIdeal.nD Cert.QkvTRefIdeal.τ).loc Cert.QkvTRefIdeal.main_v0_0) = v0 c
          ∧ r.2.mem ((c.tc : Thread Cert.QkvTRefIdeal.nD Cert.QkvTRefIdeal.τ).loc Cert.QkvTRefIdeal.main_v0_1) = v1 c
          ∧ r.2.mem ((c.tc : Thread Cert.QkvTRefIdeal.nD Cert.QkvTRefIdeal.τ).loc Cert.QkvTRefIdeal.main_v0_2) = v2 c
          ∧ r.2.mem ((c.tc : Thread Cert.QkvTRefIdeal.nD Cert.QkvTRefIdeal.τ).loc Cert.QkvTRefIdeal.main_arg0) = m' ((c.tc : Thread Cert.QkvTRefIdeal.nD Cert.QkvTRefIdeal.τ).loc Cert.QkvTRefIdeal.main_arg0)
          ∧ r.2.mem ((c.tc : Thread Cert.QkvTRefIdeal.nD Cert.QkvTRefIdeal.τ).loc Cert.QkvTRefIdeal.main_arg1) = m' ((c.tc : Thread Cert.QkvTRefIdeal.nD Cert.QkvTRefIdeal.τ).loc Cert.QkvTRefIdeal.main_arg1)
          ∧ r.2.mem ((c.tc : Thread Cert.QkvTRefIdeal.nD Cert.QkvTRefIdeal.τ).loc Cert.QkvTRefIdeal.main_arg2) = m' ((c.tc : Thread Cert.QkvTRefIdeal.nD Cert.QkvTRefIdeal.τ).loc Cert.QkvTRefIdeal.main_arg2)
          ∧ r.2.mem ((c.tc : Thread Cert.QkvTRefIdeal.nD Cert.QkvTRefIdeal.τ).loc Cert.QkvTRefIdeal.main_arg3) = m' ((c.tc : Thread Cert.QkvTRefIdeal.nD Cert.QkvTRefIdeal.τ).loc Cert.QkvTRefIdeal.main_arg3)
          ∧ r.2.mem ((c.tc : Thread Cert.QkvTRefIdeal.nD Cert.QkvTRefIdeal.τ).loc Cert.QkvTRefIdeal.main_arg4) = m' ((c.tc : Thread Cert.QkvTRefIdeal.nD Cert.QkvTRefIdeal.τ).loc Cert.QkvTRefIdeal.main_arg4)
          ∧ r.2.mem ((c.tc : Thread Cert.QkvTRefIdeal.nD Cert.QkvTRefIdeal.τ).loc Cert.QkvTRefIdeal.main_arg5) = m' ((c.tc : Thread Cert.QkvTRefIdeal.nD Cert.QkvTRefIdeal.τ).loc Cert.QkvTRefIdeal.main_arg5)
          ∧ r.2.mem ((c.tc : Thread Cert.QkvTRefIdeal.nD Cert.QkvTRefIdeal.τ).loc Cert.QkvTRefIdeal.main_arg6) = m' ((c.tc : Thread Cert.QkvTRefIdeal.nD Cert.QkvTRefIdeal.τ).loc Cert.QkvTRefIdeal.main_arg6))

def preserves_QkvI_QkvIIdeal : Prop :=
  True

def algebraic_QkvIIdeal_QkvIRefIdeal [hQkvIIdeal : Cert.QkvIIdeal.Facts] [hQkvIRefIdeal : Cert.QkvIRefIdeal.Facts] : Prop :=
  ∀ (m : (ℓ : Loc Cert.QkvIIdeal.nD Cert.QkvIIdeal.τ Cert.QkvIIdeal.sig) → Buf (Elt Ideal) ℓ) (g : Dev Cert.QkvIIdeal.nD → PrngReg)
    (m' : (ℓ : Loc Cert.QkvIRefIdeal.nD Cert.QkvIRefIdeal.τ Cert.QkvIRefIdeal.sig) → Buf (Elt Ideal) ℓ) (g' : Dev Cert.QkvIRefIdeal.nD → PrngReg), Pre_QkvIIdeal m →
    (∀ c : Dev Cert.QkvIIdeal.nD,
      m' ((c.tc : Thread Cert.QkvIRefIdeal.nD Cert.QkvIRefIdeal.τ).loc Cert.QkvIRefIdeal.main_arg0) = m ((c.tc : Thread Cert.QkvIIdeal.nD Cert.QkvIIdeal.τ).loc Cert.QkvIIdeal.main_arg0)
      ∧ m' ((c.tc : Thread Cert.QkvIRefIdeal.nD Cert.QkvIRefIdeal.τ).loc Cert.QkvIRefIdeal.main_arg1) = m ((c.tc : Thread Cert.QkvIIdeal.nD Cert.QkvIIdeal.τ).loc Cert.QkvIIdeal.main_arg1)
      ∧ m' ((c.tc : Thread Cert.QkvIRefIdeal.nD Cert.QkvIRefIdeal.τ).loc Cert.QkvIRefIdeal.main_arg2) = m ((c.tc : Thread Cert.QkvIIdeal.nD Cert.QkvIIdeal.τ).loc Cert.QkvIIdeal.main_arg2)
      ∧ m' ((c.tc : Thread Cert.QkvIRefIdeal.nD Cert.QkvIRefIdeal.τ).loc Cert.QkvIRefIdeal.main_arg3) = m ((c.tc : Thread Cert.QkvIIdeal.nD Cert.QkvIIdeal.τ).loc Cert.QkvIIdeal.main_arg3)
      ∧ m' ((c.tc : Thread Cert.QkvIRefIdeal.nD Cert.QkvIRefIdeal.τ).loc Cert.QkvIRefIdeal.main_arg4) = m ((c.tc : Thread Cert.QkvIIdeal.nD Cert.QkvIIdeal.τ).loc Cert.QkvIIdeal.main_arg4)
      ∧ m' ((c.tc : Thread Cert.QkvIRefIdeal.nD Cert.QkvIRefIdeal.τ).loc Cert.QkvIRefIdeal.main_arg5) = m ((c.tc : Thread Cert.QkvIIdeal.nD Cert.QkvIIdeal.τ).loc Cert.QkvIIdeal.main_arg5)
      ∧ m' ((c.tc : Thread Cert.QkvIRefIdeal.nD Cert.QkvIRefIdeal.τ).loc Cert.QkvIRefIdeal.main_arg6) = m ((c.tc : Thread Cert.QkvIIdeal.nD Cert.QkvIIdeal.τ).loc Cert.QkvIIdeal.main_arg6)) →
    ∃ (v0 : (c : Dev Cert.QkvIIdeal.nD) → Buf (Elt Ideal) ((c.tc : Thread Cert.QkvIIdeal.nD Cert.QkvIIdeal.τ).loc Cert.QkvIIdeal.main_v5_0)) (v1 : (c : Dev Cert.QkvIIdeal.nD) → Buf (Elt Ideal) ((c.tc : Thread Cert.QkvIIdeal.nD Cert.QkvIIdeal.τ).loc Cert.QkvIIdeal.main_v5_1)) (v2 : (c : Dev Cert.QkvIIdeal.nD) → Buf (Elt Ideal) ((c.tc : Thread Cert.QkvIIdeal.nD Cert.QkvIIdeal.τ).loc Cert.QkvIIdeal.main_v5_2)),
      θ_run (Cert.QkvIIdeal.defs (F := Ideal)) (onTc (τ := Cert.QkvIIdeal.τ) (Cert.QkvIIdeal.main (F := Ideal))) ⟨m, fun _ => 0, g⟩ (fun r => ∀ c : Dev Cert.QkvIIdeal.nD,
          r.2.mem ((c.tc : Thread Cert.QkvIIdeal.nD Cert.QkvIIdeal.τ).loc Cert.QkvIIdeal.main_v5_0) = v0 c
          ∧ r.2.mem ((c.tc : Thread Cert.QkvIIdeal.nD Cert.QkvIIdeal.τ).loc Cert.QkvIIdeal.main_v5_1) = v1 c
          ∧ r.2.mem ((c.tc : Thread Cert.QkvIIdeal.nD Cert.QkvIIdeal.τ).loc Cert.QkvIIdeal.main_v5_2) = v2 c
          ∧ r.2.mem ((c.tc : Thread Cert.QkvIIdeal.nD Cert.QkvIIdeal.τ).loc Cert.QkvIIdeal.main_arg0) = m ((c.tc : Thread Cert.QkvIIdeal.nD Cert.QkvIIdeal.τ).loc Cert.QkvIIdeal.main_arg0)
          ∧ r.2.mem ((c.tc : Thread Cert.QkvIIdeal.nD Cert.QkvIIdeal.τ).loc Cert.QkvIIdeal.main_arg1) = m ((c.tc : Thread Cert.QkvIIdeal.nD Cert.QkvIIdeal.τ).loc Cert.QkvIIdeal.main_arg1)
          ∧ r.2.mem ((c.tc : Thread Cert.QkvIIdeal.nD Cert.QkvIIdeal.τ).loc Cert.QkvIIdeal.main_arg2) = m ((c.tc : Thread Cert.QkvIIdeal.nD Cert.QkvIIdeal.τ).loc Cert.QkvIIdeal.main_arg2)
          ∧ r.2.mem ((c.tc : Thread Cert.QkvIIdeal.nD Cert.QkvIIdeal.τ).loc Cert.QkvIIdeal.main_arg3) = m ((c.tc : Thread Cert.QkvIIdeal.nD Cert.QkvIIdeal.τ).loc Cert.QkvIIdeal.main_arg3)
          ∧ r.2.mem ((c.tc : Thread Cert.QkvIIdeal.nD Cert.QkvIIdeal.τ).loc Cert.QkvIIdeal.main_arg4) = m ((c.tc : Thread Cert.QkvIIdeal.nD Cert.QkvIIdeal.τ).loc Cert.QkvIIdeal.main_arg4)
          ∧ r.2.mem ((c.tc : Thread Cert.QkvIIdeal.nD Cert.QkvIIdeal.τ).loc Cert.QkvIIdeal.main_arg5) = m ((c.tc : Thread Cert.QkvIIdeal.nD Cert.QkvIIdeal.τ).loc Cert.QkvIIdeal.main_arg5)
          ∧ r.2.mem ((c.tc : Thread Cert.QkvIIdeal.nD Cert.QkvIIdeal.τ).loc Cert.QkvIIdeal.main_arg6) = m ((c.tc : Thread Cert.QkvIIdeal.nD Cert.QkvIIdeal.τ).loc Cert.QkvIIdeal.main_arg6))
      ∧ θ_run (Cert.QkvIRefIdeal.defs (F := Ideal)) (onTc (τ := Cert.QkvIRefIdeal.τ) (Cert.QkvIRefIdeal.main (F := Ideal))) ⟨m', fun _ => 0, g'⟩ (fun r => ∀ c : Dev Cert.QkvIRefIdeal.nD,
          r.2.mem ((c.tc : Thread Cert.QkvIRefIdeal.nD Cert.QkvIRefIdeal.τ).loc Cert.QkvIRefIdeal.main_v0_0) = v0 c
          ∧ r.2.mem ((c.tc : Thread Cert.QkvIRefIdeal.nD Cert.QkvIRefIdeal.τ).loc Cert.QkvIRefIdeal.main_v0_1) = v1 c
          ∧ r.2.mem ((c.tc : Thread Cert.QkvIRefIdeal.nD Cert.QkvIRefIdeal.τ).loc Cert.QkvIRefIdeal.main_v0_2) = v2 c
          ∧ r.2.mem ((c.tc : Thread Cert.QkvIRefIdeal.nD Cert.QkvIRefIdeal.τ).loc Cert.QkvIRefIdeal.main_arg0) = m' ((c.tc : Thread Cert.QkvIRefIdeal.nD Cert.QkvIRefIdeal.τ).loc Cert.QkvIRefIdeal.main_arg0)
          ∧ r.2.mem ((c.tc : Thread Cert.QkvIRefIdeal.nD Cert.QkvIRefIdeal.τ).loc Cert.QkvIRefIdeal.main_arg1) = m' ((c.tc : Thread Cert.QkvIRefIdeal.nD Cert.QkvIRefIdeal.τ).loc Cert.QkvIRefIdeal.main_arg1)
          ∧ r.2.mem ((c.tc : Thread Cert.QkvIRefIdeal.nD Cert.QkvIRefIdeal.τ).loc Cert.QkvIRefIdeal.main_arg2) = m' ((c.tc : Thread Cert.QkvIRefIdeal.nD Cert.QkvIRefIdeal.τ).loc Cert.QkvIRefIdeal.main_arg2)
          ∧ r.2.mem ((c.tc : Thread Cert.QkvIRefIdeal.nD Cert.QkvIRefIdeal.τ).loc Cert.QkvIRefIdeal.main_arg3) = m' ((c.tc : Thread Cert.QkvIRefIdeal.nD Cert.QkvIRefIdeal.τ).loc Cert.QkvIRefIdeal.main_arg3)
          ∧ r.2.mem ((c.tc : Thread Cert.QkvIRefIdeal.nD Cert.QkvIRefIdeal.τ).loc Cert.QkvIRefIdeal.main_arg4) = m' ((c.tc : Thread Cert.QkvIRefIdeal.nD Cert.QkvIRefIdeal.τ).loc Cert.QkvIRefIdeal.main_arg4)
          ∧ r.2.mem ((c.tc : Thread Cert.QkvIRefIdeal.nD Cert.QkvIRefIdeal.τ).loc Cert.QkvIRefIdeal.main_arg5) = m' ((c.tc : Thread Cert.QkvIRefIdeal.nD Cert.QkvIRefIdeal.τ).loc Cert.QkvIRefIdeal.main_arg5)
          ∧ r.2.mem ((c.tc : Thread Cert.QkvIRefIdeal.nD Cert.QkvIRefIdeal.τ).loc Cert.QkvIRefIdeal.main_arg6) = m' ((c.tc : Thread Cert.QkvIRefIdeal.nD Cert.QkvIRefIdeal.τ).loc Cert.QkvIRefIdeal.main_arg6))

def preserves_ProjT_ProjTIdeal : Prop :=
  True

def algebraic_ProjTIdeal_ProjTRefIdeal [hProjTIdeal : Cert.ProjTIdeal.Facts] [hProjTRefIdeal : Cert.ProjTRefIdeal.Facts] : Prop :=
  ∀ (m : (ℓ : Loc Cert.ProjTIdeal.nD Cert.ProjTIdeal.τ Cert.ProjTIdeal.sig) → Buf (Elt Ideal) ℓ) (g : Dev Cert.ProjTIdeal.nD → PrngReg)
    (m' : (ℓ : Loc Cert.ProjTRefIdeal.nD Cert.ProjTRefIdeal.τ Cert.ProjTRefIdeal.sig) → Buf (Elt Ideal) ℓ) (g' : Dev Cert.ProjTRefIdeal.nD → PrngReg), Pre_ProjTIdeal m →
    (∀ c : Dev Cert.ProjTIdeal.nD,
      m' ((c.tc : Thread Cert.ProjTRefIdeal.nD Cert.ProjTRefIdeal.τ).loc Cert.ProjTRefIdeal.main_arg0) = m ((c.tc : Thread Cert.ProjTIdeal.nD Cert.ProjTIdeal.τ).loc Cert.ProjTIdeal.main_arg0)
      ∧ m' ((c.tc : Thread Cert.ProjTRefIdeal.nD Cert.ProjTRefIdeal.τ).loc Cert.ProjTRefIdeal.main_arg1) = m ((c.tc : Thread Cert.ProjTIdeal.nD Cert.ProjTIdeal.τ).loc Cert.ProjTIdeal.main_arg1)
      ∧ m' ((c.tc : Thread Cert.ProjTRefIdeal.nD Cert.ProjTRefIdeal.τ).loc Cert.ProjTRefIdeal.main_arg2) = m ((c.tc : Thread Cert.ProjTIdeal.nD Cert.ProjTIdeal.τ).loc Cert.ProjTIdeal.main_arg2)
      ∧ m' ((c.tc : Thread Cert.ProjTRefIdeal.nD Cert.ProjTRefIdeal.τ).loc Cert.ProjTRefIdeal.main_arg3) = m ((c.tc : Thread Cert.ProjTIdeal.nD Cert.ProjTIdeal.τ).loc Cert.ProjTIdeal.main_arg3)
      ∧ m' ((c.tc : Thread Cert.ProjTRefIdeal.nD Cert.ProjTRefIdeal.τ).loc Cert.ProjTRefIdeal.main_arg4) = m ((c.tc : Thread Cert.ProjTIdeal.nD Cert.ProjTIdeal.τ).loc Cert.ProjTIdeal.main_arg4)
      ∧ m' ((c.tc : Thread Cert.ProjTRefIdeal.nD Cert.ProjTRefIdeal.τ).loc Cert.ProjTRefIdeal.main_arg5) = m ((c.tc : Thread Cert.ProjTIdeal.nD Cert.ProjTIdeal.τ).loc Cert.ProjTIdeal.main_arg5)
      ∧ m' ((c.tc : Thread Cert.ProjTRefIdeal.nD Cert.ProjTRefIdeal.τ).loc Cert.ProjTRefIdeal.main_arg6) = m ((c.tc : Thread Cert.ProjTIdeal.nD Cert.ProjTIdeal.τ).loc Cert.ProjTIdeal.main_arg6)) →
    ∃ (v0 : (c : Dev Cert.ProjTIdeal.nD) → Buf (Elt Ideal) ((c.tc : Thread Cert.ProjTIdeal.nD Cert.ProjTIdeal.τ).loc Cert.ProjTIdeal.main_v3_0)) (v1 : (c : Dev Cert.ProjTIdeal.nD) → Buf (Elt Ideal) ((c.tc : Thread Cert.ProjTIdeal.nD Cert.ProjTIdeal.τ).loc Cert.ProjTIdeal.main_v3_1)) (v2 : (c : Dev Cert.ProjTIdeal.nD) → Buf (Elt Ideal) ((c.tc : Thread Cert.ProjTIdeal.nD Cert.ProjTIdeal.τ).loc Cert.ProjTIdeal.main_v3_2)),
      θ_run (Cert.ProjTIdeal.defs (F := Ideal)) (onTc (τ := Cert.ProjTIdeal.τ) (Cert.ProjTIdeal.main (F := Ideal))) ⟨m, fun _ => 0, g⟩ (fun r => ∀ c : Dev Cert.ProjTIdeal.nD,
          r.2.mem ((c.tc : Thread Cert.ProjTIdeal.nD Cert.ProjTIdeal.τ).loc Cert.ProjTIdeal.main_v3_0) = v0 c
          ∧ r.2.mem ((c.tc : Thread Cert.ProjTIdeal.nD Cert.ProjTIdeal.τ).loc Cert.ProjTIdeal.main_v3_1) = v1 c
          ∧ r.2.mem ((c.tc : Thread Cert.ProjTIdeal.nD Cert.ProjTIdeal.τ).loc Cert.ProjTIdeal.main_v3_2) = v2 c
          ∧ r.2.mem ((c.tc : Thread Cert.ProjTIdeal.nD Cert.ProjTIdeal.τ).loc Cert.ProjTIdeal.main_arg0) = m ((c.tc : Thread Cert.ProjTIdeal.nD Cert.ProjTIdeal.τ).loc Cert.ProjTIdeal.main_arg0)
          ∧ r.2.mem ((c.tc : Thread Cert.ProjTIdeal.nD Cert.ProjTIdeal.τ).loc Cert.ProjTIdeal.main_arg1) = m ((c.tc : Thread Cert.ProjTIdeal.nD Cert.ProjTIdeal.τ).loc Cert.ProjTIdeal.main_arg1)
          ∧ r.2.mem ((c.tc : Thread Cert.ProjTIdeal.nD Cert.ProjTIdeal.τ).loc Cert.ProjTIdeal.main_arg2) = m ((c.tc : Thread Cert.ProjTIdeal.nD Cert.ProjTIdeal.τ).loc Cert.ProjTIdeal.main_arg2)
          ∧ r.2.mem ((c.tc : Thread Cert.ProjTIdeal.nD Cert.ProjTIdeal.τ).loc Cert.ProjTIdeal.main_arg3) = m ((c.tc : Thread Cert.ProjTIdeal.nD Cert.ProjTIdeal.τ).loc Cert.ProjTIdeal.main_arg3)
          ∧ r.2.mem ((c.tc : Thread Cert.ProjTIdeal.nD Cert.ProjTIdeal.τ).loc Cert.ProjTIdeal.main_arg4) = m ((c.tc : Thread Cert.ProjTIdeal.nD Cert.ProjTIdeal.τ).loc Cert.ProjTIdeal.main_arg4)
          ∧ r.2.mem ((c.tc : Thread Cert.ProjTIdeal.nD Cert.ProjTIdeal.τ).loc Cert.ProjTIdeal.main_arg5) = m ((c.tc : Thread Cert.ProjTIdeal.nD Cert.ProjTIdeal.τ).loc Cert.ProjTIdeal.main_arg5)
          ∧ r.2.mem ((c.tc : Thread Cert.ProjTIdeal.nD Cert.ProjTIdeal.τ).loc Cert.ProjTIdeal.main_arg6) = m ((c.tc : Thread Cert.ProjTIdeal.nD Cert.ProjTIdeal.τ).loc Cert.ProjTIdeal.main_arg6))
      ∧ θ_run (Cert.ProjTRefIdeal.defs (F := Ideal)) (onTc (τ := Cert.ProjTRefIdeal.τ) (Cert.ProjTRefIdeal.main (F := Ideal))) ⟨m', fun _ => 0, g'⟩ (fun r => ∀ c : Dev Cert.ProjTRefIdeal.nD,
          r.2.mem ((c.tc : Thread Cert.ProjTRefIdeal.nD Cert.ProjTRefIdeal.τ).loc Cert.ProjTRefIdeal.main_v0_0) = v0 c
          ∧ r.2.mem ((c.tc : Thread Cert.ProjTRefIdeal.nD Cert.ProjTRefIdeal.τ).loc Cert.ProjTRefIdeal.main_v0_1) = v1 c
          ∧ r.2.mem ((c.tc : Thread Cert.ProjTRefIdeal.nD Cert.ProjTRefIdeal.τ).loc Cert.ProjTRefIdeal.main_v0_2) = v2 c
          ∧ r.2.mem ((c.tc : Thread Cert.ProjTRefIdeal.nD Cert.ProjTRefIdeal.τ).loc Cert.ProjTRefIdeal.main_arg0) = m' ((c.tc : Thread Cert.ProjTRefIdeal.nD Cert.ProjTRefIdeal.τ).loc Cert.ProjTRefIdeal.main_arg0)
          ∧ r.2.mem ((c.tc : Thread Cert.ProjTRefIdeal.nD Cert.ProjTRefIdeal.τ).loc Cert.ProjTRefIdeal.main_arg1) = m' ((c.tc : Thread Cert.ProjTRefIdeal.nD Cert.ProjTRefIdeal.τ).loc Cert.ProjTRefIdeal.main_arg1)
          ∧ r.2.mem ((c.tc : Thread Cert.ProjTRefIdeal.nD Cert.ProjTRefIdeal.τ).loc Cert.ProjTRefIdeal.main_arg2) = m' ((c.tc : Thread Cert.ProjTRefIdeal.nD Cert.ProjTRefIdeal.τ).loc Cert.ProjTRefIdeal.main_arg2)
          ∧ r.2.mem ((c.tc : Thread Cert.ProjTRefIdeal.nD Cert.ProjTRefIdeal.τ).loc Cert.ProjTRefIdeal.main_arg3) = m' ((c.tc : Thread Cert.ProjTRefIdeal.nD Cert.ProjTRefIdeal.τ).loc Cert.ProjTRefIdeal.main_arg3)
          ∧ r.2.mem ((c.tc : Thread Cert.ProjTRefIdeal.nD Cert.ProjTRefIdeal.τ).loc Cert.ProjTRefIdeal.main_arg4) = m' ((c.tc : Thread Cert.ProjTRefIdeal.nD Cert.ProjTRefIdeal.τ).loc Cert.ProjTRefIdeal.main_arg4)
          ∧ r.2.mem ((c.tc : Thread Cert.ProjTRefIdeal.nD Cert.ProjTRefIdeal.τ).loc Cert.ProjTRefIdeal.main_arg5) = m' ((c.tc : Thread Cert.ProjTRefIdeal.nD Cert.ProjTRefIdeal.τ).loc Cert.ProjTRefIdeal.main_arg5)
          ∧ r.2.mem ((c.tc : Thread Cert.ProjTRefIdeal.nD Cert.ProjTRefIdeal.τ).loc Cert.ProjTRefIdeal.main_arg6) = m' ((c.tc : Thread Cert.ProjTRefIdeal.nD Cert.ProjTRefIdeal.τ).loc Cert.ProjTRefIdeal.main_arg6))

def preserves_ProjI_ProjIIdeal : Prop :=
  True

def algebraic_ProjIIdeal_ProjIRefIdeal [hProjIIdeal : Cert.ProjIIdeal.Facts] [hProjIRefIdeal : Cert.ProjIRefIdeal.Facts] : Prop :=
  ∀ (m : (ℓ : Loc Cert.ProjIIdeal.nD Cert.ProjIIdeal.τ Cert.ProjIIdeal.sig) → Buf (Elt Ideal) ℓ) (g : Dev Cert.ProjIIdeal.nD → PrngReg)
    (m' : (ℓ : Loc Cert.ProjIRefIdeal.nD Cert.ProjIRefIdeal.τ Cert.ProjIRefIdeal.sig) → Buf (Elt Ideal) ℓ) (g' : Dev Cert.ProjIRefIdeal.nD → PrngReg), Pre_ProjIIdeal m →
    (∀ c : Dev Cert.ProjIIdeal.nD,
      m' ((c.tc : Thread Cert.ProjIRefIdeal.nD Cert.ProjIRefIdeal.τ).loc Cert.ProjIRefIdeal.main_arg0) = m ((c.tc : Thread Cert.ProjIIdeal.nD Cert.ProjIIdeal.τ).loc Cert.ProjIIdeal.main_arg0)
      ∧ m' ((c.tc : Thread Cert.ProjIRefIdeal.nD Cert.ProjIRefIdeal.τ).loc Cert.ProjIRefIdeal.main_arg1) = m ((c.tc : Thread Cert.ProjIIdeal.nD Cert.ProjIIdeal.τ).loc Cert.ProjIIdeal.main_arg1)
      ∧ m' ((c.tc : Thread Cert.ProjIRefIdeal.nD Cert.ProjIRefIdeal.τ).loc Cert.ProjIRefIdeal.main_arg2) = m ((c.tc : Thread Cert.ProjIIdeal.nD Cert.ProjIIdeal.τ).loc Cert.ProjIIdeal.main_arg2)
      ∧ m' ((c.tc : Thread Cert.ProjIRefIdeal.nD Cert.ProjIRefIdeal.τ).loc Cert.ProjIRefIdeal.main_arg3) = m ((c.tc : Thread Cert.ProjIIdeal.nD Cert.ProjIIdeal.τ).loc Cert.ProjIIdeal.main_arg3)
      ∧ m' ((c.tc : Thread Cert.ProjIRefIdeal.nD Cert.ProjIRefIdeal.τ).loc Cert.ProjIRefIdeal.main_arg4) = m ((c.tc : Thread Cert.ProjIIdeal.nD Cert.ProjIIdeal.τ).loc Cert.ProjIIdeal.main_arg4)
      ∧ m' ((c.tc : Thread Cert.ProjIRefIdeal.nD Cert.ProjIRefIdeal.τ).loc Cert.ProjIRefIdeal.main_arg5) = m ((c.tc : Thread Cert.ProjIIdeal.nD Cert.ProjIIdeal.τ).loc Cert.ProjIIdeal.main_arg5)
      ∧ m' ((c.tc : Thread Cert.ProjIRefIdeal.nD Cert.ProjIRefIdeal.τ).loc Cert.ProjIRefIdeal.main_arg6) = m ((c.tc : Thread Cert.ProjIIdeal.nD Cert.ProjIIdeal.τ).loc Cert.ProjIIdeal.main_arg6)) →
    ∃ (v0 : (c : Dev Cert.ProjIIdeal.nD) → Buf (Elt Ideal) ((c.tc : Thread Cert.ProjIIdeal.nD Cert.ProjIIdeal.τ).loc Cert.ProjIIdeal.main_v3_0)) (v1 : (c : Dev Cert.ProjIIdeal.nD) → Buf (Elt Ideal) ((c.tc : Thread Cert.ProjIIdeal.nD Cert.ProjIIdeal.τ).loc Cert.ProjIIdeal.main_v3_1)) (v2 : (c : Dev Cert.ProjIIdeal.nD) → Buf (Elt Ideal) ((c.tc : Thread Cert.ProjIIdeal.nD Cert.ProjIIdeal.τ).loc Cert.ProjIIdeal.main_v3_2)),
      θ_run (Cert.ProjIIdeal.defs (F := Ideal)) (onTc (τ := Cert.ProjIIdeal.τ) (Cert.ProjIIdeal.main (F := Ideal))) ⟨m, fun _ => 0, g⟩ (fun r => ∀ c : Dev Cert.ProjIIdeal.nD,
          r.2.mem ((c.tc : Thread Cert.ProjIIdeal.nD Cert.ProjIIdeal.τ).loc Cert.ProjIIdeal.main_v3_0) = v0 c
          ∧ r.2.mem ((c.tc : Thread Cert.ProjIIdeal.nD Cert.ProjIIdeal.τ).loc Cert.ProjIIdeal.main_v3_1) = v1 c
          ∧ r.2.mem ((c.tc : Thread Cert.ProjIIdeal.nD Cert.ProjIIdeal.τ).loc Cert.ProjIIdeal.main_v3_2) = v2 c
          ∧ r.2.mem ((c.tc : Thread Cert.ProjIIdeal.nD Cert.ProjIIdeal.τ).loc Cert.ProjIIdeal.main_arg0) = m ((c.tc : Thread Cert.ProjIIdeal.nD Cert.ProjIIdeal.τ).loc Cert.ProjIIdeal.main_arg0)
          ∧ r.2.mem ((c.tc : Thread Cert.ProjIIdeal.nD Cert.ProjIIdeal.τ).loc Cert.ProjIIdeal.main_arg1) = m ((c.tc : Thread Cert.ProjIIdeal.nD Cert.ProjIIdeal.τ).loc Cert.ProjIIdeal.main_arg1)
          ∧ r.2.mem ((c.tc : Thread Cert.ProjIIdeal.nD Cert.ProjIIdeal.τ).loc Cert.ProjIIdeal.main_arg2) = m ((c.tc : Thread Cert.ProjIIdeal.nD Cert.ProjIIdeal.τ).loc Cert.ProjIIdeal.main_arg2)
          ∧ r.2.mem ((c.tc : Thread Cert.ProjIIdeal.nD Cert.ProjIIdeal.τ).loc Cert.ProjIIdeal.main_arg3) = m ((c.tc : Thread Cert.ProjIIdeal.nD Cert.ProjIIdeal.τ).loc Cert.ProjIIdeal.main_arg3)
          ∧ r.2.mem ((c.tc : Thread Cert.ProjIIdeal.nD Cert.ProjIIdeal.τ).loc Cert.ProjIIdeal.main_arg4) = m ((c.tc : Thread Cert.ProjIIdeal.nD Cert.ProjIIdeal.τ).loc Cert.ProjIIdeal.main_arg4)
          ∧ r.2.mem ((c.tc : Thread Cert.ProjIIdeal.nD Cert.ProjIIdeal.τ).loc Cert.ProjIIdeal.main_arg5) = m ((c.tc : Thread Cert.ProjIIdeal.nD Cert.ProjIIdeal.τ).loc Cert.ProjIIdeal.main_arg5)
          ∧ r.2.mem ((c.tc : Thread Cert.ProjIIdeal.nD Cert.ProjIIdeal.τ).loc Cert.ProjIIdeal.main_arg6) = m ((c.tc : Thread Cert.ProjIIdeal.nD Cert.ProjIIdeal.τ).loc Cert.ProjIIdeal.main_arg6))
      ∧ θ_run (Cert.ProjIRefIdeal.defs (F := Ideal)) (onTc (τ := Cert.ProjIRefIdeal.τ) (Cert.ProjIRefIdeal.main (F := Ideal))) ⟨m', fun _ => 0, g'⟩ (fun r => ∀ c : Dev Cert.ProjIRefIdeal.nD,
          r.2.mem ((c.tc : Thread Cert.ProjIRefIdeal.nD Cert.ProjIRefIdeal.τ).loc Cert.ProjIRefIdeal.main_v0_0) = v0 c
          ∧ r.2.mem ((c.tc : Thread Cert.ProjIRefIdeal.nD Cert.ProjIRefIdeal.τ).loc Cert.ProjIRefIdeal.main_v0_1) = v1 c
          ∧ r.2.mem ((c.tc : Thread Cert.ProjIRefIdeal.nD Cert.ProjIRefIdeal.τ).loc Cert.ProjIRefIdeal.main_v0_2) = v2 c
          ∧ r.2.mem ((c.tc : Thread Cert.ProjIRefIdeal.nD Cert.ProjIRefIdeal.τ).loc Cert.ProjIRefIdeal.main_arg0) = m' ((c.tc : Thread Cert.ProjIRefIdeal.nD Cert.ProjIRefIdeal.τ).loc Cert.ProjIRefIdeal.main_arg0)
          ∧ r.2.mem ((c.tc : Thread Cert.ProjIRefIdeal.nD Cert.ProjIRefIdeal.τ).loc Cert.ProjIRefIdeal.main_arg1) = m' ((c.tc : Thread Cert.ProjIRefIdeal.nD Cert.ProjIRefIdeal.τ).loc Cert.ProjIRefIdeal.main_arg1)
          ∧ r.2.mem ((c.tc : Thread Cert.ProjIRefIdeal.nD Cert.ProjIRefIdeal.τ).loc Cert.ProjIRefIdeal.main_arg2) = m' ((c.tc : Thread Cert.ProjIRefIdeal.nD Cert.ProjIRefIdeal.τ).loc Cert.ProjIRefIdeal.main_arg2)
          ∧ r.2.mem ((c.tc : Thread Cert.ProjIRefIdeal.nD Cert.ProjIRefIdeal.τ).loc Cert.ProjIRefIdeal.main_arg3) = m' ((c.tc : Thread Cert.ProjIRefIdeal.nD Cert.ProjIRefIdeal.τ).loc Cert.ProjIRefIdeal.main_arg3)
          ∧ r.2.mem ((c.tc : Thread Cert.ProjIRefIdeal.nD Cert.ProjIRefIdeal.τ).loc Cert.ProjIRefIdeal.main_arg4) = m' ((c.tc : Thread Cert.ProjIRefIdeal.nD Cert.ProjIRefIdeal.τ).loc Cert.ProjIRefIdeal.main_arg4)
          ∧ r.2.mem ((c.tc : Thread Cert.ProjIRefIdeal.nD Cert.ProjIRefIdeal.τ).loc Cert.ProjIRefIdeal.main_arg5) = m' ((c.tc : Thread Cert.ProjIRefIdeal.nD Cert.ProjIRefIdeal.τ).loc Cert.ProjIRefIdeal.main_arg5)
          ∧ r.2.mem ((c.tc : Thread Cert.ProjIRefIdeal.nD Cert.ProjIRefIdeal.τ).loc Cert.ProjIRefIdeal.main_arg6) = m' ((c.tc : Thread Cert.ProjIRefIdeal.nD Cert.ProjIRefIdeal.τ).loc Cert.ProjIRefIdeal.main_arg6))

def preserves_MlpI_MlpIIdeal : Prop :=
  True

def algebraic_MlpIIdeal_MlpIRefIdeal [hMlpIIdeal : Cert.MlpIIdeal.Facts] [hMlpIRefIdeal : Cert.MlpIRefIdeal.Facts] : Prop :=
  ∀ (m : (ℓ : Loc Cert.MlpIIdeal.nD Cert.MlpIIdeal.τ Cert.MlpIIdeal.sig) → Buf (Elt Ideal) ℓ) (g : Dev Cert.MlpIIdeal.nD → PrngReg)
    (m' : (ℓ : Loc Cert.MlpIRefIdeal.nD Cert.MlpIRefIdeal.τ Cert.MlpIRefIdeal.sig) → Buf (Elt Ideal) ℓ) (g' : Dev Cert.MlpIRefIdeal.nD → PrngReg), Pre_MlpIIdeal m →
    (∀ c : Dev Cert.MlpIIdeal.nD,
      m' ((c.tc : Thread Cert.MlpIRefIdeal.nD Cert.MlpIRefIdeal.τ).loc Cert.MlpIRefIdeal.main_arg0) = m ((c.tc : Thread Cert.MlpIIdeal.nD Cert.MlpIIdeal.τ).loc Cert.MlpIIdeal.main_arg0)
      ∧ m' ((c.tc : Thread Cert.MlpIRefIdeal.nD Cert.MlpIRefIdeal.τ).loc Cert.MlpIRefIdeal.main_arg1) = m ((c.tc : Thread Cert.MlpIIdeal.nD Cert.MlpIIdeal.τ).loc Cert.MlpIIdeal.main_arg1)
      ∧ m' ((c.tc : Thread Cert.MlpIRefIdeal.nD Cert.MlpIRefIdeal.τ).loc Cert.MlpIRefIdeal.main_arg2) = m ((c.tc : Thread Cert.MlpIIdeal.nD Cert.MlpIIdeal.τ).loc Cert.MlpIIdeal.main_arg2)
      ∧ m' ((c.tc : Thread Cert.MlpIRefIdeal.nD Cert.MlpIRefIdeal.τ).loc Cert.MlpIRefIdeal.main_arg3) = m ((c.tc : Thread Cert.MlpIIdeal.nD Cert.MlpIIdeal.τ).loc Cert.MlpIIdeal.main_arg3)
      ∧ m' ((c.tc : Thread Cert.MlpIRefIdeal.nD Cert.MlpIRefIdeal.τ).loc Cert.MlpIRefIdeal.main_arg4) = m ((c.tc : Thread Cert.MlpIIdeal.nD Cert.MlpIIdeal.τ).loc Cert.MlpIIdeal.main_arg4)
      ∧ m' ((c.tc : Thread Cert.MlpIRefIdeal.nD Cert.MlpIRefIdeal.τ).loc Cert.MlpIRefIdeal.main_arg5) = m ((c.tc : Thread Cert.MlpIIdeal.nD Cert.MlpIIdeal.τ).loc Cert.MlpIIdeal.main_arg5)
      ∧ m' ((c.tc : Thread Cert.MlpIRefIdeal.nD Cert.MlpIRefIdeal.τ).loc Cert.MlpIRefIdeal.main_arg6) = m ((c.tc : Thread Cert.MlpIIdeal.nD Cert.MlpIIdeal.τ).loc Cert.MlpIIdeal.main_arg6)
      ∧ m' ((c.tc : Thread Cert.MlpIRefIdeal.nD Cert.MlpIRefIdeal.τ).loc Cert.MlpIRefIdeal.main_arg7) = m ((c.tc : Thread Cert.MlpIIdeal.nD Cert.MlpIIdeal.τ).loc Cert.MlpIIdeal.main_arg7)
      ∧ m' ((c.tc : Thread Cert.MlpIRefIdeal.nD Cert.MlpIRefIdeal.τ).loc Cert.MlpIRefIdeal.main_arg8) = m ((c.tc : Thread Cert.MlpIIdeal.nD Cert.MlpIIdeal.τ).loc Cert.MlpIIdeal.main_arg8)
      ∧ m' ((c.tc : Thread Cert.MlpIRefIdeal.nD Cert.MlpIRefIdeal.τ).loc Cert.MlpIRefIdeal.main_arg9) = m ((c.tc : Thread Cert.MlpIIdeal.nD Cert.MlpIIdeal.τ).loc Cert.MlpIIdeal.main_arg9)
      ∧ m' ((c.tc : Thread Cert.MlpIRefIdeal.nD Cert.MlpIRefIdeal.τ).loc Cert.MlpIRefIdeal.main_arg10) = m ((c.tc : Thread Cert.MlpIIdeal.nD Cert.MlpIIdeal.τ).loc Cert.MlpIIdeal.main_arg10)) →
    ∃ (v0 : (c : Dev Cert.MlpIIdeal.nD) → Buf (Elt Ideal) ((c.tc : Thread Cert.MlpIIdeal.nD Cert.MlpIIdeal.τ).loc Cert.MlpIIdeal.main_v4_0)) (v1 : (c : Dev Cert.MlpIIdeal.nD) → Buf (Elt Ideal) ((c.tc : Thread Cert.MlpIIdeal.nD Cert.MlpIIdeal.τ).loc Cert.MlpIIdeal.main_v4_1)) (v2 : (c : Dev Cert.MlpIIdeal.nD) → Buf (Elt Ideal) ((c.tc : Thread Cert.MlpIIdeal.nD Cert.MlpIIdeal.τ).loc Cert.MlpIIdeal.main_v4_2)),
      θ_run (Cert.MlpIIdeal.defs (F := Ideal)) (onTc (τ := Cert.MlpIIdeal.τ) (Cert.MlpIIdeal.main (F := Ideal))) ⟨m, fun _ => 0, g⟩ (fun r => ∀ c : Dev Cert.MlpIIdeal.nD,
          r.2.mem ((c.tc : Thread Cert.MlpIIdeal.nD Cert.MlpIIdeal.τ).loc Cert.MlpIIdeal.main_v4_0) = v0 c
          ∧ r.2.mem ((c.tc : Thread Cert.MlpIIdeal.nD Cert.MlpIIdeal.τ).loc Cert.MlpIIdeal.main_v4_1) = v1 c
          ∧ r.2.mem ((c.tc : Thread Cert.MlpIIdeal.nD Cert.MlpIIdeal.τ).loc Cert.MlpIIdeal.main_v4_2) = v2 c
          ∧ r.2.mem ((c.tc : Thread Cert.MlpIIdeal.nD Cert.MlpIIdeal.τ).loc Cert.MlpIIdeal.main_arg0) = m ((c.tc : Thread Cert.MlpIIdeal.nD Cert.MlpIIdeal.τ).loc Cert.MlpIIdeal.main_arg0)
          ∧ r.2.mem ((c.tc : Thread Cert.MlpIIdeal.nD Cert.MlpIIdeal.τ).loc Cert.MlpIIdeal.main_arg1) = m ((c.tc : Thread Cert.MlpIIdeal.nD Cert.MlpIIdeal.τ).loc Cert.MlpIIdeal.main_arg1)
          ∧ r.2.mem ((c.tc : Thread Cert.MlpIIdeal.nD Cert.MlpIIdeal.τ).loc Cert.MlpIIdeal.main_arg2) = m ((c.tc : Thread Cert.MlpIIdeal.nD Cert.MlpIIdeal.τ).loc Cert.MlpIIdeal.main_arg2)
          ∧ r.2.mem ((c.tc : Thread Cert.MlpIIdeal.nD Cert.MlpIIdeal.τ).loc Cert.MlpIIdeal.main_arg3) = m ((c.tc : Thread Cert.MlpIIdeal.nD Cert.MlpIIdeal.τ).loc Cert.MlpIIdeal.main_arg3)
          ∧ r.2.mem ((c.tc : Thread Cert.MlpIIdeal.nD Cert.MlpIIdeal.τ).loc Cert.MlpIIdeal.main_arg4) = m ((c.tc : Thread Cert.MlpIIdeal.nD Cert.MlpIIdeal.τ).loc Cert.MlpIIdeal.main_arg4)
          ∧ r.2.mem ((c.tc : Thread Cert.MlpIIdeal.nD Cert.MlpIIdeal.τ).loc Cert.MlpIIdeal.main_arg5) = m ((c.tc : Thread Cert.MlpIIdeal.nD Cert.MlpIIdeal.τ).loc Cert.MlpIIdeal.main_arg5)
          ∧ r.2.mem ((c.tc : Thread Cert.MlpIIdeal.nD Cert.MlpIIdeal.τ).loc Cert.MlpIIdeal.main_arg6) = m ((c.tc : Thread Cert.MlpIIdeal.nD Cert.MlpIIdeal.τ).loc Cert.MlpIIdeal.main_arg6)
          ∧ r.2.mem ((c.tc : Thread Cert.MlpIIdeal.nD Cert.MlpIIdeal.τ).loc Cert.MlpIIdeal.main_arg7) = m ((c.tc : Thread Cert.MlpIIdeal.nD Cert.MlpIIdeal.τ).loc Cert.MlpIIdeal.main_arg7)
          ∧ r.2.mem ((c.tc : Thread Cert.MlpIIdeal.nD Cert.MlpIIdeal.τ).loc Cert.MlpIIdeal.main_arg8) = m ((c.tc : Thread Cert.MlpIIdeal.nD Cert.MlpIIdeal.τ).loc Cert.MlpIIdeal.main_arg8)
          ∧ r.2.mem ((c.tc : Thread Cert.MlpIIdeal.nD Cert.MlpIIdeal.τ).loc Cert.MlpIIdeal.main_arg9) = m ((c.tc : Thread Cert.MlpIIdeal.nD Cert.MlpIIdeal.τ).loc Cert.MlpIIdeal.main_arg9)
          ∧ r.2.mem ((c.tc : Thread Cert.MlpIIdeal.nD Cert.MlpIIdeal.τ).loc Cert.MlpIIdeal.main_arg10) = m ((c.tc : Thread Cert.MlpIIdeal.nD Cert.MlpIIdeal.τ).loc Cert.MlpIIdeal.main_arg10))
      ∧ θ_run (Cert.MlpIRefIdeal.defs (F := Ideal)) (onTc (τ := Cert.MlpIRefIdeal.τ) (Cert.MlpIRefIdeal.main (F := Ideal))) ⟨m', fun _ => 0, g'⟩ (fun r => ∀ c : Dev Cert.MlpIRefIdeal.nD,
          r.2.mem ((c.tc : Thread Cert.MlpIRefIdeal.nD Cert.MlpIRefIdeal.τ).loc Cert.MlpIRefIdeal.main_v0_0) = v0 c
          ∧ r.2.mem ((c.tc : Thread Cert.MlpIRefIdeal.nD Cert.MlpIRefIdeal.τ).loc Cert.MlpIRefIdeal.main_v0_1) = v1 c
          ∧ r.2.mem ((c.tc : Thread Cert.MlpIRefIdeal.nD Cert.MlpIRefIdeal.τ).loc Cert.MlpIRefIdeal.main_v0_2) = v2 c
          ∧ r.2.mem ((c.tc : Thread Cert.MlpIRefIdeal.nD Cert.MlpIRefIdeal.τ).loc Cert.MlpIRefIdeal.main_arg0) = m' ((c.tc : Thread Cert.MlpIRefIdeal.nD Cert.MlpIRefIdeal.τ).loc Cert.MlpIRefIdeal.main_arg0)
          ∧ r.2.mem ((c.tc : Thread Cert.MlpIRefIdeal.nD Cert.MlpIRefIdeal.τ).loc Cert.MlpIRefIdeal.main_arg1) = m' ((c.tc : Thread Cert.MlpIRefIdeal.nD Cert.MlpIRefIdeal.τ).loc Cert.MlpIRefIdeal.main_arg1)
          ∧ r.2.mem ((c.tc : Thread Cert.MlpIRefIdeal.nD Cert.MlpIRefIdeal.τ).loc Cert.MlpIRefIdeal.main_arg2) = m' ((c.tc : Thread Cert.MlpIRefIdeal.nD Cert.MlpIRefIdeal.τ).loc Cert.MlpIRefIdeal.main_arg2)
          ∧ r.2.mem ((c.tc : Thread Cert.MlpIRefIdeal.nD Cert.MlpIRefIdeal.τ).loc Cert.MlpIRefIdeal.main_arg3) = m' ((c.tc : Thread Cert.MlpIRefIdeal.nD Cert.MlpIRefIdeal.τ).loc Cert.MlpIRefIdeal.main_arg3)
          ∧ r.2.mem ((c.tc : Thread Cert.MlpIRefIdeal.nD Cert.MlpIRefIdeal.τ).loc Cert.MlpIRefIdeal.main_arg4) = m' ((c.tc : Thread Cert.MlpIRefIdeal.nD Cert.MlpIRefIdeal.τ).loc Cert.MlpIRefIdeal.main_arg4)
          ∧ r.2.mem ((c.tc : Thread Cert.MlpIRefIdeal.nD Cert.MlpIRefIdeal.τ).loc Cert.MlpIRefIdeal.main_arg5) = m' ((c.tc : Thread Cert.MlpIRefIdeal.nD Cert.MlpIRefIdeal.τ).loc Cert.MlpIRefIdeal.main_arg5)
          ∧ r.2.mem ((c.tc : Thread Cert.MlpIRefIdeal.nD Cert.MlpIRefIdeal.τ).loc Cert.MlpIRefIdeal.main_arg6) = m' ((c.tc : Thread Cert.MlpIRefIdeal.nD Cert.MlpIRefIdeal.τ).loc Cert.MlpIRefIdeal.main_arg6)
          ∧ r.2.mem ((c.tc : Thread Cert.MlpIRefIdeal.nD Cert.MlpIRefIdeal.τ).loc Cert.MlpIRefIdeal.main_arg7) = m' ((c.tc : Thread Cert.MlpIRefIdeal.nD Cert.MlpIRefIdeal.τ).loc Cert.MlpIRefIdeal.main_arg7)
          ∧ r.2.mem ((c.tc : Thread Cert.MlpIRefIdeal.nD Cert.MlpIRefIdeal.τ).loc Cert.MlpIRefIdeal.main_arg8) = m' ((c.tc : Thread Cert.MlpIRefIdeal.nD Cert.MlpIRefIdeal.τ).loc Cert.MlpIRefIdeal.main_arg8)
          ∧ r.2.mem ((c.tc : Thread Cert.MlpIRefIdeal.nD Cert.MlpIRefIdeal.τ).loc Cert.MlpIRefIdeal.main_arg9) = m' ((c.tc : Thread Cert.MlpIRefIdeal.nD Cert.MlpIRefIdeal.τ).loc Cert.MlpIRefIdeal.main_arg9)
          ∧ r.2.mem ((c.tc : Thread Cert.MlpIRefIdeal.nD Cert.MlpIRefIdeal.τ).loc Cert.MlpIRefIdeal.main_arg10) = m' ((c.tc : Thread Cert.MlpIRefIdeal.nD Cert.MlpIRefIdeal.τ).loc Cert.MlpIRefIdeal.main_arg10))

def Claim : Prop :=
  ∃ (hMod : Cert.Mod.Facts) (hModIdeal : Cert.ModIdeal.Facts) (hModRefIdeal : Cert.ModRefIdeal.Facts) (hQkvT : Cert.QkvT.Facts) (hQkvTIdeal : Cert.QkvTIdeal.Facts) (hQkvTRefIdeal : Cert.QkvTRefIdeal.Facts) (hQkvI : Cert.QkvI.Facts) (hQkvIIdeal : Cert.QkvIIdeal.Facts) (hQkvIRefIdeal : Cert.QkvIRefIdeal.Facts) (hProjT : Cert.ProjT.Facts) (hProjTIdeal : Cert.ProjTIdeal.Facts) (hProjTRefIdeal : Cert.ProjTRefIdeal.Facts) (hProjI : Cert.ProjI.Facts) (hProjIIdeal : Cert.ProjIIdeal.Facts) (hProjIRefIdeal : Cert.ProjIRefIdeal.Facts) (hMlpI : Cert.MlpI.Facts) (hMlpIIdeal : Cert.MlpIIdeal.Facts) (hMlpIRefIdeal : Cert.MlpIRefIdeal.Facts),
    quiescent_Mod (hMod := hMod)
    ∧ quiescent_ModIdeal (hModIdeal := hModIdeal)
    ∧ quiescent_ModRefIdeal (hModRefIdeal := hModRefIdeal)
    ∧ quiescent_QkvT (hQkvT := hQkvT)
    ∧ quiescent_QkvTIdeal (hQkvTIdeal := hQkvTIdeal)
    ∧ quiescent_QkvTRefIdeal (hQkvTRefIdeal := hQkvTRefIdeal)
    ∧ quiescent_QkvI (hQkvI := hQkvI)
    ∧ quiescent_QkvIIdeal (hQkvIIdeal := hQkvIIdeal)
    ∧ quiescent_QkvIRefIdeal (hQkvIRefIdeal := hQkvIRefIdeal)
    ∧ quiescent_ProjT (hProjT := hProjT)
    ∧ quiescent_ProjTIdeal (hProjTIdeal := hProjTIdeal)
    ∧ quiescent_ProjTRefIdeal (hProjTRefIdeal := hProjTRefIdeal)
    ∧ quiescent_ProjI (hProjI := hProjI)
    ∧ quiescent_ProjIIdeal (hProjIIdeal := hProjIIdeal)
    ∧ quiescent_ProjIRefIdeal (hProjIRefIdeal := hProjIRefIdeal)
    ∧ quiescent_MlpI (hMlpI := hMlpI)
    ∧ quiescent_MlpIIdeal (hMlpIIdeal := hMlpIIdeal)
    ∧ quiescent_MlpIRefIdeal (hMlpIRefIdeal := hMlpIRefIdeal)
    ∧ preserves_Mod_ModIdeal
    ∧ algebraic_ModIdeal_ModRefIdeal (hModIdeal := hModIdeal) (hModRefIdeal := hModRefIdeal)
    ∧ preserves_QkvT_QkvTIdeal
    ∧ algebraic_QkvTIdeal_QkvTRefIdeal (hQkvTIdeal := hQkvTIdeal) (hQkvTRefIdeal := hQkvTRefIdeal)
    ∧ preserves_QkvI_QkvIIdeal
    ∧ algebraic_QkvIIdeal_QkvIRefIdeal (hQkvIIdeal := hQkvIIdeal) (hQkvIRefIdeal := hQkvIRefIdeal)
    ∧ preserves_ProjT_ProjTIdeal
    ∧ algebraic_ProjTIdeal_ProjTRefIdeal (hProjTIdeal := hProjTIdeal) (hProjTRefIdeal := hProjTRefIdeal)
    ∧ preserves_ProjI_ProjIIdeal
    ∧ algebraic_ProjIIdeal_ProjIRefIdeal (hProjIIdeal := hProjIIdeal) (hProjIRefIdeal := hProjIRefIdeal)
    ∧ preserves_MlpI_MlpIIdeal
    ∧ algebraic_MlpIIdeal_MlpIRefIdeal (hMlpIIdeal := hMlpIIdeal) (hMlpIRefIdeal := hMlpIRefIdeal)
-- ==== Mod.lean ====
abbrev S2x3072 : Shape := ⟨2, ![2, 3072]⟩
abbrev S3072x18432 : Shape := ⟨2, ![3072, 18432]⟩
abbrev S18432 : Shape := ⟨1, ![18432]⟩
abbrev S1x18432 : Shape := ⟨2, ![1, 18432]⟩
abbrev S2x18432 : Shape := ⟨2, ![2, 18432]⟩
abbrev S2x128 : Shape := ⟨2, ![2, 128]⟩
abbrev S3072x1024 : Shape := ⟨2, ![3072, 1024]⟩
abbrev S1x1024 : Shape := ⟨2, ![1, 1024]⟩
abbrev S2x1024 : Shape := ⟨2, ![2, 1024]⟩
abbrev S2 : Shape := ⟨1, ![2]⟩
abbrev S2x1 : Shape := ⟨2, ![2, 1]⟩
abbrev S14x3072 : Shape := ⟨2, ![14, 3072]⟩
abbrev S16x3072 : Shape := ⟨2, ![16, 3072]⟩
abbrev S16x1024 : Shape := ⟨2, ![16, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x3072, .f32⟩
  | .hbm, ⟨1, _⟩ => ⟨S3072x18432, .i8⟩
  | .hbm, ⟨2, _⟩ => ⟨S18432, .f32⟩
  | .hbm, ⟨3, _⟩ => ⟨S18432, .f32⟩
  | .hbm, ⟨4, _⟩ => ⟨S1x18432, .f32⟩
  | .hbm, ⟨5, _⟩ => ⟨S1x18432, .f32⟩
  | .hbm, ⟨6, _⟩ => ⟨S2x18432, .f32⟩
  | .hbm, ⟨7, _⟩ => ⟨S2x3072, .i32⟩
  | .hbm, ⟨8, _⟩ => ⟨S2x128, .f32⟩
  | .local _ .vmem, ⟨0, _⟩ => ⟨S2x3072, .f32⟩
  | .local _ .vmem, ⟨1, _⟩ => ⟨S3072x1024, .i8⟩
  | .local _ .vmem, ⟨2, _⟩ => ⟨S3072x1024, .i8⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2x1024, .f32⟩
  | .local _ .vmem, ⟨8, _⟩ => ⟨S2x1024, .f32⟩
  | .local _ .vmem, ⟨9, _⟩ => ⟨S2x3072, .i32⟩
  | .local _ .vmem, ⟨10, _⟩ => ⟨S2x128, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_6 : BitVec 32 := 0#32
  let v21 : BitVec 1 := Scalar.cmpi .ne v20 c0_i32_6
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x3072 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ModRefIdeal.lean ====
abbrev S2x3072 : Shape := ⟨2, ![2, 3072]⟩
abbrev S3072x18432 : Shape := ⟨2, ![3072, 18432]⟩
abbrev S18432 : Shape := ⟨1, ![18432]⟩
abbrev S2x18432 : Shape := ⟨2, ![2, 18432]⟩
abbrev S2x128 : Shape := ⟨2, ![2, 128]⟩
abbrev S2 : Shape := ⟨1, ![2]⟩
abbrev S2x1 : Shape := ⟨2, ![2, 1]⟩
abbrev S1x18432 : Shape := ⟨2, ![1, 18432]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S3072x18432, .i8⟩
  | .hbm, ⟨2, _⟩ => ⟨S18432, .f32⟩
  | .hbm, ⟨3, _⟩ => ⟨S18432, .f32⟩
  | .hbm, ⟨4, _⟩ => ⟨S2x18432, .f32⟩
  | .hbm, ⟨5, _⟩ => ⟨S2x3072, .i32⟩
  | .hbm, ⟨6, _⟩ => ⟨S2x128, .f32⟩
  | .local _ .vmem, ⟨0, _⟩ => ⟨S2x3072, .f32⟩
  | .local _ .vmem, ⟨1, _⟩ => ⟨S3072x18432, .i8⟩
  | .local _ .vmem, ⟨2, _⟩ => ⟨S18432, .f32⟩
  | .local _ .vmem, ⟨3, _⟩ => ⟨S18432, .f32⟩
  | .local _ .vmem, ⟨4, _⟩ => ⟨S2x18432, .f32⟩
  | .local _ .vmem, ⟨5, _⟩ => ⟨S2x3072, .i32⟩
  | .local _ .vmem, ⟨6, _⟩ => ⟨S2x128, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x18432 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QkvT.lean ====
abbrev S2x512x3072 : Shape := ⟨3, ![2, 512, 3072]⟩
abbrev S2x18432 : Shape := ⟨2, ![2, 18432]⟩
abbrev S3072x9216 : Shape := ⟨2, ![3072, 9216]⟩
abbrev S9216 : Shape := ⟨1, ![9216]⟩
abbrev S128 : Shape := ⟨1, ![128]⟩
abbrev S1024x3072 : Shape := ⟨2, ![1024, 3072]⟩
abbrev S1x9216 : Shape := ⟨2, ![1, 9216]⟩
abbrev S1x128 : Shape := ⟨2, ![1, 128]⟩
abbrev S2x512 : Shape := ⟨2, ![2, 512]⟩
abbrev S1024x9216 : Shape := ⟨2, ![1024, 9216]⟩
abbrev S512x3072 : Shape := ⟨2, ![512, 3072]⟩
abbrev S2x3072 : Shape := ⟨2, ![2, 3072]⟩
abbrev S3072x512 : Shape := ⟨2, ![3072, 512]⟩
abbrev S1x512 : Shape := ⟨2, ![1, 512]⟩
abbrev S512x512 : Shape := ⟨2, ![512, 512]⟩
abbrev S512x128 : Shape := ⟨2, ![512, 128]⟩
abbrev S1x3072 : Shape := ⟨2, ![1, 3072]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S128x512 : Shape := ⟨2, ![128, 512]⟩
abbrev S512x1 : Shape := ⟨2, ![512, 1]⟩
abbrev S512 : Shape := ⟨1, ![512]⟩

abbrev nBuf : Space → Nat
  | .hbm => 15
  | .vmem => 18
  | .smem => 0
  | _ => 0

abbrev bufTy : (tb : Table) → Fin (tcTables nBuf tb) → BufTy
  | .hbm, ⟨0, _⟩ => ⟨S2x512x3072, .bf16⟩
  | .hbm, ⟨1, _⟩ => ⟨S2x18432, .f32⟩
  | .hbm, ⟨2, _⟩ => ⟨S3072x9216, .i8⟩
  | .hbm, ⟨3, _⟩ => ⟨S9216, .f32⟩
  | .hbm, ⟨4, _⟩ => ⟨S9216, .f32⟩
  | .hbm, ⟨5, _⟩ => ⟨S128, .f32⟩
  | .hbm, ⟨6, _⟩ => ⟨S128, .f32⟩
  | .hbm, ⟨7, _⟩ => ⟨S1024x3072, .bf16⟩
  | .hbm, ⟨8, _⟩ => ⟨S1x9216, .f32⟩
  | .hbm, ⟨9, _⟩ => ⟨S1x9216, .f32⟩
  | .hbm, ⟨10, _⟩ => ⟨S1x128, .f32⟩
  | .hbm, ⟨11, _⟩ => ⟨S1x128, .f32⟩
  | .hbm, ⟨12, _⟩ => ⟨S1024x3072, .i8⟩
  | .hbm, ⟨13, _⟩ => ⟨S2x512, .f32⟩
  | .hbm, ⟨14, _⟩ => ⟨S1024x9216, .bf16⟩
  | .local _ .vmem, ⟨0, _⟩ => ⟨S512x3072, .bf16⟩
  | .local _ .vmem, ⟨1, _⟩ => ⟨S512x3072, .bf16⟩
  | .local _ .vmem, ⟨2, _⟩ => ⟨S2x3072, .f32⟩
  | .local _ .vmem, ⟨3, _⟩ => ⟨S2x3072, .f32⟩
  | .local _ .vmem, ⟨4, _⟩ => ⟨S3072x512, .i8⟩
  | .local _ .vmem, ⟨5, _⟩ => ⟨S3072x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x128, .f32⟩
  | .local _ .vmem, ⟨12, _⟩ => ⟨S512x3072, .i8⟩
  | .local _ .vmem, ⟨13, _⟩ => ⟨S512x3072, .i8⟩
  | .local _ .vmem, ⟨14, _⟩ => ⟨S2x512, .f32⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1_i32 : BitVec 32 := 1#32
  let v26 : BitVec 32 := Scalar.muli arg0 c1_i32
  let c0_i32_13 : BitVec 32 := 0#32
  let v27 : BitVec 32 := Scalar.addi v26 c0_i32_13
  let v28 : Index := Scalar.indexCast v27
  let c0_14 : Index := 0#32
  ![v28.toNat, 0]
@[reducible] def k0_t1_loop : Scf.Loop 32 :=
  let c0_i32_17 : BitVec 32 := 0#32
  let c16_i32 : BitVec 32 := 16#32
  let v34 : BitVec 32 := Scalar.addi c0_i32_17 c16_i32
  let c1_i32_18 : BitVec 32 := 1#32
  ⟨c0_i32_17, v34, c1_i32_18⟩
def k0_off2 (k0_t1 : Fin k0_t1_loop.trips) : Fin 2 → Nat :=
  let c0_i32_23 : BitVec 32 := 0#32
  let c0_i32_17 : BitVec 32 := 0#32
  let c1_i32_18 : BitVec 32 := 1#32
  let arg14 : BitVec 32 := Scf.iv c0_i32_17 c1_i32_18 k0_t1
  let c32_i32 : BitVec 32 := 32#32
  let v40 : BitVec 32 := Scalar.muli arg14 c32_i32
  let v41 : BitVec 32 := Scalar.addi c0_i32_23 v40
  let v42 : Index := Scalar.indexCast v41
  let c0_24 : Index := 0#32
  ![v42.toNat, 0]
def k0_off3 (k0_t1 : Fin k0_t1_loop.trips) : Fin 2 → Nat :=
  let c0_i32_23 : BitVec 32 := 0#32
  let c0_i32_17 : BitVec 32 := 0#32
  let c1_i32_18 : BitVec 32 := 1#32
  let arg14 : BitVec 32 := Scf.iv c0_i32_17 c1_i32_18 k0_t1
  let c32_i32 : BitVec 32 := 32#32
  let v40 : BitVec 32 := Scalar.muli arg14 c32_i32
  let v41 : BitVec 32 := Scalar.addi c0_i32_23 v40
  let v87 : Index := Scalar.indexCast v41
  let c0_37 : Index := 0#32
  ![v87.toNat, 0]
def k0_off4 (i : grid0.Coords) : Fin 2 → Nat :=
  let arg0 : BitVec 32 := BitVec.ofNat 32 (i 0).val
  let c1_i32 : BitVec 32 := 1#32
  let v26 : BitVec 32 := Scalar.muli arg0 c1_i32
  let c0_i32_13 : BitVec 32 := 0#32
  let v27 : BitVec 32 := Scalar.addi v26 c0_i32_13
  let v38 : Index := Scalar.indexCast v27
  let c0_22 : Index := 0#32
  ![v38.toNat, 0]
def k0_cond2 (i : grid0.Coords) : BitVec 1 :=
  let arg1 : BitVec 32 := BitVec.ofNat 32 (i 1).val
  let c12_i32 : BitVec 32 := 12#32
  let v20 : BitVec 1 := Scalar.cmpi .slt arg1 c12_i32
  let v21 : BitVec 32 := Scalar.extui v20
  let c0_i32_10 : BitVec 32 := 0#32
  let v22 : BitVec 1 := Scalar.cmpi .ne v21 c0_i32_10
  v22

def k0_cond3 (i : grid0.Coords) : BitVec 1 :=
  let arg1 : BitVec 32 := BitVec.ofNat 32 (i 1).val
  let c12_i32_11 : BitVec 32 := 12#32
  let v23 : BitVec 1 := Scalar.cmpi .sge arg1 c12_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x3072 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvTIdeal.lean ====
abbrev S2x512x3072 : Shape := ⟨3, ![2, 512, 3072]⟩
abbrev S2x18432 : Shape := ⟨2, ![2, 18432]⟩
abbrev S3072x9216 : Shape := ⟨2, ![3072, 9216]⟩
abbrev S9216 : Shape := ⟨1, ![9216]⟩
abbrev S128 : Shape := ⟨1, ![128]⟩
abbrev S1024x3072 : Shape := ⟨2, ![1024, 3072]⟩
abbrev S1x9216 : Shape := ⟨2, ![1, 9216]⟩
abbrev S1x128 : Shape := ⟨2, ![1, 128]⟩
abbrev S2x512 : Shape := ⟨2, ![2, 512]⟩
abbrev S1024x9216 : Shape := ⟨2, ![1024, 9216]⟩
abbrev S512x3072 : Shape := ⟨2, ![512, 3072]⟩
abbrev S2x3072 : Shape := ⟨2, ![2, 3072]⟩
abbrev S3072x512 : Shape := ⟨2, ![3072, 512]⟩
abbrev S1x512 : Shape := ⟨2, ![1, 512]⟩
abbrev S512x512 : Shape := ⟨2, ![512, 512]⟩
abbrev S512x128 : Shape := ⟨2, ![512, 128]⟩
abbrev S1x3072 : Shape := ⟨2, ![1, 3072]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S128x512 : Shape := ⟨2, ![128, 512]⟩
abbrev S512x1 : Shape := ⟨2, ![512, 1]⟩
abbrev S512 : Shape := ⟨1, ![512]⟩

abbrev nBuf : Space → Nat
  | .hbm => 15
  | .vmem => 18
  | .smem => 0
  | _ => 0

abbrev bufTy : (tb : Table) → Fin (tcTables nBuf tb) → BufTy
  | .hbm, ⟨0, _⟩ => ⟨S2x512x3072, .bf16⟩
  | .hbm, ⟨1, _⟩ => ⟨S2x18432, .f32⟩
  | .hbm, ⟨2, _⟩ => ⟨S3072x9216, .i8⟩
  | .hbm, ⟨3, _⟩ => ⟨S9216, .f32⟩
  | .hbm, ⟨4, _⟩ => ⟨S9216, .f32⟩
  | .hbm, ⟨5, _⟩ => ⟨S128, .f32⟩
  | .hbm, ⟨6, _⟩ => ⟨S128, .f32⟩
  | .hbm, ⟨7, _⟩ => ⟨S1024x3072, .bf16⟩
  | .hbm, ⟨8, _⟩ => ⟨S1x9216, .f32⟩
  | .hbm, ⟨9, _⟩ => ⟨S1x9216, .f32⟩
  | .hbm, ⟨10, _⟩ => ⟨S1x128, .f32⟩
  | .hbm, ⟨11, _⟩ => ⟨S1x128, .f32⟩
  | .hbm, ⟨12, _⟩ => ⟨S1024x3072, .i8⟩
  | .hbm, ⟨13, _⟩ => ⟨S2x512, .f32⟩
  | .hbm, ⟨14, _⟩ => ⟨S1024x9216, .bf16⟩
  | .local _ .vmem, ⟨0, _⟩ => ⟨S512x3072, .bf16⟩
  | .local _ .vmem, ⟨1, _⟩ => ⟨S512x3072, .bf16⟩
  | .local _ .vmem, ⟨2, _⟩ => ⟨S2x3072, .f32⟩
  | .local _ .vmem, ⟨3, _⟩ => ⟨S2x3072, .f32⟩
  | .local _ .vmem, ⟨4, _⟩ => ⟨S3072x512, .i8⟩
  | .local _ .vmem, ⟨5, _⟩ => ⟨S3072x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x128, .f32⟩
  | .local _ .vmem, ⟨12, _⟩ => ⟨S512x3072, .i8⟩
  | .local _ .vmem, ⟨13, _⟩ => ⟨S512x3072, .i8⟩
  | .local _ .vmem, ⟨14, _⟩ => ⟨S2x512, .f32⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1_i32 : BitVec 32 := 1#32
  let v26 : BitVec 32 := Scalar.muli arg0 c1_i32
  let c0_i32_13 : BitVec 32 := 0#32
  let v27 : BitVec 32 := Scalar.addi v26 c0_i32_13
  let v28 : Index := Scalar.indexCast v27
  let c0_14 : Index := 0#32
  ![v28.toNat, 0]
@[reducible] def k0_t1_loop : Scf.Loop 32 :=
  let c0_i32_17 : BitVec 32 := 0#32
  let c16_i32 : BitVec 32 := 16#32
  let v34 : BitVec 32 := Scalar.addi c0_i32_17 c16_i32
  let c1_i32_18 : BitVec 32 := 1#32
  ⟨c0_i32_17, v34, c1_i32_18⟩
def k0_off2 (k0_t1 : Fin k0_t1_loop.trips) : Fin 2 → Nat :=
  let c0_i32_23 : BitVec 32 := 0#32
  let c0_i32_17 : BitVec 32 := 0#32
  let c1_i32_18 : BitVec 32 := 1#32
  let arg14 : BitVec 32 := Scf.iv c0_i32_17 c1_i32_18 k0_t1
  let c32_i32 : BitVec 32 := 32#32
  let v40 : BitVec 32 := Scalar.muli arg14 c32_i32
  let v41 : BitVec 32 := Scalar.addi c0_i32_23 v40
  let v42 : Index := Scalar.indexCast v41
  let c0_24 : Index := 0#32
  ![v42.toNat, 0]
def k0_off3 (k0_t1 : Fin k0_t1_loop.trips) : Fin 2 → Nat :=
  let c0_i32_23 : BitVec 32 := 0#32
  let c0_i32_17 : BitVec 32 := 0#32
  let c1_i32_18 : BitVec 32 := 1#32
  let arg14 : BitVec 32 := Scf.iv c0_i32_17 c1_i32_18 k0_t1
  let c32_i32 : BitVec 32 := 32#32
  let v40 : BitVec 32 := Scalar.muli arg14 c32_i32
  let v41 : BitVec 32 := Scalar.addi c0_i32_23 v40
  let v87 : Index := Scalar.indexCast v41
  let c0_37 : Index := 0#32
  ![v87.toNat, 0]
def k0_off4 (i : grid0.Coords) : Fin 2 → Nat :=
  let arg0 : BitVec 32 := BitVec.ofNat 32 (i 0).val
  let c1_i32 : BitVec 32 := 1#32
  let v26 : BitVec 32 := Scalar.muli arg0 c1_i32
  let c0_i32_13 : BitVec 32 := 0#32
  let v27 : BitVec 32 := Scalar.addi v26 c0_i32_13
  let v38 : Index := Scalar.indexCast v27
  let c0_22 : Index := 0#32
  ![v38.toNat, 0]
def k0_cond2 (i : grid0.Coords) : BitVec 1 :=
  let arg1 : BitVec 32 := BitVec.ofNat 32 (i 1).val
  let c12_i32 : BitVec 32 := 12#32
  let v20 : BitVec 1 := Scalar.cmpi .slt arg1 c12_i32
  let v21 : BitVec 32 := Scalar.extui v20
  let c0_i32_10 : BitVec 32 := 0#32
  let v22 : BitVec 1 := Scalar.cmpi .ne v21 c0_i32_10
  v22

def k0_cond3 (i : grid0.Coords) : BitVec 1 :=
  let arg1 : BitVec 32 := BitVec.ofNat 32 (i 1).val
  let c12_i32_11 : BitVec 32 := 12#32
  let v23 : BitVec 1 := Scalar.cmpi .sge arg1 c12_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x3072 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvTRefIdeal.lean ====
abbrev S2x512x3072 : Shape := ⟨3, ![2, 512, 3072]⟩
abbrev S2x18432 : Shape := ⟨2, ![2, 18432]⟩
abbrev S3072x9216 : Shape := ⟨2, ![3072, 9216]⟩
abbrev S9216 : Shape := ⟨1, ![9216]⟩
abbrev S128 : Shape := ⟨1, ![128]⟩
abbrev S1024x3072 : Shape := ⟨2, ![1024, 3072]⟩
abbrev S2x512 : Shape := ⟨2, ![2, 512]⟩
abbrev S1024x9216 : Shape := ⟨2, ![1024, 9216]⟩
abbrev S2x3072 : Shape := ⟨2, ![2, 3072]⟩
abbrev S2x1x3072 : Shape := ⟨3, ![2, 1, 3072]⟩
abbrev S2x512x1 : Shape := ⟨3, ![2, 512, 1]⟩
abbrev S1024 : Shape := ⟨1, ![1024]⟩
abbrev S1024x1 : Shape := ⟨2, ![1024, 1]⟩
abbrev S1x9216 : Shape := ⟨2, ![1, 9216]⟩
abbrev S1024x24x128 : Shape := ⟨3, ![1024, 24, 128]⟩
abbrev S1024x24 : Shape := ⟨2, ![1024, 24]⟩
abbrev S1024x24x1 : Shape := ⟨3, ![1024, 24, 1]⟩
abbrev S1x1x128 : Shape := ⟨3, ![1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x512x3072, .bf16⟩
  | .hbm, ⟨1, _⟩ => ⟨S2x18432, .f32⟩
  | .hbm, ⟨2, _⟩ => ⟨S3072x9216, .i8⟩
  | .hbm, ⟨3, _⟩ => ⟨S9216, .f32⟩
  | .hbm, ⟨4, _⟩ => ⟨S9216, .f32⟩
  | .hbm, ⟨5, _⟩ => ⟨S128, .f32⟩
  | .hbm, ⟨6, _⟩ => ⟨S128, .f32⟩
  | .hbm, ⟨7, _⟩ => ⟨S1024x3072, .i8⟩
  | .hbm, ⟨8, _⟩ => ⟨S2x512, .f32⟩
  | .hbm, ⟨9, _⟩ => ⟨S1024x9216, .bf16⟩
  | .local _ .vmem, ⟨0, _⟩ => ⟨S2x512x3072, .bf16⟩
  | .local _ .vmem, ⟨1, _⟩ => ⟨S2x18432, .f32⟩
  | .local _ .vmem, ⟨2, _⟩ => ⟨S3072x9216, .i8⟩
  | .local _ .vmem, ⟨3, _⟩ => ⟨S9216, .f32⟩
  | .local _ .vmem, ⟨4, _⟩ => ⟨S9216, .f32⟩
  | .local _ .vmem, ⟨5, _⟩ => ⟨S128, .f32⟩
  | .local _ .vmem, ⟨6, _⟩ => ⟨S128, .f32⟩
  | .local _ .vmem, ⟨7, _⟩ => ⟨S1024x3072, .i8⟩
  | .local _ .vmem, ⟨8, _⟩ => ⟨S2x512, .f32⟩
  | .local _ .vmem, ⟨9, _⟩ => ⟨S1024x9216, .bf16⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x512x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x9216 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== QkvI.lean ====
abbrev S2x256x3072 : Shape := ⟨3, ![2, 256, 3072]⟩
abbrev S2x18432 : Shape := ⟨2, ![2, 18432]⟩
abbrev S3072x9216 : Shape := ⟨2, ![3072, 9216]⟩
abbrev S9216 : Shape := ⟨1, ![9216]⟩
abbrev S128 : Shape := ⟨1, ![128]⟩
abbrev S512x3072 : Shape := ⟨2, ![512, 3072]⟩
abbrev S1x9216 : Shape := ⟨2, ![1, 9216]⟩
abbrev S1x128 : Shape := ⟨2, ![1, 128]⟩
abbrev S2x256 : Shape := ⟨2, ![2, 256]⟩
abbrev S512x9216 : Shape := ⟨2, ![512, 9216]⟩
abbrev S2x3072 : Shape := ⟨2, ![2, 3072]⟩
abbrev S3072x512 : Shape := ⟨2, ![3072, 512]⟩
abbrev S1x512 : Shape := ⟨2, ![1, 512]⟩
abbrev S512x512 : Shape := ⟨2, ![512, 512]⟩
abbrev S512x128 : Shape := ⟨2, ![512, 128]⟩
abbrev S1x3072 : Shape := ⟨2, ![1, 3072]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S256x128 : Shape := ⟨2, ![256, 128]⟩
abbrev S128x256 : Shape := ⟨2, ![128, 256]⟩
abbrev S1x256 : Shape := ⟨2, ![1, 256]⟩
abbrev S512x1 : Shape := ⟨2, ![512, 1]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S2x256x3072, .bf16⟩
  | .hbm, ⟨1, _⟩ => ⟨S2x18432, .f32⟩
  | .hbm, ⟨2, _⟩ => ⟨S3072x9216, .i8⟩
  | .hbm, ⟨3, _⟩ => ⟨S9216, .f32⟩
  | .hbm, ⟨4, _⟩ => ⟨S9216, .f32⟩
  | .hbm, ⟨5, _⟩ => ⟨S128, .f32⟩
  | .hbm, ⟨6, _⟩ => ⟨S128, .f32⟩
  | .hbm, ⟨7, _⟩ => ⟨S512x3072, .bf16⟩
  | .hbm, ⟨8, _⟩ => ⟨S1x9216, .f32⟩
  | .hbm, ⟨9, _⟩ => ⟨S1x9216, .f32⟩
  | .hbm, ⟨10, _⟩ => ⟨S1x128, .f32⟩
  | .hbm, ⟨11, _⟩ => ⟨S1x128, .f32⟩
  | .hbm, ⟨12, _⟩ => ⟨S512x3072, .i8⟩
  | .hbm, ⟨13, _⟩ => ⟨S2x256, .f32⟩
  | .hbm, ⟨14, _⟩ => ⟨S512x9216, .bf16⟩
  | .local _ .vmem, ⟨0, _⟩ => ⟨S512x3072, .bf16⟩
  | .local _ .vmem, ⟨1, _⟩ => ⟨S2x3072, .f32⟩
  | .local _ .vmem, ⟨2, _⟩ => ⟨S2x3072, .f32⟩
  | .local _ .vmem, ⟨3, _⟩ => ⟨S3072x512, .i8⟩
  | .local _ .vmem, ⟨4, _⟩ => ⟨S3072x512, .i8⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x128, .f32⟩
  | .local _ .vmem, ⟨10, _⟩ => ⟨S1x128, .f32⟩
  | .local _ .vmem, ⟨11, _⟩ => ⟨S512x3072, .i8⟩
  | .local _ .vmem, ⟨12, _⟩ => ⟨S2x256, .f32⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | _, _ => ⟨S2x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![1, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_13 : BitVec 32) : Fin 2 → Nat :=
  let arg0 : BitVec 32 := BitVec.ofNat 32 (i 0).val
  let c2_i32 : BitVec 32 := 2#32
  let v26 : BitVec 32 := Scalar.muli arg0 c2_i32
  let v27 : BitVec 32 := Scalar.addi v26 c0_i32_13
  let v28 : Index := Scalar.indexCast v27
  let c0_14 : Index := 0#32
  ![v28.toNat, 0]
@[reducible] def k0_t1_loop : Scf.Loop 32 :=
  let c0_i32_17 : BitVec 32 := 0#32
  let c8_i32 : BitVec 32 := 8#32
  let v34 : BitVec 32 := Scalar.addi c0_i32_17 c8_i32
  let c1_i32 : BitVec 32 := 1#32
  ⟨c0_i32_17, v34, c1_i32⟩
def k0_off2 (k0_t1 : Fin k0_t1_loop.trips) : Fin 2 → Nat :=
  let c0_i32_33 : BitVec 32 := 0#32
  let c0_i32_17 : BitVec 32 := 0#32
  let c1_i32 : BitVec 32 := 1#32
  let arg14 : BitVec 32 := Scf.iv c0_i32_17 c1_i32 k0_t1
  let c32_i32 : BitVec 32 := 32#32
  let v54 : BitVec 32 := Scalar.muli arg14 c32_i32
  let v55 : BitVec 32 := Scalar.addi c0_i32_33 v54
  let v56 : Index := Scalar.indexCast v55
  let c0_34 : Index := 0#32
  ![v56.toNat, 0]
def k0_off3 (k0_t1 : Fin k0_t1_loop.trips) : Fin 2 → Nat :=
  let c0_i32_33 : BitVec 32 := 0#32
  let c0_i32_17 : BitVec 32 := 0#32
  let c1_i32 : BitVec 32 := 1#32
  let arg14 : BitVec 32 := Scf.iv c0_i32_17 c1_i32 k0_t1
  let c32_i32 : BitVec 32 := 32#32
  let v54 : BitVec 32 := Scalar.muli arg14 c32_i32
  let v55 : BitVec 32 := Scalar.addi c0_i32_33 v54
  let v101 : Index := Scalar.indexCast v55
  let c0_47 : Index := 0#32
  ![v101.toNat, 0]
def k0_off4 (i : grid0.Coords) (c0_i32_13 : BitVec 32) : Fin 2 → Nat :=
  let arg0 : BitVec 32 := BitVec.ofNat 32 (i 0).val
  let c2_i32 : BitVec 32 := 2#32
  let v26 : BitVec 32 := Scalar.muli arg0 c2_i32
  let v27 : BitVec 32 := Scalar.addi v26 c0_i32_13
  let v38 : Index := Scalar.indexCast v27
  let c0_21 : Index := 0#32
  ![v38.toNat, 0]
@[reducible] def k0_t2_loop : Scf.Loop 32 :=
  let c0_i32_27 : BitVec 32 := 0#32
  let c8_i32_28 : BitVec 32 := 8#32
  let v48 : BitVec 32 := Scalar.addi c0_i32_27 c8_i32_28
  let c1_i32_29 : BitVec 32 := 1#32
  ⟨c0_i32_27, v48, c1_i32_29⟩
def k0_off5 (k0_t2 : Fin k0_t2_loop.trips) : Fin 2 → Nat :=
  let c256_i32 : BitVec 32 := 256#32
  let c0_i32_27 : BitVec 32 := 0#32
  let c1_i32_29 : BitVec 32 := 1#32
  let arg14 : BitVec 32 := Scf.iv c0_i32_27 c1_i32_29 k0_t2
  let c32_i32 : BitVec 32 := 32#32
  let v54 : BitVec 32 := Scalar.muli arg14 c32_i32
  let v55 : BitVec 32 := Scalar.addi c256_i32 v54
  let v56 : Index := Scalar.indexCast v55
  let c0_33 : Index := 0#32
  ![v56.toNat, 0]
def k0_off6 (k0_t2 : Fin k0_t2_loop.trips) : Fin 2 → Nat :=
  let c256_i32 : BitVec 32 := 256#32
  let c0_i32_27 : BitVec 32 := 0#32
  let c1_i32_29 : BitVec 32 := 1#32
  let arg14 : BitVec 32 := Scf.iv c0_i32_27 c1_i32_29 k0_t2
  let c32_i32 : BitVec 32 := 32#32
  let v54 : BitVec 32 := Scalar.muli arg14 c32_i32
  let v55 : BitVec 32 := Scalar.addi c256_i32 v54
  let v101 : Index := Scalar.indexCast v55
  let c0_46 : Index := 0#32
  ![v101.toNat, 0]
def k0_cond2 (i : grid0.Coords) : BitVec 1 :=
  let arg1 : BitVec 32 := BitVec.ofNat 32 (i 1).val
  let c12_i32 : BitVec 32 := 12#32
  let v20 : BitVec 1 := Scalar.cmpi .slt arg1 c12_i32
  let v21 : BitVec 32 := Scalar.extui v20
  let c0_i32_10 : BitVec 32 := 0#32
  let v22 : BitVec 1 := Scalar.cmpi .ne v21 c0_i32_10
  v22

def k0_cond3 (i : grid0.Coords) : BitVec 1 :=
  let arg1 : BitVec 32 := BitVec.ofNat 32 (i 1).val
  let c12_i32_11 : BitVec 32 := 12#32
  let v23 : BitVec 1 := Scalar.cmpi .sge arg1 c12_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x3072 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvIRefIdeal.lean ====
abbrev S2x256x3072 : Shape := ⟨3, ![2, 256, 3072]⟩
abbrev S2x18432 : Shape := ⟨2, ![2, 18432]⟩
abbrev S3072x9216 : Shape := ⟨2, ![3072, 9216]⟩
abbrev S9216 : Shape := ⟨1, ![9216]⟩
abbrev S128 : Shape := ⟨1, ![128]⟩
abbrev S512x3072 : Shape := ⟨2, ![512, 3072]⟩
abbrev S2x256 : Shape := ⟨2, ![2, 256]⟩
abbrev S512x9216 : Shape := ⟨2, ![512, 9216]⟩
abbrev S2x3072 : Shape := ⟨2, ![2, 3072]⟩
abbrev S2x1x3072 : Shape := ⟨3, ![2, 1, 3072]⟩
abbrev S2x256x1 : Shape := ⟨3, ![2, 256, 1]⟩
abbrev S512 : Shape := ⟨1, ![512]⟩
abbrev S512x1 : Shape := ⟨2, ![512, 1]⟩
abbrev S1x9216 : Shape := ⟨2, ![1, 9216]⟩
abbrev S512x24x128 : Shape := ⟨3, ![512, 24, 128]⟩
abbrev S512x24 : Shape := ⟨2, ![512, 24]⟩
abbrev S512x24x1 : Shape := ⟨3, ![512, 24, 1]⟩
abbrev S1x1x128 : Shape := ⟨3, ![1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x256x3072, .bf16⟩
  | .hbm, ⟨1, _⟩ => ⟨S2x18432, .f32⟩
  | .hbm, ⟨2, _⟩ => ⟨S3072x9216, .i8⟩
  | .hbm, ⟨3, _⟩ => ⟨S9216, .f32⟩
  | .hbm, ⟨4, _⟩ => ⟨S9216, .f32⟩
  | .hbm, ⟨5, _⟩ => ⟨S128, .f32⟩
  | .hbm, ⟨6, _⟩ => ⟨S128, .f32⟩
  | .hbm, ⟨7, _⟩ => ⟨S512x3072, .i8⟩
  | .hbm, ⟨8, _⟩ => ⟨S2x256, .f32⟩
  | .hbm, ⟨9, _⟩ => ⟨S512x9216, .bf16⟩
  | .local _ .vmem, ⟨0, _⟩ => ⟨S2x256x3072, .bf16⟩
  | .local _ .vmem, ⟨1, _⟩ => ⟨S2x18432, .f32⟩
  | .local _ .vmem, ⟨2, _⟩ => ⟨S3072x9216, .i8⟩
  | .local _ .vmem, ⟨3, _⟩ => ⟨S9216, .f32⟩
  | .local _ .vmem, ⟨4, _⟩ => ⟨S9216, .f32⟩
  | .local _ .vmem, ⟨5, _⟩ => ⟨S128, .f32⟩
  | .local _ .vmem, ⟨6, _⟩ => ⟨S128, .f32⟩
  | .local _ .vmem, ⟨7, _⟩ => ⟨S512x3072, .i8⟩
  | .local _ .vmem, ⟨8, _⟩ => ⟨S2x256, .f32⟩
  | .local _ .vmem, ⟨9, _⟩ => ⟨S512x9216, .bf16⟩
  | _, _ => ⟨S2x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x9216 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ProjT.lean ====
abbrev S1024x3072 : Shape := ⟨2, ![1024, 3072]⟩
abbrev S2x512 : Shape := ⟨2, ![2, 512]⟩
abbrev S2x512x3072 : Shape := ⟨3, ![2, 512, 3072]⟩
abbrev S2x18432 : Shape := ⟨2, ![2, 18432]⟩
abbrev S3072x3072 : Shape := ⟨2, ![3072, 3072]⟩
abbrev S3072 : Shape := ⟨1, ![3072]⟩
abbrev S1x3072 : Shape := ⟨2, ![1, 3072]⟩
abbrev S512x3072 : Shape := ⟨2, ![512, 3072]⟩
abbrev S512x512 : Shape := ⟨2, ![512, 512]⟩
abbrev S2x3072 : Shape := ⟨2, ![2, 3072]⟩
abbrev S3072x512 : Shape := ⟨2, ![3072, 512]⟩
abbrev S1x512 : Shape := ⟨2, ![1, 512]⟩
abbrev S512x128 : Shape := ⟨2, ![512, 128]⟩
abbrev S128x512 : Shape := ⟨2, ![128, 512]⟩
abbrev S512x1 : Shape := ⟨2, ![512, 1]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩

abbrev nBuf : Space → Nat
  | .hbm => 13
  | .vmem => 21
  | .smem => 0
  | _ => 0

abbrev bufTy : (tb : Table) → Fin (tcTables nBuf tb) → BufTy
  | .hbm, ⟨0, _⟩ => ⟨S1024x3072, .i8⟩
  | .hbm, ⟨1, _⟩ => ⟨S2x512, .f32⟩
  | .hbm, ⟨2, _⟩ => ⟨S2x512x3072, .bf16⟩
  | .hbm, ⟨3, _⟩ => ⟨S2x18432, .f32⟩
  | .hbm, ⟨4, _⟩ => ⟨S3072x3072, .i8⟩
  | .hbm, ⟨5, _⟩ => ⟨S3072, .f32⟩
  | .hbm, ⟨6, _⟩ => ⟨S3072, .f32⟩
  | .hbm, ⟨7, _⟩ => ⟨S1024x3072, .bf16⟩
  | .hbm, ⟨8, _⟩ => ⟨S1x3072, .f32⟩
  | .hbm, ⟨9, _⟩ => ⟨S1x3072, .f32⟩
  | .hbm, ⟨10, _⟩ => ⟨S1024x3072, .f32⟩
  | .hbm, ⟨11, _⟩ => ⟨S1024x3072, .i8⟩
  | .hbm, ⟨12, _⟩ => ⟨S2x512, .f32⟩
  | .local _ .vmem, ⟨0, _⟩ => ⟨S512x3072, .i8⟩
  | .local _ .vmem, ⟨1, _⟩ => ⟨S512x3072, .i8⟩
  | .local _ .vmem, ⟨2, _⟩ => ⟨S2x512, .f32⟩
  | .local _ .vmem, ⟨3, _⟩ => ⟨S512x512, .bf16⟩
  | .local _ .vmem, ⟨4, _⟩ => ⟨S512x512, .bf16⟩
  | .local _ .vmem, ⟨5, _⟩ => ⟨S2x512, .f32⟩
  | .local _ .vmem, ⟨6, _⟩ => ⟨S2x512, .f32⟩
  | .local _ .vmem, ⟨7, _⟩ => ⟨S2x3072, .f32⟩
  | .local _ .vmem, ⟨8, _⟩ => ⟨S2x3072, .f32⟩
  | .local _ .vmem, ⟨9, _⟩ => ⟨S3072x512, .i8⟩
  | .local _ .vmem, ⟨10, _⟩ => ⟨S3072x512, .i8⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x3072, .f32⟩
  | .local _ .vmem, ⟨16, _⟩ => ⟨S512x3072, .f32⟩
  | .local _ .vmem, ⟨17, _⟩ => ⟨S512x3072, .i8⟩
  | .local _ .vmem, ⟨18, _⟩ => ⟨S512x3072, .i8⟩
  | .local _ .vmem, ⟨19, _⟩ => ⟨S2x512, .f32⟩
  | .local _ .vmem, ⟨20, _⟩ => ⟨S512x128, .f32⟩
  | _, _ => ⟨S1024x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v37 : Index := Scalar.indexCast v36
  let c0_18 : Index := 0#32
  ![v37.toNat, 0]
def k0_off2 (i : grid0.Coords) : Fin 2 → Nat :=
  let arg0 : BitVec 32 := BitVec.ofNat 32 (i 0).val
  let c1_i32 : BitVec 32 := 1#32
  let v19 : BitVec 32 := Scalar.muli arg0 c1_i32
  let c0_i32_10 : BitVec 32 := 0#32
  let v20 : BitVec 32 := Scalar.addi v19 c0_i32_10
  let v21 : Index := Scalar.indexCast v20
  let c0_11 : Index := 0#32
  ![v21.toNat, 0]
def k0_off3 (i : grid0.Coords) : Fin 2 → Nat :=
  let c0_14 : Index := 0#32
  let arg1 : BitVec 32 := BitVec.ofNat 32 (i 1).val
  let c512_i32 : BitVec 32 := 512#32
  let v29 : BitVec 32 := Scalar.muli arg1 c512_i32
  let v30 : Index := Scalar.indexCast v29
  ![0, v30.toNat]
def k0_cond2 (i : grid0.Coords) : BitVec 1 :=
  let arg1 : BitVec 32 := BitVec.ofNat 32 (i 1).val
  let c5_i32 : BitVec 32 := 5#32
  let v32 : BitVec 1 := Scalar.cmpi .eq arg1 c5_i32
  let v33 : BitVec 32 := Scalar.extui v32
  let c0_i32_15 : BitVec 32 := 0#32
  let v34 : BitVec 1 := Scalar.cmpi .ne v33 c0_i32_15
  v34

def k0_off4 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v37 : Index := Scalar.indexCast v36
  let c0_18 : Index := 0#32
  ![v37.toNat, 0]
@[reducible] def k0_t1_loop : Scf.Loop 32 :=
  let c0_i32_21 : BitVec 32 := 0#32
  let c16_i32 : BitVec 32 := 16#32
  let v43 : BitVec 32 := Scalar.addi c0_i32_21 c16_i32
  let c1_i32_22 : BitVec 32 := 1#32
  ⟨c0_i32_21, v43, c1_i32_22⟩
def k0_off5 (k0_t1 : Fin k0_t1_loop.trips) : Fin 2 → Nat :=
  let c0_i32_27 : BitVec 32 := 0#32
  let c0_i32_21 : BitVec 32 := 0#32
  let c1_i32_22 : BitVec 32 := 1#32
  let arg15 : BitVec 32 := Scf.iv c0_i32_21 c1_i32_22 k0_t1
  let c32_i32 : BitVec 32 := 32#32
  let v49 : BitVec 32 := Scalar.muli arg15 c32_i32
  let v50 : BitVec 32 := Scalar.addi c0_i32_27 v49
  let v51 : Index := Scalar.indexCast v50
  let c0_28 : Index := 0#32
  ![v51.toNat, 0]
def k0_off6 (k0_t1 : Fin k0_t1_loop.trips) : Fin 2 → Nat :=
  let c0_i32_27 : BitVec 32 := 0#32
  let c0_i32_21 : BitVec 32 := 0#32
  let c1_i32_22 : BitVec 32 := 1#32
  let arg15 : BitVec 32 := Scf.iv c0_i32_21 c1_i32_22 k0_t1
  let c32_i32 : BitVec 32 := 32#32
  let v49 : BitVec 32 := Scalar.muli arg15 c32_i32
  let v50 : BitVec 32 := Scalar.addi c0_i32_27 v49
  let v95 : Index := Scalar.indexCast v50
  let c0_41 : Index := 0#32
  ![v95.toNat, 0]
def k0_off7 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v47 : Index := Scalar.indexCast v36
  let c0_26 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3072x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x3072 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ProjTIdeal.lean ====
abbrev S1024x3072 : Shape := ⟨2, ![1024, 3072]⟩
abbrev S2x512 : Shape := ⟨2, ![2, 512]⟩
abbrev S2x512x3072 : Shape := ⟨3, ![2, 512, 3072]⟩
abbrev S2x18432 : Shape := ⟨2, ![2, 18432]⟩
abbrev S3072x3072 : Shape := ⟨2, ![3072, 3072]⟩
abbrev S3072 : Shape := ⟨1, ![3072]⟩
abbrev S1x3072 : Shape := ⟨2, ![1, 3072]⟩
abbrev S512x3072 : Shape := ⟨2, ![512, 3072]⟩
abbrev S512x512 : Shape := ⟨2, ![512, 512]⟩
abbrev S2x3072 : Shape := ⟨2, ![2, 3072]⟩
abbrev S3072x512 : Shape := ⟨2, ![3072, 512]⟩
abbrev S1x512 : Shape := ⟨2, ![1, 512]⟩
abbrev S512x128 : Shape := ⟨2, ![512, 128]⟩
abbrev S128x512 : Shape := ⟨2, ![128, 512]⟩
abbrev S512x1 : Shape := ⟨2, ![512, 1]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩

abbrev nBuf : Space → Nat
  | .hbm => 13
  | .vmem => 21
  | .smem => 0
  | _ => 0

abbrev bufTy : (tb : Table) → Fin (tcTables nBuf tb) → BufTy
  | .hbm, ⟨0, _⟩ => ⟨S1024x3072, .i8⟩
  | .hbm, ⟨1, _⟩ => ⟨S2x512, .f32⟩
  | .hbm, ⟨2, _⟩ => ⟨S2x512x3072, .bf16⟩
  | .hbm, ⟨3, _⟩ => ⟨S2x18432, .f32⟩
  | .hbm, ⟨4, _⟩ => ⟨S3072x3072, .i8⟩
  | .hbm, ⟨5, _⟩ => ⟨S3072, .f32⟩
  | .hbm, ⟨6, _⟩ => ⟨S3072, .f32⟩
  | .hbm, ⟨7, _⟩ => ⟨S1024x3072, .bf16⟩
  | .hbm, ⟨8, _⟩ => ⟨S1x3072, .f32⟩
  | .hbm, ⟨9, _⟩ => ⟨S1x3072, .f32⟩
  | .hbm, ⟨10, _⟩ => ⟨S1024x3072, .f32⟩
  | .hbm, ⟨11, _⟩ => ⟨S1024x3072, .i8⟩
  | .hbm, ⟨12, _⟩ => ⟨S2x512, .f32⟩
  | .local _ .vmem, ⟨0, _⟩ => ⟨S512x3072, .i8⟩
  | .local _ .vmem, ⟨1, _⟩ => ⟨S512x3072, .i8⟩
  | .local _ .vmem, ⟨2, _⟩ => ⟨S2x512, .f32⟩
  | .local _ .vmem, ⟨3, _⟩ => ⟨S512x512, .bf16⟩
  | .local _ .vmem, ⟨4, _⟩ => ⟨S512x512, .bf16⟩
  | .local _ .vmem, ⟨5, _⟩ => ⟨S2x512, .f32⟩
  | .local _ .vmem, ⟨6, _⟩ => ⟨S2x512, .f32⟩
  | .local _ .vmem, ⟨7, _⟩ => ⟨S2x3072, .f32⟩
  | .local _ .vmem, ⟨8, _⟩ => ⟨S2x3072, .f32⟩
  | .local _ .vmem, ⟨9, _⟩ => ⟨S3072x512, .i8⟩
  | .local _ .vmem, ⟨10, _⟩ => ⟨S3072x512, .i8⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x3072, .f32⟩
  | .local _ .vmem, ⟨16, _⟩ => ⟨S512x3072, .f32⟩
  | .local _ .vmem, ⟨17, _⟩ => ⟨S512x3072, .i8⟩
  | .local _ .vmem, ⟨18, _⟩ => ⟨S512x3072, .i8⟩
  | .local _ .vmem, ⟨19, _⟩ => ⟨S2x512, .f32⟩
  | .local _ .vmem, ⟨20, _⟩ => ⟨S512x128, .f32⟩
  | _, _ => ⟨S1024x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v37 : Index := Scalar.indexCast v36
  let c0_18 : Index := 0#32
  ![v37.toNat, 0]
def k0_off2 (i : grid0.Coords) : Fin 2 → Nat :=
  let arg0 : BitVec 32 := BitVec.ofNat 32 (i 0).val
  let c1_i32 : BitVec 32 := 1#32
  let v19 : BitVec 32 := Scalar.muli arg0 c1_i32
  let c0_i32_10 : BitVec 32 := 0#32
  let v20 : BitVec 32 := Scalar.addi v19 c0_i32_10
  let v21 : Index := Scalar.indexCast v20
  let c0_11 : Index := 0#32
  ![v21.toNat, 0]
def k0_off3 (i : grid0.Coords) : Fin 2 → Nat :=
  let c0_14 : Index := 0#32
  let arg1 : BitVec 32 := BitVec.ofNat 32 (i 1).val
  let c512_i32 : BitVec 32 := 512#32
  let v29 : BitVec 32 := Scalar.muli arg1 c512_i32
  let v30 : Index := Scalar.indexCast v29
  ![0, v30.toNat]
def k0_cond2 (i : grid0.Coords) : BitVec 1 :=
  let arg1 : BitVec 32 := BitVec.ofNat 32 (i 1).val
  let c5_i32 : BitVec 32 := 5#32
  let v32 : BitVec 1 := Scalar.cmpi .eq arg1 c5_i32
  let v33 : BitVec 32 := Scalar.extui v32
  let c0_i32_15 : BitVec 32 := 0#32
  let v34 : BitVec 1 := Scalar.cmpi .ne v33 c0_i32_15
  v34

def k0_off4 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v37 : Index := Scalar.indexCast v36
  let c0_18 : Index := 0#32
  ![v37.toNat, 0]
@[reducible] def k0_t1_loop : Scf.Loop 32 :=
  let c0_i32_21 : BitVec 32 := 0#32
  let c16_i32 : BitVec 32 := 16#32
  let v43 : BitVec 32 := Scalar.addi c0_i32_21 c16_i32
  let c1_i32_22 : BitVec 32 := 1#32
  ⟨c0_i32_21, v43, c1_i32_22⟩
def k0_off5 (k0_t1 : Fin k0_t1_loop.trips) : Fin 2 → Nat :=
  let c0_i32_27 : BitVec 32 := 0#32
  let c0_i32_21 : BitVec 32 := 0#32
  let c1_i32_22 : BitVec 32 := 1#32
  let arg15 : BitVec 32 := Scf.iv c0_i32_21 c1_i32_22 k0_t1
  let c32_i32 : BitVec 32 := 32#32
  let v49 : BitVec 32 := Scalar.muli arg15 c32_i32
  let v50 : BitVec 32 := Scalar.addi c0_i32_27 v49
  let v51 : Index := Scalar.indexCast v50
  let c0_28 : Index := 0#32
  ![v51.toNat, 0]
def k0_off6 (k0_t1 : Fin k0_t1_loop.trips) : Fin 2 → Nat :=
  let c0_i32_27 : BitVec 32 := 0#32
  let c0_i32_21 : BitVec 32 := 0#32
  let c1_i32_22 : BitVec 32 := 1#32
  let arg15 : BitVec 32 := Scf.iv c0_i32_21 c1_i32_22 k0_t1
  let c32_i32 : BitVec 32 := 32#32
  let v49 : BitVec 32 := Scalar.muli arg15 c32_i32
  let v50 : BitVec 32 := Scalar.addi c0_i32_27 v49
  let v95 : Index := Scalar.indexCast v50
  let c0_41 : Index := 0#32
  ![v95.toNat, 0]
def k0_off7 (i : grid0.Coords) : Fin 2 → Nat :=
  let arg0 : BitVec 32 := BitVec.ofNat 32 (i 0).val
  let c1_i32_16 : BitVec 32 := 1#32
  let v35 : BitVec 32 := Scalar.muli arg0 c1_i32_16
  let c0_i32_17 : BitVec 32 := 0#32
  let v36 : BitVec 32 := Scalar.addi v35 c0_i32_17
  let v47 : Index := Scalar.indexCast v36
  let c0_26 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3072x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x3072 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ProjTRefIdeal.lean ====
abbrev S1024x3072 : Shape := ⟨2, ![1024, 3072]⟩
abbrev S2x512 : Shape := ⟨2, ![2, 512]⟩
abbrev S2x512x3072 : Shape := ⟨3, ![2, 512, 3072]⟩
abbrev S2x18432 : Shape := ⟨2, ![2, 18432]⟩
abbrev S3072x3072 : Shape := ⟨2, ![3072, 3072]⟩
abbrev S3072 : Shape := ⟨1, ![3072]⟩
abbrev S2x3072 : Shape := ⟨2, ![2, 3072]⟩
abbrev S2x1x3072 : Shape := ⟨3, ![2, 1, 3072]⟩
abbrev S1024 : Shape := ⟨1, ![1024]⟩
abbrev S1024x1 : Shape := ⟨2, ![1024, 1]⟩
abbrev S1x3072 : Shape := ⟨2, ![1, 3072]⟩
abbrev S2x512x1 : Shape := ⟨3, ![2, 512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1024x3072, .i8⟩
  | .hbm, ⟨1, _⟩ => ⟨S2x512, .f32⟩
  | .hbm, ⟨2, _⟩ => ⟨S2x512x3072, .bf16⟩
  | .hbm, ⟨3, _⟩ => ⟨S2x18432, .f32⟩
  | .hbm, ⟨4, _⟩ => ⟨S3072x3072, .i8⟩
  | .hbm, ⟨5, _⟩ => ⟨S3072, .f32⟩
  | .hbm, ⟨6, _⟩ => ⟨S3072, .f32⟩
  | .hbm, ⟨7, _⟩ => ⟨S1024x3072, .f32⟩
  | .hbm, ⟨8, _⟩ => ⟨S1024x3072, .i8⟩
  | .hbm, ⟨9, _⟩ => ⟨S2x512, .f32⟩
  | .local _ .vmem, ⟨0, _⟩ => ⟨S1024x3072, .i8⟩
  | .local _ .vmem, ⟨1, _⟩ => ⟨S2x512, .f32⟩
  | .local _ .vmem, ⟨2, _⟩ => ⟨S2x512x3072, .bf16⟩
  | .local _ .vmem, ⟨3, _⟩ => ⟨S2x18432, .f32⟩
  | .local _ .vmem, ⟨4, _⟩ => ⟨S3072x3072, .i8⟩
  | .local _ .vmem, ⟨5, _⟩ => ⟨S3072, .f32⟩
  | .local _ .vmem, ⟨6, _⟩ => ⟨S3072, .f32⟩
  | .local _ .vmem, ⟨7, _⟩ => ⟨S1024x3072, .f32⟩
  | .local _ .vmem, ⟨8, _⟩ => ⟨S1024x3072, .i8⟩
  | .local _ .vmem, ⟨9, _⟩ => ⟨S2x512, .f32⟩
  | _, _ => ⟨S1024x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x3072 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ProjI.lean ====
abbrev S512x3072 : Shape := ⟨2, ![512, 3072]⟩
abbrev S2x256 : Shape := ⟨2, ![2, 256]⟩
abbrev S2x256x3072 : Shape := ⟨3, ![2, 256, 3072]⟩
abbrev S2x18432 : Shape := ⟨2, ![2, 18432]⟩
abbrev S3072x3072 : Shape := ⟨2, ![3072, 3072]⟩
abbrev S3072 : Shape := ⟨1, ![3072]⟩
abbrev S1x3072 : Shape := ⟨2, ![1, 3072]⟩
abbrev S512x512 : Shape := ⟨2, ![512, 512]⟩
abbrev S2x512 : Shape := ⟨2, ![2, 512]⟩
abbrev S2x3072 : Shape := ⟨2, ![2, 3072]⟩
abbrev S3072x512 : Shape := ⟨2, ![3072, 512]⟩
abbrev S1x512 : Shape := ⟨2, ![1, 512]⟩
abbrev S512x128 : Shape := ⟨2, ![512, 128]⟩
abbrev S1x256 : Shape := ⟨2, ![1, 256]⟩
abbrev S128x256 : Shape := ⟨2, ![128, 256]⟩
abbrev S256x128 : Shape := ⟨2, ![256, 128]⟩
abbrev S512x1 : Shape := ⟨2, ![512, 1]⟩
abbrev S256x512 : Shape := ⟨2, ![256, 512]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩

abbrev nBuf : Space → Nat
  | .hbm => 13
  | .vmem => 18
  | .smem => 0
  | _ => 0

abbrev bufTy : (tb : Table) → Fin (tcTables nBuf tb) → BufTy
  | .hbm, ⟨0, _⟩ => ⟨S512x3072, .i8⟩
  | .hbm, ⟨1, _⟩ => ⟨S2x256, .f32⟩
  | .hbm, ⟨2, _⟩ => ⟨S2x256x3072, .bf16⟩
  | .hbm, ⟨3, _⟩ => ⟨S2x18432, .f32⟩
  | .hbm, ⟨4, _⟩ => ⟨S3072x3072, .i8⟩
  | .hbm, ⟨5, _⟩ => ⟨S3072, .f32⟩
  | .hbm, ⟨6, _⟩ => ⟨S3072, .f32⟩
  | .hbm, ⟨7, _⟩ => ⟨S512x3072, .bf16⟩
  | .hbm, ⟨8, _⟩ => ⟨S1x3072, .f32⟩
  | .hbm, ⟨9, _⟩ => ⟨S1x3072, .f32⟩
  | .hbm, ⟨10, _⟩ => ⟨S512x3072, .f32⟩
  | .hbm, ⟨11, _⟩ => ⟨S512x3072, .i8⟩
  | .hbm, ⟨12, _⟩ => ⟨S2x256, .f32⟩
  | .local _ .vmem, ⟨0, _⟩ => ⟨S512x3072, .i8⟩
  | .local _ .vmem, ⟨1, _⟩ => ⟨S2x256, .f32⟩
  | .local _ .vmem, ⟨2, _⟩ => ⟨S512x512, .bf16⟩
  | .local _ .vmem, ⟨3, _⟩ => ⟨S512x512, .bf16⟩
  | .local _ .vmem, ⟨4, _⟩ => ⟨S2x512, .f32⟩
  | .local _ .vmem, ⟨5, _⟩ => ⟨S2x512, .f32⟩
  | .local _ .vmem, ⟨6, _⟩ => ⟨S2x3072, .f32⟩
  | .local _ .vmem, ⟨7, _⟩ => ⟨S2x3072, .f32⟩
  | .local _ .vmem, ⟨8, _⟩ => ⟨S3072x512, .i8⟩
  | .local _ .vmem, ⟨9, _⟩ => ⟨S3072x512, .i8⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x3072, .f32⟩
  | .local _ .vmem, ⟨15, _⟩ => ⟨S512x3072, .i8⟩
  | .local _ .vmem, ⟨16, _⟩ => ⟨S2x256, .f32⟩
  | .local _ .vmem, ⟨17, _⟩ => ⟨S512x128, .f32⟩
  | _, _ => ⟨S512x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_22 : BitVec 32) : Fin 2 → Nat :=
  let arg0 : BitVec 32 := BitVec.ofNat 32 (i 0).val
  let c2_i32_21 : BitVec 32 := 2#32
  let v50 : BitVec 32 := Scalar.muli arg0 c2_i32_21
  let v51 : BitVec 32 := Scalar.addi v50 c0_i32_22
  let v52 : Index := Scalar.indexCast v51
  let c0_23 : Index := 0#32
  ![v52.toNat, 0]
def k0_off2 (i : grid0.Coords) (c0_i32_10 : BitVec 32) : Fin 2 → Nat :=
  let arg0 : BitVec 32 := BitVec.ofNat 32 (i 0).val
  let c2_i32 : BitVec 32 := 2#32
  let v19 : BitVec 32 := Scalar.muli arg0 c2_i32
  let v20 : BitVec 32 := Scalar.addi v19 c0_i32_10
  let v21 : Index := Scalar.indexCast v20
  let c0_11 : Index := 0#32
  ![v21.toNat, 0]
def k0_off3 (i : grid0.Coords) : Fin 2 → Nat :=
  let c0_14 : Index := 0#32
  let arg1 : BitVec 32 := BitVec.ofNat 32 (i 1).val
  let c512_i32 : BitVec 32 := 512#32
  let v30 : BitVec 32 := Scalar.muli arg1 c512_i32
  let v31 : Index := Scalar.indexCast v30
  ![0, v31.toNat]
def k0_off4 (i : grid0.Coords) : Fin 2 → Nat :=
  let c256_19 : Index := 256#32
  let arg1 : BitVec 32 := BitVec.ofNat 32 (i 1).val
  let c512_i32_18 : BitVec 32 := 512#32
  let v44 : BitVec 32 := Scalar.muli arg1 c512_i32_18
  let v45 : Index := Scalar.indexCast v44
  ![256, v45.toNat]
def k0_cond2 (i : grid0.Coords) : BitVec 1 :=
  let arg1 : BitVec 32 := BitVec.ofNat 32 (i 1).val
  let c5_i32 : BitVec 32 := 5#32
  let v47 : BitVec 1 := Scalar.cmpi .eq arg1 c5_i32
  let v48 : BitVec 32 := Scalar.extui v47
  let c0_i32_20 : BitVec 32 := 0#32
  let v49 : BitVec 1 := Scalar.cmpi .ne v48 c0_i32_20
  v49

def k0_off5 (i : grid0.Coords) (c0_i32_22 : BitVec 32) : Fin 2 → Nat :=
  let arg0 : BitVec 32 := BitVec.ofNat 32 (i 0).val
  let c2_i32_21 : BitVec 32 := 2#32
  let v50 : BitVec 32 := Scalar.muli arg0 c2_i32_21
  let v51 : BitVec 32 := Scalar.addi v50 c0_i32_22
  let v52 : Index := Scalar.indexCast v51
  let c0_23 : Index := 0#32
  ![v52.toNat, 0]
@[reducible] def k0_t1_loop : Scf.Loop 32 :=
  let c0_i32_26 : BitVec 32 := 0#32
  let c8_i32 : BitVec 32 := 8#32
  let v58 : BitVec 32 := Scalar.addi c0_i32_26 c8_i32
  let c1_i32_27 : BitVec 32 := 1#32
  ⟨c0_i32_26, v58, c1_i32_27⟩
def k0_off6 (k0_t1 : Fin k0_t1_loop.trips) : Fin 2 → Nat :=
  let c0_i32_44 : BitVec 32 := 0#32
  let c0_i32_26 : BitVec 32 := 0#32
  let c1_i32_27 : BitVec 32 := 1#32
  let arg15 : BitVec 32 := Scf.iv c0_i32_26 c1_i32_27 k0_t1
  let c32_i32 : BitVec 32 := 32#32
  let v78 : BitVec 32 := Scalar.muli arg15 c32_i32
  let v79 : BitVec 32 := Scalar.addi c0_i32_44 v78
  let v80 : Index := Scalar.indexCast v79
  let c0_45 : Index := 0#32
  ![v80.toNat, 0]
def k0_off7 (k0_t1 : Fin k0_t1_loop.trips) : Fin 2 → Nat :=
  let c0_i32_44 : BitVec 32 := 0#32
  let c0_i32_26 : BitVec 32 := 0#32
  let c1_i32_27 : BitVec 32 := 1#32
  let arg15 : BitVec 32 := Scf.iv c0_i32_26 c1_i32_27 k0_t1
  let c32_i32 : BitVec 32 := 32#32
  let v78 : BitVec 32 := Scalar.muli arg15 c32_i32
  let v79 : BitVec 32 := Scalar.addi c0_i32_44 v78
  let v124 : Index := Scalar.indexCast v79
  let c0_58 : Index := 0#32
  ![v124.toNat, 0]
def k0_off8 (i : grid0.Coords) (c0_i32_22 : BitVec 32) : Fin 2 → Nat :=
  let arg0 : BitVec 32 := BitVec.ofNat 32 (i 0).val
  let c2_i32_21 : BitVec 32 := 2#32
  let v50 : BitVec 32 := Scalar.muli arg0 c2_i32_21
  let v51 : BitVec 32 := Scalar.addi v50 c0_i32_22
  let v62 : Index := Scalar.indexCast v51
  let c0_31 : Index := 0#32
  ![v62.toNat, 0]
@[reducible] def k0_t2_loop : Scf.Loop 32 :=
  let c0_i32_37 : BitVec 32 := 0#32
  let c8_i32_38 : BitVec 32 := 8#32
  let v72 : BitVec 32 := Scalar.addi c0_i32_37 c8_i32_38
  let c1_i32_39 : BitVec 32 := 1#32
  ⟨c0_i32_37, v72, c1_i32_39⟩
def k0_off9 (k0_t2 : Fin k0_t2_loop.trips) : Fin 2 → Nat :=
  let c256_i32 : BitVec 32 := 256#32
  let c0_i32_37 : BitVec 32 := 0#32
  let c1_i32_39 : BitVec 32 := 1#32
  let arg15 : BitVec 32 := Scf.iv c0_i32_37 c1_i32_39 k0_t2
  let c32_i32 : BitVec 32 := 32#32
  let v78 : BitVec 32 := Scalar.muli arg15 c32_i32
  let v79 : BitVec 32 := Scalar.addi c256_i32 v78
  let v80 : Index := Scalar.indexCast v79
  let c0_44 : Index := 0#32
  ![v80.toNat, 0]
def k0_off10 (k0_t2 : Fin k0_t2_loop.trips) : Fin 2 → Nat :=
  let c256_i32 : BitVec 32 := 256#32
  let c0_i32_37 : BitVec 32 := 0#32
  let c1_i32_39 : BitVec 32 := 1#32
  let arg15 : BitVec 32 := Scf.iv c0_i32_37 c1_i32_39 k0_t2
  let c32_i32 : BitVec 32 := 32#32
  let v78 : BitVec 32 := Scalar.muli arg15 c32_i32
  let v79 : BitVec 32 := Scalar.addi c256_i32 v78
  let v124 : Index := Scalar.indexCast v79
  let c0_57 : Index := 0#32
  ![v124.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3072x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S512x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x3072 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ProjIRefIdeal.lean ====
abbrev S512x3072 : Shape := ⟨2, ![512, 3072]⟩
abbrev S2x256 : Shape := ⟨2, ![2, 256]⟩
abbrev S2x256x3072 : Shape := ⟨3, ![2, 256, 3072]⟩
abbrev S2x18432 : Shape := ⟨2, ![2, 18432]⟩
abbrev S3072x3072 : Shape := ⟨2, ![3072, 3072]⟩
abbrev S3072 : Shape := ⟨1, ![3072]⟩
abbrev S2x3072 : Shape := ⟨2, ![2, 3072]⟩
abbrev S2x1x3072 : Shape := ⟨3, ![2, 1, 3072]⟩
abbrev S512 : Shape := ⟨1, ![512]⟩
abbrev S512x1 : Shape := ⟨2, ![512, 1]⟩
abbrev S1x3072 : Shape := ⟨2, ![1, 3072]⟩
abbrev S2x256x1 : Shape := ⟨3, ![2, 256, 1]⟩

abbrev nBuf : Space → Nat
  | .hbm => 10
  | .vmem => 10
  | .smem => 0
  | _ => 0

abbrev bufTy : (tb : Table) → Fin (tcTables nBuf tb) → BufTy
  | .hbm, ⟨0, _⟩ => ⟨S512x3072, .i8⟩
  | .hbm, ⟨1, _⟩ => ⟨S2x256, .f32⟩
  | .hbm, ⟨2, _⟩ => ⟨S2x256x3072, .bf16⟩
  | .hbm, ⟨3, _⟩ => ⟨S2x18432, .f32⟩
  | .hbm, ⟨4, _⟩ => ⟨S3072x3072, .i8⟩
  | .hbm, ⟨5, _⟩ => ⟨S3072, .f32⟩
  | .hbm, ⟨6, _⟩ => ⟨S3072, .f32⟩
  | .hbm, ⟨7, _⟩ => ⟨S512x3072, .f32⟩
  | .hbm, ⟨8, _⟩ => ⟨S512x3072, .i8⟩
  | .hbm, ⟨9, _⟩ => ⟨S2x256, .f32⟩
  | .local _ .vmem, ⟨0, _⟩ => ⟨S512x3072, .i8⟩
  | .local _ .vmem, ⟨1, _⟩ => ⟨S2x256, .f32⟩
  | .local _ .vmem, ⟨2, _⟩ => ⟨S2x256x3072, .bf16⟩
  | .local _ .vmem, ⟨3, _⟩ => ⟨S2x18432, .f32⟩
  | .local _ .vmem, ⟨4, _⟩ => ⟨S3072x3072, .i8⟩
  | .local _ .vmem, ⟨5, _⟩ => ⟨S3072, .f32⟩
  | .local _ .vmem, ⟨6, _⟩ => ⟨S3072, .f32⟩
  | .local _ .vmem, ⟨7, _⟩ => ⟨S512x3072, .f32⟩
  | .local _ .vmem, ⟨8, _⟩ => ⟨S512x3072, .i8⟩
  | .local _ .vmem, ⟨9, _⟩ => ⟨S2x256, .f32⟩
  | _, _ => ⟨S512x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S512x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x3072 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== MlpI.lean ====
abbrev S2 : Shape := ⟨1, ![2]⟩
abbrev S512x3072 : Shape := ⟨2, ![512, 3072]⟩
abbrev S2x256 : Shape := ⟨2, ![2, 256]⟩
abbrev S2x18432 : Shape := ⟨2, ![2, 18432]⟩
abbrev S3072x12288 : Shape := ⟨2, ![3072, 12288]⟩
abbrev S12288 : Shape := ⟨1, ![12288]⟩
abbrev S12288x3072 : Shape := ⟨2, ![12288, 3072]⟩
abbrev S3072 : Shape := ⟨1, ![3072]⟩
abbrev S1x12288 : Shape := ⟨2, ![1, 12288]⟩
abbrev S1x3072 : Shape := ⟨2, ![1, 3072]⟩
abbrev S512x12288 : Shape := ⟨2, ![512, 12288]⟩
abbrev S512x256 : Shape := ⟨2, ![512, 256]⟩
abbrev S3072x512 : Shape := ⟨2, ![3072, 512]⟩
abbrev S1x512 : Shape := ⟨2, ![1, 512]⟩
abbrev S12288x256 : Shape := ⟨2, ![12288, 256]⟩
abbrev S1x256 : Shape := ⟨2, ![1, 256]⟩
abbrev S24x512x512 : Shape := ⟨3, ![24, 512, 512]⟩
abbrev S512x128 : Shape := ⟨2, ![512, 128]⟩
abbrev S128x256 : Shape := ⟨2, ![128, 256]⟩
abbrev S256x128 : Shape := ⟨2, ![256, 128]⟩
abbrev S512x512 : Shape := ⟨2, ![512, 512]⟩
abbrev S512x1 : Shape := ⟨2, ![512, 1]⟩
abbrev S1x512x512 : Shape := ⟨3, ![1, 512, 512]⟩
abbrev S512 : Shape := ⟨1, ![512]⟩
abbrev S32x1 : Shape := ⟨2, ![32, 1]⟩
abbrev S1x32x512 : Shape := ⟨3, ![1, 32, 512]⟩
abbrev S32x512 : Shape := ⟨2, ![32, 512]⟩
abbrev S256x256 : Shape := ⟨2, ![256, 256]⟩

abbrev nBuf : Space → Nat
  | .hbm => 18
  | .vmem => 25
  | .smem => 1
  | _ => 0

abbrev bufTy : (tb : Table) → Fin (tcTables nBuf tb) → BufTy
  | .hbm, ⟨0, _⟩ => ⟨S2, .i32⟩
  | .hbm, ⟨1, _⟩ => ⟨S512x3072, .i8⟩
  | .hbm, ⟨2, _⟩ => ⟨S2x256, .f32⟩
  | .hbm, ⟨3, _⟩ => ⟨S512x3072, .f32⟩
  | .hbm, ⟨4, _⟩ => ⟨S2x18432, .f32⟩
  | .hbm, ⟨5, _⟩ => ⟨S3072x12288, .i8⟩
  | .hbm, ⟨6, _⟩ => ⟨S12288, .f32⟩
  | .hbm, ⟨7, _⟩ => ⟨S12288, .f32⟩
  | .hbm, ⟨8, _⟩ => ⟨S12288x3072, .i8⟩
  | .hbm, ⟨9, _⟩ => ⟨S3072, .f32⟩
  | .hbm, ⟨10, _⟩ => ⟨S3072, .f32⟩
  | .hbm, ⟨11, _⟩ => ⟨S1x12288, .f32⟩
  | .hbm, ⟨12, _⟩ => ⟨S1x12288, .f32⟩
  | .hbm, ⟨13, _⟩ => ⟨S1x3072, .f32⟩
  | .hbm, ⟨14, _⟩ => ⟨S1x3072, .f32⟩
  | .hbm, ⟨15, _⟩ => ⟨S512x3072, .bf16⟩
  | .hbm, ⟨16, _⟩ => ⟨S512x12288, .i8⟩
  | .hbm, ⟨17, _⟩ => ⟨S2x256, .f32⟩
  | .local _ .vmem, ⟨0, _⟩ => ⟨S512x3072, .i8⟩
  | .local _ .vmem, ⟨1, _⟩ => ⟨S2x256, .f32⟩
  | .local _ .vmem, ⟨2, _⟩ => ⟨S512x256, .f32⟩
  | .local _ .vmem, ⟨3, _⟩ => ⟨S512x256, .f32⟩
  | .local _ .vmem, ⟨4, _⟩ => ⟨S2x256, .f32⟩
  | .local _ .vmem, ⟨5, _⟩ => ⟨S2x256, .f32⟩
  | .local _ .vmem, ⟨6, _⟩ => ⟨S3072x512, .i8⟩
  | .local _ .vmem, ⟨7, _⟩ => ⟨S3072x512, .i8⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S12288x256, .i8⟩
  | .local _ .vmem, ⟨13, _⟩ => ⟨S12288x256, .i8⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x256, .bf16⟩
  | .local _ .vmem, ⟨19, _⟩ => ⟨S512x256, .bf16⟩
  | .local _ .vmem, ⟨20, _⟩ => ⟨S512x12288, .i8⟩
  | .local _ .vmem, ⟨21, _⟩ => ⟨S2x256, .f32⟩
  | .local _ .vmem, ⟨22, _⟩ => ⟨S24x512x512, .f32⟩
  | .local _ .vmem, ⟨23, _⟩ => ⟨S512x128, .f32⟩
  | .local _ .vmem, ⟨24, _⟩ => ⟨S512x128, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨2, ![1, 36], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_6 : BitVec 32) : Fin 2 → Nat :=
  let arg0 : BitVec 32 := BitVec.ofNat 32 (i 0).val
  let c2_i32 : BitVec 32 := 2#32
  let v12 : BitVec 32 := Scalar.muli arg0 c2_i32
  let v13 : BitVec 32 := Scalar.addi v12 c0_i32_6
  let v14 : Index := Scalar.indexCast v13
  let c0 : Index := 0#32
  ![v14.toNat, 0]
def k0_cond2 (i : grid0.Coords) : BitVec 1 :=
  let arg1 : BitVec 32 := BitVec.ofNat 32 (i 1).val
  let c24_i32 : BitVec 32 := 24#32
  let v3 : BitVec 1 := Scalar.cmpi .slt arg1 c24_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v41 : Index := Scalar.indexCast arg1
  let c0_19 : Index := 0#32
  let c0_20 : Index := 0#32
  ![v41.toNat, 0, 0]
def k0_cond3 (i : grid0.Coords) : BitVec 1 :=
  let arg1 : BitVec 32 := BitVec.ofNat 32 (i 1).val
  let c24_i32_2 : BitVec 32 := 24#32
  let v6 : BitVec 1 := Scalar.cmpi .eq arg1 c24_i32_2
  let v7 : BitVec 32 := Scalar.extui v6
  let c0_i32_3 : BitVec 32 := 0#32
  let v8 : BitVec 1 := Scalar.cmpi .ne v7 c0_i32_3
  v8

def k0_off3 (i : grid0.Coords) (c0_i32_14 : BitVec 32) : Fin 2 → Nat :=
  let arg0 : BitVec 32 := BitVec.ofNat 32 (i 0).val
  let c2_i32 : BitVec 32 := 2#32
  let v29 : BitVec 32 := Scalar.muli arg0 c2_i32
  let v30 : BitVec 32 := Scalar.addi v29 c0_i32_14
  let v31 : Index := Scalar.indexCast v30
  let c0_15 : Index := 0#32
  ![v31.toNat, 0]
@[reducible] def k0_t1_loop : Scf.Loop 32 :=
  let c0_i32_19 : BitVec 32 := 0#32
  let c16_i32 : BitVec 32 := 16#32
  let v40 : BitVec 32 := Scalar.addi c0_i32_19 c16_i32
  let c1_i32_20 : BitVec 32 := 1#32
  ⟨c0_i32_19, v40, c1_i32_20⟩
def k0_off4 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v42 : Index := Scalar.indexCast v41
  let c0_22 : Index := 0#32
  ![v42.toNat, 0]
def k0_off5 (k0_t1 : Fin k0_t1_loop.trips) : Fin 3 → Nat :=
  let c0_23 : Index := 0#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v44 : Index := Scalar.indexCast v41
  let c0_24 : Index := 0#32
  ![0, v44.toNat, 0]
def k0_off6 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v55 : Index := Scalar.indexCast v41
  let c0_27 : Index := 0#32
  ![v55.toNat, 0]
def k0_off7 (k0_t1 : Fin k0_t1_loop.trips) : Fin 3 → Nat :=
  let c1 : Index := 1#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v57 : Index := Scalar.indexCast v41
  let c0_28 : Index := 0#32
  ![1, v57.toNat, 0]
def k0_off8 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v68 : Index := Scalar.indexCast v41
  let c512 : Index := 512#32
  ![v68.toNat, 512]
def k0_off9 (k0_t1 : Fin k0_t1_loop.trips) : Fin 3 → Nat :=
  let c2 : Index := 2#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v70 : Index := Scalar.indexCast v41
  let c0_31 : Index := 0#32
  ![2, v70.toNat, 0]
def k0_off10 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v81 : Index := Scalar.indexCast v41
  let c1024 : Index := 1024#32
  ![v81.toNat, 1024]
def k0_off11 (k0_t1 : Fin k0_t1_loop.trips) : Fin 3 → Nat :=
  let c3 : Index := 3#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v83 : Index := Scalar.indexCast v41
  let c0_34 : Index := 0#32
  ![3, v83.toNat, 0]
def k0_off12 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v94 : Index := Scalar.indexCast v41
  let c1536 : Index := 1536#32
  ![v94.toNat, 1536]
def k0_off13 (k0_t1 : Fin k0_t1_loop.trips) : Fin 3 → Nat :=
  let c4 : Index := 4#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v96 : Index := Scalar.indexCast v41
  let c0_37 : Index := 0#32
  ![4, v96.toNat, 0]
def k0_off14 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v107 : Index := Scalar.indexCast v41
  let c2048 : Index := 2048#32
  ![v107.toNat, 2048]
def k0_off15 (k0_t1 : Fin k0_t1_loop.trips) : Fin 3 → Nat :=
  let c5 : Index := 5#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v109 : Index := Scalar.indexCast v41
  let c0_40 : Index := 0#32
  ![5, v109.toNat, 0]
def k0_off16 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v120 : Index := Scalar.indexCast v41
  let c2560 : Index := 2560#32
  ![v120.toNat, 2560]
def k0_off17 (k0_t1 : Fin k0_t1_loop.trips) : Fin 3 → Nat :=
  let c6 : Index := 6#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v122 : Index := Scalar.indexCast v41
  let c0_43 : Index := 0#32
  ![6, v122.toNat, 0]
def k0_off18 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v133 : Index := Scalar.indexCast v41
  let c3072 : Index := 3072#32
  ![v133.toNat, 3072]
def k0_off19 (k0_t1 : Fin k0_t1_loop.trips) : Fin 3 → Nat :=
  let c7 : Index := 7#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v135 : Index := Scalar.indexCast v41
  let c0_46 : Index := 0#32
  ![7, v135.toNat, 0]
def k0_off20 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v146 : Index := Scalar.indexCast v41
  let c3584 : Index := 3584#32
  ![v146.toNat, 3584]
def k0_off21 (k0_t1 : Fin k0_t1_loop.trips) : Fin 3 → Nat :=
  let c8 : Index := 8#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v148 : Index := Scalar.indexCast v41
  let c0_49 : Index := 0#32
  ![8, v148.toNat, 0]
def k0_off22 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v159 : Index := Scalar.indexCast v41
  let c4096 : Index := 4096#32
  ![v159.toNat, 4096]
def k0_off23 (k0_t1 : Fin k0_t1_loop.trips) : Fin 3 → Nat :=
  let c9 : Index := 9#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v161 : Index := Scalar.indexCast v41
  let c0_52 : Index := 0#32
  ![9, v161.toNat, 0]
def k0_off24 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v172 : Index := Scalar.indexCast v41
  let c4608 : Index := 4608#32
  ![v172.toNat, 4608]
def k0_off25 (k0_t1 : Fin k0_t1_loop.trips) : Fin 3 → Nat :=
  let c10 : Index := 10#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v174 : Index := Scalar.indexCast v41
  let c0_55 : Index := 0#32
  ![10, v174.toNat, 0]
def k0_off26 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v185 : Index := Scalar.indexCast v41
  let c5120 : Index := 5120#32
  ![v185.toNat, 5120]
def k0_off27 (k0_t1 : Fin k0_t1_loop.trips) : Fin 3 → Nat :=
  let c11 : Index := 11#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v187 : Index := Scalar.indexCast v41
  let c0_58 : Index := 0#32
  ![11, v187.toNat, 0]
def k0_off28 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v198 : Index := Scalar.indexCast v41
  let c5632 : Index := 5632#32
  ![v198.toNat, 5632]
def k0_off29 (k0_t1 : Fin k0_t1_loop.trips) : Fin 3 → Nat :=
  let c12 : Index := 12#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v200 : Index := Scalar.indexCast v41
  let c0_61 : Index := 0#32
  ![12, v200.toNat, 0]
def k0_off30 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v211 : Index := Scalar.indexCast v41
  let c6144 : Index := 6144#32
  ![v211.toNat, 6144]
def k0_off31 (k0_t1 : Fin k0_t1_loop.trips) : Fin 3 → Nat :=
  let c13 : Index := 13#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v213 : Index := Scalar.indexCast v41
  let c0_64 : Index := 0#32
  ![13, v213.toNat, 0]
def k0_off32 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v224 : Index := Scalar.indexCast v41
  let c6656 : Index := 6656#32
  ![v224.toNat, 6656]
def k0_off33 (k0_t1 : Fin k0_t1_loop.trips) : Fin 3 → Nat :=
  let c14 : Index := 14#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v226 : Index := Scalar.indexCast v41
  let c0_67 : Index := 0#32
  ![14, v226.toNat, 0]
def k0_off34 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v237 : Index := Scalar.indexCast v41
  let c7168 : Index := 7168#32
  ![v237.toNat, 7168]
def k0_off35 (k0_t1 : Fin k0_t1_loop.trips) : Fin 3 → Nat :=
  let c15 : Index := 15#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v239 : Index := Scalar.indexCast v41
  let c0_70 : Index := 0#32
  ![15, v239.toNat, 0]
def k0_off36 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v250 : Index := Scalar.indexCast v41
  let c7680 : Index := 7680#32
  ![v250.toNat, 7680]
def k0_off37 (k0_t1 : Fin k0_t1_loop.trips) : Fin 3 → Nat :=
  let c16 : Index := 16#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v252 : Index := Scalar.indexCast v41
  let c0_73 : Index := 0#32
  ![16, v252.toNat, 0]
def k0_off38 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v263 : Index := Scalar.indexCast v41
  let c8192 : Index := 8192#32
  ![v263.toNat, 8192]
def k0_off39 (k0_t1 : Fin k0_t1_loop.trips) : Fin 3 → Nat :=
  let c17 : Index := 17#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v265 : Index := Scalar.indexCast v41
  let c0_76 : Index := 0#32
  ![17, v265.toNat, 0]
def k0_off40 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v276 : Index := Scalar.indexCast v41
  let c8704 : Index := 8704#32
  ![v276.toNat, 8704]
def k0_off41 (k0_t1 : Fin k0_t1_loop.trips) : Fin 3 → Nat :=
  let c18 : Index := 18#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v278 : Index := Scalar.indexCast v41
  let c0_79 : Index := 0#32
  ![18, v278.toNat, 0]
def k0_off42 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v289 : Index := Scalar.indexCast v41
  let c9216 : Index := 9216#32
  ![v289.toNat, 9216]
def k0_off43 (k0_t1 : Fin k0_t1_loop.trips) : Fin 3 → Nat :=
  let c19 : Index := 19#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v291 : Index := Scalar.indexCast v41
  let c0_82 : Index := 0#32
  ![19, v291.toNat, 0]
def k0_off44 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v302 : Index := Scalar.indexCast v41
  let c9728 : Index := 9728#32
  ![v302.toNat, 9728]
def k0_off45 (k0_t1 : Fin k0_t1_loop.trips) : Fin 3 → Nat :=
  let c20 : Index := 20#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v304 : Index := Scalar.indexCast v41
  let c0_85 : Index := 0#32
  ![20, v304.toNat, 0]
def k0_off46 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v315 : Index := Scalar.indexCast v41
  let c10240 : Index := 10240#32
  ![v315.toNat, 10240]
def k0_off47 (k0_t1 : Fin k0_t1_loop.trips) : Fin 3 → Nat :=
  let c21 : Index := 21#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v317 : Index := Scalar.indexCast v41
  let c0_88 : Index := 0#32
  ![21, v317.toNat, 0]
def k0_off48 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v328 : Index := Scalar.indexCast v41
  let c10752 : Index := 10752#32
  ![v328.toNat, 10752]
def k0_off49 (k0_t1 : Fin k0_t1_loop.trips) : Fin 3 → Nat :=
  let c22 : Index := 22#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v330 : Index := Scalar.indexCast v41
  let c0_91 : Index := 0#32
  ![22, v330.toNat, 0]
def k0_off50 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v341 : Index := Scalar.indexCast v41
  let c11264 : Index := 11264#32
  ![v341.toNat, 11264]
def k0_off51 (k0_t1 : Fin k0_t1_loop.trips) : Fin 3 → Nat :=
  let c23 : Index := 23#32
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v343 : Index := Scalar.indexCast v41
  let c0_94 : Index := 0#32
  ![23, v343.toNat, 0]
def k0_off52 (k0_t1 : Fin k0_t1_loop.trips) : Fin 2 → Nat :=
  let c0_i32_19 : BitVec 32 := 0#32
  let c1_i32_20 : BitVec 32 := 1#32
  let arg19 : BitVec 32 := Scf.iv c0_i32_19 c1_i32_20 k0_t1
  let c32_i32 : BitVec 32 := 32#32
  let v41 : BitVec 32 := Scalar.muli arg19 c32_i32
  let v354 : Index := Scalar.indexCast v41
  let c11776 : Index := 11776#32
  ![v354.toNat, 11776]
def k0_cond4 (i : grid0.Coords) : BitVec 1 :=
  let arg1 : BitVec 32 := BitVec.ofNat 32 (i 1).val
  let c24_i32_4 : BitVec 32 := 24#32
  let v9 : BitVec 1 := Scalar.cmpi .sge arg1 c24_i32_4
  let v10 : BitVec 32 := Scalar.extui v9
  let c0_i32_5 : BitVec 32 := 0#32
  let v11 : BitVec 1 := Scalar.cmpi .ne v10 c0_i32_5
  v11

def k0_off53 (i : grid0.Coords) (c0_i32_15 : BitVec 32) : Fin 2 → Nat :=
  let arg0 : BitVec 32 := BitVec.ofNat 32 (i 0).val
  let c2_i32 : BitVec 32 := 2#32
  let v29 : BitVec 32 := Scalar.muli arg0 c2_i32
  let v30 : BitVec 32 := Scalar.addi v29 c0_i32_15
  let v31 : Index := Scalar.indexCast v30
  let c0_16 : Index := 0#32
  ![v31.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c0_i32_0 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c60_i32 : BitVec 32 := 60#32
  let v2 : BitVec 32 := Scalar.addi c60_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let v1 : BitVec 32 := Scalar.maxsi v0 c0_i32
  let c0_i32_0 : BitVec 32 := 0#32
  ![arg0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3072x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S12288x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S512x12288 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== MlpIRefIdeal.lean ====
abbrev S2 : Shape := ⟨1, ![2]⟩
abbrev S512x3072 : Shape := ⟨2, ![512, 3072]⟩
abbrev S2x256 : Shape := ⟨2, ![2, 256]⟩
abbrev S2x18432 : Shape := ⟨2, ![2, 18432]⟩
abbrev S3072x12288 : Shape := ⟨2, ![3072, 12288]⟩
abbrev S12288 : Shape := ⟨1, ![12288]⟩
abbrev S12288x3072 : Shape := ⟨2, ![12288, 3072]⟩
abbrev S3072 : Shape := ⟨1, ![3072]⟩
abbrev S512x12288 : Shape := ⟨2, ![512, 12288]⟩
abbrev S2x3072 : Shape := ⟨2, ![2, 3072]⟩
abbrev S2x1x3072 : Shape := ⟨3, ![2, 1, 3072]⟩
abbrev S512 : Shape := ⟨1, ![512]⟩
abbrev S512x1 : Shape := ⟨2, ![512, 1]⟩
abbrev S1x12288 : Shape := ⟨2, ![1, 12288]⟩
abbrev S1x3072 : Shape := ⟨2, ![1, 3072]⟩
abbrev S2x256x3072 : Shape := ⟨3, ![2, 256, 3072]⟩

abbrev nBuf : Space → Nat
  | .hbm => 14
  | .vmem => 13
  | .smem => 0
  | _ => 0

abbrev bufTy : (tb : Table) → Fin (tcTables nBuf tb) → BufTy
  | .hbm, ⟨0, _⟩ => ⟨S2, .i32⟩
  | .hbm, ⟨1, _⟩ => ⟨S512x3072, .i8⟩
  | .hbm, ⟨2, _⟩ => ⟨S2x256, .f32⟩
  | .hbm, ⟨3, _⟩ => ⟨S512x3072, .f32⟩
  | .hbm, ⟨4, _⟩ => ⟨S2x18432, .f32⟩
  | .hbm, ⟨5, _⟩ => ⟨S3072x12288, .i8⟩
  | .hbm, ⟨6, _⟩ => ⟨S12288, .f32⟩
  | .hbm, ⟨7, _⟩ => ⟨S12288, .f32⟩
  | .hbm, ⟨8, _⟩ => ⟨S12288x3072, .i8⟩
  | .hbm, ⟨9, _⟩ => ⟨S3072, .f32⟩
  | .hbm, ⟨10, _⟩ => ⟨S3072, .f32⟩
  | .hbm, ⟨11, _⟩ => ⟨S512x3072, .bf16⟩
  | .hbm, ⟨12, _⟩ => ⟨S512x12288, .i8⟩
  | .hbm, ⟨13, _⟩ => ⟨S2x256, .f32⟩
  | .local _ .vmem, ⟨0, _⟩ => ⟨S512x3072, .i8⟩
  | .local _ .vmem, ⟨1, _⟩ => ⟨S2x256, .f32⟩
  | .local _ .vmem, ⟨2, _⟩ => ⟨S512x3072, .f32⟩
  | .local _ .vmem, ⟨3, _⟩ => ⟨S2x18432, .f32⟩
  | .local _ .vmem, ⟨4, _⟩ => ⟨S3072x12288, .i8⟩
  | .local _ .vmem, ⟨5, _⟩ => ⟨S12288, .f32⟩
  | .local _ .vmem, ⟨6, _⟩ => ⟨S12288, .f32⟩
  | .local _ .vmem, ⟨7, _⟩ => ⟨S12288x3072, .i8⟩
  | .local _ .vmem, ⟨8, _⟩ => ⟨S3072, .f32⟩
  | .local _ .vmem, ⟨9, _⟩ => ⟨S3072, .f32⟩
  | .local _ .vmem, ⟨10, _⟩ => ⟨S512x3072, .bf16⟩
  | .local _ .vmem, ⟨11, _⟩ => ⟨S512x12288, .i8⟩
  | .local _ .vmem, ⟨12, _⟩ => ⟨S2x256, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S512x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x12288 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x12288 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.ModFrame.lean ====
/- The frame of the modulation kernel read at any float type: what each output holds at every grid point, stated as
   a relation, so that the points where the codes and their scale are left alone are covered too. -/
module

public import proofs.«01_k».proof.Proof.Gen.ModIdeal.Frame
public import proofs.«01_k».proof.Proof.Gen.ModIdeal.Skeleton
public import Idealize.ShloMosaic.Lib.Pipeline.ArrRel
public import Idealize.ShloMosaic.Lib.Claim

@[expose] public section

set_option maxRecDepth 16384

noncomputable section

namespace Cert.ModIdeal.Hand

open Cert.ModIdeal Cert.ModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point's condition: the codes and the scale are stored there only. -/
abbrev cond (i : grid0.Coords) : Prop := k0_cond1 i = 1#1

theorem hcond (t : Fin cfg0.N) : cond (grid0.coords t) ↔ t.val = 0 := by
  have ht : t.val < 18 := Nat.lt_of_lt_of_eq t.isLt N_0
  have e0 : (grid0.coords t 0).val = t.val / 1 % 18 := Pipeline.Grid.coords_val t 0 (by decide) rfl
  have : cond (grid0.coords t) ↔ t.val % 18 = 0 := by
    simp only [cond, k0_cond1, e0]
    word_cmp
  rw [this, Nat.mod_eq_of_lt ht]

/-- A zero start in two coordinates. -/
theorem hz2 : (![0, 0] : Fin 2 → Nat) = fun _ => 0 := funext fun a => by fin_cases a <;> rfl

/-- A load of a whole two-dimensional buffer reads its contents. -/
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X

set_option maxHeartbeats 1000000 in
/-- The body at the first point, on whole buffers: all three outputs are stored. -/
theorem runA (c : Dev nD) (i : grid0.Coords) (arg1 : Memref sig .tc .vmem S2x3072 .f32) (harg1 : arg1.IsWhole) (arg2 : Memref sig .tc .vmem S3072x1024 .i8) (harg2 : arg2.IsWhole) (arg3 : Memref sig .tc .vmem S1x1024 .f32) (harg3 : arg3.IsWhole) (arg4 : Memref sig .tc .vmem S1x1024 .f32) (harg4 : arg4.IsWhole) (arg5 : Memref sig .tc .vmem S2x1024 .f32) (harg5 : arg5.IsWhole) (arg6 : Memref sig .tc .vmem S2x3072 .i32) (harg6 : arg6.IsWhole) (arg7 : Memref sig .tc .vmem S2x128 .f32) (harg7 : arg7.IsWhole) (hc0 : cond i)
    (x0 : Vec F S2x3072 .f32) (x1 : Vec F S3072x1024 .i8) (x2 : Vec F S1x1024 .f32) (x3 : Vec F S1x1024 .f32)
    (y4 : Vec F S2x1024 .f32) (y5 : Vec F S2x3072 .i32) (y6 : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x0 x1 x2 x3) ∗ owns (c : Thread nD τ) arg6 fullShare (k0_pay4 x0) ∗ owns (c : Thread nD τ) arg7 fullShare (k0_pay5 x0)) -∗ K ⟨⟩))
          ⊢ wp frame (wpE (defs₀ (F := F)) Variants.none c none) E (cc0_mod i arg1 harg1 arg2 harg2 arg3 harg3 arg4 harg4 arg5 harg5 arg6 harg6 arg7 harg7) K := by
    intro E K
    simp only [cc0_mod_eq_skeleton]; unfold cc0_mod_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro
      rw [View.read_writes_eq_canon _ _ _ (View.cover_of_tiled _ S2x1024.size (by rfl)), View.canon_unit_zero hz2]
      try unfold runA.sl.r
      simp only [View.readAt_eq_ld, hf0, hf1, hf2, hf3, ld2]
    isplitl [H5]
    · iexists _; isplitr; swap; · iexact H5
      ipureintro
      rw [View.read_writes_eq_canon _ _ _ (View.cover_of_tiled _ S2x3072.size (by rfl)), View.canon_unit_zero hz2]
      try unfold runA.sl.r
      simp only [View.readAt_eq_ld, hf0, hf1, hf2, hf3, ld2]
    iexists _; isplitr; swap; · iexact H6
    ipureintro
    rw [View.read_writes_eq_canon _ _ _ (View.cover_of_tiled _ S2x128.size (by rfl)), View.canon_unit_zero hz2]
    try unfold runA.sl.r
    simp only [View.readAt_eq_ld, hf0, hf1, hf2, hf3, ld2]

set_option maxHeartbeats 1000000 in
/-- The body at a later point: the codes and the scale are left alone. -/
theorem runB (c : Dev nD) (i : grid0.Coords) (arg1 : Memref sig .tc .vmem S2x3072 .f32) (harg1 : arg1.IsWhole) (arg2 : Memref sig .tc .vmem S3072x1024 .i8) (harg2 : arg2.IsWhole) (arg3 : Memref sig .tc .vmem S1x1024 .f32) (harg3 : arg3.IsWhole) (arg4 : Memref sig .tc .vmem S1x1024 .f32) (harg4 : arg4.IsWhole) (arg5 : Memref sig .tc .vmem S2x1024 .f32) (harg5 : arg5.IsWhole) (arg6 : Memref sig .tc .vmem S2x3072 .i32) (harg6 : arg6.IsWhole) (arg7 : Memref sig .tc .vmem S2x128 .f32) (harg7 : arg7.IsWhole) (hc0 : ¬ cond i)
    (x0 : Vec F S2x3072 .f32) (x1 : Vec F S3072x1024 .i8) (x2 : Vec F S1x1024 .f32) (x3 : Vec F S1x1024 .f32)
    (y4 : Vec F S2x1024 .f32) (y5 : Vec F S2x3072 .i32) (y6 : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x0 x1 x2 x3) ∗ owns (c : Thread nD τ) arg6 fullShare y5 ∗ owns (c : Thread nD τ) arg7 fullShare y6) -∗ K ⟨⟩))
          ⊢ wp frame (wpE (defs₀ (F := F)) Variants.none c none) E (cc0_mod i arg1 harg1 arg2 harg2 arg3 harg3 arg4 harg4 arg5 harg5 arg6 harg6 arg7 harg7) K := by
    intro E K
    simp only [cc0_mod_eq_skeleton]; unfold cc0_mod_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro
      rw [View.read_writes_eq_canon _ _ _ (View.cover_of_tiled _ S2x1024.size (by rfl)), View.canon_unit_zero hz2]
      try unfold runB.sl.r
      simp only [View.readAt_eq_ld, hf0, hf1, hf2, hf3, ld2]
    isplitl [H5]
    · iexists _; isplitr; swap; · iexact H5
      ipureintro; exact hf5
    iexists _; isplitr; swap; · iexact H6
    ipureintro; exact hf6

/-! ## The proof data -/

/-- The condition input as the kernel reads it: the whole array. -/
def cin (c : Dev nD) : Vec F S2x3072 .f32 := iblk m c 0 ⟨0, by rw [show cfg0.N = 18 from N_0]; decide⟩

/-- Its block is the same at every point. -/
theorem iblk0 (c : Dev nD) (t : Fin cfg0.N) : (iblk m c 0 t : Vec F S2x3072 .f32) = cin m c := rfl

/-- What the three outputs' buffers hold after the body at a point. -/
def spec4 (c : Dev nD) (t : Fin cfg0.N) : Vec F S2x1024 .f32 := k0_pay6 (cin m c) (iblk m c 1 t) (iblk m c 2 t) (iblk m c 3 t)
def spec5 (c : Dev nD) : Vec F S2x3072 .i32 := k0_pay4 (cin m c)
def spec6 (c : Dev nD) : Vec F S2x128 .f32 := k0_pay5 (cin m c)

/-- The relational proof data: an input is left as found, an output is left at its stated contents. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => X = spec4 m c t
    | ⟨5, _⟩ => fun _ _ X => X = spec5 m c
    | ⟨6, _⟩ => fun _ _ X => X = spec6 m c
  Φ _ := Pipeline.ΦA spec0 c
  q _ := fullShare
  owed _ := 0

theorem A_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
/-- After the first point, output 5 is found as stated. -/
theorem finds5 (c : Dev nD) (t : Fin cfg0.N) (ht : t.val ≠ 0) (Y) (h : (rdat m c).Finds 5 t Y) : Y = spec5 m c := by
  have hN : t.val < 18 := lt_of_lt_of_eq t.isLt (show cfg0.N = 18 from N_0)
  rcases ((rdat m c).finds_of_pos ((cfg0.win 5).fetch_out rfl t) ht Y).mp h with hf | ⟨_, _, h⟩
  · have := (flush0_5 _).mp hf
    exfalso; simp only at this; omega
  · exact h
/-- After the first point, output 6 is found as stated. -/
theorem finds6 (c : Dev nD) (t : Fin cfg0.N) (ht : t.val ≠ 0) (Y) (h : (rdat m c).Finds 6 t Y) : Y = spec6 m c := by
  have hN : t.val < 18 := lt_of_lt_of_eq t.isLt (show cfg0.N = 18 from N_0)
  rcases ((rdat m c).finds_of_pos ((cfg0.win 6).fetch_out rfl t) ht Y).mp h with hf | ⟨_, _, h⟩
  · have := (flush0_6 _).mp hf
    exfalso; simp only at this; omega
  · exact h

abbrev ms0 (t : Fin cfg0.N) : Memref sig .tc .vmem S2x3072 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3072x1024 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x3072 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x128 .f32 := win0_6.stage (cfg0.slots t 6)
abbrev hs6 (t : Fin cfg0.N) : (ms6 t).IsWhole := hstage0_6 ((cfg0.slots t 6).cast nbuf0_6)

set_option maxHeartbeats 800000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X))) := by
  unfold bodyAt0
  have e0 := finds0 m c t _ (hY 0)
  have e1 := finds1 m c t _ (hY 1)
  have e2 := finds2 m c t _ (hY 2)
  have e3 := finds3 m c t _ (hY 3)
  rw [e0, e1, e2, e3]
  rw [show (rdat m c).Φ t.succ = (rdat m c).Φ t.castSucc from rfl,
    show (rdat m c).owesAt () t.succ = (rdat m c).owesAt () t.castSucc from rfl]
  by_cases h0 : t.val = 0
  · iintro ⟨HΦ, Ho, H0, H1, H2, H3, H4, H5, H6⟩
    iapply (runA c (grid0.coords t) _ _ _ _ _ _ _ _ _ _ _ _ _ _ ((hcond t).mpr h0) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    iexists _; isplitr; swap; · iexact H6
    ipureintro; rfl
  · have e5 := finds5 m c t h0 _ (hY 5)
    have e6 := finds6 m c t h0 _ (hY 6)
    iintro ⟨HΦ, Ho, H0, H1, H2, H3, H4, H5, H6⟩
    iapply (runB c (grid0.coords t) _ _ _ _ _ _ _ _ _ _ _ _ _ _ (fun h => h0 ((hcond t).mp h)) _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; exact e5
    iexists _; isplitr; swap; · iexact H6
    ipureintro; exact e6

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hΦ := fun _ _ => rfl)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
    kept(r, m, c, main_arg0)
      ∧ kept(r, m, c, main_arg1)
      ∧ kept(r, m, c, main_arg2)
      ∧ kept(r, m, c, main_arg3) :=
  ⟨(RDat.FramePost.arr_in h c 0 rfl).trans ((A_eq m c 0).trans (V_main_arg0 m c)),
    (RDat.FramePost.arr_in h c 1 rfl).trans ((A_eq m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3))
      ∧ r.2.sem = fun _ => 0) :=
  (θ_run defs _ _).mono (fun _ h => ⟨args_of m h.1, h.2⟩) (run_main_quiescent m ρ)

end Cert.ModIdeal.Hand

end
-- ==== Proof.ModBitsFrame.lean ====
/- The frame of the modulation kernel as printed: it is the same program over any float type as its idealization, so it leaves its
   arguments as found as that one does. -/
module

public import proofs.«01_k».proof.Proof.Gen.Mod.Frame
public import proofs.«01_k».proof.Proof.ModFrame

@[expose] public section

set_option maxRecDepth 65536

noncomputable section

namespace Cert.Mod.Hand

open Cert.Mod
open Idealize.ShloMosaic Idealize.ShloMosaic.TcCoe Idealize.SL.Sem

variable {F : FTy → Type} [FloatOps F]

/-- The two programs run the same bodies. -/
theorem body_eq : (cc0_mod (F := F)) = Cert.ModIdeal.cc0_mod (F := F) := rfl

theorem defs₀_eq : (defs₀ (F := F)) = Cert.ModIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.ModIdeal.defs (F := F) :=
  congrArg (Pipeline.defs pcfgs) defs₀_eq

theorem main_eq : (main (F := F)) = Cert.ModIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3))
      ∧ r.2.sem = fun _ => 0) := by
  rw [defs_eq]
  exact Cert.ModIdeal.Hand.frame (F := F) m ρ

end Cert.Mod.Hand

end
-- ==== Proof.Codes.lean ====
/- Rounding to eight-bit codes over the extended reals: the clipped, rounded quotient is a whole number between -127 and
   127, so turning it into a code and reading the code back gives the same number. -/
module

public import Idealize.ShloMosaic.Lib.Pointwise

@[expose] public section

noncomputable section

namespace Cert.Codes

open Idealize.ShloMosaic

/-- The two clipping bounds, as the printed words. -/
theorem bound_hi : Ideal.ofBits FTy.f32 0x42FE0000#32 = ((127 : ℝ) : EReal) := by
  simp [Ideal.ofBits, Ideal.ieee]; norm_num [← EReal.coe_neg, ← EReal.coe_mul]
theorem bound_lo : Ideal.ofBits FTy.f32 0xC2FE0000#32 = ((-127 : ℝ) : EReal) := by
  simp [Ideal.ofBits, Ideal.ieee]; norm_num [← EReal.coe_neg, ← EReal.coe_mul]

/-- The clipped rounding. -/
def clip (z : EReal) : EReal := min ((127 : ℝ) : EReal) (max ((-127 : ℝ) : EReal) (Ideal.liftRound Ideal.roundHalfEven z))

/-- The kernels print the bounds as float words, the references as converted integers. -/
theorem clip_words (z : EReal) : min (Ideal.ofBits FTy.f32 0x42FE0000#32) (max (Ideal.ofBits FTy.f32 0xC2FE0000#32) (Ideal.liftRound Ideal.roundHalfEven z)) = clip z := by
  rw [bound_hi, bound_lo]; rfl
theorem clip_ints (z : EReal) : min ((((127#32 : BitVec 32).toInt : ℤ) : ℝ) : EReal) (max ((((4294967169#32 : BitVec 32).toInt : ℤ) : ℝ) : EReal) (Ideal.liftRound Ideal.roundHalfEven z)) = clip z := by
  rw [show (127#32 : BitVec 32).toInt = 127 by decide, show (4294967169#32 : BitVec 32).toInt = -127 by decide]
  unfold clip; norm_num

theorem clip_int (z : EReal) : ∃ n : ℤ, -127 ≤ n ∧ n ≤ 127 ∧ clip z = ((n : ℝ) : EReal) := by
  unfold clip
  induction z with
  | bot => exact ⟨-127, by norm_num, by norm_num, by simp only [Ideal.liftRound_bot, max_bot_right]; push_cast; exact min_eq_right (EReal.coe_le_coe_iff.mpr (by norm_num))⟩
  | top => exact ⟨127, by norm_num, by norm_num, by simp only [Ideal.liftRound_top, max_top_right, min_top_right]; push_cast; rfl⟩
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [Int.cast_min, Int.cast_max, EReal.coe_strictMono.monotone.map_min, EReal.coe_strictMono.monotone.map_max]
    norm_num

theorem toInt_code (n : ℤ) (h0 : -127 ≤ n) (h1 : n ≤ 127) (w : ℕ) (hw : 8 ≤ w) : (BitVec.ofInt w n).toInt = n := by
  rw [BitVec.toInt_ofInt, Int.bmod_eq_of_le]
  · have : (2:ℤ)^8 ≤ 2^w := by exact_mod_cast Nat.pow_le_pow_right (by norm_num) hw
    push_cast; omega
  · have : (2:ℤ)^8 ≤ 2^w := by exact_mod_cast Nat.pow_le_pow_right (by norm_num) hw
    push_cast; omega

theorem fptosi_int (n : ℤ) (h0 : -127 ≤ n) (h1 : n ≤ 127) (w : ℕ) (hw : 8 ≤ w) :
    Ideal.fptosi w ((n : ℝ) : EReal) = BitVec.ofInt w n := by
  unfold Ideal.fptosi
  rw [Ideal.toIntClamped_coe]
  congr 1
  have : (2:ℤ)^7 ≤ 2^(w-1) := by exact_mod_cast Nat.pow_le_pow_right (by norm_num) (by omega)
  simp only [Int.floor_intCast, Int.ceil_intCast, ite_self]
  push_cast
  omega

/-- Reading a code back gives the clipped, rounded number. -/
theorem read_code (z : EReal) : (((Ideal.fptosi 8 (clip z)).toInt : ℝ) : EReal) = clip z := by
  obtain ⟨n, h0, h1, h⟩ := clip_int z
  rw [h, fptosi_int n h0 h1 8 le_rfl, toInt_code n h0 h1 8 le_rfl]

theorem sitofp_code (φ : FTy) (z : EReal) : (FloatOps.sitofp φ (Ideal.fptosi 8 (clip z)) : Ideal φ) = clip z := read_code z

/-- Widening a code is coding to the wider word. -/
theorem widen_code (z : EReal) : (Ideal.fptosi 8 (clip z)).signExtend 32 = Ideal.fptosi 32 (clip z) := by
  obtain ⟨n, h0, h1, h⟩ := clip_int z
  rw [h, fptosi_int n h0 h1 8 le_rfl, fptosi_int n h0 h1 32 (by norm_num)]
  apply BitVec.eq_of_toInt_eq
  rw [BitVec.toInt_signExtend_of_le (by norm_num), toInt_code n h0 h1 8 le_rfl, toInt_code n h0 h1 32 (by norm_num)]

end Cert.Codes

end
-- ==== Proof.ModPay.lean ====
/- The modulation kernel's payloads over the extended reals are the reference's. -/
module

public import proofs.«01_k».proof.Proof.Codes
public import proofs.«01_k».proof.Proof.Gen.ModIdeal.Skeleton
public import proofs.«01_k».proof.Proof.Gen.ModRefIdeal.Skeleton
public import Idealize.ShloMosaic.Lib.Pointwise

@[expose] public section

noncomputable section

namespace Cert.ModPay

open Idealize.ShloMosaic Idealize.ShloMosaic.Pointwise Cert.Codes

local notation "K1" => Cert.ModIdeal.Gen.k0_pay1 (F := Ideal)
local notation "K2" => Cert.ModIdeal.Gen.k0_pay2 (F := Ideal)
local notation "K3" => Cert.ModIdeal.Gen.k0_pay3 (F := Ideal)
local notation "R2" => Cert.ModRefIdeal.Gen.k0_pay2 (F := Ideal)
local notation "R3" => Cert.ModRefIdeal.Gen.k0_pay3 (F := Ideal)
local notation "R4" => Cert.ModRefIdeal.Gen.k0_pay4 (F := Ideal)

theorem silu_eq (x : FVec Ideal Cert.ModIdeal.S2x3072 .f32) : K1 x = R2 x := rfl

theorem scale_eq (x : FVec Ideal Cert.ModIdeal.S2x3072 .f32) (r : Fin 2) (u : Fin 1) : K2 x (ix2 r u) = R3 x (ix1 r) := by
  pointwise [Cert.ModIdeal.Gen.k0_pay2, Cert.ModRefIdeal.Gen.k0_pay3, silu_eq]

theorem code_eq (x : FVec Ideal Cert.ModIdeal.S2x3072 .f32) (r : Fin 2) (k : Fin 3072) :
   ∃ z, K3 x (ix2 r k) = clip z ∧ R4 x (ix2 r k) = Ideal.fptosi 8 (clip z) := by
  refine ⟨Ideal.div (R2 x (ix2 r k)) (R3 x (ix1 r)), ?_, ?_⟩
  · pointwise [Cert.ModIdeal.Gen.k0_pay3, silu_eq, scale_eq]
    exact clip_words _
  · pointwise [Cert.ModRefIdeal.Gen.k0_pay4]
    exact congrArg (Ideal.fptosi 8) (clip_ints _)

theorem code_read (x : FVec Ideal Cert.ModIdeal.S2x3072 .f32) (r : Fin 2) (k : Fin 3072) :
    K3 x (ix2 r k) = (FloatOps.sitofp .bf16 (R4 x (ix2 r k)) : Ideal .bf16) := by
  obtain ⟨z, h1, h2⟩ := code_eq x r k
  rw [h1, h2, sitofp_code]

theorem mod_eq (x : FVec Ideal Cert.ModIdeal.S2x3072 .f32) (W : Vec Ideal Cert.ModRefIdeal.S3072x18432 .i8)
   (s b : FVec Ideal Cert.ModRefIdeal.S18432 .f32) (w : Vec Ideal Cert.ModIdeal.S3072x1024 .i8) (s' b' : FVec Ideal Cert.ModIdeal.S1x1024 .f32)
   (r : Fin 2) (n : Fin 1024) (n' : Fin 18432) (hw : ∀ k : Fin 3072, w (ix2 k n) = W (ix2 k n'))
   (hs : s' (ix2 0 n) = s (ix1 n')) (hb : b' (ix2 0 n) = b (ix1 n')) :
   Cert.ModIdeal.Gen.k0_pay6 x w s' b' (ix2 r n) = Cert.ModRefIdeal.Gen.k0_pay5 x W s b (ix2 r n') := by
  pointwise [Cert.ModIdeal.Gen.k0_pay6, Cert.ModRefIdeal.Gen.k0_pay5, scale_eq, code_read, hw, hs, hb]

theorem codes_eq (x : FVec Ideal Cert.ModIdeal.S2x3072 .f32) :
    Cert.ModIdeal.Gen.k0_pay4 (F := Ideal) x = Cert.ModRefIdeal.Gen.k0_pay6 (F := Ideal) x := by
  funext j
  obtain ⟨r, k, rfl⟩ : ∃ r k, j = ix2 r k := ⟨_, _, eq_ix2 j⟩
  obtain ⟨z, h1, h2⟩ := code_eq x r k
  show Ideal.fptosi 32 (K3 x (ix2 r k)) = BitVec.signExtend 32 (R4 x (ix2 r k))
  rw [h1, h2, widen_code]

theorem scales_eq (x : FVec Ideal Cert.ModIdeal.S2x3072 .f32) :
    Cert.ModIdeal.Gen.k0_pay5 (F := Ideal) x = Cert.ModRefIdeal.Gen.k0_pay1 (Cert.ModRefIdeal.Gen.k0_pay7 (F := Ideal) x) := by
  funext j
  obtain ⟨r, k, rfl⟩ : ∃ r k, j = ix2 r k := ⟨_, _, eq_ix2 j⟩
  pointwise [Cert.ModIdeal.Gen.k0_pay5, Cert.ModRefIdeal.Gen.k0_pay1, Cert.ModRefIdeal.Gen.k0_pay7, scale_eq]

end Cert.ModPay

end
-- ==== Proof.Loads.lean ====
/- Loads of a whole buffer at offset zero, and the zero offset itself. -/
module

public import Idealize.ShloMosaic.Init
public import Idealize.ShloMosaic.Lib.Pipeline.ValueKit.Geometry
public import Idealize.ShloMosaic.Lib.Pipeline.ValueKit.Basic

@[expose] public section

set_option maxRecDepth 16384

noncomputable section

namespace Cert.Loads

open Idealize.ShloMosaic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer reads its contents. -/
theorem ld1 {n : Nat} {e : EltTy} (inb : ∀ a, (![0] : Fin 1 → Nat) a + (![n] : Fin 1 → Nat) a ≤ (![n] : Fin 1 → Nat) a)
    (X : (⟨1, ![n]⟩ : Shape).Idx → Elt F e) : View.ld X (Rect.unit (s := ⟨1, ![n]⟩) ![0] ![n] inb) = X :=
  View.ld_unit_zero (S := ⟨1, ![n]⟩) hz1 inb X
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X
theorem ld3 {n k l : Nat} {e : EltTy} (inb : ∀ a, (![0, 0, 0] : Fin 3 → Nat) a + (![n, k, l] : Fin 3 → Nat) a ≤ (![n, k, l] : Fin 3 → Nat) a)
    (X : (⟨3, ![n, k, l]⟩ : Shape).Idx → Elt F e) : View.ld X (Rect.unit (s := ⟨3, ![n, k, l]⟩) ![0, 0, 0] ![n, k, l] inb) = X :=
  View.ld_unit_zero (S := ⟨3, ![n, k, l]⟩) hz3 inb X

end Cert.Loads

end
-- ==== Proof.ModRefValue.lean ====
/- The reference's three arrays after its run. -/
module

public import proofs.«01_k».proof.Proof.Gen.ModRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.Loads

@[expose] public section

set_option maxRecDepth 16384

noncomputable section

namespace Cert.ModRefIdeal.Hand

open Cert.ModRefIdeal Cert.ModRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S2x3072 .f32 := m ((c.tc : Thread nD τ).loc main_arg0)
abbrev a1 (c : Dev nD) : Vec F S3072x18432 .i8 := m ((c.tc : Thread nD τ).loc main_arg1)
abbrev a2 (c : Dev nD) : Vec F S18432 .f32 := m ((c.tc : Thread nD τ).loc main_arg2)
abbrev a3 (c : Dev nD) : Vec F S18432 .f32 := m ((c.tc : Thread nD τ).loc main_arg3)

theorem e0 : ∀ t : Fin cfg0.N, win0_0.index t = ![0, 0] := by decide +kernel
theorem i0 (c : Dev nD) (t : Fin cfg0.N) : (iblk m c 0 t : Vec F S2x3072 .f32) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S3072x18432 .i8) = a1 m c := by
  funext y; blk_simp [iblk]; exact congrArg (a1 m c) (by blk_ext [e1])
theorem e2 : ∀ t : Fin cfg0.N, win0_2.index t = ![0] := by decide +kernel
theorem i2 (c : Dev nD) (t : Fin cfg0.N) : (iblk m c 2 t : Vec F S18432 .f32) = a2 m c := by
  funext y; blk_simp [iblk]; exact congrArg (a2 m c) (by blk_ext [e2])
theorem e3 : ∀ t : Fin cfg0.N, win0_3.index t = ![0] := by decide +kernel
theorem i3 (c : Dev nD) (t : Fin cfg0.N) : (iblk m c 3 t : Vec F S18432 .f32) = a3 m c := by
  funext y; blk_simp [iblk]; exact congrArg (a3 m c) (by blk_ext [e3])

/-! Each result array is the body's payload of the arguments. -/

theorem e4 : ∀ t : Fin cfg0.N, win0_4.index t = ![0, 0] := by decide +kernel
def res4 (c : Dev nD) : Vec F S2x18432 .f32 := k0_pay5 (a0 m c) (a1 m c) (a2 m c) (a3 m c)
theorem final4 (c : Dev nD) : (dats m 0 c).arrAt 4 cfg0.N = res4 m c := by
  refine (dats m 0 c).arrAt_eq_of_covers 4 _ (by decide +kernel) fun t hf y => ?_
  blk_simp
  rw [after0_4]; unfold out0_4
  rw [View.canon_unit_zero hz2]
  simp only [r0_0, r0_1, r0_2, ld1, ld2, ld3]
  rw [i0, i1, i2, i3]
  exact congrArg (res4 m c) (by blk_ext [e4])

theorem e5 : ∀ t : Fin cfg0.N, win0_5.index t = ![0, 0] := by decide +kernel
def res5 (c : Dev nD) : Vec F S2x3072 .i32 := k0_pay6 (a0 m c)
theorem final5 (c : Dev nD) : (dats m 0 c).arrAt 5 cfg0.N = res5 m c := by
  refine (dats m 0 c).arrAt_eq_of_covers 5 _ (by decide +kernel) fun t hf y => ?_
  blk_simp
  rw [after0_5]; unfold out0_5
  rw [View.canon_unit_zero hz2]
  simp only [r0_0, r0_1, r0_2, ld1, ld2, ld3]
  rw [i0]
  exact congrArg (res5 m c) (by blk_ext [e5])

theorem e6 : ∀ t : Fin cfg0.N, win0_6.index t = ![0, 0] := by decide +kernel
def res6 (c : Dev nD) : Vec F S2x128 .f32 := k0_pay1 (k0_pay7 (a0 m c))
theorem final6 (c : Dev nD) : (dats m 0 c).arrAt 6 cfg0.N = res6 m c := by
  refine (dats m 0 c).arrAt_eq_of_covers 6 _ (by decide +kernel) fun t hf y => ?_
  blk_simp
  rw [after0_6]; unfold out0_6
  rw [View.canon_unit_zero hz2]
  simp only [r0_0, r0_1, r0_2, ld1, ld2, ld3]
  rw [i0]
  exact congrArg (res6 m c) (by blk_ext [e6])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ kept(r, m, c, main_arg0)
      ∧ kept(r, m, c, main_arg1)
      ∧ kept(r, m, c, main_arg2)
      ∧ kept(r, m, c, main_arg3) :=
  (θ_run defs _ _).mono (fun _ h c => ⟨((h c).1 4).trans (final4 m c),
      ((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ModRefIdeal.Hand

end
-- ==== Proof.ModValue.lean ====
/- The value of the modulation kernel over the extended reals: its three results are the reference's. -/
module

public import proofs.«01_k».proof.Defs
public import proofs.«01_k».proof.Proof.ModFrame
public import proofs.«01_k».proof.Proof.ModPay
public import proofs.«01_k».proof.Proof.ModRefValue
public import Idealize.ShloMosaic.Lib.Pipeline.ArrRel
public import Idealize.ShloMosaic.Lib.Pipeline.ValueKit.Geometry
public import Idealize.ShloMosaic.Lib.Pipeline.ValueKit.Basic
public import Idealize.ShloMosaic.Lib.Pointwise
public import Idealize.ShloMosaic.Lib.Claim

@[expose] public section

set_option maxRecDepth 16384

noncomputable section

namespace Cert.ModIdeal.Hand

open Cert.ModIdeal Cert.ModIdeal.Gen
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S2x3072 .f32 := m ((c.tc : Thread nD τ).loc main_arg0)
abbrev x1 : Vec F S3072x18432 .i8 := m ((c.tc : Thread nD τ).loc main_arg1)
abbrev x2 : Vec F S18432 .f32 := m ((c.tc : Thread nD τ).loc main_arg2)
abbrev x3 : Vec F S18432 .f32 := m ((c.tc : Thread nD τ).loc main_arg3)

/-! Where each block lies. -/

theorem wx0 : ∀ t : Fin cfg0.N, win0_0.index t = ![0, 0] := by decide +kernel
theorem wx1 : ∀ t : Fin cfg0.N, win0_1.index t = ![0, t.val] := by decide +kernel
theorem wx2 : ∀ t : Fin cfg0.N, win0_2.index t = ![0, t.val] := by decide +kernel
theorem wx3 : ∀ t : Fin cfg0.N, win0_3.index t = ![0, t.val] := by decide +kernel
theorem wx4 : ∀ t : Fin cfg0.N, win0_4.index t = ![0, t.val] := by decide +kernel
theorem wx5 : ∀ t : Fin cfg0.N, win0_5.index t = ![0, 0] := by decide +kernel
theorem wx6 : ∀ t : Fin cfg0.N, win0_6.index t = ![0, 0] := by decide +kernel

theorem lt18 (t : Fin cfg0.N) : t.val < 18 := lt_of_lt_of_eq t.isLt (show cfg0.N = 18 from N_0)

/-- Column `n` of block `t`. -/
def col (t : Fin cfg0.N) (n : Fin 1024) : Fin 18432 := ⟨t.val * 1024 + n.val, by have := lt18 t; omega⟩

theorem blk0 (t : Fin cfg0.N) : (iblk m c 0 t : Vec F S2x3072 .f32) = x0 m c := by
  funext y; blk_simp [iblk]; rw [V_main_arg0]; exact congrArg (x0 m c) (by blk_ext [wx0])
theorem cin_eq : cin m c = x0 m c := blk0 m c _

theorem blk1 (t : Fin cfg0.N) (k : Fin 3072) (n : Fin 1024) :
    (iblk m c 1 t : Vec F S3072x1024 .i8) (ix2 k n) = x1 m c (ix2 k (col t n)) := by
  blk_simp [iblk]; rw [V_main_arg1]; exact congrArg (x1 m c) (by blk_ext [wx1]; rfl)

theorem V0 : (V m c main_v0 : Vec F S1x18432 .f32) = shapeCast S1x18432 (x2 m c) shapeCasts_S18432_S1x18432 := by
  entry_read; rfl
theorem V1 : (V m c main_v1 : Vec F S1x18432 .f32) = shapeCast S1x18432 (x3 m c) shapeCasts_S18432_S1x18432 := by
  entry_read; rfl

theorem blk2 (t : Fin cfg0.N) (n : Fin 1024) :
    (iblk m c 2 t : Vec F S1x1024 .f32) (ix2 0 n) = x2 m c (ix1 (col t n)) := by
  have e : (iblk m c 2 t : Vec F S1x1024 .f32) (ix2 0 n) = (V m c main_v0 : Vec F S1x18432 .f32) (ix2 0 (col t n)) := by
    blk_simp [iblk]; exact congrArg (V m c main_v0) (by blk_ext [wx2]; rfl)
  rw [e, V0]; pointwise
theorem blk3 (t : Fin cfg0.N) (n : Fin 1024) :
    (iblk m c 3 t : Vec F S1x1024 .f32) (ix2 0 n) = x3 m c (ix1 (col t n)) := by
  have e : (iblk m c 3 t : Vec F S1x1024 .f32) (ix2 0 n) = (V m c main_v1 : Vec F S1x18432 .f32) (ix2 0 (col t n)) := by
    blk_simp [iblk]; exact congrArg (V m c main_v1) (by blk_ext [wx3]; rfl)
  rw [e, V1]; pointwise
end Any

variable (m : (ℓ : Loc nD τ sig) → Buf (Elt Ideal) ℓ) (ρ : Dev nD → PrngReg) (c : Dev nD)

/-! The three results as the reference states them. -/

def val4 : Vec Ideal S2x18432 .f32 := Cert.ModRefIdeal.Gen.k0_pay5 (F := Ideal) (x0 m c) (x1 m c) (x2 m c) (x3 m c)
def val5 : Vec Ideal S2x3072 .i32 := Cert.ModRefIdeal.Gen.k0_pay6 (F := Ideal) (x0 m c)
def val6 : Vec Ideal S2x128 .f32 := Cert.ModRefIdeal.Gen.k0_pay1 (F := Ideal) (Cert.ModRefIdeal.Gen.k0_pay7 (x0 m c))

theorem spec4_eq (t : Fin cfg0.N) (r : Fin 2) (n : Fin 1024) : spec4 m c t (ix2 r n) = val4 m c (ix2 r (col t n)) := by
  unfold spec4 val4
  rw [cin_eq]
  exact Cert.ModPay.mod_eq (x0 m c) (x1 m c) (x2 m c) (x3 m c) _ _ _ r n (col t n) (blk1 m c t · n) (blk2 m c t n) (blk3 m c t n)
theorem spec5_eq : spec5 m c = val5 m c := by
  unfold spec5 val5; rw [cin_eq]; exact Cert.ModPay.codes_eq _
theorem spec6_eq : spec6 m c = val6 m c := by
  unfold spec6 val6; rw [cin_eq]; exact Cert.ModPay.scales_eq _

/-- Every array after the run. -/
theorem finals {r} (h : RDat.FramePost (cfgs 0) (rdat m) (V m) r) :
    r.2.mem ((c.tc : Thread nD τ).loc main_v2_0) = val4 m c
      ∧ r.2.mem ((c.tc : Thread nD τ).loc main_v2_1) = val5 m c
      ∧ r.2.mem ((c.tc : Thread nD τ).loc main_v2_2) = val6 m c := by
  obtain ⟨after, hL, hA⟩ := RDat.FramePost.exists_exact h c
  refine ⟨(hA 4).trans ?_, (hA 5).trans ?_, (hA 6).trans ?_⟩
  · refine ((rdat m c).withAfter after).arrAt_eq_of_covers 4 (val4 m c) (by decide +kernel) fun t hf y => ?_
    obtain ⟨_, _, e⟩ := hL 4 t hf
    rw [RDat.withAfter_after, show after 4 t = spec4 m c t from e]
    blk_simp
    obtain ⟨a, n, rfl⟩ : ∃ (a : Fin 2) (n : Fin 1024), y = ix2 a n := ⟨_, _, eq_ix2 y⟩
    exact (spec4_eq m c t a n).trans (congrArg (val4 m c) (by blk_ext [wx4]; rfl))
  · refine ((rdat m c).withAfter after).arrAt_eq_of_covers 5 (val5 m c) (by decide +kernel) fun t hf y => ?_
    obtain ⟨_, _, e⟩ := hL 5 t hf
    rw [RDat.withAfter_after, show after 5 t = spec5 m c from e, spec5_eq]
    blk_simp
    exact congrArg (val5 m c) (by blk_ext [wx5])
  · refine ((rdat m c).withAfter after).arrAt_eq_of_covers 6 (val6 m c) (by decide +kernel) fun t hf y => ?_
    obtain ⟨_, _, e⟩ := hL 6 t hf
    rw [RDat.withAfter_after, show after 6 t = spec6 m c from e, spec6_eq]
    blk_simp
    exact congrArg (val6 m c) (by blk_ext [wx6])

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v2_0) = val4 m c
      ∧ r.2.mem ((c.tc : Thread nD τ).loc main_v2_1) = val5 m c
      ∧ r.2.mem ((c.tc : Thread nD τ).loc main_v2_2) = val6 m c
      ∧ kept(r, m, c, main_arg0)
      ∧ kept(r, m, c, main_arg1)
      ∧ kept(r, m, c, main_arg2)
      ∧ kept(r, m, c, main_arg3) :=
  (θ_run defs _ _).mono (fun _ h c => ⟨(finals m c h.1).1, (finals m c h.1).2.1, (finals m c h.1).2.2, args_of m h.1 c⟩) (run_main_quiescent m ρ)

end Cert.ModIdeal.Hand

namespace Cert.ModPay
open Idealize.ShloMosaic Idealize.ShloMosaic.TcCoe Idealize.SL.Sem

/-- The kernel and the reference end with the same three results. -/
theorem algebraic [hK : Cert.ModIdeal.Facts] [hR : Cert.ModRefIdeal.Facts] : Cert.algebraic_ModIdeal_ModRefIdeal := by
  intro m g m' g' _ hag
  refine ⟨fun c => Cert.ModIdeal.Hand.val4 m c, fun c => Cert.ModIdeal.Hand.val5 m c, fun c => Cert.ModIdeal.Hand.val6 m c, ?_, ?_⟩
  · exact Cert.ModIdeal.Hand.run m g
  · refine (θ_run _ _ _).mono (fun r h c => ?_) (Cert.ModRefIdeal.Hand.run m' g')
    have g0 : Cert.ModRefIdeal.Hand.a0 m' c = Cert.ModIdeal.Hand.x0 m c := (hag c).1
    have g1 : Cert.ModRefIdeal.Hand.a1 m' c = Cert.ModIdeal.Hand.x1 m c := (hag c).2.1
    have g2 : Cert.ModRefIdeal.Hand.a2 m' c = Cert.ModIdeal.Hand.x2 m c := (hag c).2.2.1
    have g3 : Cert.ModRefIdeal.Hand.a3 m' c = Cert.ModIdeal.Hand.x3 m c := (hag c).2.2.2
    refine ⟨(h c).1.trans ?_, (h c).2.1.trans ?_, (h c).2.2.1.trans ?_, (h c).2.2.2⟩
    · show Cert.ModRefIdeal.Gen.k0_pay5 _ _ _ _ = Cert.ModRefIdeal.Gen.k0_pay5 _ _ _ _
      rw [g0, g1, g2, g3]
    · show Cert.ModRefIdeal.Gen.k0_pay6 _ = Cert.ModRefIdeal.Gen.k0_pay6 _
      rw [g0]
    · show Cert.ModRefIdeal.Gen.k0_pay1 (Cert.ModRefIdeal.Gen.k0_pay7 _) = Cert.ModRefIdeal.Gen.k0_pay1 (Cert.ModRefIdeal.Gen.k0_pay7 _)
      rw [g0]

end Cert.ModPay

end
-- ==== Proof.Loops.lean ====
/- What the stores of a counted loop leave: facts about the list of stores its trips make, and about a buffer
   whose rows are stored in chunks. -/
module

public import Idealize.ShloMosaic.Init
public import Idealize.ShloMosaic.Lib.Writes
public import Idealize.ShloMosaic.Lib.Pipeline.FrameBody
public import Idealize.ShloMosaic.Lib.Pointwise

@[expose] public section

noncomputable section

namespace Cert.Loops

open Idealize.ShloMosaic Idealize.ShloMosaic.Pointwise

/-- A recursion that puts one store of each of two families in front per trip collects exactly those stores. -/
theorem collect {A B : Type*} (pb : ℕ → List A × List B) (n : ℕ) (P : Fin n → A) (Q : Fin n → B) (h0 : pb 0 = ([], []))
    (hs : ∀ k : Fin n, pb (k.val + 1) = ([P k] ++ (pb k.val).1, [Q k] ++ (pb k.val).2)) :
    ((∀ p ∈ (pb n).1, ∃ k, p = P k) ∧ ∀ k, P k ∈ (pb n).1) ∧ ((∀ q ∈ (pb n).2, ∃ k, q = Q k) ∧ ∀ k, Q k ∈ (pb n).2) := by
  have main : ∀ j, j ≤ n → ((∀ p ∈ (pb j).1, ∃ k, p = P k) ∧ ∀ k : Fin n, k.val < j → P k ∈ (pb j).1)
      ∧ ((∀ q ∈ (pb j).2, ∃ k, q = Q k) ∧ ∀ k : Fin n, k.val < j → Q k ∈ (pb j).2) := by
    intro j
    induction j with
    | zero => intro _; rw [h0]; simp
    | succ j ih =>
      intro hj
      obtain ⟨⟨a, b⟩, ⟨a', b'⟩⟩ := ih (by omega)
      rw [hs ⟨j, hj⟩]
      refine ⟨⟨?_, ?_⟩, ⟨?_, ?_⟩⟩
      · intro p hp
        rcases List.mem_cons.mp hp with rfl | hp
        · exact ⟨_, rfl⟩
        · exact a p hp
      · intro k hk
        by_cases e : k.val = j
        · obtain rfl : k = ⟨j, hj⟩ := Fin.ext e
          exact List.mem_cons_self
        · exact List.mem_cons_of_mem _ (b k (by omega))
      · intro p hp
        rcases List.mem_cons.mp hp with rfl | hp
        · exact ⟨_, rfl⟩
        · exact a' p hp
      · intro k hk
        by_cases e : k.val = j
        · obtain rfl : k = ⟨j, hj⟩ := Fin.ext e
          exact List.mem_cons_self
        · exact List.mem_cons_of_mem _ (b' k (by omega))
  obtain ⟨⟨a, b⟩, ⟨a', b'⟩⟩ := main n le_rfl
  exact ⟨⟨a, fun k => b k k.isLt⟩, ⟨a', fun k => b' k k.isLt⟩⟩

/-- Chunk `k` of `c` rows of a matrix, its first row `o + c * k`. -/
def chunk {α : Type*} {R C c : ℕ} (x : (⟨2, ![R, C]⟩ : Shape).Idx → α) (o : ℕ) (h : o + c ≤ R) : (⟨2, ![c, C]⟩ : Shape).Idx → α :=
  fun y => x (ix2 ⟨o + (y 0).val, lt_of_lt_of_le (Nat.add_lt_add_left (y 0).isLt o) h⟩ (y 1))

theorem ld_chunk {Val : EltTy → Type} {e : EltTy} {R C c : ℕ} (x : (⟨2, ![R, C]⟩ : Shape).Idx → Val e) (off : Fin 2 → ℕ) (o : ℕ)
    (inb : ∀ a, off a + (![c, C] : Fin 2 → ℕ) a ≤ (![R, C] : Fin 2 → ℕ) a) (ho : off = ![o, 0]) (h : o + c ≤ R) :
    View.ld x (Rect.unit (s := ⟨2, ![R, C]⟩) off ![c, C] inb) = chunk x o h := by
  subst ho
  funext y
  unfold View.ld chunk
  congr 1
  funext a
  apply Fin.ext
  fin_cases a
  · show o + 1 * (y 0).val = o + (y 0).val
    omega
  · show 0 + 1 * (y 1).val = (y 1).val
    omega

/-- Where a chunk's rectangle places an index. -/
theorem emb_chunk {R C c : ℕ} (off : Fin 2 → ℕ) (o : ℕ)
    (inb : ∀ a, off a + (![c, C] : Fin 2 → ℕ) a ≤ (![R, C] : Fin 2 → ℕ) a) (ho : off = ![o, 0]) (h : o + c ≤ R) (x : (⟨2, ![c, C]⟩ : Shape).Idx) :
    (Rect.unit (s := ⟨2, ![R, C]⟩) off ![c, C] inb).emb x = ix2 ⟨o + (x 0).val, lt_of_lt_of_le (Nat.add_lt_add_left (x 0).isLt o) h⟩ (x 1) := by
  subst ho
  funext a
  apply Fin.ext
  fin_cases a
  · show o + 1 * (x 0).val = o + (x 0).val
    omega
  · show 0 + 1 * (x 1).val = (x 1).val
    omega

/-- A chunk's rectangle holds the rows of the chunk. -/
theorem mem_chunk {R C c : ℕ} (off : Fin 2 → ℕ) (o : ℕ)
    (inb : ∀ a, off a + (![c, C] : Fin 2 → ℕ) a ≤ (![R, C] : Fin 2 → ℕ) a) (ho : off = ![o, 0]) (y : (⟨2, ![R, C]⟩ : Shape).Idx)
    (h1 : o ≤ (y 0).val) (h2 : (y 0).val < o + c) : y ∈ (Rect.unit (s := ⟨2, ![R, C]⟩) off ![c, C] inb).set := by
  subst ho
  refine (Rect.unit (s := ⟨2, ![R, C]⟩) ![o, 0] ![c, C] inb).mem_set.mpr fun a => ?_
  fin_cases a
  · refine ⟨(y 0).val - o, ?_, ?_⟩
    · show _ < c
      omega
    · show (y 0).val = o + 1 * ((y 0).val - o)
      omega
  · refine ⟨(y 1).val, ?_, ?_⟩
    · exact (y 1).isLt
    · show (y 1).val = 0 + 1 * (y 1).val
      omega

/-- A row outside a chunk's rectangle. -/
theorem not_mem_chunk {R C c : ℕ} (off : Fin 2 → ℕ) (o : ℕ)
    (inb : ∀ a, off a + (![c, C] : Fin 2 → ℕ) a ≤ (![R, C] : Fin 2 → ℕ) a) (ho : off = ![o, 0]) (y : (⟨2, ![R, C]⟩ : Shape).Idx)
    (h : (y 0).val < o ∨ o + c ≤ (y 0).val) : y ∉ (Rect.unit (s := ⟨2, ![R, C]⟩) off ![c, C] inb).set := by
  subst ho
  exact Rect.not_mem_set_of_axis _ y (0 : Fin 2) o c rfl rfl rfl h

/-- One row of a matrix replaced. -/
def setRow {α : Type*} {R C : ℕ} (r : ℕ) (v : (⟨2, ![1, C]⟩ : Shape).Idx → α) (Y : (⟨2, ![R, C]⟩ : Shape).Idx → α) :
    (⟨2, ![R, C]⟩ : Shape).Idx → α := fun y => if (y 0).val = r then v (ix2 0 (y 1)) else Y y

/-- A buffer after a store of one of its rows. -/
theorem read_setRow {Val : EltTy → Type} {sig : RefSig} {κ : Kind} {sp : Space} {e : EltTy} {R C : ℕ} (v : View sig κ sp ⟨2, ![R, C]⟩ e)
    (f : v.ty.Contents Val) (off : Fin 2 → ℕ) (r : ℕ)
    (inb : ∀ a, off a + (![1, C] : Fin 2 → ℕ) a ≤ (![R, C] : Fin 2 → ℕ) a) (ho : off = ![r, 0]) (w : (⟨2, ![1, C]⟩ : Shape).Idx → Val e)
    (L : List (View.Piece Val ⟨2, ![R, C]⟩ e)) :
    v.read Val (v.writes Val f (⟨Rect.unit (s := ⟨2, ![R, C]⟩) off ![1, C] inb, w⟩ :: L)) = setRow r w (v.read Val (v.writes Val f L)) := by
  funext y
  unfold setRow
  by_cases h : (y 0).val = r
  · rw [if_pos h]
    subst ho
    refine View.read_writes_cons_hit_of_coords v f (Rect.unit (s := ⟨2, ![R, C]⟩) ![r, 0] ![1, C] inb) w L
      (show (⟨2, ![1, C]⟩ : Shape).Idx from ix2 0 (y 1)) y fun a => ?_
    fin_cases a
    · show (y 0).val = r + 1 * 0
      omega
    · show (y 1).val = 0 + 1 * (y 1).val
      omega
  · rw [if_neg h]
    exact View.read_writes_cons_miss v f _ L y (not_mem_chunk off r inb ho y (by omega))

/-- A buffer after stores of which every one agrees with a function, and which between them cover it. -/
theorem read_all {Val : EltTy → Type} {sig : RefSig} {κ : Kind} {sp : Space} {e : EltTy} {s : Shape} (v : View sig κ sp s e)
    (f : v.ty.Contents Val) (L : List (View.Piece Val s e)) (G : s.Idx → Val e)
    (h : ∀ p ∈ L, ∀ x : p.1.shape.Idx, p.2 x = G (p.1.emb x)) (hc : ∀ y, ∃ p ∈ L, y ∈ p.1.set) : v.read Val (v.writes Val f L) = G :=
  funext fun y => View.read_writes_apply_of_pieces v f G L h y (hc y)

end Cert.Loops

end
-- ==== Proof.QkvTLoop.lean ====
/- The quantising loop of the text stream's projection call, at any float type: what its trips store, as closed forms of
   the rows of the codes and of their scales. -/
module

public import proofs.«01_k».proof.Proof.Gen.QkvTIdeal.Frame
public import proofs.«01_k».proof.Proof.Gen.QkvTIdeal.Loops
public import proofs.«01_k».proof.Proof.Gen.QkvTIdeal.Skeleton
public import proofs.«01_k».proof.Proof.Loops
public import Idealize.ShloMosaic.Lib.Pointwise
public import Idealize.ShloMosaic.Lib.Pipeline.ArrRel
public import Idealize.ShloMosaic.Lib.Claim

@[expose] public section

set_option maxRecDepth 16384

noncomputable section

namespace Cert.QkvTIdeal.Hand

open Cert.QkvTIdeal Cert.QkvTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

/-- A zero start in two coordinates. -/
theorem hz2 : (![0, 0] : Fin 2 → Nat) = fun _ => 0 := funext fun a => by fin_cases a <;> rfl

/-- A load of a whole two-dimensional buffer reads its contents. -/
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X

/-- Chunk `k` of the tokens. -/
abbrev xchunk (x : Vec F S512x3072 .bf16) (k : Fin 16) : Vec F S32x3072 .bf16 :=
  chunk (R := 512) (C := 3072) (c := 32) x (32 * k.val) (by omega)

/-- The chunk that holds a row. -/
abbrev kof (a : Fin 512) : Fin 16 := ⟨a.val / 32, by omega⟩
/-- Its place in that chunk. -/
abbrev pof (a : Fin 512) : Fin 32 := ⟨a.val % 32, by omega⟩

/-- The codes of all the rows: each chunk normalised, modulated and quantised on its own. -/
def codesS (x : Vec F S512x3072 .bf16) (sh sc : Vec F S1x3072 .f32) : Vec F S512x3072 .i8 :=
  fun y => k0_pay13 sh (k0_pay1 sc) (xchunk x (kof (y 0))) (ix2 (pof (y 0)) (y 1))

/-- The scales of all the rows, each across its row. -/
def srowS (x : Vec F S512x3072 .bf16) (sh sc : Vec F S1x3072 .f32) : Vec F S512x128 .f32 :=
  fun y => k0_pay2 (k0_pay12 sh (k0_pay1 sc) (xchunk x (kof (y 0)))) (ix2 (pof (y 0)) (y 1))

theorem codesS_at (x : Vec F S512x3072 .bf16) (sh sc : Vec F S1x3072 .f32) (k : Fin 16) (p : Fin 32) (h : 32 * k.val + p.val < 512) (b : Fin 3072) :
    codesS x sh sc (ix2 ⟨32 * k.val + p.val, h⟩ b) = k0_pay13 sh (k0_pay1 sc) (xchunk x k) (ix2 p b) := by
  have e1 : kof ⟨32 * k.val + p.val, h⟩ = k := Fin.ext (by show (32 * k.val + p.val) / 32 = k.val; omega)
  have e2 : pof ⟨32 * k.val + p.val, h⟩ = p := Fin.ext (by show (32 * k.val + p.val) % 32 = p.val; omega)
  show k0_pay13 sh (k0_pay1 sc) (xchunk x (kof ⟨32 * k.val + p.val, h⟩)) (ix2 (pof ⟨32 * k.val + p.val, h⟩) b) = _
  rw [e1, e2]

theorem srowS_at (x : Vec F S512x3072 .bf16) (sh sc : Vec F S1x3072 .f32) (k : Fin 16) (p : Fin 32) (h : 32 * k.val + p.val < 512) (b : Fin 128) :
    srowS x sh sc (ix2 ⟨32 * k.val + p.val, h⟩ b) = k0_pay2 (k0_pay12 sh (k0_pay1 sc) (xchunk x k)) (ix2 p b) := by
  have e1 : kof ⟨32 * k.val + p.val, h⟩ = k := Fin.ext (by show (32 * k.val + p.val) / 32 = k.val; omega)
  have e2 : pof ⟨32 * k.val + p.val, h⟩ = p := Fin.ext (by show (32 * k.val + p.val) % 32 = p.val; omega)
  show k0_pay2 (k0_pay12 sh (k0_pay1 sc) (xchunk x (kof ⟨32 * k.val + p.val, h⟩))) (ix2 (pof ⟨32 * k.val + p.val, h⟩) b) = _
  rw [e1, e2]

section
variable (c : Dev nD) (i : grid0.Coords) (arg2 : Memref sig .tc .vmem S512x3072 .bf16) (harg2 : arg2.IsWhole) (arg3 : Memref sig .tc .vmem S2x3072 .f32) (harg3 : arg3.IsWhole) (arg4 : Memref sig .tc .vmem S2x3072 .f32) (harg4 : arg4.IsWhole) (arg5 : Memref sig .tc .vmem S3072x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x3072 .i8) (harg10 : arg10.IsWhole) (arg11 : Memref sig .tc .vmem S2x512 .f32) (harg11 : arg11.IsWhole) (arg12 : Memref sig .tc .vmem S512x512 .bf16) (harg12 : arg12.IsWhole) (arg13 : Memref sig .tc .vmem S512x128 .f32) (harg13 : arg13.IsWhole) (k0_h1 : k0_cond1 i = 1#1) (v29 : Vec F S1x3072 .f32) (v31 : Vec F S1x3072 .f32) (X_arg2 : BufTy.Contents (Elt F) arg2.view.ty)

/-- The stores after the first trips of a loop. -/
local notation "𝕡₁" => pb_k0_t1 (F := F) Variants.none c none i arg2 harg2 arg3 harg3 arg4 harg4 arg5 harg5 arg6 harg6 arg7 harg7 arg8 harg8 arg9 harg9 arg10 harg10 arg11 harg11 arg12 harg12 arg13 harg13

/-- Trip `k`'s store of codes. -/
abbrev pieceC (k : Fin k0_t1_loop.trips) : View.Piece (Elt F) S512x3072 .i8 :=
  ⟨Rect.unit (s := S512x3072) (k0_off2 k) S32x3072.size (k0_off2_inb i k k0_h1), k0_pay13 v29 (k0_pay1 v31) (arg2.view.readAt (Elt F) (Rect.unit (s := S512x3072) (k0_off2 k) S32x3072.size (k0_off2_inb i k k0_h1)).toLoadRect X_arg2)⟩
/-- Trip `k`'s store of scales. -/
abbrev pieceS (k : Fin k0_t1_loop.trips) : View.Piece (Elt F) S512x128 .f32 :=
  ⟨Rect.unit (s := S512x128) (k0_off3 k) S32x128.size (k0_off3_inb i k k0_h1), k0_pay2 (k0_pay12 v29 (k0_pay1 v31) (arg2.view.readAt (Elt F) (Rect.unit (s := S512x3072) (k0_off2 k) S32x3072.size (k0_off2_inb i k k0_h1)).toLoadRect X_arg2))⟩

theorem tripL_eq (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 k0_h1 v29 v31 X_arg2 k
      = ([pieceC i arg2 k0_h1 v29 v31 X_arg2 k], [pieceS i arg2 k0_h1 v29 v31 X_arg2 k]) := by
  unfold tripL_k0_t1 trip_k0_t1
  rfl

theorem trips_eq : k0_t1_loop.trips = 16 := by decide +kernel

theorem pb_collect :
    ((∀ p ∈ (𝕡₁ k0_h1 v29 v31 X_arg2 k0_t1_loop.trips).1, ∃ k, p = pieceC i arg2 k0_h1 v29 v31 X_arg2 k)
        ∧ ∀ k, pieceC i arg2 k0_h1 v29 v31 X_arg2 k ∈ (𝕡₁ k0_h1 v29 v31 X_arg2 k0_t1_loop.trips).1)
      ∧ ((∀ p ∈ (𝕡₁ k0_h1 v29 v31 X_arg2 k0_t1_loop.trips).2, ∃ k, p = pieceS i arg2 k0_h1 v29 v31 X_arg2 k)
        ∧ ∀ k, pieceS i arg2 k0_h1 v29 v31 X_arg2 k ∈ (𝕡₁ k0_h1 v29 v31 X_arg2 k0_t1_loop.trips).2) :=
  collect (fun j => 𝕡₁ k0_h1 v29 v31 X_arg2 j) k0_t1_loop.trips
    (pieceC i arg2 k0_h1 v29 v31 X_arg2) (pieceS i arg2 k0_h1 v29 v31 X_arg2) (by rfl)
    (fun k => by
      show 𝕡₁ k0_h1 v29 v31 X_arg2 (k.val + 1) = _
      rw [pb_k0_t1_succ, tripL_eq])

theorem off2_chunk (k : Fin k0_t1_loop.trips) : 32 * k.val + 32 ≤ 512 := by
  have := lt_of_lt_of_eq k.isLt trips_eq
  omega

/-- The codes after the loop. -/
theorem read_codes (f : BufTy.Contents (Elt F) arg10.view.ty) (T : ℕ) (hT : T = k0_t1_loop.trips) :
    arg10.view.read (Elt F) (arg10.view.writes (Elt F) f (𝕡₁ k0_h1 v29 v31 X_arg2 T).1)
      = codesS (arg2.view.read (Elt F) X_arg2) v29 v31 := by
  subst hT
  obtain ⟨⟨hA, hB⟩, -⟩ := pb_collect c i arg2 harg2 arg3 harg3 arg4 harg4 arg5 harg5 arg6 harg6 arg7 harg7 arg8 harg8 arg9 harg9 arg10 harg10 arg11 harg11 arg12 harg12 arg13 harg13 k0_h1 v29 v31 X_arg2
  refine read_all _ _ _ _ (fun p hp => ?_) fun y => ?_
  · obtain ⟨k, rfl⟩ := hA p hp
    intro x
    have hk := off2_chunk k
    show k0_pay13 v29 (k0_pay1 v31) (View.ld (arg2.view.read (Elt F) X_arg2) (Rect.unit (s := S512x3072) (k0_off2 k) S32x3072.size (k0_off2_inb i k k0_h1))) x = codesS (arg2.view.read (Elt F) X_arg2) v29 v31 ((Rect.unit (s := S512x3072) (k0_off2 k) S32x3072.size (k0_off2_inb i k k0_h1)).emb x)
    rw [ld_chunk (R := 512) (C := 3072) (c := 32) _ _ (32 * k.val) _ (k0_off2_eq k) hk, emb_chunk (R := 512) (C := 3072) (c := 32) _ (32 * k.val) _ (k0_off2_eq k) hk]
    have hk' := lt_of_lt_of_eq k.isLt trips_eq
    have hx : (x 0).val < 32 := (x 0).isLt
    refine Eq.trans ?_ (codesS_at _ v29 v31 ⟨k.val, hk'⟩ (x 0) (by show 32 * k.val + (x 0).val < 512; omega) (x 1)).symm
    rw [← eq_ix2 (n0 := 32) (n1 := 3072) x]
  · have hy : (y 0).val < 512 := (y 0).isLt
    exact ⟨_, hB ⟨(y 0).val / 32, by rw [trips_eq]; omega⟩, mem_chunk (R := 512) (C := 3072) (c := 32) _ (32 * ((y 0).val / 32)) (k0_off2_inb i _ k0_h1) (k0_off2_eq _) y (by omega) (by omega)⟩

/-- The scales after the loop. -/
theorem read_srow (f : BufTy.Contents (Elt F) arg13.view.ty) (T : ℕ) (hT : T = k0_t1_loop.trips) :
    arg13.view.read (Elt F) (arg13.view.writes (Elt F) f (𝕡₁ k0_h1 v29 v31 X_arg2 T).2)
      = srowS (arg2.view.read (Elt F) X_arg2) v29 v31 := by
  subst hT
  obtain ⟨-, ⟨hA, hB⟩⟩ := pb_collect c i arg2 harg2 arg3 harg3 arg4 harg4 arg5 harg5 arg6 harg6 arg7 harg7 arg8 harg8 arg9 harg9 arg10 harg10 arg11 harg11 arg12 harg12 arg13 harg13 k0_h1 v29 v31 X_arg2
  refine read_all _ _ _ _ (fun p hp => ?_) fun y => ?_
  · obtain ⟨k, rfl⟩ := hA p hp
    intro x
    have hk := off2_chunk k
    show k0_pay2 (k0_pay12 v29 (k0_pay1 v31) (View.ld (arg2.view.read (Elt F) X_arg2) (Rect.unit (s := S512x3072) (k0_off2 k) S32x3072.size (k0_off2_inb i k k0_h1)))) x = srowS (arg2.view.read (Elt F) X_arg2) v29 v31 ((Rect.unit (s := S512x128) (k0_off3 k) S32x128.size (k0_off3_inb i k k0_h1)).emb x)
    rw [ld_chunk (R := 512) (C := 3072) (c := 32) _ _ (32 * k.val) _ (k0_off2_eq k) hk, emb_chunk (R := 512) (C := 128) (c := 32) _ (32 * k.val) _ (k0_off3_eq k) hk]
    have hk' := lt_of_lt_of_eq k.isLt trips_eq
    have hx : (x 0).val < 32 := (x 0).isLt
    refine Eq.trans ?_ (srowS_at _ v29 v31 ⟨k.val, hk'⟩ (x 0) (by show 32 * k.val + (x 0).val < 512; omega) (x 1)).symm
    rw [← eq_ix2 (n0 := 32) (n1 := 128) x]
  · have hy : (y 0).val < 512 := (y 0).isLt
    exact ⟨_, hB ⟨(y 0).val / 32, by rw [trips_eq]; omega⟩, mem_chunk (R := 512) (C := 128) (c := 32) _ (32 * ((y 0).val / 32)) (k0_off3_inb i _ k0_h1) (k0_off3_eq _) y (by omega) (by omega)⟩
end

end Cert.QkvTIdeal.Hand

end
-- ==== Proof.QkvTFrame.lean ====
/- The frame of the text stream's projection call, at any float type: the codes and the scales are stored at the first
   column tile of a batch element and left alone after it; the scales of every row are carried in a scratch buffer. -/
module

public import proofs.«01_k».proof.Proof.Gen.QkvTIdeal.Frame
public import proofs.«01_k».proof.Proof.Gen.QkvTIdeal.Skeleton
public import proofs.«01_k».proof.Proof.QkvTLoop
public import Idealize.ShloMosaic.Lib.Pipeline.ArrRel
public import Idealize.ShloMosaic.Lib.Claim

@[expose] public section

set_option maxRecDepth 16384

noncomputable section

namespace Cert.QkvTIdeal.Hand

open Cert.QkvTIdeal Cert.QkvTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem c0 (t : Fin cfg0.N) : (grid0.coords t 0).val = t.val / 18 := by
  have ht : t.val < 36 := Nat.lt_of_lt_of_eq t.isLt N_0
  have e0 : (grid0.coords t 0).val = t.val / 18 % 2 := Pipeline.Grid.coords_val t 0 (by decide) rfl
  omega
theorem c1 (t : Fin cfg0.N) : (grid0.coords t 1).val = t.val % 18 := by
  have e0 : (grid0.coords t 1).val = t.val / 1 % 18 := Pipeline.Grid.coords_val t 1 (by decide) rfl
  omega
theorem hc1 (t : Fin cfg0.N) : k0_cond1 (grid0.coords t) = 1#1 ↔ t.val % 18 = 0 := by
  simp only [k0_cond1, c1]
  word_cmp
theorem hc2 (t : Fin cfg0.N) : k0_cond2 (grid0.coords t) = 1#1 ↔ t.val % 18 < 12 := by
  simp only [k0_cond2, c1]
  word_cmp
theorem hc3 (t : Fin cfg0.N) : k0_cond3 (grid0.coords t) = 1#1 ↔ 12 ≤ t.val % 18 := by
  simp only [k0_cond3, c1]
  word_cmp

/-! ## What a point computes -/

/-- The batch element a point works on. -/
abbrev rI (i : grid0.Coords) : Fin 2 := ⟨(i 0).val, (i 0).isLt⟩

/-- One row of the modulation. -/
abbrev mrow (X : Vec F S2x3072 .f32) (r : Fin 2) : Vec F S1x3072 .f32 := chunk (R := 2) (C := 3072) (c := 1) X r.val (by omega)

/-- The first column of the rows' scales. -/
abbrev scol (sr : Vec F S512x128 .f32) : Vec F S512x1 .f32 := View.ld sr (Rect.unit (s := S512x128) ![0, 0] S512x1.size inb_S512x128_S512x1_0_0)

/-- A tile of queries or keys: four heads, each normalised and gained. -/
def outG (i : grid0.Coords) (cs : Vec F S512x3072 .i8) (w : Vec F S3072x512 .i8) (sr : Vec F S512x128 .f32) (ws b : Vec F S1x512 .f32) (qg kg : Vec F S1x128 .f32) : Vec F S512x512 .bf16 :=
  View.canon (Val := Elt F) (s := S512x512) (e := .bf16)
    [⟨Rect.unit (s := S512x512) ![0, 384] S512x128.size inb_S512x512_S512x128_0_384, k0_pay6 cs w (scol sr) ws b (k0_pay14 (BitVec.ofNat 32 (i 1).val) qg kg)⟩,
      ⟨Rect.unit (s := S512x512) ![0, 256] S512x128.size inb_S512x512_S512x128_0_256, k0_pay5 (k0_pay14 (BitVec.ofNat 32 (i 1).val) qg kg) (k0_pay17 (k0_pay4 cs w (scol sr) ws b)) (k0_pay18 (k0_pay4 cs w (scol sr) ws b)) k0_pay19⟩,
      ⟨Rect.unit (s := S512x512) ![0, 128] S512x128.size inb_S512x512_S512x128_0_128, k0_pay16 (BitVec.ofNat 32 (i 1).val) (k0_pay4 cs w (scol sr) ws b) qg kg⟩,
      ⟨Rect.unit (s := S512x512) ![0, 0] S512x128.size inb_S512x512_S512x128_0_0, k0_pay15 (BitVec.ofNat 32 (i 1).val) (k0_pay4 cs w (scol sr) ws b) qg kg⟩]

/-- A tile of values: four heads, as they come. -/
def outP (cs : Vec F S512x3072 .i8) (w : Vec F S3072x512 .i8) (sr : Vec F S512x128 .f32) (ws b : Vec F S1x512 .f32) : Vec F S512x512 .bf16 :=
  View.canon (Val := Elt F) (s := S512x512) (e := .bf16)
    [⟨Rect.unit (s := S512x512) ![0, 384] S512x128.size inb_S512x512_S512x128_0_384, k0_pay10 cs w (scol sr) ws b⟩,
      ⟨Rect.unit (s := S512x512) ![0, 256] S512x128.size inb_S512x512_S512x128_0_256, k0_pay9 cs w (scol sr) ws b⟩,
      ⟨Rect.unit (s := S512x512) ![0, 128] S512x128.size inb_S512x512_S512x128_0_128, k0_pay8 cs w (scol sr) ws b⟩,
      ⟨Rect.unit (s := S512x512) ![0, 0] S512x128.size inb_S512x512_S512x128_0_0, k0_pay7 cs w (scol sr) ws b⟩]

theorem ld_mrow (i : grid0.Coords) (h : k0_cond1 i = 1#1) (X : Vec F S2x3072 .f32) :
    View.ld X (Rect.unit (s := S2x3072) (k0_off1 i) S1x3072.size (k0_off1_inb i h)) = mrow X (rI i) :=
  ld_chunk (R := 2) (C := 3072) (c := 1) X (k0_off1 i) (i 0).val _ (k0_off1_eq i) _

/-! ## The body's runs -/

section Runs

variable (c : Dev nD) (i : grid0.Coords) (arg2 : Memref sig .tc .vmem S512x3072 .bf16) (harg2 : arg2.IsWhole) (arg3 : Memref sig .tc .vmem S2x3072 .f32) (harg3 : arg3.IsWhole) (arg4 : Memref sig .tc .vmem S2x3072 .f32) (harg4 : arg4.IsWhole) (arg5 : Memref sig .tc .vmem S3072x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x3072 .i8) (harg10 : arg10.IsWhole) (arg11 : Memref sig .tc .vmem S2x512 .f32) (harg11 : arg11.IsWhole) (arg12 : Memref sig .tc .vmem S512x512 .bf16) (harg12 : arg12.IsWhole) (arg13 : Memref sig .tc .vmem S512x128 .f32) (harg13 : arg13.IsWhole)
  (x0 : Vec F S512x3072 .bf16) (x1 : Vec F S2x3072 .f32) (x2 : Vec F S2x3072 .f32) (x3 : Vec F S3072x512 .i8) (x4 : Vec F S1x512 .f32) (x5 : Vec F S1x512 .f32) (x6 : Vec F S1x128 .f32) (x7 : Vec F S1x128 .f32) (y8 : Vec F S512x3072 .i8) (y9 : Vec F S2x512 .f32) (y10 : Vec F S512x512 .bf16) (y11 : Vec F S512x128 .f32)

-- One memref owned whole at the contents written.
local notation "⟪" a ", " x "⟫" => owns (c : Thread nD τ) a fullShare x

set_option maxHeartbeats 2000000 in
/-- The body at a batch element's first tile: the codes, the scales and four heads are stored. -/
theorem runA (hc1 : k0_cond1 i = 1#1) (hc2 : k0_cond2 i = 1#1) (hc3 : ¬ k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, codesS x0 (mrow x1 (rI i)) (mrow x2 (rI i))⟫ ∗ ⟪arg11, setRow (R := 2) (C := 512) (i 0).val (k0_pay3 (srowS x0 (mrow x1 (rI i)) (mrow x2 (rI i)))) y9⟫ ∗ ⟪arg12, outG i (codesS x0 (mrow x1 (rI i)) (mrow x2 (rI i))) x3 (srowS x0 (mrow x1 (rI i)) (mrow x2 (rI i))) x4 x5 x6 x7⟫ ∗ ⟪arg13, srowS x0 (mrow x1 (rI i)) (mrow x2 (rI i))⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  have e29 : runA.sl.v29 c i arg3 harg3 x1 hc1 = mrow x1 (rI i) := by
    unfold runA.sl.v29
    rw [View.readAt_eq_ld, hf1]
    exact ld_mrow i hc1 x1
  have e31 : runA.sl.v31 c i arg4 harg4 x2 hc1 = mrow x2 (rI i) := by
    unfold runA.sl.v31
    rw [View.readAt_eq_ld, hf2]
    exact ld_mrow i hc1 x2
  have e3 : runA.sl.v3 c i arg2 harg2 arg3 harg3 arg4 harg4 arg5 harg5 arg6 harg6 arg7 harg7 arg8 harg8 arg9 harg9 arg10 harg10 arg11 harg11 arg12 harg12 arg13 harg13 x0 x1 x2 hc1 f8 = codesS x0 (mrow x1 (rI i)) (mrow x2 (rI i)) := by
    unfold runA.sl.v3
    rw [View.readAt_eq_ld, e29, e31, ld2]
    refine (read_codes c i arg2 harg2 arg3 harg3 arg4 harg4 arg5 harg5 arg6 harg6 arg7 harg7 arg8 harg8 arg9 harg9 arg10 harg10 arg11 harg11 arg12 harg12 arg13 harg13 _ _ _ _ _ _ rfl).trans ?_
    rw [hf0]
  have e9 : runA.sl.v9 c i arg2 harg2 arg3 harg3 arg4 harg4 arg5 harg5 arg6 harg6 arg7 harg7 arg8 harg8 arg9 harg9 arg10 harg10 arg11 harg11 arg12 harg12 arg13 harg13 x0 x1 x2 hc1 f11 = scol (srowS x0 (mrow x1 (rI i)) (mrow x2 (rI i))) := by
    unfold runA.sl.v9 scol
    rw [View.readAt_eq_ld, e29, e31]
    refine congrArg (fun z => View.ld z _) ((read_srow c i arg2 harg2 arg3 harg3 arg4 harg4 arg5 harg5 arg6 harg6 arg7 harg7 arg8 harg8 arg9 harg9 arg10 harg10 arg11 harg11 arg12 harg12 arg13 harg13 _ _ _ _ _ _ rfl).trans ?_)
    rw [hf0]
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]
  · iexists _; isplitr; swap; · iexact H8
    ipureintro
    rw [e29, e31]
    refine (read_codes c i arg2 harg2 arg3 harg3 arg4 harg4 arg5 harg5 arg6 harg6 arg7 harg7 arg8 harg8 arg9 harg9 arg10 harg10 arg11 harg11 arg12 harg12 arg13 harg13 _ _ _ _ _ _ rfl).trans ?_
    rw [hf0]
  isplitl [H9]
  · iexists _; isplitr; swap; · iexact H9
    ipureintro
    rw [read_setRow (R := 2) (C := 512) _ _ _ (i 0).val _ (k0_off4_eq i)]
    unfold runA.sl.v35
    rw [e29, e31, View.readAt_eq_ld, ld2, View.writes_nil, hf9]
    refine congrArg (fun z => setRow _ (k0_pay3 z) _) ((read_srow c i arg2 harg2 arg3 harg3 arg4 harg4 arg5 harg5 arg6 harg6 arg7 harg7 arg8 harg8 arg9 harg9 arg10 harg10 arg11 harg11 arg12 harg12 arg13 harg13 _ _ _ _ _ _ rfl).trans ?_)
    rw [hf0]
  isplitl [H10]
  · iexists _; isplitr; swap; · iexact H10
    ipureintro
    rw [View.read_writes_eq_canon]; swap
    · exact View.cover_of_tiled _ S512x128.size (by rfl)
    unfold outG
    try unfold runA.sl.r
    rw [e3, e9]
    simp only [View.readAt_eq_ld, hf0, hf1, hf2, hf3, hf4, hf5, hf6, hf7, hf8, hf11, ld2, ld_mrow, read_codes, read_srow]
  iexists _; isplitr; swap; · iexact H11
  ipureintro
  rw [e29, e31]
  refine (read_srow c i arg2 harg2 arg3 harg3 arg4 harg4 arg5 harg5 arg6 harg6 arg7 harg7 arg8 harg8 arg9 harg9 arg10 harg10 arg11 harg11 arg12 harg12 arg13 harg13 _ _ _ _ _ _ rfl).trans ?_
  rw [hf0]

set_option maxHeartbeats 2000000 in
/-- The body at a later tile of queries or keys. -/
theorem runB (hc1 : ¬ k0_cond1 i = 1#1) (hc2 : k0_cond2 i = 1#1) (hc3 : ¬ k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, outG i y8 x3 y11 x4 x5 x6 x7⟫ ∗ ⟪arg13, y11⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]
  · iexists _; isplitr; swap; · iexact H10
    ipureintro
    rw [View.read_writes_eq_canon]; swap
    · exact View.cover_of_tiled _ S512x128.size (by rfl)
    unfold outG scol
    try unfold runB.sl.r
    simp only [View.readAt_eq_ld, hf0, hf1, hf2, hf3, hf4, hf5, hf6, hf7, hf8, hf11, ld2, ld_mrow, read_codes, read_srow]
  iexists _; isplitr; swap; · iexact H11
  ipureintro
  exact hf11

set_option maxHeartbeats 2000000 in
/-- The body at a tile of values. -/
theorem runC (hc1 : ¬ k0_cond1 i = 1#1) (hc2 : ¬ k0_cond2 i = 1#1) (hc3 : k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, outP y8 x3 y11 x4 x5⟫ ∗ ⟪arg13, y11⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]
  · iexists _; isplitr; swap; · iexact H10
    ipureintro
    rw [View.read_writes_eq_canon]; swap
    · exact View.cover_of_tiled _ S512x128.size (by rfl)
    unfold outP scol
    try unfold runC.sl.r
    simp only [View.readAt_eq_ld, hf0, hf1, hf2, hf3, hf4, hf5, hf6, hf7, hf8, hf11, ld2, ld_mrow, read_codes, read_srow]
  iexists _; isplitr; swap; · iexact H11
  ipureintro
  exact hf11

end Runs

/-! ## The proof data -/

/-- The batch element of a point, and a batch element's first point. -/
abbrev rT (t : Fin cfg0.N) : Fin 2 := rI (grid0.coords t)
abbrev pt (r : Fin 2) : Fin cfg0.N := ⟨18 * r.val, by rw [show cfg0.N = 36 from N_0]; omega⟩

/-- A batch element's codes, its rows' scales and its row of the scale output. -/
def codesR (c : Dev nD) (r : Fin 2) : Vec F S512x3072 .i8 := codesS (iblk m c 0 (pt r)) (mrow (iblk m c 1 (pt r)) r) (mrow (iblk m c 2 (pt r)) r)
def srowR (c : Dev nD) (r : Fin 2) : Vec F S512x128 .f32 := srowS (iblk m c 0 (pt r)) (mrow (iblk m c 1 (pt r)) r) (mrow (iblk m c 2 (pt r)) r)
def rowR (c : Dev nD) (r : Fin 2) : Vec F S1x512 .f32 := k0_pay3 (srowR m c r)

/-- The tile a point writes. -/
def outT (c : Dev nD) (t : Fin cfg0.N) : Vec F S512x512 .bf16 :=
  if t.val % 18 < 12 then outG (grid0.coords t) (codesR m c (rT t)) (iblk m c 3 t) (srowR m c (rT t)) (iblk m c 4 t) (iblk m c 5 t) (iblk m c 6 t) (iblk m c 7 t)
  else outP (codesR m c (rT t)) (iblk m c 3 t) (srowR m c (rT t)) (iblk m c 4 t) (iblk m c 5 t)

/-- The relational proof data: an input is left as found; the codes are the batch element's; the scale output holds
    every row met so far; the scratch holds the rows' scales of the batch element last met. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun t _ X => X = codesR m c (rT t)
    | ⟨9, _⟩ => fun t _ X => ∀ r : Fin 2, 18 * r.val ≤ t.val → ∀ b : Fin 512, (X : Vec F S2x512 .f32) (ix2 r b) = rowR m c r (ix2 0 b)
    | ⟨10, _⟩ => fun t _ X => X = outT m c t
  Φ k := iprop((∃ d, ⌜∀ r : Fin 2, 18 * r.val < k.val → k.val ≤ 18 * r.val + 18 → d = srowR m c r⌝
      ∗ owns (c : Thread nD τ) (Memref.whole cc0_scratch0) fullShare d) ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem Φ_eq (c : Dev nD) (k : Fin (cfg0.N + 1)) : (rdat m c).Φ k = iprop((∃ d, ⌜∀ r : Fin 2, 18 * r.val < k.val → k.val ≤ 18 * r.val + 18 → d = srowR m c r⌝
      ∗ owns (c : Thread nD τ) (Memref.whole cc0_scratch0) fullShare d) ∗ (∃ r, prngReg c r)) := by
  dsimp only [rdat]

theorem fetched_eq (c : Dev nD) (t : Fin cfg0.N) (d) : (rdat m c).fetched 0 t d = iblk m c 0 t := by
  unfold RDat.fetched RDat.blockOf iblk; rw [A_eq]; try rfl

/-- The rows are the same at every point of a batch element; the modulation is the same at every point. -/
theorem iblk0 (c : Dev nD) (t : Fin cfg0.N) : (iblk m c 0 t : Vec F S512x3072 .bf16) = iblk m c 0 (pt (rT t)) := by
  have h : ∀ t : Fin cfg0.N, (cfg0.win 0).index t = (cfg0.win 0).index (pt (rT t)) := by decide +kernel
  have e := (rdat m c).fetched_congr 0 (h t) rfl (iblk m c 0 t)
  rw [fetched_eq, fetched_eq] at e
  exact e
theorem iblk1 (c : Dev nD) (t t' : Fin cfg0.N) : (iblk m c 1 t : Vec F S2x3072 .f32) = iblk m c 1 t' := rfl
theorem iblk2 (c : Dev nD) (t t' : Fin cfg0.N) : (iblk m c 2 t : Vec F S2x3072 .f32) = iblk m c 2 t' := rfl

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rw [A_eq]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rw [A_eq]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rw [A_eq]; try rfl

/-- After a batch element's first point its codes are found. -/
theorem finds8 (c : Dev nD) (t : Fin cfg0.N) (ht : t.val % 18 ≠ 0) (Y) (h : (rdat m c).Finds 8 t Y) : Y = codesR m c (rT t) := by
  have hN : t.val < 36 := lt_of_lt_of_eq t.isLt (show cfg0.N = 36 from N_0)
  rcases ((rdat m c).finds_of_pos ((cfg0.win 8).fetch_out rfl t) (by omega) Y).mp h with hf | ⟨_, _, h⟩
  · have := (flush0_8 _).mp hf
    exfalso; simp only at this; omega
  · refine Eq.trans h (congrArg (codesR m c) (Fin.ext ?_))
    show (grid0.coords _ 0).val = (grid0.coords t 0).val
    rw [c0, c0]
    show (t.val - 1) / 18 = t.val / 18
    omega

/-- After the first point the rows met before are found. -/
theorem finds9 (c : Dev nD) (t : Fin cfg0.N) (ht : t.val ≠ 0) (Y) (h : (rdat m c).Finds 9 t Y) :
    ∀ r : Fin 2, 18 * r.val + 1 ≤ t.val → ∀ b : Fin 512, (Y : Vec F S2x512 .f32) (ix2 r b) = rowR m c r (ix2 0 b) := by
  have hN : t.val < 36 := lt_of_lt_of_eq t.isLt (show cfg0.N = 36 from N_0)
  rcases ((rdat m c).finds_of_pos ((cfg0.win 9).fetch_out rfl t) ht Y).mp h with hf | ⟨_, _, h⟩
  · have := (flush0_9 _).mp hf
    exfalso; simp only at this; omega
  · intro r hr b
    exact h r (show 18 * r.val ≤ t.val - 1 by omega) b

/-- The scale output after a batch element's first point. -/
theorem after9 (c : Dev nD) (t : Fin cfg0.N) (h0 : t.val % 18 = 0) (Y : Vec F S2x512 .f32) (h : (rdat m c).Finds 9 t Y) :
    (rdat m c).after 9 t Y (setRow (R := 2) (C := 512) (grid0.coords t 0).val (rowR m c (rT t)) Y) := by
  have hN : t.val < 36 := lt_of_lt_of_eq t.isLt (show cfg0.N = 36 from N_0)
  intro r hr b
  show (if r.val = (grid0.coords t 0).val then rowR m c (rT t) (ix2 0 b) else Y (ix2 r b)) = _
  by_cases e : r.val = (grid0.coords t 0).val
  · rw [if_pos e, show rT t = r from Fin.ext e.symm]
  · rw [if_neg e]
    rw [c0] at e
    exact finds9 m c t (by omega) Y h r (by omega) b

abbrev ms0 (t : Fin cfg0.N) : Memref sig .tc .vmem S512x3072 .bf16 := win0_0.stage (cfg0.slots t 0)
abbrev ms1 (t : Fin cfg0.N) : Memref sig .tc .vmem S2x3072 .f32 := win0_1.stage (cfg0.slots t 1)
abbrev ms2 (t : Fin cfg0.N) : Memref sig .tc .vmem S2x3072 .f32 := win0_2.stage (cfg0.slots t 2)
abbrev ms3 (t : Fin cfg0.N) : Memref sig .tc .vmem S3072x512 .i8 := win0_3.stage (cfg0.slots t 3)
abbrev ms4 (t : Fin cfg0.N) : Memref sig .tc .vmem S1x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S512x3072 .i8 := win0_8.stage (cfg0.slots t 8)
abbrev ms9 (t : Fin cfg0.N) : Memref sig .tc .vmem S2x512 .f32 := win0_9.stage (cfg0.slots t 9)
abbrev ms10 (t : Fin cfg0.N) : Memref sig .tc .vmem S512x512 .bf16 := win0_10.stage (cfg0.slots t 10)

set_option maxHeartbeats 1600000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))) := by
  unfold bodyAt0
  have ec := c0 t
  have hN : t.val < 36 := lt_of_lt_of_eq t.isLt (show cfg0.N = 36 from N_0)
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  rw [e0, e1, e2, e3, e4, e5, e6, e7]
  rw [Φ_eq, Φ_eq, show (rdat m c).owesAt () t.succ = (rdat m c).owesAt () t.castSucc from rfl]
  have hcodes : (codesS (iblk m c 0 t) (mrow (iblk m c 1 t) (rT t)) (mrow (iblk m c 2 t) (rT t)) : Vec F S512x3072 .i8) = codesR m c (rT t) := by
    rw [iblk0, iblk1 m c t (pt (rT t)), iblk2 m c t (pt (rT t))]; rfl
  have hsrow : (srowS (iblk m c 0 t) (mrow (iblk m c 1 t) (rT t)) (mrow (iblk m c 2 t) (rT t)) : Vec F S512x128 .f32) = srowR m c (rT t) := by
    rw [iblk0, iblk1 m c t (pt (rT t)), iblk2 m c t (pt (rT t))]; rfl
  by_cases h0 : t.val % 18 = 0
  · iintro ⟨⟨⟨%d, %hd, HS⟩, Hr⟩, Ho, H0, H1, H2, H3, H4, H5, H6, H7, H8, H9, H10⟩
    iapply (runA c (grid0.coords t) _ _ _ _ _ _ _ _ _ _ _ _ _ _ _ _ _ _ _ _ _ _ _ _ _ _ _ _ _ _ _ _ _ _ _ _ ((hc1 t).mpr h0) ((hc2 t).mpr (by omega)) (fun h => absurd ((hc3 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hr]
    · isplitl [HS]
      · iexists _; isplitr; swap; · iexact HS
        ipureintro
        intro r hr hr'
        have hr1 : 18 * r.val < t.val + 1 := hr
        have hr2 : t.val + 1 ≤ 18 * r.val + 18 := hr'
        have er : r = rT t := Fin.ext (by show r.val = (grid0.coords t 0).val; omega)
        rw [er]; exact hsrow
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; exact hcodes
    isplitl [H9]
    · iexists _; isplitr; swap; · iexact H9
      ipureintro; rw [hsrow]; exact after9 m c t h0 _ (hY 9)
    iexists _; isplitr; swap; · iexact H10
    ipureintro; rw [hcodes, hsrow]; exact (if_pos (by omega)).symm
  · have e8 := finds8 m c t h0 _ (hY 8)
    have e9 := finds9 m c t (by omega) _ (hY 9)
    rw [e8]
    by_cases h12 : t.val % 18 < 12
    · iintro ⟨⟨⟨%d, %hd, HS⟩, Hr⟩, Ho, H0, H1, H2, H3, H4, H5, H6, H7, H8, H9, H10⟩
      obtain rfl := hd (rT t) (by show 18 * (grid0.coords t 0).val < t.val; omega) (by show t.val ≤ 18 * (grid0.coords t 0).val + 18; omega)
      iapply (runB c (grid0.coords t) _ _ _ _ _ _ _ _ _ _ _ _ _ _ _ _ _ _ _ _ _ _ _ _ _ _ _ _ _ _ _ _ _ _ _ _ (fun h => h0 ((hc1 t).mp h)) ((hc2 t).mpr h12) (fun h => absurd ((hc3 t).mp h) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hr]
      · isplitl [HS]
        · iexists _; isplitr; swap; · iexact HS
          ipureintro
          intro r hr hr'
          have hr1 : 18 * r.val < t.val + 1 := hr
          have hr2 : t.val + 1 ≤ 18 * r.val + 18 := hr'
          have er : r = rT t := Fin.ext (by show r.val = (grid0.coords t 0).val; omega)
          rw [er]
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact fun r hr b => e9 r (by omega) b
      iexists _; isplitr; swap; · iexact H10
      ipureintro; exact (if_pos h12).symm
    · iintro ⟨⟨⟨%d, %hd, HS⟩, Hr⟩, Ho, H0, H1, H2, H3, H4, H5, H6, H7, H8, H9, H10⟩
      obtain rfl := hd (rT t) (by show 18 * (grid0.coords t 0).val < t.val; omega) (by show t.val ≤ 18 * (grid0.coords t 0).val + 18; omega)
      iapply (runC c (grid0.coords t) _ _ _ _ _ _ _ _ _ _ _ _ _ _ _ _ _ _ _ _ _ _ _ _ _ _ _ _ _ _ _ _ _ _ _ _ (fun h => h0 ((hc1 t).mp h)) (fun h => h12 ((hc2 t).mp h)) ((hc3 t).mpr (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hr]
      · isplitl [HS]
        · iexists _; isplitr; swap; · iexact HS
          ipureintro
          intro r hr hr'
          have hr1 : 18 * r.val < t.val + 1 := hr
          have hr2 : t.val + 1 ≤ 18 * r.val + 18 := hr'
          have er : r = rT t := Fin.ext (by show r.val = (grid0.coords t 0).val; omega)
          rw [er]
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact fun r hr b => e9 r (by omega) b
      iexists _; isplitr; swap; · iexact H10
      ipureintro; exact (if_neg h12).symm

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

theorem hin (c : Dev nD) : Pipeline.ΦA spec0 c ⊢ (rdat m c).Φ 0 := by
  rw [Φ_eq]
  unfold Pipeline.ΦA
  rw [scopedRest0_eq]
  simp only [owns_whole]
  iintro ⟨⟨%f, H⟩, Hr⟩
  isplitl [H]
  · iexists f; isplitr; swap; · iexact H
    ipureintro
    intro r hr
    exact absurd hr (Nat.not_lt_zero _)
  · iexact Hr

theorem hout (c : Dev nD) : (rdat m c).Φ (Fin.last cfg0.N) ⊢ Pipeline.ΦA spec0 c := by
  rw [Φ_eq]
  unfold Pipeline.ΦA
  rw [scopedRest0_eq]
  simp only [owns_whole]
  iintro ⟨⟨%f, %hf, H⟩, Hr⟩
  isplitl [H]
  · iexists f; iexact H
  · iexact Hr

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  ⟨((h c).2 main_arg0 (Pipeline.mem_restRefs_of main_arg0 (by decide) (by decide))).trans (V_main_arg0 m c),
    (RDat.FramePost.arr_in h c 2 rfl).trans ((A_eq m c 2).trans (V_main_arg1 m c)),
    (RDat.FramePost.arr_in h c 3 rfl).trans ((A_eq m c 3).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) :=
  (θ_run defs _ _).mono (fun _ h => ⟨args_of m h.1, h.2⟩) (run_main_quiescent m ρ)

end Cert.QkvTIdeal.Hand

end
-- ==== Proof.QkvTBitsFrame.lean ====
/- The frame of the text stream's projection call as printed: it is the same program over any float type as its idealization, so it leaves its
   arguments as found as that one does. -/
module

public import proofs.«01_k».proof.Proof.Gen.QkvT.Frame
public import proofs.«01_k».proof.Proof.QkvTFrame

@[expose] public section

set_option maxRecDepth 65536

noncomputable section

namespace Cert.QkvT.Hand

open Cert.QkvT
open Idealize.ShloMosaic Idealize.ShloMosaic.TcCoe Idealize.SL.Sem

variable {F : FTy → Type} [FloatOps F]

/-- The two programs run the same bodies. -/
theorem body_eq : (cc0_qkv (F := F)) = Cert.QkvTIdeal.cc0_qkv (F := F) := rfl

theorem defs₀_eq : (defs₀ (F := F)) = Cert.QkvTIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.QkvTIdeal.defs (F := F) :=
  congrArg (Pipeline.defs pcfgs) defs₀_eq

theorem main_eq : (main (F := F)) = Cert.QkvTIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) := by
  rw [defs_eq]
  exact Cert.QkvTIdeal.Hand.frame (F := F) m ρ

end Cert.QkvT.Hand

end
-- ==== Proof.QkvTPay.lean ====
/- The text stream's projection payloads over the extended reals are the reference's. -/
module

public import proofs.«01_k».proof.Proof.Codes
public import proofs.«01_k».proof.Proof.Gen.QkvTIdeal.Skeleton
public import proofs.«01_k».proof.Proof.Gen.QkvTRefIdeal.Skeleton
public import Idealize.ShloMosaic.Lib.Pointwise

@[expose] public section

noncomputable section

namespace Cert.QkvTPay

open Idealize.ShloMosaic Idealize.ShloMosaic.Pointwise Cert.Codes

local notation "K1" => Cert.QkvTIdeal.Gen.k0_pay1 (F := Ideal)
local notation "K4" => Cert.QkvTIdeal.Gen.k0_pay4 (F := Ideal)
local notation "K11" => Cert.QkvTIdeal.Gen.k0_pay11 (F := Ideal)
local notation "K12" => Cert.QkvTIdeal.Gen.k0_pay12 (F := Ideal)
local notation "K13" => Cert.QkvTIdeal.Gen.k0_pay13 (F := Ideal)
local notation "R4" => Cert.QkvTRefIdeal.Gen.k0_pay4 (F := Ideal)
local notation "R5" => Cert.QkvTRefIdeal.Gen.k0_pay5 (F := Ideal)
local notation "R6" => Cert.QkvTRefIdeal.Gen.k0_pay6 (F := Ideal)
local notation "R7" => Cert.QkvTRefIdeal.Gen.k0_pay7 (F := Ideal)
local notation "R8" => Cert.QkvTRefIdeal.Gen.k0_pay8 (F := Ideal)
local notation "R9" => Cert.QkvTRefIdeal.Gen.k0_pay9 (F := Ideal)
local notation "R10" => Cert.QkvTRefIdeal.Gen.k0_pay10 (F := Ideal)

/-- A row `f` normalised, scaled by one plus `g` and shifted by `s`, at `b`. -/
def lnS (f : Fin 3072 → EReal) (s g : EReal) (b : Fin 3072) : EReal :=
  (f b - Ideal.div (∑ k, f k) (Ideal.ofBits FTy.f32 1161822208#32)) *
      Ideal.rsqrt (Ideal.div (∑ k, (f k - Ideal.div (∑ k, f k) (Ideal.ofBits FTy.f32 1161822208#32))
          * (f k - Ideal.div (∑ k, f k) (Ideal.ofBits FTy.f32 1161822208#32))) (Ideal.ofBits FTy.f32 1161822208#32)
        + Ideal.ofBits FTy.f32 897988541#32) * (1 + g) + s

/-- The scale of a row whose largest magnitude is `a`. -/
def scaleOf (a : EReal) : EReal := if a = 0 then 1 else Ideal.div a (Ideal.ofBits FTy.f32 1123942400#32)

theorem scale_at {s : Shape} (u : FVec Ideal s .f32) (j : s.Idx) :
    select (cmpf .oeq u (broadcast s (Scalar.ofBits (F := Ideal) .f32 0x00000000#32))) (broadcast s (Scalar.ofBits (F := Ideal) .f32 0x3F800000#32))
      (divf u (broadcast s (Scalar.ofBits (F := Ideal) .f32 0x42FE0000#32))) j = scaleOf (u j) := by
  pointwise
  rfl

/-- The largest magnitude of a row. -/
def top (f : Fin 3072 → EReal) : EReal := Finset.fold max (Ideal.ofBits FTy.f32 4286578688#32) (fun k => (FloatOps.absf (f k : Ideal .f32) : Ideal .f32)) Finset.univ

theorem round_at (h w : FVec Ideal Cert.QkvTRefIdeal.S2x512x3072 .f32) (j : Cert.QkvTRefIdeal.S2x512x3072.Idx) :
    roundeven (divf h w) j = Ideal.liftRound Ideal.roundHalfEven (Ideal.div (h j) (w j)) := by
  pointwise
theorem spread_at (u : FVec Ideal Cert.QkvTRefIdeal.S2x512 .f32) (r : Fin 2) (P : Fin 512) (b : Fin 3072) :
    broadcastTo Cert.QkvTRefIdeal.S2x512x3072 (shapeCast Cert.QkvTRefIdeal.S2x512x1 u Cert.QkvTRefIdeal.Gen.shapeCasts_S2x512_S2x512x1)
      Cert.QkvTRefIdeal.Gen.broadcasts_S2x512x1_S2x512x3072 (ix3 r P b) = u (ix2 r P) := by
  pointwise
theorem word_at (h : FVec Ideal Cert.QkvTRefIdeal.S2x512x3072 .f32) (r : Fin 2) (P : Fin 512) (b : Fin 3072) :
    R8 h 127#32 R7 (ix3 r P b) = Ideal.fptosi 8 (min ((((127#32 : BitVec 32).toInt : ℤ) : ℝ) : EReal) (max ((((4294967169#32 : BitVec 32).toInt : ℤ) : ℝ) : EReal) (h (ix3 r P b)))) := by
  pointwise [Cert.QkvTRefIdeal.Gen.k0_pay8, Cert.QkvTRefIdeal.Gen.k0_pay7]
  rfl

section Rows
variable (sh sc : FVec Ideal Cert.QkvTRefIdeal.S2x3072 .f32) (x : FVec Ideal Cert.QkvTRefIdeal.S2x512x3072 .bf16)
  (s g : FVec Ideal Cert.QkvTIdeal.S1x3072 .f32) (v : FVec Ideal Cert.QkvTIdeal.S32x3072 .bf16) (p : Fin 32) (r : Fin 2) (P : Fin 512)
  (hv : ∀ b, v (ix2 p b) = x (ix3 r P b)) (hs : ∀ b, s (ix2 0 b) = sh (ix2 r b)) (hg : ∀ b, g (ix2 0 b) = sc (ix2 r b))
include hv hs hg

theorem lnK (b : Fin 3072) : K11 s (K1 g) v (ix2 p b) = lnS (fun k => x (ix3 r P k)) (sh (ix2 r b)) (sc (ix2 r b)) b := by
  pointwise [Cert.QkvTIdeal.Gen.k0_pay11, Cert.QkvTIdeal.Gen.k0_pay1, hv, hs, hg]
  rfl
omit hv hs hg in
theorem lnR (b : Fin 3072) : R4 sh sc x (ix3 r P b) = lnS (fun k => x (ix3 r P k)) (sh (ix2 r b)) (sc (ix2 r b)) b := by
  pointwise [Cert.QkvTRefIdeal.Gen.k0_pay4]
  rfl
/-- A row normalised and modulated. -/
theorem ln_eq (b : Fin 3072) : K11 s (K1 g) v (ix2 p b) = R4 sh sc x (ix3 r P b) :=
  (lnK sh sc x s g v p r P hv hs hg b).trans (lnR sh sc x r P b).symm

/-- A row's scale. -/
theorem scaleK (u : Fin 1) : K12 s (K1 g) v (ix2 p u) = scaleOf (top fun k => R4 sh sc x (ix3 r P k)) := by
  unfold Cert.QkvTIdeal.Gen.k0_pay12
  refine (scale_at _ _).trans (congrArg scaleOf ?_)
  pointwise [ln_eq sh sc x s g v p r P hv hs hg]
  rfl
omit hv hs hg in
theorem scaleR : R5 sh sc x (ix2 r P) = scaleOf (top fun k => R4 sh sc x (ix3 r P k)) := by
  unfold Cert.QkvTRefIdeal.Gen.k0_pay5
  refine (scale_at _ _).trans (congrArg scaleOf ?_)
  pointwise
  rfl
theorem scale_eq (u : Fin 1) : K12 s (K1 g) v (ix2 p u) = R5 sh sc x (ix2 r P) :=
  (scaleK sh sc x s g v p r P hv hs hg u).trans (scaleR sh sc x r P).symm

/-- A row's codes. -/
theorem codeK (b : Fin 3072) : K13 s (K1 g) v (ix2 p b) = Ideal.fptosi 8 (clip (Ideal.div (R4 sh sc x (ix3 r P b)) (R5 sh sc x (ix2 r P)))) := by
  unfold Cert.QkvTIdeal.Gen.k0_pay13
  have e := ln_eq sh sc x s g v p r P hv hs hg
  have e' := scale_eq sh sc x s g v p r P hv hs hg
  pointwise [e, e']
  exact congrArg (Ideal.fptosi 8) (clip_words _)
omit hv hs hg in
theorem roundR (b : Fin 3072) : R6 sh sc x (ix3 r P b) = Ideal.liftRound Ideal.roundHalfEven (Ideal.div (R4 sh sc x (ix3 r P b)) (R5 sh sc x (ix2 r P))) :=
  (round_at _ _ _).trans (congrArg (fun z => Ideal.liftRound Ideal.roundHalfEven (Ideal.div (R4 sh sc x (ix3 r P b)) z)) (spread_at _ r P b))
omit hv hs hg in
theorem codeR (b : Fin 3072) : R8 (R6 sh sc x) 127#32 R7 (ix3 r P b) = Ideal.fptosi 8 (clip (Ideal.div (R4 sh sc x (ix3 r P b)) (R5 sh sc x (ix2 r P)))) := by
  refine (word_at _ r P b).trans ?_
  rw [roundR]
  exact congrArg (Ideal.fptosi 8) (clip_ints _)
theorem code_eq (b : Fin 3072) : K13 s (K1 g) v (ix2 p b) = R8 (R6 sh sc x) 127#32 R7 (ix3 r P b) :=
  (codeK sh sc x s g v p r P hv hs hg b).trans (codeR sh sc x r P b).symm
end Rows

/-- An entry `y` of a head `f`, divided by the head's root mean square and multiplied by the gain `g`. -/
def headVal (y : EReal) (f : Fin 128 → EReal) (g : EReal) : EReal :=
  y * Ideal.rsqrt (Ideal.div (∑ k, f k * f k) (Ideal.ofBits FTy.f32 1124073472#32) + Ideal.ofBits FTy.f32 897988541#32) * g
/-- A scale across its row, and the scales of all the rows as one row. -/
theorem spread_k (u : FVec Ideal Cert.QkvTIdeal.S32x1 .f32) (p : Fin 32) (b : Fin 128) : Cert.QkvTIdeal.Gen.k0_pay2 (F := Ideal) u (ix2 p b) = u (ix2 p 0) := by
  pointwise [Cert.QkvTIdeal.Gen.k0_pay2]
theorem flip_k (u : Vec Ideal Cert.QkvTIdeal.S512x128 .f32) (a : Fin 512) : Cert.QkvTIdeal.Gen.k0_pay3 (F := Ideal) u (ix2 0 a) = u (ix2 a 0) := by
  pointwise [Cert.QkvTIdeal.Gen.k0_pay3]
/-- Which gains a tile of queries or keys takes. -/
theorem sel_eq : ∀ q : Fin 18, Scalar.cmpi .slt (BitVec.ofNat 32 q.val) 6#32 = if q.val < 6 then 1#1 else 0#1 := by decide +kernel

theorem head_congr (y y' : EReal) (f f' : Fin 128 → EReal) (g g' : EReal) (hy : y = y') (hf : ∀ k, f k = f' k) (hg : g = g') : headVal y f g = headVal y' f' g' := by
  rw [hy, hg, funext hf]

section Kernel
variable (A : FVec Ideal Cert.QkvTIdeal.S512x512 .f32) (w : BitVec 32) (qg kg : FVec Ideal Cert.QkvTIdeal.S1x128 .f32) (p : Fin 512) (d : Fin 128)
theorem head0 : Cert.QkvTIdeal.Gen.k0_pay15 (F := Ideal) w A qg kg (ix2 p d) = headVal (A (ix2 p ⟨0 + d.val, by omega⟩)) (fun k => A (ix2 p ⟨0 + k.val, by omega⟩)) (Cert.QkvTIdeal.Gen.k0_pay14 (F := Ideal) w qg kg (ix2 0 d)) := by
  unfold Cert.QkvTIdeal.Gen.k0_pay15
  generalize Cert.QkvTIdeal.Gen.k0_pay14 (F := Ideal) w qg kg = G
  pointwise
  rfl
theorem head1 : Cert.QkvTIdeal.Gen.k0_pay16 (F := Ideal) w A qg kg (ix2 p d) = headVal (A (ix2 p ⟨128 + d.val, by omega⟩)) (fun k => A (ix2 p ⟨128 + k.val, by omega⟩)) (Cert.QkvTIdeal.Gen.k0_pay14 (F := Ideal) w qg kg (ix2 0 d)) := by
  unfold Cert.QkvTIdeal.Gen.k0_pay16
  generalize Cert.QkvTIdeal.Gen.k0_pay14 (F := Ideal) w qg kg = G
  pointwise
  rfl
theorem head2 (G : FVec Ideal Cert.QkvTIdeal.S1x128 .f32) : Cert.QkvTIdeal.Gen.k0_pay5 (F := Ideal) G (Cert.QkvTIdeal.Gen.k0_pay17 A) (Cert.QkvTIdeal.Gen.k0_pay18 A) Cert.QkvTIdeal.Gen.k0_pay19 (ix2 p d) = headVal (A (ix2 p ⟨256 + d.val, by omega⟩)) (fun k => A (ix2 p ⟨256 + k.val, by omega⟩)) (G (ix2 0 d)) := by
  pointwise [Cert.QkvTIdeal.Gen.k0_pay5, Cert.QkvTIdeal.Gen.k0_pay17, Cert.QkvTIdeal.Gen.k0_pay18, Cert.QkvTIdeal.Gen.k0_pay19]
  rfl
variable (cs : Vec Ideal Cert.QkvTIdeal.S512x3072 .i8) (W : Vec Ideal Cert.QkvTIdeal.S3072x512 .i8) (sr : Vec Ideal Cert.QkvTIdeal.S512x1 .f32) (ws b : Vec Ideal Cert.QkvTIdeal.S1x512 .f32)
theorem head3 (G : FVec Ideal Cert.QkvTIdeal.S1x128 .f32) : Cert.QkvTIdeal.Gen.k0_pay6 (F := Ideal) cs W sr ws b G (ix2 p d) = headVal (K4 cs W sr ws b (ix2 p ⟨384 + d.val, by omega⟩)) (fun k => K4 cs W sr ws b (ix2 p ⟨384 + k.val, by omega⟩)) (G (ix2 0 d)) := by
  unfold Cert.QkvTIdeal.Gen.k0_pay6
  generalize K4 cs W sr ws b = A
  pointwise
  rfl
theorem plain0 : Cert.QkvTIdeal.Gen.k0_pay7 (F := Ideal) cs W sr ws b (ix2 p d) = K4 cs W sr ws b (ix2 p ⟨0 + d.val, by omega⟩) := by
  unfold Cert.QkvTIdeal.Gen.k0_pay7
  generalize K4 cs W sr ws b = A
  pointwise
theorem plain1 : Cert.QkvTIdeal.Gen.k0_pay8 (F := Ideal) cs W sr ws b (ix2 p d) = K4 cs W sr ws b (ix2 p ⟨128 + d.val, by omega⟩) := by
  unfold Cert.QkvTIdeal.Gen.k0_pay8
  generalize K4 cs W sr ws b = A
  pointwise
theorem plain2 : Cert.QkvTIdeal.Gen.k0_pay9 (F := Ideal) cs W sr ws b (ix2 p d) = K4 cs W sr ws b (ix2 p ⟨256 + d.val, by omega⟩) := by
  unfold Cert.QkvTIdeal.Gen.k0_pay9
  generalize K4 cs W sr ws b = A
  pointwise
theorem plain3 : Cert.QkvTIdeal.Gen.k0_pay10 (F := Ideal) cs W sr ws b (ix2 p d) = K4 cs W sr ws b (ix2 p ⟨384 + d.val, by omega⟩) := by
  unfold Cert.QkvTIdeal.Gen.k0_pay10
  generalize K4 cs W sr ws b = A
  pointwise
/-- The gains of a tile of queries, and of a tile of keys. -/
theorem gain_q (h : Scalar.cmpi .slt w 6#32 = 1#1) : Cert.QkvTIdeal.Gen.k0_pay14 (F := Ideal) w qg kg (ix2 0 d) = qg (ix2 0 d) := by
  unfold Cert.QkvTIdeal.Gen.k0_pay14
  rw [h]
  pointwise
theorem gain_k (h : Scalar.cmpi .slt w 6#32 = 0#1) : Cert.QkvTIdeal.Gen.k0_pay14 (F := Ideal) w qg kg (ix2 0 d) = kg (ix2 0 d) := by
  unfold Cert.QkvTIdeal.Gen.k0_pay14
  rw [h]
  pointwise
theorem acc_at (j : Fin 512) : K4 cs W sr ws b (ix2 p j) = (∑ k, (FloatOps.sitofp FTy.bf16 (cs (ix2 p k)) : Ideal .bf16) * (FloatOps.sitofp FTy.bf16 (W (ix2 k j)) : Ideal .bf16)) * sr (ix2 p 0) * ws (ix2 0 j) + b (ix2 0 j) := by
  pointwise [Cert.QkvTIdeal.Gen.k0_pay4]
end Kernel

section Reference
variable (sr : FVec Ideal Cert.QkvTRefIdeal.S2x512 .f32) (h : FVec Ideal Cert.QkvTRefIdeal.S2x512x3072 .f32) (w : BitVec 32) (lo : Ideal .f32) (W : Vec Ideal Cert.QkvTRefIdeal.S3072x9216 .i8)
  (ws b : Vec Ideal Cert.QkvTRefIdeal.S9216 .f32) (g : Vec Ideal Cert.QkvTRefIdeal.S128 .f32) (A : FVec Ideal Cert.QkvTRefIdeal.S1024x3072 .f32) (R : Fin 1024) (n : Fin 3072)

theorem ref_k : Cert.QkvTRefIdeal.Gen.k0_pay2 (F := Ideal) A g (ix2 R n) = headVal (A (ix2 R n)) (fun k => A (ix2 R ⟨n.val / 128 * 128 + k.val, by omega⟩)) (g (ix1 ⟨n.val % 128, by omega⟩)) := by
  pointwise [Cert.QkvTRefIdeal.Gen.k0_pay2]
  rfl
theorem ref_q : Cert.QkvTRefIdeal.Gen.k0_pay1 (Cert.QkvTRefIdeal.Gen.k0_pay13 (F := Ideal) sr h w lo W ws b g) (ix2 R n) = headVal (R10 sr h w lo W ws b (ix2 R ⟨n.val, by omega⟩)) (fun k => R10 sr h w lo W ws b (ix2 R ⟨n.val / 128 * 128 + k.val, by omega⟩)) (g (ix1 ⟨n.val % 128, by omega⟩)) := by
  unfold Cert.QkvTRefIdeal.Gen.k0_pay13
  generalize R10 sr h w lo W ws b = B
  pointwise [Cert.QkvTRefIdeal.Gen.k0_pay1]
  rfl
theorem ref_acc (N : Fin 9216) : R10 sr h w lo W ws b (ix2 R N) = (∑ k, (FloatOps.sitofp FTy.bf16 (R8 h w lo (ix3 ⟨R.val / 512, by omega⟩ ⟨R.val % 512, by omega⟩ k)) : Ideal .bf16) * (FloatOps.sitofp FTy.bf16 (W (ix2 k N)) : Ideal .bf16)) * sr (ix2 ⟨R.val / 512, by omega⟩ ⟨R.val % 512, by omega⟩) * ws (ix1 N) + b (ix1 N) := by
  unfold Cert.QkvTRefIdeal.Gen.k0_pay10
  generalize R8 h w lo = q
  pointwise
theorem ref_codes (k : Fin 3072) : R9 h w lo (ix2 R k) = R8 h w lo (ix3 ⟨R.val / 512, by omega⟩ ⟨R.val % 512, by omega⟩ k) := by
  unfold Cert.QkvTRefIdeal.Gen.k0_pay9
  generalize R8 h w lo = q
  pointwise
end Reference

end Cert.QkvTPay

end
-- ==== Proof.QkvTRefValue.lean ====
/- The text stream's projection reference: its arrays after its run, and each at a point. -/
module

public import proofs.«01_k».proof.Proof.Gen.QkvTRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.Loads
public import proofs.«01_k».proof.Proof.QkvTPay

@[expose] public section

set_option maxRecDepth 16384

noncomputable section

namespace Cert.QkvTRefIdeal.Hand

open Cert.QkvTRefIdeal Cert.QkvTRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S2x512x3072 .bf16 := m ((c.tc : Thread nD τ).loc main_arg0)
abbrev a1 (c : Dev nD) : Vec F S2x18432 .f32 := m ((c.tc : Thread nD τ).loc main_arg1)
abbrev a2 (c : Dev nD) : Vec F S3072x9216 .i8 := m ((c.tc : Thread nD τ).loc main_arg2)
abbrev a3 (c : Dev nD) : Vec F S9216 .f32 := m ((c.tc : Thread nD τ).loc main_arg3)
abbrev a4 (c : Dev nD) : Vec F S9216 .f32 := m ((c.tc : Thread nD τ).loc main_arg4)
abbrev a5 (c : Dev nD) : Vec F S128 .f32 := m ((c.tc : Thread nD τ).loc main_arg5)
abbrev a6 (c : Dev nD) : Vec F S128 .f32 := m ((c.tc : Thread nD τ).loc main_arg6)

theorem e0 : ∀ t : Fin cfg0.N, win0_0.index t = ![0, 0, 0] := by decide +kernel
theorem i0 (c : Dev nD) (t : Fin cfg0.N) : (iblk m c 0 t : Vec F S2x512x3072 .bf16) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S2x18432 .f32) = a1 m c := by
  funext y; blk_simp [iblk]; exact congrArg (a1 m c) (by blk_ext [e1])
theorem e2 : ∀ t : Fin cfg0.N, win0_2.index t = ![0, 0] := by decide +kernel
theorem i2 (c : Dev nD) (t : Fin cfg0.N) : (iblk m c 2 t : Vec F S3072x9216 .i8) = a2 m c := by
  funext y; blk_simp [iblk]; exact congrArg (a2 m c) (by blk_ext [e2])
theorem e3 : ∀ t : Fin cfg0.N, win0_3.index t = ![0] := by decide +kernel
theorem i3 (c : Dev nD) (t : Fin cfg0.N) : (iblk m c 3 t : Vec F S9216 .f32) = a3 m c := by
  funext y; blk_simp [iblk]; exact congrArg (a3 m c) (by blk_ext [e3])
theorem e4 : ∀ t : Fin cfg0.N, win0_4.index t = ![0] := by decide +kernel
theorem i4 (c : Dev nD) (t : Fin cfg0.N) : (iblk m c 4 t : Vec F S9216 .f32) = a4 m c := by
  funext y; blk_simp [iblk]; exact congrArg (a4 m c) (by blk_ext [e4])
theorem e5 : ∀ t : Fin cfg0.N, win0_5.index t = ![0] := by decide +kernel
theorem i5 (c : Dev nD) (t : Fin cfg0.N) : (iblk m c 5 t : Vec F S128 .f32) = a5 m c := by
  funext y; blk_simp [iblk]; exact congrArg (a5 m c) (by blk_ext [e5])
theorem e6 : ∀ t : Fin cfg0.N, win0_6.index t = ![0] := by decide +kernel
theorem i6 (c : Dev nD) (t : Fin cfg0.N) : (iblk m c 6 t : Vec F S128 .f32) = a6 m c := by
  funext y; blk_simp [iblk]; exact congrArg (a6 m c) (by blk_ext [e6])

/-! Each result array is the body's payload of the arguments. -/

theorem e7 : ∀ t : Fin cfg0.N, win0_7.index t = ![0, 0] := by decide +kernel
def res7 (c : Dev nD) : Vec F S1024x3072 .i8 := out0_7 (a0 m c) (a1 m c) (a2 m c) (a3 m c) (a4 m c) (a5 m c) (a6 m c)
theorem final7 (c : Dev nD) : (dats m 0 c).arrAt 7 cfg0.N = res7 m c := by
  refine (dats m 0 c).arrAt_eq_of_covers 7 _ (by decide +kernel) fun t hf y => ?_
  blk_simp
  rw [after0_7, i0, i1, i2, i3, i4, i5, i6]
  exact congrArg (res7 m c) (by blk_ext [e7])

theorem e8 : ∀ t : Fin cfg0.N, win0_8.index t = ![0, 0] := by decide +kernel
def res8 (c : Dev nD) : Vec F S2x512 .f32 := out0_8 (a0 m c) (a1 m c) (a2 m c) (a3 m c) (a4 m c) (a5 m c) (a6 m c)
theorem final8 (c : Dev nD) : (dats m 0 c).arrAt 8 cfg0.N = res8 m c := by
  refine (dats m 0 c).arrAt_eq_of_covers 8 _ (by decide +kernel) fun t hf y => ?_
  blk_simp
  rw [after0_8, i0, i1, i2, i3, i4, i5, i6]
  exact congrArg (res8 m c) (by blk_ext [e8])

theorem e9 : ∀ t : Fin cfg0.N, win0_9.index t = ![0, 0] := by decide +kernel
def res9 (c : Dev nD) : Vec F S1024x9216 .bf16 := out0_9 (a0 m c) (a1 m c) (a2 m c) (a3 m c) (a4 m c) (a5 m c) (a6 m c)
theorem final9 (c : Dev nD) : (dats m 0 c).arrAt 9 cfg0.N = res9 m c := by
  refine (dats m 0 c).arrAt_eq_of_covers 9 _ (by decide +kernel) fun t hf y => ?_
  blk_simp
  rw [after0_9, i0, i1, i2, i3, i4, i5, i6]
  exact congrArg (res9 m c) (by blk_ext [e9])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res7 m c
      ∧ r.2.mem ((c.tc : Thread nD τ).loc main_v0_1) = res8 m c
      ∧ r.2.mem ((c.tc : Thread nD τ).loc main_v0_2) = res9 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

/-! The results at a point. -/

section Points
open Cert.QkvTPay Idealize.ShloMosaic.Pointwise
variable (x0 : Vec Ideal S2x512x3072 .bf16) (x1 : Vec Ideal S2x18432 .f32) (x2 : Vec Ideal S3072x9216 .i8) (x3 x4 : Vec Ideal S9216 .f32) (x5 x6 : Vec Ideal S128 .f32)

/-- The shift and the scale of the modulation. -/
def sh : Vec Ideal S2x3072 .f32 := View.ld x1 r0_0
def sc : Vec Ideal S2x3072 .f32 := View.ld x1 r0_1
theorem sh_at (r : Fin 2) (b : Fin 3072) : sh x1 (ix2 r b) = x1 (ix2 r ⟨0 + b.val, by omega⟩) := by
  unfold sh View.ld
  congr 1
  funext a
  apply Fin.ext
  fin_cases a
  · show 0 + 1 * r.val = r.val
    omega
  · show 0 + 1 * b.val = 0 + b.val
    omega
theorem sc_at (r : Fin 2) (b : Fin 3072) : sc x1 (ix2 r b) = x1 (ix2 r ⟨3072 + b.val, by omega⟩) := by
  unfold sc View.ld
  congr 1
  funext a
  apply Fin.ext
  fin_cases a
  · show 0 + 1 * r.val = r.val
    omega
  · show 3072 + 1 * b.val = 3072 + b.val
    omega

/-- The rounded quotients, the scales, and the projections before the heads are normalised. -/
def rnd : FVec Ideal S2x512x3072 .f32 := k0_pay6 (sh x1) (sc x1) x0
def scl : FVec Ideal S2x512 .f32 := k0_pay5 (sh x1) (sc x1) x0
def acc : FVec Ideal S1024x9216 .f32 := k0_pay10 (scl x0 x1) (rnd x0 x1) 127#32 k0_pay7 x2 x3 x4

theorem p14 : k0_pay14 x0 x1 x2 x3 x4 x5 x6 = scl x0 x1 := by
  unfold k0_pay14 scl sh sc
  rw [show View.ld x0 r0_2 = x0 from ld3 _ x0]
theorem p15 : k0_pay15 x0 x1 x2 x3 x4 x5 x6 = rnd x0 x1 := by
  unfold k0_pay15 rnd sh sc
  rw [show View.ld x0 r0_2 = x0 from ld3 _ x0]

theorem out7_at (R : Fin 1024) (k : Fin 3072) : out0_7 x0 x1 x2 x3 x4 x5 x6 (ix2 R k)
    = k0_pay8 (rnd x0 x1) 127#32 k0_pay7 (ix3 ⟨R.val / 512, by omega⟩ ⟨R.val % 512, by omega⟩ k) := by
  unfold out0_7
  rw [View.canon_unit_zero hz2, p15]
  exact ref_codes _ _ _ R k
theorem out8_eq : out0_8 x0 x1 x2 x3 x4 x5 x6 = scl x0 x1 := by
  unfold out0_8
  rw [View.canon_unit_zero hz2, p14]

/-- What the third result holds: a head of queries or keys normalised, a value as it comes. -/
def outAt (R : Fin 1024) (N : Fin 9216) : EReal :=
  if N.val < 3072 then headVal (acc x0 x1 x2 x3 x4 (ix2 R N)) (fun k => acc x0 x1 x2 x3 x4 (ix2 R ⟨N.val / 128 * 128 + k.val, by omega⟩)) (x5 (ix1 ⟨N.val % 128, by omega⟩))
  else if N.val < 6144 then headVal (acc x0 x1 x2 x3 x4 (ix2 R N)) (fun k => acc x0 x1 x2 x3 x4 (ix2 R ⟨N.val / 128 * 128 + k.val, by omega⟩)) (x6 (ix1 ⟨N.val % 128, by omega⟩))
  else acc x0 x1 x2 x3 x4 (ix2 R N)

theorem place (o : Fin 2 → ℕ) (b : ℕ) (inb) (ho : o = ![0, b]) (R : Fin 1024) (n : Fin 3072) (h : b + n.val < 9216) :
    (Rect.unit (s := S1024x9216) o S1024x3072.size inb).emb (ix2 R n) = ix2 R ⟨b + n.val, h⟩ := by
  subst ho
  funext a
  apply Fin.ext
  fin_cases a
  · show 0 + 1 * R.val = R.val
    omega
  · show b + 1 * n.val = b + n.val
    omega

theorem cut (A : FVec Ideal S1024x9216 .f32) (R : Fin 1024) (n n' : Fin 9216) (h : n.val = n'.val) : A (ix2 R n) = A (ix2 R n') := by
  rw [Fin.ext h]

theorem pay11_at (R : Fin 1024) (n : Fin 3072) : k0_pay11 (scl x0 x1) (rnd x0 x1) 127#32 k0_pay7 x2 x3 x4 (ix2 R n) = acc x0 x1 x2 x3 x4 (ix2 R ⟨3072 + n.val, by omega⟩) := by
  unfold k0_pay11 acc
  generalize k0_pay10 (scl x0 x1) (rnd x0 x1) 127#32 k0_pay7 x2 x3 x4 = A
  pointwise
theorem pay12_at (R : Fin 1024) (n : Fin 3072) : k0_pay3 (k0_pay12 (scl x0 x1) (rnd x0 x1) 127#32 k0_pay7 x2 x3 x4) (ix2 R n) = acc x0 x1 x2 x3 x4 (ix2 R ⟨6144 + n.val, by omega⟩) := by
  unfold k0_pay3 k0_pay12 acc
  generalize k0_pay10 (scl x0 x1) (rnd x0 x1) 127#32 k0_pay7 x2 x3 x4 = A
  pointwise

theorem out9_at (R : Fin 1024) (N : Fin 9216) : out0_9 x0 x1 x2 x3 x4 x5 x6 (ix2 R N) = outAt x0 x1 x2 x3 x4 x5 x6 R N := by
  unfold out0_9
  rw [p14, p15, show View.ld x2 r0_5 = x2 from ld2 _ x2, show View.ld x3 r0_6 = x3 from ld1 _ x3, show View.ld x4 r0_6 = x4 from ld1 _ x4,
    show View.ld x5 r0_7 = x5 from ld1 _ x5, show View.ld x6 r0_7 = x6 from ld1 _ x6]
  refine View.canon_apply_of_pieces (Val := Elt Ideal) (e := .bf16) (fun y => outAt x0 x1 x2 x3 x4 x5 x6 (y 0) (y 1)) _ (fun p hp y => ?_) (ix2 R N) (cover0_9 _ _ _ _)
  simp only [List.mem_cons, List.mem_nil_iff, or_false] at hp
  rcases hp with rfl | rfl | rfl
  · obtain ⟨R, n, rfl⟩ : ∃ (a : Fin 1024) (n : Fin 3072), y = ix2 a n := ⟨_, _, eq_ix2 y⟩
    show _ = outAt x0 x1 x2 x3 x4 x5 x6 (r0_10.emb (ix2 R n) 0) (r0_10.emb (ix2 R n) 1)
    rw [place _ 6144 _ rfl R n (by omega)]
    show _ = outAt x0 x1 x2 x3 x4 x5 x6 R ⟨6144 + n.val, by omega⟩
    unfold outAt
    rw [if_neg (by show ¬ (6144 + n.val < 3072); omega), if_neg (by show ¬ (6144 + n.val < 6144); omega)]
    exact pay12_at x0 x1 x2 x3 x4 R n
  · obtain ⟨R, n, rfl⟩ : ∃ (a : Fin 1024) (n : Fin 3072), y = ix2 a n := ⟨_, _, eq_ix2 y⟩
    show _ = outAt x0 x1 x2 x3 x4 x5 x6 (r0_9.emb (ix2 R n) 0) (r0_9.emb (ix2 R n) 1)
    rw [place _ 3072 _ rfl R n (by omega)]
    show _ = outAt x0 x1 x2 x3 x4 x5 x6 R ⟨3072 + n.val, by omega⟩
    unfold outAt
    rw [if_neg (by show ¬ (3072 + n.val < 3072); omega), if_pos (by show 3072 + n.val < 6144; omega)]
    refine (ref_k _ _ R n).trans ?_
    refine head_congr _ _ _ _ _ _ (pay11_at x0 x1 x2 x3 x4 R n) (fun k => (pay11_at x0 x1 x2 x3 x4 R _).trans (cut _ R _ _ ?_)) ?_
    · show 3072 + (n.val / 128 * 128 + k.val) = (3072 + n.val) / 128 * 128 + k.val
      omega
    · exact congrArg x6 (congrArg ix1 (Fin.ext (by show n.val % 128 = (3072 + n.val) % 128; omega)))
  · obtain ⟨R, n, rfl⟩ : ∃ (a : Fin 1024) (n : Fin 3072), y = ix2 a n := ⟨_, _, eq_ix2 y⟩
    show _ = outAt x0 x1 x2 x3 x4 x5 x6 (r0_8.emb (ix2 R n) 0) (r0_8.emb (ix2 R n) 1)
    rw [place _ 0 _ rfl R n (by omega)]
    show _ = outAt x0 x1 x2 x3 x4 x5 x6 R ⟨0 + n.val, by omega⟩
    unfold outAt
    rw [if_pos (by show 0 + n.val < 3072; omega)]
    refine (ref_q _ _ _ _ _ _ _ _ R n).trans ?_
    refine head_congr _ _ _ _ _ _ (cut _ R _ _ (by show n.val = 0 + n.val; omega)) (fun k => (cut _ R _ _ ?_)) ?_
    · show n.val / 128 * 128 + k.val = (0 + n.val) / 128 * 128 + k.val
      omega
    · exact congrArg x5 (congrArg ix1 (Fin.ext (by show n.val % 128 = (0 + n.val) % 128; omega)))
end Points

end Cert.QkvTRefIdeal.Hand

end
-- ==== Proof.QkvTValue.lean ====
/- The value of the text stream's projection kernel over the extended reals: its three results are the reference's. -/
module

public import proofs.«01_k».proof.Defs
public import proofs.«01_k».proof.Proof.QkvTFrame
public import proofs.«01_k».proof.Proof.QkvTPay
public import proofs.«01_k».proof.Proof.QkvTRefValue
public import Idealize.ShloMosaic.Lib.Pipeline.ArrRel
public import Idealize.ShloMosaic.Lib.Pipeline.ValueKit.Geometry
public import Idealize.ShloMosaic.Lib.Pipeline.ValueKit.Basic
public import Idealize.ShloMosaic.Lib.Pointwise
public import Idealize.ShloMosaic.Lib.Claim

@[expose] public section

set_option maxRecDepth 16384

noncomputable section

namespace Cert.QkvTIdeal.Hand

open Cert.QkvTIdeal Cert.QkvTIdeal.Gen Cert.QkvTPay Cert.Loops
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S2x512x3072 .bf16 := m ((c.tc : Thread nD τ).loc main_arg0)
abbrev x1 : Vec F S2x18432 .f32 := m ((c.tc : Thread nD τ).loc main_arg1)
abbrev x2 : Vec F S3072x9216 .i8 := m ((c.tc : Thread nD τ).loc main_arg2)
abbrev x3 : Vec F S9216 .f32 := m ((c.tc : Thread nD τ).loc main_arg3)
abbrev x4 : Vec F S9216 .f32 := m ((c.tc : Thread nD τ).loc main_arg4)
abbrev x5 : Vec F S128 .f32 := m ((c.tc : Thread nD τ).loc main_arg5)
abbrev x6 : Vec F S128 .f32 := m ((c.tc : Thread nD τ).loc main_arg6)

/-! Where each block lies. -/

theorem wx0 : ∀ t : Fin cfg0.N, win0_0.index t = ![t.val / 18, 0] := by decide +kernel
theorem wx1 : ∀ t : Fin cfg0.N, win0_1.index t = ![0, 0] := by decide +kernel
theorem wx2 : ∀ t : Fin cfg0.N, win0_2.index t = ![0, 1] := by decide +kernel
theorem wx3 : ∀ t : Fin cfg0.N, win0_3.index t = ![0, t.val % 18] := by decide +kernel
theorem wx4 : ∀ t : Fin cfg0.N, win0_4.index t = ![0, t.val % 18] := by decide +kernel
theorem wx5 : ∀ t : Fin cfg0.N, win0_5.index t = ![0, t.val % 18] := by decide +kernel
theorem wx6 : ∀ t : Fin cfg0.N, win0_6.index t = ![0, 0] := by decide +kernel
theorem wx7 : ∀ t : Fin cfg0.N, win0_7.index t = ![0, 0] := by decide +kernel
theorem wx8 : ∀ t : Fin cfg0.N, win0_8.index t = ![t.val / 18, 0] := by decide +kernel
theorem wx9 : ∀ t : Fin cfg0.N, win0_9.index t = ![0, 0] := by decide +kernel
theorem wx10 : ∀ t : Fin cfg0.N, win0_10.index t = ![t.val / 18, t.val % 18] := by decide +kernel

/-- The scale output leaves at the last point only. -/
theorem flush9 : ∀ t : Fin cfg0.N, (cfg0.win 9).flush t = true → 18 ≤ t.val := by decide +kernel

theorem lt36 (t : Fin cfg0.N) : t.val < 36 := lt_of_lt_of_eq t.isLt (show cfg0.N = 36 from N_0)

/-- A token of the batch element `r`, and column `j` of the tile at `t`. -/
def row (r : Fin 2) (p : Fin 512) : Fin 1024 := ⟨r.val * 512 + p.val, by omega⟩
def col (t : Fin cfg0.N) (j : Fin 512) : Fin 9216 := ⟨t.val % 18 * 512 + j.val, by omega⟩
theorem row_div (r : Fin 2) (p : Fin 512) (h : (row r p).val / 512 < 2) : (⟨(row r p).val / 512, h⟩ : Fin 2) = r :=
  Fin.ext (by show (r.val * 512 + p.val) / 512 = r.val; omega)
theorem row_mod (r : Fin 2) (p : Fin 512) (h : (row r p).val % 512 < 512) : (⟨(row r p).val % 512, h⟩ : Fin 512) = p :=
  Fin.ext (by show (r.val * 512 + p.val) % 512 = p.val; omega)

theorem V0 : (V m c main_v0 : Vec F S1024x3072 .bf16) = shapeCast S1024x3072 (x0 m c) shapeCasts_S2x512x3072_S1024x3072 := by
  entry_read; rfl
theorem V1 : (V m c main_v1 : Vec F S1x9216 .f32) = shapeCast S1x9216 (x3 m c) shapeCasts_S9216_S1x9216 := by
  entry_read; rfl
theorem V2 : (V m c main_v2 : Vec F S1x9216 .f32) = shapeCast S1x9216 (x4 m c) shapeCasts_S9216_S1x9216 := by
  entry_read; rfl
theorem V3 : (V m c main_v3 : Vec F S1x128 .f32) = shapeCast S1x128 (x5 m c) shapeCasts_S128_S1x128 := by
  entry_read; rfl
theorem V4 : (V m c main_v4 : Vec F S1x128 .f32) = shapeCast S1x128 (x6 m c) shapeCasts_S128_S1x128 := by
  entry_read; rfl

theorem blk0 (t : Fin cfg0.N) (p : Fin 512) (k : Fin 3072) :
    (iblk m c 0 t : Vec F S512x3072 .bf16) (ix2 p k) = x0 m c (ix3 (rT t) p k) := by
  have e : (iblk m c 0 t : Vec F S512x3072 .bf16) (ix2 p k) = (V m c main_v0 : Vec F S1024x3072 .bf16) (ix2 (row (rT t) p) k) := by
    blk_simp [iblk]
    refine congrArg (V m c main_v0) ?_
    blk_ext [wx0]
    show t.val / 18 * 512 + p.val = (grid0.coords t 0).val * 512 + p.val
    rw [c0]
  have e' : shapeCast S1024x3072 (x0 m c) shapeCasts_S2x512x3072_S1024x3072 (ix2 (row (rT t) p) k) = x0 m c (ix3 ⟨(row (rT t) p).val / 512, by omega⟩ ⟨(row (rT t) p).val % 512, by omega⟩ k) := by
    pointwise
  rw [e, V0, e', row_div, row_mod]
theorem blk1 (t : Fin cfg0.N) (r : Fin 2) (k : Fin 3072) :
    (iblk m c 1 t : Vec F S2x3072 .f32) (ix2 r k) = x1 m c (ix2 r ⟨0 + k.val, by omega⟩) := by
  blk_simp [iblk]; rw [V_main_arg1]; exact congrArg (x1 m c) (by blk_ext [wx1])
theorem blk2 (t : Fin cfg0.N) (r : Fin 2) (k : Fin 3072) :
    (iblk m c 2 t : Vec F S2x3072 .f32) (ix2 r k) = x1 m c (ix2 r ⟨3072 + k.val, by omega⟩) := by
  blk_simp [iblk]; rw [V_main_arg1]; exact congrArg (x1 m c) (by blk_ext [wx2])
theorem blk3 (t : Fin cfg0.N) (k : Fin 3072) (j : Fin 512) :
    (iblk m c 3 t : Vec F S3072x512 .i8) (ix2 k j) = x2 m c (ix2 k (col t j)) := by
  blk_simp [iblk]; rw [V_main_arg2]; exact congrArg (x2 m c) (by blk_ext [wx3]; rfl)
theorem blk4 (t : Fin cfg0.N) (j : Fin 512) : (iblk m c 4 t : Vec F S1x512 .f32) (ix2 0 j) = x3 m c (ix1 (col t j)) := by
  have e : (iblk m c 4 t : Vec F S1x512 .f32) (ix2 0 j) = (V m c main_v1 : Vec F S1x9216 .f32) (ix2 0 (col t j)) := by
    blk_simp [iblk]; exact congrArg (V m c main_v1) (by blk_ext [wx4]; rfl)
  rw [e, V1]; pointwise
theorem blk5 (t : Fin cfg0.N) (j : Fin 512) : (iblk m c 5 t : Vec F S1x512 .f32) (ix2 0 j) = x4 m c (ix1 (col t j)) := by
  have e : (iblk m c 5 t : Vec F S1x512 .f32) (ix2 0 j) = (V m c main_v2 : Vec F S1x9216 .f32) (ix2 0 (col t j)) := by
    blk_simp [iblk]; exact congrArg (V m c main_v2) (by blk_ext [wx5]; rfl)
  rw [e, V2]; pointwise
theorem blk6 (t : Fin cfg0.N) (d : Fin 128) : (iblk m c 6 t : Vec F S1x128 .f32) (ix2 0 d) = x5 m c (ix1 d) := by
  have e : (iblk m c 6 t : Vec F S1x128 .f32) (ix2 0 d) = (V m c main_v3 : Vec F S1x128 .f32) (ix2 0 d) := by
    blk_simp [iblk]; exact congrArg (V m c main_v3) (by blk_ext [wx6])
  rw [e, V3]; pointwise
theorem blk7 (t : Fin cfg0.N) (d : Fin 128) : (iblk m c 7 t : Vec F S1x128 .f32) (ix2 0 d) = x6 m c (ix1 d) := by
  have e : (iblk m c 7 t : Vec F S1x128 .f32) (ix2 0 d) = (V m c main_v4 : Vec F S1x128 .f32) (ix2 0 d) := by
    blk_simp [iblk]; exact congrArg (V m c main_v4) (by blk_ext [wx7])
  rw [e, V4]; pointwise

theorem chunk_at (x : Vec F S512x3072 .bf16) (a : Fin 512) (b : Fin 3072) : xchunk x (kof a) (ix2 (pof a) b) = x (ix2 a b) := by
  show x (ix2 ⟨32 * (a.val / 32) + a.val % 32, _⟩ b) = x (ix2 a b)
  exact congrArg (fun z => x (ix2 z b)) (Fin.ext (by show 32 * (a.val / 32) + a.val % 32 = a.val; omega))
theorem mrow_at (X : Vec F S2x3072 .f32) (r : Fin 2) (b : Fin 3072) : mrow X r (ix2 0 b) = X (ix2 r b) :=
  congrArg (fun z => X (ix2 z b)) (Fin.ext (by show r.val + 0 = r.val; omega))
theorem scol_at (X : Vec F S512x128 .f32) (p : Fin 512) : scol X (ix2 p 0) = X (ix2 p 0) := by
  unfold scol View.ld
  congr 1
  funext a
  apply Fin.ext
  fin_cases a
  · show 0 + 1 * p.val = p.val
    omega
  · rfl
theorem place (o : Fin 2 → ℕ) (b : ℕ) (inb) (ho : o = ![0, b]) (p : Fin 512) (n : Fin 128) (h : b + n.val < 512) :
    (Rect.unit (s := S512x512) o S512x128.size inb).emb (ix2 p n) = ix2 p ⟨b + n.val, h⟩ := by
  subst ho
  funext a
  apply Fin.ext
  fin_cases a
  · show 0 + 1 * p.val = p.val
    omega
  · show b + 1 * n.val = b + n.val
    omega
end Any

/-! A tile at a point. -/

section Tile
variable (i : grid0.Coords) (cs : Vec Ideal S512x3072 .i8) (w : Vec Ideal S3072x512 .i8) (sr : Vec Ideal S512x128 .f32) (ws b : Vec Ideal S1x512 .f32) (qg kg : Vec Ideal S1x128 .f32)

/-- A normalised head of a tile. -/
def tileG (A : FVec Ideal S512x512 .f32) (g : FVec Ideal S1x128 .f32) (p j : Fin 512) : EReal :=
  headVal (A (ix2 p j)) (fun k => A (ix2 p ⟨j.val / 128 * 128 + k.val, by omega⟩)) (g (ix2 0 ⟨j.val % 128, by omega⟩))

theorem tileG_at (A : FVec Ideal S512x512 .f32) (g : FVec Ideal S1x128 .f32) (p : Fin 512) (d : Fin 128) (u : Fin 4) (o : ℕ) (ho : o = 128 * u.val) (h : ∀ k : Fin 128, o + k.val < 512) :
    headVal (A (ix2 p ⟨o + d.val, h d⟩)) (fun k => A (ix2 p ⟨o + k.val, h k⟩)) (g (ix2 0 d)) = tileG A g p ⟨o + d.val, h d⟩ := by
  have hk : ∀ k : Fin 128, (⟨(o + d.val) / 128 * 128 + k.val, by omega⟩ : Fin 512) = ⟨o + k.val, h k⟩ := fun k => Fin.ext (by show (o + d.val) / 128 * 128 + k.val = o + k.val; omega)
  have hd : (⟨(o + d.val) % 128, by omega⟩ : Fin 128) = d := Fin.ext (by show (o + d.val) % 128 = d.val; omega)
  show _ = headVal (A (ix2 p ⟨o + d.val, h d⟩)) (fun k => A (ix2 p ⟨(o + d.val) / 128 * 128 + k.val, by omega⟩)) (g (ix2 0 ⟨(o + d.val) % 128, by omega⟩))
  rw [hd]
  simp only [hk]

/-- Four stores of 128 columns each fill a tile. -/
theorem four (G : Fin 512 → Fin 512 → EReal) (w3 w2 w1 w0 : Vec Ideal S512x128 .bf16)
    (h3 : ∀ (p : Fin 512) (d : Fin 128), w3 (ix2 p d) = G p ⟨384 + d.val, by omega⟩) (h2 : ∀ (p : Fin 512) (d : Fin 128), w2 (ix2 p d) = G p ⟨256 + d.val, by omega⟩)
    (h1 : ∀ (p : Fin 512) (d : Fin 128), w1 (ix2 p d) = G p ⟨128 + d.val, by omega⟩) (h0 : ∀ (p : Fin 512) (d : Fin 128), w0 (ix2 p d) = G p ⟨0 + d.val, by omega⟩) (p j : Fin 512) :
    View.canon (Val := Elt Ideal) (s := S512x512) (e := .bf16)
      [⟨Rect.unit (s := S512x512) ![0, 384] S512x128.size inb_S512x512_S512x128_0_384, w3⟩,
        ⟨Rect.unit (s := S512x512) ![0, 256] S512x128.size inb_S512x512_S512x128_0_256, w2⟩,
        ⟨Rect.unit (s := S512x512) ![0, 128] S512x128.size inb_S512x512_S512x128_0_128, w1⟩,
        ⟨Rect.unit (s := S512x512) ![0, 0] S512x128.size inb_S512x512_S512x128_0_0, w0⟩] (ix2 p j) = G p j := by
  refine (View.canon_apply_of_pieces (Val := Elt Ideal) (S := S512x512) (e := .bf16) (fun y => G (y 0) (y 1)) _ ?_ (ix2 p j) ?_).trans rfl
  · intro q hq y
    simp only [List.mem_cons, List.mem_nil_iff, or_false] at hq
    rcases hq with rfl | rfl | rfl | rfl
    · obtain ⟨p, d, rfl⟩ : ∃ (a : Fin 512) (n : Fin 128), y = ix2 a n := ⟨_, _, eq_ix2 y⟩
      exact (h3 p d).trans (congrArg (fun z : S512x512.Idx => G (z 0) (z 1)) (place _ 384 inb_S512x512_S512x128_0_384 rfl p d (by omega))).symm
    · obtain ⟨p, d, rfl⟩ : ∃ (a : Fin 512) (n : Fin 128), y = ix2 a n := ⟨_, _, eq_ix2 y⟩
      exact (h2 p d).trans (congrArg (fun z : S512x512.Idx => G (z 0) (z 1)) (place _ 256 inb_S512x512_S512x128_0_256 rfl p d (by omega))).symm
    · obtain ⟨p, d, rfl⟩ : ∃ (a : Fin 512) (n : Fin 128), y = ix2 a n := ⟨_, _, eq_ix2 y⟩
      exact (h1 p d).trans (congrArg (fun z : S512x512.Idx => G (z 0) (z 1)) (place _ 128 inb_S512x512_S512x128_0_128 rfl p d (by omega))).symm
    · obtain ⟨p, d, rfl⟩ : ∃ (a : Fin 512) (n : Fin 128), y = ix2 a n := ⟨_, _, eq_ix2 y⟩
      exact (h0 p d).trans (congrArg (fun z : S512x512.Idx => G (z 0) (z 1)) (place _ 0 inb_S512x512_S512x128_0_0 rfl p d (by omega))).symm
  · refine View.cover_of_tiled (s := S512x512) _ S512x128.size ?_ (ix2 p j)
    rfl

theorem outG_at (p j : Fin 512) : outG i cs w sr ws b qg kg (ix2 p j) = tileG (k0_pay4 cs w (scol sr) ws b) (k0_pay14 (BitVec.ofNat 32 (i 1).val) qg kg) p j :=
  four (tileG (k0_pay4 cs w (scol sr) ws b) (k0_pay14 (BitVec.ofNat 32 (i 1).val) qg kg)) _ _ _ _
    (fun p d => (head3 p d cs w (scol sr) ws b _).trans (tileG_at _ _ p d 3 384 rfl (fun k => by omega)))
    (fun p d => (head2 _ p d _).trans (tileG_at _ _ p d 2 256 rfl (fun k => by omega)))
    (fun p d => (head1 _ _ qg kg p d).trans (tileG_at _ _ p d 1 128 rfl (fun k => by omega)))
    (fun p d => (head0 _ _ qg kg p d).trans (tileG_at _ _ p d 0 0 rfl (fun k => by omega)))
    p j

theorem outP_at (p j : Fin 512) : outP cs w sr ws b (ix2 p j) = k0_pay4 cs w (scol sr) ws b (ix2 p j) :=
  four (fun p j => k0_pay4 cs w (scol sr) ws b (ix2 p j)) _ _ _ _
    (fun p d => plain3 p d cs w (scol sr) ws b)
    (fun p d => plain2 p d cs w (scol sr) ws b)
    (fun p d => plain1 p d cs w (scol sr) ws b)
    (fun p d => plain0 p d cs w (scol sr) ws b)
    p j
end Tile

variable (m : (ℓ : Loc nD τ sig) → Buf (Elt Ideal) ℓ) (ρ : Dev nD → PrngReg) (c : Dev nD)

/-! The three results as the reference states them. -/

def val8 : Vec Ideal S1024x3072 .i8 := Cert.QkvTRefIdeal.Gen.out0_7 (F := Ideal) (x0 m c) (x1 m c) (x2 m c) (x3 m c) (x4 m c) (x5 m c) (x6 m c)
def val9 : Vec Ideal S2x512 .f32 := Cert.QkvTRefIdeal.Gen.out0_8 (F := Ideal) (x0 m c) (x1 m c) (x2 m c) (x3 m c) (x4 m c) (x5 m c) (x6 m c)
def val10 : Vec Ideal S1024x9216 .bf16 := Cert.QkvTRefIdeal.Gen.out0_9 (F := Ideal) (x0 m c) (x1 m c) (x2 m c) (x3 m c) (x4 m c) (x5 m c) (x6 m c)

/-! What the kernel keeps of a batch element. -/

theorem hv (r : Fin 2) (a : Fin 512) (b : Fin 3072) : xchunk (iblk m c 0 (pt r)) (kof a) (ix2 (pof a) b) = x0 m c (ix3 r a b) := by
  refine (chunk_at _ a b).trans ((blk0 m c (pt r) a b).trans ?_)
  rw [show rT (pt r) = r from Fin.ext (by show (grid0.coords (pt r) 0).val = r.val; rw [c0]; show 18 * r.val / 18 = r.val; omega)]
theorem hs (r : Fin 2) (b : Fin 3072) : mrow (iblk m c 1 (pt r)) r (ix2 0 b) = Cert.QkvTRefIdeal.Hand.sh (x1 m c) (ix2 r b) :=
  (mrow_at _ r b).trans ((blk1 m c _ r b).trans (Cert.QkvTRefIdeal.Hand.sh_at (x1 m c) r b).symm)
theorem hg (r : Fin 2) (b : Fin 3072) : mrow (iblk m c 2 (pt r)) r (ix2 0 b) = Cert.QkvTRefIdeal.Hand.sc (x1 m c) (ix2 r b) :=
  (mrow_at _ r b).trans ((blk2 m c _ r b).trans (Cert.QkvTRefIdeal.Hand.sc_at (x1 m c) r b).symm)

theorem codesR_at (r : Fin 2) (a : Fin 512) (b : Fin 3072) : codesR m c r (ix2 a b)
    = Cert.QkvTRefIdeal.Gen.k0_pay8 (Cert.QkvTRefIdeal.Hand.rnd (x0 m c) (x1 m c)) 127#32 Cert.QkvTRefIdeal.Gen.k0_pay7 (ix3 r a b) :=
  code_eq _ _ (x0 m c) _ _ _ (pof a) r a (hv m c r a) (hs m c r) (hg m c r) b
theorem srowR_at (r : Fin 2) (a : Fin 512) (b : Fin 128) : srowR m c r (ix2 a b) = Cert.QkvTRefIdeal.Hand.scl (x0 m c) (x1 m c) (ix2 r a) :=
  (spread_k _ (pof a) b).trans (scale_eq _ _ (x0 m c) _ _ _ (pof a) r a (hv m c r a) (hs m c r) (hg m c r) 0)
theorem rowR_at (r : Fin 2) (a : Fin 512) : rowR m c r (ix2 0 a) = Cert.QkvTRefIdeal.Hand.scl (x0 m c) (x1 m c) (ix2 r a) :=
  (flip_k _ a).trans (srowR_at m c r a 0)

theorem acc_eq (t : Fin cfg0.N) (r : Fin 2) (p j : Fin 512) :
    k0_pay4 (codesR m c r) (iblk m c 3 t) (scol (srowR m c r)) (iblk m c 4 t) (iblk m c 5 t) (ix2 p j)
      = Cert.QkvTRefIdeal.Hand.acc (x0 m c) (x1 m c) (x2 m c) (x3 m c) (x4 m c) (ix2 (row r p) (col t j)) := by
  refine (acc_at p (codesR m c r) (iblk m c 3 t) (scol (srowR m c r)) (iblk m c 4 t) (iblk m c 5 t) j).trans ?_
  unfold Cert.QkvTRefIdeal.Hand.acc
  rw [ref_acc]
  have e : scol (srowR m c r) (ix2 p 0) = Cert.QkvTRefIdeal.Hand.scl (x0 m c) (x1 m c) (ix2 r p) := (scol_at _ p).trans (srowR_at m c r p 0)
  rw [e]
  simp only [row_div, row_mod, codesR_at, blk3, blk4, blk5]

theorem outT_at (t : Fin cfg0.N) (p j : Fin 512) : outT m c t (ix2 p j)
    = Cert.QkvTRefIdeal.Hand.outAt (x0 m c) (x1 m c) (x2 m c) (x3 m c) (x4 m c) (x5 m c) (x6 m c) (row (rT t) p) (col t j) := by
  have hN : (col t j).val = t.val % 18 * 512 + j.val := rfl
  unfold outT Cert.QkvTRefIdeal.Hand.outAt
  by_cases h : t.val % 18 < 12
  · rw [if_pos h]
    refine (outG_at _ _ _ _ _ _ _ _ p j).trans ?_
    unfold tileG
    have hw : Scalar.cmpi .slt (BitVec.ofNat 32 (grid0.coords t 1).val) 6#32 = if t.val % 18 < 6 then 1#1 else 0#1 := by
      rw [c1]
      exact sel_eq ⟨t.val % 18, by omega⟩
    have hk : ∀ k : Fin 128, col t ⟨j.val / 128 * 128 + k.val, by omega⟩ = ⟨(col t j).val / 128 * 128 + k.val, by omega⟩ := fun k =>
      Fin.ext (by show t.val % 18 * 512 + (j.val / 128 * 128 + k.val) = (t.val % 18 * 512 + j.val) / 128 * 128 + k.val; omega)
    have hd : (⟨(col t j).val % 128, by omega⟩ : Fin 128) = ⟨j.val % 128, by omega⟩ :=
      Fin.ext (by show (t.val % 18 * 512 + j.val) % 128 = j.val % 128; omega)
    by_cases h6 : t.val % 18 < 6
    · rw [if_pos (show (col t j).val < 3072 by omega)]
      rw [if_pos h6] at hw
      refine head_congr _ _ _ _ _ _ (acc_eq m c t _ p j) (fun k => (acc_eq m c t _ p _).trans ?_) ((gain_q _ _ _ _ hw).trans ((blk6 m c t _).trans ?_))
      · rw [hk]
      · rw [hd]
    · rw [if_neg (show ¬ (col t j).val < 3072 by omega), if_pos (show (col t j).val < 6144 by omega)]
      rw [if_neg h6] at hw
      refine head_congr _ _ _ _ _ _ (acc_eq m c t _ p j) (fun k => (acc_eq m c t _ p _).trans ?_) ((gain_k _ _ _ _ hw).trans ((blk7 m c t _).trans ?_))
      · rw [hk]
      · rw [hd]
  · rw [if_neg h, if_neg (show ¬ (col t j).val < 3072 by omega), if_neg (show ¬ (col t j).val < 6144 by omega)]
    exact (outP_at _ _ _ _ _ p j).trans (acc_eq m c t _ p j)

/-- Every array after the run. -/
theorem finals {r} (h : RDat.FramePost (cfgs 0) (rdat m) (V m) r) :
    r.2.mem ((c.tc : Thread nD τ).loc main_v5_0) = val8 m c
      ∧ r.2.mem ((c.tc : Thread nD τ).loc main_v5_1) = val9 m c
      ∧ r.2.mem ((c.tc : Thread nD τ).loc main_v5_2) = val10 m c := by
  obtain ⟨after, hL, hA⟩ := RDat.FramePost.exists_exact h c
  refine ⟨(hA 8).trans ?_, (hA 9).trans ?_, (hA 10).trans ?_⟩
  · refine ((rdat m c).withAfter after).arrAt_eq_of_covers 8 (val8 m c) (by decide +kernel) fun t hf y => ?_
    obtain ⟨_, _, e⟩ := hL 8 t hf
    rw [RDat.withAfter_after, show after 8 t = codesR m c (rT t) from e]
    blk_simp
    obtain ⟨a, n, rfl⟩ : ∃ (a : Fin 512) (n : Fin 3072), y = ix2 a n := ⟨_, _, eq_ix2 y⟩
    have e8 : val8 m c (ix2 (row (rT t) a) n) = _ := Cert.QkvTRefIdeal.Hand.out7_at (x0 m c) (x1 m c) (x2 m c) (x3 m c) (x4 m c) (x5 m c) (x6 m c) (row (rT t) a) n
    rw [row_div, row_mod] at e8
    refine ((codesR_at m c (rT t) a n).trans e8.symm).trans (congrArg (val8 m c) ?_)
    blk_ext [wx8]
    show (grid0.coords t 0).val * 512 + a.val = t.val / 18 * 512 + a.val
    rw [c0]
  · refine ((rdat m c).withAfter after).arrAt_eq_of_covers 9 (val9 m c) (by decide +kernel) fun t hf y => ?_
    obtain ⟨_, _, e⟩ := hL 9 t hf
    have e' : ∀ r : Fin 2, 18 * r.val ≤ t.val → ∀ b : Fin 512, (after 9 t : Vec Ideal S2x512 .f32) (ix2 r b) = rowR m c r (ix2 0 b) := e
    rw [RDat.withAfter_after]
    have ht : 18 ≤ t.val := flush9 t hf
    blk_simp
    obtain ⟨a, n, rfl⟩ : ∃ (a : Fin 2) (n : Fin 512), y = ix2 a n := ⟨_, _, eq_ix2 y⟩
    refine ((e' a (by omega) n).trans ((rowR_at m c a n).trans (congrFun (Cert.QkvTRefIdeal.Hand.out8_eq (x0 m c) (x1 m c) (x2 m c) (x3 m c) (x4 m c) (x5 m c) (x6 m c)) _).symm)).trans (congrArg (val9 m c) ?_)
    blk_ext [wx9]
  · refine ((rdat m c).withAfter after).arrAt_eq_of_covers 10 (val10 m c) (by decide +kernel) fun t hf y => ?_
    obtain ⟨_, _, e⟩ := hL 10 t hf
    rw [RDat.withAfter_after, show after 10 t = outT m c t from e]
    blk_simp
    obtain ⟨a, n, rfl⟩ : ∃ (a : Fin 512) (n : Fin 512), y = ix2 a n := ⟨_, _, eq_ix2 y⟩
    refine ((outT_at m c t a n).trans (Cert.QkvTRefIdeal.Hand.out9_at (x0 m c) (x1 m c) (x2 m c) (x3 m c) (x4 m c) (x5 m c) (x6 m c) (row (rT t) a) (col t n)).symm).trans (congrArg (val10 m c) ?_)
    blk_ext [wx10]
    · show (grid0.coords t 0).val * 512 + a.val = t.val / 18 * 512 + a.val
      rw [c0]
    · rfl

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v5_0) = val8 m c
      ∧ r.2.mem ((c.tc : Thread nD τ).loc main_v5_1) = val9 m c
      ∧ r.2.mem ((c.tc : Thread nD τ).loc main_v5_2) = val10 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨(finals m c h.1).1, (finals m c h.1).2.1, (finals m c h.1).2.2, args_of m h.1 c⟩) (run_main_quiescent m ρ)

end Cert.QkvTIdeal.Hand

namespace Cert.QkvTPay
open Idealize.ShloMosaic Idealize.ShloMosaic.TcCoe Idealize.SL.Sem

/-- The kernel and the reference end with the same three results. -/
theorem algebraic [hK : Cert.QkvTIdeal.Facts] [hR : Cert.QkvTRefIdeal.Facts] : Cert.algebraic_QkvTIdeal_QkvTRefIdeal := by
  intro m g m' g' _ hag
  refine ⟨fun c => Cert.QkvTIdeal.Hand.val8 m c, fun c => Cert.QkvTIdeal.Hand.val9 m c, fun c => Cert.QkvTIdeal.Hand.val10 m c, ?_, ?_⟩
  · exact Cert.QkvTIdeal.Hand.run m g
  · refine (θ_run _ _ _).mono (fun r h c => ?_) (Cert.QkvTRefIdeal.Hand.run m' g')
    obtain ⟨h0, h1, h2, h3, h4, h5, h6⟩ := hag c
    have g0 : Cert.QkvTRefIdeal.Hand.a0 m' c = Cert.QkvTIdeal.Hand.x0 m c := h0
    have g1 : Cert.QkvTRefIdeal.Hand.a1 m' c = Cert.QkvTIdeal.Hand.x1 m c := h1
    have g2 : Cert.QkvTRefIdeal.Hand.a2 m' c = Cert.QkvTIdeal.Hand.x2 m c := h2
    have g3 : Cert.QkvTRefIdeal.Hand.a3 m' c = Cert.QkvTIdeal.Hand.x3 m c := h3
    have g4 : Cert.QkvTRefIdeal.Hand.a4 m' c = Cert.QkvTIdeal.Hand.x4 m c := h4
    have g5 : Cert.QkvTRefIdeal.Hand.a5 m' c = Cert.QkvTIdeal.Hand.x5 m c := h5
    have g6 : Cert.QkvTRefIdeal.Hand.a6 m' c = Cert.QkvTIdeal.Hand.x6 m c := h6
    refine ⟨(h c).1.trans ?_, (h c).2.1.trans ?_, (h c).2.2.1.trans ?_, (h c).2.2.2⟩
    · show Cert.QkvTRefIdeal.Gen.out0_7 _ _ _ _ _ _ _ = Cert.QkvTRefIdeal.Gen.out0_7 _ _ _ _ _ _ _
      rw [g0, g1, g2, g3, g4, g5, g6]
    · show Cert.QkvTRefIdeal.Gen.out0_8 _ _ _ _ _ _ _ = Cert.QkvTRefIdeal.Gen.out0_8 _ _ _ _ _ _ _
      rw [g0, g1, g2, g3, g4, g5, g6]
    · show Cert.QkvTRefIdeal.Gen.out0_9 _ _ _ _ _ _ _ = Cert.QkvTRefIdeal.Gen.out0_9 _ _ _ _ _ _ _
      rw [g0, g1, g2, g3, g4, g5, g6]

end Cert.QkvTPay

end
-- ==== Proof.QkvILoop.lean ====
/- The quantising loops, one for each batch element, of the image stream's projection call, at any float type: what their trips store, as closed forms of
   the rows of the codes and of their scales. -/
module

public import proofs.«01_k».proof.Proof.Gen.QkvIIdeal.Frame
public import proofs.«01_k».proof.Proof.Gen.QkvIIdeal.Loops
public import proofs.«01_k».proof.Proof.Gen.QkvIIdeal.Skeleton
public import proofs.«01_k».proof.Proof.Loops
public import Idealize.ShloMosaic.Lib.Pointwise
public import Idealize.ShloMosaic.Lib.Pipeline.ArrRel
public import Idealize.ShloMosaic.Lib.Claim

@[expose] public section

set_option maxRecDepth 16384

noncomputable section

namespace Cert.QkvIIdeal.Hand

open Cert.QkvIIdeal Cert.QkvIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

/-- A zero start in two coordinates. -/
theorem hz2 : (![0, 0] : Fin 2 → Nat) = fun _ => 0 := funext fun a => by fin_cases a <;> rfl

/-- A load of a whole two-dimensional buffer reads its contents. -/
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X

/-- Chunks from equal rows are equal. -/
theorem chunk_congr {α : Type*} {R C c : ℕ} (x : (⟨2, ![R, C]⟩ : Shape).Idx → α) {o o' : ℕ} (h : o + c ≤ R) (h' : o' + c ≤ R) (e : o = o') :
    chunk x o h = chunk x o' h' := by subst e; rfl

/-- One row of the modulation. -/
abbrev mrow (X : Vec F S2x3072 .f32) (r : Fin 2) : Vec F S1x3072 .f32 := chunk (R := 2) (C := 3072) (c := 1) X r.val (by omega)

/-- Chunk `k` of the tokens. -/
abbrev xchunk (x : Vec F S512x3072 .bf16) (k : Fin 16) : Vec F S32x3072 .bf16 :=
  chunk (R := 512) (C := 3072) (c := 32) x (32 * k.val) (by omega)

/-- The chunk that holds a row. -/
abbrev kof (a : Fin 512) : Fin 16 := ⟨a.val / 32, by omega⟩
/-- Its place in that chunk. -/
abbrev pof (a : Fin 512) : Fin 32 := ⟨a.val % 32, by omega⟩
/-- The batch element of a chunk. -/
abbrev sof (k : Fin 16) : Fin 2 := ⟨k.val / 8, by omega⟩

/-- The codes of all the rows: each chunk normalised, modulated and quantised on its own. -/
def codesS (x : Vec F S512x3072 .bf16) (sh sc : Vec F S2x3072 .f32) : Vec F S512x3072 .i8 :=
  fun y => k0_pay16 (mrow sh (sof (kof (y 0)))) (k0_pay1 (mrow sc (sof (kof (y 0))))) (xchunk x (kof (y 0))) (ix2 (pof (y 0)) (y 1))

/-- The scales of all the rows, each across its row. -/
def srowS (x : Vec F S512x3072 .bf16) (sh sc : Vec F S2x3072 .f32) : Vec F S512x128 .f32 :=
  fun y => k0_pay2 (k0_pay15 (mrow sh (sof (kof (y 0)))) (k0_pay1 (mrow sc (sof (kof (y 0))))) (xchunk x (kof (y 0)))) (ix2 (pof (y 0)) (y 1))

theorem codesS_at (x : Vec F S512x3072 .bf16) (sh sc : Vec F S2x3072 .f32) (k : Fin 16) (p : Fin 32) (a : Fin 512) (h : a.val = 32 * k.val + p.val) (b : Fin 3072) :
    codesS x sh sc (ix2 a b) = k0_pay16 (mrow sh (sof k)) (k0_pay1 (mrow sc (sof k))) (xchunk x k) (ix2 p b) := by
  have e1 : kof a = k := Fin.ext (by show a.val / 32 = k.val; omega)
  have e2 : pof a = p := Fin.ext (by show a.val % 32 = p.val; omega)
  show k0_pay16 (mrow sh (sof (kof a))) (k0_pay1 (mrow sc (sof (kof a)))) (xchunk x (kof a)) (ix2 (pof a) b) = _
  rw [e1, e2]

theorem srowS_at (x : Vec F S512x3072 .bf16) (sh sc : Vec F S2x3072 .f32) (k : Fin 16) (p : Fin 32) (a : Fin 512) (h : a.val = 32 * k.val + p.val) (b : Fin 128) :
    srowS x sh sc (ix2 a b) = k0_pay2 (k0_pay15 (mrow sh (sof k)) (k0_pay1 (mrow sc (sof k))) (xchunk x k)) (ix2 p b) := by
  have e1 : kof a = k := Fin.ext (by show a.val / 32 = k.val; omega)
  have e2 : pof a = p := Fin.ext (by show a.val % 32 = p.val; omega)
  show k0_pay2 (k0_pay15 (mrow sh (sof (kof a))) (k0_pay1 (mrow sc (sof (kof a)))) (xchunk x (kof a))) (ix2 (pof a) b) = _
  rw [e1, e2]

/-! The second loop computes as the first. -/
theorem pay4_eq : (k0_pay4 : Vec F S1x3072 .f32 → _) = k0_pay1 := rfl
theorem pay5_eq : (k0_pay5 : FVec F S32x1 .f32 → _) = k0_pay2 := rfl
theorem pay6_eq : (k0_pay6 : Vec F S256x128 .f32 → _) = k0_pay3 := rfl
theorem pay17_eq : (k0_pay17 : Vec F S1x3072 .f32 → _) = k0_pay14 := rfl
theorem pay18_eq : (k0_pay18 : Vec F S1x3072 .f32 → _) = k0_pay15 := by
  funext a b d; unfold k0_pay18 k0_pay15; rw [pay17_eq]
theorem pay19_eq : (k0_pay19 : Vec F S1x3072 .f32 → _) = k0_pay16 := by
  funext a b d; unfold k0_pay19 k0_pay16; rw [pay17_eq, pay18_eq]

section
variable (c : Dev nD) (i : grid0.Coords) (arg2 : Memref sig .tc .vmem S512x3072 .bf16) (harg2 : arg2.IsWhole) (arg3 : Memref sig .tc .vmem S2x3072 .f32) (harg3 : arg3.IsWhole) (arg4 : Memref sig .tc .vmem S2x3072 .f32) (harg4 : arg4.IsWhole) (arg5 : Memref sig .tc .vmem S3072x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x3072 .i8) (harg10 : arg10.IsWhole) (arg11 : Memref sig .tc .vmem S2x256 .f32) (harg11 : arg11.IsWhole) (arg12 : Memref sig .tc .vmem S512x512 .bf16) (harg12 : arg12.IsWhole) (arg13 : Memref sig .tc .vmem S512x128 .f32) (harg13 : arg13.IsWhole) (k0_h1 : k0_cond1 i = 1#1) (sh sc : Vec F S2x3072 .f32) (X_arg2 : BufTy.Contents (Elt F) arg2.view.ty)

/-- The stores after the first trips of a loop. -/
local notation "𝕡₁" => pb_k0_t1 (F := F) Variants.none c none i arg2 harg2 arg3 harg3 arg4 harg4 arg5 harg5 arg6 harg6 arg7 harg7 arg8 harg8 arg9 harg9 arg10 harg10 arg11 harg11 arg12 harg12 arg13 harg13
/-- The stores after the first trips of the second loop. -/
local notation "𝕡₂" => pb_k0_t2 (F := F) Variants.none c none i arg2 harg2 arg3 harg3 arg4 harg4 arg5 harg5 arg6 harg6 arg7 harg7 arg8 harg8 arg9 harg9 arg10 harg10 arg11 harg11 arg12 harg12 arg13 harg13

/-- Trip `k`'s store of codes in the first loop. -/
abbrev pieceC1 (v29 v31 : Vec F S1x3072 .f32) (k : Fin k0_t1_loop.trips) : View.Piece (Elt F) S512x3072 .i8 :=
  ⟨Rect.unit (s := S512x3072) (k0_off2 k) S32x3072.size (k0_off2_inb i k k0_h1), k0_pay16 v29 (k0_pay1 v31) (arg2.view.readAt (Elt F) (Rect.unit (s := S512x3072) (k0_off2 k) S32x3072.size (k0_off2_inb i k k0_h1)).toLoadRect X_arg2)⟩
/-- Trip `k`'s store of scales in the first loop. -/
abbrev pieceS1 (v29 v31 : Vec F S1x3072 .f32) (k : Fin k0_t1_loop.trips) : View.Piece (Elt F) S512x128 .f32 :=
  ⟨Rect.unit (s := S512x128) (k0_off3 k) S32x128.size (k0_off3_inb i k k0_h1), k0_pay2 (k0_pay15 v29 (k0_pay1 v31) (arg2.view.readAt (Elt F) (Rect.unit (s := S512x3072) (k0_off2 k) S32x3072.size (k0_off2_inb i k k0_h1)).toLoadRect X_arg2))⟩

theorem tripL1_eq (v29 v31 : Vec F S1x3072 .f32) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 k0_h1 v29 v31 X_arg2 k
      = ([pieceC1 i arg2 k0_h1 X_arg2 v29 v31 k], [pieceS1 i arg2 k0_h1 X_arg2 v29 v31 k]) := by
  unfold tripL_k0_t1 trip_k0_t1
  rfl

theorem trips1_eq : k0_t1_loop.trips = 8 := by decide +kernel

theorem pb_collect1 (v29 v31 : Vec F S1x3072 .f32) :
    ((∀ p ∈ (𝕡₁ k0_h1 v29 v31 X_arg2 k0_t1_loop.trips).1, ∃ k, p = pieceC1 i arg2 k0_h1 X_arg2 v29 v31 k)
        ∧ ∀ k, pieceC1 i arg2 k0_h1 X_arg2 v29 v31 k ∈ (𝕡₁ k0_h1 v29 v31 X_arg2 k0_t1_loop.trips).1)
      ∧ ((∀ q ∈ (𝕡₁ k0_h1 v29 v31 X_arg2 k0_t1_loop.trips).2, ∃ k, q = pieceS1 i arg2 k0_h1 X_arg2 v29 v31 k)
        ∧ ∀ k, pieceS1 i arg2 k0_h1 X_arg2 v29 v31 k ∈ (𝕡₁ k0_h1 v29 v31 X_arg2 k0_t1_loop.trips).2) :=
  collect (fun j => 𝕡₁ k0_h1 v29 v31 X_arg2 j) k0_t1_loop.trips
    (pieceC1 i arg2 k0_h1 X_arg2 v29 v31) (pieceS1 i arg2 k0_h1 X_arg2 v29 v31) (by rfl)
    (fun k => by
      show 𝕡₁ k0_h1 v29 v31 X_arg2 (k.val + 1) = _
      rw [pb_k0_t1_succ, tripL1_eq])

/-- What the first loop's stores of codes hold, and that they cover its rows. -/
theorem allC1 (T : ℕ) (hT : T = k0_t1_loop.trips) :
    (∀ p ∈ (𝕡₁ k0_h1 (mrow sh 0) (mrow sc 0) X_arg2 T).1, ∀ x : p.1.shape.Idx, p.2 x = codesS (arg2.view.read (Elt F) X_arg2) sh sc (p.1.emb x))
      ∧ ∀ y : (S512x3072 : Shape).Idx, 0 ≤ (y 0).val → (y 0).val < 256 → ∃ p ∈ (𝕡₁ k0_h1 (mrow sh 0) (mrow sc 0) X_arg2 T).1, y ∈ p.1.set := by
  subst hT
  obtain ⟨⟨hA, hB⟩, -⟩ := pb_collect1 c i arg2 harg2 arg3 harg3 arg4 harg4 arg5 harg5 arg6 harg6 arg7 harg7 arg8 harg8 arg9 harg9 arg10 harg10 arg11 harg11 arg12 harg12 arg13 harg13 k0_h1 X_arg2 (mrow sh 0) (mrow sc 0)
  refine ⟨fun p hp => ?_, fun y h1 h2 => ?_⟩
  · obtain ⟨k, rfl⟩ := hA p hp
    intro x
    have hk' := lt_of_lt_of_eq k.isLt trips1_eq
    have hk : 32 * k.val + 32 ≤ 512 := by omega
    have hx : (x 0).val < 32 := (x 0).isLt
    have es : sof ⟨k.val, by omega⟩ = 0 := Fin.ext (by show k.val / 8 = 0; omega)
    show k0_pay16 (mrow sh 0) (k0_pay1 (mrow sc 0)) (View.ld (arg2.view.read (Elt F) X_arg2) (Rect.unit (s := S512x3072) (k0_off2 k) S32x3072.size (k0_off2_inb i k k0_h1))) x = codesS (arg2.view.read (Elt F) X_arg2) sh sc ((Rect.unit (s := S512x3072) (k0_off2 k) S32x3072.size (k0_off2_inb i k k0_h1)).emb x)
    rw [ld_chunk (R := 512) (C := 3072) (c := 32) _ _ (32 * k.val) _ (k0_off2_eq k) hk, emb_chunk (R := 512) (C := 3072) (c := 32) _ (32 * k.val) _ (k0_off2_eq k) hk]
    refine Eq.trans ?_ (codesS_at _ sh sc ⟨k.val, by omega⟩ (x 0) _ (by show 32 * k.val + (x 0).val = 32 * k.val + (x 0).val; omega) (x 1)).symm
    rw [es, ← eq_ix2 (n0 := 32) (n1 := 3072) x]
  · exact ⟨_, hB ⟨((y 0).val - 0) / 32, by rw [trips1_eq]; omega⟩, mem_chunk (R := 512) (C := 3072) (c := 32) _ (32 * (((y 0).val - 0) / 32)) (k0_off2_inb i _ k0_h1) (k0_off2_eq _) y (by omega) (by omega)⟩

/-- What the first loop's stores of scales hold, and that they cover its rows. -/
theorem allS1 (T : ℕ) (hT : T = k0_t1_loop.trips) :
    (∀ p ∈ (𝕡₁ k0_h1 (mrow sh 0) (mrow sc 0) X_arg2 T).2, ∀ x : p.1.shape.Idx, p.2 x = srowS (arg2.view.read (Elt F) X_arg2) sh sc (p.1.emb x))
      ∧ ∀ y : (S512x128 : Shape).Idx, 0 ≤ (y 0).val → (y 0).val < 256 → ∃ p ∈ (𝕡₁ k0_h1 (mrow sh 0) (mrow sc 0) X_arg2 T).2, y ∈ p.1.set := by
  subst hT
  obtain ⟨-, ⟨hA, hB⟩⟩ := pb_collect1 c i arg2 harg2 arg3 harg3 arg4 harg4 arg5 harg5 arg6 harg6 arg7 harg7 arg8 harg8 arg9 harg9 arg10 harg10 arg11 harg11 arg12 harg12 arg13 harg13 k0_h1 X_arg2 (mrow sh 0) (mrow sc 0)
  refine ⟨fun p hp => ?_, fun y h1 h2 => ?_⟩
  · obtain ⟨k, rfl⟩ := hA p hp
    intro x
    have hk' := lt_of_lt_of_eq k.isLt trips1_eq
    have hk : 32 * k.val + 32 ≤ 512 := by omega
    have hx : (x 0).val < 32 := (x 0).isLt
    have es : sof ⟨k.val, by omega⟩ = 0 := Fin.ext (by show k.val / 8 = 0; omega)
    show k0_pay2 (k0_pay15 (mrow sh 0) (k0_pay1 (mrow sc 0)) (View.ld (arg2.view.read (Elt F) X_arg2) (Rect.unit (s := S512x3072) (k0_off2 k) S32x3072.size (k0_off2_inb i k k0_h1)))) x = srowS (arg2.view.read (Elt F) X_arg2) sh sc ((Rect.unit (s := S512x128) (k0_off3 k) S32x128.size (k0_off3_inb i k k0_h1)).emb x)
    rw [ld_chunk (R := 512) (C := 3072) (c := 32) _ _ (32 * k.val) _ (k0_off2_eq k) hk, emb_chunk (R := 512) (C := 128) (c := 32) _ (32 * k.val) _ (k0_off3_eq k) hk]
    refine Eq.trans ?_ (srowS_at _ sh sc ⟨k.val, by omega⟩ (x 0) _ (by show 32 * k.val + (x 0).val = 32 * k.val + (x 0).val; omega) (x 1)).symm
    rw [es, ← eq_ix2 (n0 := 32) (n1 := 128) x]
  · exact ⟨_, hB ⟨((y 0).val - 0) / 32, by rw [trips1_eq]; omega⟩, mem_chunk (R := 512) (C := 128) (c := 32) _ (32 * (((y 0).val - 0) / 32)) (k0_off3_inb i _ k0_h1) (k0_off3_eq _) y (by omega) (by omega)⟩

/-- Trip `k`'s store of codes in the second loop. -/
abbrev pieceC2 (v29 v31 : Vec F S1x3072 .f32) (k : Fin k0_t2_loop.trips) : View.Piece (Elt F) S512x3072 .i8 :=
  ⟨Rect.unit (s := S512x3072) (k0_off5 k) S32x3072.size (k0_off5_inb i k k0_h1), k0_pay19 v29 (k0_pay4 v31) (arg2.view.readAt (Elt F) (Rect.unit (s := S512x3072) (k0_off5 k) S32x3072.size (k0_off5_inb i k k0_h1)).toLoadRect X_arg2)⟩
/-- Trip `k`'s store of scales in the second loop. -/
abbrev pieceS2 (v29 v31 : Vec F S1x3072 .f32) (k : Fin k0_t2_loop.trips) : View.Piece (Elt F) S512x128 .f32 :=
  ⟨Rect.unit (s := S512x128) (k0_off6 k) S32x128.size (k0_off6_inb i k k0_h1), k0_pay5 (k0_pay18 v29 (k0_pay4 v31) (arg2.view.readAt (Elt F) (Rect.unit (s := S512x3072) (k0_off5 k) S32x3072.size (k0_off5_inb i k k0_h1)).toLoadRect X_arg2))⟩

theorem tripL2_eq (v29 v31 : Vec F S1x3072 .f32) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 k0_h1 v29 v31 X_arg2 k
      = ([pieceC2 i arg2 k0_h1 X_arg2 v29 v31 k], [pieceS2 i arg2 k0_h1 X_arg2 v29 v31 k]) := by
  unfold tripL_k0_t2 trip_k0_t2
  rfl

theorem trips2_eq : k0_t2_loop.trips = 8 := by decide +kernel

theorem pb_collect2 (v29 v31 : Vec F S1x3072 .f32) :
    ((∀ p ∈ (𝕡₂ k0_h1 v29 v31 X_arg2 k0_t2_loop.trips).1, ∃ k, p = pieceC2 i arg2 k0_h1 X_arg2 v29 v31 k)
        ∧ ∀ k, pieceC2 i arg2 k0_h1 X_arg2 v29 v31 k ∈ (𝕡₂ k0_h1 v29 v31 X_arg2 k0_t2_loop.trips).1)
      ∧ ((∀ q ∈ (𝕡₂ k0_h1 v29 v31 X_arg2 k0_t2_loop.trips).2, ∃ k, q = pieceS2 i arg2 k0_h1 X_arg2 v29 v31 k)
        ∧ ∀ k, pieceS2 i arg2 k0_h1 X_arg2 v29 v31 k ∈ (𝕡₂ k0_h1 v29 v31 X_arg2 k0_t2_loop.trips).2) :=
  collect (fun j => 𝕡₂ k0_h1 v29 v31 X_arg2 j) k0_t2_loop.trips
    (pieceC2 i arg2 k0_h1 X_arg2 v29 v31) (pieceS2 i arg2 k0_h1 X_arg2 v29 v31) (by rfl)
    (fun k => by
      show 𝕡₂ k0_h1 v29 v31 X_arg2 (k.val + 1) = _
      rw [pb_k0_t2_succ, tripL2_eq])

/-- What the second loop's stores of codes hold, and that they cover its rows. -/
theorem allC2 (T : ℕ) (hT : T = k0_t2_loop.trips) :
    (∀ p ∈ (𝕡₂ k0_h1 (mrow sh 1) (mrow sc 1) X_arg2 T).1, ∀ x : p.1.shape.Idx, p.2 x = codesS (arg2.view.read (Elt F) X_arg2) sh sc (p.1.emb x))
      ∧ ∀ y : (S512x3072 : Shape).Idx, 256 ≤ (y 0).val → (y 0).val < 512 → ∃ p ∈ (𝕡₂ k0_h1 (mrow sh 1) (mrow sc 1) X_arg2 T).1, y ∈ p.1.set := by
  subst hT
  obtain ⟨⟨hA, hB⟩, -⟩ := pb_collect2 c i arg2 harg2 arg3 harg3 arg4 harg4 arg5 harg5 arg6 harg6 arg7 harg7 arg8 harg8 arg9 harg9 arg10 harg10 arg11 harg11 arg12 harg12 arg13 harg13 k0_h1 X_arg2 (mrow sh 1) (mrow sc 1)
  refine ⟨fun p hp => ?_, fun y h1 h2 => ?_⟩
  · obtain ⟨k, rfl⟩ := hA p hp
    intro x
    have hk' := lt_of_lt_of_eq k.isLt trips2_eq
    have hk : 32 * k.val + 256 + 32 ≤ 512 := by omega
    have hx : (x 0).val < 32 := (x 0).isLt
    have es : sof ⟨8 + k.val, by omega⟩ = 1 := Fin.ext (by show (8 + k.val) / 8 = 1; omega)
    show k0_pay19 (mrow sh 1) (k0_pay4 (mrow sc 1)) (View.ld (arg2.view.read (Elt F) X_arg2) (Rect.unit (s := S512x3072) (k0_off5 k) S32x3072.size (k0_off5_inb i k k0_h1))) x = codesS (arg2.view.read (Elt F) X_arg2) sh sc ((Rect.unit (s := S512x3072) (k0_off5 k) S32x3072.size (k0_off5_inb i k k0_h1)).emb x)
    rw [ld_chunk (R := 512) (C := 3072) (c := 32) _ _ (32 * k.val + 256) _ (k0_off5_eq k) hk, emb_chunk (R := 512) (C := 3072) (c := 32) _ (32 * k.val + 256) _ (k0_off5_eq k) hk]
    refine Eq.trans ?_ (codesS_at _ sh sc ⟨8 + k.val, by omega⟩ (x 0) _ (by show 32 * k.val + 256 + (x 0).val = 32 * (8 + k.val) + (x 0).val; omega) (x 1)).symm
    rw [es, ← eq_ix2 (n0 := 32) (n1 := 3072) x, pay19_eq, pay4_eq]
    refine congrArg (fun z => k0_pay16 (mrow sh 1) (k0_pay1 (mrow sc 1)) z x) ?_
    exact chunk_congr _ _ _ (by show 32 * k.val + 256 = 32 * (8 + k.val); omega)
  · exact ⟨_, hB ⟨((y 0).val - 256) / 32, by rw [trips2_eq]; omega⟩, mem_chunk (R := 512) (C := 3072) (c := 32) _ (32 * (((y 0).val - 256) / 32) + 256) (k0_off5_inb i _ k0_h1) (k0_off5_eq _) y (by omega) (by omega)⟩

/-- What the second loop's stores of scales hold, and that they cover its rows. -/
theorem allS2 (T : ℕ) (hT : T = k0_t2_loop.trips) :
    (∀ p ∈ (𝕡₂ k0_h1 (mrow sh 1) (mrow sc 1) X_arg2 T).2, ∀ x : p.1.shape.Idx, p.2 x = srowS (arg2.view.read (Elt F) X_arg2) sh sc (p.1.emb x))
      ∧ ∀ y : (S512x128 : Shape).Idx, 256 ≤ (y 0).val → (y 0).val < 512 → ∃ p ∈ (𝕡₂ k0_h1 (mrow sh 1) (mrow sc 1) X_arg2 T).2, y ∈ p.1.set := by
  subst hT
  obtain ⟨-, ⟨hA, hB⟩⟩ := pb_collect2 c i arg2 harg2 arg3 harg3 arg4 harg4 arg5 harg5 arg6 harg6 arg7 harg7 arg8 harg8 arg9 harg9 arg10 harg10 arg11 harg11 arg12 harg12 arg13 harg13 k0_h1 X_arg2 (mrow sh 1) (mrow sc 1)
  refine ⟨fun p hp => ?_, fun y h1 h2 => ?_⟩
  · obtain ⟨k, rfl⟩ := hA p hp
    intro x
    have hk' := lt_of_lt_of_eq k.isLt trips2_eq
    have hk : 32 * k.val + 256 + 32 ≤ 512 := by omega
    have hx : (x 0).val < 32 := (x 0).isLt
    have es : sof ⟨8 + k.val, by omega⟩ = 1 := Fin.ext (by show (8 + k.val) / 8 = 1; omega)
    show k0_pay5 (k0_pay18 (mrow sh 1) (k0_pay4 (mrow sc 1)) (View.ld (arg2.view.read (Elt F) X_arg2) (Rect.unit (s := S512x3072) (k0_off5 k) S32x3072.size (k0_off5_inb i k k0_h1)))) x = srowS (arg2.view.read (Elt F) X_arg2) sh sc ((Rect.unit (s := S512x128) (k0_off6 k) S32x128.size (k0_off6_inb i k k0_h1)).emb x)
    rw [ld_chunk (R := 512) (C := 3072) (c := 32) _ _ (32 * k.val + 256) _ (k0_off5_eq k) hk, emb_chunk (R := 512) (C := 128) (c := 32) _ (32 * k.val + 256) _ (k0_off6_eq k) hk]
    refine Eq.trans ?_ (srowS_at _ sh sc ⟨8 + k.val, by omega⟩ (x 0) _ (by show 32 * k.val + 256 + (x 0).val = 32 * (8 + k.val) + (x 0).val; omega) (x 1)).symm
    rw [es, ← eq_ix2 (n0 := 32) (n1 := 128) x, pay5_eq, pay18_eq, pay4_eq]
    refine congrArg (fun z => k0_pay2 (k0_pay15 (mrow sh 1) (k0_pay1 (mrow sc 1)) z) x) ?_
    exact chunk_congr _ _ _ (by show 32 * k.val + 256 = 32 * (8 + k.val); omega)
  · exact ⟨_, hB ⟨((y 0).val - 256) / 32, by rw [trips2_eq]; omega⟩, mem_chunk (R := 512) (C := 128) (c := 32) _ (32 * (((y 0).val - 256) / 32) + 256) (k0_off6_inb i _ k0_h1) (k0_off6_eq _) y (by omega) (by omega)⟩

/-- The codes after both loops. -/
theorem read_codes (f : BufTy.Contents (Elt F) arg10.view.ty) (T1 T2 : ℕ) (h1 : T1 = k0_t1_loop.trips) (h2 : T2 = k0_t2_loop.trips) :
    arg10.view.read (Elt F) (arg10.view.writes (Elt F) f ((𝕡₂ k0_h1 (mrow sh 1) (mrow sc 1) X_arg2 T2).1 ++ (𝕡₁ k0_h1 (mrow sh 0) (mrow sc 0) X_arg2 T1).1))
      = codesS (arg2.view.read (Elt F) X_arg2) sh sc := by
  obtain ⟨a1, b1⟩ := allC1 c i arg2 harg2 arg3 harg3 arg4 harg4 arg5 harg5 arg6 harg6 arg7 harg7 arg8 harg8 arg9 harg9 arg10 harg10 arg11 harg11 arg12 harg12 arg13 harg13 k0_h1 sh sc X_arg2 T1 h1
  obtain ⟨a2, b2⟩ := allC2 c i arg2 harg2 arg3 harg3 arg4 harg4 arg5 harg5 arg6 harg6 arg7 harg7 arg8 harg8 arg9 harg9 arg10 harg10 arg11 harg11 arg12 harg12 arg13 harg13 k0_h1 sh sc X_arg2 T2 h2
  refine read_all _ _ _ _ (fun p hp => ?_) fun y => ?_
  · rcases List.mem_append.mp hp with hp | hp
    · exact a2 p hp
    · exact a1 p hp
  · have hy : (y 0).val < 512 := (y 0).isLt
    by_cases h : (y 0).val < 256
    · obtain ⟨p, hp, hy⟩ := b1 y (by omega) h
      exact ⟨p, List.mem_append_right _ hp, hy⟩
    · obtain ⟨p, hp, hy⟩ := b2 y (by omega) (by omega)
      exact ⟨p, List.mem_append_left _ hp, hy⟩

/-- The scales after both loops. -/
theorem read_srow (f : BufTy.Contents (Elt F) arg13.view.ty) (T1 T2 : ℕ) (h1 : T1 = k0_t1_loop.trips) (h2 : T2 = k0_t2_loop.trips) :
    arg13.view.read (Elt F) (arg13.view.writes (Elt F) f ((𝕡₂ k0_h1 (mrow sh 1) (mrow sc 1) X_arg2 T2).2 ++ (𝕡₁ k0_h1 (mrow sh 0) (mrow sc 0) X_arg2 T1).2))
      = srowS (arg2.view.read (Elt F) X_arg2) sh sc := by
  obtain ⟨a1, b1⟩ := allS1 c i arg2 harg2 arg3 harg3 arg4 harg4 arg5 harg5 arg6 harg6 arg7 harg7 arg8 harg8 arg9 harg9 arg10 harg10 arg11 harg11 arg12 harg12 arg13 harg13 k0_h1 sh sc X_arg2 T1 h1
  obtain ⟨a2, b2⟩ := allS2 c i arg2 harg2 arg3 harg3 arg4 harg4 arg5 harg5 arg6 harg6 arg7 harg7 arg8 harg8 arg9 harg9 arg10 harg10 arg11 harg11 arg12 harg12 arg13 harg13 k0_h1 sh sc X_arg2 T2 h2
  refine read_all _ _ _ _ (fun p hp => ?_) fun y => ?_
  · rcases List.mem_append.mp hp with hp | hp
    · exact a2 p hp
    · exact a1 p hp
  · have hy : (y 0).val < 512 := (y 0).isLt
    by_cases h : (y 0).val < 256
    · obtain ⟨p, hp, hy⟩ := b1 y (by omega) h
      exact ⟨p, List.mem_append_right _ hp, hy⟩
    · obtain ⟨p, hp, hy⟩ := b2 y (by omega) (by omega)
      exact ⟨p, List.mem_append_left _ hp, hy⟩

/-- The scales of the first batch element after the first loop. -/
theorem read_half (f : BufTy.Contents (Elt F) arg13.view.ty) (T1 : ℕ) (h1 : T1 = k0_t1_loop.trips) (y : S512x128.Idx) (hy : (y 0).val < 256) :
    arg13.view.read (Elt F) (arg13.view.writes (Elt F) f (𝕡₁ k0_h1 (mrow sh 0) (mrow sc 0) X_arg2 T1).2) y
      = srowS (arg2.view.read (Elt F) X_arg2) sh sc y := by
  obtain ⟨a1, b1⟩ := allS1 c i arg2 harg2 arg3 harg3 arg4 harg4 arg5 harg5 arg6 harg6 arg7 harg7 arg8 harg8 arg9 harg9 arg10 harg10 arg11 harg11 arg12 harg12 arg13 harg13 k0_h1 sh sc X_arg2 T1 h1
  exact View.read_writes_apply_of_pieces _ _ _ _ a1 y (b1 y (by omega) hy)
end

end Cert.QkvIIdeal.Hand

end
-- ==== Proof.QkvIFrame.lean ====
/- The frame of the image stream's projection call, at any float type: the codes and the scales of both batch elements
   are stored at the first column tile and left alone after it; the scales of every row are carried in a scratch buffer. -/
module

public import proofs.«01_k».proof.Proof.Gen.QkvIIdeal.Frame
public import proofs.«01_k».proof.Proof.Gen.QkvIIdeal.Skeleton
public import proofs.«01_k».proof.Proof.QkvILoop
public import Idealize.ShloMosaic.Lib.Pipeline.ArrRel
public import Idealize.ShloMosaic.Lib.Claim

@[expose] public section

set_option maxRecDepth 16384

noncomputable section

namespace Cert.QkvIIdeal.Hand

open Cert.QkvIIdeal Cert.QkvIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem c0 (t : Fin cfg0.N) : (grid0.coords t 0).val = 0 := by
  have ht : t.val < 18 := Nat.lt_of_lt_of_eq t.isLt N_0
  have e0 : (grid0.coords t 0).val = t.val / 18 % 1 := Pipeline.Grid.coords_val t 0 (by decide) rfl
  omega
theorem c1 (t : Fin cfg0.N) : (grid0.coords t 1).val = t.val % 18 := by
  have e0 : (grid0.coords t 1).val = t.val / 1 % 18 := Pipeline.Grid.coords_val t 1 (by decide) rfl
  omega
theorem hc1 (t : Fin cfg0.N) : k0_cond1 (grid0.coords t) = 1#1 ↔ t.val % 18 = 0 := by
  simp only [k0_cond1, c1]
  word_cmp
theorem hc2 (t : Fin cfg0.N) : k0_cond2 (grid0.coords t) = 1#1 ↔ t.val % 18 < 12 := by
  simp only [k0_cond2, c1]
  word_cmp
theorem hc3 (t : Fin cfg0.N) : k0_cond3 (grid0.coords t) = 1#1 ↔ 12 ≤ t.val % 18 := by
  simp only [k0_cond3, c1]
  word_cmp

/-! ## What a point computes -/

/-- The first column of the rows' scales. -/
abbrev scol (sr : Vec F S512x128 .f32) : Vec F S512x1 .f32 := View.ld sr (Rect.unit (s := S512x128) ![0, 0] S512x1.size inb_S512x128_S512x1_0_0)

/-- A tile of queries or keys: four heads, each normalised and gained. -/
def outG (i : grid0.Coords) (cs : Vec F S512x3072 .i8) (w : Vec F S3072x512 .i8) (sr : Vec F S512x128 .f32) (ws b : Vec F S1x512 .f32) (qg kg : Vec F S1x128 .f32) : Vec F S512x512 .bf16 :=
  View.canon (Val := Elt F) (s := S512x512) (e := .bf16)
    [⟨Rect.unit (s := S512x512) ![0, 384] S512x128.size inb_S512x512_S512x128_0_384, k0_pay9 cs w (scol sr) ws b (k0_pay20 (BitVec.ofNat 32 (i 1).val) qg kg)⟩,
      ⟨Rect.unit (s := S512x512) ![0, 256] S512x128.size inb_S512x512_S512x128_0_256, k0_pay8 (k0_pay20 (BitVec.ofNat 32 (i 1).val) qg kg) (k0_pay23 (k0_pay7 cs w (scol sr) ws b)) (k0_pay24 (k0_pay7 cs w (scol sr) ws b)) k0_pay25⟩,
      ⟨Rect.unit (s := S512x512) ![0, 128] S512x128.size inb_S512x512_S512x128_0_128, k0_pay22 (BitVec.ofNat 32 (i 1).val) (k0_pay7 cs w (scol sr) ws b) qg kg⟩,
      ⟨Rect.unit (s := S512x512) ![0, 0] S512x128.size inb_S512x512_S512x128_0_0, k0_pay21 (BitVec.ofNat 32 (i 1).val) (k0_pay7 cs w (scol sr) ws b) qg kg⟩]

/-- A tile of values: four heads, as they come. -/
def outP (cs : Vec F S512x3072 .i8) (w : Vec F S3072x512 .i8) (sr : Vec F S512x128 .f32) (ws b : Vec F S1x512 .f32) : Vec F S512x512 .bf16 :=
  View.canon (Val := Elt F) (s := S512x512) (e := .bf16)
    [⟨Rect.unit (s := S512x512) ![0, 384] S512x128.size inb_S512x512_S512x128_0_384, k0_pay13 cs w (scol sr) ws b⟩,
      ⟨Rect.unit (s := S512x512) ![0, 256] S512x128.size inb_S512x512_S512x128_0_256, k0_pay12 cs w (scol sr) ws b⟩,
      ⟨Rect.unit (s := S512x512) ![0, 128] S512x128.size inb_S512x512_S512x128_0_128, k0_pay11 cs w (scol sr) ws b⟩,
      ⟨Rect.unit (s := S512x512) ![0, 0] S512x128.size inb_S512x512_S512x128_0_0, k0_pay10 cs w (scol sr) ws b⟩]

/-- The scales of one batch element's rows. -/
abbrev half (sr : Vec F S512x128 .f32) (r : Fin 2) : Vec F S256x128 .f32 := chunk (R := 512) (C := 128) (c := 256) sr (256 * r.val) (by omega)

theorem i0 (i : grid0.Coords) : (i 0).val = 0 := by
  have h : (i 0).val < 1 := (i 0).isLt
  omega

theorem ld_mrow (i : grid0.Coords) (h : k0_cond1 i = 1#1) (r : Fin 2) (X : Vec F S2x3072 .f32) :
    View.ld X (Rect.unit (s := S2x3072) (k0_off1 i (BitVec.ofNat 32 r.val)) S1x3072.size (k0_off1_inb i h r)) = mrow X r :=
  ld_chunk (R := 2) (C := 3072) (c := 1) X (k0_off1 i (BitVec.ofNat 32 r.val)) r.val _
    ((k0_off1_eq i r).trans (by rw [i0, Nat.mul_zero, Nat.zero_add])) _

theorem off4 (i : grid0.Coords) (r : Fin 2) : k0_off4 i (BitVec.ofNat 32 r.val) = ![r.val, 0] :=
  (k0_off4_eq i r).trans (by rw [i0, Nat.mul_zero, Nat.zero_add])

/-! ## The body's runs -/

section Runs

variable (c : Dev nD) (i : grid0.Coords) (arg2 : Memref sig .tc .vmem S512x3072 .bf16) (harg2 : arg2.IsWhole) (arg3 : Memref sig .tc .vmem S2x3072 .f32) (harg3 : arg3.IsWhole) (arg4 : Memref sig .tc .vmem S2x3072 .f32) (harg4 : arg4.IsWhole) (arg5 : Memref sig .tc .vmem S3072x512 .i8) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S512x3072 .i8) (harg10 : arg10.IsWhole) (arg11 : Memref sig .tc .vmem S2x256 .f32) (harg11 : arg11.IsWhole) (arg12 : Memref sig .tc .vmem S512x512 .bf16) (harg12 : arg12.IsWhole) (arg13 : Memref sig .tc .vmem S512x128 .f32) (harg13 : arg13.IsWhole)
  (x0 : Vec F S512x3072 .bf16) (x1 : Vec F S2x3072 .f32) (x2 : Vec F S2x3072 .f32) (x3 : Vec F S3072x512 .i8) (x4 : Vec F S1x512 .f32) (x5 : Vec F S1x512 .f32) (x6 : Vec F S1x128 .f32) (x7 : Vec F S1x128 .f32) (y8 : Vec F S512x3072 .i8) (y9 : Vec F S2x256 .f32) (y10 : Vec F S512x512 .bf16) (y11 : Vec F S512x128 .f32)

-- One memref owned whole at the contents written.
local notation "⟪" a ", " x "⟫" => owns (c : Thread nD τ) a fullShare x

set_option maxHeartbeats 2000000 in
/-- The body at the first tile: the codes, the scales and four heads are stored. -/
theorem runA (hc1 : k0_cond1 i = 1#1) (hc2 : k0_cond2 i = 1#1) (hc3 : ¬ k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, codesS x0 x1 x2⟫ ∗ ⟪arg11, setRow (R := 2) (C := 256) 1 (k0_pay3 (half (srowS x0 x1 x2) 1)) (setRow (R := 2) (C := 256) 0 (k0_pay3 (half (srowS x0 x1 x2) 0)) y9)⟫ ∗ ⟪arg12, outG i (codesS x0 x1 x2) x3 (srowS x0 x1 x2) x4 x5 x6 x7⟫ ∗ ⟪arg13, srowS x0 x1 x2⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  have e29 : runA.sl.v29 c i arg3 harg3 x1 hc1 = mrow x1 0 := by
    unfold runA.sl.v29
    rw [View.readAt_eq_ld, hf1]
    exact ld_mrow i hc1 0 x1
  have e31 : runA.sl.v31 c i arg4 harg4 x2 hc1 = mrow x2 0 := by
    unfold runA.sl.v31
    rw [View.readAt_eq_ld, hf2]
    exact ld_mrow i hc1 0 x2
  have e43 : runA.sl.v43 c i arg3 harg3 x1 hc1 = mrow x1 1 := by
    unfold runA.sl.v43
    rw [View.readAt_eq_ld, hf1]
    exact ld_mrow i hc1 1 x1
  have e45 : runA.sl.v45 c i arg4 harg4 x2 hc1 = mrow x2 1 := by
    unfold runA.sl.v45
    rw [View.readAt_eq_ld, hf2]
    exact ld_mrow i hc1 1 x2
  have e3 : runA.sl.v3 c i arg2 harg2 arg3 harg3 arg4 harg4 arg5 harg5 arg6 harg6 arg7 harg7 arg8 harg8 arg9 harg9 arg10 harg10 arg11 harg11 arg12 harg12 arg13 harg13 x0 x1 x2 hc1 f8 = codesS x0 x1 x2 := by
    unfold runA.sl.v3
    rw [View.readAt_eq_ld, e29, e31, e43, e45, ld2]
    refine (read_codes c i arg2 harg2 arg3 harg3 arg4 harg4 arg5 harg5 arg6 harg6 arg7 harg7 arg8 harg8 arg9 harg9 arg10 harg10 arg11 harg11 arg12 harg12 arg13 harg13 _ _ _ _ _ _ _ rfl rfl).trans ?_
    rw [hf0]
  have e9 : runA.sl.v9 c i arg2 harg2 arg3 harg3 arg4 harg4 arg5 harg5 arg6 harg6 arg7 harg7 arg8 harg8 arg9 harg9 arg10 harg10 arg11 harg11 arg12 harg12 arg13 harg13 x0 x1 x2 hc1 f11 = scol (srowS x0 x1 x2) := by
    unfold runA.sl.v9 scol
    rw [View.readAt_eq_ld, e29, e31, e43, e45]
    refine congrArg (fun z => View.ld z _) ((read_srow c i arg2 harg2 arg3 harg3 arg4 harg4 arg5 harg5 arg6 harg6 arg7 harg7 arg8 harg8 arg9 harg9 arg10 harg10 arg11 harg11 arg12 harg12 arg13 harg13 _ _ _ _ _ _ _ rfl rfl).trans ?_)
    rw [hf0]
  have e35 : runA.sl.v35 c i arg2 harg2 arg3 harg3 arg4 harg4 arg5 harg5 arg6 harg6 arg7 harg7 arg8 harg8 arg9 harg9 arg10 harg10 arg11 harg11 arg12 harg12 arg13 harg13 x0 x1 x2 hc1 f11 = half (srowS x0 x1 x2) 0 := by
    unfold runA.sl.v35
    rw [View.readAt_eq_ld, e29, e31, ld_chunk (R := 512) (C := 128) (c := 256) _ _ 0 _ rfl (by omega)]
    funext y
    have hy : (y 0).val < 256 := (y 0).isLt
    refine (read_half c i arg2 harg2 arg3 harg3 arg4 harg4 arg5 harg5 arg6 harg6 arg7 harg7 arg8 harg8 arg9 harg9 arg10 harg10 arg11 harg11 arg12 harg12 arg13 harg13 _ _ _ _ _ _ rfl _ (by show 0 + (y 0).val < 256; omega)).trans ?_
    rw [hf0]
    rfl
  have e49 : runA.sl.v49 c i arg2 harg2 arg3 harg3 arg4 harg4 arg5 harg5 arg6 harg6 arg7 harg7 arg8 harg8 arg9 harg9 arg10 harg10 arg11 harg11 arg12 harg12 arg13 harg13 x0 x1 x2 hc1 f11 = half (srowS x0 x1 x2) 1 := by
    unfold runA.sl.v49
    rw [View.readAt_eq_ld, e29, e31, e43, e45, ld_chunk (R := 512) (C := 128) (c := 256) _ _ 256 _ rfl (by omega)]
    refine congrArg (fun z => chunk z 256 (by omega)) ((read_srow c i arg2 harg2 arg3 harg3 arg4 harg4 arg5 harg5 arg6 harg6 arg7 harg7 arg8 harg8 arg9 harg9 arg10 harg10 arg11 harg11 arg12 harg12 arg13 harg13 _ _ _ _ _ _ _ rfl rfl).trans ?_)
    rw [hf0]
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]
  · iexists _; isplitr; swap; · iexact H8
    ipureintro
    rw [e29, e31, e43, e45]
    refine (read_codes c i arg2 harg2 arg3 harg3 arg4 harg4 arg5 harg5 arg6 harg6 arg7 harg7 arg8 harg8 arg9 harg9 arg10 harg10 arg11 harg11 arg12 harg12 arg13 harg13 _ _ _ _ _ _ _ rfl rfl).trans ?_
    rw [hf0]
  isplitl [H9]
  · iexists _; isplitr; swap; · iexact H9
    ipureintro
    rw [read_setRow (R := 2) (C := 256) _ _ _ 1 _ (show k0_off4 i 1#32 = ![1, 0] from off4 i 1), read_setRow (R := 2) (C := 256) _ _ _ 0 _ (show k0_off4 i 0#32 = ![0, 0] from off4 i 0)]
    rw [e35, e49, pay6_eq, View.writes_nil, hf9]
  isplitl [H10]
  · iexists _; isplitr; swap; · iexact H10
    ipureintro
    rw [View.read_writes_eq_canon]; swap
    · exact View.cover_of_tiled _ S512x128.size (by rfl)
    unfold outG
    try unfold runA.sl.r
    rw [e3, e9]
    simp only [View.readAt_eq_ld, hf0, hf1, hf2, hf3, hf4, hf5, hf6, hf7, hf8, hf11, ld2]
  iexists _; isplitr; swap; · iexact H11
  ipureintro
  rw [e29, e31, e43, e45]
  refine (read_srow c i arg2 harg2 arg3 harg3 arg4 harg4 arg5 harg5 arg6 harg6 arg7 harg7 arg8 harg8 arg9 harg9 arg10 harg10 arg11 harg11 arg12 harg12 arg13 harg13 _ _ _ _ _ _ _ rfl rfl).trans ?_
  rw [hf0]

set_option maxHeartbeats 2000000 in
/-- The body at a later tile of queries or keys. -/
theorem runB (hc1 : ¬ k0_cond1 i = 1#1) (hc2 : k0_cond2 i = 1#1) (hc3 : ¬ k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, outG i y8 x3 y11 x4 x5 x6 x7⟫ ∗ ⟪arg13, y11⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]
  · iexists _; isplitr; swap; · iexact H10
    ipureintro
    rw [View.read_writes_eq_canon]; swap
    · exact View.cover_of_tiled _ S512x128.size (by rfl)
    unfold outG scol
    try unfold runB.sl.r
    simp only [View.readAt_eq_ld, hf0, hf1, hf2, hf3, hf4, hf5, hf6, hf7, hf8, hf11, ld2]
  iexists _; isplitr; swap; · iexact H11
  ipureintro
  exact hf11

set_option maxHeartbeats 2000000 in
/-- The body at a tile of values. -/
theorem runC (hc1 : ¬ k0_cond1 i = 1#1) (hc2 : ¬ k0_cond2 i = 1#1) (hc3 : k0_cond3 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, y10⟫ ∗ ⟪arg13, y11⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, y8⟫ ∗ ⟪arg11, y9⟫ ∗ ⟪arg12, outP y8 x3 y11 x4 x5⟫ ∗ ⟪arg13, y11⟫) -∗ Q ⟨⟩))
        ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) Q := by
  intro E Q
  simp only [cc0_qkv_eq_skeleton]; unfold cc0_qkv_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]
  · iexists _; isplitr; swap; · iexact H10
    ipureintro
    rw [View.read_writes_eq_canon]; swap
    · exact View.cover_of_tiled _ S512x128.size (by rfl)
    unfold outP scol
    try unfold runC.sl.r
    simp only [View.readAt_eq_ld, hf0, hf1, hf2, hf3, hf4, hf5, hf6, hf7, hf8, hf11, ld2]
  iexists _; isplitr; swap; · iexact H11
  ipureintro
  exact hf11

end Runs

/-! ## The proof data -/

/-- The first point. -/
abbrev pt : Fin cfg0.N := ⟨0, by rw [show cfg0.N = 18 from N_0]; omega⟩

/-- The codes, the rows' scales and the scale output. -/
def codesR (c : Dev nD) : Vec F S512x3072 .i8 := codesS (iblk m c 0 pt) (iblk m c 1 pt) (iblk m c 2 pt)
def srowR (c : Dev nD) : Vec F S512x128 .f32 := srowS (iblk m c 0 pt) (iblk m c 1 pt) (iblk m c 2 pt)
def rowsR (c : Dev nD) : Vec F S2x256 .f32 := fun y => k0_pay3 (half (srowR m c) (y 0)) (ix2 0 (y 1))

/-- The two stores of the scale output cover it. -/
theorem rows_eq (c : Dev nD) (Y : Vec F S2x256 .f32) :
    setRow (R := 2) (C := 256) 1 (k0_pay3 (half (srowR m c) 1)) (setRow (R := 2) (C := 256) 0 (k0_pay3 (half (srowR m c) 0)) Y) = rowsR m c := by
  funext y
  have hy : (y 0).val < 2 := (y 0).isLt
  unfold setRow rowsR
  by_cases h : (y 0).val = 1
  · rw [if_pos h, show @Eq (Fin 2) (y 0) 1 from Fin.ext h]
  · have h' : (y 0).val = 0 := by omega
    rw [if_neg h, if_pos h', show @Eq (Fin 2) (y 0) 0 from Fin.ext h']

/-- The tile a point writes. -/
def outT (c : Dev nD) (t : Fin cfg0.N) : Vec F S512x512 .bf16 :=
  if t.val % 18 < 12 then outG (grid0.coords t) (codesR m c) (iblk m c 3 t) (srowR m c) (iblk m c 4 t) (iblk m c 5 t) (iblk m c 6 t) (iblk m c 7 t)
  else outP (codesR m c) (iblk m c 3 t) (srowR m c) (iblk m c 4 t) (iblk m c 5 t)

/-- The relational proof data: an input is left as found; the codes and the scales are those
    of the first point, at every point; the scratch holds the rows' scales after the first point. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ _ X => X = codesR m c
    | ⟨9, _⟩ => fun _ _ X => X = rowsR m c
    | ⟨10, _⟩ => fun t _ X => X = outT m c t
  Φ k := iprop((∃ d, ⌜0 < k.val → d = srowR m c⌝
      ∗ owns (c : Thread nD τ) (Memref.whole cc0_scratch0) fullShare d) ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem Φ_eq (c : Dev nD) (k : Fin (cfg0.N + 1)) : (rdat m c).Φ k = iprop((∃ d, ⌜0 < k.val → d = srowR m c⌝
      ∗ owns (c : Thread nD τ) (Memref.whole cc0_scratch0) fullShare d) ∗ (∃ r, prngReg c r)) := by
  dsimp only [rdat]

/-- The rows and the modulation are the same at every point. -/
theorem fetched_eq (c : Dev nD) (t : Fin cfg0.N) (d) : (rdat m c).fetched 0 t d = iblk m c 0 t := by
  unfold RDat.fetched RDat.blockOf iblk; rw [A_eq]; try rfl
theorem iblk0 (c : Dev nD) (t : Fin cfg0.N) : (iblk m c 0 t : Vec F S512x3072 .bf16) = iblk m c 0 pt := by
  have h : ∀ t : Fin cfg0.N, (cfg0.win 0).index t = (cfg0.win 0).index pt := by decide +kernel
  have e := (rdat m c).fetched_congr 0 (h t) rfl (iblk m c 0 t)
  rw [fetched_eq, fetched_eq] at e
  exact e
theorem iblk1 (c : Dev nD) (t : Fin cfg0.N) : (iblk m c 1 t : Vec F S2x3072 .f32) = iblk m c 1 pt := rfl
theorem iblk2 (c : Dev nD) (t : Fin cfg0.N) : (iblk m c 2 t : Vec F S2x3072 .f32) = iblk m c 2 pt := rfl

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rw [A_eq]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rw [A_eq]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rw [A_eq]; try rfl

/-- After the first point its codes are found. -/
theorem finds8 (c : Dev nD) (t : Fin cfg0.N) (ht : t.val ≠ 0) (Y) (h : (rdat m c).Finds 8 t Y) : Y = codesR m c := by
  have hN : t.val < 18 := lt_of_lt_of_eq t.isLt (show cfg0.N = 18 from N_0)
  rcases ((rdat m c).finds_of_pos ((cfg0.win 8).fetch_out rfl t) ht Y).mp h with hf | ⟨_, _, h⟩
  · have := (flush0_8 _).mp hf
    exfalso; simp only at this; omega
  · exact h

/-- After the first point its scales are found. -/
theorem finds9 (c : Dev nD) (t : Fin cfg0.N) (ht : t.val ≠ 0) (Y) (h : (rdat m c).Finds 9 t Y) : Y = rowsR m c := by
  have hN : t.val < 18 := lt_of_lt_of_eq t.isLt (show cfg0.N = 18 from N_0)
  rcases ((rdat m c).finds_of_pos ((cfg0.win 9).fetch_out rfl t) ht Y).mp h with hf | ⟨_, _, h⟩
  · have := (flush0_9 _).mp hf
    exfalso; simp only at this; omega
  · exact h

abbrev ms0 (t : Fin cfg0.N) : Memref sig .tc .vmem S512x3072 .bf16 := win0_0.stage (cfg0.slots t 0)
abbrev ms1 (t : Fin cfg0.N) : Memref sig .tc .vmem S2x3072 .f32 := win0_1.stage (cfg0.slots t 1)
abbrev ms2 (t : Fin cfg0.N) : Memref sig .tc .vmem S2x3072 .f32 := win0_2.stage (cfg0.slots t 2)
abbrev ms3 (t : Fin cfg0.N) : Memref sig .tc .vmem S3072x512 .i8 := win0_3.stage (cfg0.slots t 3)
abbrev ms4 (t : Fin cfg0.N) : Memref sig .tc .vmem S1x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S512x3072 .i8 := win0_8.stage (cfg0.slots t 8)
abbrev ms9 (t : Fin cfg0.N) : Memref sig .tc .vmem S2x256 .f32 := win0_9.stage (cfg0.slots t 9)
abbrev ms10 (t : Fin cfg0.N) : Memref sig .tc .vmem S512x512 .bf16 := win0_10.stage (cfg0.slots t 10)

set_option maxHeartbeats 1600000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))) := by
  unfold bodyAt0
  have hN : t.val < 18 := lt_of_lt_of_eq t.isLt (show cfg0.N = 18 from N_0)
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  rw [e0, e1, e2, e3, e4, e5, e6, e7]
  rw [Φ_eq, Φ_eq, show (rdat m c).owesAt () t.succ = (rdat m c).owesAt () t.castSucc from rfl]
  have hcodes : (codesS (iblk m c 0 t) (iblk m c 1 t) (iblk m c 2 t) : Vec F S512x3072 .i8) = codesR m c := by
    rw [iblk0, iblk1, iblk2]; rfl
  have hsrow : (srowS (iblk m c 0 t) (iblk m c 1 t) (iblk m c 2 t) : Vec F S512x128 .f32) = srowR m c := by
    rw [iblk0, iblk1, iblk2]; rfl
  by_cases h0 : t.val = 0
  · iintro ⟨⟨⟨%d, %hd, HS⟩, Hr⟩, Ho, H0, H1, H2, H3, H4, H5, H6, H7, H8, H9, H10⟩
    iapply (runA c (grid0.coords t) _ _ _ _ _ _ _ _ _ _ _ _ _ _ _ _ _ _ _ _ _ _ _ _ _ _ _ _ _ _ _ _ _ _ _ _ ((hc1 t).mpr (by omega)) ((hc2 t).mpr (by omega)) (fun h => absurd ((hc3 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hr]
    · isplitl [HS]
      · iexists _; isplitr; swap; · iexact HS
        ipureintro
        intro _
        exact hsrow
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; exact hcodes
    isplitl [H9]
    · iexists _; isplitr; swap; · iexact H9
      ipureintro; rw [hsrow]; exact rows_eq m c _
    iexists _; isplitr; swap; · iexact H10
    ipureintro; rw [hcodes, hsrow]; exact (if_pos (by omega)).symm
  · have e8 := finds8 m c t h0 _ (hY 8)
    have e9 := finds9 m c t h0 _ (hY 9)
    rw [e8, e9]
    by_cases h12 : t.val % 18 < 12
    · iintro ⟨⟨⟨%d, %hd, HS⟩, Hr⟩, Ho, H0, H1, H2, H3, H4, H5, H6, H7, H8, H9, H10⟩
      obtain rfl := hd (by show 0 < t.val; omega)
      iapply (runB c (grid0.coords t) _ _ _ _ _ _ _ _ _ _ _ _ _ _ _ _ _ _ _ _ _ _ _ _ _ _ _ _ _ _ _ _ _ _ _ _ (fun h => h0 (by have := (hc1 t).mp h; omega)) ((hc2 t).mpr h12) (fun h => absurd ((hc3 t).mp h) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hr]
      · isplitl [HS]
        · iexists _; isplitr; swap; · iexact HS
          ipureintro
          intro _
          rfl
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      iexists _; isplitr; swap; · iexact H10
      ipureintro; exact (if_pos h12).symm
    · iintro ⟨⟨⟨%d, %hd, HS⟩, Hr⟩, Ho, H0, H1, H2, H3, H4, H5, H6, H7, H8, H9, H10⟩
      obtain rfl := hd (by show 0 < t.val; omega)
      iapply (runC c (grid0.coords t) _ _ _ _ _ _ _ _ _ _ _ _ _ _ _ _ _ _ _ _ _ _ _ _ _ _ _ _ _ _ _ _ _ _ _ _ (fun h => h0 (by have := (hc1 t).mp h; omega)) (fun h => h12 ((hc2 t).mp h)) ((hc3 t).mpr (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hr]
      · isplitl [HS]
        · iexists _; isplitr; swap; · iexact HS
          ipureintro
          intro _
          rfl
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      iexists _; isplitr; swap; · iexact H10
      ipureintro; exact (if_neg h12).symm

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

theorem hin (c : Dev nD) : Pipeline.ΦA spec0 c ⊢ (rdat m c).Φ 0 := by
  rw [Φ_eq]
  unfold Pipeline.ΦA
  rw [scopedRest0_eq]
  simp only [owns_whole]
  iintro ⟨⟨%f, H⟩, Hr⟩
  isplitl [H]
  · iexists f; isplitr; swap; · iexact H
    ipureintro
    intro hr
    exact absurd hr (Nat.not_lt_zero _)
  · iexact Hr

theorem hout (c : Dev nD) : (rdat m c).Φ (Fin.last cfg0.N) ⊢ Pipeline.ΦA spec0 c := by
  rw [Φ_eq]
  unfold Pipeline.ΦA
  rw [scopedRest0_eq]
  simp only [owns_whole]
  iintro ⟨⟨%f, %hf, H⟩, Hr⟩
  isplitl [H]
  · iexists f; iexact H
  · iexact Hr

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  ⟨((h c).2 main_arg0 (Pipeline.mem_restRefs_of main_arg0 (by decide) (by decide))).trans (V_main_arg0 m c),
    (RDat.FramePost.arr_in h c 2 rfl).trans ((A_eq m c 2).trans (V_main_arg1 m c)),
    (RDat.FramePost.arr_in h c 3 rfl).trans ((A_eq m c 3).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) :=
  (θ_run defs _ _).mono (fun _ h => ⟨args_of m h.1, h.2⟩) (run_main_quiescent m ρ)

end Cert.QkvIIdeal.Hand

end
-- ==== Proof.QkvIBitsFrame.lean ====
/- The frame of the image stream's projection call as printed: it is the same program over any float type as its idealization, so it leaves its
   arguments as found as that one does. -/
module

public import proofs.«01_k».proof.Proof.Gen.QkvI.Frame
public import proofs.«01_k».proof.Proof.QkvIFrame

@[expose] public section

set_option maxRecDepth 65536

noncomputable section

namespace Cert.QkvI.Hand

open Cert.QkvI
open Idealize.ShloMosaic Idealize.ShloMosaic.TcCoe Idealize.SL.Sem

variable {F : FTy → Type} [FloatOps F]

/-- The two programs run the same bodies. -/
theorem body_eq : (cc0_qkv (F := F)) = Cert.QkvIIdeal.cc0_qkv (F := F) := rfl

theorem defs₀_eq : (defs₀ (F := F)) = Cert.QkvIIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.QkvIIdeal.defs (F := F) :=
  congrArg (Pipeline.defs pcfgs) defs₀_eq

theorem main_eq : (main (F := F)) = Cert.QkvIIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) := by
  rw [defs_eq]
  exact Cert.QkvIIdeal.Hand.frame (F := F) m ρ

end Cert.QkvI.Hand

end
-- ==== Proof.QkvIPay.lean ====
/- The image stream's projection payloads over the extended reals are the reference's. -/
module

public import proofs.«01_k».proof.Proof.QkvTPay
public import proofs.«01_k».proof.Proof.Gen.QkvIIdeal.Skeleton
public import proofs.«01_k».proof.Proof.Gen.QkvIRefIdeal.Skeleton
public import Idealize.ShloMosaic.Lib.Pointwise

@[expose] public section

noncomputable section

namespace Cert.QkvIPay

open Idealize.ShloMosaic Idealize.ShloMosaic.Pointwise Cert.Codes
open Cert.QkvTPay (lnS scaleOf scale_at top headVal)

local notation "K1" => Cert.QkvIIdeal.Gen.k0_pay1 (F := Ideal)
local notation "K7" => Cert.QkvIIdeal.Gen.k0_pay7 (F := Ideal)
local notation "K14" => Cert.QkvIIdeal.Gen.k0_pay14 (F := Ideal)
local notation "K15" => Cert.QkvIIdeal.Gen.k0_pay15 (F := Ideal)
local notation "K16" => Cert.QkvIIdeal.Gen.k0_pay16 (F := Ideal)
local notation "R4" => Cert.QkvIRefIdeal.Gen.k0_pay4 (F := Ideal)
local notation "R5" => Cert.QkvIRefIdeal.Gen.k0_pay5 (F := Ideal)
local notation "R6" => Cert.QkvIRefIdeal.Gen.k0_pay6 (F := Ideal)
local notation "R7" => Cert.QkvIRefIdeal.Gen.k0_pay7 (F := Ideal)
local notation "R8" => Cert.QkvIRefIdeal.Gen.k0_pay8 (F := Ideal)
local notation "R9" => Cert.QkvIRefIdeal.Gen.k0_pay9 (F := Ideal)
local notation "R10" => Cert.QkvIRefIdeal.Gen.k0_pay10 (F := Ideal)

theorem round_at (h w : FVec Ideal Cert.QkvIRefIdeal.S2x256x3072 .f32) (j : Cert.QkvIRefIdeal.S2x256x3072.Idx) :
    roundeven (divf h w) j = Ideal.liftRound Ideal.roundHalfEven (Ideal.div (h j) (w j)) := by
  pointwise
theorem spread_at (u : FVec Ideal Cert.QkvIRefIdeal.S2x256 .f32) (r : Fin 2) (P : Fin 256) (b : Fin 3072) :
    broadcastTo Cert.QkvIRefIdeal.S2x256x3072 (shapeCast Cert.QkvIRefIdeal.S2x256x1 u Cert.QkvIRefIdeal.Gen.shapeCasts_S2x256_S2x256x1)
      Cert.QkvIRefIdeal.Gen.broadcasts_S2x256x1_S2x256x3072 (ix3 r P b) = u (ix2 r P) := by
  pointwise
theorem word_at (h : FVec Ideal Cert.QkvIRefIdeal.S2x256x3072 .f32) (r : Fin 2) (P : Fin 256) (b : Fin 3072) :
    R8 h 127#32 R7 (ix3 r P b) = Ideal.fptosi 8 (min ((((127#32 : BitVec 32).toInt : ℤ) : ℝ) : EReal) (max ((((4294967169#32 : BitVec 32).toInt : ℤ) : ℝ) : EReal) (h (ix3 r P b)))) := by
  pointwise [Cert.QkvIRefIdeal.Gen.k0_pay8, Cert.QkvIRefIdeal.Gen.k0_pay7]
  rfl

section Rows
variable (sh sc : FVec Ideal Cert.QkvIRefIdeal.S2x3072 .f32) (x : FVec Ideal Cert.QkvIRefIdeal.S2x256x3072 .bf16)
  (s g : FVec Ideal Cert.QkvIIdeal.S1x3072 .f32) (v : FVec Ideal Cert.QkvIIdeal.S32x3072 .bf16) (p : Fin 32) (r : Fin 2) (P : Fin 256)
  (hv : ∀ b, v (ix2 p b) = x (ix3 r P b)) (hs : ∀ b, s (ix2 0 b) = sh (ix2 r b)) (hg : ∀ b, g (ix2 0 b) = sc (ix2 r b))
include hv hs hg

theorem lnK (b : Fin 3072) : K14 s (K1 g) v (ix2 p b) = lnS (fun k => x (ix3 r P k)) (sh (ix2 r b)) (sc (ix2 r b)) b := by
  pointwise [Cert.QkvIIdeal.Gen.k0_pay14, Cert.QkvIIdeal.Gen.k0_pay1, hv, hs, hg]
  rfl
omit hv hs hg in
theorem lnR (b : Fin 3072) : R4 sh sc x (ix3 r P b) = lnS (fun k => x (ix3 r P k)) (sh (ix2 r b)) (sc (ix2 r b)) b := by
  pointwise [Cert.QkvIRefIdeal.Gen.k0_pay4]
  rfl
/-- A row normalised and modulated. -/
theorem ln_eq (b : Fin 3072) : K14 s (K1 g) v (ix2 p b) = R4 sh sc x (ix3 r P b) :=
  (lnK sh sc x s g v p r P hv hs hg b).trans (lnR sh sc x r P b).symm

/-- A row's scale. -/
theorem scaleK (u : Fin 1) : K15 s (K1 g) v (ix2 p u) = scaleOf (top fun k => R4 sh sc x (ix3 r P k)) := by
  unfold Cert.QkvIIdeal.Gen.k0_pay15
  refine (scale_at _ _).trans (congrArg scaleOf ?_)
  pointwise [ln_eq sh sc x s g v p r P hv hs hg]
  rfl
omit hv hs hg in
theorem scaleR : R5 sh sc x (ix2 r P) = scaleOf (top fun k => R4 sh sc x (ix3 r P k)) := by
  unfold Cert.QkvIRefIdeal.Gen.k0_pay5
  refine (scale_at _ _).trans (congrArg scaleOf ?_)
  pointwise
  rfl
theorem scale_eq (u : Fin 1) : K15 s (K1 g) v (ix2 p u) = R5 sh sc x (ix2 r P) :=
  (scaleK sh sc x s g v p r P hv hs hg u).trans (scaleR sh sc x r P).symm

/-- A row's codes. -/
theorem codeK (b : Fin 3072) : K16 s (K1 g) v (ix2 p b) = Ideal.fptosi 8 (clip (Ideal.div (R4 sh sc x (ix3 r P b)) (R5 sh sc x (ix2 r P)))) := by
  unfold Cert.QkvIIdeal.Gen.k0_pay16
  have e := ln_eq sh sc x s g v p r P hv hs hg
  have e' := scale_eq sh sc x s g v p r P hv hs hg
  pointwise [e, e']
  exact congrArg (Ideal.fptosi 8) (clip_words _)
omit hv hs hg in
theorem roundR (b : Fin 3072) : R6 sh sc x (ix3 r P b) = Ideal.liftRound Ideal.roundHalfEven (Ideal.div (R4 sh sc x (ix3 r P b)) (R5 sh sc x (ix2 r P))) :=
  (round_at _ _ _).trans (congrArg (fun z => Ideal.liftRound Ideal.roundHalfEven (Ideal.div (R4 sh sc x (ix3 r P b)) z)) (spread_at _ r P b))
omit hv hs hg in
theorem codeR (b : Fin 3072) : R8 (R6 sh sc x) 127#32 R7 (ix3 r P b) = Ideal.fptosi 8 (clip (Ideal.div (R4 sh sc x (ix3 r P b)) (R5 sh sc x (ix2 r P)))) := by
  refine (word_at _ r P b).trans ?_
  rw [roundR]
  exact congrArg (Ideal.fptosi 8) (clip_ints _)
theorem code_eq (b : Fin 3072) : K16 s (K1 g) v (ix2 p b) = R8 (R6 sh sc x) 127#32 R7 (ix3 r P b) :=
  (codeK sh sc x s g v p r P hv hs hg b).trans (codeR sh sc x r P b).symm
end Rows

/-- A scale across its row, and the scales of all the rows as one row. -/
theorem spread_k (u : FVec Ideal Cert.QkvIIdeal.S32x1 .f32) (p : Fin 32) (b : Fin 128) : Cert.QkvIIdeal.Gen.k0_pay2 (F := Ideal) u (ix2 p b) = u (ix2 p 0) := by
  pointwise [Cert.QkvIIdeal.Gen.k0_pay2]
theorem flip_k (u : Vec Ideal Cert.QkvIIdeal.S256x128 .f32) (a : Fin 256) : Cert.QkvIIdeal.Gen.k0_pay3 (F := Ideal) u (ix2 0 a) = u (ix2 a 0) := by
  pointwise [Cert.QkvIIdeal.Gen.k0_pay3]
section Kernel
variable (A : FVec Ideal Cert.QkvIIdeal.S512x512 .f32) (w : BitVec 32) (qg kg : FVec Ideal Cert.QkvIIdeal.S1x128 .f32) (p : Fin 512) (d : Fin 128)
theorem head0 : Cert.QkvIIdeal.Gen.k0_pay21 (F := Ideal) w A qg kg (ix2 p d) = headVal (A (ix2 p ⟨0 + d.val, by omega⟩)) (fun k => A (ix2 p ⟨0 + k.val, by omega⟩)) (Cert.QkvIIdeal.Gen.k0_pay20 (F := Ideal) w qg kg (ix2 0 d)) := by
  unfold Cert.QkvIIdeal.Gen.k0_pay21
  generalize Cert.QkvIIdeal.Gen.k0_pay20 (F := Ideal) w qg kg = G
  pointwise
  rfl
theorem head1 : Cert.QkvIIdeal.Gen.k0_pay22 (F := Ideal) w A qg kg (ix2 p d) = headVal (A (ix2 p ⟨128 + d.val, by omega⟩)) (fun k => A (ix2 p ⟨128 + k.val, by omega⟩)) (Cert.QkvIIdeal.Gen.k0_pay20 (F := Ideal) w qg kg (ix2 0 d)) := by
  unfold Cert.QkvIIdeal.Gen.k0_pay22
  generalize Cert.QkvIIdeal.Gen.k0_pay20 (F := Ideal) w qg kg = G
  pointwise
  rfl
theorem head2 (G : FVec Ideal Cert.QkvIIdeal.S1x128 .f32) : Cert.QkvIIdeal.Gen.k0_pay8 (F := Ideal) G (Cert.QkvIIdeal.Gen.k0_pay23 A) (Cert.QkvIIdeal.Gen.k0_pay24 A) Cert.QkvIIdeal.Gen.k0_pay25 (ix2 p d) = headVal (A (ix2 p ⟨256 + d.val, by omega⟩)) (fun k => A (ix2 p ⟨256 + k.val, by omega⟩)) (G (ix2 0 d)) := by
  pointwise [Cert.QkvIIdeal.Gen.k0_pay8, Cert.QkvIIdeal.Gen.k0_pay23, Cert.QkvIIdeal.Gen.k0_pay24, Cert.QkvIIdeal.Gen.k0_pay25]
  rfl
variable (cs : Vec Ideal Cert.QkvIIdeal.S512x3072 .i8) (W : Vec Ideal Cert.QkvIIdeal.S3072x512 .i8) (sr : Vec Ideal Cert.QkvIIdeal.S512x1 .f32) (ws b : Vec Ideal Cert.QkvIIdeal.S1x512 .f32)
theorem head3 (G : FVec Ideal Cert.QkvIIdeal.S1x128 .f32) : Cert.QkvIIdeal.Gen.k0_pay9 (F := Ideal) cs W sr ws b G (ix2 p d) = headVal (K7 cs W sr ws b (ix2 p ⟨384 + d.val, by omega⟩)) (fun k => K7 cs W sr ws b (ix2 p ⟨384 + k.val, by omega⟩)) (G (ix2 0 d)) := by
  unfold Cert.QkvIIdeal.Gen.k0_pay9
  generalize K7 cs W sr ws b = A
  pointwise
  rfl
theorem plain0 : Cert.QkvIIdeal.Gen.k0_pay10 (F := Ideal) cs W sr ws b (ix2 p d) = K7 cs W sr ws b (ix2 p ⟨0 + d.val, by omega⟩) := by
  unfold Cert.QkvIIdeal.Gen.k0_pay10
  generalize K7 cs W sr ws b = A
  pointwise
theorem plain1 : Cert.QkvIIdeal.Gen.k0_pay11 (F := Ideal) cs W sr ws b (ix2 p d) = K7 cs W sr ws b (ix2 p ⟨128 + d.val, by omega⟩) := by
  unfold Cert.QkvIIdeal.Gen.k0_pay11
  generalize K7 cs W sr ws b = A
  pointwise
theorem plain2 : Cert.QkvIIdeal.Gen.k0_pay12 (F := Ideal) cs W sr ws b (ix2 p d) = K7 cs W sr ws b (ix2 p ⟨256 + d.val, by omega⟩) := by
  unfold Cert.QkvIIdeal.Gen.k0_pay12
  generalize K7 cs W sr ws b = A
  pointwise
theorem plain3 : Cert.QkvIIdeal.Gen.k0_pay13 (F := Ideal) cs W sr ws b (ix2 p d) = K7 cs W sr ws b (ix2 p ⟨384 + d.val, by omega⟩) := by
  unfold Cert.QkvIIdeal.Gen.k0_pay13
  generalize K7 cs W sr ws b = A
  pointwise
/-- The gains of a tile of queries, and of a tile of keys. -/
theorem gain_q (h : Scalar.cmpi .slt w 6#32 = 1#1) : Cert.QkvIIdeal.Gen.k0_pay20 (F := Ideal) w qg kg (ix2 0 d) = qg (ix2 0 d) := by
  unfold Cert.QkvIIdeal.Gen.k0_pay20
  rw [h]
  pointwise
theorem gain_k (h : Scalar.cmpi .slt w 6#32 = 0#1) : Cert.QkvIIdeal.Gen.k0_pay20 (F := Ideal) w qg kg (ix2 0 d) = kg (ix2 0 d) := by
  unfold Cert.QkvIIdeal.Gen.k0_pay20
  rw [h]
  pointwise
theorem acc_at (j : Fin 512) : K7 cs W sr ws b (ix2 p j) = (∑ k, (FloatOps.sitofp FTy.bf16 (cs (ix2 p k)) : Ideal .bf16) * (FloatOps.sitofp FTy.bf16 (W (ix2 k j)) : Ideal .bf16)) * sr (ix2 p 0) * ws (ix2 0 j) + b (ix2 0 j) := by
  pointwise [Cert.QkvIIdeal.Gen.k0_pay7]
end Kernel

section Reference
variable (sr : FVec Ideal Cert.QkvIRefIdeal.S2x256 .f32) (h : FVec Ideal Cert.QkvIRefIdeal.S2x256x3072 .f32) (w : BitVec 32) (lo : Ideal .f32) (W : Vec Ideal Cert.QkvIRefIdeal.S3072x9216 .i8)
  (ws b : Vec Ideal Cert.QkvIRefIdeal.S9216 .f32) (g : Vec Ideal Cert.QkvIRefIdeal.S128 .f32) (A : FVec Ideal Cert.QkvIRefIdeal.S512x3072 .f32) (R : Fin 512) (n : Fin 3072)

theorem ref_k : Cert.QkvIRefIdeal.Gen.k0_pay2 (F := Ideal) A g (ix2 R n) = headVal (A (ix2 R n)) (fun k => A (ix2 R ⟨n.val / 128 * 128 + k.val, by omega⟩)) (g (ix1 ⟨n.val % 128, by omega⟩)) := by
  pointwise [Cert.QkvIRefIdeal.Gen.k0_pay2]
  rfl
theorem ref_q : Cert.QkvIRefIdeal.Gen.k0_pay1 (Cert.QkvIRefIdeal.Gen.k0_pay13 (F := Ideal) sr h w lo W ws b g) (ix2 R n) = headVal (R10 sr h w lo W ws b (ix2 R ⟨n.val, by omega⟩)) (fun k => R10 sr h w lo W ws b (ix2 R ⟨n.val / 128 * 128 + k.val, by omega⟩)) (g (ix1 ⟨n.val % 128, by omega⟩)) := by
  unfold Cert.QkvIRefIdeal.Gen.k0_pay13
  generalize R10 sr h w lo W ws b = B
  pointwise [Cert.QkvIRefIdeal.Gen.k0_pay1]
  rfl
theorem ref_acc (N : Fin 9216) : R10 sr h w lo W ws b (ix2 R N) = (∑ k, (FloatOps.sitofp FTy.bf16 (R8 h w lo (ix3 ⟨R.val / 256, by omega⟩ ⟨R.val % 256, by omega⟩ k)) : Ideal .bf16) * (FloatOps.sitofp FTy.bf16 (W (ix2 k N)) : Ideal .bf16)) * sr (ix2 ⟨R.val / 256, by omega⟩ ⟨R.val % 256, by omega⟩) * ws (ix1 N) + b (ix1 N) := by
  unfold Cert.QkvIRefIdeal.Gen.k0_pay10
  generalize R8 h w lo = q
  pointwise
theorem ref_codes (k : Fin 3072) : R9 h w lo (ix2 R k) = R8 h w lo (ix3 ⟨R.val / 256, by omega⟩ ⟨R.val % 256, by omega⟩ k) := by
  unfold Cert.QkvIRefIdeal.Gen.k0_pay9
  generalize R8 h w lo = q
  pointwise
end Reference

end Cert.QkvIPay

end
-- ==== Proof.QkvIRefValue.lean ====
/- The image stream's projection reference: its arrays after its run, and each at a point. -/
module

public import proofs.«01_k».proof.Proof.Gen.QkvIRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.Loads
public import proofs.«01_k».proof.Proof.QkvIPay

@[expose] public section

set_option maxRecDepth 16384

noncomputable section

namespace Cert.QkvIRefIdeal.Hand

open Cert.QkvIRefIdeal Cert.QkvIRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S2x256x3072 .bf16 := m ((c.tc : Thread nD τ).loc main_arg0)
abbrev a1 (c : Dev nD) : Vec F S2x18432 .f32 := m ((c.tc : Thread nD τ).loc main_arg1)
abbrev a2 (c : Dev nD) : Vec F S3072x9216 .i8 := m ((c.tc : Thread nD τ).loc main_arg2)
abbrev a3 (c : Dev nD) : Vec F S9216 .f32 := m ((c.tc : Thread nD τ).loc main_arg3)
abbrev a4 (c : Dev nD) : Vec F S9216 .f32 := m ((c.tc : Thread nD τ).loc main_arg4)
abbrev a5 (c : Dev nD) : Vec F S128 .f32 := m ((c.tc : Thread nD τ).loc main_arg5)
abbrev a6 (c : Dev nD) : Vec F S128 .f32 := m ((c.tc : Thread nD τ).loc main_arg6)

theorem e0 : ∀ t : Fin cfg0.N, win0_0.index t = ![0, 0, 0] := by decide +kernel
theorem i0 (c : Dev nD) (t : Fin cfg0.N) : (iblk m c 0 t : Vec F S2x256x3072 .bf16) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S2x18432 .f32) = a1 m c := by
  funext y; blk_simp [iblk]; exact congrArg (a1 m c) (by blk_ext [e1])
theorem e2 : ∀ t : Fin cfg0.N, win0_2.index t = ![0, 0] := by decide +kernel
theorem i2 (c : Dev nD) (t : Fin cfg0.N) : (iblk m c 2 t : Vec F S3072x9216 .i8) = a2 m c := by
  funext y; blk_simp [iblk]; exact congrArg (a2 m c) (by blk_ext [e2])
theorem e3 : ∀ t : Fin cfg0.N, win0_3.index t = ![0] := by decide +kernel
theorem i3 (c : Dev nD) (t : Fin cfg0.N) : (iblk m c 3 t : Vec F S9216 .f32) = a3 m c := by
  funext y; blk_simp [iblk]; exact congrArg (a3 m c) (by blk_ext [e3])
theorem e4 : ∀ t : Fin cfg0.N, win0_4.index t = ![0] := by decide +kernel
theorem i4 (c : Dev nD) (t : Fin cfg0.N) : (iblk m c 4 t : Vec F S9216 .f32) = a4 m c := by
  funext y; blk_simp [iblk]; exact congrArg (a4 m c) (by blk_ext [e4])
theorem e5 : ∀ t : Fin cfg0.N, win0_5.index t = ![0] := by decide +kernel
theorem i5 (c : Dev nD) (t : Fin cfg0.N) : (iblk m c 5 t : Vec F S128 .f32) = a5 m c := by
  funext y; blk_simp [iblk]; exact congrArg (a5 m c) (by blk_ext [e5])
theorem e6 : ∀ t : Fin cfg0.N, win0_6.index t = ![0] := by decide +kernel
theorem i6 (c : Dev nD) (t : Fin cfg0.N) : (iblk m c 6 t : Vec F S128 .f32) = a6 m c := by
  funext y; blk_simp [iblk]; exact congrArg (a6 m c) (by blk_ext [e6])

/-! Each result array is the body's payload of the arguments. -/

theorem e7 : ∀ t : Fin cfg0.N, win0_7.index t = ![0, 0] := by decide +kernel
def res7 (c : Dev nD) : Vec F S512x3072 .i8 := out0_7 (a0 m c) (a1 m c) (a2 m c) (a3 m c) (a4 m c) (a5 m c) (a6 m c)
theorem final7 (c : Dev nD) : (dats m 0 c).arrAt 7 cfg0.N = res7 m c := by
  refine (dats m 0 c).arrAt_eq_of_covers 7 _ (by decide +kernel) fun t hf y => ?_
  blk_simp
  rw [after0_7, i0, i1, i2, i3, i4, i5, i6]
  exact congrArg (res7 m c) (by blk_ext [e7])

theorem e8 : ∀ t : Fin cfg0.N, win0_8.index t = ![0, 0] := by decide +kernel
def res8 (c : Dev nD) : Vec F S2x256 .f32 := out0_8 (a0 m c) (a1 m c) (a2 m c) (a3 m c) (a4 m c) (a5 m c) (a6 m c)
theorem final8 (c : Dev nD) : (dats m 0 c).arrAt 8 cfg0.N = res8 m c := by
  refine (dats m 0 c).arrAt_eq_of_covers 8 _ (by decide +kernel) fun t hf y => ?_
  blk_simp
  rw [after0_8, i0, i1, i2, i3, i4, i5, i6]
  exact congrArg (res8 m c) (by blk_ext [e8])

theorem e9 : ∀ t : Fin cfg0.N, win0_9.index t = ![0, 0] := by decide +kernel
def res9 (c : Dev nD) : Vec F S512x9216 .bf16 := out0_9 (a0 m c) (a1 m c) (a2 m c) (a3 m c) (a4 m c) (a5 m c) (a6 m c)
theorem final9 (c : Dev nD) : (dats m 0 c).arrAt 9 cfg0.N = res9 m c := by
  refine (dats m 0 c).arrAt_eq_of_covers 9 _ (by decide +kernel) fun t hf y => ?_
  blk_simp
  rw [after0_9, i0, i1, i2, i3, i4, i5, i6]
  exact congrArg (res9 m c) (by blk_ext [e9])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res7 m c
      ∧ r.2.mem ((c.tc : Thread nD τ).loc main_v0_1) = res8 m c
      ∧ r.2.mem ((c.tc : Thread nD τ).loc main_v0_2) = res9 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

/-! The results at a point. -/

section Points
open Cert.QkvIPay Cert.QkvTPay Idealize.ShloMosaic.Pointwise
variable (x0 : Vec Ideal S2x256x3072 .bf16) (x1 : Vec Ideal S2x18432 .f32) (x2 : Vec Ideal S3072x9216 .i8) (x3 x4 : Vec Ideal S9216 .f32) (x5 x6 : Vec Ideal S128 .f32)

/-- The shift and the scale of the modulation. -/
def sh : Vec Ideal S2x3072 .f32 := View.ld x1 r0_0
def sc : Vec Ideal S2x3072 .f32 := View.ld x1 r0_1
theorem sh_at (r : Fin 2) (b : Fin 3072) : sh x1 (ix2 r b) = x1 (ix2 r ⟨0 + b.val, by omega⟩) := by
  unfold sh View.ld
  congr 1
  funext a
  apply Fin.ext
  fin_cases a
  · show 0 + 1 * r.val = r.val
    omega
  · show 0 + 1 * b.val = 0 + b.val
    omega
theorem sc_at (r : Fin 2) (b : Fin 3072) : sc x1 (ix2 r b) = x1 (ix2 r ⟨3072 + b.val, by omega⟩) := by
  unfold sc View.ld
  congr 1
  funext a
  apply Fin.ext
  fin_cases a
  · show 0 + 1 * r.val = r.val
    omega
  · show 3072 + 1 * b.val = 3072 + b.val
    omega

/-- The rounded quotients, the scales, and the projections before the heads are normalised. -/
def rnd : FVec Ideal S2x256x3072 .f32 := k0_pay6 (sh x1) (sc x1) x0
def scl : FVec Ideal S2x256 .f32 := k0_pay5 (sh x1) (sc x1) x0
def acc : FVec Ideal S512x9216 .f32 := k0_pay10 (scl x0 x1) (rnd x0 x1) 127#32 k0_pay7 x2 x3 x4

theorem p14 : k0_pay14 x0 x1 x2 x3 x4 x5 x6 = scl x0 x1 := by
  unfold k0_pay14 scl sh sc
  rw [show View.ld x0 r0_2 = x0 from ld3 _ x0]
theorem p15 : k0_pay15 x0 x1 x2 x3 x4 x5 x6 = rnd x0 x1 := by
  unfold k0_pay15 rnd sh sc
  rw [show View.ld x0 r0_2 = x0 from ld3 _ x0]

theorem out7_at (R : Fin 512) (k : Fin 3072) : out0_7 x0 x1 x2 x3 x4 x5 x6 (ix2 R k)
    = k0_pay8 (rnd x0 x1) 127#32 k0_pay7 (ix3 ⟨R.val / 256, by omega⟩ ⟨R.val % 256, by omega⟩ k) := by
  unfold out0_7
  rw [View.canon_unit_zero hz2, p15]
  exact ref_codes _ _ _ R k
theorem out8_eq : out0_8 x0 x1 x2 x3 x4 x5 x6 = scl x0 x1 := by
  unfold out0_8
  rw [View.canon_unit_zero hz2, p14]

/-- What the third result holds: a head of queries or keys normalised, a value as it comes. -/
def outAt (R : Fin 512) (N : Fin 9216) : EReal :=
  if N.val < 3072 then headVal (acc x0 x1 x2 x3 x4 (ix2 R N)) (fun k => acc x0 x1 x2 x3 x4 (ix2 R ⟨N.val / 128 * 128 + k.val, by omega⟩)) (x5 (ix1 ⟨N.val % 128, by omega⟩))
  else if N.val < 6144 then headVal (acc x0 x1 x2 x3 x4 (ix2 R N)) (fun k => acc x0 x1 x2 x3 x4 (ix2 R ⟨N.val / 128 * 128 + k.val, by omega⟩)) (x6 (ix1 ⟨N.val % 128, by omega⟩))
  else acc x0 x1 x2 x3 x4 (ix2 R N)

theorem place (o : Fin 2 → ℕ) (b : ℕ) (inb) (ho : o = ![0, b]) (R : Fin 512) (n : Fin 3072) (h : b + n.val < 9216) :
    (Rect.unit (s := S512x9216) o S512x3072.size inb).emb (ix2 R n) = ix2 R ⟨b + n.val, h⟩ := by
  subst ho
  funext a
  apply Fin.ext
  fin_cases a
  · show 0 + 1 * R.val = R.val
    omega
  · show b + 1 * n.val = b + n.val
    omega

theorem cut (A : FVec Ideal S512x9216 .f32) (R : Fin 512) (n n' : Fin 9216) (h : n.val = n'.val) : A (ix2 R n) = A (ix2 R n') := by
  rw [Fin.ext h]

theorem pay11_at (R : Fin 512) (n : Fin 3072) : k0_pay11 (scl x0 x1) (rnd x0 x1) 127#32 k0_pay7 x2 x3 x4 (ix2 R n) = acc x0 x1 x2 x3 x4 (ix2 R ⟨3072 + n.val, by omega⟩) := by
  unfold k0_pay11 acc
  generalize k0_pay10 (scl x0 x1) (rnd x0 x1) 127#32 k0_pay7 x2 x3 x4 = A
  pointwise
theorem pay12_at (R : Fin 512) (n : Fin 3072) : k0_pay3 (k0_pay12 (scl x0 x1) (rnd x0 x1) 127#32 k0_pay7 x2 x3 x4) (ix2 R n) = acc x0 x1 x2 x3 x4 (ix2 R ⟨6144 + n.val, by omega⟩) := by
  unfold k0_pay3 k0_pay12 acc
  generalize k0_pay10 (scl x0 x1) (rnd x0 x1) 127#32 k0_pay7 x2 x3 x4 = A
  pointwise

theorem out9_at (R : Fin 512) (N : Fin 9216) : out0_9 x0 x1 x2 x3 x4 x5 x6 (ix2 R N) = outAt x0 x1 x2 x3 x4 x5 x6 R N := by
  unfold out0_9
  rw [p14, p15, show View.ld x2 r0_5 = x2 from ld2 _ x2, show View.ld x3 r0_6 = x3 from ld1 _ x3, show View.ld x4 r0_6 = x4 from ld1 _ x4,
    show View.ld x5 r0_7 = x5 from ld1 _ x5, show View.ld x6 r0_7 = x6 from ld1 _ x6]
  refine View.canon_apply_of_pieces (Val := Elt Ideal) (e := .bf16) (fun y => outAt x0 x1 x2 x3 x4 x5 x6 (y 0) (y 1)) _ (fun p hp y => ?_) (ix2 R N) (cover0_9 _ _ _ _)
  simp only [List.mem_cons, List.mem_nil_iff, or_false] at hp
  rcases hp with rfl | rfl | rfl
  · obtain ⟨R, n, rfl⟩ : ∃ (a : Fin 512) (n : Fin 3072), y = ix2 a n := ⟨_, _, eq_ix2 y⟩
    show _ = outAt x0 x1 x2 x3 x4 x5 x6 (r0_10.emb (ix2 R n) 0) (r0_10.emb (ix2 R n) 1)
    rw [place _ 6144 _ rfl R n (by omega)]
    show _ = outAt x0 x1 x2 x3 x4 x5 x6 R ⟨6144 + n.val, by omega⟩
    unfold outAt
    rw [if_neg (by show ¬ (6144 + n.val < 3072); omega), if_neg (by show ¬ (6144 + n.val < 6144); omega)]
    exact pay12_at x0 x1 x2 x3 x4 R n
  · obtain ⟨R, n, rfl⟩ : ∃ (a : Fin 512) (n : Fin 3072), y = ix2 a n := ⟨_, _, eq_ix2 y⟩
    show _ = outAt x0 x1 x2 x3 x4 x5 x6 (r0_9.emb (ix2 R n) 0) (r0_9.emb (ix2 R n) 1)
    rw [place _ 3072 _ rfl R n (by omega)]
    show _ = outAt x0 x1 x2 x3 x4 x5 x6 R ⟨3072 + n.val, by omega⟩
    unfold outAt
    rw [if_neg (by show ¬ (3072 + n.val < 3072); omega), if_pos (by show 3072 + n.val < 6144; omega)]
    refine (ref_k _ _ R n).trans ?_
    refine head_congr _ _ _ _ _ _ (pay11_at x0 x1 x2 x3 x4 R n) (fun k => (pay11_at x0 x1 x2 x3 x4 R _).trans (cut _ R _ _ ?_)) ?_
    · show 3072 + (n.val / 128 * 128 + k.val) = (3072 + n.val) / 128 * 128 + k.val
      omega
    · exact congrArg x6 (congrArg ix1 (Fin.ext (by show n.val % 128 = (3072 + n.val) % 128; omega)))
  · obtain ⟨R, n, rfl⟩ : ∃ (a : Fin 512) (n : Fin 3072), y = ix2 a n := ⟨_, _, eq_ix2 y⟩
    show _ = outAt x0 x1 x2 x3 x4 x5 x6 (r0_8.emb (ix2 R n) 0) (r0_8.emb (ix2 R n) 1)
    rw [place _ 0 _ rfl R n (by omega)]
    show _ = outAt x0 x1 x2 x3 x4 x5 x6 R ⟨0 + n.val, by omega⟩
    unfold outAt
    rw [if_pos (by show 0 + n.val < 3072; omega)]
    refine (ref_q _ _ _ _ _ _ _ _ R n).trans ?_
    refine head_congr _ _ _ _ _ _ (cut _ R _ _ (by show n.val = 0 + n.val; omega)) (fun k => (cut _ R _ _ ?_)) ?_
    · show n.val / 128 * 128 + k.val = (0 + n.val) / 128 * 128 + k.val
      omega
    · exact congrArg x5 (congrArg ix1 (Fin.ext (by show n.val % 128 = (0 + n.val) % 128; omega)))
end Points

end Cert.QkvIRefIdeal.Hand

end
-- ==== Proof.QkvIValue.lean ====
/- The value of the image stream's projection kernel over the extended reals: its three results are the reference's. -/
module

public import proofs.«01_k».proof.Defs
public import proofs.«01_k».proof.Proof.QkvIFrame
public import proofs.«01_k».proof.Proof.QkvIPay
public import proofs.«01_k».proof.Proof.QkvIRefValue
public import proofs.«01_k».proof.Proof.QkvTValue
public import Idealize.ShloMosaic.Lib.Pipeline.ArrRel
public import Idealize.ShloMosaic.Lib.Pipeline.ValueKit.Geometry
public import Idealize.ShloMosaic.Lib.Pipeline.ValueKit.Basic
public import Idealize.ShloMosaic.Lib.Pointwise
public import Idealize.ShloMosaic.Lib.Claim

@[expose] public section

set_option maxRecDepth 16384

noncomputable section

namespace Cert.QkvIIdeal.Hand

open Cert.QkvIIdeal Cert.QkvIIdeal.Gen Cert.QkvIPay Cert.Loops
open Cert.QkvTPay (headVal head_congr sel_eq)
open Cert.QkvTIdeal.Hand (tileG tileG_at four)
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S2x256x3072 .bf16 := m ((c.tc : Thread nD τ).loc main_arg0)
abbrev x1 : Vec F S2x18432 .f32 := m ((c.tc : Thread nD τ).loc main_arg1)
abbrev x2 : Vec F S3072x9216 .i8 := m ((c.tc : Thread nD τ).loc main_arg2)
abbrev x3 : Vec F S9216 .f32 := m ((c.tc : Thread nD τ).loc main_arg3)
abbrev x4 : Vec F S9216 .f32 := m ((c.tc : Thread nD τ).loc main_arg4)
abbrev x5 : Vec F S128 .f32 := m ((c.tc : Thread nD τ).loc main_arg5)
abbrev x6 : Vec F S128 .f32 := m ((c.tc : Thread nD τ).loc main_arg6)

/-! Where each block lies. -/

theorem wx0 : ∀ t : Fin cfg0.N, win0_0.index t = ![0, 0] := by decide +kernel
theorem wx1 : ∀ t : Fin cfg0.N, win0_1.index t = ![0, 0] := by decide +kernel
theorem wx2 : ∀ t : Fin cfg0.N, win0_2.index t = ![0, 1] := by decide +kernel
theorem wx3 : ∀ t : Fin cfg0.N, win0_3.index t = ![0, t.val % 18] := by decide +kernel
theorem wx4 : ∀ t : Fin cfg0.N, win0_4.index t = ![0, t.val % 18] := by decide +kernel
theorem wx5 : ∀ t : Fin cfg0.N, win0_5.index t = ![0, t.val % 18] := by decide +kernel
theorem wx6 : ∀ t : Fin cfg0.N, win0_6.index t = ![0, 0] := by decide +kernel
theorem wx7 : ∀ t : Fin cfg0.N, win0_7.index t = ![0, 0] := by decide +kernel
theorem wx8 : ∀ t : Fin cfg0.N, win0_8.index t = ![0, 0] := by decide +kernel
theorem wx9 : ∀ t : Fin cfg0.N, win0_9.index t = ![0, 0] := by decide +kernel
theorem wx10 : ∀ t : Fin cfg0.N, win0_10.index t = ![0, t.val % 18] := by decide +kernel

/-- Token `p` of the batch element `r`, and column `j` of the tile at `t`. -/
def row (r : Fin 2) (p : Fin 256) : Fin 512 := ⟨r.val * 256 + p.val, by omega⟩
def col (t : Fin cfg0.N) (j : Fin 512) : Fin 9216 := ⟨t.val % 18 * 512 + j.val, by omega⟩
/-- A row's batch element and token. -/
abbrev el (a : Fin 512) : Fin 2 := ⟨a.val / 256, by omega⟩
abbrev tok (a : Fin 512) : Fin 256 := ⟨a.val % 256, by omega⟩
theorem el_row (r : Fin 2) (p : Fin 256) : el (row r p) = r := Fin.ext (by show (r.val * 256 + p.val) / 256 = r.val; omega)
theorem tok_row (r : Fin 2) (p : Fin 256) : tok (row r p) = p := Fin.ext (by show (r.val * 256 + p.val) % 256 = p.val; omega)
/-- A row's chunk lies in its batch element. -/
theorem sof_kof (a : Fin 512) : sof (kof a) = el a := by
  revert a
  decide +kernel

theorem V0 : (V m c main_v0 : Vec F S512x3072 .bf16) = shapeCast S512x3072 (x0 m c) shapeCasts_S2x256x3072_S512x3072 := by
  entry_read; rfl
theorem V1 : (V m c main_v1 : Vec F S1x9216 .f32) = shapeCast S1x9216 (x3 m c) shapeCasts_S9216_S1x9216 := by
  entry_read; rfl
theorem V2 : (V m c main_v2 : Vec F S1x9216 .f32) = shapeCast S1x9216 (x4 m c) shapeCasts_S9216_S1x9216 := by
  entry_read; rfl
theorem V3 : (V m c main_v3 : Vec F S1x128 .f32) = shapeCast S1x128 (x5 m c) shapeCasts_S128_S1x128 := by
  entry_read; rfl
theorem V4 : (V m c main_v4 : Vec F S1x128 .f32) = shapeCast S1x128 (x6 m c) shapeCasts_S128_S1x128 := by
  entry_read; rfl

theorem blk0 (t : Fin cfg0.N) (p : Fin 512) (k : Fin 3072) :
    (iblk m c 0 t : Vec F S512x3072 .bf16) (ix2 p k) = x0 m c (ix3 (el p) (tok p) k) := by
  have e : (iblk m c 0 t : Vec F S512x3072 .bf16) (ix2 p k) = (V m c main_v0 : Vec F S512x3072 .bf16) (ix2 p k) := by
    blk_simp [iblk]
    exact congrArg (V m c main_v0) (by blk_ext [wx0])
  have e' : shapeCast S512x3072 (x0 m c) shapeCasts_S2x256x3072_S512x3072 (ix2 p k) = x0 m c (ix3 (el p) (tok p) k) := by
    pointwise
  rw [e, V0, e']
theorem blk1 (t : Fin cfg0.N) (r : Fin 2) (k : Fin 3072) :
    (iblk m c 1 t : Vec F S2x3072 .f32) (ix2 r k) = x1 m c (ix2 r ⟨0 + k.val, by omega⟩) := by
  blk_simp [iblk]; rw [V_main_arg1]; exact congrArg (x1 m c) (by blk_ext [wx1])
theorem blk2 (t : Fin cfg0.N) (r : Fin 2) (k : Fin 3072) :
    (iblk m c 2 t : Vec F S2x3072 .f32) (ix2 r k) = x1 m c (ix2 r ⟨3072 + k.val, by omega⟩) := by
  blk_simp [iblk]; rw [V_main_arg1]; exact congrArg (x1 m c) (by blk_ext [wx2])
theorem blk3 (t : Fin cfg0.N) (k : Fin 3072) (j : Fin 512) :
    (iblk m c 3 t : Vec F S3072x512 .i8) (ix2 k j) = x2 m c (ix2 k (col t j)) := by
  blk_simp [iblk]; rw [V_main_arg2]; exact congrArg (x2 m c) (by blk_ext [wx3]; rfl)
theorem blk4 (t : Fin cfg0.N) (j : Fin 512) : (iblk m c 4 t : Vec F S1x512 .f32) (ix2 0 j) = x3 m c (ix1 (col t j)) := by
  have e : (iblk m c 4 t : Vec F S1x512 .f32) (ix2 0 j) = (V m c main_v1 : Vec F S1x9216 .f32) (ix2 0 (col t j)) := by
    blk_simp [iblk]; exact congrArg (V m c main_v1) (by blk_ext [wx4]; rfl)
  rw [e, V1]; pointwise
theorem blk5 (t : Fin cfg0.N) (j : Fin 512) : (iblk m c 5 t : Vec F S1x512 .f32) (ix2 0 j) = x4 m c (ix1 (col t j)) := by
  have e : (iblk m c 5 t : Vec F S1x512 .f32) (ix2 0 j) = (V m c main_v2 : Vec F S1x9216 .f32) (ix2 0 (col t j)) := by
    blk_simp [iblk]; exact congrArg (V m c main_v2) (by blk_ext [wx5]; rfl)
  rw [e, V2]; pointwise
theorem blk6 (t : Fin cfg0.N) (d : Fin 128) : (iblk m c 6 t : Vec F S1x128 .f32) (ix2 0 d) = x5 m c (ix1 d) := by
  have e : (iblk m c 6 t : Vec F S1x128 .f32) (ix2 0 d) = (V m c main_v3 : Vec F S1x128 .f32) (ix2 0 d) := by
    blk_simp [iblk]; exact congrArg (V m c main_v3) (by blk_ext [wx6])
  rw [e, V3]; pointwise
theorem blk7 (t : Fin cfg0.N) (d : Fin 128) : (iblk m c 7 t : Vec F S1x128 .f32) (ix2 0 d) = x6 m c (ix1 d) := by
  have e : (iblk m c 7 t : Vec F S1x128 .f32) (ix2 0 d) = (V m c main_v4 : Vec F S1x128 .f32) (ix2 0 d) := by
    blk_simp [iblk]; exact congrArg (V m c main_v4) (by blk_ext [wx7])
  rw [e, V4]; pointwise

theorem chunk_at (x : Vec F S512x3072 .bf16) (a : Fin 512) (b : Fin 3072) : xchunk x (kof a) (ix2 (pof a) b) = x (ix2 a b) := by
  show x (ix2 ⟨32 * (a.val / 32) + a.val % 32, _⟩ b) = x (ix2 a b)
  exact congrArg (fun z => x (ix2 z b)) (Fin.ext (by show 32 * (a.val / 32) + a.val % 32 = a.val; omega))
theorem mrow_at (X : Vec F S2x3072 .f32) (r : Fin 2) (b : Fin 3072) : mrow X r (ix2 0 b) = X (ix2 r b) :=
  congrArg (fun z => X (ix2 z b)) (Fin.ext (by show r.val + 0 = r.val; omega))
theorem scol_at (X : Vec F S512x128 .f32) (p : Fin 512) : scol X (ix2 p 0) = X (ix2 p 0) := by
  unfold scol View.ld
  congr 1
  funext a
  apply Fin.ext
  fin_cases a
  · show 0 + 1 * p.val = p.val
    omega
  · rfl
end Any

/-! A tile at a point. -/

section Tile
variable (i : grid0.Coords) (cs : Vec Ideal S512x3072 .i8) (w : Vec Ideal S3072x512 .i8) (sr : Vec Ideal S512x128 .f32) (ws b : Vec Ideal S1x512 .f32) (qg kg : Vec Ideal S1x128 .f32)

theorem outG_at (p j : Fin 512) : outG i cs w sr ws b qg kg (ix2 p j) = tileG (k0_pay7 cs w (scol sr) ws b) (k0_pay20 (BitVec.ofNat 32 (i 1).val) qg kg) p j :=
  four (tileG (k0_pay7 cs w (scol sr) ws b) (k0_pay20 (BitVec.ofNat 32 (i 1).val) qg kg)) _ _ _ _
    (fun p d => (head3 p d cs w (scol sr) ws b _).trans (tileG_at _ _ p d 3 384 rfl (fun k => by omega)))
    (fun p d => (head2 _ p d _).trans (tileG_at _ _ p d 2 256 rfl (fun k => by omega)))
    (fun p d => (head1 _ _ qg kg p d).trans (tileG_at _ _ p d 1 128 rfl (fun k => by omega)))
    (fun p d => (head0 _ _ qg kg p d).trans (tileG_at _ _ p d 0 0 rfl (fun k => by omega)))
    p j

theorem outP_at (p j : Fin 512) : outP cs w sr ws b (ix2 p j) = k0_pay7 cs w (scol sr) ws b (ix2 p j) :=
  four (fun p j => k0_pay7 cs w (scol sr) ws b (ix2 p j)) _ _ _ _
    (fun p d => plain3 p d cs w (scol sr) ws b)
    (fun p d => plain2 p d cs w (scol sr) ws b)
    (fun p d => plain1 p d cs w (scol sr) ws b)
    (fun p d => plain0 p d cs w (scol sr) ws b)
    p j
end Tile

variable (m : (ℓ : Loc nD τ sig) → Buf (Elt Ideal) ℓ) (ρ : Dev nD → PrngReg) (c : Dev nD)

/-! The three results as the reference states them. -/

def val8 : Vec Ideal S512x3072 .i8 := Cert.QkvIRefIdeal.Gen.out0_7 (F := Ideal) (x0 m c) (x1 m c) (x2 m c) (x3 m c) (x4 m c) (x5 m c) (x6 m c)
def val9 : Vec Ideal S2x256 .f32 := Cert.QkvIRefIdeal.Gen.out0_8 (F := Ideal) (x0 m c) (x1 m c) (x2 m c) (x3 m c) (x4 m c) (x5 m c) (x6 m c)
def val10 : Vec Ideal S512x9216 .bf16 := Cert.QkvIRefIdeal.Gen.out0_9 (F := Ideal) (x0 m c) (x1 m c) (x2 m c) (x3 m c) (x4 m c) (x5 m c) (x6 m c)

/-! What the kernel keeps of the rows. -/

theorem hv (a : Fin 512) (b : Fin 3072) : xchunk (iblk m c 0 pt) (kof a) (ix2 (pof a) b) = x0 m c (ix3 (el a) (tok a) b) :=
  (chunk_at _ a b).trans (blk0 m c pt a b)
theorem hs (a : Fin 512) (b : Fin 3072) : mrow (iblk m c 1 pt) (sof (kof a)) (ix2 0 b) = Cert.QkvIRefIdeal.Hand.sh (x1 m c) (ix2 (el a) b) := by
  rw [sof_kof]
  exact (mrow_at _ _ b).trans ((blk1 m c _ _ b).trans (Cert.QkvIRefIdeal.Hand.sh_at (x1 m c) _ b).symm)
theorem hg (a : Fin 512) (b : Fin 3072) : mrow (iblk m c 2 pt) (sof (kof a)) (ix2 0 b) = Cert.QkvIRefIdeal.Hand.sc (x1 m c) (ix2 (el a) b) := by
  rw [sof_kof]
  exact (mrow_at _ _ b).trans ((blk2 m c _ _ b).trans (Cert.QkvIRefIdeal.Hand.sc_at (x1 m c) _ b).symm)

theorem codesR_at (a : Fin 512) (b : Fin 3072) : codesR m c (ix2 a b)
    = Cert.QkvIRefIdeal.Gen.k0_pay8 (Cert.QkvIRefIdeal.Hand.rnd (x0 m c) (x1 m c)) 127#32 Cert.QkvIRefIdeal.Gen.k0_pay7 (ix3 (el a) (tok a) b) :=
  code_eq _ _ (x0 m c) _ _ _ (pof a) (el a) (tok a) (hv m c a) (hs m c a) (hg m c a) b
theorem srowR_at (a : Fin 512) (b : Fin 128) : srowR m c (ix2 a b) = Cert.QkvIRefIdeal.Hand.scl (x0 m c) (x1 m c) (ix2 (el a) (tok a)) :=
  (spread_k _ (pof a) b).trans (scale_eq _ _ (x0 m c) _ _ _ (pof a) (el a) (tok a) (hv m c a) (hs m c a) (hg m c a) 0)
theorem half_at (r : Fin 2) (p : Fin 256) : half (srowR m c) r (ix2 p 0) = srowR m c (ix2 (row r p) 0) :=
  congrArg (fun z => srowR m c (ix2 z 0)) (Fin.ext (by show 256 * r.val + p.val = r.val * 256 + p.val; omega))
theorem rowsR_at (r : Fin 2) (p : Fin 256) : rowsR m c (ix2 r p) = Cert.QkvIRefIdeal.Hand.scl (x0 m c) (x1 m c) (ix2 r p) := by
  refine (flip_k _ p).trans ((half_at m c r p).trans ((srowR_at m c (row r p) 0).trans ?_))
  rw [el_row, tok_row]

theorem acc_eq (t : Fin cfg0.N) (p j : Fin 512) :
    k0_pay7 (codesR m c) (iblk m c 3 t) (scol (srowR m c)) (iblk m c 4 t) (iblk m c 5 t) (ix2 p j)
      = Cert.QkvIRefIdeal.Hand.acc (x0 m c) (x1 m c) (x2 m c) (x3 m c) (x4 m c) (ix2 p (col t j)) := by
  refine (acc_at p (codesR m c) (iblk m c 3 t) (scol (srowR m c)) (iblk m c 4 t) (iblk m c 5 t) j).trans ?_
  unfold Cert.QkvIRefIdeal.Hand.acc
  rw [ref_acc]
  have e : scol (srowR m c) (ix2 p 0) = Cert.QkvIRefIdeal.Hand.scl (x0 m c) (x1 m c) (ix2 (el p) (tok p)) := (scol_at _ p).trans (srowR_at m c p 0)
  rw [e]
  simp only [codesR_at, blk3, blk4, blk5]

theorem outT_at (t : Fin cfg0.N) (p j : Fin 512) : outT m c t (ix2 p j)
    = Cert.QkvIRefIdeal.Hand.outAt (x0 m c) (x1 m c) (x2 m c) (x3 m c) (x4 m c) (x5 m c) (x6 m c) p (col t j) := by
  have hN : (col t j).val = t.val % 18 * 512 + j.val := rfl
  unfold outT Cert.QkvIRefIdeal.Hand.outAt
  by_cases h : t.val % 18 < 12
  · rw [if_pos h]
    refine (outG_at _ _ _ _ _ _ _ _ p j).trans ?_
    unfold tileG
    have hw : Scalar.cmpi .slt (BitVec.ofNat 32 (grid0.coords t 1).val) 6#32 = if t.val % 18 < 6 then 1#1 else 0#1 := by
      rw [c1]
      exact sel_eq ⟨t.val % 18, by omega⟩
    have hk : ∀ k : Fin 128, col t ⟨j.val / 128 * 128 + k.val, by omega⟩ = ⟨(col t j).val / 128 * 128 + k.val, by omega⟩ := fun k =>
      Fin.ext (by show t.val % 18 * 512 + (j.val / 128 * 128 + k.val) = (t.val % 18 * 512 + j.val) / 128 * 128 + k.val; omega)
    have hd : (⟨(col t j).val % 128, by omega⟩ : Fin 128) = ⟨j.val % 128, by omega⟩ :=
      Fin.ext (by show (t.val % 18 * 512 + j.val) % 128 = j.val % 128; omega)
    by_cases h6 : t.val % 18 < 6
    · rw [if_pos (show (col t j).val < 3072 by omega)]
      rw [if_pos h6] at hw
      refine head_congr _ _ _ _ _ _ (acc_eq m c t p j) (fun k => (acc_eq m c t p _).trans ?_) ((gain_q _ _ _ _ hw).trans ((blk6 m c t _).trans ?_))
      · rw [hk]
      · rw [hd]
    · rw [if_neg (show ¬ (col t j).val < 3072 by omega), if_pos (show (col t j).val < 6144 by omega)]
      rw [if_neg h6] at hw
      refine head_congr _ _ _ _ _ _ (acc_eq m c t p j) (fun k => (acc_eq m c t p _).trans ?_) ((gain_k _ _ _ _ hw).trans ((blk7 m c t _).trans ?_))
      · rw [hk]
      · rw [hd]
  · rw [if_neg h, if_neg (show ¬ (col t j).val < 3072 by omega), if_neg (show ¬ (col t j).val < 6144 by omega)]
    exact (outP_at _ _ _ _ _ p j).trans (acc_eq m c t p j)

/-- Every array after the run. -/
theorem finals {r} (h : RDat.FramePost (cfgs 0) (rdat m) (V m) r) :
    r.2.mem ((c.tc : Thread nD τ).loc main_v5_0) = val8 m c
      ∧ r.2.mem ((c.tc : Thread nD τ).loc main_v5_1) = val9 m c
      ∧ r.2.mem ((c.tc : Thread nD τ).loc main_v5_2) = val10 m c := by
  obtain ⟨after, hL, hA⟩ := RDat.FramePost.exists_exact h c
  refine ⟨(hA 8).trans ?_, (hA 9).trans ?_, (hA 10).trans ?_⟩
  · refine ((rdat m c).withAfter after).arrAt_eq_of_covers 8 (val8 m c) (by decide +kernel) fun t hf y => ?_
    obtain ⟨_, _, e⟩ := hL 8 t hf
    rw [RDat.withAfter_after, show after 8 t = codesR m c from e]
    blk_simp
    obtain ⟨a, n, rfl⟩ : ∃ (a : Fin 512) (n : Fin 3072), y = ix2 a n := ⟨_, _, eq_ix2 y⟩
    have e8 : val8 m c (ix2 a n) = _ := Cert.QkvIRefIdeal.Hand.out7_at (x0 m c) (x1 m c) (x2 m c) (x3 m c) (x4 m c) (x5 m c) (x6 m c) a n
    refine ((codesR_at m c a n).trans e8.symm).trans (congrArg (val8 m c) ?_)
    blk_ext [wx8]
  · refine ((rdat m c).withAfter after).arrAt_eq_of_covers 9 (val9 m c) (by decide +kernel) fun t hf y => ?_
    obtain ⟨_, _, e⟩ := hL 9 t hf
    rw [RDat.withAfter_after, show after 9 t = rowsR m c from e]
    blk_simp
    obtain ⟨a, n, rfl⟩ : ∃ (a : Fin 2) (n : Fin 256), y = ix2 a n := ⟨_, _, eq_ix2 y⟩
    refine ((rowsR_at m c a n).trans (congrFun (Cert.QkvIRefIdeal.Hand.out8_eq (x0 m c) (x1 m c) (x2 m c) (x3 m c) (x4 m c) (x5 m c) (x6 m c)) _).symm).trans (congrArg (val9 m c) ?_)
    blk_ext [wx9]
  · refine ((rdat m c).withAfter after).arrAt_eq_of_covers 10 (val10 m c) (by decide +kernel) fun t hf y => ?_
    obtain ⟨_, _, e⟩ := hL 10 t hf
    rw [RDat.withAfter_after, show after 10 t = outT m c t from e]
    blk_simp
    obtain ⟨a, n, rfl⟩ : ∃ (a : Fin 512) (n : Fin 512), y = ix2 a n := ⟨_, _, eq_ix2 y⟩
    refine ((outT_at m c t a n).trans (Cert.QkvIRefIdeal.Hand.out9_at (x0 m c) (x1 m c) (x2 m c) (x3 m c) (x4 m c) (x5 m c) (x6 m c) a (col t n)).symm).trans (congrArg (val10 m c) ?_)
    blk_ext [wx10]
    rfl

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v5_0) = val8 m c
      ∧ r.2.mem ((c.tc : Thread nD τ).loc main_v5_1) = val9 m c
      ∧ r.2.mem ((c.tc : Thread nD τ).loc main_v5_2) = val10 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨(finals m c h.1).1, (finals m c h.1).2.1, (finals m c h.1).2.2, args_of m h.1 c⟩) (run_main_quiescent m ρ)

end Cert.QkvIIdeal.Hand

namespace Cert.QkvIPay
open Idealize.ShloMosaic Idealize.ShloMosaic.TcCoe Idealize.SL.Sem

/-- The kernel and the reference end with the same three results. -/
theorem algebraic [hK : Cert.QkvIIdeal.Facts] [hR : Cert.QkvIRefIdeal.Facts] : Cert.algebraic_QkvIIdeal_QkvIRefIdeal := by
  intro m g m' g' _ hag
  refine ⟨fun c => Cert.QkvIIdeal.Hand.val8 m c, fun c => Cert.QkvIIdeal.Hand.val9 m c, fun c => Cert.QkvIIdeal.Hand.val10 m c, ?_, ?_⟩
  · exact Cert.QkvIIdeal.Hand.run m g
  · refine (θ_run _ _ _).mono (fun r h c => ?_) (Cert.QkvIRefIdeal.Hand.run m' g')
    obtain ⟨h0, h1, h2, h3, h4, h5, h6⟩ := hag c
    have g0 : Cert.QkvIRefIdeal.Hand.a0 m' c = Cert.QkvIIdeal.Hand.x0 m c := h0
    have g1 : Cert.QkvIRefIdeal.Hand.a1 m' c = Cert.QkvIIdeal.Hand.x1 m c := h1
    have g2 : Cert.QkvIRefIdeal.Hand.a2 m' c = Cert.QkvIIdeal.Hand.x2 m c := h2
    have g3 : Cert.QkvIRefIdeal.Hand.a3 m' c = Cert.QkvIIdeal.Hand.x3 m c := h3
    have g4 : Cert.QkvIRefIdeal.Hand.a4 m' c = Cert.QkvIIdeal.Hand.x4 m c := h4
    have g5 : Cert.QkvIRefIdeal.Hand.a5 m' c = Cert.QkvIIdeal.Hand.x5 m c := h5
    have g6 : Cert.QkvIRefIdeal.Hand.a6 m' c = Cert.QkvIIdeal.Hand.x6 m c := h6
    refine ⟨(h c).1.trans ?_, (h c).2.1.trans ?_, (h c).2.2.1.trans ?_, (h c).2.2.2⟩
    · show Cert.QkvIRefIdeal.Gen.out0_7 _ _ _ _ _ _ _ = Cert.QkvIRefIdeal.Gen.out0_7 _ _ _ _ _ _ _
      rw [g0, g1, g2, g3, g4, g5, g6]
    · show Cert.QkvIRefIdeal.Gen.out0_8 _ _ _ _ _ _ _ = Cert.QkvIRefIdeal.Gen.out0_8 _ _ _ _ _ _ _
      rw [g0, g1, g2, g3, g4, g5, g6]
    · show Cert.QkvIRefIdeal.Gen.out0_9 _ _ _ _ _ _ _ = Cert.QkvIRefIdeal.Gen.out0_9 _ _ _ _ _ _ _
      rw [g0, g1, g2, g3, g4, g5, g6]

end Cert.QkvIPay

end
-- ==== Proof.ProjTLoop.lean ====
/- The quantising loop of the text stream's attention projection call, at any float type: what its trips store, as closed forms of
   the rows of the codes and of their scales. -/
module

public import proofs.«01_k».proof.Proof.Gen.ProjTIdeal.Frame
public import proofs.«01_k».proof.Proof.Gen.ProjTIdeal.Loops
public import proofs.«01_k».proof.Proof.Gen.ProjTIdeal.Skeleton
public import proofs.«01_k».proof.Proof.Loops
public import Idealize.ShloMosaic.Lib.Pointwise
public import Idealize.ShloMosaic.Lib.Pipeline.ArrRel
public import Idealize.ShloMosaic.Lib.Claim

@[expose] public section

set_option maxRecDepth 16384

noncomputable section

namespace Cert.ProjTIdeal.Hand

open Cert.ProjTIdeal Cert.ProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

/-- A zero start in two coordinates. -/
theorem hz2 : (![0, 0] : Fin 2 → Nat) = fun _ => 0 := funext fun a => by fin_cases a <;> rfl

/-- A load of a whole two-dimensional buffer reads its contents. -/
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X

/-- Chunk `k` of the rows. -/
abbrev xchunk (x : Vec F S512x3072 .f32) (k : Fin 16) : Vec F S32x3072 .f32 :=
  chunk (R := 512) (C := 3072) (c := 32) x (32 * k.val) (by omega)

/-- The chunk that holds a row. -/
abbrev kof (a : Fin 512) : Fin 16 := ⟨a.val / 32, by omega⟩
/-- Its place in that chunk. -/
abbrev pof (a : Fin 512) : Fin 32 := ⟨a.val % 32, by omega⟩

/-- The codes of all the rows: each chunk normalised, modulated and quantised on its own. -/
def codesS (x : Vec F S512x3072 .f32) (sh sc : Vec F S1x3072 .f32) : Vec F S512x3072 .i8 :=
  fun y => k0_pay6 sh (k0_pay1 sc) (xchunk x (kof (y 0))) (ix2 (pof (y 0)) (y 1))

/-- The scales of all the rows, each across its row. -/
def srowS (x : Vec F S512x3072 .f32) (sh sc : Vec F S1x3072 .f32) : Vec F S512x128 .f32 :=
  fun y => k0_pay2 (k0_pay5 sh (k0_pay1 sc) (xchunk x (kof (y 0)))) (ix2 (pof (y 0)) (y 1))

theorem codesS_at (x : Vec F S512x3072 .f32) (sh sc : Vec F S1x3072 .f32) (k : Fin 16) (p : Fin 32) (h : 32 * k.val + p.val < 512) (b : Fin 3072) :
    codesS x sh sc (ix2 ⟨32 * k.val + p.val, h⟩ b) = k0_pay6 sh (k0_pay1 sc) (xchunk x k) (ix2 p b) := by
  have e1 : kof ⟨32 * k.val + p.val, h⟩ = k := Fin.ext (by show (32 * k.val + p.val) / 32 = k.val; omega)
  have e2 : pof ⟨32 * k.val + p.val, h⟩ = p := Fin.ext (by show (32 * k.val + p.val) % 32 = p.val; omega)
  show k0_pay6 sh (k0_pay1 sc) (xchunk x (kof ⟨32 * k.val + p.val, h⟩)) (ix2 (pof ⟨32 * k.val + p.val, h⟩) b) = _
  rw [e1, e2]

theorem srowS_at (x : Vec F S512x3072 .f32) (sh sc : Vec F S1x3072 .f32) (k : Fin 16) (p : Fin 32) (h : 32 * k.val + p.val < 512) (b : Fin 128) :
    srowS x sh sc (ix2 ⟨32 * k.val + p.val, h⟩ b) = k0_pay2 (k0_pay5 sh (k0_pay1 sc) (xchunk x k)) (ix2 p b) := by
  have e1 : kof ⟨32 * k.val + p.val, h⟩ = k := Fin.ext (by show (32 * k.val + p.val) / 32 = k.val; omega)
  have e2 : pof ⟨32 * k.val + p.val, h⟩ = p := Fin.ext (by show (32 * k.val + p.val) % 32 = p.val; omega)
  show k0_pay2 (k0_pay5 sh (k0_pay1 sc) (xchunk x (kof ⟨32 * k.val + p.val, h⟩))) (ix2 (pof ⟨32 * k.val + p.val, h⟩) b) = _
  rw [e1, e2]

/-- A tile of 512 columns replaced. -/
def setCols {α : Type*} (j : ℕ) (v : S512x512.Idx → α) (Y : S512x3072.Idx → α) : S512x3072.Idx → α :=
  fun y => if (y 1).val / 512 = j then v (ix2 (y 0) ⟨(y 1).val % 512, Nat.mod_lt _ (by omega)⟩) else Y y

/-- A buffer after a store of one of its tiles. -/
theorem read_setCols {Val : EltTy → Type} {sig : RefSig} {κ : Kind} {sp : Space} {e : EltTy} (v : View sig κ sp S512x3072 e)
    (f : v.ty.Contents Val) (off : Fin 2 → ℕ) (j : ℕ) (inb : ∀ a, off a + S512x512.size a ≤ S512x3072.size a) (ho : off = ![0, 512 * j])
    (w : S512x512.Idx → Val e) (L : List (View.Piece Val S512x3072 e)) :
    v.read Val (v.writes Val f (⟨Rect.unit (s := S512x3072) off S512x512.size inb, w⟩ :: L)) = setCols j w (v.read Val (v.writes Val f L)) := by
  subst ho
  funext y
  unfold setCols
  by_cases h : (y 1).val / 512 = j
  · rw [if_pos h]
    refine View.read_writes_cons_hit_of_coords v f (Rect.unit (s := S512x3072) ![0, 512 * j] S512x512.size inb) w L
      (show S512x512.Idx from ix2 (y 0) ⟨(y 1).val % 512, Nat.mod_lt _ (by omega)⟩) y fun a => ?_
    fin_cases a
    · show (y 0).val = 0 + 1 * (y 0).val
      omega
    · show (y 1).val = 512 * j + 1 * ((y 1).val % 512)
      omega
  · rw [if_neg h]
    exact View.read_writes_cons_miss v f _ L y (Rect.not_mem_set_of_axis _ y (1 : Fin 2) (512 * j) 512 rfl rfl rfl (by omega))

section
variable (c : Dev nD) (i : grid0.Coords) (arg2 : Memref sig .tc .vmem S512x3072 .i8) (harg2 : arg2.IsWhole) (arg3 : Memref sig .tc .vmem S2x512 .f32) (harg3 : arg3.IsWhole) (arg4 : Memref sig .tc .vmem S512x512 .bf16) (harg4 : arg4.IsWhole) (arg5 : Memref sig .tc .vmem S2x512 .f32) (harg5 : arg5.IsWhole) (arg6 : Memref sig .tc .vmem S2x3072 .f32) (harg6 : arg6.IsWhole) (arg7 : Memref sig .tc .vmem S2x3072 .f32) (harg7 : arg7.IsWhole) (arg8 : Memref sig .tc .vmem S3072x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S512x3072 .f32) (harg11 : arg11.IsWhole) (arg12 : Memref sig .tc .vmem S512x3072 .i8) (harg12 : arg12.IsWhole) (arg13 : Memref sig .tc .vmem S2x512 .f32) (harg13 : arg13.IsWhole) (arg14 : Memref sig .tc .vmem S512x128 .f32) (harg14 : arg14.IsWhole) (k0_h2 : k0_cond2 i = 1#1) (v38 : Vec F S1x3072 .f32) (v40 : Vec F S1x3072 .f32) (X_arg11 : BufTy.Contents (Elt F) arg11.view.ty)

/-- The stores after the first trips of a loop. -/
local notation "𝕡₁" => pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14

/-- Trip `k`'s store of codes. -/
abbrev pieceC (k : Fin k0_t1_loop.trips) : View.Piece (Elt F) S512x3072 .i8 :=
  ⟨Rect.unit (s := S512x3072) (k0_off5 k) S32x3072.size (k0_off5_inb i k k0_h2), k0_pay6 v38 (k0_pay1 v40) (arg11.view.readAt (Elt F) (Rect.unit (s := S512x3072) (k0_off5 k) S32x3072.size (k0_off5_inb i k k0_h2)).toLoadRect X_arg11)⟩
/-- Trip `k`'s store of scales. -/
abbrev pieceS (k : Fin k0_t1_loop.trips) : View.Piece (Elt F) S512x128 .f32 :=
  ⟨Rect.unit (s := S512x128) (k0_off6 k) S32x128.size (k0_off6_inb i k k0_h2), k0_pay2 (k0_pay5 v38 (k0_pay1 v40) (arg11.view.readAt (Elt F) (Rect.unit (s := S512x3072) (k0_off5 k) S32x3072.size (k0_off5_inb i k k0_h2)).toLoadRect X_arg11))⟩

theorem tripL_eq (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 k0_h2 v38 v40 X_arg11 k
      = ([pieceC i arg11 k0_h2 v38 v40 X_arg11 k], [pieceS i arg11 k0_h2 v38 v40 X_arg11 k]) := by
  unfold tripL_k0_t1 trip_k0_t1
  rfl

theorem trips_eq : k0_t1_loop.trips = 16 := by decide +kernel

theorem pb_collect :
    ((∀ p ∈ (𝕡₁ k0_h2 v38 v40 X_arg11 k0_t1_loop.trips).1, ∃ k, p = pieceC i arg11 k0_h2 v38 v40 X_arg11 k)
        ∧ ∀ k, pieceC i arg11 k0_h2 v38 v40 X_arg11 k ∈ (𝕡₁ k0_h2 v38 v40 X_arg11 k0_t1_loop.trips).1)
      ∧ ((∀ p ∈ (𝕡₁ k0_h2 v38 v40 X_arg11 k0_t1_loop.trips).2, ∃ k, p = pieceS i arg11 k0_h2 v38 v40 X_arg11 k)
        ∧ ∀ k, pieceS i arg11 k0_h2 v38 v40 X_arg11 k ∈ (𝕡₁ k0_h2 v38 v40 X_arg11 k0_t1_loop.trips).2) :=
  collect (fun j => 𝕡₁ k0_h2 v38 v40 X_arg11 j) k0_t1_loop.trips
    (pieceC i arg11 k0_h2 v38 v40 X_arg11) (pieceS i arg11 k0_h2 v38 v40 X_arg11) (by rfl)
    (fun k => by
      show 𝕡₁ k0_h2 v38 v40 X_arg11 (k.val + 1) = _
      rw [pb_k0_t1_succ, tripL_eq])

theorem off_chunk (k : Fin k0_t1_loop.trips) : 32 * k.val + 32 ≤ 512 := by
  have := lt_of_lt_of_eq k.isLt trips_eq
  omega

/-- The codes after the loop. -/
theorem read_codes (f : BufTy.Contents (Elt F) arg12.view.ty) (T : ℕ) (hT : T = k0_t1_loop.trips) :
    arg12.view.read (Elt F) (arg12.view.writes (Elt F) f (𝕡₁ k0_h2 v38 v40 X_arg11 T).1)
      = codesS (arg11.view.read (Elt F) X_arg11) v38 v40 := by
  subst hT
  obtain ⟨⟨hA, hB⟩, -⟩ := pb_collect c i arg2 harg2 arg3 harg3 arg4 harg4 arg5 harg5 arg6 harg6 arg7 harg7 arg8 harg8 arg9 harg9 arg10 harg10 arg11 harg11 arg12 harg12 arg13 harg13 arg14 harg14 k0_h2 v38 v40 X_arg11
  refine read_all _ _ _ _ (fun p hp => ?_) fun y => ?_
  · obtain ⟨k, rfl⟩ := hA p hp
    intro x
    have hk := off_chunk k
    show k0_pay6 v38 (k0_pay1 v40) (View.ld (arg11.view.read (Elt F) X_arg11) (Rect.unit (s := S512x3072) (k0_off5 k) S32x3072.size (k0_off5_inb i k k0_h2))) x = codesS (arg11.view.read (Elt F) X_arg11) v38 v40 ((Rect.unit (s := S512x3072) (k0_off5 k) S32x3072.size (k0_off5_inb i k k0_h2)).emb x)
    rw [ld_chunk (R := 512) (C := 3072) (c := 32) _ _ (32 * k.val) _ (k0_off5_eq k) hk, emb_chunk (R := 512) (C := 3072) (c := 32) _ (32 * k.val) _ (k0_off5_eq k) hk]
    have hk' := lt_of_lt_of_eq k.isLt trips_eq
    have hx : (x 0).val < 32 := (x 0).isLt
    refine Eq.trans ?_ (codesS_at _ v38 v40 ⟨k.val, hk'⟩ (x 0) (by show 32 * k.val + (x 0).val < 512; omega) (x 1)).symm
    rw [← eq_ix2 (n0 := 32) (n1 := 3072) x]
  · have hy : (y 0).val < 512 := (y 0).isLt
    exact ⟨_, hB ⟨(y 0).val / 32, by rw [trips_eq]; omega⟩, mem_chunk (R := 512) (C := 3072) (c := 32) _ (32 * ((y 0).val / 32)) (k0_off5_inb i _ k0_h2) (k0_off5_eq _) y (by omega) (by omega)⟩

/-- The scales after the loop. -/
theorem read_srow (f : BufTy.Contents (Elt F) arg14.view.ty) (T : ℕ) (hT : T = k0_t1_loop.trips) :
    arg14.view.read (Elt F) (arg14.view.writes (Elt F) f (𝕡₁ k0_h2 v38 v40 X_arg11 T).2)
      = srowS (arg11.view.read (Elt F) X_arg11) v38 v40 := by
  subst hT
  obtain ⟨-, ⟨hA, hB⟩⟩ := pb_collect c i arg2 harg2 arg3 harg3 arg4 harg4 arg5 harg5 arg6 harg6 arg7 harg7 arg8 harg8 arg9 harg9 arg10 harg10 arg11 harg11 arg12 harg12 arg13 harg13 arg14 harg14 k0_h2 v38 v40 X_arg11
  refine read_all _ _ _ _ (fun p hp => ?_) fun y => ?_
  · obtain ⟨k, rfl⟩ := hA p hp
    intro x
    have hk := off_chunk k
    show k0_pay2 (k0_pay5 v38 (k0_pay1 v40) (View.ld (arg11.view.read (Elt F) X_arg11) (Rect.unit (s := S512x3072) (k0_off5 k) S32x3072.size (k0_off5_inb i k k0_h2)))) x = srowS (arg11.view.read (Elt F) X_arg11) v38 v40 ((Rect.unit (s := S512x128) (k0_off6 k) S32x128.size (k0_off6_inb i k k0_h2)).emb x)
    rw [ld_chunk (R := 512) (C := 3072) (c := 32) _ _ (32 * k.val) _ (k0_off5_eq k) hk, emb_chunk (R := 512) (C := 128) (c := 32) _ (32 * k.val) _ (k0_off6_eq k) hk]
    have hk' := lt_of_lt_of_eq k.isLt trips_eq
    have hx : (x 0).val < 32 := (x 0).isLt
    refine Eq.trans ?_ (srowS_at _ v38 v40 ⟨k.val, hk'⟩ (x 0) (by show 32 * k.val + (x 0).val < 512; omega) (x 1)).symm
    rw [← eq_ix2 (n0 := 32) (n1 := 128) x]
  · have hy : (y 0).val < 512 := (y 0).isLt
    exact ⟨_, hB ⟨(y 0).val / 32, by rw [trips_eq]; omega⟩, mem_chunk (R := 512) (C := 128) (c := 32) _ (32 * ((y 0).val / 32)) (k0_off6_inb i _ k0_h2) (k0_off6_eq _) y (by omega) (by omega)⟩
end

end Cert.ProjTIdeal.Hand

end
-- ==== Proof.ProjTFrame.lean ====
/- The frame of the text stream's attention projection call, at any float type: each point stores one tile of the
   residual rows; the last tile of a batch element is followed by the loop that quantises all of its rows. The rows' scales
   are carried in a scratch buffer. -/
module

public import proofs.«01_k».proof.Proof.Gen.ProjTIdeal.Frame
public import proofs.«01_k».proof.Proof.Gen.ProjTIdeal.Skeleton
public import proofs.«01_k».proof.Proof.ProjTLoop
public import Idealize.ShloMosaic.Lib.Pipeline.ArrRel
public import Idealize.ShloMosaic.Lib.Claim

@[expose] public section

set_option maxRecDepth 16384

noncomputable section

namespace Cert.ProjTIdeal.Hand

open Cert.ProjTIdeal Cert.ProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem c0 (t : Fin cfg0.N) : (grid0.coords t 0).val = t.val / 6 := by
  have ht : t.val < 12 := Nat.lt_of_lt_of_eq t.isLt N_0
  have e0 : (grid0.coords t 0).val = t.val / 6 % 2 := Pipeline.Grid.coords_val t 0 (by decide) rfl
  omega
theorem c1 (t : Fin cfg0.N) : (grid0.coords t 1).val = t.val % 6 := by
  have e0 : (grid0.coords t 1).val = t.val / 1 % 6 := Pipeline.Grid.coords_val t 1 (by decide) rfl
  omega
theorem hc1 (t : Fin cfg0.N) : k0_cond1 (grid0.coords t) = 1#1 ↔ t.val % 6 = 0 := by
  simp only [k0_cond1, c1]
  word_cmp
theorem hc2 (t : Fin cfg0.N) : k0_cond2 (grid0.coords t) = 1#1 ↔ t.val % 6 = 5 := by
  simp only [k0_cond2, c1]
  word_cmp

/-! ## What a point computes -/

/-- The batch element a point works on. -/
abbrev rI (i : grid0.Coords) : Fin 2 := ⟨(i 0).val, (i 0).isLt⟩

/-- One row of the modulation, and one row of two rows of 512. -/
abbrev mrow (X : Vec F S2x3072 .f32) (r : Fin 2) : Vec F S1x3072 .f32 := chunk (R := 2) (C := 3072) (c := 1) X r.val (by omega)
abbrev grow (X : Vec F S2x512 .f32) (r : Fin 2) : Vec F S1x512 .f32 := chunk (R := 2) (C := 512) (c := 1) X r.val (by omega)

/-- The first column of the rows' scales. -/
abbrev scol (sr : Vec F S512x128 .f32) : Vec F S512x1 .f32 := View.ld sr (Rect.unit (s := S512x128) ![0, 0] S512x1.size inb_S512x128_S512x1_0_0)

/-- A tile of residual rows. -/
def tileS (cs : Vec F S512x3072 .i8) (x : Vec F S512x512 .bf16) (g : Vec F S1x512 .f32) (w : Vec F S3072x512 .i8) (ws b : Vec F S1x512 .f32) (sr : Vec F S512x128 .f32) : Vec F S512x512 .f32 :=
  k0_pay8 cs w (scol sr) ws b g x

theorem ld_mrow (i : grid0.Coords) (h : k0_cond2 i = 1#1) (X : Vec F S2x3072 .f32) :
    View.ld X (Rect.unit (s := S2x3072) (k0_off4 i) S1x3072.size (k0_off4_inb i h)) = mrow X (rI i) :=
  ld_chunk (R := 2) (C := 3072) (c := 1) X (k0_off4 i) (i 0).val _ (k0_off4_eq i) _

theorem ld_grow (i : grid0.Coords) (X : Vec F S2x512 .f32) :
    View.ld X (Rect.unit (s := S2x512) (k0_off2 i) S1x512.size (k0_off2_inb i)) = grow X (rI i) :=
  ld_chunk (R := 2) (C := 512) (c := 1) X (k0_off2 i) (i 0).val _ (k0_off2_eq i) _

theorem ld_srow (i : grid0.Coords) (h : k0_cond1 i = 1#1) (X : Vec F S2x512 .f32) :
    View.ld X (Rect.unit (s := S2x512) (k0_off1 i) S1x512.size (k0_off1_inb i h)) = grow X (rI i) :=
  ld_chunk (R := 2) (C := 512) (c := 1) X (k0_off1 i) (i 0).val _ (k0_off1_eq i) _

/-- A buffer after a store of the whole of it. -/
theorem read_whole (v : View sig .tc .vmem S512x128 .f32) (f : v.ty.Contents (Elt F)) (inb : ∀ a, (![0, 0] : Fin 2 → ℕ) a + S512x128.size a ≤ S512x128.size a)
    (w : Vec F S512x128 .f32) (L : List (View.Piece (Elt F) S512x128 .f32)) :
    v.read (Elt F) (v.writes (Elt F) f (⟨Rect.unit (s := S512x128) ![0, 0] S512x128.size inb, w⟩ :: L)) = w := by
  funext y
  refine View.read_writes_cons_hit_of_coords v f (Rect.unit (s := S512x128) ![0, 0] S512x128.size inb) w L y y fun a => ?_
  fin_cases a
  · show (y 0).val = 0 + 1 * (y 0).val
    omega
  · show (y 1).val = 0 + 1 * (y 1).val
    omega

/-! ## The body's runs -/

section Runs

variable (c : Dev nD) (i : grid0.Coords) (arg2 : Memref sig .tc .vmem S512x3072 .i8) (harg2 : arg2.IsWhole) (arg3 : Memref sig .tc .vmem S2x512 .f32) (harg3 : arg3.IsWhole) (arg4 : Memref sig .tc .vmem S512x512 .bf16) (harg4 : arg4.IsWhole) (arg5 : Memref sig .tc .vmem S2x512 .f32) (harg5 : arg5.IsWhole) (arg6 : Memref sig .tc .vmem S2x3072 .f32) (harg6 : arg6.IsWhole) (arg7 : Memref sig .tc .vmem S2x3072 .f32) (harg7 : arg7.IsWhole) (arg8 : Memref sig .tc .vmem S3072x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S512x3072 .f32) (harg11 : arg11.IsWhole) (arg12 : Memref sig .tc .vmem S512x3072 .i8) (harg12 : arg12.IsWhole) (arg13 : Memref sig .tc .vmem S2x512 .f32) (harg13 : arg13.IsWhole) (arg14 : Memref sig .tc .vmem S512x128 .f32) (harg14 : arg14.IsWhole)
  (x0 : Vec F S512x3072 .i8) (x1 : Vec F S2x512 .f32) (x2 : Vec F S512x512 .bf16) (x3 : Vec F S2x512 .f32) (x4 : Vec F S2x3072 .f32) (x5 : Vec F S2x3072 .f32) (x6 : Vec F S3072x512 .i8) (x7 : Vec F S1x512 .f32) (x8 : Vec F S1x512 .f32) (y9 : Vec F S512x3072 .f32) (y10 : Vec F S512x3072 .i8) (y11 : Vec F S2x512 .f32) (y12 : Vec F S512x128 .f32)

-- One memref owned whole at the contents written.
local notation "⟪" a ", " x "⟫" => owns (c : Thread nD τ) a fullShare x

set_option maxHeartbeats 2000000 in
/-- The body at a batch element's first tile: the scales of its rows are spread into the scratch and one tile is stored. -/
theorem runA (hc1 : k0_cond1 i = 1#1) (hc2 : ¬ k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 (grow x3 (rI i)) x6 x7 x8 (k0_pay7 (grow x1 (rI i)))) y9⟫ ∗ ⟪arg12, y10⟫ ∗ ⟪arg13, y11⟫ ∗ ⟪arg14, k0_pay7 (grow x1 (rI i))⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ (i 1).val _ (k0_off3_eq i)]
    rw [View.writes_nil, hf9]
    unfold tileS scol
    unfold runA.sl.v8 runA.sl.H12_1
    rw [View.readCov_eq_canon_ld, View.canon_unit_zero hz2]; swap
    · exact View.cover_of_tiled _ S512x128.size (by rfl)
    simp only [View.readAt_eq_ld, hf0, hf1, hf2, hf3, hf4, hf5, hf6, hf7, hf8, hf12, View.writes_nil]
    rw [ld_srow i hc1, ld_grow, ld2, ld2, ld2, ld2, ld2]
  isplitl [H10]; · iexists _; isplitr; swap; iexact H10; ipureintro; exact hf10
  isplitl [H11]; · iexists _; isplitr; swap; iexact H11; ipureintro; exact hf11
  iexists _; isplitr; swap; · iexact H12
  ipureintro
  unfold runA.sl.H12_1
  rw [read_whole]
  simp only [View.readAt_eq_ld, hf1]
  rw [ld_srow i hc1]

set_option maxHeartbeats 2000000 in
/-- The body at a middle tile. -/
theorem runB (hc1 : ¬ k0_cond1 i = 1#1) (hc2 : ¬ k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 (grow x3 (rI i)) x6 x7 x8 y12) y9⟫ ∗ ⟪arg12, y10⟫ ∗ ⟪arg13, y11⟫ ∗ ⟪arg14, y12⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ (i 1).val _ (k0_off3_eq i)]
    rw [View.writes_nil, hf9]
    unfold tileS scol
    simp only [View.readAt_eq_ld, hf0, hf1, hf2, hf3, hf4, hf5, hf6, hf7, hf8, hf12, View.writes_nil]
    rw [ld_grow, ld2, ld2, ld2, ld2, ld2]
  isplitl [H10]; · iexists _; isplitr; swap; iexact H10; ipureintro; exact hf10
  isplitl [H11]; · iexists _; isplitr; swap; iexact H11; ipureintro; exact hf11
  iexists _; isplitr; swap; · iexact H12
  ipureintro
  exact hf12

set_option maxHeartbeats 2000000 in
/-- The body at a batch element's last tile: one tile is stored, and then the codes and the scales of all its rows. -/
theorem runC (hc1 : ¬ k0_cond1 i = 1#1) (hc2 : k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 (grow x3 (rI i)) x6 x7 x8 y12) y9⟫ ∗ ⟪arg12, codesS (setCols (i 1).val (tileS x0 x2 (grow x3 (rI i)) x6 x7 x8 y12) y9) (mrow x4 (rI i)) (mrow x5 (rI i))⟫ ∗ ⟪arg13, setRow (R := 2) (C := 512) (i 0).val (k0_pay3 (srowS (setCols (i 1).val (tileS x0 x2 (grow x3 (rI i)) x6 x7 x8 y12) y9) (mrow x4 (rI i)) (mrow x5 (rI i)))) y11⟫ ∗ ⟪arg14, srowS (setCols (i 1).val (tileS x0 x2 (grow x3 (rI i)) x6 x7 x8 y12) y9) (mrow x4 (rI i)) (mrow x5 (rI i))⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ (i 1).val _ (k0_off3_eq i)]
    rw [View.writes_nil, hf9]
    unfold tileS scol
    simp only [View.readAt_eq_ld, hf0, hf1, hf2, hf3, hf4, hf5, hf6, hf7, hf8, hf12, View.writes_nil]
    rw [ld_grow, ld2, ld2, ld2, ld2, ld2]
  isplitl [H10]
  · iexists _; isplitr; swap; · iexact H10
    ipureintro
    refine (read_codes c i arg2 harg2 arg3 harg3 arg4 harg4 arg5 harg5 arg6 harg6 arg7 harg7 arg8 harg8 arg9 harg9 arg10 harg10 arg11 harg11 arg12 harg12 arg13 harg13 arg14 harg14 _ _ _ _ _ _ rfl).trans ?_
    rw [read_setCols _ _ _ (i 1).val _ (k0_off3_eq i)]
    rw [View.writes_nil, hf9]
    unfold tileS scol
    unfold runC.sl.v38 runC.sl.v40
    simp only [View.readAt_eq_ld, hf0, hf1, hf2, hf3, hf4, hf5, hf6, hf7, hf8, hf12, View.writes_nil]
    rw [ld_grow, ld2, ld2, ld2, ld2, ld2]
    rw [ld_mrow i hc2, ld_mrow i hc2]
  isplitl [H11]
  · iexists _; isplitr; swap; · iexact H11
    ipureintro
    rw [read_setRow (R := 2) (C := 512) _ _ _ (i 0).val _ (k0_off7_eq i)]
    unfold runC.sl.v44
    rw [View.readAt_eq_ld, ld2, View.writes_nil, hf11]
    refine congrArg (fun z => setRow _ (k0_pay3 z) _) ((read_srow c i arg2 harg2 arg3 harg3 arg4 harg4 arg5 harg5 arg6 harg6 arg7 harg7 arg8 harg8 arg9 harg9 arg10 harg10 arg11 harg11 arg12 harg12 arg13 harg13 arg14 harg14 _ _ _ _ _ _ rfl).trans ?_)
    rw [read_setCols _ _ _ (i 1).val _ (k0_off3_eq i)]
    rw [View.writes_nil, hf9]
    unfold tileS scol
    unfold runC.sl.v38 runC.sl.v40
    simp only [View.readAt_eq_ld, hf0, hf1, hf2, hf3, hf4, hf5, hf6, hf7, hf8, hf12, View.writes_nil]
    rw [ld_grow, ld2, ld2, ld2, ld2, ld2]
    rw [ld_mrow i hc2, ld_mrow i hc2]
  iexists _; isplitr; swap; · iexact H12
  ipureintro
  refine (read_srow c i arg2 harg2 arg3 harg3 arg4 harg4 arg5 harg5 arg6 harg6 arg7 harg7 arg8 harg8 arg9 harg9 arg10 harg10 arg11 harg11 arg12 harg12 arg13 harg13 arg14 harg14 _ _ _ _ _ _ rfl).trans ?_
  rw [read_setCols _ _ _ (i 1).val _ (k0_off3_eq i)]
  rw [View.writes_nil, hf9]
  unfold tileS scol
  unfold runC.sl.v38 runC.sl.v40
  simp only [View.readAt_eq_ld, hf0, hf1, hf2, hf3, hf4, hf5, hf6, hf7, hf8, hf12, View.writes_nil]
  rw [ld_grow, ld2, ld2, ld2, ld2, ld2]
  rw [ld_mrow i hc2, ld_mrow i hc2]

end Runs

/-! ## The proof data -/

/-- The batch element of a point, and a batch element's first point. -/
abbrev rT (t : Fin cfg0.N) : Fin 2 := rI (grid0.coords t)
abbrev pt (r : Fin 2) : Fin cfg0.N := ⟨6 * r.val, by rw [show cfg0.N = 12 from N_0]; omega⟩
/-- The point that stores the tile of a column. -/
abbrev ptc (r : Fin 2) (b : Fin 3072) : Fin cfg0.N := ⟨6 * r.val + b.val / 512, by rw [show cfg0.N = 12 from N_0]; omega⟩

/-- The scales of a batch element's incoming rows, spread. -/
def inR (c : Dev nD) (r : Fin 2) : Vec F S512x128 .f32 := k0_pay7 (grow (iblk m c 1 (pt r)) r)

/-- The tile a point stores, and all the residual rows of a batch element. -/
def tileT (c : Dev nD) (t : Fin cfg0.N) : Vec F S512x512 .f32 :=
  tileS (iblk m c 0 t) (iblk m c 2 t) (grow (iblk m c 3 t) (rT t)) (iblk m c 6 t) (iblk m c 7 t) (iblk m c 8 t) (inR m c (rT t))
def x1R (c : Dev nD) (r : Fin 2) : Vec F S512x3072 .f32 := fun y => tileT m c (ptc r (y 1)) (ix2 (y 0) ⟨(y 1).val % 512, Nat.mod_lt _ (by omega)⟩)

/-- A batch element's codes and its row of the scale output. -/
def codesR (c : Dev nD) (r : Fin 2) : Vec F S512x3072 .i8 := codesS (x1R m c r) (mrow (iblk m c 4 (pt r)) r) (mrow (iblk m c 5 (pt r)) r)
def rowR (c : Dev nD) (r : Fin 2) : Vec F S1x512 .f32 := k0_pay3 (srowS (x1R m c r) (mrow (iblk m c 4 (pt r)) r) (mrow (iblk m c 5 (pt r)) r))

/-- The relational proof data: an input is left as found; the residual rows hold the tiles stored so far; the codes are
    the batch element's after its last point; the scale output holds every row met so far; the scratch holds the scales of
    the incoming rows until a batch element's last point. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun t _ X => ∀ y : S512x3072.Idx, (y 1).val < 512 * (t.val % 6 + 1) → (X : Vec F S512x3072 .f32) y = x1R m c (rT t) y
    | ⟨10, _⟩ => fun t _ X => t.val % 6 = 5 → X = codesR m c (rT t)
    | ⟨11, _⟩ => fun t _ X => ∀ r : Fin 2, 6 * r.val + 5 ≤ t.val → ∀ b : Fin 512, (X : Vec F S2x512 .f32) (ix2 r b) = rowR m c r (ix2 0 b)
  Φ k := iprop((∃ d, ⌜∀ r : Fin 2, 6 * r.val < k.val → k.val < 6 * r.val + 6 → d = inR m c r⌝
      ∗ owns (c : Thread nD τ) (Memref.whole cc0_scratch0) fullShare d) ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem Φ_eq (c : Dev nD) (k : Fin (cfg0.N + 1)) : (rdat m c).Φ k = iprop((∃ d, ⌜∀ r : Fin 2, 6 * r.val < k.val → k.val < 6 * r.val + 6 → d = inR m c r⌝
      ∗ owns (c : Thread nD τ) (Memref.whole cc0_scratch0) fullShare d) ∗ (∃ r, prngReg c r)) := by
  dsimp only [rdat]

/-- The modulation and the incoming scales are the same at every point. -/
theorem iblk1 (c : Dev nD) (t t' : Fin cfg0.N) : (iblk m c 1 t : Vec F S2x512 .f32) = iblk m c 1 t' := rfl
theorem iblk4 (c : Dev nD) (t t' : Fin cfg0.N) : (iblk m c 4 t : Vec F S2x3072 .f32) = iblk m c 4 t' := rfl
theorem iblk5 (c : Dev nD) (t t' : Fin cfg0.N) : (iblk m c 5 t : Vec F S2x3072 .f32) = iblk m c 5 t' := rfl

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rw [A_eq]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rw [A_eq]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rw [A_eq]; try rfl
theorem finds8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold RDat.fetched RDat.blockOf iblk; rw [A_eq]; try rfl

/-- The tiles stored by a batch element's earlier points are found. -/
theorem finds9 (c : Dev nD) (t : Fin cfg0.N) (Y : Vec F S512x3072 .f32) (h : (rdat m c).Finds 9 t Y) (y : S512x3072.Idx) (hy : (y 1).val < 512 * (t.val % 6)) :
    Y y = x1R m c (rT t) y := by
  have hN : t.val < 12 := lt_of_lt_of_eq t.isLt (show cfg0.N = 12 from N_0)
  rcases ((rdat m c).finds_of_pos ((cfg0.win 9).fetch_out rfl t) (by omega) Y).mp h with hf | ⟨_, _, h⟩
  · have := (flush0_9 _).mp hf
    exfalso; simp only at this; omega
  · refine (h y (show (y 1).val < 512 * ((t.val - 1) % 6 + 1) by omega)).trans (congrArg (fun r => x1R m c r y) (Fin.ext ?_))
    show (grid0.coords _ 0).val = (grid0.coords t 0).val
    rw [c0, c0]
    show (t.val - 1) / 6 = t.val / 6
    omega

/-- The residual rows after a point. -/
theorem after9 (c : Dev nD) (t : Fin cfg0.N) (Y : Vec F S512x3072 .f32) (h : (rdat m c).Finds 9 t Y) (y : S512x3072.Idx) (hy : (y 1).val < 512 * (t.val % 6 + 1)) :
    setCols (grid0.coords t 1).val (tileT m c t) Y y = x1R m c (rT t) y := by
  have hN : t.val < 12 := lt_of_lt_of_eq t.isLt (show cfg0.N = 12 from N_0)
  unfold setCols x1R
  by_cases e : (y 1).val / 512 = (grid0.coords t 1).val
  · rw [if_pos e]
    refine congrArg (fun u => tileT m c u _) (Fin.ext ?_)
    show t.val = 6 * (grid0.coords t 0).val + (y 1).val / 512
    rw [e, c0, c1]
    omega
  · rw [if_neg e]
    rw [c1] at e
    exact finds9 m c t Y h y (by omega)

/-- After a batch element's last point they are all stored. -/
theorem all9 (c : Dev nD) (t : Fin cfg0.N) (h5 : t.val % 6 = 5) (Y : Vec F S512x3072 .f32) (h : (rdat m c).Finds 9 t Y) :
    setCols (grid0.coords t 1).val (tileT m c t) Y = x1R m c (rT t) :=
  funext fun y => after9 m c t Y h y (by have h1 : (y 1).val < 3072 := (y 1).isLt; omega)

/-- The rows of scales met before are found. -/
theorem finds11 (c : Dev nD) (t : Fin cfg0.N) (Y : Vec F S2x512 .f32) (h : (rdat m c).Finds 11 t Y) (r : Fin 2) (hr : 6 * r.val + 6 ≤ t.val) (b : Fin 512) :
    Y (ix2 r b) = rowR m c r (ix2 0 b) := by
  have hN : t.val < 12 := lt_of_lt_of_eq t.isLt (show cfg0.N = 12 from N_0)
  rcases ((rdat m c).finds_of_pos ((cfg0.win 11).fetch_out rfl t) (by omega) Y).mp h with hf | ⟨_, _, h⟩
  · have := (flush0_11 _).mp hf
    exfalso; simp only at this; omega
  · exact h r (show 6 * r.val + 5 ≤ t.val - 1 by omega) b

/-- The scale output after a batch element's last point. -/
theorem after11 (c : Dev nD) (t : Fin cfg0.N) (h5 : t.val % 6 = 5) (Y : Vec F S2x512 .f32) (h : (rdat m c).Finds 11 t Y) :
    (rdat m c).after 11 t Y (setRow (R := 2) (C := 512) (grid0.coords t 0).val (rowR m c (rT t)) Y) := by
  have hN : t.val < 12 := lt_of_lt_of_eq t.isLt (show cfg0.N = 12 from N_0)
  intro r hr b
  show (if r.val = (grid0.coords t 0).val then rowR m c (rT t) (ix2 0 b) else Y (ix2 r b)) = _
  by_cases e : r.val = (grid0.coords t 0).val
  · rw [if_pos e, show rT t = r from Fin.ext e.symm]
  · rw [if_neg e]
    rw [c0] at e
    exact finds11 m c t Y h r (by omega) b

abbrev ms0 (t : Fin cfg0.N) : Memref sig .tc .vmem S512x3072 .i8 := win0_0.stage (cfg0.slots t 0)
abbrev ms1 (t : Fin cfg0.N) : Memref sig .tc .vmem S2x512 .f32 := win0_1.stage (cfg0.slots t 1)
abbrev ms2 (t : Fin cfg0.N) : Memref sig .tc .vmem S512x512 .bf16 := win0_2.stage (cfg0.slots t 2)
abbrev ms3 (t : Fin cfg0.N) : Memref sig .tc .vmem S2x512 .f32 := win0_3.stage (cfg0.slots t 3)
abbrev ms4 (t : Fin cfg0.N) : Memref sig .tc .vmem S2x3072 .f32 := win0_4.stage (cfg0.slots t 4)
abbrev ms5 (t : Fin cfg0.N) : Memref sig .tc .vmem S2x3072 .f32 := win0_5.stage (cfg0.slots t 5)
abbrev ms6 (t : Fin cfg0.N) : Memref sig .tc .vmem S3072x512 .i8 := win0_6.stage (cfg0.slots t 6)
abbrev ms7 (t : Fin cfg0.N) : Memref sig .tc .vmem S1x512 .f32 := win0_7.stage (cfg0.slots t 7)
abbrev ms8 (t : Fin cfg0.N) : Memref sig .tc .vmem S1x512 .f32 := win0_8.stage (cfg0.slots t 8)
abbrev ms9 (t : Fin cfg0.N) : Memref sig .tc .vmem S512x3072 .f32 := win0_9.stage (cfg0.slots t 9)
abbrev ms10 (t : Fin cfg0.N) : Memref sig .tc .vmem S512x3072 .i8 := win0_10.stage (cfg0.slots t 10)
abbrev ms11 (t : Fin cfg0.N) : Memref sig .tc .vmem S2x512 .f32 := win0_11.stage (cfg0.slots t 11)

set_option maxHeartbeats 1600000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X))) := by
  unfold bodyAt0
  have ec := c0 t
  have hN : t.val < 12 := lt_of_lt_of_eq t.isLt (show cfg0.N = 12 from N_0)
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  have e8 := finds8 m c t _ (hY 8)
  rw [e0, e1, e2, e3, e4, e5, e6, e7, e8]
  rw [Φ_eq, Φ_eq, show (rdat m c).owesAt () t.succ = (rdat m c).owesAt () t.castSucc from rfl]
  have h9 : ∀ y : S512x3072.Idx, (y 1).val < 512 * (t.val % 6 + 1) → setCols (grid0.coords t 1).val (tileT m c t) (Y 9 : Vec F S512x3072 .f32) y = x1R m c (rT t) y :=
    after9 m c t _ (hY 9)
  by_cases h0 : t.val % 6 = 0
  · iintro ⟨⟨⟨%d, %hd, HS⟩, Hr⟩, Ho, H0, H1, H2, H3, H4, H5, H6, H7, H8, H9, H10, H11⟩
    iapply (runA c (grid0.coords t) _ _ _ _ _ _ _ _ _ _ _ _ _ _ _ _ _ _ _ _ _ _ _ _ _ _ _ _ _ _ _ _ _ _ _ _ _ _ _ ((hc1 t).mpr h0) (fun h => absurd ((hc2 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hr]
    · isplitl [HS]
      · iexists _; isplitr; swap; · iexact HS
        ipureintro
        intro r hr hr'
        have hr1 : 6 * r.val < t.val + 1 := hr
        have hr2 : t.val + 1 < 6 * r.val + 6 := hr'
        have er : r = rT t := Fin.ext (by show r.val = (grid0.coords t 0).val; omega)
        rw [er]; rfl
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact h9
    isplitl [H10]
    · iexists _; isplitr; swap; · iexact H10
      ipureintro; exact fun h => absurd h (by omega)
    iexists _; isplitr; swap; · iexact H11
    ipureintro; exact fun r hr b => finds11 m c t _ (hY 11) r (by omega) b
  · by_cases h5 : t.val % 6 = 5
    · iintro ⟨⟨⟨%d, %hd, HS⟩, Hr⟩, Ho, H0, H1, H2, H3, H4, H5, H6, H7, H8, H9, H10, H11⟩
      obtain rfl := hd (rT t) (by show 6 * (grid0.coords t 0).val < t.val; omega) (by show t.val < 6 * (grid0.coords t 0).val + 6; omega)
      iapply (runC c (grid0.coords t) _ _ _ _ _ _ _ _ _ _ _ _ _ _ _ _ _ _ _ _ _ _ _ _ _ _ _ _ _ _ _ _ _ _ _ _ _ _ _ (fun h => h0 ((hc1 t).mp h)) ((hc2 t).mpr h5) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, HS⟩
      isplitl [HS Hr]
      · isplitl [HS]
        · iexists _; isplitr; swap; · iexact HS
          ipureintro
          intro r hr hr'
          have hr1 : 6 * r.val < t.val + 1 := hr
          have hr2 : t.val + 1 < 6 * r.val + 6 := hr'
          exfalso; omega
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact h9
      isplitl [H10]
      · iexists _; isplitr; swap; · iexact H10
        ipureintro; exact fun _ => congrArg (fun z => codesS z _ _) (all9 m c t h5 _ (hY 9))
      iexists _; isplitr; swap; · iexact H11
      ipureintro; exact (congrArg (fun z => (rdat m c).after 11 t (Y 11) (setRow (R := 2) (C := 512) (grid0.coords t 0).val (k0_pay3 (srowS z (mrow (iblk m c 4 t) (rT t)) (mrow (iblk m c 5 t) (rT t)))) (Y 11))) (all9 m c t h5 _ (hY 9))).mpr (after11 m c t h5 _ (hY 11))
    · iintro ⟨⟨⟨%d, %hd, HS⟩, Hr⟩, Ho, H0, H1, H2, H3, H4, H5, H6, H7, H8, H9, H10, H11⟩
      obtain rfl := hd (rT t) (by show 6 * (grid0.coords t 0).val < t.val; omega) (by show t.val < 6 * (grid0.coords t 0).val + 6; omega)
      iapply (runB c (grid0.coords t) _ _ _ _ _ _ _ _ _ _ _ _ _ _ _ _ _ _ _ _ _ _ _ _ _ _ _ _ _ _ _ _ _ _ _ _ _ _ _ (fun h => h0 ((hc1 t).mp h)) (fun h => h5 ((hc2 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, HS⟩
      isplitl [HS Hr]
      · isplitl [HS]
        · iexists _; isplitr; swap; · iexact HS
          ipureintro
          intro r hr hr'
          have hr1 : 6 * r.val < t.val + 1 := hr
          have hr2 : t.val + 1 < 6 * r.val + 6 := hr'
          have er : r = rT t := Fin.ext (by show r.val = (grid0.coords t 0).val; omega)
          rw [er]
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact h9
      isplitl [H10]
      · iexists _; isplitr; swap; · iexact H10
        ipureintro; exact fun h => absurd h h5
      iexists _; isplitr; swap; · iexact H11
      ipureintro; exact fun r hr b => finds11 m c t _ (hY 11) r (by omega) b

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

theorem hin (c : Dev nD) : Pipeline.ΦA spec0 c ⊢ (rdat m c).Φ 0 := by
  rw [Φ_eq]
  unfold Pipeline.ΦA
  rw [scopedRest0_eq]
  simp only [owns_whole]
  iintro ⟨⟨%f, H⟩, Hr⟩
  isplitl [H]
  · iexists f; isplitr; swap; · iexact H
    ipureintro
    intro r hr
    exact absurd hr (Nat.not_lt_zero _)
  · iexact Hr

theorem hout (c : Dev nD) : (rdat m c).Φ (Fin.last cfg0.N) ⊢ Pipeline.ΦA spec0 c := by
  rw [Φ_eq]
  unfold Pipeline.ΦA
  rw [scopedRest0_eq]
  simp only [owns_whole]
  iintro ⟨⟨%f, %hf, H⟩, Hr⟩
  isplitl [H]
  · iexists f; iexact H
  · iexact Hr

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  ⟨(RDat.FramePost.arr_in h c 0 rfl).trans ((A_eq m c 0).trans (V_main_arg0 m c)),
    (RDat.FramePost.arr_in h c 1 rfl).trans ((A_eq m c 1).trans (V_main_arg1 m c)),
    ((h c).2 main_arg2 (Pipeline.mem_restRefs_of main_arg2 (by decide) (by decide))).trans (V_main_arg2 m c),
    (RDat.FramePost.arr_in h c 5 rfl).trans ((A_eq m c 5).trans (V_main_arg3 m c)),
    (RDat.FramePost.arr_in h c 6 rfl).trans ((A_eq m c 6).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) :=
  (θ_run defs _ _).mono (fun _ h => ⟨args_of m h.1, h.2⟩) (run_main_quiescent m ρ)

end Cert.ProjTIdeal.Hand

end
-- ==== Proof.ProjTBitsFrame.lean ====
/- The frame of the text stream's attention projection call as printed: it is the same program over any float type as its idealization, so it leaves its
   arguments as found as that one does. -/
module

public import proofs.«01_k».proof.Proof.Gen.ProjT.Frame
public import proofs.«01_k».proof.Proof.ProjTFrame

@[expose] public section

set_option maxRecDepth 65536

noncomputable section

namespace Cert.ProjT.Hand

open Cert.ProjT
open Idealize.ShloMosaic Idealize.ShloMosaic.TcCoe Idealize.SL.Sem

variable {F : FTy → Type} [FloatOps F]

/-- The two programs run the same bodies. -/
theorem body_eq : (cc0_proj (F := F)) = Cert.ProjTIdeal.cc0_proj (F := F) := rfl

theorem defs₀_eq : (defs₀ (F := F)) = Cert.ProjTIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.ProjTIdeal.defs (F := F) :=
  congrArg (Pipeline.defs pcfgs) defs₀_eq

theorem main_eq : (main (F := F)) = Cert.ProjTIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) := by
  rw [defs_eq]
  exact Cert.ProjTIdeal.Hand.frame (F := F) m ρ

end Cert.ProjT.Hand

end
-- ==== Proof.ProjTPay.lean ====
/- The text stream's attention projection payloads over the extended reals are the reference's. -/
module

public import proofs.«01_k».proof.Proof.QkvTPay
public import proofs.«01_k».proof.Proof.Gen.ProjTIdeal.Skeleton
public import proofs.«01_k».proof.Proof.Gen.ProjTRefIdeal.Skeleton
public import Idealize.ShloMosaic.Lib.Pointwise

@[expose] public section

noncomputable section

namespace Cert.ProjTPay

open Idealize.ShloMosaic Idealize.ShloMosaic.Pointwise Cert.Codes
open Cert.QkvTPay (lnS scaleOf scale_at top)

local notation "K1" => Cert.ProjTIdeal.Gen.k0_pay1 (F := Ideal)
local notation "K4" => Cert.ProjTIdeal.Gen.k0_pay4 (F := Ideal)
local notation "K5" => Cert.ProjTIdeal.Gen.k0_pay5 (F := Ideal)
local notation "K6" => Cert.ProjTIdeal.Gen.k0_pay6 (F := Ideal)
local notation "K8" => Cert.ProjTIdeal.Gen.k0_pay8 (F := Ideal)
local notation "R1" => Cert.ProjTRefIdeal.Gen.k0_pay1 (F := Ideal)
local notation "R2" => Cert.ProjTRefIdeal.Gen.k0_pay2 (F := Ideal)
local notation "R4" => Cert.ProjTRefIdeal.Gen.k0_pay4 (F := Ideal)
local notation "R5" => Cert.ProjTRefIdeal.Gen.k0_pay5 (F := Ideal)
local notation "R6" => Cert.ProjTRefIdeal.Gen.k0_pay6 (F := Ideal)
local notation "R7" => Cert.ProjTRefIdeal.Gen.k0_pay7 (F := Ideal)
local notation "R8" => Cert.ProjTRefIdeal.Gen.k0_pay8 (F := Ideal)
local notation "R9" => Cert.ProjTRefIdeal.Gen.k0_pay9 (F := Ideal)

/-- The scale and a code of a row `f` normalised, scaled by one plus `g` and shifted by `s`. -/
def rowScale (f s g : Fin 3072 → EReal) : EReal := scaleOf (top fun b => lnS f (s b) (g b) b)
def rowCode (f s g : Fin 3072 → EReal) (b : Fin 3072) : BitVec 8 := Ideal.fptosi 8 (clip (Ideal.div (lnS f (s b) (g b) b) (rowScale f s g)))

section Kernel
variable (f fs fg : Fin 3072 → EReal) (s g : FVec Ideal Cert.ProjTIdeal.S1x3072 .f32) (v : FVec Ideal Cert.ProjTIdeal.S32x3072 .f32) (p : Fin 32)
  (hv : ∀ b, v (ix2 p b) = f b) (hs : ∀ b, s (ix2 0 b) = fs b) (hg : ∀ b, g (ix2 0 b) = fg b)
include hv hs hg

/-- A row normalised and modulated. -/
theorem lnK (b : Fin 3072) : K4 s (K1 g) v (ix2 p b) = lnS f (fs b) (fg b) b := by
  pointwise [Cert.ProjTIdeal.Gen.k0_pay4, Cert.ProjTIdeal.Gen.k0_pay1, hv, hs, hg]
  rfl

/-- Its scale. -/
theorem scaleK (u : Fin 1) : K5 s (K1 g) v (ix2 p u) = rowScale f fs fg := by
  unfold Cert.ProjTIdeal.Gen.k0_pay5
  refine (scale_at _ _).trans (congrArg scaleOf ?_)
  pointwise [lnK f fs fg s g v p hv hs hg]
  rfl

/-- Its codes. -/
theorem codeK (b : Fin 3072) : K6 s (K1 g) v (ix2 p b) = rowCode f fs fg b := by
  unfold Cert.ProjTIdeal.Gen.k0_pay6
  have e := lnK f fs fg s g v p hv hs hg
  have e' := scaleK f fs fg s g v p hv hs hg
  pointwise [e, e']
  exact congrArg (Ideal.fptosi 8) (clip_words _)
end Kernel

/-- A scale across its row, the scales of all the rows as one row, and one row as the scales of all the rows. -/
theorem spread_k (u : FVec Ideal Cert.ProjTIdeal.S32x1 .f32) (p : Fin 32) (b : Fin 128) : Cert.ProjTIdeal.Gen.k0_pay2 (F := Ideal) u (ix2 p b) = u (ix2 p 0) := by
  pointwise [Cert.ProjTIdeal.Gen.k0_pay2]
theorem flip_k (u : Vec Ideal Cert.ProjTIdeal.S512x128 .f32) (a : Fin 512) : Cert.ProjTIdeal.Gen.k0_pay3 (F := Ideal) u (ix2 0 a) = u (ix2 a 0) := by
  pointwise [Cert.ProjTIdeal.Gen.k0_pay3]
theorem fill_k (u : Vec Ideal Cert.ProjTIdeal.S1x512 .f32) (a : Fin 512) (b : Fin 128) : Cert.ProjTIdeal.Gen.k0_pay7 (F := Ideal) u (ix2 a b) = u (ix2 0 a) := by
  pointwise [Cert.ProjTIdeal.Gen.k0_pay7]

/-- A residual entry: the old entry plus the gate times the projection. -/
def resid (x g : EReal) (q w : Fin 3072 → BitVec 8) (s ws b : EReal) : EReal :=
  x + g * ((∑ k, (FloatOps.sitofp FTy.bf16 (q k) : Ideal .bf16) * (FloatOps.sitofp FTy.bf16 (w k) : Ideal .bf16)) * s * ws + b)

theorem residK (cs : Vec Ideal Cert.ProjTIdeal.S512x3072 .i8) (w : Vec Ideal Cert.ProjTIdeal.S3072x512 .i8) (sr : Vec Ideal Cert.ProjTIdeal.S512x1 .f32)
    (ws b g : Vec Ideal Cert.ProjTIdeal.S1x512 .f32) (x : Vec Ideal Cert.ProjTIdeal.S512x512 .bf16) (p j : Fin 512) :
    K8 cs w sr ws b g x (ix2 p j) = resid (x (ix2 p j)) (g (ix2 0 j)) (fun k => cs (ix2 p k)) (fun k => w (ix2 k j)) (sr (ix2 p 0)) (ws (ix2 0 j)) (b (ix2 0 j)) := by
  pointwise [Cert.ProjTIdeal.Gen.k0_pay8]
  rfl

section Reference
theorem residR (g : Vec Ideal Cert.ProjTRefIdeal.S2x3072 .f32) (cs : Vec Ideal Cert.ProjTRefIdeal.S1024x3072 .i8) (s : Vec Ideal Cert.ProjTRefIdeal.S2x512 .f32)
    (w : Vec Ideal Cert.ProjTRefIdeal.S3072x3072 .i8) (ws b : Vec Ideal Cert.ProjTRefIdeal.S3072 .f32) (x : Vec Ideal Cert.ProjTRefIdeal.S2x512x3072 .bf16) (r : Fin 2) (P : Fin 512) (j : Fin 3072) :
    R7 g cs s w ws b x (ix3 r P j) = resid (x (ix3 r P j)) (g (ix2 r j)) (fun k => cs (ix2 ⟨r.val * 512 + P.val, by omega⟩ k)) (fun k => w (ix2 k j)) (s (ix2 r P)) (ws (ix1 j)) (b (ix1 j)) := by
  pointwise [Cert.ProjTRefIdeal.Gen.k0_pay7]
  rfl

variable (g : Vec Ideal Cert.ProjTRefIdeal.S2x3072 .f32) (cs : Vec Ideal Cert.ProjTRefIdeal.S1024x3072 .i8) (s : Vec Ideal Cert.ProjTRefIdeal.S2x512 .f32)
  (w : Vec Ideal Cert.ProjTRefIdeal.S3072x3072 .i8) (ws b : Vec Ideal Cert.ProjTRefIdeal.S3072 .f32) (x : Vec Ideal Cert.ProjTRefIdeal.S2x512x3072 .bf16)
  (sh sc : Vec Ideal Cert.ProjTRefIdeal.S2x3072 .f32) (v3 v5 : FVec Ideal Cert.ProjTRefIdeal.S2x1x3072 .f32) (v35 : FVec Ideal Cert.ProjTRefIdeal.S2x512x3072 .f32) (v38 : FVec Ideal Cert.ProjTRefIdeal.S2x512x1 .f32)
  (r : Fin 2) (P : Fin 512)

/-- The centred rows, and the sums of their squares. -/
theorem centreR (k : Fin 3072) : R8 g cs s w ws b x (ix3 r P k)
    = R7 g cs s w ws b x (ix3 r P k) - Ideal.div (∑ k, R7 g cs s w ws b x (ix3 r P k)) (Ideal.ofBits FTy.f32 1161822208#32) := by
  unfold Cert.ProjTRefIdeal.Gen.k0_pay8
  generalize R7 g cs s w ws b x = A
  pointwise
  try rfl
theorem squareR (u : Fin 1) : R9 g cs s w ws b x (ix3 r P u) = ∑ k, R8 g cs s w ws b x (ix3 r P k) * R8 g cs s w ws b x (ix3 r P k) := by
  unfold Cert.ProjTRefIdeal.Gen.k0_pay9
  generalize R8 g cs s w ws b x = A
  pointwise
  try rfl
theorem normR (k : Fin 3072) : R1 v3 v5 v35 v38 (ix3 r P k)
    = v35 (ix3 r P k) * Ideal.rsqrt (Ideal.div (v38 (ix3 r P 0)) (Ideal.ofBits FTy.f32 1161822208#32) + Ideal.ofBits FTy.f32 897988541#32) * (1 + v5 (ix3 r 0 k)) + v3 (ix3 r 0 k) := by
  pointwise [Cert.ProjTRefIdeal.Gen.k0_pay1]
  try rfl
theorem shR (k : Fin 3072) : R5 sh (ix3 r 0 k) = sh (ix2 r k) := by
  pointwise [Cert.ProjTRefIdeal.Gen.k0_pay5]
theorem scR (k : Fin 3072) : R6 sc (ix3 r 0 k) = sc (ix2 r k) := by
  pointwise [Cert.ProjTRefIdeal.Gen.k0_pay6]

theorem lnR_of (f : Fin 3072 → EReal) (h35 : ∀ k, v35 (ix3 r P k) = f k - Ideal.div (∑ k, f k) (Ideal.ofBits FTy.f32 1161822208#32))
    (h38 : v38 (ix3 r P 0) = ∑ k, v35 (ix3 r P k) * v35 (ix3 r P k)) (k : Fin 3072) : R1 v3 v5 v35 v38 (ix3 r P k) = lnS f (v3 (ix3 r 0 k)) (v5 (ix3 r 0 k)) k := by
  rw [normR, h38]
  simp only [h35]
  rfl

/-- A row normalised and modulated. -/
theorem lnR (k : Fin 3072) : R1 (R5 sh) (R6 sc) (R8 g cs s w ws b x) (R9 g cs s w ws b x) (ix3 r P k)
    = lnS (fun k => R7 g cs s w ws b x (ix3 r P k)) (sh (ix2 r k)) (sc (ix2 r k)) k := by
  refine (lnR_of _ _ _ _ r P (fun k => R7 g cs s w ws b x (ix3 r P k)) (fun k => centreR g cs s w ws b x r P k) (squareR g cs s w ws b x r P 0) k).trans ?_
  rw [shR, scR]

/-- A row's scale and codes. -/
theorem scaleR : R2 v3 v5 v35 v38 (ix2 r P) = scaleOf (top fun k => R1 v3 v5 v35 v38 (ix3 r P k)) := by
  unfold Cert.ProjTRefIdeal.Gen.k0_pay2
  refine (scale_at _ _).trans (congrArg scaleOf ?_)
  generalize R1 v3 v5 v35 v38 = A
  pointwise
  try rfl
theorem flat8 (A : IVec Cert.ProjTRefIdeal.S2x512x3072 8) (R : Fin 1024) (k : Fin 3072) :
    shapeCast Cert.ProjTRefIdeal.S1024x3072 A Cert.ProjTRefIdeal.Gen.shapeCasts_S2x512x3072_S1024x3072 (ix2 R k) = A (ix3 ⟨R.val / 512, by omega⟩ ⟨R.val % 512, by omega⟩ k) := by
  pointwise
theorem word_at (h : FVec Ideal Cert.ProjTRefIdeal.S2x512x3072 .f32) (k : Fin 3072) :
    (fptosi 8 (minimumf (broadcast Cert.ProjTRefIdeal.S2x512x3072 (Scalar.sitofp .f32 127#32)) (maximumf (broadcast Cert.ProjTRefIdeal.S2x512x3072 (Scalar.sitofp .f32 4294967169#32)) h)) : IVec Cert.ProjTRefIdeal.S2x512x3072 8) (ix3 r P k)
      = Ideal.fptosi 8 (min ((((127#32 : BitVec 32).toInt : ℤ) : ℝ) : EReal) (max ((((4294967169#32 : BitVec 32).toInt : ℤ) : ℝ) : EReal) (h (ix3 r P k)))) := by
  pointwise
  rfl
theorem round_at (h u : FVec Ideal Cert.ProjTRefIdeal.S2x512x3072 .f32) (j : Cert.ProjTRefIdeal.S2x512x3072.Idx) :
    roundeven (divf h u) j = Ideal.liftRound Ideal.roundHalfEven (Ideal.div (h j) (u j)) := by
  pointwise
theorem spread_at (u : FVec Ideal Cert.ProjTRefIdeal.S2x512 .f32) (k : Fin 3072) :
    broadcastTo Cert.ProjTRefIdeal.S2x512x3072 (shapeCast Cert.ProjTRefIdeal.S2x512x1 u Cert.ProjTRefIdeal.Gen.shapeCasts_S2x512_S2x512x1) Cert.ProjTRefIdeal.Gen.broadcasts_S2x512x1_S2x512x3072 (ix3 r P k) = u (ix2 r P) := by
  pointwise
theorem codeR (R : Fin 1024) (k : Fin 3072) : R4 v3 v5 v35 v38 (ix2 R k)
    = Ideal.fptosi 8 (clip (Ideal.div (R1 v3 v5 v35 v38 (ix3 ⟨R.val / 512, by omega⟩ ⟨R.val % 512, by omega⟩ k)) (R2 v3 v5 v35 v38 (ix2 ⟨R.val / 512, by omega⟩ ⟨R.val % 512, by omega⟩)))) := by
  unfold Cert.ProjTRefIdeal.Gen.k0_pay4
  generalize R2 v3 v5 v35 v38 = u
  generalize R1 v3 v5 v35 v38 = A
  refine (flat8 _ R k).trans ((word_at _ _ _ k).trans ?_)
  rw [round_at, spread_at]
  exact congrArg (Ideal.fptosi 8) (clip_ints _)
theorem flatR (A : FVec Ideal Cert.ProjTRefIdeal.S2x512x3072 .f32) (R : Fin 1024) (k : Fin 3072) :
    Cert.ProjTRefIdeal.Gen.k0_pay3 (F := Ideal) A (ix2 R k) = A (ix3 ⟨R.val / 512, by omega⟩ ⟨R.val % 512, by omega⟩ k) := by
  pointwise [Cert.ProjTRefIdeal.Gen.k0_pay3]

theorem rowScaleR : R2 (R5 sh) (R6 sc) (R8 g cs s w ws b x) (R9 g cs s w ws b x) (ix2 r P)
    = rowScale (fun k => R7 g cs s w ws b x (ix3 r P k)) (fun k => sh (ix2 r k)) (fun k => sc (ix2 r k)) := by
  rw [scaleR]
  unfold rowScale
  exact congrArg (fun h => scaleOf (top h)) (funext fun k => lnR g cs s w ws b x sh sc r P k)
theorem rowCodeR (R : Fin 1024) (k : Fin 3072) : R4 (R5 sh) (R6 sc) (R8 g cs s w ws b x) (R9 g cs s w ws b x) (ix2 R k)
    = rowCode (fun k => R7 g cs s w ws b x (ix3 ⟨R.val / 512, by omega⟩ ⟨R.val % 512, by omega⟩ k)) (fun k => sh (ix2 ⟨R.val / 512, by omega⟩ k)) (fun k => sc (ix2 ⟨R.val / 512, by omega⟩ k)) k := by
  rw [codeR, rowScaleR, lnR, rowCode]
end Reference

end Cert.ProjTPay

end
-- ==== Proof.ProjTRefValue.lean ====
/- The text stream's attention projection reference: its arrays after its run, and each at a point. -/
module

public import proofs.«01_k».proof.Proof.Gen.ProjTRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.Loads
public import proofs.«01_k».proof.Proof.ProjTPay

@[expose] public section

set_option maxRecDepth 16384

noncomputable section

namespace Cert.ProjTRefIdeal.Hand

open Cert.ProjTRefIdeal Cert.ProjTRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S1024x3072 .i8 := m ((c.tc : Thread nD τ).loc main_arg0)
abbrev a1 (c : Dev nD) : Vec F S2x512 .f32 := m ((c.tc : Thread nD τ).loc main_arg1)
abbrev a2 (c : Dev nD) : Vec F S2x512x3072 .bf16 := m ((c.tc : Thread nD τ).loc main_arg2)
abbrev a3 (c : Dev nD) : Vec F S2x18432 .f32 := m ((c.tc : Thread nD τ).loc main_arg3)
abbrev a4 (c : Dev nD) : Vec F S3072x3072 .i8 := m ((c.tc : Thread nD τ).loc main_arg4)
abbrev a5 (c : Dev nD) : Vec F S3072 .f32 := m ((c.tc : Thread nD τ).loc main_arg5)
abbrev a6 (c : Dev nD) : Vec F S3072 .f32 := m ((c.tc : Thread nD τ).loc main_arg6)

theorem e0 : ∀ t : Fin cfg0.N, win0_0.index t = ![0, 0] := by decide +kernel
theorem i0 (c : Dev nD) (t : Fin cfg0.N) : (iblk m c 0 t : Vec F S1024x3072 .i8) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S2x512 .f32) = a1 m c := by
  funext y; blk_simp [iblk]; exact congrArg (a1 m c) (by blk_ext [e1])
theorem e2 : ∀ t : Fin cfg0.N, win0_2.index t = ![0, 0, 0] := by decide +kernel
theorem i2 (c : Dev nD) (t : Fin cfg0.N) : (iblk m c 2 t : Vec F S2x512x3072 .bf16) = a2 m c := by
  funext y; blk_simp [iblk]; exact congrArg (a2 m c) (by blk_ext [e2])
theorem e3 : ∀ t : Fin cfg0.N, win0_3.index t = ![0, 0] := by decide +kernel
theorem i3 (c : Dev nD) (t : Fin cfg0.N) : (iblk m c 3 t : Vec F S2x18432 .f32) = a3 m c := by
  funext y; blk_simp [iblk]; exact congrArg (a3 m c) (by blk_ext [e3])
theorem e4 : ∀ t : Fin cfg0.N, win0_4.index t = ![0, 0] := by decide +kernel
theorem i4 (c : Dev nD) (t : Fin cfg0.N) : (iblk m c 4 t : Vec F S3072x3072 .i8) = a4 m c := by
  funext y; blk_simp [iblk]; exact congrArg (a4 m c) (by blk_ext [e4])
theorem e5 : ∀ t : Fin cfg0.N, win0_5.index t = ![0] := by decide +kernel
theorem i5 (c : Dev nD) (t : Fin cfg0.N) : (iblk m c 5 t : Vec F S3072 .f32) = a5 m c := by
  funext y; blk_simp [iblk]; exact congrArg (a5 m c) (by blk_ext [e5])
theorem e6 : ∀ t : Fin cfg0.N, win0_6.index t = ![0] := by decide +kernel
theorem i6 (c : Dev nD) (t : Fin cfg0.N) : (iblk m c 6 t : Vec F S3072 .f32) = a6 m c := by
  funext y; blk_simp [iblk]; exact congrArg (a6 m c) (by blk_ext [e6])

/-! Each result array is the body's payload of the arguments. -/

theorem e7 : ∀ t : Fin cfg0.N, win0_7.index t = ![0, 0] := by decide +kernel
def res7 (c : Dev nD) : Vec F S1024x3072 .f32 := out0_7 (a0 m c) (a1 m c) (a2 m c) (a3 m c) (a4 m c) (a5 m c) (a6 m c)
theorem final7 (c : Dev nD) : (dats m 0 c).arrAt 7 cfg0.N = res7 m c := by
  refine (dats m 0 c).arrAt_eq_of_covers 7 _ (by decide +kernel) fun t hf y => ?_
  blk_simp
  rw [after0_7, i0, i1, i2, i3, i4, i5, i6]
  exact congrArg (res7 m c) (by blk_ext [e7])

theorem e8 : ∀ t : Fin cfg0.N, win0_8.index t = ![0, 0] := by decide +kernel
def res8 (c : Dev nD) : Vec F S1024x3072 .i8 := out0_8 (a0 m c) (a1 m c) (a2 m c) (a3 m c) (a4 m c) (a5 m c) (a6 m c)
theorem final8 (c : Dev nD) : (dats m 0 c).arrAt 8 cfg0.N = res8 m c := by
  refine (dats m 0 c).arrAt_eq_of_covers 8 _ (by decide +kernel) fun t hf y => ?_
  blk_simp
  rw [after0_8, i0, i1, i2, i3, i4, i5, i6]
  exact congrArg (res8 m c) (by blk_ext [e8])

theorem e9 : ∀ t : Fin cfg0.N, win0_9.index t = ![0, 0] := by decide +kernel
def res9 (c : Dev nD) : Vec F S2x512 .f32 := out0_9 (a0 m c) (a1 m c) (a2 m c) (a3 m c) (a4 m c) (a5 m c) (a6 m c)
theorem final9 (c : Dev nD) : (dats m 0 c).arrAt 9 cfg0.N = res9 m c := by
  refine (dats m 0 c).arrAt_eq_of_covers 9 _ (by decide +kernel) fun t hf y => ?_
  blk_simp
  rw [after0_9, i0, i1, i2, i3, i4, i5, i6]
  exact congrArg (res9 m c) (by blk_ext [e9])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res7 m c
      ∧ r.2.mem ((c.tc : Thread nD τ).loc main_v0_1) = res8 m c
      ∧ r.2.mem ((c.tc : Thread nD τ).loc main_v0_2) = res9 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

/-! The results at a point. -/

section Points
open Cert.ProjTPay Idealize.ShloMosaic.Pointwise
variable (x0 : Vec Ideal S1024x3072 .i8) (x1 : Vec Ideal S2x512 .f32) (x2 : Vec Ideal S2x512x3072 .bf16) (x3 : Vec Ideal S2x18432 .f32) (x4 : Vec Ideal S3072x3072 .i8) (x5 x6 : Vec Ideal S3072 .f32)

/-- The gate, the shift and the scale of the modulation. -/
def gt : Vec Ideal S2x3072 .f32 := View.ld x3 r0_0
def sh : Vec Ideal S2x3072 .f32 := View.ld x3 r0_1
def sc : Vec Ideal S2x3072 .f32 := View.ld x3 r0_2
theorem gt_at (r : Fin 2) (b : Fin 3072) : gt x3 (ix2 r b) = x3 (ix2 r ⟨6144 + b.val, by omega⟩) := by
  unfold gt View.ld
  congr 1
  funext a
  apply Fin.ext
  fin_cases a
  · show 0 + 1 * r.val = r.val
    omega
  · show 6144 + 1 * b.val = 6144 + b.val
    omega
theorem sh_at (r : Fin 2) (b : Fin 3072) : sh x3 (ix2 r b) = x3 (ix2 r ⟨9216 + b.val, by omega⟩) := by
  unfold sh View.ld
  congr 1
  funext a
  apply Fin.ext
  fin_cases a
  · show 0 + 1 * r.val = r.val
    omega
  · show 9216 + 1 * b.val = 9216 + b.val
    omega
theorem sc_at (r : Fin 2) (b : Fin 3072) : sc x3 (ix2 r b) = x3 (ix2 r ⟨12288 + b.val, by omega⟩) := by
  unfold sc View.ld
  congr 1
  funext a
  apply Fin.ext
  fin_cases a
  · show 0 + 1 * r.val = r.val
    omega
  · show 12288 + 1 * b.val = 12288 + b.val
    omega

/-- The residual rows. -/
def res : FVec Ideal S2x512x3072 .f32 := k0_pay7 (gt x3) x0 x1 x4 x5 x6 x2

/-- A residual entry of the token `P` of the batch element `r`. -/
def resAt (r : Fin 2) (P : Fin 512) (j : Fin 3072) : EReal :=
  resid (x2 (ix3 r P j)) (x3 (ix2 r ⟨6144 + j.val, by omega⟩)) (fun k => x0 (ix2 ⟨r.val * 512 + P.val, by omega⟩ k)) (fun k => x4 (ix2 k j)) (x1 (ix2 r P)) (x5 (ix1 j)) (x6 (ix1 j))
theorem res_at (r : Fin 2) (P : Fin 512) (j : Fin 3072) : res x0 x1 x2 x3 x4 x5 x6 (ix3 r P j) = resAt x0 x1 x2 x3 x4 x5 x6 r P j := by
  unfold res resAt
  rw [residR, gt_at]
theorem res_row (r : Fin 2) (P : Fin 512) : (fun k => res x0 x1 x2 x3 x4 x5 x6 (ix3 r P k)) = fun k => resAt x0 x1 x2 x3 x4 x5 x6 r P k :=
  funext fun k => res_at x0 x1 x2 x3 x4 x5 x6 r P k
theorem sh_row (r : Fin 2) : (fun k => sh x3 (ix2 r k)) = fun k => x3 (ix2 r ⟨9216 + k.val, by omega⟩) := funext fun k => sh_at x3 r k
theorem sc_row (r : Fin 2) : (fun k => sc x3 (ix2 r k)) = fun k => x3 (ix2 r ⟨12288 + k.val, by omega⟩) := funext fun k => sc_at x3 r k

theorem q7 : k0_pay7 (View.ld x3 r0_0) (View.ld x0 r0_3) (View.ld x1 r0_4) (View.ld x4 r0_5) (View.ld x5 r0_6) (View.ld x6 r0_6) (View.ld x2 r0_7) = res x0 x1 x2 x3 x4 x5 x6 := by
  unfold res gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q12 : k0_pay12 x0 x1 x2 x3 x4 x5 x6 = k0_pay8 (gt x3) x0 x1 x4 x5 x6 x2 := by
  unfold k0_pay12 gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q13 : k0_pay13 x0 x1 x2 x3 x4 x5 x6 = k0_pay9 (gt x3) x0 x1 x4 x5 x6 x2 := by
  unfold k0_pay13 gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q10 : k0_pay10 x0 x1 x2 x3 x4 x5 x6 = k0_pay5 (sh x3) := by unfold k0_pay10 sh; rfl
theorem q11 : k0_pay11 x0 x1 x2 x3 x4 x5 x6 = k0_pay6 (sc x3) := by unfold k0_pay11 sc; rfl

theorem out7_at (R : Fin 1024) (k : Fin 3072) : out0_7 x0 x1 x2 x3 x4 x5 x6 (ix2 R k) = resAt x0 x1 x2 x3 x4 x5 x6 ⟨R.val / 512, by omega⟩ ⟨R.val % 512, by omega⟩ k := by
  unfold out0_7
  rw [View.canon_unit_zero hz2, q7, flatR, res_at]
theorem out8_at (R : Fin 1024) (k : Fin 3072) : out0_8 x0 x1 x2 x3 x4 x5 x6 (ix2 R k)
    = rowCode (fun k => resAt x0 x1 x2 x3 x4 x5 x6 ⟨R.val / 512, by omega⟩ ⟨R.val % 512, by omega⟩ k) (fun k => x3 (ix2 ⟨R.val / 512, by omega⟩ ⟨9216 + k.val, by omega⟩))
        (fun k => x3 (ix2 ⟨R.val / 512, by omega⟩ ⟨12288 + k.val, by omega⟩)) k := by
  unfold out0_8
  rw [View.canon_unit_zero hz2, q10, q11, q12, q13]
  refine (rowCodeR (gt x3) x0 x1 x4 x5 x6 x2 (sh x3) (sc x3) R k).trans ?_
  rw [← sh_row, ← sc_row, ← res_row]
  unfold res
  rfl
theorem out9_at (r : Fin 2) (P : Fin 512) : out0_9 x0 x1 x2 x3 x4 x5 x6 (ix2 r P)
    = rowScale (fun k => resAt x0 x1 x2 x3 x4 x5 x6 r P k) (fun k => x3 (ix2 r ⟨9216 + k.val, by omega⟩)) (fun k => x3 (ix2 r ⟨12288 + k.val, by omega⟩)) := by
  unfold out0_9
  rw [View.canon_unit_zero hz2, q10, q11, q12, q13]
  refine (rowScaleR (gt x3) x0 x1 x4 x5 x6 x2 (sh x3) (sc x3) r P).trans ?_
  rw [← sh_row, ← sc_row, ← res_row]
  unfold res
  rfl
end Points

end Cert.ProjTRefIdeal.Hand

end
-- ==== Proof.ProjTValue.lean ====
/- The value of the text stream's attention projection kernel over the extended reals: its three results are the reference's. -/
module

public import proofs.«01_k».proof.Defs
public import proofs.«01_k».proof.Proof.ProjTFrame
public import proofs.«01_k».proof.Proof.ProjTPay
public import proofs.«01_k».proof.Proof.ProjTRefValue
public import Idealize.ShloMosaic.Lib.Pipeline.ArrRel
public import Idealize.ShloMosaic.Lib.Pipeline.ValueKit.Geometry
public import Idealize.ShloMosaic.Lib.Pipeline.ValueKit.Basic
public import Idealize.ShloMosaic.Lib.Pointwise
public import Idealize.ShloMosaic.Lib.Claim

@[expose] public section

set_option maxRecDepth 16384

noncomputable section

namespace Cert.ProjTIdeal.Hand

open Cert.ProjTIdeal Cert.ProjTIdeal.Gen Cert.ProjTPay Cert.Loops
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S1024x3072 .i8 := m ((c.tc : Thread nD τ).loc main_arg0)
abbrev x1 : Vec F S2x512 .f32 := m ((c.tc : Thread nD τ).loc main_arg1)
abbrev x2 : Vec F S2x512x3072 .bf16 := m ((c.tc : Thread nD τ).loc main_arg2)
abbrev x3 : Vec F S2x18432 .f32 := m ((c.tc : Thread nD τ).loc main_arg3)
abbrev x4 : Vec F S3072x3072 .i8 := m ((c.tc : Thread nD τ).loc main_arg4)
abbrev x5 : Vec F S3072 .f32 := m ((c.tc : Thread nD τ).loc main_arg5)
abbrev x6 : Vec F S3072 .f32 := m ((c.tc : Thread nD τ).loc main_arg6)

/-! Where each block lies. -/

theorem wx0 : ∀ t : Fin cfg0.N, win0_0.index t = ![t.val / 6, 0] := by decide +kernel
theorem wx1 : ∀ t : Fin cfg0.N, win0_1.index t = ![0, 0] := by decide +kernel
theorem wx2 : ∀ t : Fin cfg0.N, win0_2.index t = ![t.val / 6, t.val % 6] := by decide +kernel
theorem wx3 : ∀ t : Fin cfg0.N, win0_3.index t = ![0, 12 + t.val % 6] := by decide +kernel
theorem wx4 : ∀ t : Fin cfg0.N, win0_4.index t = ![0, 3] := by decide +kernel
theorem wx5 : ∀ t : Fin cfg0.N, win0_5.index t = ![0, 4] := by decide +kernel
theorem wx6 : ∀ t : Fin cfg0.N, win0_6.index t = ![0, t.val % 6] := by decide +kernel
theorem wx7 : ∀ t : Fin cfg0.N, win0_7.index t = ![0, t.val % 6] := by decide +kernel
theorem wx8 : ∀ t : Fin cfg0.N, win0_8.index t = ![0, t.val % 6] := by decide +kernel
theorem wx9 : ∀ t : Fin cfg0.N, win0_9.index t = ![t.val / 6, 0] := by decide +kernel
theorem wx10 : ∀ t : Fin cfg0.N, win0_10.index t = ![t.val / 6, 0] := by decide +kernel
theorem wx11 : ∀ t : Fin cfg0.N, win0_11.index t = ![0, 0] := by decide +kernel

/-- When each output leaves. -/
theorem flush9 (t : Fin cfg0.N) (h : (cfg0.win 9).flush t = true) : t.val % 6 = 5 := (flush0_9 t).mp h
theorem flush10 (t : Fin cfg0.N) (h : (cfg0.win 10).flush t = true) : t.val % 6 = 5 := (flush0_10 t).mp h
theorem flush11 : ∀ t : Fin cfg0.N, (cfg0.win 11).flush t = true → t.val = 11 := by decide +kernel

/-- A token of the batch element `r`, and column `j` of the tile at `t`. -/
def row (r : Fin 2) (p : Fin 512) : Fin 1024 := ⟨r.val * 512 + p.val, by omega⟩
def col (t : Fin cfg0.N) (j : Fin 512) : Fin 3072 := ⟨t.val % 6 * 512 + j.val, by omega⟩
theorem row_div (r : Fin 2) (p : Fin 512) (h : (row r p).val / 512 < 2) : (⟨(row r p).val / 512, h⟩ : Fin 2) = r :=
  Fin.ext (by show (r.val * 512 + p.val) / 512 = r.val; omega)
theorem row_mod (r : Fin 2) (p : Fin 512) (h : (row r p).val % 512 < 512) : (⟨(row r p).val % 512, h⟩ : Fin 512) = p :=
  Fin.ext (by show (r.val * 512 + p.val) % 512 = p.val; omega)

theorem V0 : (V m c main_v0 : Vec F S1024x3072 .bf16) = shapeCast S1024x3072 (x2 m c) shapeCasts_S2x512x3072_S1024x3072 := by
  entry_read; rfl
theorem V1 : (V m c main_v1 : Vec F S1x3072 .f32) = shapeCast S1x3072 (x5 m c) shapeCasts_S3072_S1x3072 := by
  entry_read; rfl
theorem V2 : (V m c main_v2 : Vec F S1x3072 .f32) = shapeCast S1x3072 (x6 m c) shapeCasts_S3072_S1x3072 := by
  entry_read; rfl

theorem blk0 (t : Fin cfg0.N) (p : Fin 512) (k : Fin 3072) :
    (iblk m c 0 t : Vec F S512x3072 .i8) (ix2 p k) = x0 m c (ix2 (row (rT t) p) k) := by
  blk_simp [iblk]; rw [V_main_arg0]
  refine congrArg (x0 m c) ?_
  blk_ext [wx0]
  show t.val / 6 * 512 + p.val = (grid0.coords t 0).val * 512 + p.val
  rw [c0]
theorem blk1 (t : Fin cfg0.N) (r : Fin 2) (k : Fin 512) : (iblk m c 1 t : Vec F S2x512 .f32) (ix2 r k) = x1 m c (ix2 r k) := by
  blk_simp [iblk]; rw [V_main_arg1]; exact congrArg (x1 m c) (by blk_ext [wx1])
theorem blk2 (t : Fin cfg0.N) (p j : Fin 512) :
    (iblk m c 2 t : Vec F S512x512 .bf16) (ix2 p j) = x2 m c (ix3 (rT t) p (col t j)) := by
  have e : (iblk m c 2 t : Vec F S512x512 .bf16) (ix2 p j) = (V m c main_v0 : Vec F S1024x3072 .bf16) (ix2 (row (rT t) p) (col t j)) := by
    blk_simp [iblk]
    refine congrArg (V m c main_v0) ?_
    blk_ext [wx2]
    · show t.val / 6 * 512 + p.val = (grid0.coords t 0).val * 512 + p.val
      rw [c0]
    · rfl
  have e' : ∀ k : Fin 3072, shapeCast S1024x3072 (x2 m c) shapeCasts_S2x512x3072_S1024x3072 (ix2 (row (rT t) p) k) = x2 m c (ix3 ⟨(row (rT t) p).val / 512, by omega⟩ ⟨(row (rT t) p).val % 512, by omega⟩ k) := by
    intro k
    pointwise
  rw [e, V0, e', row_div, row_mod]
theorem blk3 (t : Fin cfg0.N) (r : Fin 2) (j : Fin 512) :
    (iblk m c 3 t : Vec F S2x512 .f32) (ix2 r j) = x3 m c (ix2 r ⟨6144 + (col t j).val, by omega⟩) := by
  blk_simp [iblk]; rw [V_main_arg3]
  refine congrArg (x3 m c) ?_
  blk_ext [wx3]
  show (12 + t.val % 6) * 512 + j.val = 6144 + (t.val % 6 * 512 + j.val)
  omega
theorem blk4 (t : Fin cfg0.N) (r : Fin 2) (k : Fin 3072) :
    (iblk m c 4 t : Vec F S2x3072 .f32) (ix2 r k) = x3 m c (ix2 r ⟨9216 + k.val, by omega⟩) := by
  blk_simp [iblk]; rw [V_main_arg3]; exact congrArg (x3 m c) (by blk_ext [wx4])
theorem blk5 (t : Fin cfg0.N) (r : Fin 2) (k : Fin 3072) :
    (iblk m c 5 t : Vec F S2x3072 .f32) (ix2 r k) = x3 m c (ix2 r ⟨12288 + k.val, by omega⟩) := by
  blk_simp [iblk]; rw [V_main_arg3]; exact congrArg (x3 m c) (by blk_ext [wx5])
theorem blk6 (t : Fin cfg0.N) (k : Fin 3072) (j : Fin 512) :
    (iblk m c 6 t : Vec F S3072x512 .i8) (ix2 k j) = x4 m c (ix2 k (col t j)) := by
  blk_simp [iblk]; rw [V_main_arg4]; exact congrArg (x4 m c) (by blk_ext [wx6]; rfl)
theorem blk7 (t : Fin cfg0.N) (j : Fin 512) : (iblk m c 7 t : Vec F S1x512 .f32) (ix2 0 j) = x5 m c (ix1 (col t j)) := by
  have e : (iblk m c 7 t : Vec F S1x512 .f32) (ix2 0 j) = (V m c main_v1 : Vec F S1x3072 .f32) (ix2 0 (col t j)) := by
    blk_simp [iblk]; exact congrArg (V m c main_v1) (by blk_ext [wx7]; rfl)
  rw [e, V1]; pointwise
theorem blk8 (t : Fin cfg0.N) (j : Fin 512) : (iblk m c 8 t : Vec F S1x512 .f32) (ix2 0 j) = x6 m c (ix1 (col t j)) := by
  have e : (iblk m c 8 t : Vec F S1x512 .f32) (ix2 0 j) = (V m c main_v2 : Vec F S1x3072 .f32) (ix2 0 (col t j)) := by
    blk_simp [iblk]; exact congrArg (V m c main_v2) (by blk_ext [wx8]; rfl)
  rw [e, V2]; pointwise

theorem chunk_at (x : Vec F S512x3072 .f32) (a : Fin 512) (b : Fin 3072) : xchunk x (kof a) (ix2 (pof a) b) = x (ix2 a b) := by
  show x (ix2 ⟨32 * (a.val / 32) + a.val % 32, _⟩ b) = x (ix2 a b)
  exact congrArg (fun z => x (ix2 z b)) (Fin.ext (by show 32 * (a.val / 32) + a.val % 32 = a.val; omega))
theorem mrow_at (X : Vec F S2x3072 .f32) (r : Fin 2) (b : Fin 3072) : mrow X r (ix2 0 b) = X (ix2 r b) :=
  congrArg (fun z => X (ix2 z b)) (Fin.ext (by show r.val + 0 = r.val; omega))
theorem grow_at (X : Vec F S2x512 .f32) (r : Fin 2) (b : Fin 512) : grow X r (ix2 0 b) = X (ix2 r b) :=
  congrArg (fun z => X (ix2 z b)) (Fin.ext (by show r.val + 0 = r.val; omega))
theorem scol_at (X : Vec F S512x128 .f32) (p : Fin 512) : scol X (ix2 p 0) = X (ix2 p 0) := by
  unfold scol View.ld
  congr 1
  funext a
  apply Fin.ext
  fin_cases a
  · show 0 + 1 * p.val = p.val
    omega
  · rfl
theorem rT_ptc (r : Fin 2) (b : Fin 3072) : rT (ptc r b) = r :=
  Fin.ext (by show (grid0.coords (ptc r b) 0).val = r.val; rw [c0]; show (6 * r.val + b.val / 512) / 6 = r.val; omega)
theorem col_ptc (r : Fin 2) (b : Fin 3072) (h : b.val % 512 < 512) : col (ptc r b) ⟨b.val % 512, h⟩ = b :=
  Fin.ext (by show (6 * r.val + b.val / 512) % 6 * 512 + b.val % 512 = b.val; omega)
end Any

variable (m : (ℓ : Loc nD τ sig) → Buf (Elt Ideal) ℓ) (ρ : Dev nD → PrngReg) (c : Dev nD)

/-! The three results as the reference states them. -/

def val9 : Vec Ideal S1024x3072 .f32 := Cert.ProjTRefIdeal.Gen.out0_7 (F := Ideal) (x0 m c) (x1 m c) (x2 m c) (x3 m c) (x4 m c) (x5 m c) (x6 m c)
def val10 : Vec Ideal S1024x3072 .i8 := Cert.ProjTRefIdeal.Gen.out0_8 (F := Ideal) (x0 m c) (x1 m c) (x2 m c) (x3 m c) (x4 m c) (x5 m c) (x6 m c)
def val11 : Vec Ideal S2x512 .f32 := Cert.ProjTRefIdeal.Gen.out0_9 (F := Ideal) (x0 m c) (x1 m c) (x2 m c) (x3 m c) (x4 m c) (x5 m c) (x6 m c)

/-- A residual row, and a batch element's shift and scale. -/
def rowF (r : Fin 2) (a : Fin 512) (k : Fin 3072) : EReal := Cert.ProjTRefIdeal.Hand.resAt (x0 m c) (x1 m c) (x2 m c) (x3 m c) (x4 m c) (x5 m c) (x6 m c) r a k
def rowSh (r : Fin 2) (k : Fin 3072) : EReal := x3 m c (ix2 r ⟨9216 + k.val, by omega⟩)
def rowSc (r : Fin 2) (k : Fin 3072) : EReal := x3 m c (ix2 r ⟨12288 + k.val, by omega⟩)

theorem inR_at (r : Fin 2) (p : Fin 512) : inR m c r (ix2 p 0) = x1 m c (ix2 r p) := by
  unfold inR
  exact (fill_k _ p 0).trans ((grow_at _ r p).trans (blk1 m c _ r p))

theorem tileT_at (t : Fin cfg0.N) (p j : Fin 512) : tileT m c t (ix2 p j) = rowF m c (rT t) p (col t j) := by
  unfold tileT tileS
  refine (residK _ _ _ _ _ _ _ p j).trans ?_
  have e : scol (inR m c (rT t)) (ix2 p 0) = x1 m c (ix2 (rT t) p) := (scol_at _ p).trans (inR_at m c _ p)
  have eg : grow (iblk m c 3 t) (rT t) (ix2 0 j) = x3 m c (ix2 (rT t) ⟨6144 + (col t j).val, by omega⟩) := (grow_at _ _ j).trans (blk3 m c t _ j)
  rw [e, eg]
  simp only [blk0, blk2, blk6, blk7, blk8]
  rfl

/-! What the kernel keeps of a batch element. -/

theorem x1R_at (r : Fin 2) (a : Fin 512) (b : Fin 3072) : x1R m c r (ix2 a b) = rowF m c r a b := by
  unfold x1R
  refine (tileT_at m c (ptc r b) a ⟨b.val % 512, by omega⟩).trans ?_
  rw [rT_ptc, col_ptc]
theorem hv (r : Fin 2) (a : Fin 512) (b : Fin 3072) : xchunk (x1R m c r) (kof a) (ix2 (pof a) b) = rowF m c r a b :=
  (chunk_at _ a b).trans (x1R_at m c r a b)
theorem hs (r : Fin 2) (b : Fin 3072) : mrow (iblk m c 4 (pt r)) r (ix2 0 b) = rowSh m c r b :=
  (mrow_at _ r b).trans (blk4 m c _ r b)
theorem hg (r : Fin 2) (b : Fin 3072) : mrow (iblk m c 5 (pt r)) r (ix2 0 b) = rowSc m c r b :=
  (mrow_at _ r b).trans (blk5 m c _ r b)

theorem codesR_at (r : Fin 2) (a : Fin 512) (b : Fin 3072) : codesR m c r (ix2 a b) = rowCode (rowF m c r a) (rowSh m c r) (rowSc m c r) b :=
  codeK _ _ _ _ _ _ (pof a) (hv m c r a) (hs m c r) (hg m c r) b
theorem rowR_at (r : Fin 2) (a : Fin 512) : rowR m c r (ix2 0 a) = rowScale (rowF m c r a) (rowSh m c r) (rowSc m c r) :=
  (flip_k _ a).trans ((spread_k _ (pof a) 0).trans (scaleK _ _ _ _ _ _ (pof a) (hv m c r a) (hs m c r) (hg m c r) 0))

/-- Every array after the run. -/
theorem finals {r} (h : RDat.FramePost (cfgs 0) (rdat m) (V m) r) :
    r.2.mem ((c.tc : Thread nD τ).loc main_v3_0) = val9 m c
      ∧ r.2.mem ((c.tc : Thread nD τ).loc main_v3_1) = val10 m c
      ∧ r.2.mem ((c.tc : Thread nD τ).loc main_v3_2) = val11 m c := by
  obtain ⟨after, hL, hA⟩ := RDat.FramePost.exists_exact h c
  refine ⟨(hA 9).trans ?_, (hA 10).trans ?_, (hA 11).trans ?_⟩
  · refine ((rdat m c).withAfter after).arrAt_eq_of_covers 9 (val9 m c) (by decide +kernel) fun t hf y => ?_
    obtain ⟨_, _, e⟩ := hL 9 t hf
    have e' : ∀ y : S512x3072.Idx, (y 1).val < 512 * (t.val % 6 + 1) → (after 9 t : Vec Ideal S512x3072 .f32) y = x1R m c (rT t) y := e
    rw [RDat.withAfter_after]
    have ht := flush9 t hf
    blk_simp
    obtain ⟨a, n, rfl⟩ : ∃ (a : Fin 512) (n : Fin 3072), y = ix2 a n := ⟨_, _, eq_ix2 y⟩
    have e8 : val9 m c (ix2 (row (rT t) a) n) = _ := Cert.ProjTRefIdeal.Hand.out7_at (x0 m c) (x1 m c) (x2 m c) (x3 m c) (x4 m c) (x5 m c) (x6 m c) (row (rT t) a) n
    rw [row_div, row_mod] at e8
    refine (((e' (ix2 a n) (by show n.val < _; omega)).trans (x1R_at m c (rT t) a n)).trans e8.symm).trans (congrArg (val9 m c) ?_)
    blk_ext [wx9]
    show (grid0.coords t 0).val * 512 + a.val = t.val / 6 * 512 + a.val
    rw [c0]
  · refine ((rdat m c).withAfter after).arrAt_eq_of_covers 10 (val10 m c) (by decide +kernel) fun t hf y => ?_
    obtain ⟨_, _, e⟩ := hL 10 t hf
    have e' : t.val % 6 = 5 → after 10 t = codesR m c (rT t) := e
    rw [RDat.withAfter_after, e' (flush10 t hf)]
    blk_simp
    obtain ⟨a, n, rfl⟩ : ∃ (a : Fin 512) (n : Fin 3072), y = ix2 a n := ⟨_, _, eq_ix2 y⟩
    have e8 : val10 m c (ix2 (row (rT t) a) n) = _ := Cert.ProjTRefIdeal.Hand.out8_at (x0 m c) (x1 m c) (x2 m c) (x3 m c) (x4 m c) (x5 m c) (x6 m c) (row (rT t) a) n
    rw [row_div, row_mod] at e8
    refine ((codesR_at m c (rT t) a n).trans e8.symm).trans (congrArg (val10 m c) ?_)
    blk_ext [wx10]
    show (grid0.coords t 0).val * 512 + a.val = t.val / 6 * 512 + a.val
    rw [c0]
  · refine ((rdat m c).withAfter after).arrAt_eq_of_covers 11 (val11 m c) (by decide +kernel) fun t hf y => ?_
    obtain ⟨_, _, e⟩ := hL 11 t hf
    have e' : ∀ r : Fin 2, 6 * r.val + 5 ≤ t.val → ∀ b : Fin 512, (after 11 t : Vec Ideal S2x512 .f32) (ix2 r b) = rowR m c r (ix2 0 b) := e
    rw [RDat.withAfter_after]
    have ht := flush11 t hf
    blk_simp
    obtain ⟨a, n, rfl⟩ : ∃ (a : Fin 2) (n : Fin 512), y = ix2 a n := ⟨_, _, eq_ix2 y⟩
    refine ((e' a (by omega) n).trans ((rowR_at m c a n).trans (Cert.ProjTRefIdeal.Hand.out9_at (x0 m c) (x1 m c) (x2 m c) (x3 m c) (x4 m c) (x5 m c) (x6 m c) a n).symm)).trans (congrArg (val11 m c) ?_)
    blk_ext [wx11]

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v3_0) = val9 m c
      ∧ r.2.mem ((c.tc : Thread nD τ).loc main_v3_1) = val10 m c
      ∧ r.2.mem ((c.tc : Thread nD τ).loc main_v3_2) = val11 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨(finals m c h.1).1, (finals m c h.1).2.1, (finals m c h.1).2.2, args_of m h.1 c⟩) (run_main_quiescent m ρ)

end Cert.ProjTIdeal.Hand

namespace Cert.ProjTPay
open Idealize.ShloMosaic Idealize.ShloMosaic.TcCoe Idealize.SL.Sem

/-- The kernel and the reference end with the same three results. -/
theorem algebraic [hK : Cert.ProjTIdeal.Facts] [hR : Cert.ProjTRefIdeal.Facts] : Cert.algebraic_ProjTIdeal_ProjTRefIdeal := by
  intro m g m' g' _ hag
  refine ⟨fun c => Cert.ProjTIdeal.Hand.val9 m c, fun c => Cert.ProjTIdeal.Hand.val10 m c, fun c => Cert.ProjTIdeal.Hand.val11 m c, ?_, ?_⟩
  · exact Cert.ProjTIdeal.Hand.run m g
  · refine (θ_run _ _ _).mono (fun r h c => ?_) (Cert.ProjTRefIdeal.Hand.run m' g')
    obtain ⟨h0, h1, h2, h3, h4, h5, h6⟩ := hag c
    have g0 : Cert.ProjTRefIdeal.Hand.a0 m' c = Cert.ProjTIdeal.Hand.x0 m c := h0
    have g1 : Cert.ProjTRefIdeal.Hand.a1 m' c = Cert.ProjTIdeal.Hand.x1 m c := h1
    have g2 : Cert.ProjTRefIdeal.Hand.a2 m' c = Cert.ProjTIdeal.Hand.x2 m c := h2
    have g3 : Cert.ProjTRefIdeal.Hand.a3 m' c = Cert.ProjTIdeal.Hand.x3 m c := h3
    have g4 : Cert.ProjTRefIdeal.Hand.a4 m' c = Cert.ProjTIdeal.Hand.x4 m c := h4
    have g5 : Cert.ProjTRefIdeal.Hand.a5 m' c = Cert.ProjTIdeal.Hand.x5 m c := h5
    have g6 : Cert.ProjTRefIdeal.Hand.a6 m' c = Cert.ProjTIdeal.Hand.x6 m c := h6
    refine ⟨(h c).1.trans ?_, (h c).2.1.trans ?_, (h c).2.2.1.trans ?_, (h c).2.2.2⟩
    · show Cert.ProjTRefIdeal.Gen.out0_7 _ _ _ _ _ _ _ = Cert.ProjTRefIdeal.Gen.out0_7 _ _ _ _ _ _ _
      rw [g0, g1, g2, g3, g4, g5, g6]
    · show Cert.ProjTRefIdeal.Gen.out0_8 _ _ _ _ _ _ _ = Cert.ProjTRefIdeal.Gen.out0_8 _ _ _ _ _ _ _
      rw [g0, g1, g2, g3, g4, g5, g6]
    · show Cert.ProjTRefIdeal.Gen.out0_9 _ _ _ _ _ _ _ = Cert.ProjTRefIdeal.Gen.out0_9 _ _ _ _ _ _ _
      rw [g0, g1, g2, g3, g4, g5, g6]

end Cert.ProjTPay

end
-- ==== Proof.ProjILoop.lean ====
/- The quantising loops, one for each batch element, of the image stream's attention projection call, at any float type: what their trips store, as closed forms of
   the rows of the codes and of their scales. -/
module

public import proofs.«01_k».proof.Proof.Gen.ProjIIdeal.Frame
public import proofs.«01_k».proof.Proof.Gen.ProjIIdeal.Loops
public import proofs.«01_k».proof.Proof.Gen.ProjIIdeal.Skeleton
public import proofs.«01_k».proof.Proof.Loops
public import Idealize.ShloMosaic.Lib.Pointwise
public import Idealize.ShloMosaic.Lib.Pipeline.ArrRel
public import Idealize.ShloMosaic.Lib.Claim

@[expose] public section

set_option maxRecDepth 16384

noncomputable section

namespace Cert.ProjIIdeal.Hand

open Cert.ProjIIdeal Cert.ProjIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

/-- A zero start in two coordinates. -/
theorem hz2 : (![0, 0] : Fin 2 → Nat) = fun _ => 0 := funext fun a => by fin_cases a <;> rfl

/-- A load of a whole two-dimensional buffer reads its contents. -/
theorem ld2 {n k : Nat} {e : EltTy} (inb : ∀ a, (![0, 0] : Fin 2 → Nat) a + (![n, k] : Fin 2 → Nat) a ≤ (![n, k] : Fin 2 → Nat) a)
    (X : (⟨2, ![n, k]⟩ : Shape).Idx → Elt F e) : View.ld X (Rect.unit (s := ⟨2, ![n, k]⟩) ![0, 0] ![n, k] inb) = X :=
  View.ld_unit_zero (S := ⟨2, ![n, k]⟩) hz2 inb X

/-- Chunks from equal rows are equal. -/
theorem chunk_congr {α : Type*} {R C c : ℕ} (x : (⟨2, ![R, C]⟩ : Shape).Idx → α) {o o' : ℕ} (h : o + c ≤ R) (h' : o' + c ≤ R) (e : o = o') :
    chunk x o h = chunk x o' h' := by subst e; rfl

/-- One row of the modulation. -/
abbrev mrow (X : Vec F S2x3072 .f32) (r : Fin 2) : Vec F S1x3072 .f32 := chunk (R := 2) (C := 3072) (c := 1) X r.val (by omega)

/-- Chunk `k` of the rows. -/
abbrev xchunk (x : Vec F S512x3072 .f32) (k : Fin 16) : Vec F S32x3072 .f32 :=
  chunk (R := 512) (C := 3072) (c := 32) x (32 * k.val) (by omega)

/-- The chunk that holds a row. -/
abbrev kof (a : Fin 512) : Fin 16 := ⟨a.val / 32, by omega⟩
/-- Its place in that chunk. -/
abbrev pof (a : Fin 512) : Fin 32 := ⟨a.val % 32, by omega⟩
/-- The batch element of a chunk. -/
abbrev sof (k : Fin 16) : Fin 2 := ⟨k.val / 8, by omega⟩

/-- The codes of all the rows: each chunk normalised, modulated and quantised on its own. -/
def codesS (x : Vec F S512x3072 .f32) (sh sc : Vec F S2x3072 .f32) : Vec F S512x3072 .i8 :=
  fun y => k0_pay10 (mrow sh (sof (kof (y 0)))) (k0_pay2 (mrow sc (sof (kof (y 0))))) (xchunk x (kof (y 0))) (ix2 (pof (y 0)) (y 1))

/-- The scales of all the rows, each across its row. -/
def srowS (x : Vec F S512x3072 .f32) (sh sc : Vec F S2x3072 .f32) : Vec F S512x128 .f32 :=
  fun y => k0_pay3 (k0_pay9 (mrow sh (sof (kof (y 0)))) (k0_pay2 (mrow sc (sof (kof (y 0))))) (xchunk x (kof (y 0)))) (ix2 (pof (y 0)) (y 1))

theorem codesS_at (x : Vec F S512x3072 .f32) (sh sc : Vec F S2x3072 .f32) (k : Fin 16) (p : Fin 32) (a : Fin 512) (h : a.val = 32 * k.val + p.val) (b : Fin 3072) :
    codesS x sh sc (ix2 a b) = k0_pay10 (mrow sh (sof k)) (k0_pay2 (mrow sc (sof k))) (xchunk x k) (ix2 p b) := by
  have e1 : kof a = k := Fin.ext (by show a.val / 32 = k.val; omega)
  have e2 : pof a = p := Fin.ext (by show a.val % 32 = p.val; omega)
  show k0_pay10 (mrow sh (sof (kof a))) (k0_pay2 (mrow sc (sof (kof a)))) (xchunk x (kof a)) (ix2 (pof a) b) = _
  rw [e1, e2]

theorem srowS_at (x : Vec F S512x3072 .f32) (sh sc : Vec F S2x3072 .f32) (k : Fin 16) (p : Fin 32) (a : Fin 512) (h : a.val = 32 * k.val + p.val) (b : Fin 128) :
    srowS x sh sc (ix2 a b) = k0_pay3 (k0_pay9 (mrow sh (sof k)) (k0_pay2 (mrow sc (sof k))) (xchunk x k)) (ix2 p b) := by
  have e1 : kof a = k := Fin.ext (by show a.val / 32 = k.val; omega)
  have e2 : pof a = p := Fin.ext (by show a.val % 32 = p.val; omega)
  show k0_pay3 (k0_pay9 (mrow sh (sof (kof a))) (k0_pay2 (mrow sc (sof (kof a)))) (xchunk x (kof a))) (ix2 (pof a) b) = _
  rw [e1, e2]

/-! The second loop computes as the first. -/
theorem pay5_eq : (k0_pay5 : Vec F S1x3072 .f32 → _) = k0_pay2 := rfl
theorem pay6_eq : (k0_pay6 : FVec F S32x1 .f32 → _) = k0_pay3 := rfl
theorem pay7_eq : (k0_pay7 : Vec F S256x128 .f32 → _) = k0_pay4 := rfl
theorem pay11_eq : (k0_pay11 : Vec F S1x3072 .f32 → _) = k0_pay8 := rfl
theorem pay12_eq : (k0_pay12 : Vec F S1x3072 .f32 → _) = k0_pay9 := by
  funext a b d; unfold k0_pay12 k0_pay9; rw [pay11_eq]
theorem pay13_eq : (k0_pay13 : Vec F S1x3072 .f32 → _) = k0_pay10 := by
  funext a b d; unfold k0_pay13 k0_pay10; rw [pay11_eq, pay12_eq]

/-- Two matrices of 256 rows, one above the other. -/
def join {α : Type*} {C : ℕ} (u v : (⟨2, ![256, C]⟩ : Shape).Idx → α) : (⟨2, ![512, C]⟩ : Shape).Idx → α :=
  fun y => if h : (y 0).val < 256 then u (ix2 ⟨(y 0).val, h⟩ (y 1)) else v (ix2 ⟨(y 0).val - 256, Nat.sub_lt_right_of_lt_add (Nat.le_of_not_lt h) (y 0).isLt⟩ (y 1))

theorem join_lo {α : Type*} {C : ℕ} (u v : (⟨2, ![256, C]⟩ : Shape).Idx → α) (a : Fin 512) (b : Fin C) (h : a.val < 256) :
    join u v (ix2 a b) = u (ix2 ⟨a.val, h⟩ b) := dif_pos h
theorem join_hi {α : Type*} {C : ℕ} (u v : (⟨2, ![256, C]⟩ : Shape).Idx → α) (a : Fin 512) (b : Fin C) (h : ¬ a.val < 256) :
    join u v (ix2 a b) = v (ix2 ⟨a.val - 256, by omega⟩ b) := dif_neg h

/-- A tile of 512 columns replaced. -/
def setCols {α : Type*} (j : ℕ) (v : S512x512.Idx → α) (Y : S512x3072.Idx → α) : S512x3072.Idx → α :=
  fun y => if (y 1).val / 512 = j then v (ix2 (y 0) ⟨(y 1).val % 512, Nat.mod_lt _ (by omega)⟩) else Y y

/-- A buffer after the two stores of the halves of one of its tiles. -/
theorem read_setCols {Val : EltTy → Type} {sig : RefSig} {κ : Kind} {sp : Space} {e : EltTy} (v : View sig κ sp S512x3072 e)
    (f : v.ty.Contents Val) (off off' : Fin 2 → ℕ) (j : ℕ) (inb : ∀ a, off a + S256x512.size a ≤ S512x3072.size a)
    (inb' : ∀ a, off' a + S256x512.size a ≤ S512x3072.size a) (ho : off = ![0, 512 * j]) (ho' : off' = ![256, 512 * j])
    (w w' : S256x512.Idx → Val e) (L : List (View.Piece Val S512x3072 e)) :
    v.read Val (v.writes Val f (⟨Rect.unit (s := S512x3072) off' S256x512.size inb', w'⟩ :: ⟨Rect.unit (s := S512x3072) off S256x512.size inb, w⟩ :: L))
      = setCols j (join (C := 512) w w') (v.read Val (v.writes Val f L)) := by
  subst ho ho'
  funext y
  have h0 : (y 0).val < 512 := (y 0).isLt
  unfold setCols
  by_cases h : (y 1).val / 512 = j
  · rw [if_pos h]
    by_cases h2 : (y 0).val < 256
    · refine Eq.trans ?_ (join_lo w w' (y 0) ⟨(y 1).val % 512, Nat.mod_lt _ (by omega)⟩ h2).symm
      refine (View.read_writes_cons_miss v f _ _ y (Rect.not_mem_set_of_axis _ y (0 : Fin 2) 256 256 rfl rfl rfl (Or.inl h2))).trans ?_
      refine View.read_writes_cons_hit_of_coords v f (Rect.unit (s := S512x3072) ![0, 512 * j] S256x512.size inb) w L
        (show S256x512.Idx from ix2 ⟨(y 0).val, h2⟩ ⟨(y 1).val % 512, Nat.mod_lt _ (by omega)⟩) y fun a => ?_
      fin_cases a
      · show (y 0).val = 0 + 1 * (y 0).val
        omega
      · show (y 1).val = 512 * j + 1 * ((y 1).val % 512)
        omega
    · refine Eq.trans ?_ (join_hi w w' (y 0) ⟨(y 1).val % 512, Nat.mod_lt _ (by omega)⟩ h2).symm
      refine View.read_writes_cons_hit_of_coords v f (Rect.unit (s := S512x3072) ![256, 512 * j] S256x512.size inb') w' _
        (show S256x512.Idx from ix2 ⟨(y 0).val - 256, by omega⟩ ⟨(y 1).val % 512, Nat.mod_lt _ (by omega)⟩) y fun a => ?_
      fin_cases a
      · show (y 0).val = 256 + 1 * ((y 0).val - 256)
        omega
      · show (y 1).val = 512 * j + 1 * ((y 1).val % 512)
        omega
  · rw [if_neg h]
    refine (View.read_writes_cons_miss v f _ _ y (Rect.not_mem_set_of_axis _ y (1 : Fin 2) (512 * j) 512 rfl rfl rfl (by omega))).trans ?_
    exact View.read_writes_cons_miss v f _ L y (Rect.not_mem_set_of_axis _ y (1 : Fin 2) (512 * j) 512 rfl rfl rfl (by omega))

/-- A buffer after the two stores of its halves. -/
theorem read_join {Val : EltTy → Type} {sig : RefSig} {κ : Kind} {sp : Space} {e : EltTy} (v : View sig κ sp S512x128 e)
    (f : v.ty.Contents Val) (inb : ∀ a, (![0, 0] : Fin 2 → ℕ) a + S256x128.size a ≤ S512x128.size a)
    (inb' : ∀ a, (![256, 0] : Fin 2 → ℕ) a + S256x128.size a ≤ S512x128.size a)
    (w w' : S256x128.Idx → Val e) (L : List (View.Piece Val S512x128 e)) :
    v.read Val (v.writes Val f (⟨Rect.unit (s := S512x128) ![256, 0] S256x128.size inb', w'⟩ :: ⟨Rect.unit (s := S512x128) ![0, 0] S256x128.size inb, w⟩ :: L))
      = join (C := 128) w w' := by
  funext y
  have h0 : (y 0).val < 512 := (y 0).isLt
  by_cases h2 : (y 0).val < 256
  · refine Eq.trans ?_ ((congrArg (join w w') (eq_ix2 (n0 := 512) (n1 := 128) y)).trans (join_lo w w' (y 0) (y 1) h2)).symm
    refine (View.read_writes_cons_miss v f _ _ y (Rect.not_mem_set_of_axis _ y (0 : Fin 2) 256 256 rfl rfl rfl (Or.inl h2))).trans ?_
    refine View.read_writes_cons_hit_of_coords v f (Rect.unit (s := S512x128) ![0, 0] S256x128.size inb) w L
      (show S256x128.Idx from ix2 ⟨(y 0).val, h2⟩ (y 1)) y fun a => ?_
    fin_cases a
    · show (y 0).val = 0 + 1 * (y 0).val
      omega
    · show (y 1).val = 0 + 1 * (y 1).val
      omega
  · refine Eq.trans ?_ ((congrArg (join w w') (eq_ix2 (n0 := 512) (n1 := 128) y)).trans (join_hi w w' (y 0) (y 1) h2)).symm
    refine View.read_writes_cons_hit_of_coords v f (Rect.unit (s := S512x128) ![256, 0] S256x128.size inb') w' _
      (show S256x128.Idx from ix2 ⟨(y 0).val - 256, by omega⟩ (y 1)) y fun a => ?_
    fin_cases a
    · show (y 0).val = 256 + 1 * ((y 0).val - 256)
      omega
    · show (y 1).val = 0 + 1 * (y 1).val
      omega

section
variable (c : Dev nD) (i : grid0.Coords) (arg2 : Memref sig .tc .vmem S512x3072 .i8) (harg2 : arg2.IsWhole) (arg3 : Memref sig .tc .vmem S2x256 .f32) (harg3 : arg3.IsWhole) (arg4 : Memref sig .tc .vmem S512x512 .bf16) (harg4 : arg4.IsWhole) (arg5 : Memref sig .tc .vmem S2x512 .f32) (harg5 : arg5.IsWhole) (arg6 : Memref sig .tc .vmem S2x3072 .f32) (harg6 : arg6.IsWhole) (arg7 : Memref sig .tc .vmem S2x3072 .f32) (harg7 : arg7.IsWhole) (arg8 : Memref sig .tc .vmem S3072x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S512x3072 .f32) (harg11 : arg11.IsWhole) (arg12 : Memref sig .tc .vmem S512x3072 .i8) (harg12 : arg12.IsWhole) (arg13 : Memref sig .tc .vmem S2x256 .f32) (harg13 : arg13.IsWhole) (arg14 : Memref sig .tc .vmem S512x128 .f32) (harg14 : arg14.IsWhole) (k0_h2 : k0_cond2 i = 1#1) (sh sc : Vec F S2x3072 .f32) (X_arg11 : BufTy.Contents (Elt F) arg11.view.ty)

/-- The stores after the first trips of a loop. -/
local notation "𝕡₁" => pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14
/-- The stores after the first trips of the second loop. -/
local notation "𝕡₂" => pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14

/-- Trip `k`'s store of codes in the first loop. -/
abbrev pieceC1 (v29 v31 : Vec F S1x3072 .f32) (k : Fin k0_t1_loop.trips) : View.Piece (Elt F) S512x3072 .i8 :=
  ⟨Rect.unit (s := S512x3072) (k0_off6 k) S32x3072.size (k0_off6_inb i k k0_h2), k0_pay10 v29 (k0_pay2 v31) (arg11.view.readAt (Elt F) (Rect.unit (s := S512x3072) (k0_off6 k) S32x3072.size (k0_off6_inb i k k0_h2)).toLoadRect X_arg11)⟩
/-- Trip `k`'s store of scales in the first loop. -/
abbrev pieceS1 (v29 v31 : Vec F S1x3072 .f32) (k : Fin k0_t1_loop.trips) : View.Piece (Elt F) S512x128 .f32 :=
  ⟨Rect.unit (s := S512x128) (k0_off7 k) S32x128.size (k0_off7_inb i k k0_h2), k0_pay3 (k0_pay9 v29 (k0_pay2 v31) (arg11.view.readAt (Elt F) (Rect.unit (s := S512x3072) (k0_off6 k) S32x3072.size (k0_off6_inb i k k0_h2)).toLoadRect X_arg11))⟩

theorem tripL1_eq (v29 v31 : Vec F S1x3072 .f32) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 k0_h2 v29 v31 X_arg11 k
      = ([pieceC1 i arg11 k0_h2 X_arg11 v29 v31 k], [pieceS1 i arg11 k0_h2 X_arg11 v29 v31 k]) := by
  unfold tripL_k0_t1 trip_k0_t1
  rfl

theorem trips1_eq : k0_t1_loop.trips = 8 := by decide +kernel

theorem pb_collect1 (v29 v31 : Vec F S1x3072 .f32) :
    ((∀ p ∈ (𝕡₁ k0_h2 v29 v31 X_arg11 k0_t1_loop.trips).1, ∃ k, p = pieceC1 i arg11 k0_h2 X_arg11 v29 v31 k)
        ∧ ∀ k, pieceC1 i arg11 k0_h2 X_arg11 v29 v31 k ∈ (𝕡₁ k0_h2 v29 v31 X_arg11 k0_t1_loop.trips).1)
      ∧ ((∀ q ∈ (𝕡₁ k0_h2 v29 v31 X_arg11 k0_t1_loop.trips).2, ∃ k, q = pieceS1 i arg11 k0_h2 X_arg11 v29 v31 k)
        ∧ ∀ k, pieceS1 i arg11 k0_h2 X_arg11 v29 v31 k ∈ (𝕡₁ k0_h2 v29 v31 X_arg11 k0_t1_loop.trips).2) :=
  collect (fun j => 𝕡₁ k0_h2 v29 v31 X_arg11 j) k0_t1_loop.trips
    (pieceC1 i arg11 k0_h2 X_arg11 v29 v31) (pieceS1 i arg11 k0_h2 X_arg11 v29 v31) (by rfl)
    (fun k => by
      show 𝕡₁ k0_h2 v29 v31 X_arg11 (k.val + 1) = _
      rw [pb_k0_t1_succ, tripL1_eq])

/-- What the first loop's stores of codes hold, and that they cover its rows. -/
theorem allC1 (T : ℕ) (hT : T = k0_t1_loop.trips) :
    (∀ p ∈ (𝕡₁ k0_h2 (mrow sh 0) (mrow sc 0) X_arg11 T).1, ∀ x : p.1.shape.Idx, p.2 x = codesS (arg11.view.read (Elt F) X_arg11) sh sc (p.1.emb x))
      ∧ ∀ y : (S512x3072 : Shape).Idx, 0 ≤ (y 0).val → (y 0).val < 256 → ∃ p ∈ (𝕡₁ k0_h2 (mrow sh 0) (mrow sc 0) X_arg11 T).1, y ∈ p.1.set := by
  subst hT
  obtain ⟨⟨hA, hB⟩, -⟩ := pb_collect1 c i arg2 harg2 arg3 harg3 arg4 harg4 arg5 harg5 arg6 harg6 arg7 harg7 arg8 harg8 arg9 harg9 arg10 harg10 arg11 harg11 arg12 harg12 arg13 harg13 arg14 harg14 k0_h2 X_arg11 (mrow sh 0) (mrow sc 0)
  refine ⟨fun p hp => ?_, fun y h1 h2 => ?_⟩
  · obtain ⟨k, rfl⟩ := hA p hp
    intro x
    have hk' := lt_of_lt_of_eq k.isLt trips1_eq
    have hk : 32 * k.val + 32 ≤ 512 := by omega
    have hx : (x 0).val < 32 := (x 0).isLt
    have es : sof ⟨k.val, by omega⟩ = 0 := Fin.ext (by show k.val / 8 = 0; omega)
    show k0_pay10 (mrow sh 0) (k0_pay2 (mrow sc 0)) (View.ld (arg11.view.read (Elt F) X_arg11) (Rect.unit (s := S512x3072) (k0_off6 k) S32x3072.size (k0_off6_inb i k k0_h2))) x = codesS (arg11.view.read (Elt F) X_arg11) sh sc ((Rect.unit (s := S512x3072) (k0_off6 k) S32x3072.size (k0_off6_inb i k k0_h2)).emb x)
    rw [ld_chunk (R := 512) (C := 3072) (c := 32) _ _ (32 * k.val) _ (k0_off6_eq k) hk, emb_chunk (R := 512) (C := 3072) (c := 32) _ (32 * k.val) _ (k0_off6_eq k) hk]
    refine Eq.trans ?_ (codesS_at _ sh sc ⟨k.val, by omega⟩ (x 0) _ (by show 32 * k.val + (x 0).val = 32 * k.val + (x 0).val; omega) (x 1)).symm
    rw [es, ← eq_ix2 (n0 := 32) (n1 := 3072) x]
  · exact ⟨_, hB ⟨((y 0).val - 0) / 32, by rw [trips1_eq]; omega⟩, mem_chunk (R := 512) (C := 3072) (c := 32) _ (32 * (((y 0).val - 0) / 32)) (k0_off6_inb i _ k0_h2) (k0_off6_eq _) y (by omega) (by omega)⟩

/-- What the first loop's stores of scales hold, and that they cover its rows. -/
theorem allS1 (T : ℕ) (hT : T = k0_t1_loop.trips) :
    (∀ p ∈ (𝕡₁ k0_h2 (mrow sh 0) (mrow sc 0) X_arg11 T).2, ∀ x : p.1.shape.Idx, p.2 x = srowS (arg11.view.read (Elt F) X_arg11) sh sc (p.1.emb x))
      ∧ ∀ y : (S512x128 : Shape).Idx, 0 ≤ (y 0).val → (y 0).val < 256 → ∃ p ∈ (𝕡₁ k0_h2 (mrow sh 0) (mrow sc 0) X_arg11 T).2, y ∈ p.1.set := by
  subst hT
  obtain ⟨-, ⟨hA, hB⟩⟩ := pb_collect1 c i arg2 harg2 arg3 harg3 arg4 harg4 arg5 harg5 arg6 harg6 arg7 harg7 arg8 harg8 arg9 harg9 arg10 harg10 arg11 harg11 arg12 harg12 arg13 harg13 arg14 harg14 k0_h2 X_arg11 (mrow sh 0) (mrow sc 0)
  refine ⟨fun p hp => ?_, fun y h1 h2 => ?_⟩
  · obtain ⟨k, rfl⟩ := hA p hp
    intro x
    have hk' := lt_of_lt_of_eq k.isLt trips1_eq
    have hk : 32 * k.val + 32 ≤ 512 := by omega
    have hx : (x 0).val < 32 := (x 0).isLt
    have es : sof ⟨k.val, by omega⟩ = 0 := Fin.ext (by show k.val / 8 = 0; omega)
    show k0_pay3 (k0_pay9 (mrow sh 0) (k0_pay2 (mrow sc 0)) (View.ld (arg11.view.read (Elt F) X_arg11) (Rect.unit (s := S512x3072) (k0_off6 k) S32x3072.size (k0_off6_inb i k k0_h2)))) x = srowS (arg11.view.read (Elt F) X_arg11) sh sc ((Rect.unit (s := S512x128) (k0_off7 k) S32x128.size (k0_off7_inb i k k0_h2)).emb x)
    rw [ld_chunk (R := 512) (C := 3072) (c := 32) _ _ (32 * k.val) _ (k0_off6_eq k) hk, emb_chunk (R := 512) (C := 128) (c := 32) _ (32 * k.val) _ (k0_off7_eq k) hk]
    refine Eq.trans ?_ (srowS_at _ sh sc ⟨k.val, by omega⟩ (x 0) _ (by show 32 * k.val + (x 0).val = 32 * k.val + (x 0).val; omega) (x 1)).symm
    rw [es, ← eq_ix2 (n0 := 32) (n1 := 128) x]
  · exact ⟨_, hB ⟨((y 0).val - 0) / 32, by rw [trips1_eq]; omega⟩, mem_chunk (R := 512) (C := 128) (c := 32) _ (32 * (((y 0).val - 0) / 32)) (k0_off7_inb i _ k0_h2) (k0_off7_eq _) y (by omega) (by omega)⟩

/-- Trip `k`'s store of codes in the second loop. -/
abbrev pieceC2 (v29 v31 : Vec F S1x3072 .f32) (k : Fin k0_t2_loop.trips) : View.Piece (Elt F) S512x3072 .i8 :=
  ⟨Rect.unit (s := S512x3072) (k0_off9 k) S32x3072.size (k0_off9_inb i k k0_h2), k0_pay13 v29 (k0_pay5 v31) (arg11.view.readAt (Elt F) (Rect.unit (s := S512x3072) (k0_off9 k) S32x3072.size (k0_off9_inb i k k0_h2)).toLoadRect X_arg11)⟩
/-- Trip `k`'s store of scales in the second loop. -/
abbrev pieceS2 (v29 v31 : Vec F S1x3072 .f32) (k : Fin k0_t2_loop.trips) : View.Piece (Elt F) S512x128 .f32 :=
  ⟨Rect.unit (s := S512x128) (k0_off10 k) S32x128.size (k0_off10_inb i k k0_h2), k0_pay6 (k0_pay12 v29 (k0_pay5 v31) (arg11.view.readAt (Elt F) (Rect.unit (s := S512x3072) (k0_off9 k) S32x3072.size (k0_off9_inb i k k0_h2)).toLoadRect X_arg11))⟩

theorem tripL2_eq (v29 v31 : Vec F S1x3072 .f32) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 k0_h2 v29 v31 X_arg11 k
      = ([pieceC2 i arg11 k0_h2 X_arg11 v29 v31 k], [pieceS2 i arg11 k0_h2 X_arg11 v29 v31 k]) := by
  unfold tripL_k0_t2 trip_k0_t2
  rfl

theorem trips2_eq : k0_t2_loop.trips = 8 := by decide +kernel

theorem pb_collect2 (v29 v31 : Vec F S1x3072 .f32) :
    ((∀ p ∈ (𝕡₂ k0_h2 v29 v31 X_arg11 k0_t2_loop.trips).1, ∃ k, p = pieceC2 i arg11 k0_h2 X_arg11 v29 v31 k)
        ∧ ∀ k, pieceC2 i arg11 k0_h2 X_arg11 v29 v31 k ∈ (𝕡₂ k0_h2 v29 v31 X_arg11 k0_t2_loop.trips).1)
      ∧ ((∀ q ∈ (𝕡₂ k0_h2 v29 v31 X_arg11 k0_t2_loop.trips).2, ∃ k, q = pieceS2 i arg11 k0_h2 X_arg11 v29 v31 k)
        ∧ ∀ k, pieceS2 i arg11 k0_h2 X_arg11 v29 v31 k ∈ (𝕡₂ k0_h2 v29 v31 X_arg11 k0_t2_loop.trips).2) :=
  collect (fun j => 𝕡₂ k0_h2 v29 v31 X_arg11 j) k0_t2_loop.trips
    (pieceC2 i arg11 k0_h2 X_arg11 v29 v31) (pieceS2 i arg11 k0_h2 X_arg11 v29 v31) (by rfl)
    (fun k => by
      show 𝕡₂ k0_h2 v29 v31 X_arg11 (k.val + 1) = _
      rw [pb_k0_t2_succ, tripL2_eq])

/-- What the second loop's stores of codes hold, and that they cover its rows. -/
theorem allC2 (T : ℕ) (hT : T = k0_t2_loop.trips) :
    (∀ p ∈ (𝕡₂ k0_h2 (mrow sh 1) (mrow sc 1) X_arg11 T).1, ∀ x : p.1.shape.Idx, p.2 x = codesS (arg11.view.read (Elt F) X_arg11) sh sc (p.1.emb x))
      ∧ ∀ y : (S512x3072 : Shape).Idx, 256 ≤ (y 0).val → (y 0).val < 512 → ∃ p ∈ (𝕡₂ k0_h2 (mrow sh 1) (mrow sc 1) X_arg11 T).1, y ∈ p.1.set := by
  subst hT
  obtain ⟨⟨hA, hB⟩, -⟩ := pb_collect2 c i arg2 harg2 arg3 harg3 arg4 harg4 arg5 harg5 arg6 harg6 arg7 harg7 arg8 harg8 arg9 harg9 arg10 harg10 arg11 harg11 arg12 harg12 arg13 harg13 arg14 harg14 k0_h2 X_arg11 (mrow sh 1) (mrow sc 1)
  refine ⟨fun p hp => ?_, fun y h1 h2 => ?_⟩
  · obtain ⟨k, rfl⟩ := hA p hp
    intro x
    have hk' := lt_of_lt_of_eq k.isLt trips2_eq
    have hk : 32 * k.val + 256 + 32 ≤ 512 := by omega
    have hx : (x 0).val < 32 := (x 0).isLt
    have es : sof ⟨8 + k.val, by omega⟩ = 1 := Fin.ext (by show (8 + k.val) / 8 = 1; omega)
    show k0_pay13 (mrow sh 1) (k0_pay5 (mrow sc 1)) (View.ld (arg11.view.read (Elt F) X_arg11) (Rect.unit (s := S512x3072) (k0_off9 k) S32x3072.size (k0_off9_inb i k k0_h2))) x = codesS (arg11.view.read (Elt F) X_arg11) sh sc ((Rect.unit (s := S512x3072) (k0_off9 k) S32x3072.size (k0_off9_inb i k k0_h2)).emb x)
    rw [ld_chunk (R := 512) (C := 3072) (c := 32) _ _ (32 * k.val + 256) _ (k0_off9_eq k) hk, emb_chunk (R := 512) (C := 3072) (c := 32) _ (32 * k.val + 256) _ (k0_off9_eq k) hk]
    refine Eq.trans ?_ (codesS_at _ sh sc ⟨8 + k.val, by omega⟩ (x 0) _ (by show 32 * k.val + 256 + (x 0).val = 32 * (8 + k.val) + (x 0).val; omega) (x 1)).symm
    rw [es, ← eq_ix2 (n0 := 32) (n1 := 3072) x, pay13_eq, pay5_eq]
    refine congrArg (fun z => k0_pay10 (mrow sh 1) (k0_pay2 (mrow sc 1)) z x) ?_
    exact chunk_congr _ _ _ (by show 32 * k.val + 256 = 32 * (8 + k.val); omega)
  · exact ⟨_, hB ⟨((y 0).val - 256) / 32, by rw [trips2_eq]; omega⟩, mem_chunk (R := 512) (C := 3072) (c := 32) _ (32 * (((y 0).val - 256) / 32) + 256) (k0_off9_inb i _ k0_h2) (k0_off9_eq _) y (by omega) (by omega)⟩

/-- What the second loop's stores of scales hold, and that they cover its rows. -/
theorem allS2 (T : ℕ) (hT : T = k0_t2_loop.trips) :
    (∀ p ∈ (𝕡₂ k0_h2 (mrow sh 1) (mrow sc 1) X_arg11 T).2, ∀ x : p.1.shape.Idx, p.2 x = srowS (arg11.view.read (Elt F) X_arg11) sh sc (p.1.emb x))
      ∧ ∀ y : (S512x128 : Shape).Idx, 256 ≤ (y 0).val → (y 0).val < 512 → ∃ p ∈ (𝕡₂ k0_h2 (mrow sh 1) (mrow sc 1) X_arg11 T).2, y ∈ p.1.set := by
  subst hT
  obtain ⟨-, ⟨hA, hB⟩⟩ := pb_collect2 c i arg2 harg2 arg3 harg3 arg4 harg4 arg5 harg5 arg6 harg6 arg7 harg7 arg8 harg8 arg9 harg9 arg10 harg10 arg11 harg11 arg12 harg12 arg13 harg13 arg14 harg14 k0_h2 X_arg11 (mrow sh 1) (mrow sc 1)
  refine ⟨fun p hp => ?_, fun y h1 h2 => ?_⟩
  · obtain ⟨k, rfl⟩ := hA p hp
    intro x
    have hk' := lt_of_lt_of_eq k.isLt trips2_eq
    have hk : 32 * k.val + 256 + 32 ≤ 512 := by omega
    have hx : (x 0).val < 32 := (x 0).isLt
    have es : sof ⟨8 + k.val, by omega⟩ = 1 := Fin.ext (by show (8 + k.val) / 8 = 1; omega)
    show k0_pay6 (k0_pay12 (mrow sh 1) (k0_pay5 (mrow sc 1)) (View.ld (arg11.view.read (Elt F) X_arg11) (Rect.unit (s := S512x3072) (k0_off9 k) S32x3072.size (k0_off9_inb i k k0_h2)))) x = srowS (arg11.view.read (Elt F) X_arg11) sh sc ((Rect.unit (s := S512x128) (k0_off10 k) S32x128.size (k0_off10_inb i k k0_h2)).emb x)
    rw [ld_chunk (R := 512) (C := 3072) (c := 32) _ _ (32 * k.val + 256) _ (k0_off9_eq k) hk, emb_chunk (R := 512) (C := 128) (c := 32) _ (32 * k.val + 256) _ (k0_off10_eq k) hk]
    refine Eq.trans ?_ (srowS_at _ sh sc ⟨8 + k.val, by omega⟩ (x 0) _ (by show 32 * k.val + 256 + (x 0).val = 32 * (8 + k.val) + (x 0).val; omega) (x 1)).symm
    rw [es, ← eq_ix2 (n0 := 32) (n1 := 128) x, pay6_eq, pay12_eq, pay5_eq]
    refine congrArg (fun z => k0_pay3 (k0_pay9 (mrow sh 1) (k0_pay2 (mrow sc 1)) z) x) ?_
    exact chunk_congr _ _ _ (by show 32 * k.val + 256 = 32 * (8 + k.val); omega)
  · exact ⟨_, hB ⟨((y 0).val - 256) / 32, by rw [trips2_eq]; omega⟩, mem_chunk (R := 512) (C := 128) (c := 32) _ (32 * (((y 0).val - 256) / 32) + 256) (k0_off10_inb i _ k0_h2) (k0_off10_eq _) y (by omega) (by omega)⟩

/-- The codes after both loops. -/
theorem read_codes (f : BufTy.Contents (Elt F) arg12.view.ty) (T1 T2 : ℕ) (h1 : T1 = k0_t1_loop.trips) (h2 : T2 = k0_t2_loop.trips) :
    arg12.view.read (Elt F) (arg12.view.writes (Elt F) f ((𝕡₂ k0_h2 (mrow sh 1) (mrow sc 1) X_arg11 T2).1 ++ (𝕡₁ k0_h2 (mrow sh 0) (mrow sc 0) X_arg11 T1).1))
      = codesS (arg11.view.read (Elt F) X_arg11) sh sc := by
  obtain ⟨a1, b1⟩ := allC1 c i arg2 harg2 arg3 harg3 arg4 harg4 arg5 harg5 arg6 harg6 arg7 harg7 arg8 harg8 arg9 harg9 arg10 harg10 arg11 harg11 arg12 harg12 arg13 harg13 arg14 harg14 k0_h2 sh sc X_arg11 T1 h1
  obtain ⟨a2, b2⟩ := allC2 c i arg2 harg2 arg3 harg3 arg4 harg4 arg5 harg5 arg6 harg6 arg7 harg7 arg8 harg8 arg9 harg9 arg10 harg10 arg11 harg11 arg12 harg12 arg13 harg13 arg14 harg14 k0_h2 sh sc X_arg11 T2 h2
  refine read_all _ _ _ _ (fun p hp => ?_) fun y => ?_
  · rcases List.mem_append.mp hp with hp | hp
    · exact a2 p hp
    · exact a1 p hp
  · have hy : (y 0).val < 512 := (y 0).isLt
    by_cases h : (y 0).val < 256
    · obtain ⟨p, hp, hy⟩ := b1 y (by omega) h
      exact ⟨p, List.mem_append_right _ hp, hy⟩
    · obtain ⟨p, hp, hy⟩ := b2 y (by omega) (by omega)
      exact ⟨p, List.mem_append_left _ hp, hy⟩

/-- The scales after both loops. -/
theorem read_srow (f : BufTy.Contents (Elt F) arg14.view.ty) (T1 T2 : ℕ) (h1 : T1 = k0_t1_loop.trips) (h2 : T2 = k0_t2_loop.trips) :
    arg14.view.read (Elt F) (arg14.view.writes (Elt F) f ((𝕡₂ k0_h2 (mrow sh 1) (mrow sc 1) X_arg11 T2).2 ++ (𝕡₁ k0_h2 (mrow sh 0) (mrow sc 0) X_arg11 T1).2))
      = srowS (arg11.view.read (Elt F) X_arg11) sh sc := by
  obtain ⟨a1, b1⟩ := allS1 c i arg2 harg2 arg3 harg3 arg4 harg4 arg5 harg5 arg6 harg6 arg7 harg7 arg8 harg8 arg9 harg9 arg10 harg10 arg11 harg11 arg12 harg12 arg13 harg13 arg14 harg14 k0_h2 sh sc X_arg11 T1 h1
  obtain ⟨a2, b2⟩ := allS2 c i arg2 harg2 arg3 harg3 arg4 harg4 arg5 harg5 arg6 harg6 arg7 harg7 arg8 harg8 arg9 harg9 arg10 harg10 arg11 harg11 arg12 harg12 arg13 harg13 arg14 harg14 k0_h2 sh sc X_arg11 T2 h2
  refine read_all _ _ _ _ (fun p hp => ?_) fun y => ?_
  · rcases List.mem_append.mp hp with hp | hp
    · exact a2 p hp
    · exact a1 p hp
  · have hy : (y 0).val < 512 := (y 0).isLt
    by_cases h : (y 0).val < 256
    · obtain ⟨p, hp, hy⟩ := b1 y (by omega) h
      exact ⟨p, List.mem_append_right _ hp, hy⟩
    · obtain ⟨p, hp, hy⟩ := b2 y (by omega) (by omega)
      exact ⟨p, List.mem_append_left _ hp, hy⟩

/-- The scales of the first batch element after the first loop. -/
theorem read_half (f : BufTy.Contents (Elt F) arg14.view.ty) (T1 : ℕ) (h1 : T1 = k0_t1_loop.trips) (y : S512x128.Idx) (hy : (y 0).val < 256) :
    arg14.view.read (Elt F) (arg14.view.writes (Elt F) f (𝕡₁ k0_h2 (mrow sh 0) (mrow sc 0) X_arg11 T1).2) y
      = srowS (arg11.view.read (Elt F) X_arg11) sh sc y := by
  obtain ⟨a1, b1⟩ := allS1 c i arg2 harg2 arg3 harg3 arg4 harg4 arg5 harg5 arg6 harg6 arg7 harg7 arg8 harg8 arg9 harg9 arg10 harg10 arg11 harg11 arg12 harg12 arg13 harg13 arg14 harg14 k0_h2 sh sc X_arg11 T1 h1
  exact View.read_writes_apply_of_pieces _ _ _ _ a1 y (b1 y (by omega) hy)
end

end Cert.ProjIIdeal.Hand

end
-- ==== Proof.ProjIFrame.lean ====
/- The frame of the image stream's attention projection call, at any float type: each point stores one tile of the
   residual rows of both batch elements; the last tile is followed by the loops that quantise them. The rows' scales
   are carried in a scratch buffer. -/
module

public import proofs.«01_k».proof.Proof.Gen.ProjIIdeal.Frame
public import proofs.«01_k».proof.Proof.Gen.ProjIIdeal.Skeleton
public import proofs.«01_k».proof.Proof.ProjILoop
public import Idealize.ShloMosaic.Lib.Pipeline.ArrRel
public import Idealize.ShloMosaic.Lib.Claim

@[expose] public section

set_option maxRecDepth 16384

noncomputable section

namespace Cert.ProjIIdeal.Hand

open Cert.ProjIIdeal Cert.ProjIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem c1 (t : Fin cfg0.N) : (grid0.coords t 1).val = t.val := by
  have ht : t.val < 6 := Nat.lt_of_lt_of_eq t.isLt N_0
  have e0 : (grid0.coords t 1).val = t.val / 1 % 6 := Pipeline.Grid.coords_val t 1 (by decide) rfl
  omega
theorem hc1 (t : Fin cfg0.N) : k0_cond1 (grid0.coords t) = 1#1 ↔ t.val = 0 := by
  have ht : t.val < 6 := Nat.lt_of_lt_of_eq t.isLt N_0
  simp only [k0_cond1, c1]
  word_cmp
theorem hc2 (t : Fin cfg0.N) : k0_cond2 (grid0.coords t) = 1#1 ↔ t.val = 5 := by
  have ht : t.val < 6 := Nat.lt_of_lt_of_eq t.isLt N_0
  simp only [k0_cond2, c1]
  word_cmp

/-! ## What a point computes -/

/-- One row of two rows of 512, and of the scales. -/
abbrev grow (X : Vec F S2x512 .f32) (r : Fin 2) : Vec F S1x512 .f32 := chunk (R := 2) (C := 512) (c := 1) X r.val (by omega)
abbrev srow (X : Vec F S2x256 .f32) (r : Fin 2) : Vec F S1x256 .f32 := chunk (R := 2) (C := 256) (c := 1) X r.val (by omega)

/-- One batch element's rows of a tile, and of the scales. -/
abbrev xhalf (x : Vec F S512x512 .bf16) (r : Fin 2) : Vec F S256x512 .bf16 := chunk (R := 512) (C := 512) (c := 256) x (256 * r.val) (by omega)
abbrev half (sr : Vec F S512x128 .f32) (r : Fin 2) : Vec F S256x128 .f32 := chunk (R := 512) (C := 128) (c := 256) sr (256 * r.val) (by omega)

/-- The first column of the rows' scales. -/
abbrev scol (sr : Vec F S512x128 .f32) : Vec F S512x1 .f32 := View.ld sr (Rect.unit (s := S512x128) ![0, 0] S512x1.size inb_S512x128_S512x1_0_0)

/-- A tile of residual rows. -/
def tileS (cs : Vec F S512x3072 .i8) (x : Vec F S512x512 .bf16) (g : Vec F S2x512 .f32) (w : Vec F S3072x512 .i8) (ws b : Vec F S1x512 .f32) (sr : Vec F S512x128 .f32) : Vec F S512x512 .f32 :=
  join (C := 512) (k0_pay17 cs w (scol sr) ws b (grow g 0) (xhalf x 0)) (k0_pay1 (k0_pay16 cs w (scol sr) ws b) (grow g 1) (xhalf x 1))

/-- The scales of the incoming rows, spread. -/
def inS (s : Vec F S2x256 .f32) : Vec F S512x128 .f32 := join (C := 128) (k0_pay14 (srow s 0)) (k0_pay15 (srow s 1))

theorem i0 (i : grid0.Coords) : (i 0).val = 0 := by
  have h : (i 0).val < 1 := (i 0).isLt
  omega

theorem ld_mrow (i : grid0.Coords) (h : k0_cond2 i = 1#1) (r : Fin 2) (X : Vec F S2x3072 .f32) :
    View.ld X (Rect.unit (s := S2x3072) (k0_off5 i (BitVec.ofNat 32 r.val)) S1x3072.size (k0_off5_inb i h r)) = mrow X r :=
  ld_chunk (R := 2) (C := 3072) (c := 1) X (k0_off5 i (BitVec.ofNat 32 r.val)) r.val _
    ((k0_off5_eq i r).trans (by rw [i0, Nat.mul_zero, Nat.zero_add])) _
theorem ld_mrow0 (i : grid0.Coords) (h : k0_cond2 i = 1#1) (X : Vec F S2x3072 .f32) :
    View.ld X (Rect.unit (s := S2x3072) (k0_off5 i 0#32) S1x3072.size (k0_off5_inb i h 0)) = mrow X 0 := ld_mrow i h 0 X
theorem ld_mrow1 (i : grid0.Coords) (h : k0_cond2 i = 1#1) (X : Vec F S2x3072 .f32) :
    View.ld X (Rect.unit (s := S2x3072) (k0_off5 i 1#32) S1x3072.size (k0_off5_inb i h 1)) = mrow X 1 := ld_mrow i h 1 X

theorem ld_grow (i : grid0.Coords) (r : Fin 2) (X : Vec F S2x512 .f32) :
    View.ld X (Rect.unit (s := S2x512) (k0_off2 i (BitVec.ofNat 32 r.val)) S1x512.size (k0_off2_inb i r)) = grow X r :=
  ld_chunk (R := 2) (C := 512) (c := 1) X (k0_off2 i (BitVec.ofNat 32 r.val)) r.val _
    ((k0_off2_eq i r).trans (by rw [i0, Nat.mul_zero, Nat.zero_add])) _
theorem ld_grow0 (i : grid0.Coords) (X : Vec F S2x512 .f32) :
    View.ld X (Rect.unit (s := S2x512) (k0_off2 i 0#32) S1x512.size (k0_off2_inb i 0)) = grow X 0 := ld_grow i 0 X
theorem ld_grow1 (i : grid0.Coords) (X : Vec F S2x512 .f32) :
    View.ld X (Rect.unit (s := S2x512) (k0_off2 i 1#32) S1x512.size (k0_off2_inb i 1)) = grow X 1 := ld_grow i 1 X

theorem ld_srow (i : grid0.Coords) (h : k0_cond1 i = 1#1) (r : Fin 2) (X : Vec F S2x256 .f32) :
    View.ld X (Rect.unit (s := S2x256) (k0_off1 i (BitVec.ofNat 32 r.val)) S1x256.size (k0_off1_inb i h r)) = srow X r :=
  ld_chunk (R := 2) (C := 256) (c := 1) X (k0_off1 i (BitVec.ofNat 32 r.val)) r.val _
    ((k0_off1_eq i r).trans (by rw [i0, Nat.mul_zero, Nat.zero_add])) _
theorem ld_srow0 (i : grid0.Coords) (h : k0_cond1 i = 1#1) (X : Vec F S2x256 .f32) :
    View.ld X (Rect.unit (s := S2x256) (k0_off1 i 0#32) S1x256.size (k0_off1_inb i h 0)) = srow X 0 := ld_srow i h 0 X
theorem ld_srow1 (i : grid0.Coords) (h : k0_cond1 i = 1#1) (X : Vec F S2x256 .f32) :
    View.ld X (Rect.unit (s := S2x256) (k0_off1 i 1#32) S1x256.size (k0_off1_inb i h 1)) = srow X 1 := ld_srow i h 1 X

theorem ld_xhalf0 (X : Vec F S512x512 .bf16) : View.ld X (Rect.unit (s := S512x512) ![0, 0] S256x512.size inb_S512x512_S256x512_0_0) = xhalf X 0 :=
  ld_chunk (R := 512) (C := 512) (c := 256) X ![0, 0] 0 _ rfl _
theorem ld_xhalf1 (X : Vec F S512x512 .bf16) : View.ld X (Rect.unit (s := S512x512) ![256, 0] S256x512.size inb_S512x512_S256x512_256_0) = xhalf X 1 :=
  ld_chunk (R := 512) (C := 512) (c := 256) X ![256, 0] 256 _ rfl _

theorem off8 (i : grid0.Coords) (r : Fin 2) : k0_off8 i (BitVec.ofNat 32 r.val) = ![r.val, 0] :=
  (k0_off8_eq i r).trans (by rw [i0, Nat.mul_zero, Nat.zero_add])

/-! ## The body's runs -/

section Runs

variable (c : Dev nD) (i : grid0.Coords) (arg2 : Memref sig .tc .vmem S512x3072 .i8) (harg2 : arg2.IsWhole) (arg3 : Memref sig .tc .vmem S2x256 .f32) (harg3 : arg3.IsWhole) (arg4 : Memref sig .tc .vmem S512x512 .bf16) (harg4 : arg4.IsWhole) (arg5 : Memref sig .tc .vmem S2x512 .f32) (harg5 : arg5.IsWhole) (arg6 : Memref sig .tc .vmem S2x3072 .f32) (harg6 : arg6.IsWhole) (arg7 : Memref sig .tc .vmem S2x3072 .f32) (harg7 : arg7.IsWhole) (arg8 : Memref sig .tc .vmem S3072x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S512x3072 .f32) (harg11 : arg11.IsWhole) (arg12 : Memref sig .tc .vmem S512x3072 .i8) (harg12 : arg12.IsWhole) (arg13 : Memref sig .tc .vmem S2x256 .f32) (harg13 : arg13.IsWhole) (arg14 : Memref sig .tc .vmem S512x128 .f32) (harg14 : arg14.IsWhole)
  (x0 : Vec F S512x3072 .i8) (x1 : Vec F S2x256 .f32) (x2 : Vec F S512x512 .bf16) (x3 : Vec F S2x512 .f32) (x4 : Vec F S2x3072 .f32) (x5 : Vec F S2x3072 .f32) (x6 : Vec F S3072x512 .i8) (x7 : Vec F S1x512 .f32) (x8 : Vec F S1x512 .f32) (y9 : Vec F S512x3072 .f32) (y10 : Vec F S512x3072 .i8) (y11 : Vec F S2x256 .f32) (y12 : Vec F S512x128 .f32)

-- One memref owned whole at the contents written.
local notation "⟪" a ", " x "⟫" => owns (c : Thread nD τ) a fullShare x

set_option maxHeartbeats 2000000 in
/-- The body at the first tile: the scales of the rows are spread into the scratch and one tile is stored. -/
theorem runA (hc1 : k0_cond1 i = 1#1) (hc2 : ¬ k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 x3 x6 x7 x8 (inS x1)) y9⟫ ∗ ⟪arg12, y10⟫ ∗ ⟪arg13, y11⟫ ∗ ⟪arg14, inS x1⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ _ (i 1).val _ _ (k0_off3_eq i) (k0_off4_eq i)]
    rw [View.writes_nil, hf9]
    unfold tileS scol
    try unfold runA.sl.r
    unfold runA.sl.v8 runA.sl.H12_2 inS
    rw [View.readCov_eq_canon_ld, ← View.read_writes_eq_canon arg14.view f12, read_join]; rotate_left
    · exact View.cover_of_tiled _ S256x128.size (by rfl)
    · exact View.cover_of_tiled _ S256x128.size (by rfl)
    simp only [View.readAt_eq_ld, hf0, hf1, hf2, hf3, hf4, hf5, hf6, hf7, hf8, hf12, View.writes_nil]
    rw [ld_srow0 i hc1, ld_srow1 i hc1, ld_grow0, ld_grow1, ld_xhalf0, ld_xhalf1, ld2, ld2, ld2, ld2]
  isplitl [H10]; · iexists _; isplitr; swap; iexact H10; ipureintro; exact hf10
  isplitl [H11]; · iexists _; isplitr; swap; iexact H11; ipureintro; exact hf11
  iexists _; isplitr; swap; · iexact H12
  ipureintro
  unfold inS runA.sl.H12_2
  rw [read_join]
  simp only [View.readAt_eq_ld, hf1]
  rw [ld_srow0 i hc1, ld_srow1 i hc1]

set_option maxHeartbeats 2000000 in
/-- The body at a middle tile. -/
theorem runB (hc1 : ¬ k0_cond1 i = 1#1) (hc2 : ¬ k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 x3 x6 x7 x8 y12) y9⟫ ∗ ⟪arg12, y10⟫ ∗ ⟪arg13, y11⟫ ∗ ⟪arg14, y12⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ _ (i 1).val _ _ (k0_off3_eq i) (k0_off4_eq i)]
    rw [View.writes_nil, hf9]
    unfold tileS scol
    try unfold runB.sl.r
    simp only [View.readAt_eq_ld, hf0, hf1, hf2, hf3, hf4, hf5, hf6, hf7, hf8, hf12, View.writes_nil]
    rw [ld_grow0, ld_grow1, ld_xhalf0, ld_xhalf1, ld2, ld2, ld2, ld2]
  isplitl [H10]; · iexists _; isplitr; swap; iexact H10; ipureintro; exact hf10
  isplitl [H11]; · iexists _; isplitr; swap; iexact H11; ipureintro; exact hf11
  iexists _; isplitr; swap; · iexact H12
  ipureintro
  exact hf12

set_option maxHeartbeats 2000000 in
/-- The body at the last tile: one tile is stored, and then the codes and the scales of all the rows. -/
theorem runC (hc1 : ¬ k0_cond1 i = 1#1) (hc2 : k0_cond2 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, y9⟫ ∗ ⟪arg12, y10⟫ ∗ ⟪arg13, y11⟫ ∗ ⟪arg14, y12⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, setCols (i 1).val (tileS x0 x2 x3 x6 x7 x8 y12) y9⟫ ∗ ⟪arg12, codesS (setCols (i 1).val (tileS x0 x2 x3 x6 x7 x8 y12) y9) x4 x5⟫ ∗ ⟪arg13, setRow (R := 2) (C := 256) 1 (k0_pay4 (half (srowS (setCols (i 1).val (tileS x0 x2 x3 x6 x7 x8 y12) y9) x4 x5) 1)) (setRow (R := 2) (C := 256) 0 (k0_pay4 (half (srowS (setCols (i 1).val (tileS x0 x2 x3 x6 x7 x8 y12) y9) x4 x5) 0)) y11)⟫ ∗ ⟪arg14, srowS (setCols (i 1).val (tileS x0 x2 x3 x6 x7 x8 y12) y9) x4 x5⟫) -∗ Q ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) Q := by
  intro E Q
  simp only [cc0_proj_eq_skeleton]; unfold cc0_proj_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]
  · iexists _; isplitr; swap; · iexact H9
    ipureintro
    rw [read_setCols _ _ _ _ (i 1).val _ _ (k0_off3_eq i) (k0_off4_eq i)]
    rw [View.writes_nil, hf9]
    unfold tileS scol
    try unfold runC.sl.r
    simp only [View.readAt_eq_ld, hf0, hf1, hf2, hf3, hf4, hf5, hf6, hf7, hf8, hf12, View.writes_nil]
    rw [ld_grow0, ld_grow1, ld_xhalf0, ld_xhalf1, ld2, ld2, ld2, ld2]
  isplitl [H10]
  · iexists _; isplitr; swap; · iexact H10
    ipureintro
    unfold runC.sl.v53 runC.sl.v55 runC.sl.v67 runC.sl.v69
    simp only [View.readAt_eq_ld, hf4, hf5]
    rw [ld_mrow0 i hc2, ld_mrow0 i hc2, ld_mrow1 i hc2, ld_mrow1 i hc2]
    refine (read_codes c i arg2 harg2 arg3 harg3 arg4 harg4 arg5 harg5 arg6 harg6 arg7 harg7 arg8 harg8 arg9 harg9 arg10 harg10 arg11 harg11 arg12 harg12 arg13 harg13 arg14 harg14 _ _ _ _ _ _ _ rfl rfl).trans ?_
    refine congrArg (fun z => codesS z x4 x5) ?_
    rw [read_setCols _ _ _ _ (i 1).val _ _ (k0_off3_eq i) (k0_off4_eq i)]
    rw [View.writes_nil, hf9]
    unfold tileS scol
    try unfold runC.sl.r
    simp only [View.readAt_eq_ld, hf0, hf1, hf2, hf3, hf4, hf5, hf6, hf7, hf8, hf12, View.writes_nil]
    rw [ld_grow0, ld_grow1, ld_xhalf0, ld_xhalf1, ld2, ld2, ld2, ld2]
  isplitl [H11]
  · iexists _; isplitr; swap; · iexact H11
    ipureintro
    rw [read_setRow (R := 2) (C := 256) _ _ _ 1 _ (show k0_off8 i 1#32 = ![1, 0] from off8 i 1), read_setRow (R := 2) (C := 256) _ _ _ 0 _ (show k0_off8 i 0#32 = ![0, 0] from off8 i 0)]
    rw [pay7_eq, View.writes_nil, hf11]
    unfold runC.sl.v59 runC.sl.v73
    unfold runC.sl.v53 runC.sl.v55 runC.sl.v67 runC.sl.v69
    simp only [View.readAt_eq_ld, hf4, hf5]
    rw [ld_mrow0 i hc2, ld_mrow0 i hc2, ld_mrow1 i hc2, ld_mrow1 i hc2]
    rw [ld_chunk (R := 512) (C := 128) (c := 256) _ ![256, 0] 256 _ rfl (by omega), ld_chunk (R := 512) (C := 128) (c := 256) _ ![0, 0] 0 _ rfl (by omega)]
    refine congrArg₂ (fun u v => setRow (R := 2) (C := 256) 1 (k0_pay4 u) (setRow (R := 2) (C := 256) 0 (k0_pay4 v) y11)) ?_ ?_
    · refine congrArg (fun z => chunk z 256 (by omega)) ((read_srow c i arg2 harg2 arg3 harg3 arg4 harg4 arg5 harg5 arg6 harg6 arg7 harg7 arg8 harg8 arg9 harg9 arg10 harg10 arg11 harg11 arg12 harg12 arg13 harg13 arg14 harg14 _ _ _ _ _ _ _ rfl rfl).trans ?_)
      refine congrArg (fun z => srowS z x4 x5) ?_
      rw [read_setCols _ _ _ _ (i 1).val _ _ (k0_off3_eq i) (k0_off4_eq i)]
      rw [View.writes_nil, hf9]
      unfold tileS scol
      try unfold runC.sl.r
      simp only [View.readAt_eq_ld, hf0, hf1, hf2, hf3, hf4, hf5, hf6, hf7, hf8, hf12, View.writes_nil]
      rw [ld_grow0, ld_grow1, ld_xhalf0, ld_xhalf1, ld2, ld2, ld2, ld2]
    · funext y
      have hy : (y 0).val < 256 := (y 0).isLt
      refine (read_half c i arg2 harg2 arg3 harg3 arg4 harg4 arg5 harg5 arg6 harg6 arg7 harg7 arg8 harg8 arg9 harg9 arg10 harg10 arg11 harg11 arg12 harg12 arg13 harg13 arg14 harg14 _ _ _ _ _ _ rfl _ (by show 0 + (y 0).val < 256; omega)).trans ?_
      refine (congrArg (fun z => srowS z x4 x5 _) (?_ : _ = (setCols (i 1).val (tileS x0 x2 x3 x6 x7 x8 y12) y9))).trans rfl
      rw [read_setCols _ _ _ _ (i 1).val _ _ (k0_off3_eq i) (k0_off4_eq i)]
      rw [View.writes_nil, hf9]
      unfold tileS scol
      try unfold runC.sl.r
      simp only [View.readAt_eq_ld, hf0, hf1, hf2, hf3, hf4, hf5, hf6, hf7, hf8, hf12, View.writes_nil]
      rw [ld_grow0, ld_grow1, ld_xhalf0, ld_xhalf1, ld2, ld2, ld2, ld2]
  iexists _; isplitr; swap; · iexact H12
  ipureintro
  unfold runC.sl.v53 runC.sl.v55 runC.sl.v67 runC.sl.v69
  simp only [View.readAt_eq_ld, hf4, hf5]
  rw [ld_mrow0 i hc2, ld_mrow0 i hc2, ld_mrow1 i hc2, ld_mrow1 i hc2]
  refine (read_srow c i arg2 harg2 arg3 harg3 arg4 harg4 arg5 harg5 arg6 harg6 arg7 harg7 arg8 harg8 arg9 harg9 arg10 harg10 arg11 harg11 arg12 harg12 arg13 harg13 arg14 harg14 _ _ _ _ _ _ _ rfl rfl).trans ?_
  refine congrArg (fun z => srowS z x4 x5) ?_
  rw [read_setCols _ _ _ _ (i 1).val _ _ (k0_off3_eq i) (k0_off4_eq i)]
  rw [View.writes_nil, hf9]
  unfold tileS scol
  try unfold runC.sl.r
  simp only [View.readAt_eq_ld, hf0, hf1, hf2, hf3, hf4, hf5, hf6, hf7, hf8, hf12, View.writes_nil]
  rw [ld_grow0, ld_grow1, ld_xhalf0, ld_xhalf1, ld2, ld2, ld2, ld2]

end Runs

/-! ## The proof data -/

/-- The first point, and the point that stores the tile of a column. -/
abbrev pt : Fin cfg0.N := ⟨0, by rw [show cfg0.N = 6 from N_0]; omega⟩
abbrev ptc (b : Fin 3072) : Fin cfg0.N := ⟨b.val / 512, by rw [show cfg0.N = 6 from N_0]; omega⟩

/-- The scales of the incoming rows, spread. -/
def inR (c : Dev nD) : Vec F S512x128 .f32 := inS (iblk m c 1 pt)

/-- The tile a point stores, and all the residual rows. -/
def tileT (c : Dev nD) (t : Fin cfg0.N) : Vec F S512x512 .f32 :=
  tileS (iblk m c 0 t) (iblk m c 2 t) (iblk m c 3 t) (iblk m c 6 t) (iblk m c 7 t) (iblk m c 8 t) (inR m c)
def x1R (c : Dev nD) : Vec F S512x3072 .f32 := fun y => tileT m c (ptc (y 1)) (ix2 (y 0) ⟨(y 1).val % 512, Nat.mod_lt _ (by omega)⟩)

/-- The codes, the rows' scales and the scale output. -/
def codesR (c : Dev nD) : Vec F S512x3072 .i8 := codesS (x1R m c) (iblk m c 4 pt) (iblk m c 5 pt)
def srowR (c : Dev nD) : Vec F S512x128 .f32 := srowS (x1R m c) (iblk m c 4 pt) (iblk m c 5 pt)
def rowsR (c : Dev nD) : Vec F S2x256 .f32 := fun y => k0_pay4 (half (srowR m c) (y 0)) (ix2 0 (y 1))

/-- The two stores of the scale output cover it. -/
theorem rows_eq (c : Dev nD) (Y : Vec F S2x256 .f32) :
    setRow (R := 2) (C := 256) 1 (k0_pay4 (half (srowR m c) 1)) (setRow (R := 2) (C := 256) 0 (k0_pay4 (half (srowR m c) 0)) Y) = rowsR m c := by
  funext y
  have hy : (y 0).val < 2 := (y 0).isLt
  unfold setRow rowsR
  by_cases h : (y 0).val = 1
  · rw [if_pos h, show @Eq (Fin 2) (y 0) 1 from Fin.ext h]
  · have h' : (y 0).val = 0 := by omega
    rw [if_neg h, if_pos h', show @Eq (Fin 2) (y 0) 0 from Fin.ext h']

/-- The relational proof data: an input is left as found; the residual rows hold the tiles stored so far; the codes and
    the scales are right after the last point; the scratch holds the scales of the incoming rows until the last point. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun t _ X => ∀ y : S512x3072.Idx, (y 1).val < 512 * (t.val + 1) → (X : Vec F S512x3072 .f32) y = x1R m c y
    | ⟨10, _⟩ => fun t _ X => t.val = 5 → X = codesR m c
    | ⟨11, _⟩ => fun t _ X => t.val = 5 → X = rowsR m c
  Φ k := iprop((∃ d, ⌜0 < k.val → k.val < 6 → d = inR m c⌝
      ∗ owns (c : Thread nD τ) (Memref.whole cc0_scratch0) fullShare d) ∗ (∃ r, prngReg c r))
  q w := Pipeline.shareOf spec0 w
  owed _ := 0

theorem A_eq (c : Dev nD) (w : Fin cfg0.W) : (rdat m c).A w = V m c (Pipeline.arrRef spec0 w) := by
  dsimp only [rdat]

theorem Φ_eq (c : Dev nD) (k : Fin (cfg0.N + 1)) : (rdat m c).Φ k = iprop((∃ d, ⌜0 < k.val → k.val < 6 → d = inR m c⌝
      ∗ owns (c : Thread nD τ) (Memref.whole cc0_scratch0) fullShare d) ∗ (∃ r, prngReg c r)) := by
  dsimp only [rdat]

/-- The modulation and the incoming scales are the same at every point. -/
theorem iblk1 (c : Dev nD) (t t' : Fin cfg0.N) : (iblk m c 1 t : Vec F S2x256 .f32) = iblk m c 1 t' := rfl
theorem iblk4 (c : Dev nD) (t t' : Fin cfg0.N) : (iblk m c 4 t : Vec F S2x3072 .f32) = iblk m c 4 t' := rfl
theorem iblk5 (c : Dev nD) (t t' : Fin cfg0.N) : (iblk m c 5 t : Vec F S2x3072 .f32) = iblk m c 5 t' := rfl

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rw [A_eq]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rw [A_eq]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rw [A_eq]; try rfl
theorem finds8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold RDat.fetched RDat.blockOf iblk; rw [A_eq]; try rfl

/-- The tiles stored by the earlier points are found. -/
theorem finds9 (c : Dev nD) (t : Fin cfg0.N) (Y : Vec F S512x3072 .f32) (h : (rdat m c).Finds 9 t Y) (y : S512x3072.Idx) (hy : (y 1).val < 512 * t.val) :
    Y y = x1R m c y := by
  have hN : t.val < 6 := lt_of_lt_of_eq t.isLt (show cfg0.N = 6 from N_0)
  rcases ((rdat m c).finds_of_pos ((cfg0.win 9).fetch_out rfl t) (by omega) Y).mp h with hf | ⟨_, _, h⟩
  · have := (flush0_9 _).mp hf
    exfalso; simp only at this; omega
  · exact h y (show (y 1).val < 512 * (t.val - 1 + 1) by omega)

/-- The residual rows after a point. -/
theorem after9 (c : Dev nD) (t : Fin cfg0.N) (Y : Vec F S512x3072 .f32) (h : (rdat m c).Finds 9 t Y) (y : S512x3072.Idx) (hy : (y 1).val < 512 * (t.val + 1)) :
    setCols (grid0.coords t 1).val (tileT m c t) Y y = x1R m c y := by
  unfold setCols x1R
  by_cases e : (y 1).val / 512 = (grid0.coords t 1).val
  · rw [if_pos e]
    refine congrArg (fun u => tileT m c u _) (Fin.ext ?_)
    show t.val = (y 1).val / 512
    rw [e, c1]
  · rw [if_neg e]
    rw [c1] at e
    exact finds9 m c t Y h y (by omega)

/-- After the last point they are all stored. -/
theorem all9 (c : Dev nD) (t : Fin cfg0.N) (h5 : t.val = 5) (Y : Vec F S512x3072 .f32) (h : (rdat m c).Finds 9 t Y) :
    setCols (grid0.coords t 1).val (tileT m c t) Y = x1R m c :=
  funext fun y => after9 m c t Y h y (by have h1 : (y 1).val < 3072 := (y 1).isLt; omega)

abbrev ms0 (t : Fin cfg0.N) : Memref sig .tc .vmem S512x3072 .i8 := win0_0.stage (cfg0.slots t 0)
abbrev ms1 (t : Fin cfg0.N) : Memref sig .tc .vmem S2x256 .f32 := win0_1.stage (cfg0.slots t 1)
abbrev ms2 (t : Fin cfg0.N) : Memref sig .tc .vmem S512x512 .bf16 := win0_2.stage (cfg0.slots t 2)
abbrev ms3 (t : Fin cfg0.N) : Memref sig .tc .vmem S2x512 .f32 := win0_3.stage (cfg0.slots t 3)
abbrev ms4 (t : Fin cfg0.N) : Memref sig .tc .vmem S2x3072 .f32 := win0_4.stage (cfg0.slots t 4)
abbrev ms5 (t : Fin cfg0.N) : Memref sig .tc .vmem S2x3072 .f32 := win0_5.stage (cfg0.slots t 5)
abbrev ms6 (t : Fin cfg0.N) : Memref sig .tc .vmem S3072x512 .i8 := win0_6.stage (cfg0.slots t 6)
abbrev ms7 (t : Fin cfg0.N) : Memref sig .tc .vmem S1x512 .f32 := win0_7.stage (cfg0.slots t 7)
abbrev ms8 (t : Fin cfg0.N) : Memref sig .tc .vmem S1x512 .f32 := win0_8.stage (cfg0.slots t 8)
abbrev ms9 (t : Fin cfg0.N) : Memref sig .tc .vmem S512x3072 .f32 := win0_9.stage (cfg0.slots t 9)
abbrev ms10 (t : Fin cfg0.N) : Memref sig .tc .vmem S512x3072 .i8 := win0_10.stage (cfg0.slots t 10)
abbrev ms11 (t : Fin cfg0.N) : Memref sig .tc .vmem S2x256 .f32 := win0_11.stage (cfg0.slots t 11)

set_option maxHeartbeats 1600000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X))) := by
  unfold bodyAt0
  have hN : t.val < 6 := lt_of_lt_of_eq t.isLt (show cfg0.N = 6 from N_0)
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  have e8 := finds8 m c t _ (hY 8)
  rw [e0, e1, e2, e3, e4, e5, e6, e7, e8]
  rw [Φ_eq, Φ_eq, show (rdat m c).owesAt () t.succ = (rdat m c).owesAt () t.castSucc from rfl]
  have h9 : ∀ y : S512x3072.Idx, (y 1).val < 512 * (t.val + 1) → setCols (grid0.coords t 1).val (tileT m c t) (Y 9 : Vec F S512x3072 .f32) y = x1R m c y :=
    after9 m c t _ (hY 9)
  by_cases h0 : t.val = 0
  · iintro ⟨⟨⟨%d, %hd, HS⟩, Hr⟩, Ho, H0, H1, H2, H3, H4, H5, H6, H7, H8, H9, H10, H11⟩
    iapply (runA c (grid0.coords t) _ _ _ _ _ _ _ _ _ _ _ _ _ _ _ _ _ _ _ _ _ _ _ _ _ _ _ _ _ _ _ _ _ _ _ _ _ _ _ ((hc1 t).mpr h0) (fun h => absurd ((hc2 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hr]
    · isplitl [HS]
      · iexists _; isplitr; swap; · iexact HS
        ipureintro
        intro hr hr'
        have hr2 : t.val + 1 < 6 := hr'
        rfl
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact h9
    isplitl [H10]
    · iexists _; isplitr; swap; · iexact H10
      ipureintro; exact fun h => absurd h (by omega)
    iexists _; isplitr; swap; · iexact H11
    ipureintro; exact fun h => absurd h (by omega)
  · by_cases h5 : t.val = 5
    · iintro ⟨⟨⟨%d, %hd, HS⟩, Hr⟩, Ho, H0, H1, H2, H3, H4, H5, H6, H7, H8, H9, H10, H11⟩
      obtain rfl := hd (by show 0 < t.val; omega) (by show t.val < 6; omega)
      iapply (runC c (grid0.coords t) _ _ _ _ _ _ _ _ _ _ _ _ _ _ _ _ _ _ _ _ _ _ _ _ _ _ _ _ _ _ _ _ _ _ _ _ _ _ _ (fun h => h0 ((hc1 t).mp h)) ((hc2 t).mpr h5) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, HS⟩
      isplitl [HS Hr]
      · isplitl [HS]
        · iexists _; isplitr; swap; · iexact HS
          ipureintro
          intro hr hr'
          have hr2 : t.val + 1 < 6 := hr'
          exfalso; omega
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact h9
      isplitl [H10]
      · iexists _; isplitr; swap; · iexact H10
        ipureintro; exact fun _ => congrArg (fun z => codesS z _ _) (all9 m c t h5 _ (hY 9))
      iexists _; isplitr; swap; · iexact H11
      ipureintro; exact fun _ => (congrArg (fun z => setRow (R := 2) (C := 256) 1 (k0_pay4 (half (srowS z (iblk m c 4 t) (iblk m c 5 t)) 1)) (setRow (R := 2) (C := 256) 0 (k0_pay4 (half (srowS z (iblk m c 4 t) (iblk m c 5 t)) 0)) (Y 11))) (all9 m c t h5 _ (hY 9))).trans (rows_eq m c _)
    · iintro ⟨⟨⟨%d, %hd, HS⟩, Hr⟩, Ho, H0, H1, H2, H3, H4, H5, H6, H7, H8, H9, H10, H11⟩
      obtain rfl := hd (by show 0 < t.val; omega) (by show t.val < 6; omega)
      iapply (runB c (grid0.coords t) _ _ _ _ _ _ _ _ _ _ _ _ _ _ _ _ _ _ _ _ _ _ _ _ _ _ _ _ _ _ _ _ _ _ _ _ _ _ _ (fun h => h0 ((hc1 t).mp h)) (fun h => h5 ((hc2 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, HS⟩
      isplitl [HS Hr]
      · isplitl [HS]
        · iexists _; isplitr; swap; · iexact HS
          ipureintro
          intro hr hr'
          have hr2 : t.val + 1 < 6 := hr'
          rfl
        · iexact Hr
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact h9
      isplitl [H10]
      · iexists _; isplitr; swap; · iexact H10
        ipureintro; exact fun h => absurd h (by omega)
      iexists _; isplitr; swap; · iexact H11
      ipureintro; exact fun h => absurd h (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

theorem hin (c : Dev nD) : Pipeline.ΦA spec0 c ⊢ (rdat m c).Φ 0 := by
  rw [Φ_eq]
  unfold Pipeline.ΦA
  rw [scopedRest0_eq]
  simp only [owns_whole]
  iintro ⟨⟨%f, H⟩, Hr⟩
  isplitl [H]
  · iexists f; isplitr; swap; · iexact H
    ipureintro
    intro hr hr'
    exact absurd hr (Nat.not_lt_zero _)
  · iexact Hr

theorem hout (c : Dev nD) : (rdat m c).Φ (Fin.last cfg0.N) ⊢ Pipeline.ΦA spec0 c := by
  rw [Φ_eq]
  unfold Pipeline.ΦA
  rw [scopedRest0_eq]
  simp only [owns_whole]
  iintro ⟨⟨%f, %hf, H⟩, Hr⟩
  isplitl [H]
  · iexists f; iexact H
  · iexact Hr

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  ⟨(RDat.FramePost.arr_in h c 0 rfl).trans ((A_eq m c 0).trans (V_main_arg0 m c)),
    (RDat.FramePost.arr_in h c 1 rfl).trans ((A_eq m c 1).trans (V_main_arg1 m c)),
    ((h c).2 main_arg2 (Pipeline.mem_restRefs_of main_arg2 (by decide) (by decide))).trans (V_main_arg2 m c),
    (RDat.FramePost.arr_in h c 5 rfl).trans ((A_eq m c 5).trans (V_main_arg3 m c)),
    (RDat.FramePost.arr_in h c 6 rfl).trans ((A_eq m c 6).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) :=
  (θ_run defs _ _).mono (fun _ h => ⟨args_of m h.1, h.2⟩) (run_main_quiescent m ρ)

end Cert.ProjIIdeal.Hand

end
-- ==== Proof.ProjIBitsFrame.lean ====
/- The frame of the image stream's attention projection call as printed: it is the same program over any float type as its idealization, so it leaves its
   arguments as found as that one does. -/
module

public import proofs.«01_k».proof.Proof.Gen.ProjI.Frame
public import proofs.«01_k».proof.Proof.ProjIFrame

@[expose] public section

set_option maxRecDepth 65536

noncomputable section

namespace Cert.ProjI.Hand

open Cert.ProjI
open Idealize.ShloMosaic Idealize.ShloMosaic.TcCoe Idealize.SL.Sem

variable {F : FTy → Type} [FloatOps F]

/-- The two programs run the same bodies. -/
theorem body_eq : (cc0_proj (F := F)) = Cert.ProjIIdeal.cc0_proj (F := F) := rfl

theorem defs₀_eq : (defs₀ (F := F)) = Cert.ProjIIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.ProjIIdeal.defs (F := F) :=
  congrArg (Pipeline.defs pcfgs) defs₀_eq

theorem main_eq : (main (F := F)) = Cert.ProjIIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6))
      ∧ r.2.sem = fun _ => 0) := by
  rw [defs_eq]
  exact Cert.ProjIIdeal.Hand.frame (F := F) m ρ

end Cert.ProjI.Hand

end
-- ==== Proof.ProjIPay.lean ====
/- The image stream's attention projection payloads over the extended reals are the reference's. -/
module

public import proofs.«01_k».proof.Proof.ProjTPay
public import proofs.«01_k».proof.Proof.Gen.ProjIIdeal.Skeleton
public import proofs.«01_k».proof.Proof.Gen.ProjIRefIdeal.Skeleton
public import Idealize.ShloMosaic.Lib.Pointwise

@[expose] public section

noncomputable section

namespace Cert.ProjIPay

open Idealize.ShloMosaic Idealize.ShloMosaic.Pointwise Cert.Codes
open Cert.QkvTPay (lnS scaleOf scale_at top)
open Cert.ProjTPay (rowScale rowCode resid)

local notation "K1" => Cert.ProjIIdeal.Gen.k0_pay1 (F := Ideal)
local notation "K16" => Cert.ProjIIdeal.Gen.k0_pay16 (F := Ideal)
local notation "K2" => Cert.ProjIIdeal.Gen.k0_pay2 (F := Ideal)
local notation "K8" => Cert.ProjIIdeal.Gen.k0_pay8 (F := Ideal)
local notation "K9" => Cert.ProjIIdeal.Gen.k0_pay9 (F := Ideal)
local notation "K10" => Cert.ProjIIdeal.Gen.k0_pay10 (F := Ideal)
local notation "K17" => Cert.ProjIIdeal.Gen.k0_pay17 (F := Ideal)
local notation "R1" => Cert.ProjIRefIdeal.Gen.k0_pay1 (F := Ideal)
local notation "R2" => Cert.ProjIRefIdeal.Gen.k0_pay2 (F := Ideal)
local notation "R4" => Cert.ProjIRefIdeal.Gen.k0_pay4 (F := Ideal)
local notation "R5" => Cert.ProjIRefIdeal.Gen.k0_pay5 (F := Ideal)
local notation "R6" => Cert.ProjIRefIdeal.Gen.k0_pay6 (F := Ideal)
local notation "R7" => Cert.ProjIRefIdeal.Gen.k0_pay7 (F := Ideal)
local notation "R8" => Cert.ProjIRefIdeal.Gen.k0_pay8 (F := Ideal)
local notation "R9" => Cert.ProjIRefIdeal.Gen.k0_pay9 (F := Ideal)

section Kernel
variable (f fs fg : Fin 3072 → EReal) (s g : FVec Ideal Cert.ProjIIdeal.S1x3072 .f32) (v : FVec Ideal Cert.ProjIIdeal.S32x3072 .f32) (p : Fin 32)
  (hv : ∀ b, v (ix2 p b) = f b) (hs : ∀ b, s (ix2 0 b) = fs b) (hg : ∀ b, g (ix2 0 b) = fg b)
include hv hs hg

/-- A row normalised and modulated. -/
theorem lnK (b : Fin 3072) : K8 s (K2 g) v (ix2 p b) = lnS f (fs b) (fg b) b := by
  pointwise [Cert.ProjIIdeal.Gen.k0_pay8, Cert.ProjIIdeal.Gen.k0_pay2, hv, hs, hg]
  rfl

/-- Its scale. -/
theorem scaleK (u : Fin 1) : K9 s (K2 g) v (ix2 p u) = rowScale f fs fg := by
  unfold Cert.ProjIIdeal.Gen.k0_pay9
  refine (scale_at _ _).trans (congrArg scaleOf ?_)
  pointwise [lnK f fs fg s g v p hv hs hg]
  rfl

/-- Its codes. -/
theorem codeK (b : Fin 3072) : K10 s (K2 g) v (ix2 p b) = rowCode f fs fg b := by
  unfold Cert.ProjIIdeal.Gen.k0_pay10
  have e := lnK f fs fg s g v p hv hs hg
  have e' := scaleK f fs fg s g v p hv hs hg
  pointwise [e, e']
  exact congrArg (Ideal.fptosi 8) (clip_words _)
end Kernel

/-- A scale across its row, the scales of all the rows as one row, and one row as the scales of all the rows. -/
theorem spread_k (u : FVec Ideal Cert.ProjIIdeal.S32x1 .f32) (p : Fin 32) (b : Fin 128) : Cert.ProjIIdeal.Gen.k0_pay3 (F := Ideal) u (ix2 p b) = u (ix2 p 0) := by
  pointwise [Cert.ProjIIdeal.Gen.k0_pay3]
theorem flip_k (u : Vec Ideal Cert.ProjIIdeal.S256x128 .f32) (a : Fin 256) : Cert.ProjIIdeal.Gen.k0_pay4 (F := Ideal) u (ix2 0 a) = u (ix2 a 0) := by
  pointwise [Cert.ProjIIdeal.Gen.k0_pay4]
theorem fill_k (u : Vec Ideal Cert.ProjIIdeal.S1x256 .f32) (a : Fin 256) (b : Fin 128) : Cert.ProjIIdeal.Gen.k0_pay14 (F := Ideal) u (ix2 a b) = u (ix2 0 a) := by
  pointwise [Cert.ProjIIdeal.Gen.k0_pay14]

section Tile
variable (cs : Vec Ideal Cert.ProjIIdeal.S512x3072 .i8) (w : Vec Ideal Cert.ProjIIdeal.S3072x512 .i8) (sr : Vec Ideal Cert.ProjIIdeal.S512x1 .f32)
  (ws b g : Vec Ideal Cert.ProjIIdeal.S1x512 .f32) (x : Vec Ideal Cert.ProjIIdeal.S256x512 .bf16) (p : Fin 256) (j : Fin 512)
theorem acc_at (q : Fin 512) : K16 cs w sr ws b (ix2 q j) = (∑ k, (FloatOps.sitofp FTy.bf16 (cs (ix2 q k)) : Ideal .bf16) * (FloatOps.sitofp FTy.bf16 (w (ix2 k j)) : Ideal .bf16)) * sr (ix2 q 0) * ws (ix2 0 j) + b (ix2 0 j) := by
  pointwise [Cert.ProjIIdeal.Gen.k0_pay16]
theorem low_at : K17 cs w sr ws b g x (ix2 p j) = x (ix2 p j) + g (ix2 0 j) * K16 cs w sr ws b (ix2 ⟨0 + p.val, by omega⟩ j) := by
  unfold Cert.ProjIIdeal.Gen.k0_pay17
  generalize K16 cs w sr ws b = A
  pointwise
theorem high_at (A : FVec Ideal Cert.ProjIIdeal.S512x512 .f32) : K1 A g x (ix2 p j) = x (ix2 p j) + g (ix2 0 j) * A (ix2 ⟨256 + p.val, by omega⟩ j) := by
  pointwise [Cert.ProjIIdeal.Gen.k0_pay1]
/-- The residual entries of the first batch element's rows of a tile, and of the second's. -/
theorem resid0 : K17 cs w sr ws b g x (ix2 p j) = resid (x (ix2 p j)) (g (ix2 0 j)) (fun k => cs (ix2 ⟨0 + p.val, by omega⟩ k)) (fun k => w (ix2 k j)) (sr (ix2 ⟨0 + p.val, by omega⟩ 0)) (ws (ix2 0 j)) (b (ix2 0 j)) := by
  rw [low_at, acc_at, resid]
theorem resid1 : K1 (K16 cs w sr ws b) g x (ix2 p j) = resid (x (ix2 p j)) (g (ix2 0 j)) (fun k => cs (ix2 ⟨256 + p.val, by omega⟩ k)) (fun k => w (ix2 k j)) (sr (ix2 ⟨256 + p.val, by omega⟩ 0)) (ws (ix2 0 j)) (b (ix2 0 j)) := by
  rw [high_at, acc_at, resid]
end Tile

section Reference
theorem residR (g : Vec Ideal Cert.ProjIRefIdeal.S2x3072 .f32) (cs : Vec Ideal Cert.ProjIRefIdeal.S512x3072 .i8) (s : Vec Ideal Cert.ProjIRefIdeal.S2x256 .f32)
    (w : Vec Ideal Cert.ProjIRefIdeal.S3072x3072 .i8) (ws b : Vec Ideal Cert.ProjIRefIdeal.S3072 .f32) (x : Vec Ideal Cert.ProjIRefIdeal.S2x256x3072 .bf16) (r : Fin 2) (P : Fin 256) (j : Fin 3072) :
    R7 g cs s w ws b x (ix3 r P j) = resid (x (ix3 r P j)) (g (ix2 r j)) (fun k => cs (ix2 ⟨r.val * 256 + P.val, by omega⟩ k)) (fun k => w (ix2 k j)) (s (ix2 r P)) (ws (ix1 j)) (b (ix1 j)) := by
  pointwise [Cert.ProjIRefIdeal.Gen.k0_pay7]
  rfl

variable (g : Vec Ideal Cert.ProjIRefIdeal.S2x3072 .f32) (cs : Vec Ideal Cert.ProjIRefIdeal.S512x3072 .i8) (s : Vec Ideal Cert.ProjIRefIdeal.S2x256 .f32)
  (w : Vec Ideal Cert.ProjIRefIdeal.S3072x3072 .i8) (ws b : Vec Ideal Cert.ProjIRefIdeal.S3072 .f32) (x : Vec Ideal Cert.ProjIRefIdeal.S2x256x3072 .bf16)
  (sh sc : Vec Ideal Cert.ProjIRefIdeal.S2x3072 .f32) (v3 v5 : FVec Ideal Cert.ProjIRefIdeal.S2x1x3072 .f32) (v35 : FVec Ideal Cert.ProjIRefIdeal.S2x256x3072 .f32) (v38 : FVec Ideal Cert.ProjIRefIdeal.S2x256x1 .f32)
  (r : Fin 2) (P : Fin 256)

/-- The centred rows, and the sums of their squares. -/
theorem centreR (k : Fin 3072) : R8 g cs s w ws b x (ix3 r P k)
    = R7 g cs s w ws b x (ix3 r P k) - Ideal.div (∑ k, R7 g cs s w ws b x (ix3 r P k)) (Ideal.ofBits FTy.f32 1161822208#32) := by
  unfold Cert.ProjIRefIdeal.Gen.k0_pay8
  generalize R7 g cs s w ws b x = A
  pointwise
  try rfl
theorem squareR (u : Fin 1) : R9 g cs s w ws b x (ix3 r P u) = ∑ k, R8 g cs s w ws b x (ix3 r P k) * R8 g cs s w ws b x (ix3 r P k) := by
  unfold Cert.ProjIRefIdeal.Gen.k0_pay9
  generalize R8 g cs s w ws b x = A
  pointwise
  try rfl
theorem normR (k : Fin 3072) : R1 v3 v5 v35 v38 (ix3 r P k)
    = v35 (ix3 r P k) * Ideal.rsqrt (Ideal.div (v38 (ix3 r P 0)) (Ideal.ofBits FTy.f32 1161822208#32) + Ideal.ofBits FTy.f32 897988541#32) * (1 + v5 (ix3 r 0 k)) + v3 (ix3 r 0 k) := by
  pointwise [Cert.ProjIRefIdeal.Gen.k0_pay1]
  try rfl
theorem shR (k : Fin 3072) : R5 sh (ix3 r 0 k) = sh (ix2 r k) := by
  pointwise [Cert.ProjIRefIdeal.Gen.k0_pay5]
theorem scR (k : Fin 3072) : R6 sc (ix3 r 0 k) = sc (ix2 r k) := by
  pointwise [Cert.ProjIRefIdeal.Gen.k0_pay6]

theorem lnR_of (f : Fin 3072 → EReal) (h35 : ∀ k, v35 (ix3 r P k) = f k - Ideal.div (∑ k, f k) (Ideal.ofBits FTy.f32 1161822208#32))
    (h38 : v38 (ix3 r P 0) = ∑ k, v35 (ix3 r P k) * v35 (ix3 r P k)) (k : Fin 3072) : R1 v3 v5 v35 v38 (ix3 r P k) = lnS f (v3 (ix3 r 0 k)) (v5 (ix3 r 0 k)) k := by
  rw [normR, h38]
  simp only [h35]
  rfl

/-- A row normalised and modulated. -/
theorem lnR (k : Fin 3072) : R1 (R5 sh) (R6 sc) (R8 g cs s w ws b x) (R9 g cs s w ws b x) (ix3 r P k)
    = lnS (fun k => R7 g cs s w ws b x (ix3 r P k)) (sh (ix2 r k)) (sc (ix2 r k)) k := by
  refine (lnR_of _ _ _ _ r P (fun k => R7 g cs s w ws b x (ix3 r P k)) (fun k => centreR g cs s w ws b x r P k) (squareR g cs s w ws b x r P 0) k).trans ?_
  rw [shR, scR]

/-- A row's scale and codes. -/
theorem scaleR : R2 v3 v5 v35 v38 (ix2 r P) = scaleOf (top fun k => R1 v3 v5 v35 v38 (ix3 r P k)) := by
  unfold Cert.ProjIRefIdeal.Gen.k0_pay2
  refine (scale_at _ _).trans (congrArg scaleOf ?_)
  generalize R1 v3 v5 v35 v38 = A
  pointwise
  try rfl
theorem flat8 (A : IVec Cert.ProjIRefIdeal.S2x256x3072 8) (R : Fin 512) (k : Fin 3072) :
    shapeCast Cert.ProjIRefIdeal.S512x3072 A Cert.ProjIRefIdeal.Gen.shapeCasts_S2x256x3072_S512x3072 (ix2 R k) = A (ix3 ⟨R.val / 256, by omega⟩ ⟨R.val % 256, by omega⟩ k) := by
  pointwise
theorem word_at (h : FVec Ideal Cert.ProjIRefIdeal.S2x256x3072 .f32) (k : Fin 3072) :
    (fptosi 8 (minimumf (broadcast Cert.ProjIRefIdeal.S2x256x3072 (Scalar.sitofp .f32 127#32)) (maximumf (broadcast Cert.ProjIRefIdeal.S2x256x3072 (Scalar.sitofp .f32 4294967169#32)) h)) : IVec Cert.ProjIRefIdeal.S2x256x3072 8) (ix3 r P k)
      = Ideal.fptosi 8 (min ((((127#32 : BitVec 32).toInt : ℤ) : ℝ) : EReal) (max ((((4294967169#32 : BitVec 32).toInt : ℤ) : ℝ) : EReal) (h (ix3 r P k)))) := by
  pointwise
  rfl
theorem round_at (h u : FVec Ideal Cert.ProjIRefIdeal.S2x256x3072 .f32) (j : Cert.ProjIRefIdeal.S2x256x3072.Idx) :
    roundeven (divf h u) j = Ideal.liftRound Ideal.roundHalfEven (Ideal.div (h j) (u j)) := by
  pointwise
theorem spread_at (u : FVec Ideal Cert.ProjIRefIdeal.S2x256 .f32) (k : Fin 3072) :
    broadcastTo Cert.ProjIRefIdeal.S2x256x3072 (shapeCast Cert.ProjIRefIdeal.S2x256x1 u Cert.ProjIRefIdeal.Gen.shapeCasts_S2x256_S2x256x1) Cert.ProjIRefIdeal.Gen.broadcasts_S2x256x1_S2x256x3072 (ix3 r P k) = u (ix2 r P) := by
  pointwise
theorem codeR (R : Fin 512) (k : Fin 3072) : R4 v3 v5 v35 v38 (ix2 R k)
    = Ideal.fptosi 8 (clip (Ideal.div (R1 v3 v5 v35 v38 (ix3 ⟨R.val / 256, by omega⟩ ⟨R.val % 256, by omega⟩ k)) (R2 v3 v5 v35 v38 (ix2 ⟨R.val / 256, by omega⟩ ⟨R.val % 256, by omega⟩)))) := by
  unfold Cert.ProjIRefIdeal.Gen.k0_pay4
  generalize R2 v3 v5 v35 v38 = u
  generalize R1 v3 v5 v35 v38 = A
  refine (flat8 _ R k).trans ((word_at _ _ _ k).trans ?_)
  rw [round_at, spread_at]
  exact congrArg (Ideal.fptosi 8) (clip_ints _)
theorem flatR (A : FVec Ideal Cert.ProjIRefIdeal.S2x256x3072 .f32) (R : Fin 512) (k : Fin 3072) :
    Cert.ProjIRefIdeal.Gen.k0_pay3 (F := Ideal) A (ix2 R k) = A (ix3 ⟨R.val / 256, by omega⟩ ⟨R.val % 256, by omega⟩ k) := by
  pointwise [Cert.ProjIRefIdeal.Gen.k0_pay3]

theorem rowScaleR : R2 (R5 sh) (R6 sc) (R8 g cs s w ws b x) (R9 g cs s w ws b x) (ix2 r P)
    = rowScale (fun k => R7 g cs s w ws b x (ix3 r P k)) (fun k => sh (ix2 r k)) (fun k => sc (ix2 r k)) := by
  rw [scaleR]
  unfold rowScale
  exact congrArg (fun h => scaleOf (top h)) (funext fun k => lnR g cs s w ws b x sh sc r P k)
theorem rowCodeR (R : Fin 512) (k : Fin 3072) : R4 (R5 sh) (R6 sc) (R8 g cs s w ws b x) (R9 g cs s w ws b x) (ix2 R k)
    = rowCode (fun k => R7 g cs s w ws b x (ix3 ⟨R.val / 256, by omega⟩ ⟨R.val % 256, by omega⟩ k)) (fun k => sh (ix2 ⟨R.val / 256, by omega⟩ k)) (fun k => sc (ix2 ⟨R.val / 256, by omega⟩ k)) k := by
  rw [codeR, rowScaleR, lnR, rowCode]
end Reference

end Cert.ProjIPay

end
-- ==== Proof.ProjIRefValue.lean ====
/- The image stream's attention projection reference: its arrays after its run, and each at a point. -/
module

public import proofs.«01_k».proof.Proof.Gen.ProjIRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.Loads
public import proofs.«01_k».proof.Proof.ProjIPay

@[expose] public section

set_option maxRecDepth 16384

noncomputable section

namespace Cert.ProjIRefIdeal.Hand

open Cert.ProjIRefIdeal Cert.ProjIRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S512x3072 .i8 := m ((c.tc : Thread nD τ).loc main_arg0)
abbrev a1 (c : Dev nD) : Vec F S2x256 .f32 := m ((c.tc : Thread nD τ).loc main_arg1)
abbrev a2 (c : Dev nD) : Vec F S2x256x3072 .bf16 := m ((c.tc : Thread nD τ).loc main_arg2)
abbrev a3 (c : Dev nD) : Vec F S2x18432 .f32 := m ((c.tc : Thread nD τ).loc main_arg3)
abbrev a4 (c : Dev nD) : Vec F S3072x3072 .i8 := m ((c.tc : Thread nD τ).loc main_arg4)
abbrev a5 (c : Dev nD) : Vec F S3072 .f32 := m ((c.tc : Thread nD τ).loc main_arg5)
abbrev a6 (c : Dev nD) : Vec F S3072 .f32 := m ((c.tc : Thread nD τ).loc main_arg6)

theorem e0 : ∀ t : Fin cfg0.N, win0_0.index t = ![0, 0] := by decide +kernel
theorem i0 (c : Dev nD) (t : Fin cfg0.N) : (iblk m c 0 t : Vec F S512x3072 .i8) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S2x256 .f32) = a1 m c := by
  funext y; blk_simp [iblk]; exact congrArg (a1 m c) (by blk_ext [e1])
theorem e2 : ∀ t : Fin cfg0.N, win0_2.index t = ![0, 0, 0] := by decide +kernel
theorem i2 (c : Dev nD) (t : Fin cfg0.N) : (iblk m c 2 t : Vec F S2x256x3072 .bf16) = a2 m c := by
  funext y; blk_simp [iblk]; exact congrArg (a2 m c) (by blk_ext [e2])
theorem e3 : ∀ t : Fin cfg0.N, win0_3.index t = ![0, 0] := by decide +kernel
theorem i3 (c : Dev nD) (t : Fin cfg0.N) : (iblk m c 3 t : Vec F S2x18432 .f32) = a3 m c := by
  funext y; blk_simp [iblk]; exact congrArg (a3 m c) (by blk_ext [e3])
theorem e4 : ∀ t : Fin cfg0.N, win0_4.index t = ![0, 0] := by decide +kernel
theorem i4 (c : Dev nD) (t : Fin cfg0.N) : (iblk m c 4 t : Vec F S3072x3072 .i8) = a4 m c := by
  funext y; blk_simp [iblk]; exact congrArg (a4 m c) (by blk_ext [e4])
theorem e5 : ∀ t : Fin cfg0.N, win0_5.index t = ![0] := by decide +kernel
theorem i5 (c : Dev nD) (t : Fin cfg0.N) : (iblk m c 5 t : Vec F S3072 .f32) = a5 m c := by
  funext y; blk_simp [iblk]; exact congrArg (a5 m c) (by blk_ext [e5])
theorem e6 : ∀ t : Fin cfg0.N, win0_6.index t = ![0] := by decide +kernel
theorem i6 (c : Dev nD) (t : Fin cfg0.N) : (iblk m c 6 t : Vec F S3072 .f32) = a6 m c := by
  funext y; blk_simp [iblk]; exact congrArg (a6 m c) (by blk_ext [e6])

/-! Each result array is the body's payload of the arguments. -/

theorem e7 : ∀ t : Fin cfg0.N, win0_7.index t = ![0, 0] := by decide +kernel
def res7 (c : Dev nD) : Vec F S512x3072 .f32 := out0_7 (a0 m c) (a1 m c) (a2 m c) (a3 m c) (a4 m c) (a5 m c) (a6 m c)
theorem final7 (c : Dev nD) : (dats m 0 c).arrAt 7 cfg0.N = res7 m c := by
  refine (dats m 0 c).arrAt_eq_of_covers 7 _ (by decide +kernel) fun t hf y => ?_
  blk_simp
  rw [after0_7, i0, i1, i2, i3, i4, i5, i6]
  exact congrArg (res7 m c) (by blk_ext [e7])

theorem e8 : ∀ t : Fin cfg0.N, win0_8.index t = ![0, 0] := by decide +kernel
def res8 (c : Dev nD) : Vec F S512x3072 .i8 := out0_8 (a0 m c) (a1 m c) (a2 m c) (a3 m c) (a4 m c) (a5 m c) (a6 m c)
theorem final8 (c : Dev nD) : (dats m 0 c).arrAt 8 cfg0.N = res8 m c := by
  refine (dats m 0 c).arrAt_eq_of_covers 8 _ (by decide +kernel) fun t hf y => ?_
  blk_simp
  rw [after0_8, i0, i1, i2, i3, i4, i5, i6]
  exact congrArg (res8 m c) (by blk_ext [e8])

theorem e9 : ∀ t : Fin cfg0.N, win0_9.index t = ![0, 0] := by decide +kernel
def res9 (c : Dev nD) : Vec F S2x256 .f32 := out0_9 (a0 m c) (a1 m c) (a2 m c) (a3 m c) (a4 m c) (a5 m c) (a6 m c)
theorem final9 (c : Dev nD) : (dats m 0 c).arrAt 9 cfg0.N = res9 m c := by
  refine (dats m 0 c).arrAt_eq_of_covers 9 _ (by decide +kernel) fun t hf y => ?_
  blk_simp
  rw [after0_9, i0, i1, i2, i3, i4, i5, i6]
  exact congrArg (res9 m c) (by blk_ext [e9])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res7 m c
      ∧ r.2.mem ((c.tc : Thread nD τ).loc main_v0_1) = res8 m c
      ∧ r.2.mem ((c.tc : Thread nD τ).loc main_v0_2) = res9 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

/-! The results at a point. -/

section Points
open Cert.ProjIPay Idealize.ShloMosaic.Pointwise
open Cert.ProjTPay (rowScale rowCode resid)
variable (x0 : Vec Ideal S512x3072 .i8) (x1 : Vec Ideal S2x256 .f32) (x2 : Vec Ideal S2x256x3072 .bf16) (x3 : Vec Ideal S2x18432 .f32) (x4 : Vec Ideal S3072x3072 .i8) (x5 x6 : Vec Ideal S3072 .f32)

/-- The gate, the shift and the scale of the modulation. -/
def gt : Vec Ideal S2x3072 .f32 := View.ld x3 r0_0
def sh : Vec Ideal S2x3072 .f32 := View.ld x3 r0_1
def sc : Vec Ideal S2x3072 .f32 := View.ld x3 r0_2
theorem gt_at (r : Fin 2) (b : Fin 3072) : gt x3 (ix2 r b) = x3 (ix2 r ⟨6144 + b.val, by omega⟩) := by
  unfold gt View.ld
  congr 1
  funext a
  apply Fin.ext
  fin_cases a
  · show 0 + 1 * r.val = r.val
    omega
  · show 6144 + 1 * b.val = 6144 + b.val
    omega
theorem sh_at (r : Fin 2) (b : Fin 3072) : sh x3 (ix2 r b) = x3 (ix2 r ⟨9216 + b.val, by omega⟩) := by
  unfold sh View.ld
  congr 1
  funext a
  apply Fin.ext
  fin_cases a
  · show 0 + 1 * r.val = r.val
    omega
  · show 9216 + 1 * b.val = 9216 + b.val
    omega
theorem sc_at (r : Fin 2) (b : Fin 3072) : sc x3 (ix2 r b) = x3 (ix2 r ⟨12288 + b.val, by omega⟩) := by
  unfold sc View.ld
  congr 1
  funext a
  apply Fin.ext
  fin_cases a
  · show 0 + 1 * r.val = r.val
    omega
  · show 12288 + 1 * b.val = 12288 + b.val
    omega

/-- The residual rows. -/
def res : FVec Ideal S2x256x3072 .f32 := k0_pay7 (gt x3) x0 x1 x4 x5 x6 x2

/-- A residual entry of the token `P` of the batch element `r`. -/
def resAt (r : Fin 2) (P : Fin 256) (j : Fin 3072) : EReal :=
  resid (x2 (ix3 r P j)) (x3 (ix2 r ⟨6144 + j.val, by omega⟩)) (fun k => x0 (ix2 ⟨r.val * 256 + P.val, by omega⟩ k)) (fun k => x4 (ix2 k j)) (x1 (ix2 r P)) (x5 (ix1 j)) (x6 (ix1 j))
theorem res_at (r : Fin 2) (P : Fin 256) (j : Fin 3072) : res x0 x1 x2 x3 x4 x5 x6 (ix3 r P j) = resAt x0 x1 x2 x3 x4 x5 x6 r P j := by
  unfold res resAt
  rw [residR, gt_at]
theorem res_row (r : Fin 2) (P : Fin 256) : (fun k => res x0 x1 x2 x3 x4 x5 x6 (ix3 r P k)) = fun k => resAt x0 x1 x2 x3 x4 x5 x6 r P k :=
  funext fun k => res_at x0 x1 x2 x3 x4 x5 x6 r P k
theorem sh_row (r : Fin 2) : (fun k => sh x3 (ix2 r k)) = fun k => x3 (ix2 r ⟨9216 + k.val, by omega⟩) := funext fun k => sh_at x3 r k
theorem sc_row (r : Fin 2) : (fun k => sc x3 (ix2 r k)) = fun k => x3 (ix2 r ⟨12288 + k.val, by omega⟩) := funext fun k => sc_at x3 r k

theorem q7 : k0_pay7 (View.ld x3 r0_0) (View.ld x0 r0_3) (View.ld x1 r0_4) (View.ld x4 r0_5) (View.ld x5 r0_6) (View.ld x6 r0_6) (View.ld x2 r0_7) = res x0 x1 x2 x3 x4 x5 x6 := by
  unfold res gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q12 : k0_pay12 x0 x1 x2 x3 x4 x5 x6 = k0_pay8 (gt x3) x0 x1 x4 x5 x6 x2 := by
  unfold k0_pay12 gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q13 : k0_pay13 x0 x1 x2 x3 x4 x5 x6 = k0_pay9 (gt x3) x0 x1 x4 x5 x6 x2 := by
  unfold k0_pay13 gt
  rw [show View.ld x0 r0_3 = x0 from ld2 _ x0, show View.ld x1 r0_4 = x1 from ld2 _ x1, show View.ld x4 r0_5 = x4 from ld2 _ x4, show View.ld x5 r0_6 = x5 from ld1 _ x5,
    show View.ld x6 r0_6 = x6 from ld1 _ x6, show View.ld x2 r0_7 = x2 from ld3 _ x2]
theorem q10 : k0_pay10 x0 x1 x2 x3 x4 x5 x6 = k0_pay5 (sh x3) := by unfold k0_pay10 sh; rfl
theorem q11 : k0_pay11 x0 x1 x2 x3 x4 x5 x6 = k0_pay6 (sc x3) := by unfold k0_pay11 sc; rfl

theorem out7_at (R : Fin 512) (k : Fin 3072) : out0_7 x0 x1 x2 x3 x4 x5 x6 (ix2 R k) = resAt x0 x1 x2 x3 x4 x5 x6 ⟨R.val / 256, by omega⟩ ⟨R.val % 256, by omega⟩ k := by
  unfold out0_7
  rw [View.canon_unit_zero hz2, q7, flatR, res_at]
theorem out8_at (R : Fin 512) (k : Fin 3072) : out0_8 x0 x1 x2 x3 x4 x5 x6 (ix2 R k)
    = rowCode (fun k => resAt x0 x1 x2 x3 x4 x5 x6 ⟨R.val / 256, by omega⟩ ⟨R.val % 256, by omega⟩ k) (fun k => x3 (ix2 ⟨R.val / 256, by omega⟩ ⟨9216 + k.val, by omega⟩))
        (fun k => x3 (ix2 ⟨R.val / 256, by omega⟩ ⟨12288 + k.val, by omega⟩)) k := by
  unfold out0_8
  rw [View.canon_unit_zero hz2, q10, q11, q12, q13]
  refine (rowCodeR (gt x3) x0 x1 x4 x5 x6 x2 (sh x3) (sc x3) R k).trans ?_
  rw [← sh_row, ← sc_row, ← res_row]
  unfold res
  rfl
theorem out9_at (r : Fin 2) (P : Fin 256) : out0_9 x0 x1 x2 x3 x4 x5 x6 (ix2 r P)
    = rowScale (fun k => resAt x0 x1 x2 x3 x4 x5 x6 r P k) (fun k => x3 (ix2 r ⟨9216 + k.val, by omega⟩)) (fun k => x3 (ix2 r ⟨12288 + k.val, by omega⟩)) := by
  unfold out0_9
  rw [View.canon_unit_zero hz2, q10, q11, q12, q13]
  refine (rowScaleR (gt x3) x0 x1 x4 x5 x6 x2 (sh x3) (sc x3) r P).trans ?_
  rw [← sh_row, ← sc_row, ← res_row]
  unfold res
  rfl
end Points

end Cert.ProjIRefIdeal.Hand

end
-- ==== Proof.ProjIValue.lean ====
/- The value of the image stream's attention projection kernel over the extended reals: its three results are the reference's. -/
module

public import proofs.«01_k».proof.Defs
public import proofs.«01_k».proof.Proof.ProjIFrame
public import proofs.«01_k».proof.Proof.ProjIPay
public import proofs.«01_k».proof.Proof.ProjIRefValue
public import Idealize.ShloMosaic.Lib.Pipeline.ArrRel
public import Idealize.ShloMosaic.Lib.Pipeline.ValueKit.Geometry
public import Idealize.ShloMosaic.Lib.Pipeline.ValueKit.Basic
public import Idealize.ShloMosaic.Lib.Pointwise
public import Idealize.ShloMosaic.Lib.Claim

@[expose] public section

set_option maxRecDepth 16384

noncomputable section

namespace Cert.ProjIIdeal.Hand

open Cert.ProjIIdeal Cert.ProjIIdeal.Gen Cert.ProjIPay Cert.Loops
open Cert.ProjTPay (rowScale rowCode resid)
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S512x3072 .i8 := m ((c.tc : Thread nD τ).loc main_arg0)
abbrev x1 : Vec F S2x256 .f32 := m ((c.tc : Thread nD τ).loc main_arg1)
abbrev x2 : Vec F S2x256x3072 .bf16 := m ((c.tc : Thread nD τ).loc main_arg2)
abbrev x3 : Vec F S2x18432 .f32 := m ((c.tc : Thread nD τ).loc main_arg3)
abbrev x4 : Vec F S3072x3072 .i8 := m ((c.tc : Thread nD τ).loc main_arg4)
abbrev x5 : Vec F S3072 .f32 := m ((c.tc : Thread nD τ).loc main_arg5)
abbrev x6 : Vec F S3072 .f32 := m ((c.tc : Thread nD τ).loc main_arg6)

/-! Where each block lies. -/

theorem wx0 : ∀ t : Fin cfg0.N, win0_0.index t = ![0, 0] := by decide +kernel
theorem wx1 : ∀ t : Fin cfg0.N, win0_1.index t = ![0, 0] := by decide +kernel
theorem wx2 : ∀ t : Fin cfg0.N, win0_2.index t = ![0, t.val % 6] := by decide +kernel
theorem wx3 : ∀ t : Fin cfg0.N, win0_3.index t = ![0, 12 + t.val % 6] := by decide +kernel
theorem wx4 : ∀ t : Fin cfg0.N, win0_4.index t = ![0, 3] := by decide +kernel
theorem wx5 : ∀ t : Fin cfg0.N, win0_5.index t = ![0, 4] := by decide +kernel
theorem wx6 : ∀ t : Fin cfg0.N, win0_6.index t = ![0, t.val % 6] := by decide +kernel
theorem wx7 : ∀ t : Fin cfg0.N, win0_7.index t = ![0, t.val % 6] := by decide +kernel
theorem wx8 : ∀ t : Fin cfg0.N, win0_8.index t = ![0, t.val % 6] := by decide +kernel
theorem wx9 : ∀ t : Fin cfg0.N, win0_9.index t = ![0, 0] := by decide +kernel
theorem wx10 : ∀ t : Fin cfg0.N, win0_10.index t = ![0, 0] := by decide +kernel
theorem wx11 : ∀ t : Fin cfg0.N, win0_11.index t = ![0, 0] := by decide +kernel

/-- When each output leaves. -/
theorem flush9 : ∀ t : Fin cfg0.N, (cfg0.win 9).flush t = true → t.val = 5 := by decide +kernel
theorem flush10 : ∀ t : Fin cfg0.N, (cfg0.win 10).flush t = true → t.val = 5 := by decide +kernel
theorem flush11 : ∀ t : Fin cfg0.N, (cfg0.win 11).flush t = true → t.val = 5 := by decide +kernel

/-- Token `p` of the batch element `r`, and column `j` of the tile at `t`. -/
def row (r : Fin 2) (p : Fin 256) : Fin 512 := ⟨r.val * 256 + p.val, by omega⟩
def col (t : Fin cfg0.N) (j : Fin 512) : Fin 3072 := ⟨t.val % 6 * 512 + j.val, by omega⟩
/-- A row's batch element and token. -/
abbrev el (a : Fin 512) : Fin 2 := ⟨a.val / 256, by omega⟩
abbrev tok (a : Fin 512) : Fin 256 := ⟨a.val % 256, by omega⟩
theorem el_row (r : Fin 2) (p : Fin 256) : el (row r p) = r := Fin.ext (by show (r.val * 256 + p.val) / 256 = r.val; omega)
theorem tok_row (r : Fin 2) (p : Fin 256) : tok (row r p) = p := Fin.ext (by show (r.val * 256 + p.val) % 256 = p.val; omega)
/-- A row's chunk lies in its batch element. -/
theorem sof_kof (a : Fin 512) : sof (kof a) = el a := by
  revert a
  decide +kernel
/-- The rows of the first batch element, and of the second. -/
theorem el_lo (a : Fin 512) (h : a.val < 256) : el a = 0 := Fin.ext (by show a.val / 256 = 0; omega)
theorem tok_lo (a : Fin 512) (h : a.val < 256) : tok a = ⟨a.val, h⟩ := Fin.ext (by show a.val % 256 = a.val; omega)
theorem el_hi (a : Fin 512) (h : ¬ a.val < 256) : el a = 1 := Fin.ext (by show a.val / 256 = 1; omega)
theorem tok_hi (a : Fin 512) (h : ¬ a.val < 256) : tok a = ⟨a.val - 256, by omega⟩ := Fin.ext (by show a.val % 256 = a.val - 256; omega)

theorem V0 : (V m c main_v0 : Vec F S512x3072 .bf16) = shapeCast S512x3072 (x2 m c) shapeCasts_S2x256x3072_S512x3072 := by
  entry_read; rfl
theorem V1 : (V m c main_v1 : Vec F S1x3072 .f32) = shapeCast S1x3072 (x5 m c) shapeCasts_S3072_S1x3072 := by
  entry_read; rfl
theorem V2 : (V m c main_v2 : Vec F S1x3072 .f32) = shapeCast S1x3072 (x6 m c) shapeCasts_S3072_S1x3072 := by
  entry_read; rfl

theorem blk0 (t : Fin cfg0.N) (p : Fin 512) (k : Fin 3072) :
    (iblk m c 0 t : Vec F S512x3072 .i8) (ix2 p k) = x0 m c (ix2 p k) := by
  blk_simp [iblk]; rw [V_main_arg0]; exact congrArg (x0 m c) (by blk_ext [wx0])
theorem blk1 (t : Fin cfg0.N) (r : Fin 2) (k : Fin 256) : (iblk m c 1 t : Vec F S2x256 .f32) (ix2 r k) = x1 m c (ix2 r k) := by
  blk_simp [iblk]; rw [V_main_arg1]; exact congrArg (x1 m c) (by blk_ext [wx1])
theorem blk2 (t : Fin cfg0.N) (p j : Fin 512) :
    (iblk m c 2 t : Vec F S512x512 .bf16) (ix2 p j) = x2 m c (ix3 (el p) (tok p) (col t j)) := by
  have e : (iblk m c 2 t : Vec F S512x512 .bf16) (ix2 p j) = (V m c main_v0 : Vec F S512x3072 .bf16) (ix2 p (col t j)) := by
    blk_simp [iblk]
    exact congrArg (V m c main_v0) (by blk_ext [wx2]; rfl)
  have e' : ∀ k : Fin 3072, shapeCast S512x3072 (x2 m c) shapeCasts_S2x256x3072_S512x3072 (ix2 p k) = x2 m c (ix3 (el p) (tok p) k) := by
    intro k
    pointwise
  rw [e, V0, e']
theorem blk3 (t : Fin cfg0.N) (r : Fin 2) (j : Fin 512) :
    (iblk m c 3 t : Vec F S2x512 .f32) (ix2 r j) = x3 m c (ix2 r ⟨6144 + (col t j).val, by omega⟩) := by
  blk_simp [iblk]; rw [V_main_arg3]
  refine congrArg (x3 m c) ?_
  blk_ext [wx3]
  show (12 + t.val % 6) * 512 + j.val = 6144 + (t.val % 6 * 512 + j.val)
  omega
theorem blk4 (t : Fin cfg0.N) (r : Fin 2) (k : Fin 3072) :
    (iblk m c 4 t : Vec F S2x3072 .f32) (ix2 r k) = x3 m c (ix2 r ⟨9216 + k.val, by omega⟩) := by
  blk_simp [iblk]; rw [V_main_arg3]; exact congrArg (x3 m c) (by blk_ext [wx4])
theorem blk5 (t : Fin cfg0.N) (r : Fin 2) (k : Fin 3072) :
    (iblk m c 5 t : Vec F S2x3072 .f32) (ix2 r k) = x3 m c (ix2 r ⟨12288 + k.val, by omega⟩) := by
  blk_simp [iblk]; rw [V_main_arg3]; exact congrArg (x3 m c) (by blk_ext [wx5])
theorem blk6 (t : Fin cfg0.N) (k : Fin 3072) (j : Fin 512) :
    (iblk m c 6 t : Vec F S3072x512 .i8) (ix2 k j) = x4 m c (ix2 k (col t j)) := by
  blk_simp [iblk]; rw [V_main_arg4]; exact congrArg (x4 m c) (by blk_ext [wx6]; rfl)
theorem blk7 (t : Fin cfg0.N) (j : Fin 512) : (iblk m c 7 t : Vec F S1x512 .f32) (ix2 0 j) = x5 m c (ix1 (col t j)) := by
  have e : (iblk m c 7 t : Vec F S1x512 .f32) (ix2 0 j) = (V m c main_v1 : Vec F S1x3072 .f32) (ix2 0 (col t j)) := by
    blk_simp [iblk]; exact congrArg (V m c main_v1) (by blk_ext [wx7]; rfl)
  rw [e, V1]; pointwise
theorem blk8 (t : Fin cfg0.N) (j : Fin 512) : (iblk m c 8 t : Vec F S1x512 .f32) (ix2 0 j) = x6 m c (ix1 (col t j)) := by
  have e : (iblk m c 8 t : Vec F S1x512 .f32) (ix2 0 j) = (V m c main_v2 : Vec F S1x3072 .f32) (ix2 0 (col t j)) := by
    blk_simp [iblk]; exact congrArg (V m c main_v2) (by blk_ext [wx8]; rfl)
  rw [e, V2]; pointwise

theorem chunk_at (x : Vec F S512x3072 .f32) (a : Fin 512) (b : Fin 3072) : xchunk x (kof a) (ix2 (pof a) b) = x (ix2 a b) := by
  show x (ix2 ⟨32 * (a.val / 32) + a.val % 32, _⟩ b) = x (ix2 a b)
  exact congrArg (fun z => x (ix2 z b)) (Fin.ext (by show 32 * (a.val / 32) + a.val % 32 = a.val; omega))
theorem mrow_at (X : Vec F S2x3072 .f32) (r : Fin 2) (b : Fin 3072) : mrow X r (ix2 0 b) = X (ix2 r b) :=
  congrArg (fun z => X (ix2 z b)) (Fin.ext (by show r.val + 0 = r.val; omega))
theorem grow_at (X : Vec F S2x512 .f32) (r : Fin 2) (b : Fin 512) : grow X r (ix2 0 b) = X (ix2 r b) :=
  congrArg (fun z => X (ix2 z b)) (Fin.ext (by show r.val + 0 = r.val; omega))
theorem scol_at (X : Vec F S512x128 .f32) (p : Fin 512) : scol X (ix2 p 0) = X (ix2 p 0) := by
  unfold scol View.ld
  congr 1
  funext a
  apply Fin.ext
  fin_cases a
  · show 0 + 1 * p.val = p.val
    omega
  · rfl
theorem srow_at (X : Vec F S2x256 .f32) (r : Fin 2) (b : Fin 256) : srow X r (ix2 0 b) = X (ix2 r b) :=
  congrArg (fun z => X (ix2 z b)) (Fin.ext (by show r.val + 0 = r.val; omega))
theorem col_ptc (b : Fin 3072) (h : b.val % 512 < 512) : col (ptc b) ⟨b.val % 512, h⟩ = b :=
  Fin.ext (by show (b.val / 512) % 6 * 512 + b.val % 512 = b.val; omega)
end Any

variable (m : (ℓ : Loc nD τ sig) → Buf (Elt Ideal) ℓ) (ρ : Dev nD → PrngReg) (c : Dev nD)

/-! The three results as the reference states them. -/

def val9 : Vec Ideal S512x3072 .f32 := Cert.ProjIRefIdeal.Gen.out0_7 (F := Ideal) (x0 m c) (x1 m c) (x2 m c) (x3 m c) (x4 m c) (x5 m c) (x6 m c)
def val10 : Vec Ideal S512x3072 .i8 := Cert.ProjIRefIdeal.Gen.out0_8 (F := Ideal) (x0 m c) (x1 m c) (x2 m c) (x3 m c) (x4 m c) (x5 m c) (x6 m c)
def val11 : Vec Ideal S2x256 .f32 := Cert.ProjIRefIdeal.Gen.out0_9 (F := Ideal) (x0 m c) (x1 m c) (x2 m c) (x3 m c) (x4 m c) (x5 m c) (x6 m c)

/-- A residual row, and a batch element's shift and scale. -/
def rowF (r : Fin 2) (a : Fin 256) (k : Fin 3072) : EReal := Cert.ProjIRefIdeal.Hand.resAt (x0 m c) (x1 m c) (x2 m c) (x3 m c) (x4 m c) (x5 m c) (x6 m c) r a k
def rowSh (r : Fin 2) (k : Fin 3072) : EReal := x3 m c (ix2 r ⟨9216 + k.val, by omega⟩)
def rowSc (r : Fin 2) (k : Fin 3072) : EReal := x3 m c (ix2 r ⟨12288 + k.val, by omega⟩)

theorem inR_at (p : Fin 512) : inR m c (ix2 p 0) = x1 m c (ix2 (el p) (tok p)) := by
  unfold inR inS
  by_cases h : p.val < 256
  · rw [el_lo p h, tok_lo p h]
    exact (join_lo _ _ p 0 h).trans ((fill_k _ ⟨p.val, h⟩ 0).trans ((srow_at _ 0 _).trans (blk1 m c _ 0 _)))
  · rw [el_hi p h, tok_hi p h]
    exact (join_hi _ _ p 0 h).trans ((fill_k _ ⟨p.val - 256, by omega⟩ 0).trans ((srow_at _ 1 _).trans (blk1 m c _ 1 _)))

theorem tileT_at (t : Fin cfg0.N) (p j : Fin 512) : tileT m c t (ix2 p j) = rowF m c (el p) (tok p) (col t j) := by
  unfold tileT tileS
  have es : scol (inR m c) (ix2 p 0) = x1 m c (ix2 (el p) (tok p)) := (scol_at _ p).trans (inR_at m c p)
  have er : (⟨(el p).val * 256 + (tok p).val, by omega⟩ : Fin 512) = p := Fin.ext (by show p.val / 256 * 256 + p.val % 256 = p.val; omega)
  have eF : rowF m c (el p) (tok p) (col t j) = resid (x2 m c (ix3 (el p) (tok p) (col t j))) (x3 m c (ix2 (el p) ⟨6144 + (col t j).val, by omega⟩)) (fun k => x0 m c (ix2 p k))
      (fun k => x4 m c (ix2 k (col t j))) (x1 m c (ix2 (el p) (tok p))) (x5 m c (ix1 (col t j))) (x6 m c (ix1 (col t j))) := by
    unfold rowF Cert.ProjIRefIdeal.Hand.resAt
    rw [er]
  rw [eF]
  by_cases h : p.val < 256
  · refine (join_lo _ _ p j h).trans ((resid0 _ _ _ _ _ _ _ (⟨p.val, h⟩ : Fin 256) j).trans ?_)
    have ep : ∀ h' : 0 + (⟨p.val, h⟩ : Fin 256).val < 512, (⟨0 + (⟨p.val, h⟩ : Fin 256).val, h'⟩ : Fin 512) = p := fun h' => Fin.ext (by show 0 + p.val = p.val; omega)
    have ex : xhalf (iblk m c 2 t) 0 (ix2 (⟨p.val, h⟩ : Fin 256) j) = x2 m c (ix3 (el p) (tok p) (col t j)) :=
      (congrArg (fun z => (iblk m c 2 t : Vec Ideal S512x512 .bf16) (ix2 z j)) (Fin.ext (by show 256 * 0 + p.val = p.val; omega))).trans (blk2 m c t p j)
    have eg : grow (iblk m c 3 t) 0 (ix2 0 j) = x3 m c (ix2 (el p) ⟨6144 + (col t j).val, by omega⟩) := by
      rw [el_lo p h]
      exact (grow_at _ 0 j).trans (blk3 m c t 0 j)
    simp only [ep]
    rw [es, eg, ex]
    simp only [blk0, blk6, blk7, blk8]
  · refine (join_hi _ _ p j h).trans ((resid1 _ _ _ _ _ _ _ (⟨p.val - 256, by omega⟩ : Fin 256) j).trans ?_)
    have ep : ∀ h' : 256 + (⟨p.val - 256, by omega⟩ : Fin 256).val < 512, (⟨256 + (⟨p.val - 256, by omega⟩ : Fin 256).val, h'⟩ : Fin 512) = p := fun h' => Fin.ext (by show 256 + (p.val - 256) = p.val; omega)
    have ex : xhalf (iblk m c 2 t) 1 (ix2 (⟨p.val - 256, by omega⟩ : Fin 256) j) = x2 m c (ix3 (el p) (tok p) (col t j)) :=
      (congrArg (fun z => (iblk m c 2 t : Vec Ideal S512x512 .bf16) (ix2 z j)) (Fin.ext (by show 256 + (p.val - 256) = p.val; omega))).trans (blk2 m c t p j)
    have eg : grow (iblk m c 3 t) 1 (ix2 0 j) = x3 m c (ix2 (el p) ⟨6144 + (col t j).val, by omega⟩) := by
      rw [el_hi p h]
      exact (grow_at _ 1 j).trans (blk3 m c t 1 j)
    simp only [ep]
    rw [es, eg, ex]
    simp only [blk0, blk6, blk7, blk8]

/-! What the kernel keeps of the rows. -/

theorem x1R_at (a : Fin 512) (b : Fin 3072) : x1R m c (ix2 a b) = rowF m c (el a) (tok a) b := by
  unfold x1R
  refine (tileT_at m c (ptc b) a ⟨b.val % 512, by omega⟩).trans ?_
  rw [col_ptc]
theorem hv (a : Fin 512) (b : Fin 3072) : xchunk (x1R m c) (kof a) (ix2 (pof a) b) = rowF m c (el a) (tok a) b :=
  (chunk_at _ a b).trans (x1R_at m c a b)
theorem hs (a : Fin 512) (b : Fin 3072) : mrow (iblk m c 4 pt) (sof (kof a)) (ix2 0 b) = rowSh m c (el a) b := by
  rw [sof_kof]
  exact (mrow_at _ _ b).trans (blk4 m c _ _ b)
theorem hg (a : Fin 512) (b : Fin 3072) : mrow (iblk m c 5 pt) (sof (kof a)) (ix2 0 b) = rowSc m c (el a) b := by
  rw [sof_kof]
  exact (mrow_at _ _ b).trans (blk5 m c _ _ b)

theorem codesR_at (a : Fin 512) (b : Fin 3072) : codesR m c (ix2 a b) = rowCode (rowF m c (el a) (tok a)) (rowSh m c (el a)) (rowSc m c (el a)) b :=
  codeK _ _ _ _ _ _ (pof a) (hv m c a) (hs m c a) (hg m c a) b
theorem srowR_at (a : Fin 512) (b : Fin 128) : srowR m c (ix2 a b) = rowScale (rowF m c (el a) (tok a)) (rowSh m c (el a)) (rowSc m c (el a)) :=
  (spread_k _ (pof a) b).trans (scaleK _ _ _ _ _ _ (pof a) (hv m c a) (hs m c a) (hg m c a) 0)
theorem half_at (r : Fin 2) (p : Fin 256) : half (srowR m c) r (ix2 p 0) = srowR m c (ix2 (row r p) 0) :=
  congrArg (fun z => srowR m c (ix2 z 0)) (Fin.ext (by show 256 * r.val + p.val = r.val * 256 + p.val; omega))
theorem rowsR_at (r : Fin 2) (p : Fin 256) : rowsR m c (ix2 r p) = rowScale (rowF m c r p) (rowSh m c r) (rowSc m c r) := by
  refine (flip_k _ p).trans ((half_at m c r p).trans ((srowR_at m c (row r p) 0).trans ?_))
  rw [el_row, tok_row]

/-- Every array after the run. -/
theorem finals {r} (h : RDat.FramePost (cfgs 0) (rdat m) (V m) r) :
    r.2.mem ((c.tc : Thread nD τ).loc main_v3_0) = val9 m c
      ∧ r.2.mem ((c.tc : Thread nD τ).loc main_v3_1) = val10 m c
      ∧ r.2.mem ((c.tc : Thread nD τ).loc main_v3_2) = val11 m c := by
  obtain ⟨after, hL, hA⟩ := RDat.FramePost.exists_exact h c
  refine ⟨(hA 9).trans ?_, (hA 10).trans ?_, (hA 11).trans ?_⟩
  · refine ((rdat m c).withAfter after).arrAt_eq_of_covers 9 (val9 m c) (by decide +kernel) fun t hf y => ?_
    obtain ⟨_, _, e⟩ := hL 9 t hf
    have e' : ∀ y : S512x3072.Idx, (y 1).val < 512 * (t.val + 1) → (after 9 t : Vec Ideal S512x3072 .f32) y = x1R m c y := e
    rw [RDat.withAfter_after]
    have ht := flush9 t hf
    blk_simp
    obtain ⟨a, n, rfl⟩ : ∃ (a : Fin 512) (n : Fin 3072), y = ix2 a n := ⟨_, _, eq_ix2 y⟩
    refine (((e' (ix2 a n) (by show n.val < _; omega)).trans (x1R_at m c a n)).trans (Cert.ProjIRefIdeal.Hand.out7_at (x0 m c) (x1 m c) (x2 m c) (x3 m c) (x4 m c) (x5 m c) (x6 m c) a n).symm).trans (congrArg (val9 m c) ?_)
    blk_ext [wx9]
  · refine ((rdat m c).withAfter after).arrAt_eq_of_covers 10 (val10 m c) (by decide +kernel) fun t hf y => ?_
    obtain ⟨_, _, e⟩ := hL 10 t hf
    have e' : t.val = 5 → after 10 t = codesR m c := e
    rw [RDat.withAfter_after, e' (flush10 t hf)]
    blk_simp
    obtain ⟨a, n, rfl⟩ : ∃ (a : Fin 512) (n : Fin 3072), y = ix2 a n := ⟨_, _, eq_ix2 y⟩
    refine ((codesR_at m c a n).trans (Cert.ProjIRefIdeal.Hand.out8_at (x0 m c) (x1 m c) (x2 m c) (x3 m c) (x4 m c) (x5 m c) (x6 m c) a n).symm).trans (congrArg (val10 m c) ?_)
    blk_ext [wx10]
  · refine ((rdat m c).withAfter after).arrAt_eq_of_covers 11 (val11 m c) (by decide +kernel) fun t hf y => ?_
    obtain ⟨_, _, e⟩ := hL 11 t hf
    have e' : t.val = 5 → after 11 t = rowsR m c := e
    rw [RDat.withAfter_after, e' (flush11 t hf)]
    blk_simp
    obtain ⟨a, n, rfl⟩ : ∃ (a : Fin 2) (n : Fin 256), y = ix2 a n := ⟨_, _, eq_ix2 y⟩
    refine ((rowsR_at m c a n).trans (Cert.ProjIRefIdeal.Hand.out9_at (x0 m c) (x1 m c) (x2 m c) (x3 m c) (x4 m c) (x5 m c) (x6 m c) a n).symm).trans (congrArg (val11 m c) ?_)
    blk_ext [wx11]

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v3_0) = val9 m c
      ∧ r.2.mem ((c.tc : Thread nD τ).loc main_v3_1) = val10 m c
      ∧ r.2.mem ((c.tc : Thread nD τ).loc main_v3_2) = val11 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6) :=
  (θ_run defs _ _).mono (fun _ h c => ⟨(finals m c h.1).1, (finals m c h.1).2.1, (finals m c h.1).2.2, args_of m h.1 c⟩) (run_main_quiescent m ρ)

end Cert.ProjIIdeal.Hand

namespace Cert.ProjIPay
open Idealize.ShloMosaic Idealize.ShloMosaic.TcCoe Idealize.SL.Sem

/-- The kernel and the reference end with the same three results. -/
theorem algebraic [hK : Cert.ProjIIdeal.Facts] [hR : Cert.ProjIRefIdeal.Facts] : Cert.algebraic_ProjIIdeal_ProjIRefIdeal := by
  intro m g m' g' _ hag
  refine ⟨fun c => Cert.ProjIIdeal.Hand.val9 m c, fun c => Cert.ProjIIdeal.Hand.val10 m c, fun c => Cert.ProjIIdeal.Hand.val11 m c, ?_, ?_⟩
  · exact Cert.ProjIIdeal.Hand.run m g
  · refine (θ_run _ _ _).mono (fun r h c => ?_) (Cert.ProjIRefIdeal.Hand.run m' g')
    obtain ⟨h0, h1, h2, h3, h4, h5, h6⟩ := hag c
    have g0 : Cert.ProjIRefIdeal.Hand.a0 m' c = Cert.ProjIIdeal.Hand.x0 m c := h0
    have g1 : Cert.ProjIRefIdeal.Hand.a1 m' c = Cert.ProjIIdeal.Hand.x1 m c := h1
    have g2 : Cert.ProjIRefIdeal.Hand.a2 m' c = Cert.ProjIIdeal.Hand.x2 m c := h2
    have g3 : Cert.ProjIRefIdeal.Hand.a3 m' c = Cert.ProjIIdeal.Hand.x3 m c := h3
    have g4 : Cert.ProjIRefIdeal.Hand.a4 m' c = Cert.ProjIIdeal.Hand.x4 m c := h4
    have g5 : Cert.ProjIRefIdeal.Hand.a5 m' c = Cert.ProjIIdeal.Hand.x5 m c := h5
    have g6 : Cert.ProjIRefIdeal.Hand.a6 m' c = Cert.ProjIIdeal.Hand.x6 m c := h6
    refine ⟨(h c).1.trans ?_, (h c).2.1.trans ?_, (h c).2.2.1.trans ?_, (h c).2.2.2⟩
    · show Cert.ProjIRefIdeal.Gen.out0_7 _ _ _ _ _ _ _ = Cert.ProjIRefIdeal.Gen.out0_7 _ _ _ _ _ _ _
      rw [g0, g1, g2, g3, g4, g5, g6]
    · show Cert.ProjIRefIdeal.Gen.out0_8 _ _ _ _ _ _ _ = Cert.ProjIRefIdeal.Gen.out0_8 _ _ _ _ _ _ _
      rw [g0, g1, g2, g3, g4, g5, g6]
    · show Cert.ProjIRefIdeal.Gen.out0_9 _ _ _ _ _ _ _ = Cert.ProjIRefIdeal.Gen.out0_9 _ _ _ _ _ _ _
      rw [g0, g1, g2, g3, g4, g5, g6]

end Cert.ProjIPay

end
-- ==== Proof.MlpILoop.lean ====
/- The quantising loop of the image stream's MLP call, at any float type: what its trips store, as a closed form of
   the stored tiles and of the rows' scales. -/
module

public import proofs.«01_k».proof.Proof.Gen.MlpIIdeal.Frame
public import proofs.«01_k».proof.Proof.Gen.MlpIIdeal.Skeleton
public import proofs.«01_k».proof.Proof.Gen.MlpIIdeal.Loops
public import proofs.«01_k».proof.Proof.ProjILoop
public import Idealize.ShloMosaic.Lib.Pointwise
public import Idealize.ShloMosaic.Lib.Pipeline.ArrRel
public import Idealize.ShloMosaic.Lib.Claim

@[expose] public section

set_option maxRecDepth 16384

noncomputable section

namespace Cert.MlpIIdeal.Hand

open Cert.MlpIIdeal Cert.MlpIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops

variable {F : FTy → Type} [FloatOps F]

local notation "𝕄" => MT nD τ sig Unit (Elt F) ℕ (UR sig nD τ) ℕ

/-- The codes of 32 rows of one stored tile. -/
def codesT (G : Vec F S24x512x512 .f32) (S : Vec F S512x128 .f32) (k : Fin 16) (q : Fin 24) : IVec S32x512 8 :=
  k0_pay14 (fun z => S (ix2 ⟨32 * k.val + (z 0).val, by have h : (z 0).val < 32 := (z 0).isLt; omega⟩ 0))
    (fun z => G (ix3 q ⟨32 * k.val + (z 1).val, by have h : (z 1).val < 32 := (z 1).isLt; omega⟩ (z 2)))

/-- The codes of all rows of all stored tiles, side by side. -/
def codesG (G : Vec F S24x512x512 .f32) (S : Vec F S512x128 .f32) : Vec F S512x12288 .i8 := fun y =>
  codesT G S ⟨(y 0).val / 32, by have h : (y 0).val < 512 := (y 0).isLt; omega⟩ ⟨(y 1).val / 512, by have h : (y 1).val < 12288 := (y 1).isLt; omega⟩
    (ix2 ⟨(y 0).val % 32, by omega⟩ ⟨(y 1).val % 512, by omega⟩)

theorem codesG_at (G : Vec F S24x512x512 .f32) (S : Vec F S512x128 .f32) (k : Fin 16) (q : Fin 24) (a : Fin 32) (b : Fin 512) (y : S512x12288.Idx)
    (h0 : (y 0).val = 32 * k.val + a.val) (h1 : (y 1).val = 512 * q.val + b.val) : codesG G S y = codesT G S k q (ix2 a b) := by
  have e1 : (⟨(y 0).val / 32, by have h : (y 0).val < 512 := (y 0).isLt; omega⟩ : Fin 16) = k := Fin.ext (by show (y 0).val / 32 = _; omega)
  have e2 : (⟨(y 1).val / 512, by have h : (y 1).val < 12288 := (y 1).isLt; omega⟩ : Fin 24) = q := Fin.ext (by show (y 1).val / 512 = _; omega)
  have e3 : (⟨(y 0).val % 32, by omega⟩ : Fin 32) = a := Fin.ext (by show (y 0).val % 32 = _; omega)
  have e4 : (⟨(y 1).val % 512, by omega⟩ : Fin 512) = b := Fin.ext (by show (y 1).val % 512 = _; omega)
  unfold codesG
  rw [e1, e2, e3, e4]

/-- One store of a trip agrees with the codes. -/
theorem piece_ok (G : Vec F S24x512x512 .f32) (S : Vec F S512x128 .f32) (k : Fin 16) (q : Fin 24) (offR : Fin 2 → ℕ) (offL : Fin 3 → ℕ) (offS : Fin 2 → ℕ)
    (inbR : ∀ a, offR a + S32x1.size a ≤ S512x128.size a) (inbL : ∀ a, offL a + S1x32x512.size a ≤ S24x512x512.size a)
    (inbS : ∀ a, offS a + S32x512.size a ≤ S512x12288.size a) (hR : offR = ![32 * k.val, 0]) (hL : offL = ![q.val, 32 * k.val, 0])
    (hS : offS = ![32 * k.val, 512 * q.val]) (x : S32x512.Idx) :
    k0_pay14 (View.ld S (Rect.unit (s := S512x128) offR S32x1.size inbR)) (View.ld G (Rect.unit (s := S24x512x512) offL S1x32x512.size inbL)) x
      = codesG G S ((Rect.unit (s := S512x12288) offS S32x512.size inbS).emb x) := by
  subst hR hL hS
  have hx0 : (x 0).val < 32 := (x 0).isLt
  have hx1 : (x 1).val < 512 := (x 1).isLt
  refine Eq.trans ?_ (codesG_at G S k q (x 0) (x 1) _ (by show 32 * k.val + 1 * (x 0).val = _; omega) (by show 512 * q.val + 1 * (x 1).val = _; omega)).symm
  rw [← eq_ix2 (n0 := 32) (n1 := 512) x]
  unfold codesT
  refine congrArg₂ (fun u v => k0_pay14 u v x) ?_ ?_
  · funext z
    have hz : (z 1).val < 1 := (z 1).isLt
    unfold View.ld
    congr 1
    funext a
    apply Fin.ext
    fin_cases a
    · show 32 * k.val + 1 * (z 0).val = 32 * k.val + (z 0).val
      omega
    · show 0 + 1 * (z 1).val = 0
      omega
  · funext z
    have hz : (z 0).val < 1 := (z 0).isLt
    unfold View.ld
    congr 1
    funext a
    apply Fin.ext
    fin_cases a
    · show q.val + 1 * (z 0).val = q.val
      omega
    · show 32 * k.val + 1 * (z 1).val = 32 * k.val + (z 1).val
      omega
    · show 0 + 1 * (z 2).val = (z 2).val
      omega

/-- The part of the codes one store of a trip covers. -/
theorem piece_mem (k q : ℕ) (offS : Fin 2 → ℕ) (inbS : ∀ a, offS a + S32x512.size a ≤ S512x12288.size a) (hS : offS = ![32 * k, 512 * q])
    (y : S512x12288.Idx) (h0 : (y 0).val / 32 = k) (h1 : (y 1).val / 512 = q) : y ∈ (Rect.unit (s := S512x12288) offS S32x512.size inbS).set := by
  subst hS
  refine (Rect.unit (s := S512x12288) ![32 * k, 512 * q] S32x512.size inbS).mem_set.mpr fun a => ?_
  fin_cases a
  · exact ⟨(y 0).val % 32, Nat.mod_lt _ (by show 0 < 32; omega), by show (y 0).val = 32 * k + 1 * ((y 0).val % 32); omega⟩
  · exact ⟨(y 1).val % 512, Nat.mod_lt _ (by show 0 < 512; omega), by show (y 1).val = 512 * q + 1 * ((y 1).val % 512); omega⟩

/-- A recursion that puts a list in front per trip collects exactly the members of those lists. -/
theorem collectL {A : Type*} (pb : ℕ → List A) (n : ℕ) (P : Fin n → List A) (h0 : pb 0 = []) (hs : ∀ k : Fin n, pb (k.val + 1) = P k ++ pb k.val) :
    (∀ p ∈ pb n, ∃ k, p ∈ P k) ∧ ∀ k, ∀ p ∈ P k, p ∈ pb n := by
  have main : ∀ j, j ≤ n → (∀ p ∈ pb j, ∃ k, p ∈ P k) ∧ ∀ k : Fin n, k.val < j → ∀ p ∈ P k, p ∈ pb j := by
    intro j
    induction j with
    | zero => intro _; rw [h0]; simp
    | succ j ih =>
      intro hj
      obtain ⟨a, b⟩ := ih (by omega)
      rw [hs ⟨j, hj⟩]
      refine ⟨fun p hp => ?_, fun k hk p hp => ?_⟩
      · rcases List.mem_append.mp hp with h | h
        · exact ⟨_, h⟩
        · exact a p h
      · by_cases e : k.val = j
        · obtain rfl : k = ⟨j, hj⟩ := Fin.ext e
          exact List.mem_append_left _ hp
        · exact List.mem_append_right _ (b k (by omega) p hp)
  obtain ⟨a, b⟩ := main n le_rfl
  exact ⟨a, fun k => b k k.isLt⟩

theorem trips_eq : k0_t1_loop.trips = 16 := by decide +kernel

section
variable (c : Dev nD) (i : grid0.Coords) (arg2 : Memref sig .tc .smem S2 .i32) (harg2 : arg2.IsWhole) (arg3 : Memref sig .tc .vmem S512x3072 .i8) (harg3 : arg3.IsWhole) (arg4 : Memref sig .tc .vmem S2x256 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S3072x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S12288x256 .i8) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S512x12288 .i8) (harg14 : arg14.IsWhole) (arg15 : Memref sig .tc .vmem S2x256 .f32) (harg15 : arg15.IsWhole) (arg16 : Memref sig .tc .vmem S24x512x512 .f32) (harg16 : arg16.IsWhole) (arg17 : Memref sig .tc .vmem S512x128 .f32) (harg17 : arg17.IsWhole) (arg18 : Memref sig .tc .vmem S512x128 .f32) (harg18 : arg18.IsWhole) (k0_h3 : k0_cond3 i = 1#1) (X_arg16 : BufTy.Contents (Elt F) arg16.view.ty) (X_arg18 : BufTy.Contents (Elt F) arg18.view.ty)

/-- The stores after the first trips of a loop. -/
local notation "𝕡₁" => pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

set_option quotPrecheck false in
/-- One store of a trip: a tile's rows over their scales. -/
local notation "pc(" k ", " o ", " ho ", " q ", " hq ")" => (⟨Rect.unit (s := S512x12288) (o k) S32x512.size (ho i k k0_h3), k0_pay14 (arg18.view.readAt (Elt F) (Rect.unit (s := S512x128) (k0_off4 k) S32x1.size (k0_off4_inb i k k0_h3)).toLoadRect X_arg18) (arg16.view.readAt (Elt F) (Rect.unit (s := S24x512x512) (q k) S1x32x512.size (hq i k k0_h3)).toLoadRect X_arg16)⟩ : View.Piece (Elt F) S512x12288 .i8)
set_option quotPrecheck false in
/-- What one such store holds. -/
local notation "ok(" k ", " hk ", " n ", " hq ", " ho ", " eq ", " eo ")" => fun x => piece_ok _ _ ⟨Fin.val k, hk⟩ n _ _ _ (k0_off4_inb i k k0_h3) (hq i k k0_h3) (ho i k k0_h3) (k0_off4_eq k) (eq k) (eo k) x

/-- Trip `k`'s stores, the last first. -/
abbrev pieces (k : Fin k0_t1_loop.trips) : List (View.Piece (Elt F) S512x12288 .i8) :=
  [pc(k, k0_off52, k0_off52_inb, k0_off51, k0_off51_inb), pc(k, k0_off50, k0_off50_inb, k0_off49, k0_off49_inb), pc(k, k0_off48, k0_off48_inb, k0_off47, k0_off47_inb), pc(k, k0_off46, k0_off46_inb, k0_off45, k0_off45_inb), pc(k, k0_off44, k0_off44_inb, k0_off43, k0_off43_inb), pc(k, k0_off42, k0_off42_inb, k0_off41, k0_off41_inb), pc(k, k0_off40, k0_off40_inb, k0_off39, k0_off39_inb), pc(k, k0_off38, k0_off38_inb, k0_off37, k0_off37_inb), pc(k, k0_off36, k0_off36_inb, k0_off35, k0_off35_inb), pc(k, k0_off34, k0_off34_inb, k0_off33, k0_off33_inb), pc(k, k0_off32, k0_off32_inb, k0_off31, k0_off31_inb), pc(k, k0_off30, k0_off30_inb, k0_off29, k0_off29_inb), pc(k, k0_off28, k0_off28_inb, k0_off27, k0_off27_inb), pc(k, k0_off26, k0_off26_inb, k0_off25, k0_off25_inb), pc(k, k0_off24, k0_off24_inb, k0_off23, k0_off23_inb), pc(k, k0_off22, k0_off22_inb, k0_off21, k0_off21_inb), pc(k, k0_off20, k0_off20_inb, k0_off19, k0_off19_inb), pc(k, k0_off18, k0_off18_inb, k0_off17, k0_off17_inb), pc(k, k0_off16, k0_off16_inb, k0_off15, k0_off15_inb), pc(k, k0_off14, k0_off14_inb, k0_off13, k0_off13_inb), pc(k, k0_off12, k0_off12_inb, k0_off11, k0_off11_inb), pc(k, k0_off10, k0_off10_inb, k0_off9, k0_off9_inb), pc(k, k0_off8, k0_off8_inb, k0_off7, k0_off7_inb), pc(k, k0_off6, k0_off6_inb, k0_off5, k0_off5_inb)]

set_option maxHeartbeats 4000000 in
theorem tripL_eq (k : Fin k0_t1_loop.trips) : tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h3 X_arg16 X_arg18 k = pieces i arg16 arg18 k0_h3 X_arg16 X_arg18 k := by
  unfold tripL_k0_t1 trip_k0_t1
  rfl

/-- What a trip's stores hold. -/
theorem pieces_ok (k : Fin k0_t1_loop.trips) : ∀ p ∈ pieces i arg16 arg18 k0_h3 X_arg16 X_arg18 k, ∀ x : p.1.shape.Idx,
    p.2 x = codesG (arg16.view.read (Elt F) X_arg16) (arg18.view.read (Elt F) X_arg18) (p.1.emb x) := by
  have hk : k.val < 16 := lt_of_lt_of_eq k.isLt trips_eq
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact ok(k, hk, 23, k0_off51_inb, k0_off52_inb, k0_off51_eq, k0_off52_eq)
  · exact ok(k, hk, 22, k0_off49_inb, k0_off50_inb, k0_off49_eq, k0_off50_eq)
  · exact ok(k, hk, 21, k0_off47_inb, k0_off48_inb, k0_off47_eq, k0_off48_eq)
  · exact ok(k, hk, 20, k0_off45_inb, k0_off46_inb, k0_off45_eq, k0_off46_eq)
  · exact ok(k, hk, 19, k0_off43_inb, k0_off44_inb, k0_off43_eq, k0_off44_eq)
  · exact ok(k, hk, 18, k0_off41_inb, k0_off42_inb, k0_off41_eq, k0_off42_eq)
  · exact ok(k, hk, 17, k0_off39_inb, k0_off40_inb, k0_off39_eq, k0_off40_eq)
  · exact ok(k, hk, 16, k0_off37_inb, k0_off38_inb, k0_off37_eq, k0_off38_eq)
  · exact ok(k, hk, 15, k0_off35_inb, k0_off36_inb, k0_off35_eq, k0_off36_eq)
  · exact ok(k, hk, 14, k0_off33_inb, k0_off34_inb, k0_off33_eq, k0_off34_eq)
  · exact ok(k, hk, 13, k0_off31_inb, k0_off32_inb, k0_off31_eq, k0_off32_eq)
  · exact ok(k, hk, 12, k0_off29_inb, k0_off30_inb, k0_off29_eq, k0_off30_eq)
  · exact ok(k, hk, 11, k0_off27_inb, k0_off28_inb, k0_off27_eq, k0_off28_eq)
  · exact ok(k, hk, 10, k0_off25_inb, k0_off26_inb, k0_off25_eq, k0_off26_eq)
  · exact ok(k, hk, 9, k0_off23_inb, k0_off24_inb, k0_off23_eq, k0_off24_eq)
  · exact ok(k, hk, 8, k0_off21_inb, k0_off22_inb, k0_off21_eq, k0_off22_eq)
  · exact ok(k, hk, 7, k0_off19_inb, k0_off20_inb, k0_off19_eq, k0_off20_eq)
  · exact ok(k, hk, 6, k0_off17_inb, k0_off18_inb, k0_off17_eq, k0_off18_eq)
  · exact ok(k, hk, 5, k0_off15_inb, k0_off16_inb, k0_off15_eq, k0_off16_eq)
  · exact ok(k, hk, 4, k0_off13_inb, k0_off14_inb, k0_off13_eq, k0_off14_eq)
  · exact ok(k, hk, 3, k0_off11_inb, k0_off12_inb, k0_off11_eq, k0_off12_eq)
  · exact ok(k, hk, 2, k0_off9_inb, k0_off10_inb, k0_off9_eq, k0_off10_eq)
  · exact ok(k, hk, 1, k0_off7_inb, k0_off8_inb, k0_off7_eq, k0_off8_eq)
  · exact ok(k, hk, 0, k0_off5_inb, k0_off6_inb, k0_off5_eq, k0_off6_eq)

/-- Each index of the trip's rows lies in one of its stores. -/
theorem pieces_mem (k : Fin k0_t1_loop.trips) (y : S512x12288.Idx) (h0 : (y 0).val / 32 = k.val) : ∃ p ∈ pieces i arg16 arg18 k0_h3 X_arg16 X_arg18 k, y ∈ p.1.set := by
  have hy : (y 1).val < 12288 := (y 1).isLt
  have hq : (y 1).val / 512 < 24 := by omega
  generalize hQ : (y 1).val / 512 = q at hq
  unfold pieces
  interval_cases q
  · exact ⟨_, List.mem_of_getElem? (i := 23) rfl, piece_mem k.val 0 _ (k0_off6_inb i k k0_h3) (k0_off6_eq k) y h0 hQ⟩
  · exact ⟨_, List.mem_of_getElem? (i := 22) rfl, piece_mem k.val 1 _ (k0_off8_inb i k k0_h3) (k0_off8_eq k) y h0 hQ⟩
  · exact ⟨_, List.mem_of_getElem? (i := 21) rfl, piece_mem k.val 2 _ (k0_off10_inb i k k0_h3) (k0_off10_eq k) y h0 hQ⟩
  · exact ⟨_, List.mem_of_getElem? (i := 20) rfl, piece_mem k.val 3 _ (k0_off12_inb i k k0_h3) (k0_off12_eq k) y h0 hQ⟩
  · exact ⟨_, List.mem_of_getElem? (i := 19) rfl, piece_mem k.val 4 _ (k0_off14_inb i k k0_h3) (k0_off14_eq k) y h0 hQ⟩
  · exact ⟨_, List.mem_of_getElem? (i := 18) rfl, piece_mem k.val 5 _ (k0_off16_inb i k k0_h3) (k0_off16_eq k) y h0 hQ⟩
  · exact ⟨_, List.mem_of_getElem? (i := 17) rfl, piece_mem k.val 6 _ (k0_off18_inb i k k0_h3) (k0_off18_eq k) y h0 hQ⟩
  · exact ⟨_, List.mem_of_getElem? (i := 16) rfl, piece_mem k.val 7 _ (k0_off20_inb i k k0_h3) (k0_off20_eq k) y h0 hQ⟩
  · exact ⟨_, List.mem_of_getElem? (i := 15) rfl, piece_mem k.val 8 _ (k0_off22_inb i k k0_h3) (k0_off22_eq k) y h0 hQ⟩
  · exact ⟨_, List.mem_of_getElem? (i := 14) rfl, piece_mem k.val 9 _ (k0_off24_inb i k k0_h3) (k0_off24_eq k) y h0 hQ⟩
  · exact ⟨_, List.mem_of_getElem? (i := 13) rfl, piece_mem k.val 10 _ (k0_off26_inb i k k0_h3) (k0_off26_eq k) y h0 hQ⟩
  · exact ⟨_, List.mem_of_getElem? (i := 12) rfl, piece_mem k.val 11 _ (k0_off28_inb i k k0_h3) (k0_off28_eq k) y h0 hQ⟩
  · exact ⟨_, List.mem_of_getElem? (i := 11) rfl, piece_mem k.val 12 _ (k0_off30_inb i k k0_h3) (k0_off30_eq k) y h0 hQ⟩
  · exact ⟨_, List.mem_of_getElem? (i := 10) rfl, piece_mem k.val 13 _ (k0_off32_inb i k k0_h3) (k0_off32_eq k) y h0 hQ⟩
  · exact ⟨_, List.mem_of_getElem? (i := 9) rfl, piece_mem k.val 14 _ (k0_off34_inb i k k0_h3) (k0_off34_eq k) y h0 hQ⟩
  · exact ⟨_, List.mem_of_getElem? (i := 8) rfl, piece_mem k.val 15 _ (k0_off36_inb i k k0_h3) (k0_off36_eq k) y h0 hQ⟩
  · exact ⟨_, List.mem_of_getElem? (i := 7) rfl, piece_mem k.val 16 _ (k0_off38_inb i k k0_h3) (k0_off38_eq k) y h0 hQ⟩
  · exact ⟨_, List.mem_of_getElem? (i := 6) rfl, piece_mem k.val 17 _ (k0_off40_inb i k k0_h3) (k0_off40_eq k) y h0 hQ⟩
  · exact ⟨_, List.mem_of_getElem? (i := 5) rfl, piece_mem k.val 18 _ (k0_off42_inb i k k0_h3) (k0_off42_eq k) y h0 hQ⟩
  · exact ⟨_, List.mem_of_getElem? (i := 4) rfl, piece_mem k.val 19 _ (k0_off44_inb i k k0_h3) (k0_off44_eq k) y h0 hQ⟩
  · exact ⟨_, List.mem_of_getElem? (i := 3) rfl, piece_mem k.val 20 _ (k0_off46_inb i k k0_h3) (k0_off46_eq k) y h0 hQ⟩
  · exact ⟨_, List.mem_of_getElem? (i := 2) rfl, piece_mem k.val 21 _ (k0_off48_inb i k k0_h3) (k0_off48_eq k) y h0 hQ⟩
  · exact ⟨_, List.mem_of_getElem? (i := 1) rfl, piece_mem k.val 22 _ (k0_off50_inb i k k0_h3) (k0_off50_eq k) y h0 hQ⟩
  · exact ⟨_, List.mem_of_getElem? (i := 0) rfl, piece_mem k.val 23 _ (k0_off52_inb i k k0_h3) (k0_off52_eq k) y h0 hQ⟩

/-- The codes after the loop. -/
theorem read_codes (f : arg14.view.ty.Contents (Elt F)) (T : ℕ) (hT : T = k0_t1_loop.trips) :
    arg14.view.read (Elt F) (arg14.view.writes (Elt F) f (𝕡₁ k0_h3 X_arg16 X_arg18 T)) = codesG (arg16.view.read (Elt F) X_arg16) (arg18.view.read (Elt F) X_arg18) := by
  subst hT
  obtain ⟨hA, hB⟩ := collectL (fun j => 𝕡₁ k0_h3 X_arg16 X_arg18 j) k0_t1_loop.trips (pieces i arg16 arg18 k0_h3 X_arg16 X_arg18) (by rfl)
    (fun k => by
      show 𝕡₁ k0_h3 X_arg16 X_arg18 (k.val + 1) = _
      rw [pb_k0_t1_succ, tripL_eq])
  refine read_all _ _ _ _ (fun p hp => ?_) (fun y => ?_)
  · obtain ⟨k, h⟩ := hA p hp
    exact pieces_ok i arg16 arg18 k0_h3 X_arg16 X_arg18 k p h
  · have hy : (y 0).val < 512 := (y 0).isLt
    obtain ⟨p, hp, h⟩ := pieces_mem i arg16 arg18 k0_h3 X_arg16 X_arg18 ⟨(y 0).val / 32, by rw [trips_eq]; omega⟩ y rfl
    exact ⟨p, hB _ p hp, h⟩
end

end Cert.MlpIIdeal.Hand

end
-- ==== Proof.MlpIFrame.lean ====
/- The frame of the image stream's MLP call, at any float type: the first 24 points each store one tile of the gelu rows
   and keep the running lane maxima; the next one turns the maxima into scales and quantises the tiles; that one and
   the later ones each store one tile of the result. Tiles, maxima and scales are carried in scratch buffers. -/
module

public import proofs.«01_k».proof.Proof.Gen.MlpIIdeal.Frame
public import proofs.«01_k».proof.Proof.Gen.MlpIIdeal.Skeleton
public import proofs.«01_k».proof.Proof.MlpILoop
public import Idealize.ShloMosaic.Lib.Pipeline.ArrRel
public import Idealize.ShloMosaic.Lib.Claim

@[expose] public section

set_option maxRecDepth 16384

noncomputable section

namespace Cert.MlpIIdeal.Hand

open Cert.MlpIIdeal Cert.MlpIIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.Pointwise
open Cert.Loops
open Cert.ProjIIdeal.Hand (join join_lo join_hi ld2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem c1 (t : Fin cfg0.N) : (grid0.coords t 1).val = t.val := by
  have ht : t.val < 36 := Nat.lt_of_lt_of_eq t.isLt N_0
  have e0 : (grid0.coords t 1).val = t.val / 1 % 36 := Pipeline.Grid.coords_val t 1 (by decide) rfl
  omega
theorem hc1 (t : Fin cfg0.N) : k0_cond1 (grid0.coords t) = 1#1 ↔ t.val = 0 := by
  have ht : t.val < 36 := Nat.lt_of_lt_of_eq t.isLt N_0
  simp only [k0_cond1, c1]
  word_cmp
theorem hc2 (t : Fin cfg0.N) : k0_cond2 (grid0.coords t) = 1#1 ↔ t.val < 24 := by
  have ht : t.val < 36 := Nat.lt_of_lt_of_eq t.isLt N_0
  simp only [k0_cond2, c1]
  word_cmp
theorem hc3 (t : Fin cfg0.N) : k0_cond3 (grid0.coords t) = 1#1 ↔ t.val = 24 := by
  have ht : t.val < 36 := Nat.lt_of_lt_of_eq t.isLt N_0
  simp only [k0_cond3, c1]
  word_cmp
theorem hc4 (t : Fin cfg0.N) : k0_cond4 (grid0.coords t) = 1#1 ↔ 24 ≤ t.val := by
  have ht : t.val < 36 := Nat.lt_of_lt_of_eq t.isLt N_0
  simp only [k0_cond4, c1]
  word_cmp

/-! ## What a point computes -/

/-- A tile replaced. -/
def setTile {α : Type*} (j : ℕ) (v : S1x512x512.Idx → α) (Y : S24x512x512.Idx → α) : S24x512x512.Idx → α :=
  fun y => if (y 0).val = j then v (ix3 0 (y 1) (y 2)) else Y y

/-- A buffer after a store of one of its tiles. -/
theorem read_setTile {Val : EltTy → Type} {sig : RefSig} {κ : Kind} {sp : Space} {e : EltTy} (v : View sig κ sp S24x512x512 e)
    (f : v.ty.Contents Val) (off : Fin 3 → ℕ) (j : ℕ) (inb : ∀ a, off a + S1x512x512.size a ≤ S24x512x512.size a) (ho : off = ![j, 0, 0])
    (w : S1x512x512.Idx → Val e) (L : List (View.Piece Val S24x512x512 e)) :
    v.read Val (v.writes Val f (⟨Rect.unit (s := S24x512x512) off S1x512x512.size inb, w⟩ :: L)) = setTile j w (v.read Val (v.writes Val f L)) := by
  subst ho
  funext y
  unfold setTile
  by_cases h : (y 0).val = j
  · rw [if_pos h]
    refine View.read_writes_cons_hit_of_coords v f (Rect.unit (s := S24x512x512) ![j, 0, 0] S1x512x512.size inb) w L
      (show S1x512x512.Idx from ix3 0 (y 1) (y 2)) y fun a => ?_
    fin_cases a
    · show (y 0).val = j + 1 * 0
      omega
    · show (y 1).val = 0 + 1 * (y 1).val
      omega
    · show (y 2).val = 0 + 1 * (y 2).val
      omega
  · rw [if_neg h]
    exact View.read_writes_cons_miss v f _ L y (Rect.not_mem_set_of_axis _ y (0 : Fin 3) j 1 rfl rfl rfl (by omega))

/-- A buffer after the two stores of its halves. -/
theorem read_join {Val : EltTy → Type} {sig : RefSig} {κ : Kind} {sp : Space} {e : EltTy} {C : ℕ} (v : View sig κ sp ⟨2, ![512, C]⟩ e)
    (f : v.ty.Contents Val) (inb : ∀ a, (![0, 0] : Fin 2 → ℕ) a + (![256, C] : Fin 2 → ℕ) a ≤ (![512, C] : Fin 2 → ℕ) a)
    (inb' : ∀ a, (![256, 0] : Fin 2 → ℕ) a + (![256, C] : Fin 2 → ℕ) a ≤ (![512, C] : Fin 2 → ℕ) a)
    (w w' : (⟨2, ![256, C]⟩ : Shape).Idx → Val e) (L : List (View.Piece Val ⟨2, ![512, C]⟩ e)) :
    v.read Val (v.writes Val f (⟨Rect.unit (s := ⟨2, ![512, C]⟩) ![256, 0] ![256, C] inb', w'⟩ :: ⟨Rect.unit (s := ⟨2, ![512, C]⟩) ![0, 0] ![256, C] inb, w⟩ :: L))
      = join (C := C) w w' := by
  funext y
  have h0 : (y 0).val < 512 := (y 0).isLt
  by_cases h2 : (y 0).val < 256
  · refine Eq.trans ?_ ((congrArg (join w w') (eq_ix2 (n0 := 512) (n1 := C) y)).trans (join_lo w w' (y 0) (y 1) h2)).symm
    refine (View.read_writes_cons_miss v f _ _ y (Rect.not_mem_set_of_axis _ y (0 : Fin 2) 256 256 rfl rfl rfl (Or.inl h2))).trans ?_
    refine View.read_writes_cons_hit_of_coords v f (Rect.unit (s := ⟨2, ![512, C]⟩) ![0, 0] ![256, C] inb) w L
      (show (⟨2, ![256, C]⟩ : Shape).Idx from ix2 ⟨(y 0).val, h2⟩ (y 1)) y fun a => ?_
    fin_cases a
    · show (y 0).val = 0 + 1 * (y 0).val
      omega
    · show (y 1).val = 0 + 1 * (y 1).val
      omega
  · refine Eq.trans ?_ ((congrArg (join w w') (eq_ix2 (n0 := 512) (n1 := C) y)).trans (join_hi w w' (y 0) (y 1) h2)).symm
    refine View.read_writes_cons_hit_of_coords v f (Rect.unit (s := ⟨2, ![512, C]⟩) ![256, 0] ![256, C] inb') w' _
      (show (⟨2, ![256, C]⟩ : Shape).Idx from ix2 ⟨(y 0).val - 256, by omega⟩ (y 1)) y fun a => ?_
    fin_cases a
    · show (y 0).val = 256 + 1 * ((y 0).val - 256)
      omega
    · show (y 1).val = 0 + 1 * (y 1).val
      omega

/-- A buffer after a store of all of it. -/
theorem read_full {Val : EltTy → Type} {sig : RefSig} {κ : Kind} {sp : Space} {e : EltTy} {R C : ℕ} (v : View sig κ sp ⟨2, ![R, C]⟩ e)
    (f : v.ty.Contents Val) (inb : ∀ a, (![0, 0] : Fin 2 → ℕ) a + (![R, C] : Fin 2 → ℕ) a ≤ (![R, C] : Fin 2 → ℕ) a)
    (w : (⟨2, ![R, C]⟩ : Shape).Idx → Val e) (L : List (View.Piece Val ⟨2, ![R, C]⟩ e)) :
    v.read Val (v.writes Val f (⟨Rect.unit (s := ⟨2, ![R, C]⟩) ![0, 0] ![R, C] inb, w⟩ :: L)) = w := by
  funext y
  refine View.read_writes_cons_hit_of_coords v f (Rect.unit (s := ⟨2, ![R, C]⟩) ![0, 0] ![R, C] inb) w L y y fun a => ?_
  fin_cases a
  · show (y 0).val = 0 + 1 * (y 0).val
    omega
  · show (y 1).val = 0 + 1 * (y 1).val
    omega

/-- One row of the gate, and of the scales. -/
abbrev srow (X : Vec F S2x256 .f32) (r : Fin 2) : Vec F S1x256 .f32 := chunk (R := 2) (C := 256) (c := 1) X r.val (by omega)

/-- One batch element's rows of a tile, and of the scales. -/
abbrev xhalf (x : Vec F S512x256 .f32) (r : Fin 2) : Vec F S256x256 .f32 := chunk (R := 512) (C := 256) (c := 256) x (256 * r.val) (by omega)
abbrev half (sr : Vec F S512x128 .f32) (r : Fin 2) : Vec F S256x128 .f32 := chunk (R := 512) (C := 128) (c := 256) sr (256 * r.val) (by omega)

/-- The first column of the rows' scales. -/
abbrev scol (sr : Vec F S512x128 .f32) : Vec F S512x1 .f32 := View.ld sr (Rect.unit (s := S512x128) ![0, 0] S512x1.size inb_S512x128_S512x1_0_0)

/-- The scales of the incoming rows, spread. -/
def inS (s : Vec F S2x256 .f32) : Vec F S512x128 .f32 := join (C := 128) (k0_pay1 (srow s 0)) (k0_pay2 (srow s 1))

/-- A tile of the result. -/
def outS (cs : Vec F S512x12288 .i8) (x : Vec F S512x256 .f32) (g : Vec F S2x256 .f32) (w : Vec F S12288x256 .i8) (ws b : Vec F S1x256 .f32) (sr : Vec F S512x128 .f32) : Vec F S512x256 .bf16 :=
  join (C := 256) (k0_pay41 cs w (scol sr) ws b (srow g 0) (xhalf x 0)) (k0_pay10 (xhalf x 1) (k0_pay42 cs w (scol sr) ws b (srow g 1)))

/-- The scale output. -/
def rowsS (sp : Vec F S512x128 .f32) : Vec F S2x256 .f32 := fun y => if (y 0).val = 1 then k0_pay7 (half sp 1) (ix2 0 (y 1)) else k0_pay6 (half sp 0) (ix2 0 (y 1))

/-- The two stores of the scale output cover it. -/
theorem rows_eq (sp : Vec F S512x128 .f32) (Y : Vec F S2x256 .f32) :
    setRow (R := 2) (C := 256) 1 (k0_pay7 (half sp 1)) (setRow (R := 2) (C := 256) 0 (k0_pay6 (half sp 0)) Y) = rowsS sp := by
  funext y
  have hy : (y 0).val < 2 := (y 0).isLt
  unfold setRow rowsS
  by_cases h : (y 0).val = 1
  · rw [if_pos h, if_pos h]
  · rw [if_neg h, if_neg h, if_pos (show (y 0).val = 0 by omega)]

theorem i0 (i : grid0.Coords) : (i 0).val = 0 := by
  have h : (i 0).val < 1 := (i 0).isLt
  omega

theorem ld_half0 (X : Vec F S512x128 .f32) : View.ld X (Rect.unit (s := S512x128) ![0, 0] S256x128.size inb_S512x128_S256x128_0_0) = half X 0 :=
  ld_chunk (R := 512) (C := 128) (c := 256) X ![0, 0] 0 _ rfl _
theorem ld_half1 (X : Vec F S512x128 .f32) : View.ld X (Rect.unit (s := S512x128) ![256, 0] S256x128.size inb_S512x128_S256x128_256_0) = half X 1 :=
  ld_chunk (R := 512) (C := 128) (c := 256) X ![256, 0] 256 _ rfl _
theorem ld_xhalf0 (X : Vec F S512x256 .f32) : View.ld X (Rect.unit (s := S512x256) ![0, 0] S256x256.size inb_S512x256_S256x256_0_0) = xhalf X 0 :=
  ld_chunk (R := 512) (C := 256) (c := 256) X ![0, 0] 0 _ rfl _
theorem ld_xhalf1 (X : Vec F S512x256 .f32) : View.ld X (Rect.unit (s := S512x256) ![256, 0] S256x256.size inb_S512x256_S256x256_256_0) = xhalf X 1 :=
  ld_chunk (R := 512) (C := 256) (c := 256) X ![256, 0] 256 _ rfl _

theorem ld_srow (i : grid0.Coords) (h : k0_cond1 i = 1#1) (r : Fin 2) (X : Vec F S2x256 .f32) :
    View.ld X (Rect.unit (s := S2x256) (k0_off1 i (BitVec.ofNat 32 r.val)) S1x256.size (k0_off1_inb i h r)) = srow X r :=
  ld_chunk (R := 2) (C := 256) (c := 1) X (k0_off1 i (BitVec.ofNat 32 r.val)) r.val _
    ((k0_off1_eq i r).trans (by rw [i0, Nat.mul_zero, Nat.zero_add])) _
theorem ld_srow0 (i : grid0.Coords) (h : k0_cond1 i = 1#1) (X : Vec F S2x256 .f32) :
    View.ld X (Rect.unit (s := S2x256) (k0_off1 i 0#32) S1x256.size (k0_off1_inb i h 0)) = srow X 0 := ld_srow i h 0 X
theorem ld_srow1 (i : grid0.Coords) (h : k0_cond1 i = 1#1) (X : Vec F S2x256 .f32) :
    View.ld X (Rect.unit (s := S2x256) (k0_off1 i 1#32) S1x256.size (k0_off1_inb i h 1)) = srow X 1 := ld_srow i h 1 X

theorem ld_grow (i : grid0.Coords) (h : k0_cond4 i = 1#1) (r : Fin 2) (X : Vec F S2x256 .f32) :
    View.ld X (Rect.unit (s := S2x256) (k0_off53 i (BitVec.ofNat 32 r.val)) S1x256.size (k0_off53_inb i h r)) = srow X r :=
  ld_chunk (R := 2) (C := 256) (c := 1) X (k0_off53 i (BitVec.ofNat 32 r.val)) r.val _
    ((k0_off53_eq i r).trans (by rw [i0, Nat.mul_zero, Nat.zero_add])) _
theorem ld_grow0 (i : grid0.Coords) (h : k0_cond4 i = 1#1) (X : Vec F S2x256 .f32) :
    View.ld X (Rect.unit (s := S2x256) (k0_off53 i 0#32) S1x256.size (k0_off53_inb i h 0)) = srow X 0 := ld_grow i h 0 X
theorem ld_grow1 (i : grid0.Coords) (h : k0_cond4 i = 1#1) (X : Vec F S2x256 .f32) :
    View.ld X (Rect.unit (s := S2x256) (k0_off53 i 1#32) S1x256.size (k0_off53_inb i h 1)) = srow X 1 := ld_grow i h 1 X

theorem off3 (i : grid0.Coords) (r : Fin 2) : k0_off3 i (BitVec.ofNat 32 r.val) = ![r.val, 0] :=
  (k0_off3_eq i r).trans (by rw [i0, Nat.mul_zero, Nat.zero_add])

/-! ## The body's runs -/

section Runs

variable (c : Dev nD) (i : grid0.Coords) (arg2 : Memref sig .tc .smem S2 .i32) (harg2 : arg2.IsWhole) (arg3 : Memref sig .tc .vmem S512x3072 .i8) (harg3 : arg3.IsWhole) (arg4 : Memref sig .tc .vmem S2x256 .f32) (harg4 : arg4.IsWhole) (arg5 : Memref sig .tc .vmem S512x256 .f32) (harg5 : arg5.IsWhole) (arg6 : Memref sig .tc .vmem S2x256 .f32) (harg6 : arg6.IsWhole) (arg7 : Memref sig .tc .vmem S3072x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S12288x256 .i8) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S512x12288 .i8) (harg14 : arg14.IsWhole) (arg15 : Memref sig .tc .vmem S2x256 .f32) (harg15 : arg15.IsWhole) (arg16 : Memref sig .tc .vmem S24x512x512 .f32) (harg16 : arg16.IsWhole) (arg17 : Memref sig .tc .vmem S512x128 .f32) (harg17 : arg17.IsWhole) (arg18 : Memref sig .tc .vmem S512x128 .f32) (harg18 : arg18.IsWhole)
  (x0 : Vec F S2 .i32) (x1 : Vec F S512x3072 .i8) (x2 : Vec F S2x256 .f32) (x3 : Vec F S512x256 .f32) (x4 : Vec F S2x256 .f32) (x5 : Vec F S3072x512 .i8) (x6 : Vec F S1x512 .f32) (x7 : Vec F S1x512 .f32) (x8 : Vec F S12288x256 .i8) (x9 : Vec F S1x256 .f32) (x10 : Vec F S1x256 .f32) (y11 : Vec F S512x256 .bf16) (y12 : Vec F S512x12288 .i8) (y13 : Vec F S2x256 .f32) (y14 : Vec F S24x512x512 .f32) (y15 : Vec F S512x128 .f32) (y16 : Vec F S512x128 .f32)

-- One memref owned whole at the contents written.
local notation "⟪" a ", " x "⟫" => owns (c : Thread nD τ) a fullShare x

set_option maxHeartbeats 4000000 in
/-- The body at the first point: the scales of the rows are spread into a scratch, the maxima cleared, and one tile stored. -/
theorem runA (hc1 : k0_cond1 i = 1#1) (hc2 : k0_cond2 i = 1#1) (hc3 : ¬ k0_cond3 i = 1#1) (hc4 : ¬ k0_cond4 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, y14⟫ ∗ ⟪arg17, y15⟫ ∗ ⟪arg18, y16⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, setTile (i 1).val (k0_pay12 x1 x5 (scol (inS x2)) x6 x7) y14⟫ ∗ ⟪arg17, k0_pay4 (k0_pay13 x1 x5 (scol (inS x2)) x6 x7) k0_pay3⟫ ∗ ⟪arg18, inS x2⟫) -∗ Q ⟨⟩))
        ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  intro E Q
  simp only [cc0_mlp_eq_skeleton]; unfold cc0_mlp_skel
  simp only [k0_part1_eq_skeleton, k0_part9_eq_skeleton]; unfold k0_part1_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc1 | sl_exact hc2 | sl_exact hc3 | sl_exact hc4)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]; · iexists _; isplitr; swap; iexact H10; ipureintro; exact hf10
  isplitl [H11]; · iexists _; isplitr; swap; iexact H11; ipureintro; exact hf11
  isplitl [H12]; · iexists _; isplitr; swap; iexact H12; ipureintro; exact hf12
  isplitl [H13]; · iexists _; isplitr; swap; iexact H13; ipureintro; exact hf13
  isplitl [H14]
  · iexists _; isplitr; swap; · iexact H14
    ipureintro
    rw [read_setTile _ _ _ (i 1).val _ (k0_off2_eq i)]
    unfold scol
    unfold inS runA.sl.v17 runA.sl.H16_2
    rw [View.readCov_eq_canon_ld, ← View.read_writes_eq_canon arg18.view f16, read_join]; rotate_left
    · exact View.cover_of_tiled _ S256x128.size (by rfl)
    · exact View.cover_of_tiled _ S256x128.size (by rfl)
    simp only [View.readAt_eq_ld, hf0, hf1, hf2, hf3, hf4, hf5, hf6, hf7, hf8, hf9, hf10, hf14, hf15, hf16, View.writes_nil]
    rw [ld_srow0 i hc1, ld_srow1 i hc1, ld2, ld2, ld2, ld2]
  isplitl [H15]
  · iexists _; isplitr; swap; · iexact H15
    ipureintro
    rw [read_full]
    unfold scol
    unfold inS runA.sl.v17 runA.sl.H16_2
    rw [View.readCov_eq_canon_ld, ← View.read_writes_eq_canon arg18.view f16, read_join]; rotate_left
    · exact View.cover_of_tiled _ S256x128.size (by rfl)
    · exact View.cover_of_tiled _ S256x128.size (by rfl)
    unfold runA.sl.v53 runA.sl.H15_1
    rw [View.readCov_eq_canon_ld, ← View.read_writes_eq_canon arg17.view f15, read_full]; rotate_left
    · exact View.cover_of_tiled _ S512x128.size (by rfl)
    · exact View.cover_of_tiled _ S512x128.size (by rfl)
    simp only [View.readAt_eq_ld, hf0, hf1, hf2, hf3, hf4, hf5, hf6, hf7, hf8, hf9, hf10, hf14, hf15, hf16, View.writes_nil]
    rw [ld_srow0 i hc1, ld_srow1 i hc1, ld2, ld2, ld2, ld2, ld2]
  iexists _; isplitr; swap; · iexact H16
  ipureintro
  unfold inS runA.sl.H16_2
  rw [read_join (C := 128)]
  simp only [View.readAt_eq_ld, hf0, hf1, hf2, hf3, hf4, hf5, hf6, hf7, hf8, hf9, hf10, hf14, hf15, hf16, View.writes_nil]
  rw [ld_srow0 i hc1, ld_srow1 i hc1]

set_option maxHeartbeats 4000000 in
/-- The body at a later tile. -/
theorem runB (hc1 : ¬ k0_cond1 i = 1#1) (hc2 : k0_cond2 i = 1#1) (hc3 : ¬ k0_cond3 i = 1#1) (hc4 : ¬ k0_cond4 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, y14⟫ ∗ ⟪arg17, y15⟫ ∗ ⟪arg18, y16⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, setTile (i 1).val (k0_pay12 x1 x5 (scol y16) x6 x7) y14⟫ ∗ ⟪arg17, k0_pay4 (k0_pay13 x1 x5 (scol y16) x6 x7) y15⟫ ∗ ⟪arg18, y16⟫) -∗ Q ⟨⟩))
        ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  intro E Q
  simp only [cc0_mlp_eq_skeleton]; unfold cc0_mlp_skel
  simp only [k0_part1_eq_skeleton, k0_part9_eq_skeleton]; unfold k0_part1_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc1 | sl_exact hc2 | sl_exact hc3 | sl_exact hc4)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]; · iexists _; isplitr; swap; iexact H10; ipureintro; exact hf10
  isplitl [H11]; · iexists _; isplitr; swap; iexact H11; ipureintro; exact hf11
  isplitl [H12]; · iexists _; isplitr; swap; iexact H12; ipureintro; exact hf12
  isplitl [H13]; · iexists _; isplitr; swap; iexact H13; ipureintro; exact hf13
  isplitl [H14]
  · iexists _; isplitr; swap; · iexact H14
    ipureintro
    rw [read_setTile _ _ _ (i 1).val _ (k0_off2_eq i)]
    unfold scol
    simp only [View.readAt_eq_ld, hf0, hf1, hf2, hf3, hf4, hf5, hf6, hf7, hf8, hf9, hf10, hf14, hf15, hf16, View.writes_nil]
    rw [ld2, ld2, ld2, ld2]
  isplitl [H15]
  · iexists _; isplitr; swap; · iexact H15
    ipureintro
    rw [read_full]
    unfold scol
    simp only [View.readAt_eq_ld, hf0, hf1, hf2, hf3, hf4, hf5, hf6, hf7, hf8, hf9, hf10, hf14, hf15, hf16, View.writes_nil]
    rw [ld2, ld2, ld2, ld2, ld2]
  iexists _; isplitr; swap; · iexact H16
  ipureintro
  exact hf16

set_option maxHeartbeats 4000000 in
/-- The body at the point after the last tile: the scales, the codes of all the tiles, and the first tile of the result. -/
theorem runC (hc1 : ¬ k0_cond1 i = 1#1) (hc2 : ¬ k0_cond2 i = 1#1) (hc3 : k0_cond3 i = 1#1) (hc4 : k0_cond4 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, y14⟫ ∗ ⟪arg17, y15⟫ ∗ ⟪arg18, y16⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, outS (codesG y14 (k0_pay5 y15)) x3 x4 x8 x9 x10 (k0_pay5 y15)⟫ ∗ ⟪arg14, codesG y14 (k0_pay5 y15)⟫ ∗ ⟪arg15, rowsS (k0_pay5 y15)⟫ ∗ ⟪arg16, y14⟫ ∗ ⟪arg17, y15⟫ ∗ ⟪arg18, k0_pay5 y15⟫) -∗ Q ⟨⟩))
        ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  intro E Q
  simp only [cc0_mlp_eq_skeleton]; unfold cc0_mlp_skel
  simp only [k0_part1_eq_skeleton, k0_part9_eq_skeleton]; unfold k0_part1_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc1 | sl_exact hc2 | sl_exact hc3 | sl_exact hc4)
  sl_step
  have e16 : ∀ f, arg18.view.read (Elt F) (arg18.view.writes (Elt F) f (runC.sl.H16_1 c arg17 f15)) = k0_pay5 y15 := by
    intro f
    unfold runC.sl.H16_1
    rw [read_full]
    simp only [View.readAt_eq_ld, hf15]
    rw [ld2]
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]; · iexists _; isplitr; swap; iexact H10; ipureintro; exact hf10
  isplitl [H11]
  · iexists _; isplitr; swap; · iexact H11
    ipureintro
    rw [read_join (C := 256)]
    unfold outS scol
    unfold runC.sl.v18
    rw [View.readCov_eq_canon_ld, ← View.read_writes_eq_canon arg18.view f16, e16]; rotate_left
    · unfold runC.sl.H16_1; exact View.cover_of_tiled _ S512x128.size (by rfl)
    · unfold runC.sl.H16_1; exact View.cover_of_tiled _ S512x128.size (by rfl)
    unfold runC.sl.v12
    simp only [View.readAt_eq_ld, hf0, hf1, hf2, hf3, hf4, hf5, hf6, hf7, hf8, hf9, hf10, hf14, hf15, hf16, View.writes_nil]
    rw [ld_grow0 i hc4, ld_grow1 i hc4, ld_xhalf0, ld_xhalf1, ld2, ld2, ld2, ld2]
    rw [read_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc3 f14 _ _ _ rfl, e16, hf14]
  isplitl [H12]
  · iexists _; isplitr; swap; · iexact H12
    ipureintro
    refine (read_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ rfl).trans ?_
    rw [e16, hf14]
  isplitl [H13]
  · iexists _; isplitr; swap; · iexact H13
    ipureintro
    rw [read_setRow (R := 2) (C := 256) _ _ _ 1 _ (show k0_off3 i 1#32 = ![1, 0] from off3 i 1), read_setRow (R := 2) (C := 256) _ _ _ 0 _ (show k0_off3 i 0#32 = ![0, 0] from off3 i 0)]
    unfold runC.sl.v33
    rw [View.readCov_eq_canon_ld, ← View.read_writes_eq_canon arg18.view f16, e16, ld_half1]; rotate_left
    · unfold runC.sl.H16_1; exact View.cover_of_tiled _ S512x128.size (by rfl)
    · unfold runC.sl.H16_1; exact View.cover_of_tiled _ S512x128.size (by rfl)
    unfold runC.sl.v26
    rw [View.readCov_eq_canon_ld, ← View.read_writes_eq_canon arg18.view f16, e16, ld_half0]; rotate_left
    · unfold runC.sl.H16_1; exact View.cover_of_tiled _ S512x128.size (by rfl)
    · unfold runC.sl.H16_1; exact View.cover_of_tiled _ S512x128.size (by rfl)
    exact rows_eq _ _
  isplitl [H14]; · iexists _; isplitr; swap; iexact H14; ipureintro; exact hf14
  isplitl [H15]; · iexists _; isplitr; swap; iexact H15; ipureintro; exact hf15
  iexists _; isplitr; swap; · iexact H16
  ipureintro
  exact e16 _

set_option maxHeartbeats 4000000 in
/-- The body at a later point: one more tile of the result. -/
theorem runD (hc1 : ¬ k0_cond1 i = 1#1) (hc2 : ¬ k0_cond2 i = 1#1) (hc3 : ¬ k0_cond3 i = 1#1) (hc4 : k0_cond4 i = 1#1) :
    ∀ (E : Set ℕ) (Q : PUnit → sProp 𝕄),
      iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, y11⟫ ∗ ⟪arg14, y12⟫ ∗ ⟪arg15, y13⟫ ∗ ⟪arg16, y14⟫ ∗ ⟪arg17, y15⟫ ∗ ⟪arg18, y16⟫
          ∗ (iprop(⟪arg2, x0⟫ ∗ ⟪arg3, x1⟫ ∗ ⟪arg4, x2⟫ ∗ ⟪arg5, x3⟫ ∗ ⟪arg6, x4⟫ ∗ ⟪arg7, x5⟫ ∗ ⟪arg8, x6⟫ ∗ ⟪arg9, x7⟫ ∗ ⟪arg10, x8⟫ ∗ ⟪arg11, x9⟫ ∗ ⟪arg12, x10⟫ ∗ ⟪arg13, outS y12 x3 x4 x8 x9 x10 y16⟫ ∗ ⟪arg14, y12⟫ ∗ ⟪arg15, y13⟫ ∗ ⟪arg16, y14⟫ ∗ ⟪arg17, y15⟫ ∗ ⟪arg18, y16⟫) -∗ Q ⟨⟩))
        ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  intro E Q
  simp only [cc0_mlp_eq_skeleton]; unfold cc0_mlp_skel
  simp only [k0_part1_eq_skeleton, k0_part9_eq_skeleton]; unfold k0_part1_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc1 | sl_exact hc2 | sl_exact hc3 | sl_exact hc4)
  sl_step
  iapply Hk
  isplitl [H0]; · iexists _; isplitr; swap; iexact H0; ipureintro; exact hf0
  isplitl [H1]; · iexists _; isplitr; swap; iexact H1; ipureintro; exact hf1
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]; · iexists _; isplitr; swap; iexact H6; ipureintro; exact hf6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]; · iexists _; isplitr; swap; iexact H10; ipureintro; exact hf10
  isplitl [H11]
  · iexists _; isplitr; swap; · iexact H11
    ipureintro
    rw [read_join (C := 256)]
    unfold outS scol
    simp only [View.readAt_eq_ld, hf0, hf1, hf2, hf3, hf4, hf5, hf6, hf7, hf8, hf9, hf10, hf14, hf15, hf16, View.writes_nil, hf12]
    rw [ld_grow0 i hc4, ld_grow1 i hc4, ld_xhalf0, ld_xhalf1, ld2, ld2, ld2, ld2]
  isplitl [H12]; · iexists _; isplitr; swap; iexact H12; ipureintro; exact hf12
  isplitl [H13]; · iexists _; isplitr; swap; iexact H13; ipureintro; exact hf13
  isplitl [H14]; · iexists _; isplitr; swap; iexact H14; ipureintro; exact hf14
  isplitl [H15]; · iexists _; isplitr; swap; iexact H15; ipureintro; exact hf15
  iexists _; isplitr; swap; · iexact H16
  ipureintro
  exact hf16

end Runs

/-! ## The proof data -/

/-- A point by its number; the point that stores the tile of a column of the result. -/
abbrev ptn (k : ℕ) (h : k < 36) : Fin cfg0.N := ⟨k, by rw [show cfg0.N = 36 from N_0]; exact h⟩
abbrev pt : Fin cfg0.N := ptn 0 (by omega)

/-- The scales of the incoming rows, spread. -/
def inR (c : Dev nD) : Vec F S512x128 .f32 := inS (iblk m c 2 pt)

/-- The tile a point stores, its lane maxima, the maxima after the first points, and all the tiles. -/
def gelT (c : Dev nD) (t : Fin cfg0.N) : Vec F S1x512x512 .f32 := k0_pay12 (iblk m c 1 t) (iblk m c 5 t) (scol (inR m c)) (iblk m c 6 t) (iblk m c 7 t)
def laneT (c : Dev nD) (t : Fin cfg0.N) : Vec F S512x128 .f32 := k0_pay13 (iblk m c 1 t) (iblk m c 5 t) (scol (inR m c)) (iblk m c 6 t) (iblk m c 7 t)
def maxT (c : Dev nD) : ℕ → Vec F S512x128 .f32
  | 0 => k0_pay3
  | k + 1 => if h : k < 36 then k0_pay4 (laneT m c (ptn k h)) (maxT c k) else maxT c k
def gR (c : Dev nD) : Vec F S24x512x512 .f32 := fun y => gelT m c (ptn (y 0).val (by have h : (y 0).val < 24 := (y 0).isLt; omega)) (ix3 0 (y 1) (y 2))

/-- The scales of the tiles' rows, spread; the codes and the scale output; a tile of the result. -/
def spR (c : Dev nD) : Vec F S512x128 .f32 := k0_pay5 (maxT m c 24)
def codesR (c : Dev nD) : Vec F S512x12288 .i8 := codesG (gR m c) (spR m c)
def rowsR (c : Dev nD) : Vec F S2x256 .f32 := rowsS (spR m c)
def outT (c : Dev nD) (t : Fin cfg0.N) : Vec F S512x256 .bf16 :=
  outS (codesR m c) (iblk m c 3 t) (iblk m c 4 t) (iblk m c 8 t) (iblk m c 9 t) (iblk m c 10 t) (spR m c)

/-- What the scratches hold before a point. -/
def Inv (c : Dev nD) (k : ℕ) (d0 : Vec F S24x512x512 .f32) (d1 d2 : Vec F S512x128 .f32) : Prop :=
  (0 < k → k ≤ 24 → (∀ y : S24x512x512.Idx, (y 0).val < k → d0 y = gR m c y) ∧ d1 = maxT m c k ∧ d2 = inR m c) ∧ (24 < k → d2 = spR m c)

theorem inv_step (c : Dev nD) (t : Fin cfg0.N) (ht : t.val < 24) (d0 : Vec F S24x512x512 .f32) (d1 : Vec F S512x128 .f32)
    (h0 : ∀ y : S24x512x512.Idx, (y 0).val < t.val → d0 y = gR m c y) (h1 : d1 = maxT m c t.val) :
    Inv m c (t.val + 1) (setTile (grid0.coords t 1).val (gelT m c t) d0) (k0_pay4 (laneT m c t) d1) (inR m c) := by
  refine ⟨fun _ _ => ⟨fun y hy => ?_, ?_, rfl⟩, fun h => absurd h (by omega)⟩
  · unfold setTile
    by_cases e : (y 0).val = (grid0.coords t 1).val
    · rw [if_pos e]
      unfold gR
      refine congrArg (fun u => gelT m c u _) (Fin.ext ?_)
      show t.val = (y 0).val
      rw [e, c1]
    · rw [if_neg e]
      rw [c1] at e
      exact h0 y (by omega)
  · have hN : t.val < 36 := lt_of_lt_of_eq t.isLt (show cfg0.N = 36 from N_0)
    rw [h1, maxT, dif_pos hN]

/-- The relational proof data: an input is left as found; from the point after the last tile on, the result's tile, the
    codes and the scales are right; the scratches hold what `Inv` says. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun _ Y X => X = Y
    | ⟨10, _⟩ => fun _ Y X => X = Y
    | ⟨11, _⟩ => fun t _ X => 24 ≤ t.val → X = outT m c t
    | ⟨12, _⟩ => fun t _ X => 24 ≤ t.val → X = codesR m c
    | ⟨13, _⟩ => fun t _ X => 24 ≤ t.val → X = rowsR m c
  Φ k := iprop((∃ d0 d1 d2, ⌜Inv m c k.val d0 d1 d2⌝ ∗ owns (c : Thread nD τ) (Memref.whole cc0_scratch0) fullShare d0
      ∗ owns (c : Thread nD τ) (Memref.whole cc0_scratch1) fullShare d1 ∗ owns (c : Thread nD τ) (Memref.whole cc0_scratch2) fullShare d2) ∗ (∃ r, prngReg c r))
  q _ := fullShare
  owed _ := 0

theorem A_eq (c : Dev nD) (w : Fin cfg0.W) : (rdat m c).A w = V m c (Pipeline.arrRef spec0 w) := by
  dsimp only [rdat]

theorem Φ_eq (c : Dev nD) (k : Fin (cfg0.N + 1)) : (rdat m c).Φ k = iprop((∃ d0 d1 d2, ⌜Inv m c k.val d0 d1 d2⌝ ∗ owns (c : Thread nD τ) (Memref.whole cc0_scratch0) fullShare d0
      ∗ owns (c : Thread nD τ) (Memref.whole cc0_scratch1) fullShare d1 ∗ owns (c : Thread nD τ) (Memref.whole cc0_scratch2) fullShare d2) ∗ (∃ r, prngReg c r)) := by
  dsimp only [rdat]

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rw [A_eq]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rw [A_eq]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rw [A_eq]; try rfl
theorem finds8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold RDat.fetched RDat.blockOf iblk; rw [A_eq]; try rfl
theorem finds9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  rw [hd]; unfold RDat.fetched RDat.blockOf iblk; rw [A_eq]; try rfl
theorem finds10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  rw [hd]; unfold RDat.fetched RDat.blockOf iblk; rw [A_eq]; try rfl
theorem finds12 (c : Dev nD) (t : Fin cfg0.N) (ht : 24 < t.val) (Y : Vec F S512x12288 .i8) (h : (rdat m c).Finds 12 t Y) : Y = codesR m c := by
  have hN : t.val < 36 := lt_of_lt_of_eq t.isLt (show cfg0.N = 36 from N_0)
  rcases ((rdat m c).finds_of_pos ((cfg0.win 12).fetch_out rfl t) (by omega) Y).mp h with hf | ⟨_, _, h⟩
  · have := (flush0_12 _).mp hf
    exfalso; simp only at this; omega
  · exact h (show 24 ≤ t.val - 1 by omega)
theorem finds13 (c : Dev nD) (t : Fin cfg0.N) (ht : 24 < t.val) (Y : Vec F S2x256 .f32) (h : (rdat m c).Finds 13 t Y) : Y = rowsR m c := by
  have hN : t.val < 36 := lt_of_lt_of_eq t.isLt (show cfg0.N = 36 from N_0)
  rcases ((rdat m c).finds_of_pos ((cfg0.win 13).fetch_out rfl t) (by omega) Y).mp h with hf | ⟨_, _, h⟩
  · have := (flush0_13 _).mp hf
    exfalso; simp only at this; omega
  · exact h (show 24 ≤ t.val - 1 by omega)

abbrev ms0 (t : Fin cfg0.N) : Memref sig .tc .smem S2 .i32 := win0_0.stage (cfg0.slots t 0)
abbrev ms1 (t : Fin cfg0.N) : Memref sig .tc .vmem S512x3072 .i8 := win0_1.stage (cfg0.slots t 1)
abbrev ms2 (t : Fin cfg0.N) : Memref sig .tc .vmem S2x256 .f32 := win0_2.stage (cfg0.slots t 2)
abbrev ms3 (t : Fin cfg0.N) : Memref sig .tc .vmem S512x256 .f32 := win0_3.stage (cfg0.slots t 3)
abbrev ms4 (t : Fin cfg0.N) : Memref sig .tc .vmem S2x256 .f32 := win0_4.stage (cfg0.slots t 4)
abbrev ms5 (t : Fin cfg0.N) : Memref sig .tc .vmem S3072x512 .i8 := win0_5.stage (cfg0.slots t 5)
abbrev ms6 (t : Fin cfg0.N) : Memref sig .tc .vmem S1x512 .f32 := win0_6.stage (cfg0.slots t 6)
abbrev ms7 (t : Fin cfg0.N) : Memref sig .tc .vmem S1x512 .f32 := win0_7.stage (cfg0.slots t 7)
abbrev ms8 (t : Fin cfg0.N) : Memref sig .tc .vmem S12288x256 .i8 := win0_8.stage (cfg0.slots t 8)
abbrev ms9 (t : Fin cfg0.N) : Memref sig .tc .vmem S1x256 .f32 := win0_9.stage (cfg0.slots t 9)
abbrev ms10 (t : Fin cfg0.N) : Memref sig .tc .vmem S1x256 .f32 := win0_10.stage (cfg0.slots t 10)
abbrev ms11 (t : Fin cfg0.N) : Memref sig .tc .vmem S512x256 .bf16 := win0_11.stage (cfg0.slots t 11)
abbrev ms12 (t : Fin cfg0.N) : Memref sig .tc .vmem S512x12288 .i8 := win0_12.stage (cfg0.slots t 12)
abbrev ms13 (t : Fin cfg0.N) : Memref sig .tc .vmem S2x256 .f32 := win0_13.stage (cfg0.slots t 13)

set_option maxHeartbeats 4000000 in
/-- The body at any point, on what its windows hold there. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X) ∗ (∃ X, ⌜(rdat m c).after 12 t (Y 12) X⌝ ∗ owns (c : Thread nD τ) (ms12 t) fullShare X) ∗ (∃ X, ⌜(rdat m c).after 13 t (Y 13) X⌝ ∗ owns (c : Thread nD τ) (ms13 t) fullShare X))) := by
  unfold bodyAt0
  have hN : t.val < 36 := lt_of_lt_of_eq t.isLt (show cfg0.N = 36 from N_0)
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  have e8 := finds8 m c t _ (hY 8)
  have e9 := finds9 m c t _ (hY 9)
  have e10 := finds10 m c t _ (hY 10)
  rw [e0, e1, e2, e3, e4, e5, e6, e7, e8, e9, e10]
  rw [Φ_eq, Φ_eq, show (rdat m c).owesAt () t.succ = (rdat m c).owesAt () t.castSucc from rfl]
  by_cases h0 : t.val = 0
  · iintro ⟨⟨⟨%d0, %d1, %d2, %hd, HS0, HS1, HS2⟩, Hr⟩, Ho, H0, H1, H2, H3, H4, H5, H6, H7, H8, H9, H10, H11, H12, H13⟩
    have hd : Inv m c t.val d0 d1 d2 := hd
    iapply (runA c (grid0.coords t) _ _ _ _ _ _ _ _ _ _ _ _ _ _ _ _ _ _ _ _ _ _ _ _ _ _ _ _ _ _ _ _ _ _ _ _ _ _ _ _ _ _ _ _ _ _ _ _ _ _ _ ((hc1 t).mpr (by omega)) ((hc2 t).mpr (by omega)) (fun h => absurd ((hc3 t).mp h) (by omega)) (fun h => absurd ((hc4 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hr]
    · isplitl [HS0 HS1 HS2]
      · iexists _; iexists _; iexists _; isplitr; swap
        · isplitl [HS0]; · iexact HS0
          isplitl [HS1]; · iexact HS1
          iexact HS2
        ipureintro
        exact inv_step m c t (by omega) d0 _ (fun y hy => absurd hy (by omega)) (by rw [h0]; rfl)
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact fun h => absurd h (by omega)
    isplitl [H12]
    · iexists _; isplitr; swap; · iexact H12
      ipureintro; exact fun h => absurd h (by omega)
    iexists _; isplitr; swap; · iexact H13
    ipureintro; exact fun h => absurd h (by omega)
  by_cases h1 : t.val < 24
  · iintro ⟨⟨⟨%d0, %d1, %d2, %hd, HS0, HS1, HS2⟩, Hr⟩, Ho, H0, H1, H2, H3, H4, H5, H6, H7, H8, H9, H10, H11, H12, H13⟩
    have hd : Inv m c t.val d0 d1 d2 := hd
    obtain ⟨hg, hm, rfl⟩ := hd.1 (by omega) (by omega)
    iapply (runB c (grid0.coords t) _ _ _ _ _ _ _ _ _ _ _ _ _ _ _ _ _ _ _ _ _ _ _ _ _ _ _ _ _ _ _ _ _ _ _ _ _ _ _ _ _ _ _ _ _ _ _ _ _ _ _ (fun h => h0 ((hc1 t).mp h)) ((hc2 t).mpr (by omega)) (fun h => absurd ((hc3 t).mp h) (by omega)) (fun h => absurd ((hc4 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hr]
    · isplitl [HS0 HS1 HS2]
      · iexists _; iexists _; iexists _; isplitr; swap
        · isplitl [HS0]; · iexact HS0
          isplitl [HS1]; · iexact HS1
          iexact HS2
        ipureintro
        exact inv_step m c t h1 d0 d1 hg hm
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact fun h => absurd h (by omega)
    isplitl [H12]
    · iexists _; isplitr; swap; · iexact H12
      ipureintro; exact fun h => absurd h (by omega)
    iexists _; isplitr; swap; · iexact H13
    ipureintro; exact fun h => absurd h (by omega)
  by_cases h2 : t.val = 24
  · iintro ⟨⟨⟨%d0, %d1, %d2, %hd, HS0, HS1, HS2⟩, Hr⟩, Ho, H0, H1, H2, H3, H4, H5, H6, H7, H8, H9, H10, H11, H12, H13⟩
    have hd : Inv m c t.val d0 d1 d2 := hd
    obtain ⟨hg, hm, -⟩ := hd.1 (by omega) (by omega)
    obtain rfl : d0 = gR m c := funext fun y => hg y (by have h : (y 0).val < 24 := (y 0).isLt; omega)
    rw [h2] at hm
    obtain rfl := hm
    iapply (runC c (grid0.coords t) _ _ _ _ _ _ _ _ _ _ _ _ _ _ _ _ _ _ _ _ _ _ _ _ _ _ _ _ _ _ _ _ _ _ _ _ _ _ _ _ _ _ _ _ _ _ _ _ _ _ _ (fun h => h0 ((hc1 t).mp h)) (fun h => absurd ((hc2 t).mp h) (by omega)) ((hc3 t).mpr (by omega)) ((hc4 t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hr]
    · isplitl [HS0 HS1 HS2]
      · iexists _; iexists _; iexists _; isplitr; swap
        · isplitl [HS0]; · iexact HS0
          isplitl [HS1]; · iexact HS1
          iexact HS2
        ipureintro
        exact ⟨fun _ h => absurd (show t.val + 1 ≤ 24 from h) (by omega), fun _ => rfl⟩
      · iexact Hr
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact fun _ => rfl
    isplitl [H12]
    · iexists _; isplitr; swap; · iexact H12
      ipureintro; exact fun _ => rfl
    iexists _; isplitr; swap; · iexact H13
    ipureintro; exact fun _ => rfl
  iintro ⟨⟨⟨%d0, %d1, %d2, %hd, HS0, HS1, HS2⟩, Hr⟩, Ho, H0, H1, H2, H3, H4, H5, H6, H7, H8, H9, H10, H11, H12, H13⟩
  have hd : Inv m c t.val d0 d1 d2 := hd
  obtain rfl := hd.2 (by omega)
  have e12 := finds12 m c t (by omega) _ (hY 12)
  have e13 := finds13 m c t (by omega) _ (hY 13)
  rw [e12, e13]
  iapply (runD c (grid0.coords t) _ _ _ _ _ _ _ _ _ _ _ _ _ _ _ _ _ _ _ _ _ _ _ _ _ _ _ _ _ _ _ _ _ _ _ _ _ _ _ _ _ _ _ _ _ _ _ _ _ _ _ (fun h => h0 ((hc1 t).mp h)) (fun h => absurd ((hc2 t).mp h) (by omega)) (fun h => absurd ((hc3 t).mp h) (by omega)) ((hc4 t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, H9, H10, H11, H12, H13, HS0, HS1, HS2⟩
  isplitl [HS0 HS1 HS2 Hr]
  · isplitl [HS0 HS1 HS2]
    · iexists _; iexists _; iexists _; isplitr; swap
      · isplitl [HS0]; · iexact HS0
        isplitl [HS1]; · iexact HS1
        iexact HS2
      ipureintro
      exact ⟨fun _ h => absurd (show t.val + 1 ≤ 24 from h) (by omega), fun _ => rfl⟩
    · iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact fun _ => rfl
  isplitl [H12]
  · iexists _; isplitr; swap; · iexact H12
    ipureintro; exact fun _ => rfl
  iexists _; isplitr; swap; · iexact H13
  ipureintro; exact fun _ => rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

/-! ## The run -/

theorem hin (c : Dev nD) : Pipeline.ΦA spec0 c ⊢ (rdat m c).Φ 0 := by
  rw [Φ_eq]
  unfold Pipeline.ΦA
  rw [scopedRest0_eq]
  simp only [owns_whole]
  iintro ⟨⟨⟨%f0, H0⟩, ⟨%f1, H1⟩, ⟨%f2, H2⟩⟩, Hr⟩
  isplitl [H0 H1 H2]
  · iexists f0; iexists f1; iexists f2; isplitr; swap
    · isplitl [H0]; · iexact H0
      isplitl [H1]; · iexact H1
      iexact H2
    ipureintro
    exact ⟨fun h => absurd h (Nat.not_lt_zero _), fun h => absurd h (Nat.not_lt_zero _)⟩
  · iexact Hr

theorem hout (c : Dev nD) : (rdat m c).Φ (Fin.last cfg0.N) ⊢ Pipeline.ΦA spec0 c := by
  rw [Φ_eq]
  unfold Pipeline.ΦA
  rw [scopedRest0_eq]
  simp only [owns_whole]
  iintro ⟨⟨%f0, %f1, %f2, %hf, H0, H1, H2⟩, Hr⟩
  isplitl [H0 H1 H2]
  · isplitl [H0]; · iexists f0; iexact H0
    isplitl [H1]; · iexists f1; iexact H1
    iexists f2; iexact H2
  · iexact Hr

set_option backward.isDefEq.respectTransparency.types false in
theorem run_main_quiescent : θ_run defs (onTc (τ := τ) (main (F := F))) (s₀ m ρ) (fun r => (RDat.FramePost (cfgs 0) (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hin := hin m) (hout := hout m)

set_option quotPrecheck false in
/-- An argument is left as found. -/
local notation "kept(" r ", " m ", " c ", " a ")" => (r).2.mem (((c).tc : Thread nD τ).loc a) = m (((c).tc : Thread nD τ).loc a)

/-- The argument arrays, from the run's final state. -/
theorem args_of {r} (h : RDat.FramePost (cfgs 0) (rdat m) (V m) r) (c : Dev nD) :
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6)
      ∧ kept(r, m, c, main_arg7)
      ∧ kept(r, m, c, main_arg8)
      ∧ kept(r, m, c, main_arg9)
      ∧ kept(r, m, c, main_arg10) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    (RDat.FramePost.arr_in h c 3 rfl).trans ((A_eq m c 3).trans (V_main_arg3 m c)),
    (RDat.FramePost.arr_in h c 4 rfl).trans ((A_eq m c 4).trans (V_main_arg4 m c)),
    (RDat.FramePost.arr_in h c 5 rfl).trans ((A_eq m c 5).trans (V_main_arg5 m c)),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    (RDat.FramePost.arr_in h c 8 rfl).trans ((A_eq m c 8).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

theorem frame : θ_run defs (onTc (τ := τ) (main (F := F))) ⟨m, fun _ => 0, ρ⟩ (fun r => (∀ c : Dev nD,
      kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6)
      ∧ kept(r, m, c, main_arg7)
      ∧ kept(r, m, c, main_arg8)
      ∧ kept(r, m, c, main_arg9)
      ∧ kept(r, m, c, main_arg10))
      ∧ r.2.sem = fun _ => 0) :=
  (θ_run defs _ _).mono (fun _ h => ⟨args_of m h.1, h.2⟩) (run_main_quiescent m ρ)

end Cert.MlpIIdeal.Hand

end
-- ==== Proof.MlpIBitsFrame.lean ====
/- The frame of the image stream's MLP call as printed: it is the same program over any float type as its idealization, so it leaves its
   arguments as found as that one does. -/
module

public import proofs.«01_k».proof.Proof.Gen.MlpI.Frame
public import proofs.«01_k».proof.Proof.MlpIFrame

@[expose] public section

set_option maxRecDepth 65536

noncomputable section

namespace Cert.MlpI.Hand

open Cert.MlpI
open Idealize.ShloMosaic Idealize.ShloMosaic.TcCoe Idealize.SL.Sem

variable {F : FTy → Type} [FloatOps F]

/-- The two programs run the same bodies. -/
theorem body_eq : (cc0_mlp (F := F)) = Cert.MlpIIdeal.cc0_mlp (F := F) := rfl

set_option maxHeartbeats 8000000 in
theorem defs₀_eq : (defs₀ (F := F)) = Cert.MlpIIdeal.defs₀ (F := F) := by
  refine congrArg (Defs.onTc (nD := nD) (τ := τ) (sig := sig) (Val := Elt F) (Λ := Λ₀)) ?_
  funext ℓ a
  match ℓ, a with
  | 0, (t, s) => rfl
  | ⟨_ + 1, h⟩, _ => exact absurd h (Nat.not_lt.2 (Nat.le_add_left _ _))

theorem defs_eq : (defs (F := F)) = Cert.MlpIIdeal.defs (F := F) :=
  congrArg (Pipeline.defs pcfgs) defs₀_eq

theorem main_eq : (main (F := F)) = Cert.MlpIIdeal.main (F := F) := rfl

variable (m : (ℓ : Loc nD τ sig) → Buf (Elt F) ℓ) (ρ : Dev nD → PrngReg)

set_option quotPrecheck false in
/-- An argument is left as found. -/
local notation "kept(" r ", " m ", " c ", " a ")" => (r).2.mem (((c).tc : Thread nD τ).loc a) = m (((c).tc : Thread nD τ).loc a)

theorem frame : θ_run defs (onTc (τ := τ) (main (F := F))) ⟨m, fun _ => 0, ρ⟩ (fun r =>
      (∀ c : Dev nD, kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6)
      ∧ kept(r, m, c, main_arg7)
      ∧ kept(r, m, c, main_arg8)
      ∧ kept(r, m, c, main_arg9)
      ∧ kept(r, m, c, main_arg10))
      ∧ r.2.sem = fun _ => 0) := by
  rw [defs_eq]
  exact Cert.MlpIIdeal.Hand.frame (F := F) m ρ

end Cert.MlpI.Hand

end
-- ==== Proof.MlpIPay.lean ====
/- The image stream's MLP payloads over the extended reals, and that the largest magnitude of a row by lanes and tiles is the row's. -/
module

public import proofs.«01_k».proof.Proof.ProjTPay
public import proofs.«01_k».proof.Proof.Gen.MlpIIdeal.Skeleton
public import proofs.«01_k».proof.Proof.Gen.MlpIRefIdeal.Skeleton
public import Idealize.ShloMosaic.Lib.Pointwise

@[expose] public section

noncomputable section

namespace Cert.MlpIPay

open Idealize.ShloMosaic Idealize.ShloMosaic.Pointwise Cert.Codes
open Cert.QkvTPay (scaleOf scale_at)

/-- A scaled product of two rows of codes, plus a bias. -/
def lin {n : ℕ} (q w : Fin n → BitVec 8) (s ws b : EReal) : EReal :=
  (∑ k, (FloatOps.sitofp FTy.bf16 (q k) : Ideal .bf16) * (FloatOps.sitofp FTy.bf16 (w k) : Ideal .bf16)) * s * ws + b

/-- The activation, with its tanh. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * z * z)))))

theorem gelu_k {s : Shape} (Z : FVec Ideal s .f32) (j : s.Idx) :
    mulf Z (mulf (broadcast s (Scalar.ofBits (F := Ideal) .f32 0x3F000000#32)) (addf (broadcast s (Scalar.ofBits (F := Ideal) .f32 0x3F800000#32))
      (tanh (mulf (broadcast s (Scalar.ofBits (F := Ideal) .f32 0x3F4C422A#32)) (addf Z (mulf (broadcast s (Scalar.ofBits (F := Ideal) .f32 0x3D372713#32)) (mulf (mulf Z Z) Z))))))) j = gelu (Z j) := by
  pointwise
  rfl
theorem gelu_r {s : Shape} (Z : FVec Ideal s .f32) (j : s.Idx) :
    mulf Z (mulf (broadcast s (Scalar.ofBits (F := Ideal) .f32 0x3F000000#32)) (addf (broadcast s (Scalar.ofBits (F := Ideal) .f32 0x3F800000#32))
      (tanh (mulf (broadcast s (Scalar.ofBits (F := Ideal) .f32 0x3F4C422A#32)) (addf Z (mulf (broadcast s (Scalar.ofBits (F := Ideal) .f32 0x3D372713#32)) (mulf Z (mulf Z Z)))))))) j = gelu (Z j) := by
  rw [← gelu_k, show mulf Z (mulf Z Z) = mulf (mulf Z Z) Z from funext fun j => by pointwise; exact mul_comm _ _]

/-- A lane's largest magnitude among four columns. -/
def four (f0 f1 f2 f3 : Ideal .f32) : EReal :=
  max (max (max (FloatOps.absf f0 : Ideal .f32) (FloatOps.absf f1 : Ideal .f32)) (FloatOps.absf f2 : Ideal .f32)) (FloatOps.absf f3 : Ideal .f32)
theorem four_le (f0 f1 f2 f3 : Ideal .f32) (c : EReal) : four f0 f1 f2 f3 ≤ c ↔ (((FloatOps.absf f0 : Ideal .f32) : EReal) ≤ c ∧ ((FloatOps.absf f1 : Ideal .f32) : EReal) ≤ c) ∧ ((FloatOps.absf f2 : Ideal .f32) : EReal) ≤ c ∧ ((FloatOps.absf f3 : Ideal .f32) : EReal) ≤ c := by
  unfold four
  exact max_le_iff.trans ((and_congr_left fun _ => max_le_iff.trans (and_congr_left fun _ => max_le_iff)).trans and_assoc)

section Kernel
variable (cs : Vec Ideal Cert.MlpIIdeal.S512x3072 .i8) (w : Vec Ideal Cert.MlpIIdeal.S3072x512 .i8) (sr : Vec Ideal Cert.MlpIIdeal.S512x1 .f32)
  (ws b : Vec Ideal Cert.MlpIIdeal.S1x512 .f32) (p j : Fin 512)
theorem hidden_k : Cert.MlpIIdeal.Gen.k0_pay11 (F := Ideal) cs w sr ws b (ix2 p j)
    = gelu (lin (fun k => cs (ix2 p k)) (fun k => w (ix2 k j)) (sr (ix2 p 0)) (ws (ix2 0 j)) (b (ix2 0 j))) := by
  unfold Cert.MlpIIdeal.Gen.k0_pay11
  refine (gelu_k _ _).trans (congrArg gelu ?_)
  pointwise
  rfl
theorem tile_k : Cert.MlpIIdeal.Gen.k0_pay12 (F := Ideal) cs w sr ws b (ix3 0 p j) = Cert.MlpIIdeal.Gen.k0_pay11 (F := Ideal) cs w sr ws b (ix2 p j) := by
  unfold Cert.MlpIIdeal.Gen.k0_pay12
  generalize Cert.MlpIIdeal.Gen.k0_pay11 (F := Ideal) cs w sr ws b = A
  pointwise
/-- The largest magnitude of a lane's four columns. -/
theorem lane_k (l : Fin 128) : Cert.MlpIIdeal.Gen.k0_pay13 (F := Ideal) cs w sr ws b (ix2 p l)
    = four (Cert.MlpIIdeal.Gen.k0_pay11 (F := Ideal) cs w sr ws b (ix2 p ⟨0 + l.val, by omega⟩)) (Cert.MlpIIdeal.Gen.k0_pay11 (F := Ideal) cs w sr ws b (ix2 p ⟨128 + l.val, by omega⟩)) (Cert.MlpIIdeal.Gen.k0_pay11 (F := Ideal) cs w sr ws b (ix2 p ⟨256 + l.val, by omega⟩)) (Cert.MlpIIdeal.Gen.k0_pay11 (F := Ideal) cs w sr ws b (ix2 p ⟨384 + l.val, by omega⟩)) := by
  unfold Cert.MlpIIdeal.Gen.k0_pay13
  generalize Cert.MlpIIdeal.Gen.k0_pay11 (F := Ideal) cs w sr ws b = A
  pointwise
  try rfl
end Kernel

theorem zero_k (p : Fin 512) (l : Fin 128) : Cert.MlpIIdeal.Gen.k0_pay3 (F := Ideal) (ix2 p l) = (0 : EReal) := by
  pointwise [Cert.MlpIIdeal.Gen.k0_pay3]
theorem max_k (u v : Vec Ideal Cert.MlpIIdeal.S512x128 .f32) (p : Fin 512) (l : Fin 128) : Cert.MlpIIdeal.Gen.k0_pay4 (F := Ideal) u v (ix2 p l) = max (v (ix2 p l) : EReal) (u (ix2 p l)) := by
  pointwise [Cert.MlpIIdeal.Gen.k0_pay4]
/-- The scale of a row from its lanes. -/
theorem scale_k (v : Vec Ideal Cert.MlpIIdeal.S512x128 .f32) (p : Fin 512) (l : Fin 128) : Cert.MlpIIdeal.Gen.k0_pay5 (F := Ideal) v (ix2 p l)
    = scaleOf (Finset.fold max (Ideal.ofBits FTy.f32 4286578688#32) (fun l : Fin 128 => (v (ix2 p l) : EReal)) Finset.univ) := by
  pointwise [Cert.MlpIIdeal.Gen.k0_pay5]
  try rfl
theorem flip_k (u : Vec Ideal Cert.MlpIIdeal.S256x128 .f32) (a : Fin 256) : Cert.MlpIIdeal.Gen.k0_pay6 (F := Ideal) u (ix2 0 a) = u (ix2 a 0) := by
  pointwise [Cert.MlpIIdeal.Gen.k0_pay6]
theorem flip_k' (u : Vec Ideal Cert.MlpIIdeal.S256x128 .f32) (a : Fin 256) : Cert.MlpIIdeal.Gen.k0_pay7 (F := Ideal) u (ix2 0 a) = u (ix2 a 0) := by
  pointwise [Cert.MlpIIdeal.Gen.k0_pay7]
theorem fill_k (u : Vec Ideal Cert.MlpIIdeal.S1x256 .f32) (a : Fin 256) (b : Fin 128) : Cert.MlpIIdeal.Gen.k0_pay1 (F := Ideal) u (ix2 a b) = u (ix2 0 a) := by
  pointwise [Cert.MlpIIdeal.Gen.k0_pay1]
theorem fill_k' (u : Vec Ideal Cert.MlpIIdeal.S1x256 .f32) (a : Fin 256) (b : Fin 128) : Cert.MlpIIdeal.Gen.k0_pay2 (F := Ideal) u (ix2 a b) = u (ix2 0 a) := by
  pointwise [Cert.MlpIIdeal.Gen.k0_pay2]
theorem code_k (u : Vec Ideal Cert.MlpIIdeal.S32x1 .f32) (v : Vec Ideal Cert.MlpIIdeal.S1x32x512 .f32) (a : Fin 32) (b : Fin 512) :
    Cert.MlpIIdeal.Gen.k0_pay14 (F := Ideal) u v (ix2 a b) = Ideal.fptosi 8 (clip (Ideal.div (v (ix3 0 a b)) (u (ix2 a 0)))) := by
  pointwise [Cert.MlpIIdeal.Gen.k0_pay14]
  exact congrArg (Ideal.fptosi 8) (clip_words _)

section Tile
variable (cs : Vec Ideal Cert.MlpIIdeal.S512x12288 .i8) (w : Vec Ideal Cert.MlpIIdeal.S12288x256 .i8) (sr : Vec Ideal Cert.MlpIIdeal.S512x1 .f32)
  (ws b g : Vec Ideal Cert.MlpIIdeal.S1x256 .f32) (x : Vec Ideal Cert.MlpIIdeal.S256x256 .f32) (p j : Fin 256)
theorem acc_k (q : Fin 512) : Cert.MlpIIdeal.Gen.k0_pay40 (F := Ideal) cs w sr ws b (ix2 q j) = lin (fun k => cs (ix2 q k)) (fun k => w (ix2 k j)) (sr (ix2 q 0)) (ws (ix2 0 j)) (b (ix2 0 j)) := by
  pointwise [Cert.MlpIIdeal.Gen.k0_pay40]
  try rfl
theorem low_k : Cert.MlpIIdeal.Gen.k0_pay41 (F := Ideal) cs w sr ws b g x (ix2 p j) = x (ix2 p j) + g (ix2 0 j) * Cert.MlpIIdeal.Gen.k0_pay40 (F := Ideal) cs w sr ws b (ix2 ⟨0 + p.val, by omega⟩ j) := by
  unfold Cert.MlpIIdeal.Gen.k0_pay41
  generalize Cert.MlpIIdeal.Gen.k0_pay40 (F := Ideal) cs w sr ws b = A
  pointwise
theorem high_k : Cert.MlpIIdeal.Gen.k0_pay10 (F := Ideal) x (Cert.MlpIIdeal.Gen.k0_pay42 (F := Ideal) cs w sr ws b g) (ix2 p j)
    = x (ix2 p j) + g (ix2 0 j) * Cert.MlpIIdeal.Gen.k0_pay40 (F := Ideal) cs w sr ws b (ix2 ⟨256 + p.val, by omega⟩ j) := by
  unfold Cert.MlpIIdeal.Gen.k0_pay10 Cert.MlpIIdeal.Gen.k0_pay42
  generalize Cert.MlpIIdeal.Gen.k0_pay40 (F := Ideal) cs w sr ws b = A
  pointwise
end Tile

/-- The largest magnitude of a row of hidden entries, its scale and its codes. -/
def top (f : Fin 12288 → EReal) : EReal := Finset.fold max (Ideal.ofBits FTy.f32 4286578688#32) (fun k => (FloatOps.absf (f k : Ideal .f32) : Ideal .f32)) Finset.univ
def code (f : Fin 12288 → EReal) (k : Fin 12288) : BitVec 8 := Ideal.fptosi 8 (clip (Ideal.div (f k) (scaleOf (top f))))

section Reference
variable (g : Vec Ideal Cert.MlpIRefIdeal.S2x3072 .f32) (cs : Vec Ideal Cert.MlpIRefIdeal.S512x3072 .i8) (s : Vec Ideal Cert.MlpIRefIdeal.S2x256 .f32)
  (w : Vec Ideal Cert.MlpIRefIdeal.S3072x12288 .i8) (ws b : Vec Ideal Cert.MlpIRefIdeal.S12288 .f32) (R : Fin 512)
theorem hidden_r (n : Fin 12288) : Cert.MlpIRefIdeal.Gen.k0_pay5 (F := Ideal) cs s w ws b (ix2 R n)
    = gelu (lin (fun k => cs (ix2 R k)) (fun k => w (ix2 k n)) (s (ix2 ⟨R.val / 256, by omega⟩ ⟨R.val % 256, by omega⟩)) (ws (ix1 n)) (b (ix1 n))) := by
  unfold Cert.MlpIRefIdeal.Gen.k0_pay5
  refine (gelu_r _ _).trans (congrArg gelu ?_)
  pointwise
  rfl
theorem scale_r : Cert.MlpIRefIdeal.Gen.k0_pay6 (F := Ideal) cs s w ws b (ix1 R) = scaleOf (top fun n => Cert.MlpIRefIdeal.Gen.k0_pay5 (F := Ideal) cs s w ws b (ix2 R n)) := by
  unfold Cert.MlpIRefIdeal.Gen.k0_pay6
  refine (scale_at _ _).trans (congrArg scaleOf ?_)
  generalize Cert.MlpIRefIdeal.Gen.k0_pay5 (F := Ideal) cs s w ws b = A
  pointwise
  try rfl
variable (A : FVec Ideal Cert.MlpIRefIdeal.S512x12288 .f32) (u : FVec Ideal Cert.MlpIRefIdeal.S512 .f32)
theorem code_r (n : Fin 12288) : Cert.MlpIRefIdeal.Gen.k0_pay1 (F := Ideal) A u (ix2 R n) = Ideal.fptosi 8 (clip (Ideal.div (A (ix2 R n)) (u (ix1 R)))) := by
  pointwise [Cert.MlpIRefIdeal.Gen.k0_pay1]
  exact congrArg (Ideal.fptosi 8) (clip_ints _)
theorem fold_r (r : Fin 2) (p : Fin 256) : Cert.MlpIRefIdeal.Gen.k0_pay3 (F := Ideal) u (ix2 r p) = u (ix1 ⟨r.val * 256 + p.val, by omega⟩) := by
  pointwise [Cert.MlpIRefIdeal.Gen.k0_pay3]
theorem out_r (w2 : Vec Ideal Cert.MlpIRefIdeal.S12288x3072 .i8) (ws2 b2 : Vec Ideal Cert.MlpIRefIdeal.S3072 .f32) (x : Vec Ideal Cert.MlpIRefIdeal.S512x3072 .f32) (j : Fin 3072) :
    Cert.MlpIRefIdeal.Gen.k0_pay2 (F := Ideal) (Cert.MlpIRefIdeal.Gen.k0_pay4 g) A u w2 ws2 b2 x (ix2 R j)
      = x (ix2 R j) + g (ix2 ⟨R.val / 256, by omega⟩ j) * lin (fun k => Cert.MlpIRefIdeal.Gen.k0_pay1 (F := Ideal) A u (ix2 R k)) (fun k => w2 (ix2 k j)) (u (ix1 R)) (ws2 (ix1 j)) (b2 (ix1 j)) := by
  unfold Cert.MlpIRefIdeal.Gen.k0_pay2 Cert.MlpIRefIdeal.Gen.k0_pay4
  generalize Cert.MlpIRefIdeal.Gen.k0_pay1 (F := Ideal) A u = C
  pointwise
  try rfl
end Reference

theorem abs_nonneg' (z : EReal) : (0 : EReal) ≤ (FloatOps.absf (z : Ideal .f32) : Ideal .f32) := by
  show (0 : EReal) ≤ max z (-z)
  rcases le_total 0 z with h | h
  · exact le_max_of_le_left h
  · exact le_max_of_le_right (EReal.neg_nonneg.mpr h)

/-- The largest of the lanes' maxima over the tiles is the row's. -/
theorem top_lanes (f : Fin 12288 → EReal) (M : ℕ → Fin 128 → EReal) (h0 : ∀ l, M 0 l = 0)
    (h1 : ∀ k (h : k < 24) l, M (k + 1) l = max (M k l) (four (f ⟨512 * k + (0 + l.val), by omega⟩) (f ⟨512 * k + (128 + l.val), by omega⟩) (f ⟨512 * k + (256 + l.val), by omega⟩) (f ⟨512 * k + (384 + l.val), by omega⟩))) :
    Finset.fold max (Ideal.ofBits FTy.f32 4286578688#32) (fun l : Fin 128 => M 24 l) Finset.univ = top f := by
  have hM : ∀ n, n ≤ 24 → ∀ l c, M n l ≤ c ↔ (0 : EReal) ≤ c ∧ ∀ k (h : k < n) (i : Fin 4), ∀ h', ((FloatOps.absf (f ⟨512 * k + (128 * i.val + l.val), h'⟩ : Ideal .f32) : Ideal .f32) : EReal) ≤ c := by
    intro n
    induction n with
    | zero => intro _ l c; rw [h0]; exact ⟨fun h => ⟨h, fun k hk => absurd hk (by omega)⟩, fun h => h.1⟩
    | succ n ih =>
      intro hn l c
      rw [h1 n (by omega) l, max_le_iff, ih (by omega) l c, four_le]
      constructor
      · rintro ⟨⟨a, b⟩, ⟨e0, e1⟩, e2, e3⟩
        refine ⟨a, fun k hk i h' => ?_⟩
        by_cases hkn : k < n
        · exact b k hkn i h'
        obtain rfl : k = n := by omega
        fin_cases i
        · exact e0
        · exact e1
        · exact e2
        · exact e3
      · rintro ⟨a, b⟩
        exact ⟨⟨a, fun k hk i h' => b k (by omega) i h'⟩, ⟨b n (by omega) 0 _, b n (by omega) 1 _⟩, b n (by omega) 2 _, b n (by omega) 3 _⟩
  refine eq_of_forall_ge_iff fun c => ?_
  unfold top
  rw [Finset.fold_max_le, Finset.fold_max_le]
  refine and_congr_right fun _ => ⟨fun h n _ => ?_, fun h l _ => ?_⟩
  · have hl := (hM 24 le_rfl ⟨n.val % 128, by omega⟩ c).mp (h _ (Finset.mem_univ _))
    have e := hl.2 (n.val / 512) (by omega) ⟨n.val % 512 / 128, by omega⟩ (by show 512 * (n.val / 512) + (128 * (n.val % 512 / 128) + n.val % 128) < 12288; omega)
    have en : (⟨512 * (n.val / 512) + (128 * (n.val % 512 / 128) + n.val % 128), by omega⟩ : Fin 12288) = n := Fin.ext (by show 512 * (n.val / 512) + (128 * (n.val % 512 / 128) + n.val % 128) = n.val; omega)
    rw [← en]
    exact e
  · refine (hM 24 le_rfl l c).mpr ⟨le_trans ?_ (h 0 (Finset.mem_univ _)), fun k hk i h' => h _ (Finset.mem_univ _)⟩
    show (0 : EReal) ≤ (FloatOps.absf (f 0 : Ideal .f32) : Ideal .f32)
    exact abs_nonneg' _

end Cert.MlpIPay

end
-- ==== Proof.MlpIRefValue.lean ====
/- The image stream's MLP reference: its arrays after its run, and each at a point. -/
module

public import proofs.«01_k».proof.Proof.Gen.MlpIRefIdeal.Frame
public import Idealize.ShloMosaic.Lib.Pipeline.ArrRel
public import Idealize.ShloMosaic.Lib.Pipeline.ValueKit.Geometry
public import Idealize.ShloMosaic.Lib.Pipeline.ValueKit.Basic
public import proofs.«01_k».proof.Proof.MlpIPay
public import proofs.«01_k».proof.Proof.Loads

@[expose] public section

set_option maxRecDepth 16384

noncomputable section

namespace Cert.MlpIRefIdeal.Hand

open Cert.MlpIRefIdeal Cert.MlpIRefIdeal.Gen
open Idealize.ShloMosaic Idealize.ShloMosaic.TcCoe Idealize.SL.Sem
open Idealize.ShloMosaic.Pipeline (Dat)
open Cert.Loads

variable {F : FTy → Type} [FloatOps F]
variable (m : (ℓ : Loc nD τ sig) → Buf (Elt F) ℓ) (ρ : Dev nD → PrngReg)

/-! The arguments, and the one block of each as the body reads it. -/

abbrev a0 (c : Dev nD) : Vec F S512x3072 .i8 := m ((c.tc : Thread nD τ).loc main_arg1)
abbrev a1 (c : Dev nD) : Vec F S2x256 .f32 := m ((c.tc : Thread nD τ).loc main_arg2)
abbrev a2 (c : Dev nD) : Vec F S512x3072 .f32 := m ((c.tc : Thread nD τ).loc main_arg3)
abbrev a3 (c : Dev nD) : Vec F S2x18432 .f32 := m ((c.tc : Thread nD τ).loc main_arg4)
abbrev a4 (c : Dev nD) : Vec F S3072x12288 .i8 := m ((c.tc : Thread nD τ).loc main_arg5)
abbrev a5 (c : Dev nD) : Vec F S12288 .f32 := m ((c.tc : Thread nD τ).loc main_arg6)
abbrev a6 (c : Dev nD) : Vec F S12288 .f32 := m ((c.tc : Thread nD τ).loc main_arg7)
abbrev a7 (c : Dev nD) : Vec F S12288x3072 .i8 := m ((c.tc : Thread nD τ).loc main_arg8)
abbrev a8 (c : Dev nD) : Vec F S3072 .f32 := m ((c.tc : Thread nD τ).loc main_arg9)
abbrev a9 (c : Dev nD) : Vec F S3072 .f32 := m ((c.tc : Thread nD τ).loc main_arg10)

theorem e0 : ∀ t : Fin cfg0.N, win0_0.index t = ![0, 0] := by decide +kernel
theorem i0 (c : Dev nD) (t : Fin cfg0.N) : (iblk m c 0 t : Vec F S512x3072 .i8) = a0 m c := by
  funext y; blk_simp [iblk]; exact congrArg (a0 m c) (by blk_ext [e0])
theorem e1 : ∀ t : Fin cfg0.N, win0_1.index t = ![0, 0] := by decide +kernel
theorem i1 (c : Dev nD) (t : Fin cfg0.N) : (iblk m c 1 t : Vec F S2x256 .f32) = a1 m c := by
  funext y; blk_simp [iblk]; exact congrArg (a1 m c) (by blk_ext [e1])
theorem e2 : ∀ t : Fin cfg0.N, win0_2.index t = ![0, 0] := by decide +kernel
theorem i2 (c : Dev nD) (t : Fin cfg0.N) : (iblk m c 2 t : Vec F S512x3072 .f32) = a2 m c := by
  funext y; blk_simp [iblk]; exact congrArg (a2 m c) (by blk_ext [e2])
theorem e3 : ∀ t : Fin cfg0.N, win0_3.index t = ![0, 0] := by decide +kernel
theorem i3 (c : Dev nD) (t : Fin cfg0.N) : (iblk m c 3 t : Vec F S2x18432 .f32) = a3 m c := by
  funext y; blk_simp [iblk]; exact congrArg (a3 m c) (by blk_ext [e3])
theorem e4 : ∀ t : Fin cfg0.N, win0_4.index t = ![0, 0] := by decide +kernel
theorem i4 (c : Dev nD) (t : Fin cfg0.N) : (iblk m c 4 t : Vec F S3072x12288 .i8) = a4 m c := by
  funext y; blk_simp [iblk]; exact congrArg (a4 m c) (by blk_ext [e4])
theorem e5 : ∀ t : Fin cfg0.N, win0_5.index t = ![0] := by decide +kernel
theorem i5 (c : Dev nD) (t : Fin cfg0.N) : (iblk m c 5 t : Vec F S12288 .f32) = a5 m c := by
  funext y; blk_simp [iblk]; exact congrArg (a5 m c) (by blk_ext [e5])
theorem e6 : ∀ t : Fin cfg0.N, win0_6.index t = ![0] := by decide +kernel
theorem i6 (c : Dev nD) (t : Fin cfg0.N) : (iblk m c 6 t : Vec F S12288 .f32) = a6 m c := by
  funext y; blk_simp [iblk]; exact congrArg (a6 m c) (by blk_ext [e6])
theorem e7 : ∀ t : Fin cfg0.N, win0_7.index t = ![0, 0] := by decide +kernel
theorem i7 (c : Dev nD) (t : Fin cfg0.N) : (iblk m c 7 t : Vec F S12288x3072 .i8) = a7 m c := by
  funext y; blk_simp [iblk]; exact congrArg (a7 m c) (by blk_ext [e7])
theorem e8 : ∀ t : Fin cfg0.N, win0_8.index t = ![0] := by decide +kernel
theorem i8 (c : Dev nD) (t : Fin cfg0.N) : (iblk m c 8 t : Vec F S3072 .f32) = a8 m c := by
  funext y; blk_simp [iblk]; exact congrArg (a8 m c) (by blk_ext [e8])
theorem e9 : ∀ t : Fin cfg0.N, win0_9.index t = ![0] := by decide +kernel
theorem i9 (c : Dev nD) (t : Fin cfg0.N) : (iblk m c 9 t : Vec F S3072 .f32) = a9 m c := by
  funext y; blk_simp [iblk]; exact congrArg (a9 m c) (by blk_ext [e9])

/-! Each result array is the body's payload of the arguments. -/

theorem e10 : ∀ t : Fin cfg0.N, win0_10.index t = ![0, 0] := by decide +kernel
def res10 (c : Dev nD) : Vec F S512x3072 .bf16 := out0_10 (a0 m c) (a1 m c) (a2 m c) (a3 m c) (a4 m c) (a5 m c) (a6 m c) (a7 m c) (a8 m c) (a9 m c)
theorem final10 (c : Dev nD) : (dats m 0 c).arrAt 10 cfg0.N = res10 m c := by
  refine (dats m 0 c).arrAt_eq_of_covers 10 _ (by decide +kernel) fun t hf y => ?_
  blk_simp
  rw [after0_10, i0, i1, i2, i3, i4, i5, i6, i7, i8, i9]
  exact congrArg (res10 m c) (by blk_ext [e10])

theorem e11 : ∀ t : Fin cfg0.N, win0_11.index t = ![0, 0] := by decide +kernel
def res11 (c : Dev nD) : Vec F S512x12288 .i8 := out0_11 (a0 m c) (a1 m c) (a2 m c) (a3 m c) (a4 m c) (a5 m c) (a6 m c) (a7 m c) (a8 m c) (a9 m c)
theorem final11 (c : Dev nD) : (dats m 0 c).arrAt 11 cfg0.N = res11 m c := by
  refine (dats m 0 c).arrAt_eq_of_covers 11 _ (by decide +kernel) fun t hf y => ?_
  blk_simp
  rw [after0_11, i0, i1, i2, i3, i4, i5, i6, i7, i8, i9]
  exact congrArg (res11 m c) (by blk_ext [e11])

theorem e12 : ∀ t : Fin cfg0.N, win0_12.index t = ![0, 0] := by decide +kernel
def res12 (c : Dev nD) : Vec F S2x256 .f32 := out0_12 (a0 m c) (a1 m c) (a2 m c) (a3 m c) (a4 m c) (a5 m c) (a6 m c) (a7 m c) (a8 m c) (a9 m c)
theorem final12 (c : Dev nD) : (dats m 0 c).arrAt 12 cfg0.N = res12 m c := by
  refine (dats m 0 c).arrAt_eq_of_covers 12 _ (by decide +kernel) fun t hf y => ?_
  blk_simp
  rw [after0_12, i0, i1, i2, i3, i4, i5, i6, i7, i8, i9]
  exact congrArg (res12 m c) (by blk_ext [e12])

set_option quotPrecheck false in
/-- An argument is left as found. -/
local notation "kept(" r ", " m ", " c ", " a ")" => (r).2.mem (((c).tc : Thread nD τ).loc a) = m (((c).tc : Thread nD τ).loc a)

/-- The run: every result array at its value, the arguments unchanged. -/
theorem run : θ_run defs (onTc (τ := τ) (main (F := F))) ⟨m, fun _ => 0, ρ⟩ fun r => ∀ c : Dev nD,
      r.2.mem ((c.tc : Thread nD τ).loc main_v0_0) = res10 m c
      ∧ r.2.mem ((c.tc : Thread nD τ).loc main_v0_1) = res11 m c
      ∧ r.2.mem ((c.tc : Thread nD τ).loc main_v0_2) = res12 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6)
      ∧ kept(r, m, c, main_arg7)
      ∧ kept(r, m, c, main_arg8)
      ∧ kept(r, m, c, main_arg9)
      ∧ kept(r, m, c, main_arg10) :=
  (θ_run defs _ _).mono (fun _ h c => ⟨((h c).1 10).trans (final10 m c),
      ((h c).1 11).trans (final11 m c),
      ((h c).1 12).trans (final12 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c)))⟩)
    (run_main m ρ)

/-! The results at a point. -/

section Points
open Cert.MlpIPay Idealize.ShloMosaic.Pointwise
open Cert.QkvTPay (scaleOf)
variable (x0 : Vec Ideal S512x3072 .i8) (x1 : Vec Ideal S2x256 .f32) (x2 : Vec Ideal S512x3072 .f32) (x3 : Vec Ideal S2x18432 .f32) (x4 : Vec Ideal S3072x12288 .i8) (x5 x6 : Vec Ideal S12288 .f32)
  (x7 : Vec Ideal S12288x3072 .i8) (x8 x9 : Vec Ideal S3072 .f32)

/-- A hidden entry of the row `R`, and an entry of its result. -/
def hid (R : Fin 512) (n : Fin 12288) : EReal :=
  gelu (lin (fun k => x0 (ix2 R k)) (fun k => x4 (ix2 k n)) (x1 (ix2 ⟨R.val / 256, by omega⟩ ⟨R.val % 256, by omega⟩)) (x5 (ix1 n)) (x6 (ix1 n)))
def outAt (R : Fin 512) (j : Fin 3072) : EReal :=
  x2 (ix2 R j) + x3 (ix2 ⟨R.val / 256, by omega⟩ ⟨15360 + j.val, by omega⟩)
    * lin (fun k => code (hid x0 x1 x4 x5 x6 R) k) (fun k => x7 (ix2 k j)) (scaleOf (top (hid x0 x1 x4 x5 x6 R))) (x8 (ix1 j)) (x9 (ix1 j))

/-- The gate of the modulation. -/
theorem gt_at (r : Fin 2) (b : Fin 3072) : (View.ld x3 r0_0 : Vec Ideal S2x3072 .f32) (ix2 r b) = x3 (ix2 r ⟨15360 + b.val, by omega⟩) := by
  unfold View.ld
  congr 1
  funext a
  apply Fin.ext
  fin_cases a
  · show 0 + 1 * r.val = r.val
    omega
  · show 15360 + 1 * b.val = 15360 + b.val
    omega

theorem q7 : k0_pay7 x0 x1 x2 x3 x4 x5 x6 x7 x8 x9 = k0_pay5 x0 x1 x4 x5 x6 := by
  unfold k0_pay7
  rw [show View.ld x0 r0_1 = x0 from ld2 _ x0, show View.ld x1 r0_2 = x1 from ld2 _ x1, show View.ld x4 r0_3 = x4 from ld2 _ x4, show View.ld x5 r0_4 = x5 from ld1 _ x5,
    show View.ld x6 r0_4 = x6 from ld1 _ x6]
theorem q8 : k0_pay8 x0 x1 x2 x3 x4 x5 x6 x7 x8 x9 = k0_pay6 x0 x1 x4 x5 x6 := by
  unfold k0_pay8
  rw [show View.ld x0 r0_1 = x0 from ld2 _ x0, show View.ld x1 r0_2 = x1 from ld2 _ x1, show View.ld x4 r0_3 = x4 from ld2 _ x4, show View.ld x5 r0_4 = x5 from ld1 _ x5,
    show View.ld x6 r0_4 = x6 from ld1 _ x6]
theorem hid_at (R : Fin 512) : (fun n => k0_pay5 (F := Ideal) x0 x1 x4 x5 x6 (ix2 R n)) = hid x0 x1 x4 x5 x6 R := funext fun n => hidden_r x0 x1 x4 x5 x6 R n
theorem scale_at' (R : Fin 512) : k0_pay6 (F := Ideal) x0 x1 x4 x5 x6 (ix1 R) = scaleOf (top (hid x0 x1 x4 x5 x6 R)) := by
  rw [scale_r, hid_at]
theorem code_at (R : Fin 512) (n : Fin 12288) : k0_pay1 (F := Ideal) (k0_pay5 x0 x1 x4 x5 x6) (k0_pay6 x0 x1 x4 x5 x6) (ix2 R n) = code (hid x0 x1 x4 x5 x6 R) n := by
  rw [code_r, scale_at', hidden_r, code, hid]

theorem out10_at (R : Fin 512) (j : Fin 3072) : out0_10 x0 x1 x2 x3 x4 x5 x6 x7 x8 x9 (ix2 R j) = outAt x0 x1 x2 x3 x4 x5 x6 x7 x8 x9 R j := by
  unfold out0_10
  rw [View.canon_unit_zero hz2, q7, q8, show View.ld x7 r0_5 = x7 from ld2 _ x7, show View.ld x8 r0_6 = x8 from ld1 _ x8, show View.ld x9 r0_6 = x9 from ld1 _ x9,
    show View.ld x2 r0_1 = x2 from ld2 _ x2, out_r, gt_at, scale_at', outAt]
  simp only [code_at]
theorem out11_at (R : Fin 512) (n : Fin 12288) : out0_11 x0 x1 x2 x3 x4 x5 x6 x7 x8 x9 (ix2 R n) = code (hid x0 x1 x4 x5 x6 R) n := by
  unfold out0_11
  rw [View.canon_unit_zero hz2, q7, q8, code_at]
theorem out12_at (r : Fin 2) (p : Fin 256) : out0_12 x0 x1 x2 x3 x4 x5 x6 x7 x8 x9 (ix2 r p) = scaleOf (top (hid x0 x1 x4 x5 x6 ⟨r.val * 256 + p.val, by omega⟩)) := by
  unfold out0_12
  rw [View.canon_unit_zero hz2, q8, fold_r, scale_at']
end Points

end Cert.MlpIRefIdeal.Hand

end
-- ==== Proof.MlpIValue.lean ====
/- The value of the image stream's MLP kernel over the extended reals: its three results are the reference's. -/
module

public import proofs.«01_k».proof.Defs
public import proofs.«01_k».proof.Proof.MlpIFrame
public import proofs.«01_k».proof.Proof.MlpIPay
public import proofs.«01_k».proof.Proof.MlpIRefValue
public import proofs.«01_k».proof.Proof.ProjIValue

@[expose] public section

set_option maxRecDepth 16384

noncomputable section

namespace Cert.MlpIIdeal.Hand

open Cert.MlpIIdeal Cert.MlpIIdeal.Gen Cert.MlpIPay Cert.Loops
open Cert.QkvTPay (scaleOf)
open Cert.ProjIIdeal.Hand (el tok row el_row tok_row el_lo tok_lo el_hi tok_hi join join_lo join_hi)
open Idealize.ShloMosaic Idealize.ShloMosaic.TcCoe Idealize.SL.Sem Idealize.ShloMosaic.Pointwise
open Idealize.ShloMosaic.Pipeline (Dat RDat)

section Any
variable {F : FTy → Type} [FloatOps F]
variable (m : (ℓ : Loc nD τ sig) → Buf (Elt F) ℓ) (c : Dev nD)

/-! The arguments. -/

abbrev x0 : Vec F S512x3072 .i8 := m ((c.tc : Thread nD τ).loc main_arg1)
abbrev x1 : Vec F S2x256 .f32 := m ((c.tc : Thread nD τ).loc main_arg2)
abbrev x2 : Vec F S512x3072 .f32 := m ((c.tc : Thread nD τ).loc main_arg3)
abbrev x3 : Vec F S2x18432 .f32 := m ((c.tc : Thread nD τ).loc main_arg4)
abbrev x4 : Vec F S3072x12288 .i8 := m ((c.tc : Thread nD τ).loc main_arg5)
abbrev x5 : Vec F S12288 .f32 := m ((c.tc : Thread nD τ).loc main_arg6)
abbrev x6 : Vec F S12288 .f32 := m ((c.tc : Thread nD τ).loc main_arg7)
abbrev x7 : Vec F S12288x3072 .i8 := m ((c.tc : Thread nD τ).loc main_arg8)
abbrev x8 : Vec F S3072 .f32 := m ((c.tc : Thread nD τ).loc main_arg9)
abbrev x9 : Vec F S3072 .f32 := m ((c.tc : Thread nD τ).loc main_arg10)

/-! Where each block lies. -/

theorem wx1 : ∀ t : Fin cfg0.N, win0_1.index t = ![0, 0] := by decide +kernel
theorem wx2 : ∀ t : Fin cfg0.N, win0_2.index t = ![0, 0] := by decide +kernel
theorem wx3 : ∀ t : Fin cfg0.N, win0_3.index t = ![0, t.val - 24] := by decide +kernel
theorem wx4 : ∀ t : Fin cfg0.N, win0_4.index t = ![0, 60 + (t.val - 24)] := by decide +kernel
theorem wx5 : ∀ t : Fin cfg0.N, win0_5.index t = ![0, min t.val 23] := by decide +kernel
theorem wx6 : ∀ t : Fin cfg0.N, win0_6.index t = ![0, min t.val 23] := by decide +kernel
theorem wx7 : ∀ t : Fin cfg0.N, win0_7.index t = ![0, min t.val 23] := by decide +kernel
theorem wx8 : ∀ t : Fin cfg0.N, win0_8.index t = ![0, t.val - 24] := by decide +kernel
theorem wx9 : ∀ t : Fin cfg0.N, win0_9.index t = ![0, t.val - 24] := by decide +kernel
theorem wx10 : ∀ t : Fin cfg0.N, win0_10.index t = ![0, t.val - 24] := by decide +kernel
theorem wx11 : ∀ t : Fin cfg0.N, win0_11.index t = ![0, t.val - 24] := by decide +kernel
theorem wx12 : ∀ t : Fin cfg0.N, win0_12.index t = ![0, 0] := by decide +kernel
theorem wx13 : ∀ t : Fin cfg0.N, win0_13.index t = ![0, 0] := by decide +kernel

/-- When each output leaves. -/
theorem flush11 : ∀ t : Fin cfg0.N, (cfg0.win 11).flush t = true → 24 ≤ t.val := by decide +kernel
theorem flush12 : ∀ t : Fin cfg0.N, (cfg0.win 12).flush t = true → 24 ≤ t.val := by decide +kernel
theorem flush13 : ∀ t : Fin cfg0.N, (cfg0.win 13).flush t = true → 24 ≤ t.val := by decide +kernel

theorem lt36 (t : Fin cfg0.N) : t.val < 36 := lt_of_lt_of_eq t.isLt (show cfg0.N = 36 from N_0)
/-- Column `j` of the hidden tile, and of the result's tile, at a point. -/
def colH (t : Fin cfg0.N) (j : Fin 512) : Fin 12288 := ⟨min t.val 23 * 512 + j.val, by omega⟩
def colO (t : Fin cfg0.N) (j : Fin 256) : Fin 3072 := ⟨(t.val - 24) * 256 + j.val, by have := lt36 t; omega⟩

theorem V0 : (V m c main_v0 : Vec F S1x12288 .f32) = shapeCast S1x12288 (x5 m c) shapeCasts_S12288_S1x12288 := by
  entry_read; rfl
theorem V1 : (V m c main_v1 : Vec F S1x12288 .f32) = shapeCast S1x12288 (x6 m c) shapeCasts_S12288_S1x12288 := by
  entry_read; rfl
theorem V2 : (V m c main_v2 : Vec F S1x3072 .f32) = shapeCast S1x3072 (x8 m c) shapeCasts_S3072_S1x3072 := by
  entry_read; rfl
theorem V3 : (V m c main_v3 : Vec F S1x3072 .f32) = shapeCast S1x3072 (x9 m c) shapeCasts_S3072_S1x3072 := by
  entry_read; rfl

theorem blk1 (t : Fin cfg0.N) (p : Fin 512) (k : Fin 3072) : (iblk m c 1 t : Vec F S512x3072 .i8) (ix2 p k) = x0 m c (ix2 p k) := by
  blk_simp [iblk]; rw [V_main_arg1]; exact congrArg (x0 m c) (by blk_ext [wx1])
theorem blk2 (t : Fin cfg0.N) (r : Fin 2) (k : Fin 256) : (iblk m c 2 t : Vec F S2x256 .f32) (ix2 r k) = x1 m c (ix2 r k) := by
  blk_simp [iblk]; rw [V_main_arg2]; exact congrArg (x1 m c) (by blk_ext [wx2])
theorem blk3 (t : Fin cfg0.N) (p : Fin 512) (j : Fin 256) : (iblk m c 3 t : Vec F S512x256 .f32) (ix2 p j) = x2 m c (ix2 p (colO t j)) := by
  blk_simp [iblk]; rw [V_main_arg3]; exact congrArg (x2 m c) (by blk_ext [wx3]; rfl)
theorem blk4 (t : Fin cfg0.N) (r : Fin 2) (j : Fin 256) : (iblk m c 4 t : Vec F S2x256 .f32) (ix2 r j) = x3 m c (ix2 r ⟨15360 + (colO t j).val, by omega⟩) := by
  blk_simp [iblk]; rw [V_main_arg4]
  refine congrArg (x3 m c) ?_
  blk_ext [wx4]
  show (60 + (t.val - 24)) * 256 + j.val = 15360 + ((t.val - 24) * 256 + j.val)
  omega
theorem blk5 (t : Fin cfg0.N) (k : Fin 3072) (j : Fin 512) : (iblk m c 5 t : Vec F S3072x512 .i8) (ix2 k j) = x4 m c (ix2 k (colH t j)) := by
  blk_simp [iblk]; rw [V_main_arg5]; exact congrArg (x4 m c) (by blk_ext [wx5]; rfl)
theorem blk6 (t : Fin cfg0.N) (j : Fin 512) : (iblk m c 6 t : Vec F S1x512 .f32) (ix2 0 j) = x5 m c (ix1 (colH t j)) := by
  have e : (iblk m c 6 t : Vec F S1x512 .f32) (ix2 0 j) = (V m c main_v0 : Vec F S1x12288 .f32) (ix2 0 (colH t j)) := by
    blk_simp [iblk]; exact congrArg (V m c main_v0) (by blk_ext [wx6]; rfl)
  rw [e, V0]; pointwise
theorem blk7 (t : Fin cfg0.N) (j : Fin 512) : (iblk m c 7 t : Vec F S1x512 .f32) (ix2 0 j) = x6 m c (ix1 (colH t j)) := by
  have e : (iblk m c 7 t : Vec F S1x512 .f32) (ix2 0 j) = (V m c main_v1 : Vec F S1x12288 .f32) (ix2 0 (colH t j)) := by
    blk_simp [iblk]; exact congrArg (V m c main_v1) (by blk_ext [wx7]; rfl)
  rw [e, V1]; pointwise
theorem blk8 (t : Fin cfg0.N) (k : Fin 12288) (j : Fin 256) : (iblk m c 8 t : Vec F S12288x256 .i8) (ix2 k j) = x7 m c (ix2 k (colO t j)) := by
  blk_simp [iblk]; rw [V_main_arg8]; exact congrArg (x7 m c) (by blk_ext [wx8]; rfl)
theorem blk9 (t : Fin cfg0.N) (j : Fin 256) : (iblk m c 9 t : Vec F S1x256 .f32) (ix2 0 j) = x8 m c (ix1 (colO t j)) := by
  have e : (iblk m c 9 t : Vec F S1x256 .f32) (ix2 0 j) = (V m c main_v2 : Vec F S1x3072 .f32) (ix2 0 (colO t j)) := by
    blk_simp [iblk]; exact congrArg (V m c main_v2) (by blk_ext [wx9]; rfl)
  rw [e, V2]; pointwise
theorem blk10 (t : Fin cfg0.N) (j : Fin 256) : (iblk m c 10 t : Vec F S1x256 .f32) (ix2 0 j) = x9 m c (ix1 (colO t j)) := by
  have e : (iblk m c 10 t : Vec F S1x256 .f32) (ix2 0 j) = (V m c main_v3 : Vec F S1x3072 .f32) (ix2 0 (colO t j)) := by
    blk_simp [iblk]; exact congrArg (V m c main_v3) (by blk_ext [wx10]; rfl)
  rw [e, V3]; pointwise

theorem scol_at (X : Vec F S512x128 .f32) (p : Fin 512) : scol X (ix2 p 0) = X (ix2 p 0) := by
  unfold scol View.ld
  congr 1
  funext a
  apply Fin.ext
  fin_cases a
  · show 0 + 1 * p.val = p.val
    omega
  · rfl
theorem srow_at (X : Vec F S2x256 .f32) (r : Fin 2) (b : Fin 256) : srow X r (ix2 0 b) = X (ix2 r b) :=
  congrArg (fun z => X (ix2 z b)) (Fin.ext (by show r.val + 0 = r.val; omega))
end Any

variable (m : (ℓ : Loc nD τ sig) → Buf (Elt Ideal) ℓ) (ρ : Dev nD → PrngReg) (c : Dev nD)

/-! The three results as the reference states them. -/

def val11 : Vec Ideal S512x3072 .bf16 := Cert.MlpIRefIdeal.Gen.out0_10 (F := Ideal) (x0 m c) (x1 m c) (x2 m c) (x3 m c) (x4 m c) (x5 m c) (x6 m c) (x7 m c) (x8 m c) (x9 m c)
def val12 : Vec Ideal S512x12288 .i8 := Cert.MlpIRefIdeal.Gen.out0_11 (F := Ideal) (x0 m c) (x1 m c) (x2 m c) (x3 m c) (x4 m c) (x5 m c) (x6 m c) (x7 m c) (x8 m c) (x9 m c)
def val13 : Vec Ideal S2x256 .f32 := Cert.MlpIRefIdeal.Gen.out0_12 (F := Ideal) (x0 m c) (x1 m c) (x2 m c) (x3 m c) (x4 m c) (x5 m c) (x6 m c) (x7 m c) (x8 m c) (x9 m c)

/-- The hidden entries of a row. -/
def hid (p : Fin 512) (n : Fin 12288) : EReal := Cert.MlpIRefIdeal.Hand.hid (x0 m c) (x1 m c) (x4 m c) (x5 m c) (x6 m c) p n

theorem inR_at (p : Fin 512) : inR m c (ix2 p 0) = x1 m c (ix2 (el p) (tok p)) := by
  unfold inR inS
  by_cases h : p.val < 256
  · rw [el_lo p h, tok_lo p h]
    exact (join_lo _ _ p 0 h).trans ((fill_k _ ⟨p.val, h⟩ 0).trans ((srow_at _ 0 _).trans (blk2 m c _ 0 _)))
  · rw [el_hi p h, tok_hi p h]
    exact (join_hi _ _ p 0 h).trans ((fill_k' _ ⟨p.val - 256, by omega⟩ 0).trans ((srow_at _ 1 _).trans (blk2 m c _ 1 _)))

/-! The tiles, their rows' scales and codes. -/

theorem hid_at (t : Fin cfg0.N) (p j : Fin 512) : k0_pay11 (F := Ideal) (iblk m c 1 t) (iblk m c 5 t) (scol (inR m c)) (iblk m c 6 t) (iblk m c 7 t) (ix2 p j) = hid m c p (colH t j) := by
  rw [hidden_k, scol_at, inR_at]
  simp only [blk1, blk5, blk6, blk7]
  rfl
theorem colH_eq (k : ℕ) (h : k < 24) (h' : k < 36) (j : Fin 512) (h'' : 512 * k + j.val < 12288) : colH (ptn k h') j = ⟨512 * k + j.val, h''⟩ :=
  Fin.ext (by show min k 23 * 512 + j.val = 512 * k + j.val; rw [Nat.min_eq_left (by omega)]; omega)
theorem gR_at (q : Fin 24) (p j : Fin 512) : gR m c (ix3 q p j) = hid m c p ⟨512 * q.val + j.val, by omega⟩ := by
  have h36 : q.val < 36 := by omega
  refine (tile_k _ _ _ _ _ p j).trans ((hid_at m c (ptn q.val h36) p j).trans (congrArg (hid m c p) (colH_eq q.val q.isLt h36 j _)))
theorem maxT_succ (k : ℕ) (h : k < 24) (p : Fin 512) (l : Fin 128) : maxT m c (k + 1) (ix2 p l)
    = max (maxT m c k (ix2 p l) : EReal) (four (hid m c p ⟨512 * k + (0 + l.val), by omega⟩) (hid m c p ⟨512 * k + (128 + l.val), by omega⟩)
        (hid m c p ⟨512 * k + (256 + l.val), by omega⟩) (hid m c p ⟨512 * k + (384 + l.val), by omega⟩)) := by
  have h36 : k < 36 := by omega
  rw [maxT, dif_pos h36, max_k]
  unfold laneT
  rw [lane_k]
  simp only [hid_at]
  rw [colH_eq k h h36 ⟨0 + l.val, by omega⟩, colH_eq k h h36 ⟨128 + l.val, by omega⟩, colH_eq k h h36 ⟨256 + l.val, by omega⟩, colH_eq k h h36 ⟨384 + l.val, by omega⟩]
theorem spR_at (p : Fin 512) (l : Fin 128) : spR m c (ix2 p l) = scaleOf (top (hid m c p)) := by
  refine (scale_k _ p l).trans (congrArg scaleOf ?_)
  exact top_lanes (hid m c p) (fun k l => maxT m c k (ix2 p l)) (fun l => zero_k p l) fun k h l => maxT_succ m c k h p l
theorem codesR_at (a : Fin 512) (n : Fin 12288) : codesR m c (ix2 a n) = code (hid m c a) n := by
  refine (codesG_at (gR m c) (spR m c) ⟨a.val / 32, by omega⟩ ⟨n.val / 512, by omega⟩ ⟨a.val % 32, by omega⟩ ⟨n.val % 512, by omega⟩ (ix2 a n)
    (by show a.val = 32 * (a.val / 32) + a.val % 32; omega) (by show n.val = 512 * (n.val / 512) + n.val % 512; omega)).trans ?_
  unfold codesT
  refine (code_k _ _ _ _).trans ?_
  have ea : (⟨32 * (a.val / 32) + a.val % 32, by omega⟩ : Fin 512) = a := Fin.ext (by show 32 * (a.val / 32) + a.val % 32 = a.val; omega)
  have en : (⟨512 * (n.val / 512) + n.val % 512, by omega⟩ : Fin 12288) = n := Fin.ext (by show 512 * (n.val / 512) + n.val % 512 = n.val; omega)
  have es : spR m c (ix2 ⟨32 * (a.val / 32) + a.val % 32, by omega⟩ 0) = scaleOf (top (hid m c a)) := by rw [ea, spR_at]
  have eg : gR m c (ix3 ⟨n.val / 512, by omega⟩ ⟨32 * (a.val / 32) + a.val % 32, by omega⟩ ⟨n.val % 512, by omega⟩) = hid m c a n := by
    rw [ea, gR_at]
    exact congrArg (hid m c a) en
  exact congrArg₂ (fun u v => Ideal.fptosi 8 (Cert.Codes.clip (Ideal.div u v))) eg es
theorem half_at (r : Fin 2) (p : Fin 256) : half (spR m c) r (ix2 p 0) = spR m c (ix2 (row r p) 0) :=
  congrArg (fun z => spR m c (ix2 z 0)) (Fin.ext (by show 256 * r.val + p.val = r.val * 256 + p.val; omega))
theorem rowsR_at (r : Fin 2) (p : Fin 256) : rowsR m c (ix2 r p) = scaleOf (top (hid m c (row r p))) := by
  unfold rowsR rowsS
  by_cases h : r.val = 1
  · obtain rfl : r = 1 := Fin.ext h
    exact (if_pos h).trans ((flip_k' (half (spR m c) 1) p).trans ((half_at m c 1 p).trans (spR_at m c (row 1 p) 0)))
  · obtain rfl : r = 0 := Fin.ext (by show r.val = 0; omega)
    exact (if_neg h).trans ((flip_k (half (spR m c) 0) p).trans ((half_at m c 0 p).trans (spR_at m c (row 0 p) 0)))
theorem outT_at (t : Fin cfg0.N) (p : Fin 512) (j : Fin 256) : outT m c t (ix2 p j) = Cert.MlpIRefIdeal.Hand.outAt (x0 m c) (x1 m c) (x2 m c) (x3 m c) (x4 m c) (x5 m c) (x6 m c) (x7 m c) (x8 m c) (x9 m c) p (colO t j) := by
  unfold outT outS
  have es : scol (spR m c) (ix2 p 0) = scaleOf (top (hid m c p)) := (scol_at _ p).trans (spR_at m c p 0)
  have eA : k0_pay40 (F := Ideal) (codesR m c) (iblk m c 8 t) (scol (spR m c)) (iblk m c 9 t) (iblk m c 10 t) (ix2 p j)
      = lin (fun k => code (hid m c p) k) (fun k => x7 m c (ix2 k (colO t j))) (scaleOf (top (hid m c p))) (x8 m c (ix1 (colO t j))) (x9 m c (ix1 (colO t j))) := by
    rw [acc_k, es]
    simp only [codesR_at, blk8, blk9, blk10]
  have eO : Cert.MlpIRefIdeal.Hand.outAt (x0 m c) (x1 m c) (x2 m c) (x3 m c) (x4 m c) (x5 m c) (x6 m c) (x7 m c) (x8 m c) (x9 m c) p (colO t j) = x2 m c (ix2 p (colO t j)) + x3 m c (ix2 (el p) ⟨15360 + (colO t j).val, by omega⟩)
      * k0_pay40 (F := Ideal) (codesR m c) (iblk m c 8 t) (scol (spR m c)) (iblk m c 9 t) (iblk m c 10 t) (ix2 p j) := by
    rw [eA]
    rfl
  rw [eO]
  by_cases h : p.val < 256
  · refine (join_lo _ _ p j h).trans ((low_k _ _ _ _ _ _ _ (⟨p.val, h⟩ : Fin 256) j).trans ?_)
    have ep : ∀ h' : 0 + (⟨p.val, h⟩ : Fin 256).val < 512, (⟨0 + (⟨p.val, h⟩ : Fin 256).val, h'⟩ : Fin 512) = p := fun h' => Fin.ext (by show 0 + p.val = p.val; omega)
    have ex : xhalf (iblk m c 3 t) 0 (ix2 (⟨p.val, h⟩ : Fin 256) j) = x2 m c (ix2 p (colO t j)) :=
      (congrArg (fun z => (iblk m c 3 t : Vec Ideal S512x256 .f32) (ix2 z j)) (Fin.ext (by show 256 * 0 + p.val = p.val; omega))).trans (blk3 m c t p j)
    have eg : srow (iblk m c 4 t) 0 (ix2 0 j) = x3 m c (ix2 (el p) ⟨15360 + (colO t j).val, by omega⟩) := by
      rw [el_lo p h]
      exact (srow_at _ 0 j).trans (blk4 m c t 0 j)
    rw [ep, ex, eg]
  · refine (join_hi _ _ p j h).trans ((high_k _ _ _ _ _ _ _ (⟨p.val - 256, by omega⟩ : Fin 256) j).trans ?_)
    have ep : ∀ h' : 256 + (⟨p.val - 256, by omega⟩ : Fin 256).val < 512, (⟨256 + (⟨p.val - 256, by omega⟩ : Fin 256).val, h'⟩ : Fin 512) = p := fun h' => Fin.ext (by show 256 + (p.val - 256) = p.val; omega)
    have ex : xhalf (iblk m c 3 t) 1 (ix2 (⟨p.val - 256, by omega⟩ : Fin 256) j) = x2 m c (ix2 p (colO t j)) :=
      (congrArg (fun z => (iblk m c 3 t : Vec Ideal S512x256 .f32) (ix2 z j)) (Fin.ext (by show 256 + (p.val - 256) = p.val; omega))).trans (blk3 m c t p j)
    have eg : srow (iblk m c 4 t) 1 (ix2 0 j) = x3 m c (ix2 (el p) ⟨15360 + (colO t j).val, by omega⟩) := by
      rw [el_hi p h]
      exact (srow_at _ 1 j).trans (blk4 m c t 1 j)
    rw [ep, ex, eg]

/-- Every array after the run. -/
theorem finals {r} (h : RDat.FramePost (cfgs 0) (rdat m) (V m) r) :
    r.2.mem ((c.tc : Thread nD τ).loc main_v4_0) = val11 m c
      ∧ r.2.mem ((c.tc : Thread nD τ).loc main_v4_1) = val12 m c
      ∧ r.2.mem ((c.tc : Thread nD τ).loc main_v4_2) = val13 m c := by
  obtain ⟨after, hL, hA⟩ := RDat.FramePost.exists_exact h c
  refine ⟨(hA 11).trans ?_, (hA 12).trans ?_, (hA 13).trans ?_⟩
  · refine ((rdat m c).withAfter after).arrAt_eq_of_covers 11 (val11 m c) (by decide +kernel) fun t hf y => ?_
    obtain ⟨_, _, e⟩ := hL 11 t hf
    have e' : 24 ≤ t.val → after 11 t = outT m c t := e
    rw [RDat.withAfter_after, e' (flush11 t hf)]
    blk_simp
    obtain ⟨a, n, rfl⟩ : ∃ (a : Fin 512) (n : Fin 256), y = ix2 a n := ⟨_, _, eq_ix2 y⟩
    refine ((outT_at m c t a n).trans (Cert.MlpIRefIdeal.Hand.out10_at (x0 m c) (x1 m c) (x2 m c) (x3 m c) (x4 m c) (x5 m c) (x6 m c) (x7 m c) (x8 m c) (x9 m c) a (colO t n)).symm).trans (congrArg (val11 m c) ?_)
    blk_ext [wx11]
    rfl
  · refine ((rdat m c).withAfter after).arrAt_eq_of_covers 12 (val12 m c) (by decide +kernel) fun t hf y => ?_
    obtain ⟨_, _, e⟩ := hL 12 t hf
    have e' : 24 ≤ t.val → after 12 t = codesR m c := e
    rw [RDat.withAfter_after, e' (flush12 t hf)]
    blk_simp
    obtain ⟨a, n, rfl⟩ : ∃ (a : Fin 512) (n : Fin 12288), y = ix2 a n := ⟨_, _, eq_ix2 y⟩
    refine ((codesR_at m c a n).trans (Cert.MlpIRefIdeal.Hand.out11_at (x0 m c) (x1 m c) (x2 m c) (x3 m c) (x4 m c) (x5 m c) (x6 m c) (x7 m c) (x8 m c) (x9 m c) a n).symm).trans (congrArg (val12 m c) ?_)
    blk_ext [wx12]
  · refine ((rdat m c).withAfter after).arrAt_eq_of_covers 13 (val13 m c) (by decide +kernel) fun t hf y => ?_
    obtain ⟨_, _, e⟩ := hL 13 t hf
    have e' : 24 ≤ t.val → after 13 t = rowsR m c := e
    rw [RDat.withAfter_after, e' (flush13 t hf)]
    blk_simp
    obtain ⟨a, n, rfl⟩ : ∃ (a : Fin 2) (n : Fin 256), y = ix2 a n := ⟨_, _, eq_ix2 y⟩
    refine ((rowsR_at m c a n).trans (Cert.MlpIRefIdeal.Hand.out12_at (x0 m c) (x1 m c) (x2 m c) (x3 m c) (x4 m c) (x5 m c) (x6 m c) (x7 m c) (x8 m c) (x9 m c) a n).symm).trans (congrArg (val13 m c) ?_)
    blk_ext [wx13]

set_option quotPrecheck false in
/-- An argument is left as found. -/
local notation "kept(" r ", " m ", " c ", " a ")" => (r).2.mem (((c).tc : Thread nD τ).loc a) = m (((c).tc : Thread nD τ).loc a)

theorem run : θ_run defs (onTc (τ := τ) (main (F := Ideal))) ⟨m, fun _ => 0, ρ⟩ fun r => ∀ c : Dev nD,
      r.2.mem ((c.tc : Thread nD τ).loc main_v4_0) = val11 m c
      ∧ r.2.mem ((c.tc : Thread nD τ).loc main_v4_1) = val12 m c
      ∧ r.2.mem ((c.tc : Thread nD τ).loc main_v4_2) = val13 m c
      ∧ kept(r, m, c, main_arg0)
      ∧ kept(r, m, c, main_arg1)
      ∧ kept(r, m, c, main_arg2)
      ∧ kept(r, m, c, main_arg3)
      ∧ kept(r, m, c, main_arg4)
      ∧ kept(r, m, c, main_arg5)
      ∧ kept(r, m, c, main_arg6)
      ∧ kept(r, m, c, main_arg7)
      ∧ kept(r, m, c, main_arg8)
      ∧ kept(r, m, c, main_arg9)
      ∧ kept(r, m, c, main_arg10) :=
  (θ_run defs _ _).mono (fun _ h c => ⟨(finals m c h.1).1, (finals m c h.1).2.1, (finals m c h.1).2.2, args_of m h.1 c⟩) (run_main_quiescent m ρ)

end Cert.MlpIIdeal.Hand

namespace Cert.MlpIPay
open Idealize.ShloMosaic Idealize.ShloMosaic.TcCoe Idealize.SL.Sem

/-- The kernel and the reference end with the same three results. -/
theorem algebraic [hK : Cert.MlpIIdeal.Facts] [hR : Cert.MlpIRefIdeal.Facts] : Cert.algebraic_MlpIIdeal_MlpIRefIdeal := by
  intro m g m' g' _ hag
  refine ⟨fun c => Cert.MlpIIdeal.Hand.val11 m c, fun c => Cert.MlpIIdeal.Hand.val12 m c, fun c => Cert.MlpIIdeal.Hand.val13 m c, ?_, ?_⟩
  · exact Cert.MlpIIdeal.Hand.run m g
  · refine (θ_run _ _ _).mono (fun r h c => ?_) (Cert.MlpIRefIdeal.Hand.run m' g')
    obtain ⟨-, h0, h1, h2, h3, h4, h5, h6, h7, h8, h9⟩ := hag c
    have g0 : Cert.MlpIRefIdeal.Hand.a0 m' c = Cert.MlpIIdeal.Hand.x0 m c := h0
    have g1 : Cert.MlpIRefIdeal.Hand.a1 m' c = Cert.MlpIIdeal.Hand.x1 m c := h1
    have g2 : Cert.MlpIRefIdeal.Hand.a2 m' c = Cert.MlpIIdeal.Hand.x2 m c := h2
    have g3 : Cert.MlpIRefIdeal.Hand.a3 m' c = Cert.MlpIIdeal.Hand.x3 m c := h3
    have g4 : Cert.MlpIRefIdeal.Hand.a4 m' c = Cert.MlpIIdeal.Hand.x4 m c := h4
    have g5 : Cert.MlpIRefIdeal.Hand.a5 m' c = Cert.MlpIIdeal.Hand.x5 m c := h5
    have g6 : Cert.MlpIRefIdeal.Hand.a6 m' c = Cert.MlpIIdeal.Hand.x6 m c := h6
    have g7 : Cert.MlpIRefIdeal.Hand.a7 m' c = Cert.MlpIIdeal.Hand.x7 m c := h7
    have g8 : Cert.MlpIRefIdeal.Hand.a8 m' c = Cert.MlpIIdeal.Hand.x8 m c := h8
    have g9 : Cert.MlpIRefIdeal.Hand.a9 m' c = Cert.MlpIIdeal.Hand.x9 m c := h9
    refine ⟨(h c).1.trans ?_, (h c).2.1.trans ?_, (h c).2.2.1.trans ?_, (h c).2.2.2⟩
    · show Cert.MlpIRefIdeal.Gen.out0_10 _ _ _ _ _ _ _ _ _ _ = Cert.MlpIRefIdeal.Gen.out0_10 _ _ _ _ _ _ _ _ _ _
      rw [g0, g1, g2, g3, g4, g5, g6, g7, g8, g9]
    · show Cert.MlpIRefIdeal.Gen.out0_11 _ _ _ _ _ _ _ _ _ _ = Cert.MlpIRefIdeal.Gen.out0_11 _ _ _ _ _ _ _ _ _ _
      rw [g0, g1, g2, g3, g4, g5, g6, g7, g8, g9]
    · show Cert.MlpIRefIdeal.Gen.out0_12 _ _ _ _ _ _ _ _ _ _ = Cert.MlpIRefIdeal.Gen.out0_12 _ _ _ _ _ _ _ _ _ _
      rw [g0, g1, g2, g3, g4, g5, g6, g7, g8, g9]

end Cert.MlpIPay

end
-- ==== Proof.lean ====
module

public import proofs.«01_k».proof.Defs
public import proofs.«01_k».proof.Proof.Gen.Mod
public import proofs.«01_k».proof.Proof.ModBitsFrame
public import proofs.«01_k».proof.Proof.Gen.ModIdeal
public import proofs.«01_k».proof.Proof.Gen.ModRefIdeal
public import proofs.«01_k».proof.Proof.ModValue
public import proofs.«01_k».proof.Proof.Gen.QkvT
public import proofs.«01_k».proof.Proof.QkvTBitsFrame
public import proofs.«01_k».proof.Proof.Gen.QkvTIdeal
public import proofs.«01_k».proof.Proof.Gen.QkvTRefIdeal
public import proofs.«01_k».proof.Proof.QkvTValue
public import proofs.«01_k».proof.Proof.Gen.QkvI
public import proofs.«01_k».proof.Proof.QkvIBitsFrame
public import proofs.«01_k».proof.Proof.Gen.QkvIIdeal
public import proofs.«01_k».proof.Proof.Gen.QkvIRefIdeal
public import proofs.«01_k».proof.Proof.QkvIValue
public import proofs.«01_k».proof.Proof.Gen.ProjT
public import proofs.«01_k».proof.Proof.ProjTBitsFrame
public import proofs.«01_k».proof.Proof.Gen.ProjTIdeal
public import proofs.«01_k».proof.Proof.Gen.ProjTRefIdeal
public import proofs.«01_k».proof.Proof.ProjTValue
public import proofs.«01_k».proof.Proof.Gen.ProjI
public import proofs.«01_k».proof.Proof.ProjIBitsFrame
public import proofs.«01_k».proof.Proof.Gen.ProjIIdeal
public import proofs.«01_k».proof.Proof.Gen.ProjIRefIdeal
public import proofs.«01_k».proof.Proof.ProjIValue
public import proofs.«01_k».proof.Proof.Gen.MlpI
public import proofs.«01_k».proof.Proof.MlpIBitsFrame
public import proofs.«01_k».proof.Proof.Gen.MlpIIdeal
public import proofs.«01_k».proof.Proof.Gen.MlpIRefIdeal
public import proofs.«01_k».proof.Proof.MlpIValue
public import Idealize.ShloMosaic.Adequacy
public import Idealize.ShloMosaic.Init

@[expose] public section

noncomputable section

namespace Cert.Proof

open Idealize.ShloMosaic Idealize.SL.Sem

theorem claim : Cert.Claim :=
  ⟨Cert.Mod.Gen.facts, Cert.ModIdeal.Gen.facts, Cert.ModRefIdeal.Gen.facts,
    Cert.QkvT.Gen.facts, Cert.QkvTIdeal.Gen.facts, Cert.QkvTRefIdeal.Gen.facts,
    Cert.QkvI.Gen.facts, Cert.QkvIIdeal.Gen.facts, Cert.QkvIRefIdeal.Gen.facts,
    Cert.ProjT.Gen.facts, Cert.ProjTIdeal.Gen.facts, Cert.ProjTRefIdeal.Gen.facts,
    Cert.ProjI.Gen.facts, Cert.ProjIIdeal.Gen.facts, Cert.ProjIRefIdeal.Gen.facts,
    Cert.MlpI.Gen.facts, Cert.MlpIIdeal.Gen.facts, Cert.MlpIRefIdeal.Gen.facts,
    fun m g _ => Cert.Mod.Hand.frame m g, fun m g _ => Cert.ModIdeal.Hand.frame m g, fun m g _ => Cert.ModRefIdeal.Gen.frame m g,
    fun m g _ => Cert.QkvT.Hand.frame m g, fun m g _ => Cert.QkvTIdeal.Hand.frame m g, fun m g _ => Cert.QkvTRefIdeal.Gen.frame m g,
    fun m g _ => Cert.QkvI.Hand.frame m g, fun m g _ => Cert.QkvIIdeal.Hand.frame m g, fun m g _ => Cert.QkvIRefIdeal.Gen.frame m g,
    fun m g _ => Cert.ProjT.Hand.frame m g, fun m g _ => Cert.ProjTIdeal.Hand.frame m g, fun m g _ => Cert.ProjTRefIdeal.Gen.frame m g,
    fun m g _ => Cert.ProjI.Hand.frame m g, fun m g _ => Cert.ProjIIdeal.Hand.frame m g, fun m g _ => Cert.ProjIRefIdeal.Gen.frame m g,
    fun m g _ => Cert.MlpI.Hand.frame m g, fun m g _ => Cert.MlpIIdeal.Hand.frame m g, fun m g _ => Cert.MlpIRefIdeal.Gen.frame m g,
    trivial, Cert.ModPay.algebraic (hK := Cert.ModIdeal.Gen.facts) (hR := Cert.ModRefIdeal.Gen.facts),
    trivial, Cert.QkvTPay.algebraic (hK := Cert.QkvTIdeal.Gen.facts) (hR := Cert.QkvTRefIdeal.Gen.facts),
    trivial, Cert.QkvIPay.algebraic (hK := Cert.QkvIIdeal.Gen.facts) (hR := Cert.QkvIRefIdeal.Gen.facts),
    trivial, Cert.ProjTPay.algebraic (hK := Cert.ProjTIdeal.Gen.facts) (hR := Cert.ProjTRefIdeal.Gen.facts),
    trivial, Cert.ProjIPay.algebraic (hK := Cert.ProjIIdeal.Gen.facts) (hR := Cert.ProjIRefIdeal.Gen.facts),
    trivial, Cert.MlpIPay.algebraic (hK := Cert.MlpIIdeal.Gen.facts) (hR := Cert.MlpIRefIdeal.Gen.facts)⟩

end Cert.Proof

end
